-- ==== Defs.lean ====
def Pre_Kernel [hPre_rows_named : Cert.Pre_rows_named.Facts] (m : (ℓ : Loc Cert.Kernel.nD Cert.Kernel.τ Cert.Kernel.sig) → Buf (Elt Bits) ℓ) : Prop :=
  ∀ c : Dev Cert.Kernel.nD,
    (Cert.Pre_rows_named.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_named : Cert.Pre_rows_named.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_rows_named : Cert.Pre_rows_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_named : Cert.Pre_rows_named.Facts] (m : (ℓ : Loc Cert.Reference.nD Cert.Reference.τ Cert.Reference.sig) → Buf (Elt Bits) ℓ) : Prop :=
  ∀ c : Dev Cert.Reference.nD,
    (Cert.Pre_rows_named.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Served [hPre_slots_named : Cert.Pre_slots_named.Facts] (m : (ℓ : Loc Cert.Served.nD Cert.Served.τ Cert.Served.sig) → Buf (Elt Bits) ℓ) : Prop :=
  ∀ c : Dev Cert.Served.nD,
    (Cert.Pre_slots_named.fn (F := Bits) (m ((c.tc : Thread Cert.Served.nD Cert.Served.τ).loc Cert.Served.main_arg0)) (m ((c.tc : Thread Cert.Served.nD Cert.Served.τ).loc Cert.Served.main_arg1)) (m ((c.tc : Thread Cert.Served.nD Cert.Served.τ).loc Cert.Served.main_arg2)) (m ((c.tc : Thread Cert.Served.nD Cert.Served.τ).loc Cert.Served.main_arg3)) (m ((c.tc : Thread Cert.Served.nD Cert.Served.τ).loc Cert.Served.main_arg4)) (m ((c.tc : Thread Cert.Served.nD Cert.Served.τ).loc Cert.Served.main_arg5)) (m ((c.tc : Thread Cert.Served.nD Cert.Served.τ).loc Cert.Served.main_arg6)) (m ((c.tc : Thread Cert.Served.nD Cert.Served.τ).loc Cert.Served.main_arg7))) = (fun _ => 1#1)

def Pre_ServedIdeal [hPre_slots_named : Cert.Pre_slots_named.Facts] (m : (ℓ : Loc Cert.ServedIdeal.nD Cert.ServedIdeal.τ Cert.ServedIdeal.sig) → Buf (Elt Ideal) ℓ) : Prop :=
  ∀ c : Dev Cert.ServedIdeal.nD,
    (Cert.Pre_slots_named.fn (F := Ideal) (m ((c.tc : Thread Cert.ServedIdeal.nD Cert.ServedIdeal.τ).loc Cert.ServedIdeal.main_arg0)) (m ((c.tc : Thread Cert.ServedIdeal.nD Cert.ServedIdeal.τ).loc Cert.ServedIdeal.main_arg1)) (m ((c.tc : Thread Cert.ServedIdeal.nD Cert.ServedIdeal.τ).loc Cert.ServedIdeal.main_arg2)) (m ((c.tc : Thread Cert.ServedIdeal.nD Cert.ServedIdeal.τ).loc Cert.ServedIdeal.main_arg3)) (m ((c.tc : Thread Cert.ServedIdeal.nD Cert.ServedIdeal.τ).loc Cert.ServedIdeal.main_arg4)) (m ((c.tc : Thread Cert.ServedIdeal.nD Cert.ServedIdeal.τ).loc Cert.ServedIdeal.main_arg5)) (m ((c.tc : Thread Cert.ServedIdeal.nD Cert.ServedIdeal.τ).loc Cert.ServedIdeal.main_arg6)) (m ((c.tc : Thread Cert.ServedIdeal.nD Cert.ServedIdeal.τ).loc Cert.ServedIdeal.main_arg7))) = (fun _ => 1#1)

def Pre_TilesIdeal [hPre_slots_named : Cert.Pre_slots_named.Facts] (m : (ℓ : Loc Cert.TilesIdeal.nD Cert.TilesIdeal.τ Cert.TilesIdeal.sig) → Buf (Elt Ideal) ℓ) : Prop :=
  ∀ c : Dev Cert.TilesIdeal.nD,
    (Cert.Pre_slots_named.fn (F := Ideal) (m ((c.tc : Thread Cert.TilesIdeal.nD Cert.TilesIdeal.τ).loc Cert.TilesIdeal.main_arg0)) (m ((c.tc : Thread Cert.TilesIdeal.nD Cert.TilesIdeal.τ).loc Cert.TilesIdeal.main_arg1)) (m ((c.tc : Thread Cert.TilesIdeal.nD Cert.TilesIdeal.τ).loc Cert.TilesIdeal.main_arg2)) (m ((c.tc : Thread Cert.TilesIdeal.nD Cert.TilesIdeal.τ).loc Cert.TilesIdeal.main_arg3)) (m ((c.tc : Thread Cert.TilesIdeal.nD Cert.TilesIdeal.τ).loc Cert.TilesIdeal.main_arg4)) (m ((c.tc : Thread Cert.TilesIdeal.nD Cert.TilesIdeal.τ).loc Cert.TilesIdeal.main_arg5)) (m ((c.tc : Thread Cert.TilesIdeal.nD Cert.TilesIdeal.τ).loc Cert.TilesIdeal.main_arg6)) (m ((c.tc : Thread Cert.TilesIdeal.nD Cert.TilesIdeal.τ).loc Cert.TilesIdeal.main_arg7))) = (fun _ => 1#1)

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatesIdeal (m : (ℓ : Loc Cert.GatesIdeal.nD Cert.GatesIdeal.τ Cert.GatesIdeal.sig) → Buf (Elt Ideal) ℓ) : Prop :=
  True

def Pre_Routed (m : (ℓ : Loc Cert.Routed.nD Cert.Routed.τ Cert.Routed.sig) → Buf (Elt Bits) ℓ) : Prop :=
  True

def Pre_RoutedIdeal (m : (ℓ : Loc Cert.RoutedIdeal.nD Cert.RoutedIdeal.τ Cert.RoutedIdeal.sig) → Buf (Elt Ideal) ℓ) : Prop :=
  True

def Pre_SlotsIdeal (m : (ℓ : Loc Cert.SlotsIdeal.nD Cert.SlotsIdeal.τ Cert.SlotsIdeal.sig) → Buf (Elt Ideal) ℓ) : Prop :=
  True

def Pre_SentIdeal [hPre_experts_named : Cert.Pre_experts_named.Facts] (m : (ℓ : Loc Cert.SentIdeal.nD Cert.SentIdeal.τ Cert.SentIdeal.sig) → Buf (Elt Ideal) ℓ) : Prop :=
  ∀ c : Dev Cert.SentIdeal.nD,
    (Cert.Pre_experts_named.fn (F := Ideal) (m ((c.tc : Thread Cert.SentIdeal.nD Cert.SentIdeal.τ).loc Cert.SentIdeal.main_arg0)) (m ((c.tc : Thread Cert.SentIdeal.nD Cert.SentIdeal.τ).loc Cert.SentIdeal.main_arg1)) (m ((c.tc : Thread Cert.SentIdeal.nD Cert.SentIdeal.τ).loc Cert.SentIdeal.main_arg2))) = (fun _ => 1#1)

def quiescent_Kernel [hKernel : Cert.Kernel.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_rows_named : Cert.Pre_rows_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_named : Cert.Pre_rows_named.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Served [hServed : Cert.Served.Facts] [hPre_slots_named : Cert.Pre_slots_named.Facts] : Prop :=
  ∀ (m : (ℓ : Loc Cert.Served.nD Cert.Served.τ Cert.Served.sig) → Buf (Elt Bits) ℓ) (g : Dev Cert.Served.nD → PrngReg), Pre_Served m →
    θ_run (Cert.Served.defs (F := Bits)) (Cert.Served.threads (F := Bits)) ⟨m, fun _ => 0, g⟩ (fun r => (∀ c : Dev Cert.Served.nD,
      r.2.mem ((c.tc : Thread Cert.Served.nD Cert.Served.τ).loc Cert.Served.main_arg0) = m ((c.tc : Thread Cert.Served.nD Cert.Served.τ).loc Cert.Served.main_arg0)
      ∧ r.2.mem ((c.tc : Thread Cert.Served.nD Cert.Served.τ).loc Cert.Served.main_arg1) = m ((c.tc : Thread Cert.Served.nD Cert.Served.τ).loc Cert.Served.main_arg1)
      ∧ r.2.mem ((c.tc : Thread Cert.Served.nD Cert.Served.τ).loc Cert.Served.main_arg2) = m ((c.tc : Thread Cert.Served.nD Cert.Served.τ).loc Cert.Served.main_arg2)
      ∧ r.2.mem ((c.tc : Thread Cert.Served.nD Cert.Served.τ).loc Cert.Served.main_arg3) = m ((c.tc : Thread Cert.Served.nD Cert.Served.τ).loc Cert.Served.main_arg3)
      ∧ r.2.mem ((c.tc : Thread Cert.Served.nD Cert.Served.τ).loc Cert.Served.main_arg4) = m ((c.tc : Thread Cert.Served.nD Cert.Served.τ).loc Cert.Served.main_arg4)
      ∧ r.2.mem ((c.tc : Thread Cert.Served.nD Cert.Served.τ).loc Cert.Served.main_arg5) = m ((c.tc : Thread Cert.Served.nD Cert.Served.τ).loc Cert.Served.main_arg5)
      ∧ r.2.mem ((c.tc : Thread Cert.Served.nD Cert.Served.τ).loc Cert.Served.main_arg6) = m ((c.tc : Thread Cert.Served.nD Cert.Served.τ).loc Cert.Served.main_arg6)
      ∧ r.2.mem ((c.tc : Thread Cert.Served.nD Cert.Served.τ).loc Cert.Served.main_arg7) = m ((c.tc : Thread Cert.Served.nD Cert.Served.τ).loc Cert.Served.main_arg7))
      ∧ r.2.sem = fun _ => 0)

def quiescent_ServedIdeal [hServedIdeal : Cert.ServedIdeal.Facts] [hPre_slots_named : Cert.Pre_slots_named.Facts] : Prop :=
  ∀ (m : (ℓ : Loc Cert.ServedIdeal.nD Cert.ServedIdeal.τ Cert.ServedIdeal.sig) → Buf (Elt Ideal) ℓ) (g : Dev Cert.ServedIdeal.nD → PrngReg), Pre_ServedIdeal m →
    θ_run (Cert.ServedIdeal.defs (F := Ideal)) (Cert.ServedIdeal.threads (F := Ideal)) ⟨m, fun _ => 0, g⟩ (fun r => (∀ c : Dev Cert.ServedIdeal.nD,
      r.2.mem ((c.tc : Thread Cert.ServedIdeal.nD Cert.ServedIdeal.τ).loc Cert.ServedIdeal.main_arg0) = m ((c.tc : Thread Cert.ServedIdeal.nD Cert.ServedIdeal.τ).loc Cert.ServedIdeal.main_arg0)
      ∧ r.2.mem ((c.tc : Thread Cert.ServedIdeal.nD Cert.ServedIdeal.τ).loc Cert.ServedIdeal.main_arg1) = m ((c.tc : Thread Cert.ServedIdeal.nD Cert.ServedIdeal.τ).loc Cert.ServedIdeal.main_arg1)
      ∧ r.2.mem ((c.tc : Thread Cert.ServedIdeal.nD Cert.ServedIdeal.τ).loc Cert.ServedIdeal.main_arg2) = m ((c.tc : Thread Cert.ServedIdeal.nD Cert.ServedIdeal.τ).loc Cert.ServedIdeal.main_arg2)
      ∧ r.2.mem ((c.tc : Thread Cert.ServedIdeal.nD Cert.ServedIdeal.τ).loc Cert.ServedIdeal.main_arg3) = m ((c.tc : Thread Cert.ServedIdeal.nD Cert.ServedIdeal.τ).loc Cert.ServedIdeal.main_arg3)
      ∧ r.2.mem ((c.tc : Thread Cert.ServedIdeal.nD Cert.ServedIdeal.τ).loc Cert.ServedIdeal.main_arg4) = m ((c.tc : Thread Cert.ServedIdeal.nD Cert.ServedIdeal.τ).loc Cert.ServedIdeal.main_arg4)
      ∧ r.2.mem ((c.tc : Thread Cert.ServedIdeal.nD Cert.ServedIdeal.τ).loc Cert.ServedIdeal.main_arg5) = m ((c.tc : Thread Cert.ServedIdeal.nD Cert.ServedIdeal.τ).loc Cert.ServedIdeal.main_arg5)
      ∧ r.2.mem ((c.tc : Thread Cert.ServedIdeal.nD Cert.ServedIdeal.τ).loc Cert.ServedIdeal.main_arg6) = m ((c.tc : Thread Cert.ServedIdeal.nD Cert.ServedIdeal.τ).loc Cert.ServedIdeal.main_arg6)
      ∧ r.2.mem ((c.tc : Thread Cert.ServedIdeal.nD Cert.ServedIdeal.τ).loc Cert.ServedIdeal.main_arg7) = m ((c.tc : Thread Cert.ServedIdeal.nD Cert.ServedIdeal.τ).loc Cert.ServedIdeal.main_arg7))
      ∧ r.2.sem = fun _ => 0)

def quiescent_TilesIdeal [hTilesIdeal : Cert.TilesIdeal.Facts] [hPre_slots_named : Cert.Pre_slots_named.Facts] : Prop :=
  ∀ (m : (ℓ : Loc Cert.TilesIdeal.nD Cert.TilesIdeal.τ Cert.TilesIdeal.sig) → Buf (Elt Ideal) ℓ) (g : Dev Cert.TilesIdeal.nD → PrngReg), Pre_TilesIdeal m →
    θ_run (Cert.TilesIdeal.defs (F := Ideal)) (onTc (τ := Cert.TilesIdeal.τ) (Cert.TilesIdeal.main (F := Ideal))) ⟨m, fun _ => 0, g⟩ (fun r => (∀ c : Dev Cert.TilesIdeal.nD,
      r.2.mem ((c.tc : Thread Cert.TilesIdeal.nD Cert.TilesIdeal.τ).loc Cert.TilesIdeal.main_arg0) = m ((c.tc : Thread Cert.TilesIdeal.nD Cert.TilesIdeal.τ).loc Cert.TilesIdeal.main_arg0)
      ∧ r.2.mem ((c.tc : Thread Cert.TilesIdeal.nD Cert.TilesIdeal.τ).loc Cert.TilesIdeal.main_arg1) = m ((c.tc : Thread Cert.TilesIdeal.nD Cert.TilesIdeal.τ).loc Cert.TilesIdeal.main_arg1)
      ∧ r.2.mem ((c.tc : Thread Cert.TilesIdeal.nD Cert.TilesIdeal.τ).loc Cert.TilesIdeal.main_arg2) = m ((c.tc : Thread Cert.TilesIdeal.nD Cert.TilesIdeal.τ).loc Cert.TilesIdeal.main_arg2)
      ∧ r.2.mem ((c.tc : Thread Cert.TilesIdeal.nD Cert.TilesIdeal.τ).loc Cert.TilesIdeal.main_arg3) = m ((c.tc : Thread Cert.TilesIdeal.nD Cert.TilesIdeal.τ).loc Cert.TilesIdeal.main_arg3)
      ∧ r.2.mem ((c.tc : Thread Cert.TilesIdeal.nD Cert.TilesIdeal.τ).loc Cert.TilesIdeal.main_arg4) = m ((c.tc : Thread Cert.TilesIdeal.nD Cert.TilesIdeal.τ).loc Cert.TilesIdeal.main_arg4)
      ∧ r.2.mem ((c.tc : Thread Cert.TilesIdeal.nD Cert.TilesIdeal.τ).loc Cert.TilesIdeal.main_arg5) = m ((c.tc : Thread Cert.TilesIdeal.nD Cert.TilesIdeal.τ).loc Cert.TilesIdeal.main_arg5)
      ∧ r.2.mem ((c.tc : Thread Cert.TilesIdeal.nD Cert.TilesIdeal.τ).loc Cert.TilesIdeal.main_arg6) = m ((c.tc : Thread Cert.TilesIdeal.nD Cert.TilesIdeal.τ).loc Cert.TilesIdeal.main_arg6)
      ∧ r.2.mem ((c.tc : Thread Cert.TilesIdeal.nD Cert.TilesIdeal.τ).loc Cert.TilesIdeal.main_arg7) = m ((c.tc : Thread Cert.TilesIdeal.nD Cert.TilesIdeal.τ).loc Cert.TilesIdeal.main_arg7))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3)
      ∧ r.2.mem ((c.tc : Thread Cert.Gated.nD Cert.Gated.τ).loc Cert.Gated.main_arg4) = m ((c.tc : Thread Cert.Gated.nD Cert.Gated.τ).loc Cert.Gated.main_arg4)
      ∧ r.2.mem ((c.tc : Thread Cert.Gated.nD Cert.Gated.τ).loc Cert.Gated.main_arg5) = m ((c.tc : Thread Cert.Gated.nD Cert.Gated.τ).loc Cert.Gated.main_arg5)
      ∧ r.2.mem ((c.tc : Thread Cert.Gated.nD Cert.Gated.τ).loc Cert.Gated.main_arg6) = m ((c.tc : Thread Cert.Gated.nD Cert.Gated.τ).loc Cert.Gated.main_arg6)
      ∧ r.2.mem ((c.tc : Thread Cert.Gated.nD Cert.Gated.τ).loc Cert.Gated.main_arg7) = m ((c.tc : Thread Cert.Gated.nD Cert.Gated.τ).loc Cert.Gated.main_arg7)
      ∧ r.2.mem ((c.tc : Thread Cert.Gated.nD Cert.Gated.τ).loc Cert.Gated.main_arg8) = m ((c.tc : Thread Cert.Gated.nD Cert.Gated.τ).loc Cert.Gated.main_arg8)
      ∧ r.2.mem ((c.tc : Thread Cert.Gated.nD Cert.Gated.τ).loc Cert.Gated.main_arg9) = m ((c.tc : Thread Cert.Gated.nD Cert.Gated.τ).loc Cert.Gated.main_arg9))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
      ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4)
      ∧ r.2.mem ((c.tc : Thread Cert.GatedIdeal.nD Cert.GatedIdeal.τ).loc Cert.GatedIdeal.main_arg5) = m ((c.tc : Thread Cert.GatedIdeal.nD Cert.GatedIdeal.τ).loc Cert.GatedIdeal.main_arg5)
      ∧ r.2.mem ((c.tc : Thread Cert.GatedIdeal.nD Cert.GatedIdeal.τ).loc Cert.GatedIdeal.main_arg6) = m ((c.tc : Thread Cert.GatedIdeal.nD Cert.GatedIdeal.τ).loc Cert.GatedIdeal.main_arg6)
      ∧ r.2.mem ((c.tc : Thread Cert.GatedIdeal.nD Cert.GatedIdeal.τ).loc Cert.GatedIdeal.main_arg7) = m ((c.tc : Thread Cert.GatedIdeal.nD Cert.GatedIdeal.τ).loc Cert.GatedIdeal.main_arg7)
      ∧ r.2.mem ((c.tc : Thread Cert.GatedIdeal.nD Cert.GatedIdeal.τ).loc Cert.GatedIdeal.main_arg8) = m ((c.tc : Thread Cert.GatedIdeal.nD Cert.GatedIdeal.τ).loc Cert.GatedIdeal.main_arg8)
      ∧ r.2.mem ((c.tc : Thread Cert.GatedIdeal.nD Cert.GatedIdeal.τ).loc Cert.GatedIdeal.main_arg9) = m ((c.tc : Thread Cert.GatedIdeal.nD Cert.GatedIdeal.τ).loc Cert.GatedIdeal.main_arg9))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
      ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7)
      ∧ r.2.mem ((c.tc : Thread Cert.GatesIdeal.nD Cert.GatesIdeal.τ).loc Cert.GatesIdeal.main_arg8) = m ((c.tc : Thread Cert.GatesIdeal.nD Cert.GatesIdeal.τ).loc Cert.GatesIdeal.main_arg8)
      ∧ r.2.mem ((c.tc : Thread Cert.GatesIdeal.nD Cert.GatesIdeal.τ).loc Cert.GatesIdeal.main_arg9) = m ((c.tc : Thread Cert.GatesIdeal.nD Cert.GatesIdeal.τ).loc Cert.GatesIdeal.main_arg9))
      ∧ r.2.sem = fun _ => 0)

def quiescent_Routed [hRouted : Cert.Routed.Facts] : Prop :=
  ∀ (m : (ℓ : Loc Cert.Routed.nD Cert.Routed.τ Cert.Routed.sig) → Buf (Elt Bits) ℓ) (g : Dev Cert.Routed.nD → PrngReg), Pre_Routed m →
    θ_run (Cert.Routed.defs (F := Bits)) (onTc (τ := Cert.Routed.τ) (Cert.Routed.main (F := Bits))) ⟨m, fun _ => 0, g⟩ (fun r => (∀ c : Dev Cert.Routed.nD,
      r.2.mem ((c.tc : Thread Cert.Routed.nD Cert.Routed.τ).loc Cert.Routed.main_arg0) = m ((c.tc : Thread Cert.Routed.nD Cert.Routed.τ).loc Cert.Routed.main_arg0))
      ∧ r.2.sem = fun _ => 0)

def quiescent_RoutedIdeal [hRoutedIdeal : Cert.RoutedIdeal.Facts] : Prop :=
  ∀ (m : (ℓ : Loc Cert.RoutedIdeal.nD Cert.RoutedIdeal.τ Cert.RoutedIdeal.sig) → Buf (Elt Ideal) ℓ) (g : Dev Cert.RoutedIdeal.nD → PrngReg), Pre_RoutedIdeal m →
    θ_run (Cert.RoutedIdeal.defs (F := Ideal)) (onTc (τ := Cert.RoutedIdeal.τ) (Cert.RoutedIdeal.main (F := Ideal))) ⟨m, fun _ => 0, g⟩ (fun r => (∀ c : Dev Cert.RoutedIdeal.nD,
      r.2.mem ((c.tc : Thread Cert.RoutedIdeal.nD Cert.RoutedIdeal.τ).loc Cert.RoutedIdeal.main_arg0) = m ((c.tc : Thread Cert.RoutedIdeal.nD Cert.RoutedIdeal.τ).loc Cert.RoutedIdeal.main_arg0))
      ∧ r.2.sem = fun _ => 0)

def quiescent_SlotsIdeal [hSlotsIdeal : Cert.SlotsIdeal.Facts] : Prop :=
  ∀ (m : (ℓ : Loc Cert.SlotsIdeal.nD Cert.SlotsIdeal.τ Cert.SlotsIdeal.sig) → Buf (Elt Ideal) ℓ) (g : Dev Cert.SlotsIdeal.nD → PrngReg), Pre_SlotsIdeal m →
    θ_run (Cert.SlotsIdeal.defs (F := Ideal)) (onTc (τ := Cert.SlotsIdeal.τ) (Cert.SlotsIdeal.main (F := Ideal))) ⟨m, fun _ => 0, g⟩ (fun r => (∀ c : Dev Cert.SlotsIdeal.nD,
      r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ r.2.sem = fun _ => 0)

def quiescent_SentIdeal [hSentIdeal : Cert.SentIdeal.Facts] [hPre_experts_named : Cert.Pre_experts_named.Facts] : Prop :=
  ∀ (m : (ℓ : Loc Cert.SentIdeal.nD Cert.SentIdeal.τ Cert.SentIdeal.sig) → Buf (Elt Ideal) ℓ) (g : Dev Cert.SentIdeal.nD → PrngReg), Pre_SentIdeal m →
    θ_run (Cert.SentIdeal.defs (F := Ideal)) (Cert.SentIdeal.threads (F := Ideal)) ⟨m, fun _ => 0, g⟩ (fun r => (∀ c : Dev Cert.SentIdeal.nD,
      r.2.mem ((c.tc : Thread Cert.SentIdeal.nD Cert.SentIdeal.τ).loc Cert.SentIdeal.main_arg0) = m ((c.tc : Thread Cert.SentIdeal.nD Cert.SentIdeal.τ).loc Cert.SentIdeal.main_arg0)
      ∧ r.2.mem ((c.tc : Thread Cert.SentIdeal.nD Cert.SentIdeal.τ).loc Cert.SentIdeal.main_arg1) = m ((c.tc : Thread Cert.SentIdeal.nD Cert.SentIdeal.τ).loc Cert.SentIdeal.main_arg1)
      ∧ r.2.mem ((c.tc : Thread Cert.SentIdeal.nD Cert.SentIdeal.τ).loc Cert.SentIdeal.main_arg2) = m ((c.tc : Thread Cert.SentIdeal.nD Cert.SentIdeal.τ).loc Cert.SentIdeal.main_arg2))
      ∧ r.2.sem = fun _ => 0)

def preserves_Kernel_KernelIdeal : Prop :=
  True

def bitexact_Kernel_Reference [hKernel : Cert.Kernel.Facts] [hReference : Cert.Reference.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Served_ServedIdeal : Prop :=
  True

def algebraic_ServedIdeal_TilesIdeal [hServedIdeal : Cert.ServedIdeal.Facts] [hTilesIdeal : Cert.TilesIdeal.Facts] [hPre_slots_named : Cert.Pre_slots_named.Facts] : Prop :=
  ∀ (m : (ℓ : Loc Cert.ServedIdeal.nD Cert.ServedIdeal.τ Cert.ServedIdeal.sig) → Buf (Elt Ideal) ℓ) (g : Dev Cert.ServedIdeal.nD → PrngReg)
    (m' : (ℓ : Loc Cert.TilesIdeal.nD Cert.TilesIdeal.τ Cert.TilesIdeal.sig) → Buf (Elt Ideal) ℓ) (g' : Dev Cert.TilesIdeal.nD → PrngReg), Pre_ServedIdeal m →
    (∀ c : Dev Cert.ServedIdeal.nD,
      m' ((c.tc : Thread Cert.TilesIdeal.nD Cert.TilesIdeal.τ).loc Cert.TilesIdeal.main_arg0) = m ((c.tc : Thread Cert.ServedIdeal.nD Cert.ServedIdeal.τ).loc Cert.ServedIdeal.main_arg0)
      ∧ m' ((c.tc : Thread Cert.TilesIdeal.nD Cert.TilesIdeal.τ).loc Cert.TilesIdeal.main_arg1) = m ((c.tc : Thread Cert.ServedIdeal.nD Cert.ServedIdeal.τ).loc Cert.ServedIdeal.main_arg1)
      ∧ m' ((c.tc : Thread Cert.TilesIdeal.nD Cert.TilesIdeal.τ).loc Cert.TilesIdeal.main_arg2) = m ((c.tc : Thread Cert.ServedIdeal.nD Cert.ServedIdeal.τ).loc Cert.ServedIdeal.main_arg2)
      ∧ m' ((c.tc : Thread Cert.TilesIdeal.nD Cert.TilesIdeal.τ).loc Cert.TilesIdeal.main_arg3) = m ((c.tc : Thread Cert.ServedIdeal.nD Cert.ServedIdeal.τ).loc Cert.ServedIdeal.main_arg3)
      ∧ m' ((c.tc : Thread Cert.TilesIdeal.nD Cert.TilesIdeal.τ).loc Cert.TilesIdeal.main_arg4) = m ((c.tc : Thread Cert.ServedIdeal.nD Cert.ServedIdeal.τ).loc Cert.ServedIdeal.main_arg4)
      ∧ m' ((c.tc : Thread Cert.TilesIdeal.nD Cert.TilesIdeal.τ).loc Cert.TilesIdeal.main_arg5) = m ((c.tc : Thread Cert.ServedIdeal.nD Cert.ServedIdeal.τ).loc Cert.ServedIdeal.main_arg5)
      ∧ m' ((c.tc : Thread Cert.TilesIdeal.nD Cert.TilesIdeal.τ).loc Cert.TilesIdeal.main_arg6) = m ((c.tc : Thread Cert.ServedIdeal.nD Cert.ServedIdeal.τ).loc Cert.ServedIdeal.main_arg6)
      ∧ m' ((c.tc : Thread Cert.TilesIdeal.nD Cert.TilesIdeal.τ).loc Cert.TilesIdeal.main_arg7) = m ((c.tc : Thread Cert.ServedIdeal.nD Cert.ServedIdeal.τ).loc Cert.ServedIdeal.main_arg7)) →
    ∃ (v0 : (c : Dev Cert.ServedIdeal.nD) → Buf (Elt Ideal) ((c.tc : Thread Cert.ServedIdeal.nD Cert.ServedIdeal.τ).loc Cert.ServedIdeal.main_v5)),
      θ_run (Cert.ServedIdeal.defs (F := Ideal)) (Cert.ServedIdeal.threads (F := Ideal)) ⟨m, fun _ => 0, g⟩ (fun r => ∀ c : Dev Cert.ServedIdeal.nD,
          r.2.mem ((c.tc : Thread Cert.ServedIdeal.nD Cert.ServedIdeal.τ).loc Cert.ServedIdeal.main_v5) = v0 c
          ∧ r.2.mem ((c.tc : Thread Cert.ServedIdeal.nD Cert.ServedIdeal.τ).loc Cert.ServedIdeal.main_arg0) = m ((c.tc : Thread Cert.ServedIdeal.nD Cert.ServedIdeal.τ).loc Cert.ServedIdeal.main_arg0)
          ∧ r.2.mem ((c.tc : Thread Cert.ServedIdeal.nD Cert.ServedIdeal.τ).loc Cert.ServedIdeal.main_arg1) = m ((c.tc : Thread Cert.ServedIdeal.nD Cert.ServedIdeal.τ).loc Cert.ServedIdeal.main_arg1)
          ∧ r.2.mem ((c.tc : Thread Cert.ServedIdeal.nD Cert.ServedIdeal.τ).loc Cert.ServedIdeal.main_arg2) = m ((c.tc : Thread Cert.ServedIdeal.nD Cert.ServedIdeal.τ).loc Cert.ServedIdeal.main_arg2)
          ∧ r.2.mem ((c.tc : Thread Cert.ServedIdeal.nD Cert.ServedIdeal.τ).loc Cert.ServedIdeal.main_arg3) = m ((c.tc : Thread Cert.ServedIdeal.nD Cert.ServedIdeal.τ).loc Cert.ServedIdeal.main_arg3)
          ∧ r.2.mem ((c.tc : Thread Cert.ServedIdeal.nD Cert.ServedIdeal.τ).loc Cert.ServedIdeal.main_arg4) = m ((c.tc : Thread Cert.ServedIdeal.nD Cert.ServedIdeal.τ).loc Cert.ServedIdeal.main_arg4)
          ∧ r.2.mem ((c.tc : Thread Cert.ServedIdeal.nD Cert.ServedIdeal.τ).loc Cert.ServedIdeal.main_arg5) = m ((c.tc : Thread Cert.ServedIdeal.nD Cert.ServedIdeal.τ).loc Cert.ServedIdeal.main_arg5)
          ∧ r.2.mem ((c.tc : Thread Cert.ServedIdeal.nD Cert.ServedIdeal.τ).loc Cert.ServedIdeal.main_arg6) = m ((c.tc : Thread Cert.ServedIdeal.nD Cert.ServedIdeal.τ).loc Cert.ServedIdeal.main_arg6)
          ∧ r.2.mem ((c.tc : Thread Cert.ServedIdeal.nD Cert.ServedIdeal.τ).loc Cert.ServedIdeal.main_arg7) = m ((c.tc : Thread Cert.ServedIdeal.nD Cert.ServedIdeal.τ).loc Cert.ServedIdeal.main_arg7))
      ∧ θ_run (Cert.TilesIdeal.defs (F := Ideal)) (onTc (τ := Cert.TilesIdeal.τ) (Cert.TilesIdeal.main (F := Ideal))) ⟨m', fun _ => 0, g'⟩ (fun r => ∀ c : Dev Cert.TilesIdeal.nD,
          r.2.mem ((c.tc : Thread Cert.TilesIdeal.nD Cert.TilesIdeal.τ).loc Cert.TilesIdeal.main_v38) = v0 c
          ∧ r.2.mem ((c.tc : Thread Cert.TilesIdeal.nD Cert.TilesIdeal.τ).loc Cert.TilesIdeal.main_arg0) = m' ((c.tc : Thread Cert.TilesIdeal.nD Cert.TilesIdeal.τ).loc Cert.TilesIdeal.main_arg0)
          ∧ r.2.mem ((c.tc : Thread Cert.TilesIdeal.nD Cert.TilesIdeal.τ).loc Cert.TilesIdeal.main_arg1) = m' ((c.tc : Thread Cert.TilesIdeal.nD Cert.TilesIdeal.τ).loc Cert.TilesIdeal.main_arg1)
          ∧ r.2.mem ((c.tc : Thread Cert.TilesIdeal.nD Cert.TilesIdeal.τ).loc Cert.TilesIdeal.main_arg2) = m' ((c.tc : Thread Cert.TilesIdeal.nD Cert.TilesIdeal.τ).loc Cert.TilesIdeal.main_arg2)
          ∧ r.2.mem ((c.tc : Thread Cert.TilesIdeal.nD Cert.TilesIdeal.τ).loc Cert.TilesIdeal.main_arg3) = m' ((c.tc : Thread Cert.TilesIdeal.nD Cert.TilesIdeal.τ).loc Cert.TilesIdeal.main_arg3)
          ∧ r.2.mem ((c.tc : Thread Cert.TilesIdeal.nD Cert.TilesIdeal.τ).loc Cert.TilesIdeal.main_arg4) = m' ((c.tc : Thread Cert.TilesIdeal.nD Cert.TilesIdeal.τ).loc Cert.TilesIdeal.main_arg4)
          ∧ r.2.mem ((c.tc : Thread Cert.TilesIdeal.nD Cert.TilesIdeal.τ).loc Cert.TilesIdeal.main_arg5) = m' ((c.tc : Thread Cert.TilesIdeal.nD Cert.TilesIdeal.τ).loc Cert.TilesIdeal.main_arg5)
          ∧ r.2.mem ((c.tc : Thread Cert.TilesIdeal.nD Cert.TilesIdeal.τ).loc Cert.TilesIdeal.main_arg6) = m' ((c.tc : Thread Cert.TilesIdeal.nD Cert.TilesIdeal.τ).loc Cert.TilesIdeal.main_arg6)
          ∧ r.2.mem ((c.tc : Thread Cert.TilesIdeal.nD Cert.TilesIdeal.τ).loc Cert.TilesIdeal.main_arg7) = m' ((c.tc : Thread Cert.TilesIdeal.nD Cert.TilesIdeal.τ).loc Cert.TilesIdeal.main_arg7))

def preserves_Gated_GatedIdeal : Prop :=
  True

def algebraic_GatedIdeal_GatesIdeal [hGatedIdeal : Cert.GatedIdeal.Facts] [hGatesIdeal : Cert.GatesIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatesIdeal.nD Cert.GatesIdeal.τ Cert.GatesIdeal.sig) → Buf (Elt Ideal) ℓ) (g' : Dev Cert.GatesIdeal.nD → PrngReg), Pre_GatedIdeal m →
    (∀ c : Dev Cert.GatedIdeal.nD,
      m' ((c.tc : Thread Cert.GatesIdeal.nD Cert.GatesIdeal.τ).loc Cert.GatesIdeal.main_arg0) = m ((c.tc : Thread Cert.GatedIdeal.nD Cert.GatedIdeal.τ).loc Cert.GatedIdeal.main_arg0)
      ∧ m' ((c.tc : Thread Cert.GatesIdeal.nD Cert.GatesIdeal.τ).loc Cert.GatesIdeal.main_arg1) = m ((c.tc : Thread Cert.GatedIdeal.nD Cert.GatedIdeal.τ).loc Cert.GatedIdeal.main_arg1)
      ∧ m' ((c.tc : Thread Cert.GatesIdeal.nD Cert.GatesIdeal.τ).loc Cert.GatesIdeal.main_arg2) = m ((c.tc : Thread Cert.GatedIdeal.nD Cert.GatedIdeal.τ).loc Cert.GatedIdeal.main_arg2)
      ∧ m' ((c.tc : Thread Cert.GatesIdeal.nD Cert.GatesIdeal.τ).loc Cert.GatesIdeal.main_arg3) = m ((c.tc : Thread Cert.GatedIdeal.nD Cert.GatedIdeal.τ).loc Cert.GatedIdeal.main_arg3)
      ∧ m' ((c.tc : Thread Cert.GatesIdeal.nD Cert.GatesIdeal.τ).loc Cert.GatesIdeal.main_arg4) = m ((c.tc : Thread Cert.GatedIdeal.nD Cert.GatedIdeal.τ).loc Cert.GatedIdeal.main_arg4)
      ∧ m' ((c.tc : Thread Cert.GatesIdeal.nD Cert.GatesIdeal.τ).loc Cert.GatesIdeal.main_arg5) = m ((c.tc : Thread Cert.GatedIdeal.nD Cert.GatedIdeal.τ).loc Cert.GatedIdeal.main_arg5)
      ∧ m' ((c.tc : Thread Cert.GatesIdeal.nD Cert.GatesIdeal.τ).loc Cert.GatesIdeal.main_arg6) = m ((c.tc : Thread Cert.GatedIdeal.nD Cert.GatedIdeal.τ).loc Cert.GatedIdeal.main_arg6)
      ∧ m' ((c.tc : Thread Cert.GatesIdeal.nD Cert.GatesIdeal.τ).loc Cert.GatesIdeal.main_arg7) = m ((c.tc : Thread Cert.GatedIdeal.nD Cert.GatedIdeal.τ).loc Cert.GatedIdeal.main_arg7)
      ∧ m' ((c.tc : Thread Cert.GatesIdeal.nD Cert.GatesIdeal.τ).loc Cert.GatesIdeal.main_arg8) = m ((c.tc : Thread Cert.GatedIdeal.nD Cert.GatedIdeal.τ).loc Cert.GatedIdeal.main_arg8)
      ∧ m' ((c.tc : Thread Cert.GatesIdeal.nD Cert.GatesIdeal.τ).loc Cert.GatesIdeal.main_arg9) = m ((c.tc : Thread Cert.GatedIdeal.nD Cert.GatedIdeal.τ).loc Cert.GatedIdeal.main_arg9)) →
    ∃ (v0 : (c : Dev Cert.GatedIdeal.nD) → Buf (Elt Ideal) ((c.tc : Thread Cert.GatedIdeal.nD Cert.GatedIdeal.τ).loc Cert.GatedIdeal.main_v8_0)) (v1 : (c : Dev Cert.GatedIdeal.nD) → Buf (Elt Ideal) ((c.tc : Thread Cert.GatedIdeal.nD Cert.GatedIdeal.τ).loc Cert.GatedIdeal.main_v8_1)) (v2 : (c : Dev Cert.GatedIdeal.nD) → Buf (Elt Ideal) ((c.tc : Thread Cert.GatedIdeal.nD Cert.GatedIdeal.τ).loc Cert.GatedIdeal.main_v8_2)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v8_0) = v0 c
          ∧ r.2.mem ((c.tc : Thread Cert.GatedIdeal.nD Cert.GatedIdeal.τ).loc Cert.GatedIdeal.main_v8_1) = v1 c
          ∧ r.2.mem ((c.tc : Thread Cert.GatedIdeal.nD Cert.GatedIdeal.τ).loc Cert.GatedIdeal.main_v8_2) = v2 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
          ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4)
          ∧ r.2.mem ((c.tc : Thread Cert.GatedIdeal.nD Cert.GatedIdeal.τ).loc Cert.GatedIdeal.main_arg5) = m ((c.tc : Thread Cert.GatedIdeal.nD Cert.GatedIdeal.τ).loc Cert.GatedIdeal.main_arg5)
          ∧ r.2.mem ((c.tc : Thread Cert.GatedIdeal.nD Cert.GatedIdeal.τ).loc Cert.GatedIdeal.main_arg6) = m ((c.tc : Thread Cert.GatedIdeal.nD Cert.GatedIdeal.τ).loc Cert.GatedIdeal.main_arg6)
          ∧ r.2.mem ((c.tc : Thread Cert.GatedIdeal.nD Cert.GatedIdeal.τ).loc Cert.GatedIdeal.main_arg7) = m ((c.tc : Thread Cert.GatedIdeal.nD Cert.GatedIdeal.τ).loc Cert.GatedIdeal.main_arg7)
          ∧ r.2.mem ((c.tc : Thread Cert.GatedIdeal.nD Cert.GatedIdeal.τ).loc Cert.GatedIdeal.main_arg8) = m ((c.tc : Thread Cert.GatedIdeal.nD Cert.GatedIdeal.τ).loc Cert.GatedIdeal.main_arg8)
          ∧ r.2.mem ((c.tc : Thread Cert.GatedIdeal.nD Cert.GatedIdeal.τ).loc Cert.GatedIdeal.main_arg9) = m ((c.tc : Thread Cert.GatedIdeal.nD Cert.GatedIdeal.τ).loc Cert.GatedIdeal.main_arg9))
      ∧ θ_run (Cert.GatesIdeal.defs (F := Ideal)) (onTc (τ := Cert.GatesIdeal.τ) (Cert.GatesIdeal.main (F := Ideal))) ⟨m', fun _ => 0, g'⟩ (fun r => ∀ c : Dev Cert.GatesIdeal.nD,
          r.2.mem ((c.tc : Thread Cert.GatesIdeal.nD Cert.GatesIdeal.τ).loc Cert.GatesIdeal.main_v42) = v0 c
          ∧ r.2.mem ((c.tc : Thread Cert.GatesIdeal.nD Cert.GatesIdeal.τ).loc Cert.GatesIdeal.main_v44) = v1 c
          ∧ r.2.mem ((c.tc : Thread Cert.GatesIdeal.nD Cert.GatesIdeal.τ).loc Cert.GatesIdeal.main_v45) = v2 c
          ∧ r.2.mem ((c.tc : Thread Cert.GatesIdeal.nD Cert.GatesIdeal.τ).loc Cert.GatesIdeal.main_arg0) = m' ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m' ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m' ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m' ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m' ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m' ((c.tc : Thread Cert.GatesIdeal.nD Cert.GatesIdeal.τ).loc Cert.GatesIdeal.main_arg5)
          ∧ r.2.mem ((c.tc : Thread Cert.GatesIdeal.nD Cert.GatesIdeal.τ).loc Cert.GatesIdeal.main_arg6) = m' ((c.tc : Thread Cert.GatesIdeal.nD Cert.GatesIdeal.τ).loc Cert.GatesIdeal.main_arg6)
          ∧ r.2.mem ((c.tc : Thread Cert.GatesIdeal.nD Cert.GatesIdeal.τ).loc Cert.GatesIdeal.main_arg7) = m' ((c.tc : Thread Cert.GatesIdeal.nD Cert.GatesIdeal.τ).loc Cert.GatesIdeal.main_arg7)
          ∧ r.2.mem ((c.tc : Thread Cert.GatesIdeal.nD Cert.GatesIdeal.τ).loc Cert.GatesIdeal.main_arg8) = m' ((c.tc : Thread Cert.GatesIdeal.nD Cert.GatesIdeal.τ).loc Cert.GatesIdeal.main_arg8)
          ∧ r.2.mem ((c.tc : Thread Cert.GatesIdeal.nD Cert.GatesIdeal.τ).loc Cert.GatesIdeal.main_arg9) = m' ((c.tc : Thread Cert.GatesIdeal.nD Cert.GatesIdeal.τ).loc Cert.GatesIdeal.main_arg9))

def preserves_Routed_RoutedIdeal : Prop :=
  True

def algebraic_RoutedIdeal_SlotsIdeal [hRoutedIdeal : Cert.RoutedIdeal.Facts] [hSlotsIdeal : Cert.SlotsIdeal.Facts] : Prop :=
  ∀ (m : (ℓ : Loc Cert.RoutedIdeal.nD Cert.RoutedIdeal.τ Cert.RoutedIdeal.sig) → Buf (Elt Ideal) ℓ) (g : Dev Cert.RoutedIdeal.nD → PrngReg)
    (m' : (ℓ : Loc Cert.SlotsIdeal.nD Cert.SlotsIdeal.τ Cert.SlotsIdeal.sig) → Buf (Elt Ideal) ℓ) (g' : Dev Cert.SlotsIdeal.nD → PrngReg), Pre_RoutedIdeal m →
    (∀ c : Dev Cert.RoutedIdeal.nD,
      m' ((c.tc : Thread Cert.SlotsIdeal.nD Cert.SlotsIdeal.τ).loc Cert.SlotsIdeal.main_arg0) = m ((c.tc : Thread Cert.RoutedIdeal.nD Cert.RoutedIdeal.τ).loc Cert.RoutedIdeal.main_arg0)) →
    ∃ (v0 : (c : Dev Cert.RoutedIdeal.nD) → Buf (Elt Ideal) ((c.tc : Thread Cert.RoutedIdeal.nD Cert.RoutedIdeal.τ).loc Cert.RoutedIdeal.main_v0_0)) (v1 : (c : Dev Cert.RoutedIdeal.nD) → Buf (Elt Ideal) ((c.tc : Thread Cert.RoutedIdeal.nD Cert.RoutedIdeal.τ).loc Cert.RoutedIdeal.main_v0_1)) (v2 : (c : Dev Cert.RoutedIdeal.nD) → Buf (Elt Ideal) ((c.tc : Thread Cert.RoutedIdeal.nD Cert.RoutedIdeal.τ).loc Cert.RoutedIdeal.main_v0_2)),
      θ_run (Cert.RoutedIdeal.defs (F := Ideal)) (onTc (τ := Cert.RoutedIdeal.τ) (Cert.RoutedIdeal.main (F := Ideal))) ⟨m, fun _ => 0, g⟩ (fun r => ∀ c : Dev Cert.RoutedIdeal.nD,
          r.2.mem ((c.tc : Thread Cert.RoutedIdeal.nD Cert.RoutedIdeal.τ).loc Cert.RoutedIdeal.main_v0_0) = v0 c
          ∧ r.2.mem ((c.tc : Thread Cert.RoutedIdeal.nD Cert.RoutedIdeal.τ).loc Cert.RoutedIdeal.main_v0_1) = v1 c
          ∧ r.2.mem ((c.tc : Thread Cert.RoutedIdeal.nD Cert.RoutedIdeal.τ).loc Cert.RoutedIdeal.main_v0_2) = v2 c
          ∧ r.2.mem ((c.tc : Thread Cert.RoutedIdeal.nD Cert.RoutedIdeal.τ).loc Cert.RoutedIdeal.main_arg0) = m ((c.tc : Thread Cert.RoutedIdeal.nD Cert.RoutedIdeal.τ).loc Cert.RoutedIdeal.main_arg0))
      ∧ θ_run (Cert.SlotsIdeal.defs (F := Ideal)) (onTc (τ := Cert.SlotsIdeal.τ) (Cert.SlotsIdeal.main (F := Ideal))) ⟨m', fun _ => 0, g'⟩ (fun r => ∀ c : Dev Cert.SlotsIdeal.nD,
          r.2.mem ((c.tc : Thread Cert.SlotsIdeal.nD Cert.SlotsIdeal.τ).loc Cert.SlotsIdeal.main_v35) = v0 c
          ∧ r.2.mem ((c.tc : Thread Cert.SlotsIdeal.nD Cert.SlotsIdeal.τ).loc Cert.SlotsIdeal.main_v42) = v1 c
          ∧ r.2.mem ((c.tc : Thread Cert.SlotsIdeal.nD Cert.SlotsIdeal.τ).loc Cert.SlotsIdeal.main_v67) = v2 c
          ∧ r.2.mem ((c.tc : Thread Cert.SlotsIdeal.nD Cert.SlotsIdeal.τ).loc Cert.SlotsIdeal.main_arg0) = m' ((c.tc : Thread Cert.SlotsIdeal.nD Cert.SlotsIdeal.τ).loc Cert.SlotsIdeal.main_arg0))

def Claim : Prop :=
  ∃ (hKernel : Cert.Kernel.Facts) (hKernelIdeal : Cert.KernelIdeal.Facts) (hReferenceIdeal : Cert.ReferenceIdeal.Facts) (hReference : Cert.Reference.Facts) (hServed : Cert.Served.Facts) (hServedIdeal : Cert.ServedIdeal.Facts) (hTilesIdeal : Cert.TilesIdeal.Facts) (hGated : Cert.Gated.Facts) (hGatedIdeal : Cert.GatedIdeal.Facts) (hGatesIdeal : Cert.GatesIdeal.Facts) (hRouted : Cert.Routed.Facts) (hRoutedIdeal : Cert.RoutedIdeal.Facts) (hSlotsIdeal : Cert.SlotsIdeal.Facts) (hSentIdeal : Cert.SentIdeal.Facts) (hPre_rows_named : Cert.Pre_rows_named.Facts) (hPre_slots_named : Cert.Pre_slots_named.Facts) (hPre_experts_named : Cert.Pre_experts_named.Facts),
    quiescent_Kernel (hKernel := hKernel) (hPre_rows_named := hPre_rows_named)
    ∧ quiescent_KernelIdeal (hKernelIdeal := hKernelIdeal) (hPre_rows_named := hPre_rows_named)
    ∧ quiescent_ReferenceIdeal (hReferenceIdeal := hReferenceIdeal) (hPre_rows_named := hPre_rows_named)
    ∧ quiescent_Reference (hReference := hReference) (hPre_rows_named := hPre_rows_named)
    ∧ quiescent_Served (hServed := hServed) (hPre_slots_named := hPre_slots_named)
    ∧ quiescent_ServedIdeal (hServedIdeal := hServedIdeal) (hPre_slots_named := hPre_slots_named)
    ∧ quiescent_TilesIdeal (hTilesIdeal := hTilesIdeal) (hPre_slots_named := hPre_slots_named)
    ∧ quiescent_Gated (hGated := hGated)
    ∧ quiescent_GatedIdeal (hGatedIdeal := hGatedIdeal)
    ∧ quiescent_GatesIdeal (hGatesIdeal := hGatesIdeal)
    ∧ quiescent_Routed (hRouted := hRouted)
    ∧ quiescent_RoutedIdeal (hRoutedIdeal := hRoutedIdeal)
    ∧ quiescent_SlotsIdeal (hSlotsIdeal := hSlotsIdeal)
    ∧ quiescent_SentIdeal (hSentIdeal := hSentIdeal) (hPre_experts_named := hPre_experts_named)
    ∧ preserves_Kernel_KernelIdeal
    ∧ bitexact_Kernel_Reference (hKernel := hKernel) (hReference := hReference) (hPre_rows_named := hPre_rows_named)
    ∧ algebraic_KernelIdeal_ReferenceIdeal (hKernelIdeal := hKernelIdeal) (hReferenceIdeal := hReferenceIdeal) (hPre_rows_named := hPre_rows_named)
    ∧ preserves_Served_ServedIdeal
    ∧ algebraic_ServedIdeal_TilesIdeal (hServedIdeal := hServedIdeal) (hTilesIdeal := hTilesIdeal) (hPre_slots_named := hPre_slots_named)
    ∧ preserves_Gated_GatedIdeal
    ∧ algebraic_GatedIdeal_GatesIdeal (hGatedIdeal := hGatedIdeal) (hGatesIdeal := hGatesIdeal)
    ∧ preserves_Routed_RoutedIdeal
    ∧ algebraic_RoutedIdeal_SlotsIdeal (hRoutedIdeal := hRoutedIdeal) (hSlotsIdeal := hSlotsIdeal)
-- ==== Pre_experts_named.lean ====
abbrev S64x128 : Shape := ⟨2, ![64, 128]⟩
abbrev S4x8192x256 : Shape := ⟨3, ![4, 8192, 256]⟩
abbrev S8192x128 : Shape := ⟨2, ![8192, 128]⟩
abbrev S_ : Shape := ⟨0, ![]⟩

class Facts : Prop where
  bcast_S_S64x128 : S_.BroadcastsInDim S64x128 (![] : Fin 0 → Fin S64x128.rank)

variable [Facts]

def fn {F : FTy → Type} [FloatOps F] (main_arg0 : IVec S64x128 32) (main_arg1 : FVec F S4x8192x256 .f32) (main_arg2 : FVec F S8192x128 .f32) : IVec S64x128 1 :=
  let main_c : IVec S_ 32 := constantI S_ 32 0#32
  let main_v0 : IVec S64x128 32 := broadcastInDim S64x128 ![] bcast_S_S64x128 main_c
  let main_v1 : IVec S64x128 1 := cmpi .sge main_arg0 main_v0
  let main_c_0 : IVec S_ 32 := constantI S_ 32 4#32
  let main_v2 : IVec S64x128 32 := broadcastInDim S64x128 ![] bcast_S_S64x128 main_c_0
  let main_v3 : IVec S64x128 1 := cmpi .slt main_arg0 main_v2
  let main_v4 : IVec S64x128 1 := andi main_v1 main_v3
  main_v4
-- ==== Pre_rows_named.lean ====
abbrev S4x9216x256 : Shape := ⟨3, ![4, 9216, 256]⟩
abbrev S4x64x128 : Shape := ⟨3, ![4, 64, 128]⟩
abbrev S_ : Shape := ⟨0, ![]⟩

class Facts : Prop where
  bcast_S_S4x64x128 : S_.BroadcastsInDim S4x64x128 (![] : Fin 0 → Fin S4x64x128.rank)

variable [Facts]

def fn {F : FTy → Type} [FloatOps F] (main_arg0 : FVec F S4x9216x256 .f32) (main_arg1 : IVec S4x64x128 32) : IVec S4x64x128 1 :=
  let main_c : IVec S_ 32 := constantI S_ 32 0#32
  let main_v0 : IVec S4x64x128 32 := broadcastInDim S4x64x128 ![] bcast_S_S4x64x128 main_c
  let main_v1 : IVec S4x64x128 1 := cmpi .sge main_arg1 main_v0
  let main_c_0 : IVec S_ 32 := constantI S_ 32 36864#32
  let main_v2 : IVec S4x64x128 32 := broadcastInDim S4x64x128 ![] bcast_S_S4x64x128 main_c_0
  let main_v3 : IVec S4x64x128 1 := cmpi .slt main_arg1 main_v2
  let main_v4 : IVec S4x64x128 1 := andi main_v1 main_v3
  main_v4
-- ==== Pre_slots_named.lean ====
abbrev S36 : Shape := ⟨1, ![36]⟩
abbrev S4x9216x256 : Shape := ⟨3, ![4, 9216, 256]⟩
abbrev S4x1024x1024 : Shape := ⟨3, ![4, 1024, 1024]⟩
abbrev S4x1024 : Shape := ⟨2, ![4, 1024]⟩
abbrev S9216x128 : Shape := ⟨2, ![9216, 128]⟩
abbrev S4x64x128 : Shape := ⟨3, ![4, 64, 128]⟩
abbrev S_ : Shape := ⟨0, ![]⟩

class Facts : Prop where
  bcast_S_S36 : S_.BroadcastsInDim S36 (![] : Fin 0 → Fin S36.rank)
  reducesTo_S36_S_d0 : S36.ReducesTo [0] S_
  h_S_ : 0 < S_.numel
  bcast_S_S4x64x128 : S_.BroadcastsInDim S4x64x128 (![] : Fin 0 → Fin S4x64x128.rank)
  reducesTo_S4x64x128_S_d0_1_2 : S4x64x128.ReducesTo [0, 1, 2] S_

variable [Facts]

def fn {F : FTy → Type} [FloatOps F] (main_arg0 : IVec S36 32) (main_arg1 : FVec F S4x9216x256 .f32) (main_arg2 : FVec F S4x1024x1024 .f32) (main_arg3 : FVec F S4x1024 .f32) (main_arg4 : FVec F S4x1024x1024 .f32) (main_arg5 : FVec F S4x1024 .f32) (main_arg6 : FVec F S9216x128 .f32) (main_arg7 : IVec S4x64x128 32) : IVec S_ 1 :=
  let main_c : IVec S_ 32 := constantI S_ 32 0#32
  let main_v0 : IVec S36 32 := broadcastInDim S36 ![] bcast_S_S36 main_c
  let main_v1 : IVec S36 1 := cmpi .sge main_arg0 main_v0
  let main_c_0 : IVec S_ 32 := constantI S_ 32 4#32
  let main_v2 : IVec S36 32 := broadcastInDim S36 ![] bcast_S_S36 main_c_0
  let main_v3 : IVec S36 1 := cmpi .slt main_arg0 main_v2
  let main_v4 : IVec S36 1 := andi main_v1 main_v3
  let main_c_1 : IVec S_ 1 := constantI S_ 1 1#1
  let main_v5 : IVec S_ 1 := (fun x v => Host.reduce IntOp.andi x v reducesTo_S36_S_d0 h_S_) main_v4 main_c_1
  let main_c_2 : IVec S_ 32 := constantI S_ 32 0#32
  let main_v6 : IVec S4x64x128 32 := broadcastInDim S4x64x128 ![] bcast_S_S4x64x128 main_c_2
  let main_v7 : IVec S4x64x128 1 := cmpi .sge main_arg7 main_v6
  let main_c_3 : IVec S_ 32 := constantI S_ 32 36864#32
  let main_v8 : IVec S4x64x128 32 := broadcastInDim S4x64x128 ![] bcast_S_S4x64x128 main_c_3
  let main_v9 : IVec S4x64x128 1 := cmpi .slt main_arg7 main_v8
  let main_v10 : IVec S4x64x128 1 := andi main_v7 main_v9
  let main_c_4 : IVec S_ 1 := constantI S_ 1 1#1
  let main_v11 : IVec S_ 1 := (fun x v => Host.reduce IntOp.andi x v reducesTo_S4x64x128_S_d0_1_2 h_S_) main_v10 main_c_4
  let main_v12 : IVec S_ 1 := andi main_v5 main_v11
  main_v12
-- ==== Kernel.lean ====
abbrev S4x9216x256 : Shape := ⟨3, ![4, 9216, 256]⟩
abbrev S4x64x128 : Shape := ⟨3, ![4, 64, 128]⟩
abbrev S36864x2x128 : Shape := ⟨3, ![36864, 2, 128]⟩
abbrev S8192x4x2x128 : Shape := ⟨4, ![8192, 4, 2, 128]⟩
abbrev S2x1x1x128 : Shape := ⟨4, ![2, 1, 1, 128]⟩
abbrev S2 : Shape := ⟨1, ![2]⟩
abbrev S2x128x2x128 : Shape := ⟨4, ![2, 128, 2, 128]⟩
abbrev S1x1x1x128 : Shape := ⟨4, ![1, 1, 1, 128]⟩
abbrev S1x1x128 : Shape := ⟨3, ![1, 1, 128]⟩
abbrev S1 : Shape := ⟨1, ![1]⟩
abbrev S_ : Shape := ⟨0, ![]⟩
abbrev S1x128x2x128 : Shape := ⟨4, ![1, 128, 2, 128]⟩
abbrev S128x2x128 : Shape := ⟨3, ![128, 2, 128]⟩
abbrev S128 : Shape := ⟨1, ![128]⟩
abbrev S128x1x2x128 : Shape := ⟨4, ![128, 1, 2, 128]⟩
abbrev S4x2048x1024 : Shape := ⟨3, ![4, 2048, 1024]⟩

abbrev nBuf : Table → Nat
  | .hbm => 5
  | .local .scVector .vmem => 2
  | _ => 0

abbrev bufTy : (tb : Table) → Fin (nBuf tb) → BufTy
  | .hbm, ⟨0, _⟩ => ⟨S4x9216x256, .f32⟩
  | .hbm, ⟨1, _⟩ => ⟨S4x64x128, .i32⟩
  | .hbm, ⟨2, _⟩ => ⟨S36864x2x128, .f32⟩
  | .hbm, ⟨3, _⟩ => ⟨S8192x4x2x128, .f32⟩
  | .hbm, ⟨4, _⟩ => ⟨S4x2048x1024, .f32⟩
  | .local .scVector .vmem, ⟨0, _⟩ => ⟨S2x1x1x128, .i32⟩
  | .local .scVector .vmem, ⟨1, _⟩ => ⟨S2x128x2x128, .f32⟩
  | _, _ => ⟨S4x9216x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 4 → Nat :=
  let c0_i32_26_r0 : BitVec 32 := 0#32
  let c2_i32_27_r0 : BitVec 32 := 2#32
  let v34_r0 : BitVec 32 := Scalar.remui c0_i32_26_r0 c2_i32_27_r0
  let c0_i32_44_r0 : BitVec 32 := 0#32
  let c0_i32_45_r0 : BitVec 32 := 0#32
  let c0_i32_46_r0 : BitVec 32 := 0#32
  ![v34_r0.toNat, 0, 0, 0]
def k0_off2 (i : grid0.Coords) : Fin 3 → Nat :=
  let c1_i32_42_r0 : BitVec 32 := 1#32
  let c0_i32_28_r0 : BitVec 32 := 0#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v7_r0 : BitVec 32 := Scalar.addi c0_i32_1_r0 v4
  let v35_r0 : BitVec 32 := Scalar.addi c0_i32_28_r0 v7_r0
  let c0_i32_29_r0 : BitVec 32 := 0#32
  let v37_r0 : BitVec 1 := Scalar.cmpi .sgt v35_r0 c0_i32_29_r0
  let v38_r0 : BitVec 32 := Scalar.extui v37_r0
  let c0_i32_30_r0 : BitVec 32 := 0#32
  let v39_r0 : BitVec 1 := Scalar.cmpi .slt v35_r0 c0_i32_30_r0
  let v40_r0 : BitVec 32 := Scalar.extui v39_r0
  let v41_r0 : BitVec 32 := Scalar.subi v38_r0 v40_r0
  let c64_i32_r0 : BitVec 32 := 64#32
  let c0_i32_31_r0 : BitVec 32 := 0#32
  let v42_r0 : BitVec 1 := Scalar.cmpi .sgt c64_i32_r0 c0_i32_31_r0
  let v43_r0 : BitVec 32 := Scalar.extui v42_r0
  let c0_i32_32_r0 : BitVec 32 := 0#32
  let v44_r0 : BitVec 1 := Scalar.cmpi .slt c64_i32_r0 c0_i32_32_r0
  let v45_r0 : BitVec 32 := Scalar.extui v44_r0
  let v46_r0 : BitVec 32 := Scalar.subi v43_r0 v45_r0
  let v47_r0 : BitVec 1 := Scalar.cmpi .ne v41_r0 v46_r0
  let v48_r0 : BitVec 32 := Scalar.remsi v35_r0 c64_i32_r0
  let c0_i32_33_r0 : BitVec 32 := 0#32
  let v49_r0 : BitVec 1 := Scalar.cmpi .ne v48_r0 c0_i32_33_r0
  let v50_r0 : BitVec 1 := Scalar.andi v47_r0 v49_r0
  let v36_r0 : BitVec 32 := Scalar.divsi v35_r0 c64_i32_r0
  let c1_i32_34_r0 : BitVec 32 := 1#32
  let v51_r0 : BitVec 32 := Scalar.subi v36_r0 c1_i32_34_r0
  let v52_r0 : BitVec 32 := Scalar.select v50_r0 v51_r0 v36_r0
  let v64_r0 : BitVec 32 := Scalar.muli c1_i32_42_r0 v52_r0
  let c1_i32_43_r0 : BitVec 32 := 1#32
  let c0_i32_35_r0 : BitVec 32 := 0#32
  let v53_r0 : BitVec 32 := Scalar.addi c0_i32_35_r0 v7_r0
  let c64_i32_36_r0 : BitVec 32 := 64#32
  let c0_i32_37_r0 : BitVec 32 := 0#32
  let v54_r0 : BitVec 1 := Scalar.cmpi .eq c64_i32_36_r0 c0_i32_37_r0
  let c1_i32_38_r0 : BitVec 32 := 1#32
  let v55_r0 : BitVec 32 := Scalar.select v54_r0 c1_i32_38_r0 c64_i32_36_r0
  let v56_r0 : BitVec 32 := Scalar.remsi v53_r0 v55_r0
  let c0_i32_40_r0 : BitVec 32 := 0#32
  let v58_r0 : BitVec 1 := Scalar.cmpi .slt v56_r0 c0_i32_40_r0
  let c0_i32_41_r0 : BitVec 32 := 0#32
  let v59_r0 : BitVec 1 := Scalar.cmpi .slt v55_r0 c0_i32_41_r0
  let v60_r0 : BitVec 1 := Scalar.xori v58_r0 v59_r0
  let c0_i32_39_r0 : BitVec 32 := 0#32
  let v57_r0 : BitVec 1 := Scalar.cmpi .ne v56_r0 c0_i32_39_r0
  let v61_r0 : BitVec 1 := Scalar.andi v60_r0 v57_r0
  let v62_r0 : BitVec 32 := Scalar.addi v56_r0 v55_r0
  let v63_r0 : BitVec 32 := Scalar.select v61_r0 v62_r0 v56_r0
  let v65_r0 : BitVec 32 := Scalar.muli c1_i32_43_r0 v63_r0
  let c0_i32_47_r0 : BitVec 32 := 0#32
  ![v64_r0.toNat, v65_r0.toNat, 0]
def k0_off3 : Fin 1 → Nat :=
  let c0_i32_26_r0 : BitVec 32 := 0#32
  let c2_i32_27_r0 : BitVec 32 := 2#32
  let v34_r0 : BitVec 32 := Scalar.remui c0_i32_26_r0 c2_i32_27_r0
  ![v34_r0.toNat]
@[reducible] def k0_t1_loop : Scf.Loop 32 :=
  let c0_i32_59_r0 : BitVec 32 := 0#32
  let c8_i32_r0 : BitVec 32 := 8#32
  let v75_r0 : BitVec 32 := Scalar.addi c0_i32_59_r0 c8_i32_r0
  let c1_i32_60_r0 : BitVec 32 := 1#32
  ⟨c0_i32_59_r0, v75_r0, c1_i32_60_r0⟩
def k0_off4 (arg6_r0 : BitVec 32) : Fin 4 → Nat :=
  let c2_i32_271_r0 : BitVec 32 := 2#32
  let v464_r0 : BitVec 32 := Scalar.remui arg6_r0 c2_i32_271_r0
  let c0_i32_289_r0 : BitVec 32 := 0#32
  let c0_i32_290_r0 : BitVec 32 := 0#32
  let c0_i32_291_r0 : BitVec 32 := 0#32
  ![v464_r0.toNat, 0, 0, 0]
def k0_cond1 (i : grid0.Coords) (k0_t1 : Fin k0_t1_loop.trips) (arg10_r0 : BitVec 32) (arg11_r0 : BitVec 32) : BitVec 1 :=
  let c0_i32_121_r0 : BitVec 32 := 0#32
  let v162_r0 : BitVec 32 := Scalar.addi arg10_r0 c0_i32_121_r0
  let c128_i32_146_r0 : BitVec 32 := 128#32
  let v194_r0 : BitVec 32 := Scalar.muli v162_r0 c128_i32_146_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v163_r0 : BitVec 32 := Scalar.addi arg11_r0 v4
  let v195_r0 : BitVec 32 := Scalar.addi v194_r0 v163_r0
  let c0_i32_148_r0 : BitVec 32 := 0#32
  let v197_r0 : BitVec 1 := Scalar.cmpi .sgt v195_r0 c0_i32_148_r0
  let v198_r0 : BitVec 32 := Scalar.extui v197_r0
  let c0_i32_149_r0 : BitVec 32 := 0#32
  let v199_r0 : BitVec 1 := Scalar.cmpi .slt v195_r0 c0_i32_149_r0
  let v200_r0 : BitVec 32 := Scalar.extui v199_r0
  let v201_r0 : BitVec 32 := Scalar.subi v198_r0 v200_r0
  let c64_i32_147_r0 : BitVec 32 := 64#32
  let c0_i32_150_r0 : BitVec 32 := 0#32
  let v202_r0 : BitVec 1 := Scalar.cmpi .sgt c64_i32_147_r0 c0_i32_150_r0
  let v203_r0 : BitVec 32 := Scalar.extui v202_r0
  let c0_i32_151_r0 : BitVec 32 := 0#32
  let v204_r0 : BitVec 1 := Scalar.cmpi .slt c64_i32_147_r0 c0_i32_151_r0
  let v205_r0 : BitVec 32 := Scalar.extui v204_r0
  let v206_r0 : BitVec 32 := Scalar.subi v203_r0 v205_r0
  let v207_r0 : BitVec 1 := Scalar.cmpi .ne v201_r0 v206_r0
  let v208_r0 : BitVec 32 := Scalar.remsi v195_r0 c64_i32_147_r0
  let c0_i32_152_r0 : BitVec 32 := 0#32
  let v209_r0 : BitVec 1 := Scalar.cmpi .ne v208_r0 c0_i32_152_r0
  let v210_r0 : BitVec 1 := Scalar.andi v207_r0 v209_r0
  let v196_r0 : BitVec 32 := Scalar.divsi v195_r0 c64_i32_147_r0
  let c1_i32_153_r0 : BitVec 32 := 1#32
  let v211_r0 : BitVec 32 := Scalar.subi v196_r0 c1_i32_153_r0
  let v212_r0 : BitVec 32 := Scalar.select v210_r0 v211_r0 v196_r0
  let true_131_r0 : BitVec 1 := 1#1
  let c1_i32_130_r0 : BitVec 32 := 1#32
  let v174_r0 : BitVec 32 := Scalar.addi arg11_r0 c1_i32_130_r0
  let v175_r0 : BitVec 32 := Scalar.select true_131_r0 v174_r0 arg11_r0
  let c4_i32_132_r0 : BitVec 32 := 4#32
  let v176_r0 : BitVec 1 := Scalar.cmpi .eq v175_r0 c4_i32_132_r0
  let c1_i32_134_r0 : BitVec 32 := 1#32
  let v178_r0 : BitVec 32 := Scalar.addi arg10_r0 c1_i32_134_r0
  let v179_r0 : BitVec 32 := Scalar.select v176_r0 v178_r0 arg10_r0
  let c2_i32_135_r0 : BitVec 32 := 2#32
  let v180_r0 : BitVec 1 := Scalar.cmpi .eq v179_r0 c2_i32_135_r0
  let c0_i32_136_r0 : BitVec 32 := 0#32
  let v181_r0 : BitVec 32 := Scalar.select v180_r0 c0_i32_136_r0 v179_r0
  let c0_i32_137_r0 : BitVec 32 := 0#32
  let v182_r0 : BitVec 32 := Scalar.addi v181_r0 c0_i32_137_r0
  let c128_i32_161_r0 : BitVec 32 := 128#32
  let v225_r0 : BitVec 32 := Scalar.muli v182_r0 c128_i32_161_r0
  let c0_i32_133_r0 : BitVec 32 := 0#32
  let v177_r0 : BitVec 32 := Scalar.select v176_r0 c0_i32_133_r0 v175_r0
  let v183_r0 : BitVec 32 := Scalar.addi v177_r0 v4
  let v226_r0 : BitVec 32 := Scalar.addi v225_r0 v183_r0
  let c0_i32_163_r0 : BitVec 32 := 0#32
  let v228_r0 : BitVec 1 := Scalar.cmpi .sgt v226_r0 c0_i32_163_r0
  let v229_r0 : BitVec 32 := Scalar.extui v228_r0
  let c0_i32_164_r0 : BitVec 32 := 0#32
  let v230_r0 : BitVec 1 := Scalar.cmpi .slt v226_r0 c0_i32_164_r0
  let v231_r0 : BitVec 32 := Scalar.extui v230_r0
  let v232_r0 : BitVec 32 := Scalar.subi v229_r0 v231_r0
  let c64_i32_162_r0 : BitVec 32 := 64#32
  let c0_i32_165_r0 : BitVec 32 := 0#32
  let v233_r0 : BitVec 1 := Scalar.cmpi .sgt c64_i32_162_r0 c0_i32_165_r0
  let v234_r0 : BitVec 32 := Scalar.extui v233_r0
  let c0_i32_166_r0 : BitVec 32 := 0#32
  let v235_r0 : BitVec 1 := Scalar.cmpi .slt c64_i32_162_r0 c0_i32_166_r0
  let v236_r0 : BitVec 32 := Scalar.extui v235_r0
  let v237_r0 : BitVec 32 := Scalar.subi v234_r0 v236_r0
  let v238_r0 : BitVec 1 := Scalar.cmpi .ne v232_r0 v237_r0
  let v239_r0 : BitVec 32 := Scalar.remsi v226_r0 c64_i32_162_r0
  let c0_i32_167_r0 : BitVec 32 := 0#32
  let v240_r0 : BitVec 1 := Scalar.cmpi .ne v239_r0 c0_i32_167_r0
  let v241_r0 : BitVec 1 := Scalar.andi v238_r0 v240_r0
  let v227_r0 : BitVec 32 := Scalar.divsi v226_r0 c64_i32_162_r0
  let c1_i32_168_r0 : BitVec 32 := 1#32
  let v242_r0 : BitVec 32 := Scalar.subi v227_r0 c1_i32_168_r0
  let v243_r0 : BitVec 32 := Scalar.select v241_r0 v242_r0 v227_r0
  let v256_r0 : BitVec 1 := Scalar.cmpi .ne v212_r0 v243_r0
  let c128_i32_154_r0 : BitVec 32 := 128#32
  let v213_r0 : BitVec 32 := Scalar.muli v162_r0 c128_i32_154_r0
  let v214_r0 : BitVec 32 := Scalar.addi v213_r0 v163_r0
  let c64_i32_155_r0 : BitVec 32 := 64#32
  let c0_i32_156_r0 : BitVec 32 := 0#32
  let v215_r0 : BitVec 1 := Scalar.cmpi .eq c64_i32_155_r0 c0_i32_156_r0
  let c1_i32_157_r0 : BitVec 32 := 1#32
  let v216_r0 : BitVec 32 := Scalar.select v215_r0 c1_i32_157_r0 c64_i32_155_r0
  let v217_r0 : BitVec 32 := Scalar.remsi v214_r0 v216_r0
  let c0_i32_159_r0 : BitVec 32 := 0#32
  let v219_r0 : BitVec 1 := Scalar.cmpi .slt v217_r0 c0_i32_159_r0
  let c0_i32_160_r0 : BitVec 32 := 0#32
  let v220_r0 : BitVec 1 := Scalar.cmpi .slt v216_r0 c0_i32_160_r0
  let v221_r0 : BitVec 1 := Scalar.xori v219_r0 v220_r0
  let c0_i32_158_r0 : BitVec 32 := 0#32
  let v218_r0 : BitVec 1 := Scalar.cmpi .ne v217_r0 c0_i32_158_r0
  let v222_r0 : BitVec 1 := Scalar.andi v221_r0 v218_r0
  let v223_r0 : BitVec 32 := Scalar.addi v217_r0 v216_r0
  let v224_r0 : BitVec 32 := Scalar.select v222_r0 v223_r0 v217_r0
  let c128_i32_169_r0 : BitVec 32 := 128#32
  let v244_r0 : BitVec 32 := Scalar.muli v182_r0 c128_i32_169_r0
  let v245_r0 : BitVec 32 := Scalar.addi v244_r0 v183_r0
  let c64_i32_170_r0 : BitVec 32 := 64#32
  let c0_i32_171_r0 : BitVec 32 := 0#32
  let v246_r0 : BitVec 1 := Scalar.cmpi .eq c64_i32_170_r0 c0_i32_171_r0
  let c1_i32_172_r0 : BitVec 32 := 1#32
  let v247_r0 : BitVec 32 := Scalar.select v246_r0 c1_i32_172_r0 c64_i32_170_r0
  let v248_r0 : BitVec 32 := Scalar.remsi v245_r0 v247_r0
  let c0_i32_174_r0 : BitVec 32 := 0#32
  let v250_r0 : BitVec 1 := Scalar.cmpi .slt v248_r0 c0_i32_174_r0
  let c0_i32_175_r0 : BitVec 32 := 0#32
  let v251_r0 : BitVec 1 := Scalar.cmpi .slt v247_r0 c0_i32_175_r0
  let v252_r0 : BitVec 1 := Scalar.xori v250_r0 v251_r0
  let c0_i32_173_r0 : BitVec 32 := 0#32
  let v249_r0 : BitVec 1 := Scalar.cmpi .ne v248_r0 c0_i32_173_r0
  let v253_r0 : BitVec 1 := Scalar.andi v252_r0 v249_r0
  let v254_r0 : BitVec 32 := Scalar.addi v248_r0 v247_r0
  let v255_r0 : BitVec 32 := Scalar.select v253_r0 v254_r0 v248_r0
  let v257_r0 : BitVec 1 := Scalar.cmpi .ne v224_r0 v255_r0
  let v258_r0 : BitVec 1 := Scalar.ori v256_r0 v257_r0
  let c0_i32_59_r0 : BitVec 32 := 0#32
  let c1_i32_60_r0 : BitVec 32 := 1#32
  let arg5_r0 : BitVec 32 := Scf.iv c0_i32_59_r0 c1_i32_60_r0 k0_t1
  let c7_i32_176_r0 : BitVec 32 := 7#32
  let v259_r0 : BitVec 1 := Scalar.cmpi .sge arg5_r0 c7_i32_176_r0
  let true_177_r0 : BitVec 1 := 1#1
  let v260_r0 : BitVec 1 := Scalar.xori v259_r0 true_177_r0
  let v261_r0 : BitVec 1 := Scalar.andi v258_r0 v260_r0
  let true_178_r0 : BitVec 1 := 1#1
  let v262_r0 : BitVec 1 := Scalar.andi v261_r0 true_178_r0
  let v263_r0 : BitVec 32 := Scalar.extui v262_r0
  let c0_i32_179_r0 : BitVec 32 := 0#32
  let v264_r0 : BitVec 1 := Scalar.cmpi .ne v263_r0 c0_i32_179_r0
  v264_r0

def k0_off5 (i : grid0.Coords) (arg10_r0 : BitVec 32) (arg11_r0 : BitVec 32) : Fin 3 → Nat :=
  let c1_i32_287_r0 : BitVec 32 := 1#32
  let true_131_r0 : BitVec 1 := 1#1
  let c1_i32_130_r0 : BitVec 32 := 1#32
  let v174_r0 : BitVec 32 := Scalar.addi arg11_r0 c1_i32_130_r0
  let v175_r0 : BitVec 32 := Scalar.select true_131_r0 v174_r0 arg11_r0
  let c4_i32_132_r0 : BitVec 32 := 4#32
  let v176_r0 : BitVec 1 := Scalar.cmpi .eq v175_r0 c4_i32_132_r0
  let c1_i32_134_r0 : BitVec 32 := 1#32
  let v178_r0 : BitVec 32 := Scalar.addi arg10_r0 c1_i32_134_r0
  let v179_r0 : BitVec 32 := Scalar.select v176_r0 v178_r0 arg10_r0
  let c2_i32_135_r0 : BitVec 32 := 2#32
  let v180_r0 : BitVec 1 := Scalar.cmpi .eq v179_r0 c2_i32_135_r0
  let c0_i32_136_r0 : BitVec 32 := 0#32
  let v181_r0 : BitVec 32 := Scalar.select v180_r0 c0_i32_136_r0 v179_r0
  let c0_i32_137_r0 : BitVec 32 := 0#32
  let v182_r0 : BitVec 32 := Scalar.addi v181_r0 c0_i32_137_r0
  let c128_i32_272_r0 : BitVec 32 := 128#32
  let v465_r0 : BitVec 32 := Scalar.muli v182_r0 c128_i32_272_r0
  let c0_i32_133_r0 : BitVec 32 := 0#32
  let v177_r0 : BitVec 32 := Scalar.select v176_r0 c0_i32_133_r0 v175_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v183_r0 : BitVec 32 := Scalar.addi v177_r0 v4
  let v466_r0 : BitVec 32 := Scalar.addi v465_r0 v183_r0
  let c0_i32_274_r0 : BitVec 32 := 0#32
  let v468_r0 : BitVec 1 := Scalar.cmpi .sgt v466_r0 c0_i32_274_r0
  let v469_r0 : BitVec 32 := Scalar.extui v468_r0
  let c0_i32_275_r0 : BitVec 32 := 0#32
  let v470_r0 : BitVec 1 := Scalar.cmpi .slt v466_r0 c0_i32_275_r0
  let v471_r0 : BitVec 32 := Scalar.extui v470_r0
  let v472_r0 : BitVec 32 := Scalar.subi v469_r0 v471_r0
  let c64_i32_273_r0 : BitVec 32 := 64#32
  let c0_i32_276_r0 : BitVec 32 := 0#32
  let v473_r0 : BitVec 1 := Scalar.cmpi .sgt c64_i32_273_r0 c0_i32_276_r0
  let v474_r0 : BitVec 32 := Scalar.extui v473_r0
  let c0_i32_277_r0 : BitVec 32 := 0#32
  let v475_r0 : BitVec 1 := Scalar.cmpi .slt c64_i32_273_r0 c0_i32_277_r0
  let v476_r0 : BitVec 32 := Scalar.extui v475_r0
  let v477_r0 : BitVec 32 := Scalar.subi v474_r0 v476_r0
  let v478_r0 : BitVec 1 := Scalar.cmpi .ne v472_r0 v477_r0
  let v479_r0 : BitVec 32 := Scalar.remsi v466_r0 c64_i32_273_r0
  let c0_i32_278_r0 : BitVec 32 := 0#32
  let v480_r0 : BitVec 1 := Scalar.cmpi .ne v479_r0 c0_i32_278_r0
  let v481_r0 : BitVec 1 := Scalar.andi v478_r0 v480_r0
  let v467_r0 : BitVec 32 := Scalar.divsi v466_r0 c64_i32_273_r0
  let c1_i32_279_r0 : BitVec 32 := 1#32
  let v482_r0 : BitVec 32 := Scalar.subi v467_r0 c1_i32_279_r0
  let v483_r0 : BitVec 32 := Scalar.select v481_r0 v482_r0 v467_r0
  let v496_r0 : BitVec 32 := Scalar.muli c1_i32_287_r0 v483_r0
  let c1_i32_288_r0 : BitVec 32 := 1#32
  let c128_i32_280_r0 : BitVec 32 := 128#32
  let v484_r0 : BitVec 32 := Scalar.muli v182_r0 c128_i32_280_r0
  let v485_r0 : BitVec 32 := Scalar.addi v484_r0 v183_r0
  let c64_i32_281_r0 : BitVec 32 := 64#32
  let c0_i32_282_r0 : BitVec 32 := 0#32
  let v486_r0 : BitVec 1 := Scalar.cmpi .eq c64_i32_281_r0 c0_i32_282_r0
  let c1_i32_283_r0 : BitVec 32 := 1#32
  let v487_r0 : BitVec 32 := Scalar.select v486_r0 c1_i32_283_r0 c64_i32_281_r0
  let v488_r0 : BitVec 32 := Scalar.remsi v485_r0 v487_r0
  let c0_i32_285_r0 : BitVec 32 := 0#32
  let v490_r0 : BitVec 1 := Scalar.cmpi .slt v488_r0 c0_i32_285_r0
  let c0_i32_286_r0 : BitVec 32 := 0#32
  let v491_r0 : BitVec 1 := Scalar.cmpi .slt v487_r0 c0_i32_286_r0
  let v492_r0 : BitVec 1 := Scalar.xori v490_r0 v491_r0
  let c0_i32_284_r0 : BitVec 32 := 0#32
  let v489_r0 : BitVec 1 := Scalar.cmpi .ne v488_r0 c0_i32_284_r0
  let v493_r0 : BitVec 1 := Scalar.andi v492_r0 v489_r0
  let v494_r0 : BitVec 32 := Scalar.addi v488_r0 v487_r0
  let v495_r0 : BitVec 32 := Scalar.select v493_r0 v494_r0 v488_r0
  let v497_r0 : BitVec 32 := Scalar.muli c1_i32_288_r0 v495_r0
  let c0_i32_292_r0 : BitVec 32 := 0#32
  ![v496_r0.toNat, v497_r0.toNat, 0]
def k0_off6 (arg6_r0 : BitVec 32) : Fin 1 → Nat :=
  let c2_i32_271_r0 : BitVec 32 := 2#32
  let v464_r0 : BitVec 32 := Scalar.remui arg6_r0 c2_i32_271_r0
  ![v464_r0.toNat]
def k0_off7 (arg7_r0 : BitVec 32) : Fin 4 → Nat :=
  let c2_i32_288_r0 : BitVec 32 := 2#32
  let v497_r0 : BitVec 32 := Scalar.remui arg7_r0 c2_i32_288_r0
  let c0_i32_289_r0 : BitVec 32 := 0#32
  let c0_i32_290_r0 : BitVec 32 := 0#32
  let c0_i32_291_r0 : BitVec 32 := 0#32
  ![v497_r0.toNat, 0, 0, 0]
def k0_cond2 (i : grid0.Coords) (k0_t1 : Fin k0_t1_loop.trips) (arg10_r0 : BitVec 32) (arg11_r0 : BitVec 32) : BitVec 1 :=
  let c0_i32_121_r0 : BitVec 32 := 0#32
  let v162_r0 : BitVec 32 := Scalar.addi arg10_r0 c0_i32_121_r0
  let c128_i32_146_r0 : BitVec 32 := 128#32
  let v194_r0 : BitVec 32 := Scalar.muli v162_r0 c128_i32_146_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v163_r0 : BitVec 32 := Scalar.addi arg11_r0 v4
  let v195_r0 : BitVec 32 := Scalar.addi v194_r0 v163_r0
  let c0_i32_148_r0 : BitVec 32 := 0#32
  let v197_r0 : BitVec 1 := Scalar.cmpi .sgt v195_r0 c0_i32_148_r0
  let v198_r0 : BitVec 32 := Scalar.extui v197_r0
  let c0_i32_149_r0 : BitVec 32 := 0#32
  let v199_r0 : BitVec 1 := Scalar.cmpi .slt v195_r0 c0_i32_149_r0
  let v200_r0 : BitVec 32 := Scalar.extui v199_r0
  let v201_r0 : BitVec 32 := Scalar.subi v198_r0 v200_r0
  let c64_i32_147_r0 : BitVec 32 := 64#32
  let c0_i32_150_r0 : BitVec 32 := 0#32
  let v202_r0 : BitVec 1 := Scalar.cmpi .sgt c64_i32_147_r0 c0_i32_150_r0
  let v203_r0 : BitVec 32 := Scalar.extui v202_r0
  let c0_i32_151_r0 : BitVec 32 := 0#32
  let v204_r0 : BitVec 1 := Scalar.cmpi .slt c64_i32_147_r0 c0_i32_151_r0
  let v205_r0 : BitVec 32 := Scalar.extui v204_r0
  let v206_r0 : BitVec 32 := Scalar.subi v203_r0 v205_r0
  let v207_r0 : BitVec 1 := Scalar.cmpi .ne v201_r0 v206_r0
  let v208_r0 : BitVec 32 := Scalar.remsi v195_r0 c64_i32_147_r0
  let c0_i32_152_r0 : BitVec 32 := 0#32
  let v209_r0 : BitVec 1 := Scalar.cmpi .ne v208_r0 c0_i32_152_r0
  let v210_r0 : BitVec 1 := Scalar.andi v207_r0 v209_r0
  let v196_r0 : BitVec 32 := Scalar.divsi v195_r0 c64_i32_147_r0
  let c1_i32_153_r0 : BitVec 32 := 1#32
  let v211_r0 : BitVec 32 := Scalar.subi v196_r0 c1_i32_153_r0
  let v212_r0 : BitVec 32 := Scalar.select v210_r0 v211_r0 v196_r0
  let true_123_r0 : BitVec 1 := 1#1
  let c1_i32_122_r0 : BitVec 32 := 1#32
  let v164_r0 : BitVec 32 := Scalar.subi arg11_r0 c1_i32_122_r0
  let v165_r0 : BitVec 32 := Scalar.select true_123_r0 v164_r0 arg11_r0
  let c_m1_i32_124_r0 : BitVec 32 := 4294967295#32
  let v166_r0 : BitVec 1 := Scalar.cmpi .eq v165_r0 c_m1_i32_124_r0
  let c1_i32_126_r0 : BitVec 32 := 1#32
  let v168_r0 : BitVec 32 := Scalar.subi arg10_r0 c1_i32_126_r0
  let v169_r0 : BitVec 32 := Scalar.select v166_r0 v168_r0 arg10_r0
  let c_m1_i32_127_r0 : BitVec 32 := 4294967295#32
  let v170_r0 : BitVec 1 := Scalar.cmpi .eq v169_r0 c_m1_i32_127_r0
  let c1_i32_128_r0 : BitVec 32 := 1#32
  let v171_r0 : BitVec 32 := Scalar.select v170_r0 c1_i32_128_r0 v169_r0
  let c0_i32_129_r0 : BitVec 32 := 0#32
  let v172_r0 : BitVec 32 := Scalar.addi v171_r0 c0_i32_129_r0
  let c128_i32_214_r0 : BitVec 32 := 128#32
  let v336_r0 : BitVec 32 := Scalar.muli v172_r0 c128_i32_214_r0
  let c3_i32_125_r0 : BitVec 32 := 3#32
  let v167_r0 : BitVec 32 := Scalar.select v166_r0 c3_i32_125_r0 v165_r0
  let v173_r0 : BitVec 32 := Scalar.addi v167_r0 v4
  let v337_r0 : BitVec 32 := Scalar.addi v336_r0 v173_r0
  let c0_i32_216_r0 : BitVec 32 := 0#32
  let v339_r0 : BitVec 1 := Scalar.cmpi .sgt v337_r0 c0_i32_216_r0
  let v340_r0 : BitVec 32 := Scalar.extui v339_r0
  let c0_i32_217_r0 : BitVec 32 := 0#32
  let v341_r0 : BitVec 1 := Scalar.cmpi .slt v337_r0 c0_i32_217_r0
  let v342_r0 : BitVec 32 := Scalar.extui v341_r0
  let v343_r0 : BitVec 32 := Scalar.subi v340_r0 v342_r0
  let c64_i32_215_r0 : BitVec 32 := 64#32
  let c0_i32_218_r0 : BitVec 32 := 0#32
  let v344_r0 : BitVec 1 := Scalar.cmpi .sgt c64_i32_215_r0 c0_i32_218_r0
  let v345_r0 : BitVec 32 := Scalar.extui v344_r0
  let c0_i32_219_r0 : BitVec 32 := 0#32
  let v346_r0 : BitVec 1 := Scalar.cmpi .slt c64_i32_215_r0 c0_i32_219_r0
  let v347_r0 : BitVec 32 := Scalar.extui v346_r0
  let v348_r0 : BitVec 32 := Scalar.subi v345_r0 v347_r0
  let v349_r0 : BitVec 1 := Scalar.cmpi .ne v343_r0 v348_r0
  let v350_r0 : BitVec 32 := Scalar.remsi v337_r0 c64_i32_215_r0
  let c0_i32_220_r0 : BitVec 32 := 0#32
  let v351_r0 : BitVec 1 := Scalar.cmpi .ne v350_r0 c0_i32_220_r0
  let v352_r0 : BitVec 1 := Scalar.andi v349_r0 v351_r0
  let v338_r0 : BitVec 32 := Scalar.divsi v337_r0 c64_i32_215_r0
  let c1_i32_221_r0 : BitVec 32 := 1#32
  let v353_r0 : BitVec 32 := Scalar.subi v338_r0 c1_i32_221_r0
  let v354_r0 : BitVec 32 := Scalar.select v352_r0 v353_r0 v338_r0
  let v367_r0 : BitVec 1 := Scalar.cmpi .ne v212_r0 v354_r0
  let c128_i32_154_r0 : BitVec 32 := 128#32
  let v213_r0 : BitVec 32 := Scalar.muli v162_r0 c128_i32_154_r0
  let v214_r0 : BitVec 32 := Scalar.addi v213_r0 v163_r0
  let c64_i32_155_r0 : BitVec 32 := 64#32
  let c0_i32_156_r0 : BitVec 32 := 0#32
  let v215_r0 : BitVec 1 := Scalar.cmpi .eq c64_i32_155_r0 c0_i32_156_r0
  let c1_i32_157_r0 : BitVec 32 := 1#32
  let v216_r0 : BitVec 32 := Scalar.select v215_r0 c1_i32_157_r0 c64_i32_155_r0
  let v217_r0 : BitVec 32 := Scalar.remsi v214_r0 v216_r0
  let c0_i32_159_r0 : BitVec 32 := 0#32
  let v219_r0 : BitVec 1 := Scalar.cmpi .slt v217_r0 c0_i32_159_r0
  let c0_i32_160_r0 : BitVec 32 := 0#32
  let v220_r0 : BitVec 1 := Scalar.cmpi .slt v216_r0 c0_i32_160_r0
  let v221_r0 : BitVec 1 := Scalar.xori v219_r0 v220_r0
  let c0_i32_158_r0 : BitVec 32 := 0#32
  let v218_r0 : BitVec 1 := Scalar.cmpi .ne v217_r0 c0_i32_158_r0
  let v222_r0 : BitVec 1 := Scalar.andi v221_r0 v218_r0
  let v223_r0 : BitVec 32 := Scalar.addi v217_r0 v216_r0
  let v224_r0 : BitVec 32 := Scalar.select v222_r0 v223_r0 v217_r0
  let c128_i32_222_r0 : BitVec 32 := 128#32
  let v355_r0 : BitVec 32 := Scalar.muli v172_r0 c128_i32_222_r0
  let v356_r0 : BitVec 32 := Scalar.addi v355_r0 v173_r0
  let c64_i32_223_r0 : BitVec 32 := 64#32
  let c0_i32_224_r0 : BitVec 32 := 0#32
  let v357_r0 : BitVec 1 := Scalar.cmpi .eq c64_i32_223_r0 c0_i32_224_r0
  let c1_i32_225_r0 : BitVec 32 := 1#32
  let v358_r0 : BitVec 32 := Scalar.select v357_r0 c1_i32_225_r0 c64_i32_223_r0
  let v359_r0 : BitVec 32 := Scalar.remsi v356_r0 v358_r0
  let c0_i32_227_r0 : BitVec 32 := 0#32
  let v361_r0 : BitVec 1 := Scalar.cmpi .slt v359_r0 c0_i32_227_r0
  let c0_i32_228_r0 : BitVec 32 := 0#32
  let v362_r0 : BitVec 1 := Scalar.cmpi .slt v358_r0 c0_i32_228_r0
  let v363_r0 : BitVec 1 := Scalar.xori v361_r0 v362_r0
  let c0_i32_226_r0 : BitVec 32 := 0#32
  let v360_r0 : BitVec 1 := Scalar.cmpi .ne v359_r0 c0_i32_226_r0
  let v364_r0 : BitVec 1 := Scalar.andi v363_r0 v360_r0
  let v365_r0 : BitVec 32 := Scalar.addi v359_r0 v358_r0
  let v366_r0 : BitVec 32 := Scalar.select v364_r0 v365_r0 v359_r0
  let v368_r0 : BitVec 1 := Scalar.cmpi .ne v224_r0 v366_r0
  let v369_r0 : BitVec 1 := Scalar.ori v367_r0 v368_r0
  let c0_i32_59_r0 : BitVec 32 := 0#32
  let c1_i32_60_r0 : BitVec 32 := 1#32
  let arg5_r0 : BitVec 32 := Scf.iv c0_i32_59_r0 c1_i32_60_r0 k0_t1
  let c0_i32_120_r0 : BitVec 32 := 0#32
  let v160_r0 : BitVec 1 := Scalar.cmpi .eq arg5_r0 c0_i32_120_r0
  let v370_r0 : BitVec 1 := Scalar.ori v369_r0 v160_r0
  let c0_i32_229_r0 : BitVec 32 := 0#32
  let v371_r0 : BitVec 1 := Scalar.cmpi .sge arg5_r0 c0_i32_229_r0
  let v372_r0 : BitVec 1 := Scalar.andi v370_r0 v371_r0
  let v373_r0 : BitVec 32 := Scalar.extui v372_r0
  let c0_i32_230_r0 : BitVec 32 := 0#32
  let v374_r0 : BitVec 1 := Scalar.cmpi .ne v373_r0 c0_i32_230_r0
  v374_r0

def k0_off8 (i : grid0.Coords) (arg10_r0 : BitVec 32) (arg11_r0 : BitVec 32) : Fin 3 → Nat :=
  let c1_i32_286_r0 : BitVec 32 := 1#32
  let c0_i32_121_r0 : BitVec 32 := 0#32
  let v162_r0 : BitVec 32 := Scalar.addi arg10_r0 c0_i32_121_r0
  let c128_i32_271_r0 : BitVec 32 := 128#32
  let v464_r0 : BitVec 32 := Scalar.muli v162_r0 c128_i32_271_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v163_r0 : BitVec 32 := Scalar.addi arg11_r0 v4
  let v465_r0 : BitVec 32 := Scalar.addi v464_r0 v163_r0
  let c0_i32_273_r0 : BitVec 32 := 0#32
  let v467_r0 : BitVec 1 := Scalar.cmpi .sgt v465_r0 c0_i32_273_r0
  let v468_r0 : BitVec 32 := Scalar.extui v467_r0
  let c0_i32_274_r0 : BitVec 32 := 0#32
  let v469_r0 : BitVec 1 := Scalar.cmpi .slt v465_r0 c0_i32_274_r0
  let v470_r0 : BitVec 32 := Scalar.extui v469_r0
  let v471_r0 : BitVec 32 := Scalar.subi v468_r0 v470_r0
  let c64_i32_272_r0 : BitVec 32 := 64#32
  let c0_i32_275_r0 : BitVec 32 := 0#32
  let v472_r0 : BitVec 1 := Scalar.cmpi .sgt c64_i32_272_r0 c0_i32_275_r0
  let v473_r0 : BitVec 32 := Scalar.extui v472_r0
  let c0_i32_276_r0 : BitVec 32 := 0#32
  let v474_r0 : BitVec 1 := Scalar.cmpi .slt c64_i32_272_r0 c0_i32_276_r0
  let v475_r0 : BitVec 32 := Scalar.extui v474_r0
  let v476_r0 : BitVec 32 := Scalar.subi v473_r0 v475_r0
  let v477_r0 : BitVec 1 := Scalar.cmpi .ne v471_r0 v476_r0
  let v478_r0 : BitVec 32 := Scalar.remsi v465_r0 c64_i32_272_r0
  let c0_i32_277_r0 : BitVec 32 := 0#32
  let v479_r0 : BitVec 1 := Scalar.cmpi .ne v478_r0 c0_i32_277_r0
  let v480_r0 : BitVec 1 := Scalar.andi v477_r0 v479_r0
  let v466_r0 : BitVec 32 := Scalar.divsi v465_r0 c64_i32_272_r0
  let c1_i32_278_r0 : BitVec 32 := 1#32
  let v481_r0 : BitVec 32 := Scalar.subi v466_r0 c1_i32_278_r0
  let v482_r0 : BitVec 32 := Scalar.select v480_r0 v481_r0 v466_r0
  let v495_r0 : BitVec 32 := Scalar.muli c1_i32_286_r0 v482_r0
  let c1_i32_287_r0 : BitVec 32 := 1#32
  let c128_i32_279_r0 : BitVec 32 := 128#32
  let v483_r0 : BitVec 32 := Scalar.muli v162_r0 c128_i32_279_r0
  let v484_r0 : BitVec 32 := Scalar.addi v483_r0 v163_r0
  let c64_i32_280_r0 : BitVec 32 := 64#32
  let c0_i32_281_r0 : BitVec 32 := 0#32
  let v485_r0 : BitVec 1 := Scalar.cmpi .eq c64_i32_280_r0 c0_i32_281_r0
  let c1_i32_282_r0 : BitVec 32 := 1#32
  let v486_r0 : BitVec 32 := Scalar.select v485_r0 c1_i32_282_r0 c64_i32_280_r0
  let v487_r0 : BitVec 32 := Scalar.remsi v484_r0 v486_r0
  let c0_i32_284_r0 : BitVec 32 := 0#32
  let v489_r0 : BitVec 1 := Scalar.cmpi .slt v487_r0 c0_i32_284_r0
  let c0_i32_285_r0 : BitVec 32 := 0#32
  let v490_r0 : BitVec 1 := Scalar.cmpi .slt v486_r0 c0_i32_285_r0
  let v491_r0 : BitVec 1 := Scalar.xori v489_r0 v490_r0
  let c0_i32_283_r0 : BitVec 32 := 0#32
  let v488_r0 : BitVec 1 := Scalar.cmpi .ne v487_r0 c0_i32_283_r0
  let v492_r0 : BitVec 1 := Scalar.andi v491_r0 v488_r0
  let v493_r0 : BitVec 32 := Scalar.addi v487_r0 v486_r0
  let v494_r0 : BitVec 32 := Scalar.select v492_r0 v493_r0 v487_r0
  let v496_r0 : BitVec 32 := Scalar.muli c1_i32_287_r0 v494_r0
  let c0_i32_292_r0 : BitVec 32 := 0#32
  ![v495_r0.toNat, v496_r0.toNat, 0]
def k0_off9 (arg7_r0 : BitVec 32) : Fin 1 → Nat :=
  let c2_i32_288_r0 : BitVec 32 := 2#32
  let v497_r0 : BitVec 32 := Scalar.remui arg7_r0 c2_i32_288_r0
  ![v497_r0.toNat]
def k0_off10 (arg8_r0 : BitVec 32) : Fin 4 → Nat :=
  let c2_i32_249_r0 : BitVec 32 := 2#32
  let v415_r0 : BitVec 32 := Scalar.remui arg8_r0 c2_i32_249_r0
  let c0_i32_271_r1 : BitVec 32 := 0#32
  let c0_i32_272_r1 : BitVec 32 := 0#32
  let c0_i32_273_r1 : BitVec 32 := 0#32
  ![v415_r0.toNat, 0, 0, 0]

def k0_chk2 (arg8_r0 : BitVec 32) : Prop :=
  (∀ a, (k0_off10 arg8_r0) a + S1x128x2x128.size a ≤ S2x128x2x128.size a)
theorem k0_off10_inb : ∀ (arg8_r0 : BitVec 32) (k0_hw2 : k0_chk2 arg8_r0), ∀ a, (k0_off10 arg8_r0) a + S1x128x2x128.size a ≤ S2x128x2x128.size a := fun arg8_r0 k0_hw2 => k0_hw2

def k0_off11 (arg7_r0 : BitVec 32) : Fin 4 → Nat :=
  let c2_i32_248_r0 : BitVec 32 := 2#32
  let v414_r0 : BitVec 32 := Scalar.remui arg7_r0 c2_i32_248_r0
  let c0_i32_274_r1 : BitVec 32 := 0#32
  let c0_i32_275_r1 : BitVec 32 := 0#32
  let c0_i32_276_r1 : BitVec 32 := 0#32
  ![v414_r0.toNat, 0, 0, 0]

def k0_chk3 (arg7_r0 : BitVec 32) : Prop :=
  (∀ a, (k0_off11 arg7_r0) a + S1x1x1x128.size a ≤ S2x1x1x128.size a)
theorem k0_off11_inb : ∀ (arg7_r0 : BitVec 32) (k0_hw3 : k0_chk3 arg7_r0), ∀ a, (k0_off11 arg7_r0) a + S1x1x1x128.size a ≤ S2x1x1x128.size a := fun arg7_r0 k0_hw3 => k0_hw3

def k0_off12 (arg8_r0 : BitVec 32) : Fin 4 → Nat :=
  let c2_i32_271_r0 : BitVec 32 := 2#32
  let v464_r0 : BitVec 32 := Scalar.remui arg8_r0 c2_i32_271_r0
  let c0_i32_288_r0 : BitVec 32 := 0#32
  let c0_i32_289_r0 : BitVec 32 := 0#32
  let c0_i32_290_r0 : BitVec 32 := 0#32
  ![v464_r0.toNat, 0, 0, 0]
def k0_cond5 (i : grid0.Coords) (k0_t1 : Fin k0_t1_loop.trips) (arg10_r0 : BitVec 32) (arg11_r0 : BitVec 32) : BitVec 1 :=
  let c0_i32_121_r0 : BitVec 32 := 0#32
  let v162_r0 : BitVec 32 := Scalar.addi arg10_r0 c0_i32_121_r0
  let c128_i32_182_r0 : BitVec 32 := 128#32
  let v268_r0 : BitVec 32 := Scalar.muli v162_r0 c128_i32_182_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v163_r0 : BitVec 32 := Scalar.addi arg11_r0 v4
  let v269_r0 : BitVec 32 := Scalar.addi v268_r0 v163_r0
  let c64_i32_183_r0 : BitVec 32 := 64#32
  let c0_i32_184_r0 : BitVec 32 := 0#32
  let v270_r0 : BitVec 1 := Scalar.cmpi .eq c64_i32_183_r0 c0_i32_184_r0
  let c1_i32_185_r0 : BitVec 32 := 1#32
  let v271_r0 : BitVec 32 := Scalar.select v270_r0 c1_i32_185_r0 c64_i32_183_r0
  let v272_r0 : BitVec 32 := Scalar.remsi v269_r0 v271_r0
  let c0_i32_187_r0 : BitVec 32 := 0#32
  let v274_r0 : BitVec 1 := Scalar.cmpi .slt v272_r0 c0_i32_187_r0
  let c0_i32_188_r0 : BitVec 32 := 0#32
  let v275_r0 : BitVec 1 := Scalar.cmpi .slt v271_r0 c0_i32_188_r0
  let v276_r0 : BitVec 1 := Scalar.xori v274_r0 v275_r0
  let c0_i32_186_r0 : BitVec 32 := 0#32
  let v273_r0 : BitVec 1 := Scalar.cmpi .ne v272_r0 c0_i32_186_r0
  let v277_r0 : BitVec 1 := Scalar.andi v276_r0 v273_r0
  let v278_r0 : BitVec 32 := Scalar.addi v272_r0 v271_r0
  let v279_r0 : BitVec 32 := Scalar.select v277_r0 v278_r0 v272_r0
  let true_131_r0 : BitVec 1 := 1#1
  let c1_i32_130_r0 : BitVec 32 := 1#32
  let v174_r0 : BitVec 32 := Scalar.addi arg11_r0 c1_i32_130_r0
  let v175_r0 : BitVec 32 := Scalar.select true_131_r0 v174_r0 arg11_r0
  let c4_i32_132_r0 : BitVec 32 := 4#32
  let v176_r0 : BitVec 1 := Scalar.cmpi .eq v175_r0 c4_i32_132_r0
  let c1_i32_134_r0 : BitVec 32 := 1#32
  let v178_r0 : BitVec 32 := Scalar.addi arg10_r0 c1_i32_134_r0
  let v179_r0 : BitVec 32 := Scalar.select v176_r0 v178_r0 arg10_r0
  let c2_i32_135_r0 : BitVec 32 := 2#32
  let v180_r0 : BitVec 1 := Scalar.cmpi .eq v179_r0 c2_i32_135_r0
  let c0_i32_136_r0 : BitVec 32 := 0#32
  let v181_r0 : BitVec 32 := Scalar.select v180_r0 c0_i32_136_r0 v179_r0
  let c0_i32_137_r0 : BitVec 32 := 0#32
  let v182_r0 : BitVec 32 := Scalar.addi v181_r0 c0_i32_137_r0
  let c128_i32_197_r0 : BitVec 32 := 128#32
  let v299_r0 : BitVec 32 := Scalar.muli v182_r0 c128_i32_197_r0
  let c0_i32_133_r0 : BitVec 32 := 0#32
  let v177_r0 : BitVec 32 := Scalar.select v176_r0 c0_i32_133_r0 v175_r0
  let v183_r0 : BitVec 32 := Scalar.addi v177_r0 v4
  let v300_r0 : BitVec 32 := Scalar.addi v299_r0 v183_r0
  let c64_i32_198_r0 : BitVec 32 := 64#32
  let c0_i32_199_r0 : BitVec 32 := 0#32
  let v301_r0 : BitVec 1 := Scalar.cmpi .eq c64_i32_198_r0 c0_i32_199_r0
  let c1_i32_200_r0 : BitVec 32 := 1#32
  let v302_r0 : BitVec 32 := Scalar.select v301_r0 c1_i32_200_r0 c64_i32_198_r0
  let v303_r0 : BitVec 32 := Scalar.remsi v300_r0 v302_r0
  let c0_i32_202_r0 : BitVec 32 := 0#32
  let v305_r0 : BitVec 1 := Scalar.cmpi .slt v303_r0 c0_i32_202_r0
  let c0_i32_203_r0 : BitVec 32 := 0#32
  let v306_r0 : BitVec 1 := Scalar.cmpi .slt v302_r0 c0_i32_203_r0
  let v307_r0 : BitVec 1 := Scalar.xori v305_r0 v306_r0
  let c0_i32_201_r0 : BitVec 32 := 0#32
  let v304_r0 : BitVec 1 := Scalar.cmpi .ne v303_r0 c0_i32_201_r0
  let v308_r0 : BitVec 1 := Scalar.andi v307_r0 v304_r0
  let v309_r0 : BitVec 32 := Scalar.addi v303_r0 v302_r0
  let v310_r0 : BitVec 32 := Scalar.select v308_r0 v309_r0 v303_r0
  let v423_r0 : BitVec 1 := Scalar.cmpi .ne v279_r0 v310_r0
  let c128_i32_189_r0 : BitVec 32 := 128#32
  let v280_r0 : BitVec 32 := Scalar.muli v162_r0 c128_i32_189_r0
  let v281_r0 : BitVec 32 := Scalar.addi v280_r0 v163_r0
  let c0_i32_191_r0 : BitVec 32 := 0#32
  let v283_r0 : BitVec 1 := Scalar.cmpi .sgt v281_r0 c0_i32_191_r0
  let v284_r0 : BitVec 32 := Scalar.extui v283_r0
  let c0_i32_192_r0 : BitVec 32 := 0#32
  let v285_r0 : BitVec 1 := Scalar.cmpi .slt v281_r0 c0_i32_192_r0
  let v286_r0 : BitVec 32 := Scalar.extui v285_r0
  let v287_r0 : BitVec 32 := Scalar.subi v284_r0 v286_r0
  let c64_i32_190_r0 : BitVec 32 := 64#32
  let c0_i32_193_r0 : BitVec 32 := 0#32
  let v288_r0 : BitVec 1 := Scalar.cmpi .sgt c64_i32_190_r0 c0_i32_193_r0
  let v289_r0 : BitVec 32 := Scalar.extui v288_r0
  let c0_i32_194_r0 : BitVec 32 := 0#32
  let v290_r0 : BitVec 1 := Scalar.cmpi .slt c64_i32_190_r0 c0_i32_194_r0
  let v291_r0 : BitVec 32 := Scalar.extui v290_r0
  let v292_r0 : BitVec 32 := Scalar.subi v289_r0 v291_r0
  let v293_r0 : BitVec 1 := Scalar.cmpi .ne v287_r0 v292_r0
  let v294_r0 : BitVec 32 := Scalar.remsi v281_r0 c64_i32_190_r0
  let c0_i32_195_r0 : BitVec 32 := 0#32
  let v295_r0 : BitVec 1 := Scalar.cmpi .ne v294_r0 c0_i32_195_r0
  let v296_r0 : BitVec 1 := Scalar.andi v293_r0 v295_r0
  let v282_r0 : BitVec 32 := Scalar.divsi v281_r0 c64_i32_190_r0
  let c1_i32_196_r0 : BitVec 32 := 1#32
  let v297_r0 : BitVec 32 := Scalar.subi v282_r0 c1_i32_196_r0
  let v298_r0 : BitVec 32 := Scalar.select v296_r0 v297_r0 v282_r0
  let c128_i32_204_r0 : BitVec 32 := 128#32
  let v311_r0 : BitVec 32 := Scalar.muli v182_r0 c128_i32_204_r0
  let v312_r0 : BitVec 32 := Scalar.addi v311_r0 v183_r0
  let c0_i32_206_r0 : BitVec 32 := 0#32
  let v314_r0 : BitVec 1 := Scalar.cmpi .sgt v312_r0 c0_i32_206_r0
  let v315_r0 : BitVec 32 := Scalar.extui v314_r0
  let c0_i32_207_r0 : BitVec 32 := 0#32
  let v316_r0 : BitVec 1 := Scalar.cmpi .slt v312_r0 c0_i32_207_r0
  let v317_r0 : BitVec 32 := Scalar.extui v316_r0
  let v318_r0 : BitVec 32 := Scalar.subi v315_r0 v317_r0
  let c64_i32_205_r0 : BitVec 32 := 64#32
  let c0_i32_208_r0 : BitVec 32 := 0#32
  let v319_r0 : BitVec 1 := Scalar.cmpi .sgt c64_i32_205_r0 c0_i32_208_r0
  let v320_r0 : BitVec 32 := Scalar.extui v319_r0
  let c0_i32_209_r0 : BitVec 32 := 0#32
  let v321_r0 : BitVec 1 := Scalar.cmpi .slt c64_i32_205_r0 c0_i32_209_r0
  let v322_r0 : BitVec 32 := Scalar.extui v321_r0
  let v323_r0 : BitVec 32 := Scalar.subi v320_r0 v322_r0
  let v324_r0 : BitVec 1 := Scalar.cmpi .ne v318_r0 v323_r0
  let v325_r0 : BitVec 32 := Scalar.remsi v312_r0 c64_i32_205_r0
  let c0_i32_210_r0 : BitVec 32 := 0#32
  let v326_r0 : BitVec 1 := Scalar.cmpi .ne v325_r0 c0_i32_210_r0
  let v327_r0 : BitVec 1 := Scalar.andi v324_r0 v326_r0
  let v313_r0 : BitVec 32 := Scalar.divsi v312_r0 c64_i32_205_r0
  let c1_i32_211_r0 : BitVec 32 := 1#32
  let v328_r0 : BitVec 32 := Scalar.subi v313_r0 c1_i32_211_r0
  let v329_r0 : BitVec 32 := Scalar.select v327_r0 v328_r0 v313_r0
  let v424_r0 : BitVec 1 := Scalar.cmpi .ne v298_r0 v329_r0
  let v425_r0 : BitVec 1 := Scalar.ori v423_r0 v424_r0
  let c0_i32_59_r0 : BitVec 32 := 0#32
  let c1_i32_60_r0 : BitVec 32 := 1#32
  let arg5_r0 : BitVec 32 := Scf.iv c0_i32_59_r0 c1_i32_60_r0 k0_t1
  let c7_i32_r0 : BitVec 32 := 7#32
  let v161_r0 : BitVec 1 := Scalar.cmpi .eq arg5_r0 c7_i32_r0
  let v426_r0 : BitVec 1 := Scalar.ori v425_r0 v161_r0
  let v427_r0 : BitVec 32 := Scalar.extui v426_r0
  let c0_i32_253_r0 : BitVec 32 := 0#32
  let v428_r0 : BitVec 1 := Scalar.cmpi .ne v427_r0 c0_i32_253_r0
  v428_r0

def k0_off13 (i : grid0.Coords) (arg10_r0 : BitVec 32) (arg11_r0 : BitVec 32) : Fin 4 → Nat :=
  let c128_i32_287_r0 : BitVec 32 := 128#32
  let c0_i32_121_r0 : BitVec 32 := 0#32
  let v162_r0 : BitVec 32 := Scalar.addi arg10_r0 c0_i32_121_r0
  let c128_i32_272_r0 : BitVec 32 := 128#32
  let v465_r0 : BitVec 32 := Scalar.muli v162_r0 c128_i32_272_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v163_r0 : BitVec 32 := Scalar.addi arg11_r0 v4
  let v466_r0 : BitVec 32 := Scalar.addi v465_r0 v163_r0
  let c64_i32_273_r0 : BitVec 32 := 64#32
  let c0_i32_274_r0 : BitVec 32 := 0#32
  let v467_r0 : BitVec 1 := Scalar.cmpi .eq c64_i32_273_r0 c0_i32_274_r0
  let c1_i32_275_r0 : BitVec 32 := 1#32
  let v468_r0 : BitVec 32 := Scalar.select v467_r0 c1_i32_275_r0 c64_i32_273_r0
  let v469_r0 : BitVec 32 := Scalar.remsi v466_r0 v468_r0
  let c0_i32_277_r0 : BitVec 32 := 0#32
  let v471_r0 : BitVec 1 := Scalar.cmpi .slt v469_r0 c0_i32_277_r0
  let c0_i32_278_r0 : BitVec 32 := 0#32
  let v472_r0 : BitVec 1 := Scalar.cmpi .slt v468_r0 c0_i32_278_r0
  let v473_r0 : BitVec 1 := Scalar.xori v471_r0 v472_r0
  let c0_i32_276_r0 : BitVec 32 := 0#32
  let v470_r0 : BitVec 1 := Scalar.cmpi .ne v469_r0 c0_i32_276_r0
  let v474_r0 : BitVec 1 := Scalar.andi v473_r0 v470_r0
  let v475_r0 : BitVec 32 := Scalar.addi v469_r0 v468_r0
  let v476_r0 : BitVec 32 := Scalar.select v474_r0 v475_r0 v469_r0
  let v496_r0 : BitVec 32 := Scalar.muli c128_i32_287_r0 v476_r0
  let c128_i32_279_r0 : BitVec 32 := 128#32
  let v477_r0 : BitVec 32 := Scalar.muli v162_r0 c128_i32_279_r0
  let v478_r0 : BitVec 32 := Scalar.addi v477_r0 v163_r0
  let c0_i32_281_r0 : BitVec 32 := 0#32
  let v480_r0 : BitVec 1 := Scalar.cmpi .sgt v478_r0 c0_i32_281_r0
  let v481_r0 : BitVec 32 := Scalar.extui v480_r0
  let c0_i32_282_r0 : BitVec 32 := 0#32
  let v482_r0 : BitVec 1 := Scalar.cmpi .slt v478_r0 c0_i32_282_r0
  let v483_r0 : BitVec 32 := Scalar.extui v482_r0
  let v484_r0 : BitVec 32 := Scalar.subi v481_r0 v483_r0
  let c64_i32_280_r0 : BitVec 32 := 64#32
  let c0_i32_283_r0 : BitVec 32 := 0#32
  let v485_r0 : BitVec 1 := Scalar.cmpi .sgt c64_i32_280_r0 c0_i32_283_r0
  let v486_r0 : BitVec 32 := Scalar.extui v485_r0
  let c0_i32_284_r0 : BitVec 32 := 0#32
  let v487_r0 : BitVec 1 := Scalar.cmpi .slt c64_i32_280_r0 c0_i32_284_r0
  let v488_r0 : BitVec 32 := Scalar.extui v487_r0
  let v489_r0 : BitVec 32 := Scalar.subi v486_r0 v488_r0
  let v490_r0 : BitVec 1 := Scalar.cmpi .ne v484_r0 v489_r0
  let v491_r0 : BitVec 32 := Scalar.remsi v478_r0 c64_i32_280_r0
  let c0_i32_285_r0 : BitVec 32 := 0#32
  let v492_r0 : BitVec 1 := Scalar.cmpi .ne v491_r0 c0_i32_285_r0
  let v493_r0 : BitVec 1 := Scalar.andi v490_r0 v492_r0
  let v479_r0 : BitVec 32 := Scalar.divsi v478_r0 c64_i32_280_r0
  let c1_i32_286_r0 : BitVec 32 := 1#32
  let v494_r0 : BitVec 32 := Scalar.subi v479_r0 c1_i32_286_r0
  let v495_r0 : BitVec 32 := Scalar.select v493_r0 v494_r0 v479_r0
  let c0_i32_291_r0 : BitVec 32 := 0#32
  let c0_i32_292_r0 : BitVec 32 := 0#32
  ![v496_r0.toNat, v495_r0.toNat, 0, 0]
def k0_off14 (arg8_r0 : BitVec 32) : Fin 1 → Nat :=
  let c2_i32_271_r0 : BitVec 32 := 2#32
  let v464_r0 : BitVec 32 := Scalar.remui arg8_r0 c2_i32_271_r0
  ![v464_r0.toNat]
def k0_off15 (arg9_r0 : BitVec 32) : Fin 4 → Nat :=
  let c2_i32_271_r0 : BitVec 32 := 2#32
  let v464_r0 : BitVec 32 := Scalar.remui arg9_r0 c2_i32_271_r0
  let c0_i32_288_r0 : BitVec 32 := 0#32
  let c0_i32_289_r0 : BitVec 32 := 0#32
  let c0_i32_290_r0 : BitVec 32 := 0#32
  ![v464_r0.toNat, 0, 0, 0]
def k0_cond7 (i : grid0.Coords) (k0_t1 : Fin k0_t1_loop.trips) (arg10_r0 : BitVec 32) (arg11_r0 : BitVec 32) : BitVec 1 :=
  let c0_i32_121_r0 : BitVec 32 := 0#32
  let v162_r0 : BitVec 32 := Scalar.addi arg10_r0 c0_i32_121_r0
  let c128_i32_182_r0 : BitVec 32 := 128#32
  let v268_r0 : BitVec 32 := Scalar.muli v162_r0 c128_i32_182_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v163_r0 : BitVec 32 := Scalar.addi arg11_r0 v4
  let v269_r0 : BitVec 32 := Scalar.addi v268_r0 v163_r0
  let c64_i32_183_r0 : BitVec 32 := 64#32
  let c0_i32_184_r0 : BitVec 32 := 0#32
  let v270_r0 : BitVec 1 := Scalar.cmpi .eq c64_i32_183_r0 c0_i32_184_r0
  let c1_i32_185_r0 : BitVec 32 := 1#32
  let v271_r0 : BitVec 32 := Scalar.select v270_r0 c1_i32_185_r0 c64_i32_183_r0
  let v272_r0 : BitVec 32 := Scalar.remsi v269_r0 v271_r0
  let c0_i32_187_r0 : BitVec 32 := 0#32
  let v274_r0 : BitVec 1 := Scalar.cmpi .slt v272_r0 c0_i32_187_r0
  let c0_i32_188_r0 : BitVec 32 := 0#32
  let v275_r0 : BitVec 1 := Scalar.cmpi .slt v271_r0 c0_i32_188_r0
  let v276_r0 : BitVec 1 := Scalar.xori v274_r0 v275_r0
  let c0_i32_186_r0 : BitVec 32 := 0#32
  let v273_r0 : BitVec 1 := Scalar.cmpi .ne v272_r0 c0_i32_186_r0
  let v277_r0 : BitVec 1 := Scalar.andi v276_r0 v273_r0
  let v278_r0 : BitVec 32 := Scalar.addi v272_r0 v271_r0
  let v279_r0 : BitVec 32 := Scalar.select v277_r0 v278_r0 v272_r0
  let true_123_r0 : BitVec 1 := 1#1
  let c1_i32_122_r0 : BitVec 32 := 1#32
  let v164_r0 : BitVec 32 := Scalar.subi arg11_r0 c1_i32_122_r0
  let v165_r0 : BitVec 32 := Scalar.select true_123_r0 v164_r0 arg11_r0
  let c_m1_i32_124_r0 : BitVec 32 := 4294967295#32
  let v166_r0 : BitVec 1 := Scalar.cmpi .eq v165_r0 c_m1_i32_124_r0
  let c1_i32_126_r0 : BitVec 32 := 1#32
  let v168_r0 : BitVec 32 := Scalar.subi arg10_r0 c1_i32_126_r0
  let v169_r0 : BitVec 32 := Scalar.select v166_r0 v168_r0 arg10_r0
  let c_m1_i32_127_r0 : BitVec 32 := 4294967295#32
  let v170_r0 : BitVec 1 := Scalar.cmpi .eq v169_r0 c_m1_i32_127_r0
  let c1_i32_128_r0 : BitVec 32 := 1#32
  let v171_r0 : BitVec 32 := Scalar.select v170_r0 c1_i32_128_r0 v169_r0
  let c0_i32_129_r0 : BitVec 32 := 0#32
  let v172_r0 : BitVec 32 := Scalar.addi v171_r0 c0_i32_129_r0
  let c128_i32_231_r0 : BitVec 32 := 128#32
  let v375_r0 : BitVec 32 := Scalar.muli v172_r0 c128_i32_231_r0
  let c3_i32_125_r0 : BitVec 32 := 3#32
  let v167_r0 : BitVec 32 := Scalar.select v166_r0 c3_i32_125_r0 v165_r0
  let v173_r0 : BitVec 32 := Scalar.addi v167_r0 v4
  let v376_r0 : BitVec 32 := Scalar.addi v375_r0 v173_r0
  let c64_i32_232_r0 : BitVec 32 := 64#32
  let c0_i32_233_r0 : BitVec 32 := 0#32
  let v377_r0 : BitVec 1 := Scalar.cmpi .eq c64_i32_232_r0 c0_i32_233_r0
  let c1_i32_234_r0 : BitVec 32 := 1#32
  let v378_r0 : BitVec 32 := Scalar.select v377_r0 c1_i32_234_r0 c64_i32_232_r0
  let v379_r0 : BitVec 32 := Scalar.remsi v376_r0 v378_r0
  let c0_i32_236_r0 : BitVec 32 := 0#32
  let v381_r0 : BitVec 1 := Scalar.cmpi .slt v379_r0 c0_i32_236_r0
  let c0_i32_237_r0 : BitVec 32 := 0#32
  let v382_r0 : BitVec 1 := Scalar.cmpi .slt v378_r0 c0_i32_237_r0
  let v383_r0 : BitVec 1 := Scalar.xori v381_r0 v382_r0
  let c0_i32_235_r0 : BitVec 32 := 0#32
  let v380_r0 : BitVec 1 := Scalar.cmpi .ne v379_r0 c0_i32_235_r0
  let v384_r0 : BitVec 1 := Scalar.andi v383_r0 v380_r0
  let v385_r0 : BitVec 32 := Scalar.addi v379_r0 v378_r0
  let v386_r0 : BitVec 32 := Scalar.select v384_r0 v385_r0 v379_r0
  let v440_r0 : BitVec 1 := Scalar.cmpi .ne v279_r0 v386_r0
  let c128_i32_189_r0 : BitVec 32 := 128#32
  let v280_r0 : BitVec 32 := Scalar.muli v162_r0 c128_i32_189_r0
  let v281_r0 : BitVec 32 := Scalar.addi v280_r0 v163_r0
  let c0_i32_191_r0 : BitVec 32 := 0#32
  let v283_r0 : BitVec 1 := Scalar.cmpi .sgt v281_r0 c0_i32_191_r0
  let v284_r0 : BitVec 32 := Scalar.extui v283_r0
  let c0_i32_192_r0 : BitVec 32 := 0#32
  let v285_r0 : BitVec 1 := Scalar.cmpi .slt v281_r0 c0_i32_192_r0
  let v286_r0 : BitVec 32 := Scalar.extui v285_r0
  let v287_r0 : BitVec 32 := Scalar.subi v284_r0 v286_r0
  let c64_i32_190_r0 : BitVec 32 := 64#32
  let c0_i32_193_r0 : BitVec 32 := 0#32
  let v288_r0 : BitVec 1 := Scalar.cmpi .sgt c64_i32_190_r0 c0_i32_193_r0
  let v289_r0 : BitVec 32 := Scalar.extui v288_r0
  let c0_i32_194_r0 : BitVec 32 := 0#32
  let v290_r0 : BitVec 1 := Scalar.cmpi .slt c64_i32_190_r0 c0_i32_194_r0
  let v291_r0 : BitVec 32 := Scalar.extui v290_r0
  let v292_r0 : BitVec 32 := Scalar.subi v289_r0 v291_r0
  let v293_r0 : BitVec 1 := Scalar.cmpi .ne v287_r0 v292_r0
  let v294_r0 : BitVec 32 := Scalar.remsi v281_r0 c64_i32_190_r0
  let c0_i32_195_r0 : BitVec 32 := 0#32
  let v295_r0 : BitVec 1 := Scalar.cmpi .ne v294_r0 c0_i32_195_r0
  let v296_r0 : BitVec 1 := Scalar.andi v293_r0 v295_r0
  let v282_r0 : BitVec 32 := Scalar.divsi v281_r0 c64_i32_190_r0
  let c1_i32_196_r0 : BitVec 32 := 1#32
  let v297_r0 : BitVec 32 := Scalar.subi v282_r0 c1_i32_196_r0
  let v298_r0 : BitVec 32 := Scalar.select v296_r0 v297_r0 v282_r0
  let c128_i32_238_r0 : BitVec 32 := 128#32
  let v387_r0 : BitVec 32 := Scalar.muli v172_r0 c128_i32_238_r0
  let v388_r0 : BitVec 32 := Scalar.addi v387_r0 v173_r0
  let c0_i32_240_r0 : BitVec 32 := 0#32
  let v390_r0 : BitVec 1 := Scalar.cmpi .sgt v388_r0 c0_i32_240_r0
  let v391_r0 : BitVec 32 := Scalar.extui v390_r0
  let c0_i32_241_r0 : BitVec 32 := 0#32
  let v392_r0 : BitVec 1 := Scalar.cmpi .slt v388_r0 c0_i32_241_r0
  let v393_r0 : BitVec 32 := Scalar.extui v392_r0
  let v394_r0 : BitVec 32 := Scalar.subi v391_r0 v393_r0
  let c64_i32_239_r0 : BitVec 32 := 64#32
  let c0_i32_242_r0 : BitVec 32 := 0#32
  let v395_r0 : BitVec 1 := Scalar.cmpi .sgt c64_i32_239_r0 c0_i32_242_r0
  let v396_r0 : BitVec 32 := Scalar.extui v395_r0
  let c0_i32_243_r0 : BitVec 32 := 0#32
  let v397_r0 : BitVec 1 := Scalar.cmpi .slt c64_i32_239_r0 c0_i32_243_r0
  let v398_r0 : BitVec 32 := Scalar.extui v397_r0
  let v399_r0 : BitVec 32 := Scalar.subi v396_r0 v398_r0
  let v400_r0 : BitVec 1 := Scalar.cmpi .ne v394_r0 v399_r0
  let v401_r0 : BitVec 32 := Scalar.remsi v388_r0 c64_i32_239_r0
  let c0_i32_244_r0 : BitVec 32 := 0#32
  let v402_r0 : BitVec 1 := Scalar.cmpi .ne v401_r0 c0_i32_244_r0
  let v403_r0 : BitVec 1 := Scalar.andi v400_r0 v402_r0
  let v389_r0 : BitVec 32 := Scalar.divsi v388_r0 c64_i32_239_r0
  let c1_i32_245_r0 : BitVec 32 := 1#32
  let v404_r0 : BitVec 32 := Scalar.subi v389_r0 c1_i32_245_r0
  let v405_r0 : BitVec 32 := Scalar.select v403_r0 v404_r0 v389_r0
  let v441_r0 : BitVec 1 := Scalar.cmpi .ne v298_r0 v405_r0
  let v442_r0 : BitVec 1 := Scalar.ori v440_r0 v441_r0
  let c0_i32_59_r0 : BitVec 32 := 0#32
  let c1_i32_60_r0 : BitVec 32 := 1#32
  let arg5_r0 : BitVec 32 := Scf.iv c0_i32_59_r0 c1_i32_60_r0 k0_t1
  let c0_i32_120_r0 : BitVec 32 := 0#32
  let v160_r0 : BitVec 1 := Scalar.cmpi .eq arg5_r0 c0_i32_120_r0
  let true_259_r0 : BitVec 1 := 1#1
  let v443_r0 : BitVec 1 := Scalar.xori v160_r0 true_259_r0
  let v444_r0 : BitVec 1 := Scalar.andi v442_r0 v443_r0
  let v445_r0 : BitVec 32 := Scalar.extui v444_r0
  let c0_i32_260_r0 : BitVec 32 := 0#32
  let v446_r0 : BitVec 1 := Scalar.cmpi .ne v445_r0 c0_i32_260_r0
  v446_r0

def k0_off16 (i : grid0.Coords) (arg10_r0 : BitVec 32) (arg11_r0 : BitVec 32) : Fin 4 → Nat :=
  let c128_i32_287_r0 : BitVec 32 := 128#32
  let true_123_r0 : BitVec 1 := 1#1
  let c1_i32_122_r0 : BitVec 32 := 1#32
  let v164_r0 : BitVec 32 := Scalar.subi arg11_r0 c1_i32_122_r0
  let v165_r0 : BitVec 32 := Scalar.select true_123_r0 v164_r0 arg11_r0
  let c_m1_i32_124_r0 : BitVec 32 := 4294967295#32
  let v166_r0 : BitVec 1 := Scalar.cmpi .eq v165_r0 c_m1_i32_124_r0
  let c1_i32_126_r0 : BitVec 32 := 1#32
  let v168_r0 : BitVec 32 := Scalar.subi arg10_r0 c1_i32_126_r0
  let v169_r0 : BitVec 32 := Scalar.select v166_r0 v168_r0 arg10_r0
  let c_m1_i32_127_r0 : BitVec 32 := 4294967295#32
  let v170_r0 : BitVec 1 := Scalar.cmpi .eq v169_r0 c_m1_i32_127_r0
  let c1_i32_128_r0 : BitVec 32 := 1#32
  let v171_r0 : BitVec 32 := Scalar.select v170_r0 c1_i32_128_r0 v169_r0
  let c0_i32_129_r0 : BitVec 32 := 0#32
  let v172_r0 : BitVec 32 := Scalar.addi v171_r0 c0_i32_129_r0
  let c128_i32_272_r0 : BitVec 32 := 128#32
  let v465_r0 : BitVec 32 := Scalar.muli v172_r0 c128_i32_272_r0
  let c3_i32_125_r0 : BitVec 32 := 3#32
  let v167_r0 : BitVec 32 := Scalar.select v166_r0 c3_i32_125_r0 v165_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v173_r0 : BitVec 32 := Scalar.addi v167_r0 v4
  let v466_r0 : BitVec 32 := Scalar.addi v465_r0 v173_r0
  let c64_i32_273_r0 : BitVec 32 := 64#32
  let c0_i32_274_r0 : BitVec 32 := 0#32
  let v467_r0 : BitVec 1 := Scalar.cmpi .eq c64_i32_273_r0 c0_i32_274_r0
  let c1_i32_275_r0 : BitVec 32 := 1#32
  let v468_r0 : BitVec 32 := Scalar.select v467_r0 c1_i32_275_r0 c64_i32_273_r0
  let v469_r0 : BitVec 32 := Scalar.remsi v466_r0 v468_r0
  let c0_i32_277_r0 : BitVec 32 := 0#32
  let v471_r0 : BitVec 1 := Scalar.cmpi .slt v469_r0 c0_i32_277_r0
  let c0_i32_278_r0 : BitVec 32 := 0#32
  let v472_r0 : BitVec 1 := Scalar.cmpi .slt v468_r0 c0_i32_278_r0
  let v473_r0 : BitVec 1 := Scalar.xori v471_r0 v472_r0
  let c0_i32_276_r0 : BitVec 32 := 0#32
  let v470_r0 : BitVec 1 := Scalar.cmpi .ne v469_r0 c0_i32_276_r0
  let v474_r0 : BitVec 1 := Scalar.andi v473_r0 v470_r0
  let v475_r0 : BitVec 32 := Scalar.addi v469_r0 v468_r0
  let v476_r0 : BitVec 32 := Scalar.select v474_r0 v475_r0 v469_r0
  let v496_r0 : BitVec 32 := Scalar.muli c128_i32_287_r0 v476_r0
  let c128_i32_279_r0 : BitVec 32 := 128#32
  let v477_r0 : BitVec 32 := Scalar.muli v172_r0 c128_i32_279_r0
  let v478_r0 : BitVec 32 := Scalar.addi v477_r0 v173_r0
  let c0_i32_281_r0 : BitVec 32 := 0#32
  let v480_r0 : BitVec 1 := Scalar.cmpi .sgt v478_r0 c0_i32_281_r0
  let v481_r0 : BitVec 32 := Scalar.extui v480_r0
  let c0_i32_282_r0 : BitVec 32 := 0#32
  let v482_r0 : BitVec 1 := Scalar.cmpi .slt v478_r0 c0_i32_282_r0
  let v483_r0 : BitVec 32 := Scalar.extui v482_r0
  let v484_r0 : BitVec 32 := Scalar.subi v481_r0 v483_r0
  let c64_i32_280_r0 : BitVec 32 := 64#32
  let c0_i32_283_r0 : BitVec 32 := 0#32
  let v485_r0 : BitVec 1 := Scalar.cmpi .sgt c64_i32_280_r0 c0_i32_283_r0
  let v486_r0 : BitVec 32 := Scalar.extui v485_r0
  let c0_i32_284_r0 : BitVec 32 := 0#32
  let v487_r0 : BitVec 1 := Scalar.cmpi .slt c64_i32_280_r0 c0_i32_284_r0
  let v488_r0 : BitVec 32 := Scalar.extui v487_r0
  let v489_r0 : BitVec 32 := Scalar.subi v486_r0 v488_r0
  let v490_r0 : BitVec 1 := Scalar.cmpi .ne v484_r0 v489_r0
  let v491_r0 : BitVec 32 := Scalar.remsi v478_r0 c64_i32_280_r0
  let c0_i32_285_r0 : BitVec 32 := 0#32
  let v492_r0 : BitVec 1 := Scalar.cmpi .ne v491_r0 c0_i32_285_r0
  let v493_r0 : BitVec 1 := Scalar.andi v490_r0 v492_r0
  let v479_r0 : BitVec 32 := Scalar.divsi v478_r0 c64_i32_280_r0
  let c1_i32_286_r0 : BitVec 32 := 1#32
  let v494_r0 : BitVec 32 := Scalar.subi v479_r0 c1_i32_286_r0
  let v495_r0 : BitVec 32 := Scalar.select v493_r0 v494_r0 v479_r0
  let c0_i32_291_r0 : BitVec 32 := 0#32
  let c0_i32_292_r0 : BitVec 32 := 0#32
  ![v496_r0.toNat, v495_r0.toNat, 0, 0]
def k0_off17 (arg9_r0 : BitVec 32) : Fin 1 → Nat :=
  let c2_i32_271_r0 : BitVec 32 := 2#32
  let v464_r0 : BitVec 32 := Scalar.remui arg9_r0 c2_i32_271_r0
  ![v464_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) : Prop :=
  (∀ (k0_h1 : k0_cond1 i k0_t1 arg10_r0 arg11_r0 = 1#1), ∀ a, (k0_off4 arg6_r0) a + S1x1x1x128.size a ≤ S2x1x1x128.size a) ∧
  (∀ (k0_h1 : k0_cond1 i k0_t1 arg10_r0 arg11_r0 = 1#1), ∀ a, (k0_off5 i arg10_r0 arg11_r0) a + S1x1x128.size a ≤ S4x64x128.size a) ∧
  (∀ (k0_h1 : k0_cond1 i k0_t1 arg10_r0 arg11_r0 = 1#1), ∀ a, (k0_off6 arg6_r0) a + S1.size a ≤ S2.size a) ∧
  (∀ (k0_h2 : k0_cond2 i k0_t1 arg10_r0 arg11_r0 = 1#1), ∀ a, (k0_off7 arg7_r0) a + S1x1x1x128.size a ≤ S2x1x1x128.size a) ∧
  (∀ (k0_h2 : k0_cond2 i k0_t1 arg10_r0 arg11_r0 = 1#1), ∀ a, (k0_off8 i arg10_r0 arg11_r0) a + S1x1x128.size a ≤ S4x64x128.size a) ∧
  (∀ (k0_h2 : k0_cond2 i k0_t1 arg10_r0 arg11_r0 = 1#1), ∀ a, (k0_off9 arg7_r0) a + S1.size a ≤ S2.size a) ∧
  (∀ (k0_h5 : k0_cond5 i k0_t1 arg10_r0 arg11_r0 = 1#1), ∀ a, (k0_off12 arg8_r0) a + S1x128x2x128.size a ≤ S2x128x2x128.size a) ∧
  (∀ (k0_h5 : k0_cond5 i k0_t1 arg10_r0 arg11_r0 = 1#1), ∀ a, (k0_off13 i arg10_r0 arg11_r0) a + S128x1x2x128.size a ≤ S8192x4x2x128.size a) ∧
  (∀ (k0_h5 : k0_cond5 i k0_t1 arg10_r0 arg11_r0 = 1#1), ∀ a, (k0_off14 arg8_r0) a + S1.size a ≤ S2.size a) ∧
  (∀ (k0_h7 : k0_cond7 i k0_t1 arg10_r0 arg11_r0 = 1#1), ∀ a, (k0_off15 arg9_r0) a + S1x128x2x128.size a ≤ S2x128x2x128.size a) ∧
  (∀ (k0_h7 : k0_cond7 i k0_t1 arg10_r0 arg11_r0 = 1#1), ∀ a, (k0_off16 i arg10_r0 arg11_r0) a + S128x1x2x128.size a ≤ S8192x4x2x128.size a) ∧
  (∀ (k0_h7 : k0_cond7 i k0_t1 arg10_r0 arg11_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off4 arg6_r0) a + S1x1x1x128.size a ≤ S2x1x1x128.size a := fun i k0_t1 arg6_r0 arg7_r0 arg8_r0 arg9_r0 arg10_r0 arg11_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off5 i arg10_r0 arg11_r0) a + S1x1x128.size a ≤ S4x64x128.size a := fun i k0_t1 arg6_r0 arg7_r0 arg8_r0 arg9_r0 arg10_r0 arg11_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off6 arg6_r0) a + S1.size a ≤ S2.size a := fun i k0_t1 arg6_r0 arg7_r0 arg8_r0 arg9_r0 arg10_r0 arg11_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off7 arg7_r0) a + S1x1x1x128.size a ≤ S2x1x1x128.size a := fun i k0_t1 arg6_r0 arg7_r0 arg8_r0 arg9_r0 arg10_r0 arg11_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off8 i arg10_r0 arg11_r0) a + S1x1x128.size a ≤ S4x64x128.size a := fun i k0_t1 arg6_r0 arg7_r0 arg8_r0 arg9_r0 arg10_r0 arg11_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off9 arg7_r0) a + S1.size a ≤ S2.size a := fun i k0_t1 arg6_r0 arg7_r0 arg8_r0 arg9_r0 arg10_r0 arg11_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off12 arg8_r0) a + S1x128x2x128.size a ≤ S2x128x2x128.size a := fun i k0_t1 arg6_r0 arg7_r0 arg8_r0 arg9_r0 arg10_r0 arg11_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off13 i arg10_r0 arg11_r0) a + S128x1x2x128.size a ≤ S8192x4x2x128.size a := fun i k0_t1 arg6_r0 arg7_r0 arg8_r0 arg9_r0 arg10_r0 arg11_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off14 arg8_r0) a + S1.size a ≤ S2.size a := fun i k0_t1 arg6_r0 arg7_r0 arg8_r0 arg9_r0 arg10_r0 arg11_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off15 arg9_r0) a + S1x128x2x128.size a ≤ S2x128x2x128.size a := fun i k0_t1 arg6_r0 arg7_r0 arg8_r0 arg9_r0 arg10_r0 arg11_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off16 i arg10_r0 arg11_r0) a + S128x1x2x128.size a ≤ S8192x4x2x128.size a := fun i k0_t1 arg6_r0 arg7_r0 arg8_r0 arg9_r0 arg10_r0 arg11_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off17 arg9_r0) a + S1.size a ≤ S2.size a := fun i k0_t1 arg6_r0 arg7_r0 arg8_r0 arg9_r0 arg10_r0 arg11_r0 k0_hw1 k0_h7 => k0_hw1.2.2.2.2.2.2.2.2.2.2.2 k0_h7

def k0_off18 (v76_3_r0 : BitVec 32) : Fin 4 → Nat :=
  let c2_i32_94_r0 : BitVec 32 := 2#32
  let v117_r0 : BitVec 32 := Scalar.remui v76_3_r0 c2_i32_94_r0
  let c0_i32_110_r0 : BitVec 32 := 0#32
  let c0_i32_111_r0 : BitVec 32 := 0#32
  let c0_i32_112_r0 : BitVec 32 := 0#32
  ![v117_r0.toNat, 0, 0, 0]

def k0_off19 (i : grid0.Coords) (v76_5_r0 : BitVec 32) (v76_4_r0 : BitVec 32) : Fin 4 → Nat :=
  let c128_i32_109_r0 : BitVec 32 := 128#32
  let true_63_r0 : BitVec 1 := 1#1
  let c1_i32_62_r0 : BitVec 32 := 1#32
  let v77_r0 : BitVec 32 := Scalar.subi v76_5_r0 c1_i32_62_r0
  let v78_r0 : BitVec 32 := Scalar.select true_63_r0 v77_r0 v76_5_r0
  let c_m1_i32_64_r0 : BitVec 32 := 4294967295#32
  let v79_r0 : BitVec 1 := Scalar.cmpi .eq v78_r0 c_m1_i32_64_r0
  let c1_i32_66_r0 : BitVec 32 := 1#32
  let v81_r0 : BitVec 32 := Scalar.subi v76_4_r0 c1_i32_66_r0
  let v82_r0 : BitVec 32 := Scalar.select v79_r0 v81_r0 v76_4_r0
  let c_m1_i32_67_r0 : BitVec 32 := 4294967295#32
  let v83_r0 : BitVec 1 := Scalar.cmpi .eq v82_r0 c_m1_i32_67_r0
  let c1_i32_68_r0 : BitVec 32 := 1#32
  let v84_r0 : BitVec 32 := Scalar.select v83_r0 c1_i32_68_r0 v82_r0
  let c0_i32_69_r0 : BitVec 32 := 0#32
  let v85_r0 : BitVec 32 := Scalar.addi v84_r0 c0_i32_69_r0
  let c128_i32_r0 : BitVec 32 := 128#32
  let v118_r0 : BitVec 32 := Scalar.muli v85_r0 c128_i32_r0
  let c3_i32_65_r0 : BitVec 32 := 3#32
  let v80_r0 : BitVec 32 := Scalar.select v79_r0 c3_i32_65_r0 v78_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v86_r0 : BitVec 32 := Scalar.addi v80_r0 v4
  let v119_r0 : BitVec 32 := Scalar.addi v118_r0 v86_r0
  let c64_i32_95_r0 : BitVec 32 := 64#32
  let c0_i32_96_r0 : BitVec 32 := 0#32
  let v120_r0 : BitVec 1 := Scalar.cmpi .eq c64_i32_95_r0 c0_i32_96_r0
  let c1_i32_97_r0 : BitVec 32 := 1#32
  let v121_r0 : BitVec 32 := Scalar.select v120_r0 c1_i32_97_r0 c64_i32_95_r0
  let v122_r0 : BitVec 32 := Scalar.remsi v119_r0 v121_r0
  let c0_i32_99_r0 : BitVec 32 := 0#32
  let v124_r0 : BitVec 1 := Scalar.cmpi .slt v122_r0 c0_i32_99_r0
  let c0_i32_100_r0 : BitVec 32 := 0#32
  let v125_r0 : BitVec 1 := Scalar.cmpi .slt v121_r0 c0_i32_100_r0
  let v126_r0 : BitVec 1 := Scalar.xori v124_r0 v125_r0
  let c0_i32_98_r0 : BitVec 32 := 0#32
  let v123_r0 : BitVec 1 := Scalar.cmpi .ne v122_r0 c0_i32_98_r0
  let v127_r0 : BitVec 1 := Scalar.andi v126_r0 v123_r0
  let v128_r0 : BitVec 32 := Scalar.addi v122_r0 v121_r0
  let v129_r0 : BitVec 32 := Scalar.select v127_r0 v128_r0 v122_r0
  let v149_r0 : BitVec 32 := Scalar.muli c128_i32_109_r0 v129_r0
  let c128_i32_101_r0 : BitVec 32 := 128#32
  let v130_r0 : BitVec 32 := Scalar.muli v85_r0 c128_i32_101_r0
  let v131_r0 : BitVec 32 := Scalar.addi v130_r0 v86_r0
  let c0_i32_103_r0 : BitVec 32 := 0#32
  let v133_r0 : BitVec 1 := Scalar.cmpi .sgt v131_r0 c0_i32_103_r0
  let v134_r0 : BitVec 32 := Scalar.extui v133_r0
  let c0_i32_104_r0 : BitVec 32 := 0#32
  let v135_r0 : BitVec 1 := Scalar.cmpi .slt v131_r0 c0_i32_104_r0
  let v136_r0 : BitVec 32 := Scalar.extui v135_r0
  let v137_r0 : BitVec 32 := Scalar.subi v134_r0 v136_r0
  let c64_i32_102_r0 : BitVec 32 := 64#32
  let c0_i32_105_r0 : BitVec 32 := 0#32
  let v138_r0 : BitVec 1 := Scalar.cmpi .sgt c64_i32_102_r0 c0_i32_105_r0
  let v139_r0 : BitVec 32 := Scalar.extui v138_r0
  let c0_i32_106_r0 : BitVec 32 := 0#32
  let v140_r0 : BitVec 1 := Scalar.cmpi .slt c64_i32_102_r0 c0_i32_106_r0
  let v141_r0 : BitVec 32 := Scalar.extui v140_r0
  let v142_r0 : BitVec 32 := Scalar.subi v139_r0 v141_r0
  let v143_r0 : BitVec 1 := Scalar.cmpi .ne v137_r0 v142_r0
  let v144_r0 : BitVec 32 := Scalar.remsi v131_r0 c64_i32_102_r0
  let c0_i32_107_r0 : BitVec 32 := 0#32
  let v145_r0 : BitVec 1 := Scalar.cmpi .ne v144_r0 c0_i32_107_r0
  let v146_r0 : BitVec 1 := Scalar.andi v143_r0 v145_r0
  let v132_r0 : BitVec 32 := Scalar.divsi v131_r0 c64_i32_102_r0
  let c1_i32_108_r0 : BitVec 32 := 1#32
  let v147_r0 : BitVec 32 := Scalar.subi v132_r0 c1_i32_108_r0
  let v148_r0 : BitVec 32 := Scalar.select v146_r0 v147_r0 v132_r0
  let c0_i32_113_r0 : BitVec 32 := 0#32
  let c0_i32_114_r0 : BitVec 32 := 0#32
  ![v149_r0.toNat, v148_r0.toNat, 0, 0]

def k0_chk5 (i : grid0.Coords) (v76_5_r0 : BitVec 32) (v76_4_r0 : BitVec 32) : Prop :=
  (∀ a, (k0_off19 i v76_5_r0 v76_4_r0) a + S128x1x2x128.size a ≤ S8192x4x2x128.size a)
theorem k0_off19_inb : ∀ (i : grid0.Coords) (v76_5_r0 : BitVec 32) (v76_4_r0 : BitVec 32) (k0_hw5 : k0_chk5 i v76_5_r0 v76_4_r0), ∀ a, (k0_off19 i v76_5_r0 v76_4_r0) a + S128x1x2x128.size a ≤ S8192x4x2x128.size a := fun i v76_5_r0 v76_4_r0 k0_hw5 => k0_hw5

def k0_off20 (v76_3_r0 : BitVec 32) : Fin 1 → Nat :=
  let c2_i32_94_r0 : BitVec 32 := 2#32
  let v117_r0 : BitVec 32 := Scalar.remui v76_3_r0 c2_i32_94_r0
  ![v117_r0.toNat]
def k0_off21 (v76_3_r0 : BitVec 32) : Fin 4 → Nat :=
  let c2_i32_94_r0 : BitVec 32 := 2#32
  let v117_r0 : BitVec 32 := Scalar.remui v76_3_r0 c2_i32_94_r0
  let c0_i32_117_r0 : BitVec 32 := 0#32
  let c0_i32_118_r0 : BitVec 32 := 0#32
  let c0_i32_119_r0 : BitVec 32 := 0#32
  ![v117_r0.toNat, 0, 0, 0]

def k0_chk4 (v76_3_r0 : BitVec 32) : Prop :=
  (∀ a, (k0_off18 v76_3_r0) a + S1x128x2x128.size a ≤ S2x128x2x128.size a) ∧
  (∀ a, (k0_off20 v76_3_r0) a + S1.size a ≤ S2.size a) ∧
  (∀ a, (k0_off21 v76_3_r0) a + S1x128x2x128.size a ≤ S2x128x2x128.size a)
theorem k0_off18_inb : ∀ (v76_3_r0 : BitVec 32) (k0_hw4 : k0_chk4 v76_3_r0), ∀ a, (k0_off18 v76_3_r0) a + S1x128x2x128.size a ≤ S2x128x2x128.size a := fun v76_3_r0 k0_hw4 => k0_hw4.1
theorem k0_off20_inb : ∀ (v76_3_r0 : BitVec 32) (k0_hw4 : k0_chk4 v76_3_r0), ∀ a, (k0_off20 v76_3_r0) a + S1.size a ≤ S2.size a := fun v76_3_r0 k0_hw4 => k0_hw4.2.1
theorem k0_off21_inb : ∀ (v76_3_r0 : BitVec 32) (k0_hw4 : k0_chk4 v76_3_r0), ∀ a, (k0_off21 v76_3_r0) a + S1x128x2x128.size a ≤ S2x128x2x128.size a := fun v76_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x9216x256 : Shape := ⟨3, ![4, 9216, 256]⟩
abbrev S4x64x128 : Shape := ⟨3, ![4, 64, 128]⟩
abbrev S36864x256 : Shape := ⟨2, ![36864, 256]⟩
abbrev S32768 : Shape := ⟨1, ![32768]⟩
abbrev S32768x1 : Shape := ⟨2, ![32768, 1]⟩
abbrev S32768x256 : Shape := ⟨2, ![32768, 256]⟩
abbrev S4x8192x256 : Shape := ⟨3, ![4, 8192, 256]⟩
abbrev S8192x4x256 : Shape := ⟨3, ![8192, 4, 256]⟩
abbrev S4x2048x1024 : Shape := ⟨3, ![4, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x9216x256, .f32⟩
  | .hbm, ⟨1, _⟩ => ⟨S4x64x128, .i32⟩
  | .hbm, ⟨2, _⟩ => ⟨S36864x256, .f32⟩
  | .hbm, ⟨3, _⟩ => ⟨S32768, .i32⟩
  | .hbm, ⟨4, _⟩ => ⟨S32768x1, .i32⟩
  | .hbm, ⟨5, _⟩ => ⟨S32768x256, .f32⟩
  | .hbm, ⟨6, _⟩ => ⟨S4x8192x256, .f32⟩
  | .hbm, ⟨7, _⟩ => ⟨S8192x4x256, .f32⟩
  | .hbm, ⟨8, _⟩ => ⟨S4x2048x1024, .f32⟩
  | _, _ => ⟨S4x9216x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Served.lean ====
abbrev S36 : Shape := ⟨1, ![36]⟩
abbrev S4x9216x256 : Shape := ⟨3, ![4, 9216, 256]⟩
abbrev S4x1024x1024 : Shape := ⟨3, ![4, 1024, 1024]⟩
abbrev S4x1024 : Shape := ⟨2, ![4, 1024]⟩
abbrev S9216x128 : Shape := ⟨2, ![9216, 128]⟩
abbrev S4x64x128 : Shape := ⟨3, ![4, 64, 128]⟩
abbrev S4x1x1024 : Shape := ⟨3, ![4, 1, 1024]⟩
abbrev S4x256x256 : Shape := ⟨3, ![4, 256, 256]⟩
abbrev S1x1024x1024 : Shape := ⟨3, ![1, 1024, 1024]⟩
abbrev S1 : Shape := ⟨1, ![1]⟩
abbrev S1x1x1024 : Shape := ⟨3, ![1, 1, 1024]⟩
abbrev S256x128 : Shape := ⟨2, ![256, 128]⟩
abbrev S1x256x256 : Shape := ⟨3, ![1, 256, 256]⟩
abbrev S256x256 : Shape := ⟨2, ![256, 256]⟩
abbrev S256x1024 : Shape := ⟨2, ![256, 1024]⟩
abbrev S1024x1024 : Shape := ⟨2, ![1024, 1024]⟩
abbrev S1x1024 : Shape := ⟨2, ![1, 1024]⟩
abbrev S256x1 : Shape := ⟨2, ![256, 1]⟩
abbrev S36864x2x128 : Shape := ⟨3, ![36864, 2, 128]⟩
abbrev S8192x4x2x128 : Shape := ⟨4, ![8192, 4, 2, 128]⟩
abbrev S2x1x1x128 : Shape := ⟨4, ![2, 1, 1, 128]⟩
abbrev S2 : Shape := ⟨1, ![2]⟩
abbrev S2x128x2x128 : Shape := ⟨4, ![2, 128, 2, 128]⟩
abbrev S1x1x1x128 : Shape := ⟨4, ![1, 1, 1, 128]⟩
abbrev S1x1x128 : Shape := ⟨3, ![1, 1, 128]⟩
abbrev S_ : Shape := ⟨0, ![]⟩
abbrev S1x128x2x128 : Shape := ⟨4, ![1, 128, 2, 128]⟩
abbrev S128x2x128 : Shape := ⟨3, ![128, 2, 128]⟩
abbrev S128 : Shape := ⟨1, ![128]⟩
abbrev S128x1x2x128 : Shape := ⟨4, ![128, 1, 2, 128]⟩
abbrev S4x2048x1024 : Shape := ⟨3, ![4, 2048, 1024]⟩

abbrev nBuf : Table → Nat
  | .hbm => 13
  | .local .tc .vmem => 14
  | .local .tc .smem => 1
  | .local .scVector .vmem => 2
  | _ => 0

abbrev bufTy : (tb : Table) → Fin (nBuf tb) → BufTy
  | .hbm, ⟨0, _⟩ => ⟨S4x9216x256, .f32⟩
  | .hbm, ⟨1, _⟩ => ⟨S4x1024x1024, .f32⟩
  | .hbm, ⟨2, _⟩ => ⟨S4x1024, .f32⟩
  | .hbm, ⟨3, _⟩ => ⟨S4x1024x1024, .f32⟩
  | .hbm, ⟨4, _⟩ => ⟨S4x1024, .f32⟩
  | .hbm, ⟨5, _⟩ => ⟨S9216x128, .f32⟩
  | .hbm, ⟨6, _⟩ => ⟨S4x64x128, .i32⟩
  | .hbm, ⟨7, _⟩ => ⟨S4x1x1024, .f32⟩
  | .hbm, ⟨8, _⟩ => ⟨S4x1x1024, .f32⟩
  | .hbm, ⟨9, _⟩ => ⟨S4x9216x256, .f32⟩
  | .hbm, ⟨10, _⟩ => ⟨S36864x2x128, .f32⟩
  | .hbm, ⟨11, _⟩ => ⟨S8192x4x2x128, .f32⟩
  | .hbm, ⟨12, _⟩ => ⟨S4x2048x1024, .f32⟩
  | .local .tc .vmem, ⟨0, _⟩ => ⟨S4x256x256, .f32⟩
  | .local .tc .vmem, ⟨1, _⟩ => ⟨S4x256x256, .f32⟩
  | .local .tc .vmem, ⟨2, _⟩ => ⟨S1x1024x1024, .f32⟩
  | .local .tc .vmem, ⟨3, _⟩ => ⟨S1x1024x1024, .f32⟩
  | .local .tc .vmem, ⟨4, _⟩ => ⟨S1x1x1024, .f32⟩
  | .local .tc .vmem, ⟨5, _⟩ => ⟨S1x1x1024, .f32⟩
  | .local .tc .vmem, ⟨6, _⟩ => ⟨S1x1024x1024, .f32⟩
  | .local .tc .vmem, ⟨7, _⟩ => ⟨S1x1024x1024, .f32⟩
  | .local .tc .vmem, ⟨8, _⟩ => ⟨S1x1x1024, .f32⟩
  | .local .tc .vmem, ⟨9, _⟩ => ⟨S1x1x1024, .f32⟩
  | .local .tc .vmem, ⟨10, _⟩ => ⟨S256x128, .f32⟩
  | .local .tc .vmem, ⟨11, _⟩ => ⟨S256x128, .f32⟩
  | .local .tc .vmem, ⟨12, _⟩ => ⟨S4x256x256, .f32⟩
  | .local .tc .vmem, ⟨13, _⟩ => ⟨S4x256x256, .f32⟩
  | .local .tc .smem, ⟨0, _⟩ => ⟨S36, .i32⟩
  | .local .scVector .vmem, ⟨0, _⟩ => ⟨S2x1x1x128, .i32⟩
  | .local .scVector .vmem, ⟨1, _⟩ => ⟨S2x128x2x128, .f32⟩
  | _, _ => ⟨S4x9216x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | ⟨18, _⟩ => false
  | _ => false

abbrev sig : RefSig :=
  ofTables nBuf rfl bufTy 4 19 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_arg0 : Ref sig .tc := ⟨.smem, 0, rfl⟩
abbrev main_v3_scv : Ref sig .scVector := ⟨.hbm, 10, rfl⟩
abbrev main_arg7_scv : Ref sig .scVector := ⟨.hbm, 6, rfl⟩
abbrev main_v4_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![36], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

def k1_off1 : Fin 4 → Nat :=
  let c0_i32_26_r0 : BitVec 32 := 0#32
  let c2_i32_27_r0 : BitVec 32 := 2#32
  let v34_r0 : BitVec 32 := Scalar.remui c0_i32_26_r0 c2_i32_27_r0
  let c0_i32_44_r0 : BitVec 32 := 0#32
  let c0_i32_45_r0 : BitVec 32 := 0#32
  let c0_i32_46_r0 : BitVec 32 := 0#32
  ![v34_r0.toNat, 0, 0, 0]
def k1_off2 (i : grid1.Coords) : Fin 3 → Nat :=
  let c1_i32_42_r0 : BitVec 32 := 1#32
  let c0_i32_28_r0 : BitVec 32 := 0#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v7_r0 : BitVec 32 := Scalar.addi c0_i32_1_r0 v4
  let v35_r0 : BitVec 32 := Scalar.addi c0_i32_28_r0 v7_r0
  let c0_i32_29_r0 : BitVec 32 := 0#32
  let v37_r0 : BitVec 1 := Scalar.cmpi .sgt v35_r0 c0_i32_29_r0
  let v38_r0 : BitVec 32 := Scalar.extui v37_r0
  let c0_i32_30_r0 : BitVec 32 := 0#32
  let v39_r0 : BitVec 1 := Scalar.cmpi .slt v35_r0 c0_i32_30_r0
  let v40_r0 : BitVec 32 := Scalar.extui v39_r0
  let v41_r0 : BitVec 32 := Scalar.subi v38_r0 v40_r0
  let c64_i32_r0 : BitVec 32 := 64#32
  let c0_i32_31_r0 : BitVec 32 := 0#32
  let v42_r0 : BitVec 1 := Scalar.cmpi .sgt c64_i32_r0 c0_i32_31_r0
  let v43_r0 : BitVec 32 := Scalar.extui v42_r0
  let c0_i32_32_r0 : BitVec 32 := 0#32
  let v44_r0 : BitVec 1 := Scalar.cmpi .slt c64_i32_r0 c0_i32_32_r0
  let v45_r0 : BitVec 32 := Scalar.extui v44_r0
  let v46_r0 : BitVec 32 := Scalar.subi v43_r0 v45_r0
  let v47_r0 : BitVec 1 := Scalar.cmpi .ne v41_r0 v46_r0
  let v48_r0 : BitVec 32 := Scalar.remsi v35_r0 c64_i32_r0
  let c0_i32_33_r0 : BitVec 32 := 0#32
  let v49_r0 : BitVec 1 := Scalar.cmpi .ne v48_r0 c0_i32_33_r0
  let v50_r0 : BitVec 1 := Scalar.andi v47_r0 v49_r0
  let v36_r0 : BitVec 32 := Scalar.divsi v35_r0 c64_i32_r0
  let c1_i32_34_r0 : BitVec 32 := 1#32
  let v51_r0 : BitVec 32 := Scalar.subi v36_r0 c1_i32_34_r0
  let v52_r0 : BitVec 32 := Scalar.select v50_r0 v51_r0 v36_r0
  let v64_r0 : BitVec 32 := Scalar.muli c1_i32_42_r0 v52_r0
  let c1_i32_43_r0 : BitVec 32 := 1#32
  let c0_i32_35_r0 : BitVec 32 := 0#32
  let v53_r0 : BitVec 32 := Scalar.addi c0_i32_35_r0 v7_r0
  let c64_i32_36_r0 : BitVec 32 := 64#32
  let c0_i32_37_r0 : BitVec 32 := 0#32
  let v54_r0 : BitVec 1 := Scalar.cmpi .eq c64_i32_36_r0 c0_i32_37_r0
  let c1_i32_38_r0 : BitVec 32 := 1#32
  let v55_r0 : BitVec 32 := Scalar.select v54_r0 c1_i32_38_r0 c64_i32_36_r0
  let v56_r0 : BitVec 32 := Scalar.remsi v53_r0 v55_r0
  let c0_i32_40_r0 : BitVec 32 := 0#32
  let v58_r0 : BitVec 1 := Scalar.cmpi .slt v56_r0 c0_i32_40_r0
  let c0_i32_41_r0 : BitVec 32 := 0#32
  let v59_r0 : BitVec 1 := Scalar.cmpi .slt v55_r0 c0_i32_41_r0
  let v60_r0 : BitVec 1 := Scalar.xori v58_r0 v59_r0
  let c0_i32_39_r0 : BitVec 32 := 0#32
  let v57_r0 : BitVec 1 := Scalar.cmpi .ne v56_r0 c0_i32_39_r0
  let v61_r0 : BitVec 1 := Scalar.andi v60_r0 v57_r0
  let v62_r0 : BitVec 32 := Scalar.addi v56_r0 v55_r0
  let v63_r0 : BitVec 32 := Scalar.select v61_r0 v62_r0 v56_r0
  let v65_r0 : BitVec 32 := Scalar.muli c1_i32_43_r0 v63_r0
  let c0_i32_47_r0 : BitVec 32 := 0#32
  ![v64_r0.toNat, v65_r0.toNat, 0]
def k1_off3 : Fin 1 → Nat :=
  let c0_i32_26_r0 : BitVec 32 := 0#32
  let c2_i32_27_r0 : BitVec 32 := 2#32
  let v34_r0 : BitVec 32 := Scalar.remui c0_i32_26_r0 c2_i32_27_r0
  ![v34_r0.toNat]
@[reducible] def k1_t1_loop : Scf.Loop 32 :=
  let c0_i32_59_r0 : BitVec 32 := 0#32
  let c8_i32_r0 : BitVec 32 := 8#32
  let v75_r0 : BitVec 32 := Scalar.addi c0_i32_59_r0 c8_i32_r0
  let c1_i32_60_r0 : BitVec 32 := 1#32
  ⟨c0_i32_59_r0, v75_r0, c1_i32_60_r0⟩
def k1_off4 (arg6_r0 : BitVec 32) : Fin 4 → Nat :=
  let c2_i32_271_r0 : BitVec 32 := 2#32
  let v464_r0 : BitVec 32 := Scalar.remui arg6_r0 c2_i32_271_r0
  let c0_i32_289_r0 : BitVec 32 := 0#32
  let c0_i32_290_r0 : BitVec 32 := 0#32
  let c0_i32_291_r0 : BitVec 32 := 0#32
  ![v464_r0.toNat, 0, 0, 0]
def k1_cond1 (i : grid1.Coords) (k1_t1 : Fin k1_t1_loop.trips) (arg10_r0 : BitVec 32) (arg11_r0 : BitVec 32) : BitVec 1 :=
  let c0_i32_121_r0 : BitVec 32 := 0#32
  let v162_r0 : BitVec 32 := Scalar.addi arg10_r0 c0_i32_121_r0
  let c128_i32_146_r0 : BitVec 32 := 128#32
  let v194_r0 : BitVec 32 := Scalar.muli v162_r0 c128_i32_146_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v163_r0 : BitVec 32 := Scalar.addi arg11_r0 v4
  let v195_r0 : BitVec 32 := Scalar.addi v194_r0 v163_r0
  let c0_i32_148_r0 : BitVec 32 := 0#32
  let v197_r0 : BitVec 1 := Scalar.cmpi .sgt v195_r0 c0_i32_148_r0
  let v198_r0 : BitVec 32 := Scalar.extui v197_r0
  let c0_i32_149_r0 : BitVec 32 := 0#32
  let v199_r0 : BitVec 1 := Scalar.cmpi .slt v195_r0 c0_i32_149_r0
  let v200_r0 : BitVec 32 := Scalar.extui v199_r0
  let v201_r0 : BitVec 32 := Scalar.subi v198_r0 v200_r0
  let c64_i32_147_r0 : BitVec 32 := 64#32
  let c0_i32_150_r0 : BitVec 32 := 0#32
  let v202_r0 : BitVec 1 := Scalar.cmpi .sgt c64_i32_147_r0 c0_i32_150_r0
  let v203_r0 : BitVec 32 := Scalar.extui v202_r0
  let c0_i32_151_r0 : BitVec 32 := 0#32
  let v204_r0 : BitVec 1 := Scalar.cmpi .slt c64_i32_147_r0 c0_i32_151_r0
  let v205_r0 : BitVec 32 := Scalar.extui v204_r0
  let v206_r0 : BitVec 32 := Scalar.subi v203_r0 v205_r0
  let v207_r0 : BitVec 1 := Scalar.cmpi .ne v201_r0 v206_r0
  let v208_r0 : BitVec 32 := Scalar.remsi v195_r0 c64_i32_147_r0
  let c0_i32_152_r0 : BitVec 32 := 0#32
  let v209_r0 : BitVec 1 := Scalar.cmpi .ne v208_r0 c0_i32_152_r0
  let v210_r0 : BitVec 1 := Scalar.andi v207_r0 v209_r0
  let v196_r0 : BitVec 32 := Scalar.divsi v195_r0 c64_i32_147_r0
  let c1_i32_153_r0 : BitVec 32 := 1#32
  let v211_r0 : BitVec 32 := Scalar.subi v196_r0 c1_i32_153_r0
  let v212_r0 : BitVec 32 := Scalar.select v210_r0 v211_r0 v196_r0
  let true_131_r0 : BitVec 1 := 1#1
  let c1_i32_130_r0 : BitVec 32 := 1#32
  let v174_r0 : BitVec 32 := Scalar.addi arg11_r0 c1_i32_130_r0
  let v175_r0 : BitVec 32 := Scalar.select true_131_r0 v174_r0 arg11_r0
  let c4_i32_132_r0 : BitVec 32 := 4#32
  let v176_r0 : BitVec 1 := Scalar.cmpi .eq v175_r0 c4_i32_132_r0
  let c1_i32_134_r0 : BitVec 32 := 1#32
  let v178_r0 : BitVec 32 := Scalar.addi arg10_r0 c1_i32_134_r0
  let v179_r0 : BitVec 32 := Scalar.select v176_r0 v178_r0 arg10_r0
  let c2_i32_135_r0 : BitVec 32 := 2#32
  let v180_r0 : BitVec 1 := Scalar.cmpi .eq v179_r0 c2_i32_135_r0
  let c0_i32_136_r0 : BitVec 32 := 0#32
  let v181_r0 : BitVec 32 := Scalar.select v180_r0 c0_i32_136_r0 v179_r0
  let c0_i32_137_r0 : BitVec 32 := 0#32
  let v182_r0 : BitVec 32 := Scalar.addi v181_r0 c0_i32_137_r0
  let c128_i32_161_r0 : BitVec 32 := 128#32
  let v225_r0 : BitVec 32 := Scalar.muli v182_r0 c128_i32_161_r0
  let c0_i32_133_r0 : BitVec 32 := 0#32
  let v177_r0 : BitVec 32 := Scalar.select v176_r0 c0_i32_133_r0 v175_r0
  let v183_r0 : BitVec 32 := Scalar.addi v177_r0 v4
  let v226_r0 : BitVec 32 := Scalar.addi v225_r0 v183_r0
  let c0_i32_163_r0 : BitVec 32 := 0#32
  let v228_r0 : BitVec 1 := Scalar.cmpi .sgt v226_r0 c0_i32_163_r0
  let v229_r0 : BitVec 32 := Scalar.extui v228_r0
  let c0_i32_164_r0 : BitVec 32 := 0#32
  let v230_r0 : BitVec 1 := Scalar.cmpi .slt v226_r0 c0_i32_164_r0
  let v231_r0 : BitVec 32 := Scalar.extui v230_r0
  let v232_r0 : BitVec 32 := Scalar.subi v229_r0 v231_r0
  let c64_i32_162_r0 : BitVec 32 := 64#32
  let c0_i32_165_r0 : BitVec 32 := 0#32
  let v233_r0 : BitVec 1 := Scalar.cmpi .sgt c64_i32_162_r0 c0_i32_165_r0
  let v234_r0 : BitVec 32 := Scalar.extui v233_r0
  let c0_i32_166_r0 : BitVec 32 := 0#32
  let v235_r0 : BitVec 1 := Scalar.cmpi .slt c64_i32_162_r0 c0_i32_166_r0
  let v236_r0 : BitVec 32 := Scalar.extui v235_r0
  let v237_r0 : BitVec 32 := Scalar.subi v234_r0 v236_r0
  let v238_r0 : BitVec 1 := Scalar.cmpi .ne v232_r0 v237_r0
  let v239_r0 : BitVec 32 := Scalar.remsi v226_r0 c64_i32_162_r0
  let c0_i32_167_r0 : BitVec 32 := 0#32
  let v240_r0 : BitVec 1 := Scalar.cmpi .ne v239_r0 c0_i32_167_r0
  let v241_r0 : BitVec 1 := Scalar.andi v238_r0 v240_r0
  let v227_r0 : BitVec 32 := Scalar.divsi v226_r0 c64_i32_162_r0
  let c1_i32_168_r0 : BitVec 32 := 1#32
  let v242_r0 : BitVec 32 := Scalar.subi v227_r0 c1_i32_168_r0
  let v243_r0 : BitVec 32 := Scalar.select v241_r0 v242_r0 v227_r0
  let v256_r0 : BitVec 1 := Scalar.cmpi .ne v212_r0 v243_r0
  let c128_i32_154_r0 : BitVec 32 := 128#32
  let v213_r0 : BitVec 32 := Scalar.muli v162_r0 c128_i32_154_r0
  let v214_r0 : BitVec 32 := Scalar.addi v213_r0 v163_r0
  let c64_i32_155_r0 : BitVec 32 := 64#32
  let c0_i32_156_r0 : BitVec 32 := 0#32
  let v215_r0 : BitVec 1 := Scalar.cmpi .eq c64_i32_155_r0 c0_i32_156_r0
  let c1_i32_157_r0 : BitVec 32 := 1#32
  let v216_r0 : BitVec 32 := Scalar.select v215_r0 c1_i32_157_r0 c64_i32_155_r0
  let v217_r0 : BitVec 32 := Scalar.remsi v214_r0 v216_r0
  let c0_i32_159_r0 : BitVec 32 := 0#32
  let v219_r0 : BitVec 1 := Scalar.cmpi .slt v217_r0 c0_i32_159_r0
  let c0_i32_160_r0 : BitVec 32 := 0#32
  let v220_r0 : BitVec 1 := Scalar.cmpi .slt v216_r0 c0_i32_160_r0
  let v221_r0 : BitVec 1 := Scalar.xori v219_r0 v220_r0
  let c0_i32_158_r0 : BitVec 32 := 0#32
  let v218_r0 : BitVec 1 := Scalar.cmpi .ne v217_r0 c0_i32_158_r0
  let v222_r0 : BitVec 1 := Scalar.andi v221_r0 v218_r0
  let v223_r0 : BitVec 32 := Scalar.addi v217_r0 v216_r0
  let v224_r0 : BitVec 32 := Scalar.select v222_r0 v223_r0 v217_r0
  let c128_i32_169_r0 : BitVec 32 := 128#32
  let v244_r0 : BitVec 32 := Scalar.muli v182_r0 c128_i32_169_r0
  let v245_r0 : BitVec 32 := Scalar.addi v244_r0 v183_r0
  let c64_i32_170_r0 : BitVec 32 := 64#32
  let c0_i32_171_r0 : BitVec 32 := 0#32
  let v246_r0 : BitVec 1 := Scalar.cmpi .eq c64_i32_170_r0 c0_i32_171_r0
  let c1_i32_172_r0 : BitVec 32 := 1#32
  let v247_r0 : BitVec 32 := Scalar.select v246_r0 c1_i32_172_r0 c64_i32_170_r0
  let v248_r0 : BitVec 32 := Scalar.remsi v245_r0 v247_r0
  let c0_i32_174_r0 : BitVec 32 := 0#32
  let v250_r0 : BitVec 1 := Scalar.cmpi .slt v248_r0 c0_i32_174_r0
  let c0_i32_175_r0 : BitVec 32 := 0#32
  let v251_r0 : BitVec 1 := Scalar.cmpi .slt v247_r0 c0_i32_175_r0
  let v252_r0 : BitVec 1 := Scalar.xori v250_r0 v251_r0
  let c0_i32_173_r0 : BitVec 32 := 0#32
  let v249_r0 : BitVec 1 := Scalar.cmpi .ne v248_r0 c0_i32_173_r0
  let v253_r0 : BitVec 1 := Scalar.andi v252_r0 v249_r0
  let v254_r0 : BitVec 32 := Scalar.addi v248_r0 v247_r0
  let v255_r0 : BitVec 32 := Scalar.select v253_r0 v254_r0 v248_r0
  let v257_r0 : BitVec 1 := Scalar.cmpi .ne v224_r0 v255_r0
  let v258_r0 : BitVec 1 := Scalar.ori v256_r0 v257_r0
  let c0_i32_59_r0 : BitVec 32 := 0#32
  let c1_i32_60_r0 : BitVec 32 := 1#32
  let arg5_r0 : BitVec 32 := Scf.iv c0_i32_59_r0 c1_i32_60_r0 k1_t1
  let c7_i32_176_r0 : BitVec 32 := 7#32
  let v259_r0 : BitVec 1 := Scalar.cmpi .sge arg5_r0 c7_i32_176_r0
  let true_177_r0 : BitVec 1 := 1#1
  let v260_r0 : BitVec 1 := Scalar.xori v259_r0 true_177_r0
  let v261_r0 : BitVec 1 := Scalar.andi v258_r0 v260_r0
  let true_178_r0 : BitVec 1 := 1#1
  let v262_r0 : BitVec 1 := Scalar.andi v261_r0 true_178_r0
  let v263_r0 : BitVec 32 := Scalar.extui v262_r0
  let c0_i32_179_r0 : BitVec 32 := 0#32
  let v264_r0 : BitVec 1 := Scalar.cmpi .ne v263_r0 c0_i32_179_r0
  v264_r0

def k1_off5 (i : grid1.Coords) (arg10_r0 : BitVec 32) (arg11_r0 : BitVec 32) : Fin 3 → Nat :=
  let c1_i32_287_r0 : BitVec 32 := 1#32
  let true_131_r0 : BitVec 1 := 1#1
  let c1_i32_130_r0 : BitVec 32 := 1#32
  let v174_r0 : BitVec 32 := Scalar.addi arg11_r0 c1_i32_130_r0
  let v175_r0 : BitVec 32 := Scalar.select true_131_r0 v174_r0 arg11_r0
  let c4_i32_132_r0 : BitVec 32 := 4#32
  let v176_r0 : BitVec 1 := Scalar.cmpi .eq v175_r0 c4_i32_132_r0
  let c1_i32_134_r0 : BitVec 32 := 1#32
  let v178_r0 : BitVec 32 := Scalar.addi arg10_r0 c1_i32_134_r0
  let v179_r0 : BitVec 32 := Scalar.select v176_r0 v178_r0 arg10_r0
  let c2_i32_135_r0 : BitVec 32 := 2#32
  let v180_r0 : BitVec 1 := Scalar.cmpi .eq v179_r0 c2_i32_135_r0
  let c0_i32_136_r0 : BitVec 32 := 0#32
  let v181_r0 : BitVec 32 := Scalar.select v180_r0 c0_i32_136_r0 v179_r0
  let c0_i32_137_r0 : BitVec 32 := 0#32
  let v182_r0 : BitVec 32 := Scalar.addi v181_r0 c0_i32_137_r0
  let c128_i32_272_r0 : BitVec 32 := 128#32
  let v465_r0 : BitVec 32 := Scalar.muli v182_r0 c128_i32_272_r0
  let c0_i32_133_r0 : BitVec 32 := 0#32
  let v177_r0 : BitVec 32 := Scalar.select v176_r0 c0_i32_133_r0 v175_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v183_r0 : BitVec 32 := Scalar.addi v177_r0 v4
  let v466_r0 : BitVec 32 := Scalar.addi v465_r0 v183_r0
  let c0_i32_274_r0 : BitVec 32 := 0#32
  let v468_r0 : BitVec 1 := Scalar.cmpi .sgt v466_r0 c0_i32_274_r0
  let v469_r0 : BitVec 32 := Scalar.extui v468_r0
  let c0_i32_275_r0 : BitVec 32 := 0#32
  let v470_r0 : BitVec 1 := Scalar.cmpi .slt v466_r0 c0_i32_275_r0
  let v471_r0 : BitVec 32 := Scalar.extui v470_r0
  let v472_r0 : BitVec 32 := Scalar.subi v469_r0 v471_r0
  let c64_i32_273_r0 : BitVec 32 := 64#32
  let c0_i32_276_r0 : BitVec 32 := 0#32
  let v473_r0 : BitVec 1 := Scalar.cmpi .sgt c64_i32_273_r0 c0_i32_276_r0
  let v474_r0 : BitVec 32 := Scalar.extui v473_r0
  let c0_i32_277_r0 : BitVec 32 := 0#32
  let v475_r0 : BitVec 1 := Scalar.cmpi .slt c64_i32_273_r0 c0_i32_277_r0
  let v476_r0 : BitVec 32 := Scalar.extui v475_r0
  let v477_r0 : BitVec 32 := Scalar.subi v474_r0 v476_r0
  let v478_r0 : BitVec 1 := Scalar.cmpi .ne v472_r0 v477_r0
  let v479_r0 : BitVec 32 := Scalar.remsi v466_r0 c64_i32_273_r0
  let c0_i32_278_r0 : BitVec 32 := 0#32
  let v480_r0 : BitVec 1 := Scalar.cmpi .ne v479_r0 c0_i32_278_r0
  let v481_r0 : BitVec 1 := Scalar.andi v478_r0 v480_r0
  let v467_r0 : BitVec 32 := Scalar.divsi v466_r0 c64_i32_273_r0
  let c1_i32_279_r0 : BitVec 32 := 1#32
  let v482_r0 : BitVec 32 := Scalar.subi v467_r0 c1_i32_279_r0
  let v483_r0 : BitVec 32 := Scalar.select v481_r0 v482_r0 v467_r0
  let v496_r0 : BitVec 32 := Scalar.muli c1_i32_287_r0 v483_r0
  let c1_i32_288_r0 : BitVec 32 := 1#32
  let c128_i32_280_r0 : BitVec 32 := 128#32
  let v484_r0 : BitVec 32 := Scalar.muli v182_r0 c128_i32_280_r0
  let v485_r0 : BitVec 32 := Scalar.addi v484_r0 v183_r0
  let c64_i32_281_r0 : BitVec 32 := 64#32
  let c0_i32_282_r0 : BitVec 32 := 0#32
  let v486_r0 : BitVec 1 := Scalar.cmpi .eq c64_i32_281_r0 c0_i32_282_r0
  let c1_i32_283_r0 : BitVec 32 := 1#32
  let v487_r0 : BitVec 32 := Scalar.select v486_r0 c1_i32_283_r0 c64_i32_281_r0
  let v488_r0 : BitVec 32 := Scalar.remsi v485_r0 v487_r0
  let c0_i32_285_r0 : BitVec 32 := 0#32
  let v490_r0 : BitVec 1 := Scalar.cmpi .slt v488_r0 c0_i32_285_r0
  let c0_i32_286_r0 : BitVec 32 := 0#32
  let v491_r0 : BitVec 1 := Scalar.cmpi .slt v487_r0 c0_i32_286_r0
  let v492_r0 : BitVec 1 := Scalar.xori v490_r0 v491_r0
  let c0_i32_284_r0 : BitVec 32 := 0#32
  let v489_r0 : BitVec 1 := Scalar.cmpi .ne v488_r0 c0_i32_284_r0
  let v493_r0 : BitVec 1 := Scalar.andi v492_r0 v489_r0
  let v494_r0 : BitVec 32 := Scalar.addi v488_r0 v487_r0
  let v495_r0 : BitVec 32 := Scalar.select v493_r0 v494_r0 v488_r0
  let v497_r0 : BitVec 32 := Scalar.muli c1_i32_288_r0 v495_r0
  let c0_i32_292_r0 : BitVec 32 := 0#32
  ![v496_r0.toNat, v497_r0.toNat, 0]
def k1_off6 (arg6_r0 : BitVec 32) : Fin 1 → Nat :=
  let c2_i32_271_r0 : BitVec 32 := 2#32
  let v464_r0 : BitVec 32 := Scalar.remui arg6_r0 c2_i32_271_r0
  ![v464_r0.toNat]
def k1_off7 (arg7_r0 : BitVec 32) : Fin 4 → Nat :=
  let c2_i32_288_r0 : BitVec 32 := 2#32
  let v497_r0 : BitVec 32 := Scalar.remui arg7_r0 c2_i32_288_r0
  let c0_i32_289_r0 : BitVec 32 := 0#32
  let c0_i32_290_r0 : BitVec 32 := 0#32
  let c0_i32_291_r0 : BitVec 32 := 0#32
  ![v497_r0.toNat, 0, 0, 0]
def k1_cond2 (i : grid1.Coords) (k1_t1 : Fin k1_t1_loop.trips) (arg10_r0 : BitVec 32) (arg11_r0 : BitVec 32) : BitVec 1 :=
  let c0_i32_121_r0 : BitVec 32 := 0#32
  let v162_r0 : BitVec 32 := Scalar.addi arg10_r0 c0_i32_121_r0
  let c128_i32_146_r0 : BitVec 32 := 128#32
  let v194_r0 : BitVec 32 := Scalar.muli v162_r0 c128_i32_146_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v163_r0 : BitVec 32 := Scalar.addi arg11_r0 v4
  let v195_r0 : BitVec 32 := Scalar.addi v194_r0 v163_r0
  let c0_i32_148_r0 : BitVec 32 := 0#32
  let v197_r0 : BitVec 1 := Scalar.cmpi .sgt v195_r0 c0_i32_148_r0
  let v198_r0 : BitVec 32 := Scalar.extui v197_r0
  let c0_i32_149_r0 : BitVec 32 := 0#32
  let v199_r0 : BitVec 1 := Scalar.cmpi .slt v195_r0 c0_i32_149_r0
  let v200_r0 : BitVec 32 := Scalar.extui v199_r0
  let v201_r0 : BitVec 32 := Scalar.subi v198_r0 v200_r0
  let c64_i32_147_r0 : BitVec 32 := 64#32
  let c0_i32_150_r0 : BitVec 32 := 0#32
  let v202_r0 : BitVec 1 := Scalar.cmpi .sgt c64_i32_147_r0 c0_i32_150_r0
  let v203_r0 : BitVec 32 := Scalar.extui v202_r0
  let c0_i32_151_r0 : BitVec 32 := 0#32
  let v204_r0 : BitVec 1 := Scalar.cmpi .slt c64_i32_147_r0 c0_i32_151_r0
  let v205_r0 : BitVec 32 := Scalar.extui v204_r0
  let v206_r0 : BitVec 32 := Scalar.subi v203_r0 v205_r0
  let v207_r0 : BitVec 1 := Scalar.cmpi .ne v201_r0 v206_r0
  let v208_r0 : BitVec 32 := Scalar.remsi v195_r0 c64_i32_147_r0
  let c0_i32_152_r0 : BitVec 32 := 0#32
  let v209_r0 : BitVec 1 := Scalar.cmpi .ne v208_r0 c0_i32_152_r0
  let v210_r0 : BitVec 1 := Scalar.andi v207_r0 v209_r0
  let v196_r0 : BitVec 32 := Scalar.divsi v195_r0 c64_i32_147_r0
  let c1_i32_153_r0 : BitVec 32 := 1#32
  let v211_r0 : BitVec 32 := Scalar.subi v196_r0 c1_i32_153_r0
  let v212_r0 : BitVec 32 := Scalar.select v210_r0 v211_r0 v196_r0
  let true_123_r0 : BitVec 1 := 1#1
  let c1_i32_122_r0 : BitVec 32 := 1#32
  let v164_r0 : BitVec 32 := Scalar.subi arg11_r0 c1_i32_122_r0
  let v165_r0 : BitVec 32 := Scalar.select true_123_r0 v164_r0 arg11_r0
  let c_m1_i32_124_r0 : BitVec 32 := 4294967295#32
  let v166_r0 : BitVec 1 := Scalar.cmpi .eq v165_r0 c_m1_i32_124_r0
  let c1_i32_126_r0 : BitVec 32 := 1#32
  let v168_r0 : BitVec 32 := Scalar.subi arg10_r0 c1_i32_126_r0
  let v169_r0 : BitVec 32 := Scalar.select v166_r0 v168_r0 arg10_r0
  let c_m1_i32_127_r0 : BitVec 32 := 4294967295#32
  let v170_r0 : BitVec 1 := Scalar.cmpi .eq v169_r0 c_m1_i32_127_r0
  let c1_i32_128_r0 : BitVec 32 := 1#32
  let v171_r0 : BitVec 32 := Scalar.select v170_r0 c1_i32_128_r0 v169_r0
  let c0_i32_129_r0 : BitVec 32 := 0#32
  let v172_r0 : BitVec 32 := Scalar.addi v171_r0 c0_i32_129_r0
  let c128_i32_214_r0 : BitVec 32 := 128#32
  let v336_r0 : BitVec 32 := Scalar.muli v172_r0 c128_i32_214_r0
  let c3_i32_125_r0 : BitVec 32 := 3#32
  let v167_r0 : BitVec 32 := Scalar.select v166_r0 c3_i32_125_r0 v165_r0
  let v173_r0 : BitVec 32 := Scalar.addi v167_r0 v4
  let v337_r0 : BitVec 32 := Scalar.addi v336_r0 v173_r0
  let c0_i32_216_r0 : BitVec 32 := 0#32
  let v339_r0 : BitVec 1 := Scalar.cmpi .sgt v337_r0 c0_i32_216_r0
  let v340_r0 : BitVec 32 := Scalar.extui v339_r0
  let c0_i32_217_r0 : BitVec 32 := 0#32
  let v341_r0 : BitVec 1 := Scalar.cmpi .slt v337_r0 c0_i32_217_r0
  let v342_r0 : BitVec 32 := Scalar.extui v341_r0
  let v343_r0 : BitVec 32 := Scalar.subi v340_r0 v342_r0
  let c64_i32_215_r0 : BitVec 32 := 64#32
  let c0_i32_218_r0 : BitVec 32 := 0#32
  let v344_r0 : BitVec 1 := Scalar.cmpi .sgt c64_i32_215_r0 c0_i32_218_r0
  let v345_r0 : BitVec 32 := Scalar.extui v344_r0
  let c0_i32_219_r0 : BitVec 32 := 0#32
  let v346_r0 : BitVec 1 := Scalar.cmpi .slt c64_i32_215_r0 c0_i32_219_r0
  let v347_r0 : BitVec 32 := Scalar.extui v346_r0
  let v348_r0 : BitVec 32 := Scalar.subi v345_r0 v347_r0
  let v349_r0 : BitVec 1 := Scalar.cmpi .ne v343_r0 v348_r0
  let v350_r0 : BitVec 32 := Scalar.remsi v337_r0 c64_i32_215_r0
  let c0_i32_220_r0 : BitVec 32 := 0#32
  let v351_r0 : BitVec 1 := Scalar.cmpi .ne v350_r0 c0_i32_220_r0
  let v352_r0 : BitVec 1 := Scalar.andi v349_r0 v351_r0
  let v338_r0 : BitVec 32 := Scalar.divsi v337_r0 c64_i32_215_r0
  let c1_i32_221_r0 : BitVec 32 := 1#32
  let v353_r0 : BitVec 32 := Scalar.subi v338_r0 c1_i32_221_r0
  let v354_r0 : BitVec 32 := Scalar.select v352_r0 v353_r0 v338_r0
  let v367_r0 : BitVec 1 := Scalar.cmpi .ne v212_r0 v354_r0
  let c128_i32_154_r0 : BitVec 32 := 128#32
  let v213_r0 : BitVec 32 := Scalar.muli v162_r0 c128_i32_154_r0
  let v214_r0 : BitVec 32 := Scalar.addi v213_r0 v163_r0
  let c64_i32_155_r0 : BitVec 32 := 64#32
  let c0_i32_156_r0 : BitVec 32 := 0#32
  let v215_r0 : BitVec 1 := Scalar.cmpi .eq c64_i32_155_r0 c0_i32_156_r0
  let c1_i32_157_r0 : BitVec 32 := 1#32
  let v216_r0 : BitVec 32 := Scalar.select v215_r0 c1_i32_157_r0 c64_i32_155_r0
  let v217_r0 : BitVec 32 := Scalar.remsi v214_r0 v216_r0
  let c0_i32_159_r0 : BitVec 32 := 0#32
  let v219_r0 : BitVec 1 := Scalar.cmpi .slt v217_r0 c0_i32_159_r0
  let c0_i32_160_r0 : BitVec 32 := 0#32
  let v220_r0 : BitVec 1 := Scalar.cmpi .slt v216_r0 c0_i32_160_r0
  let v221_r0 : BitVec 1 := Scalar.xori v219_r0 v220_r0
  let c0_i32_158_r0 : BitVec 32 := 0#32
  let v218_r0 : BitVec 1 := Scalar.cmpi .ne v217_r0 c0_i32_158_r0
  let v222_r0 : BitVec 1 := Scalar.andi v221_r0 v218_r0
  let v223_r0 : BitVec 32 := Scalar.addi v217_r0 v216_r0
  let v224_r0 : BitVec 32 := Scalar.select v222_r0 v223_r0 v217_r0
  let c128_i32_222_r0 : BitVec 32 := 128#32
  let v355_r0 : BitVec 32 := Scalar.muli v172_r0 c128_i32_222_r0
  let v356_r0 : BitVec 32 := Scalar.addi v355_r0 v173_r0
  let c64_i32_223_r0 : BitVec 32 := 64#32
  let c0_i32_224_r0 : BitVec 32 := 0#32
  let v357_r0 : BitVec 1 := Scalar.cmpi .eq c64_i32_223_r0 c0_i32_224_r0
  let c1_i32_225_r0 : BitVec 32 := 1#32
  let v358_r0 : BitVec 32 := Scalar.select v357_r0 c1_i32_225_r0 c64_i32_223_r0
  let v359_r0 : BitVec 32 := Scalar.remsi v356_r0 v358_r0
  let c0_i32_227_r0 : BitVec 32 := 0#32
  let v361_r0 : BitVec 1 := Scalar.cmpi .slt v359_r0 c0_i32_227_r0
  let c0_i32_228_r0 : BitVec 32 := 0#32
  let v362_r0 : BitVec 1 := Scalar.cmpi .slt v358_r0 c0_i32_228_r0
  let v363_r0 : BitVec 1 := Scalar.xori v361_r0 v362_r0
  let c0_i32_226_r0 : BitVec 32 := 0#32
  let v360_r0 : BitVec 1 := Scalar.cmpi .ne v359_r0 c0_i32_226_r0
  let v364_r0 : BitVec 1 := Scalar.andi v363_r0 v360_r0
  let v365_r0 : BitVec 32 := Scalar.addi v359_r0 v358_r0
  let v366_r0 : BitVec 32 := Scalar.select v364_r0 v365_r0 v359_r0
  let v368_r0 : BitVec 1 := Scalar.cmpi .ne v224_r0 v366_r0
  let v369_r0 : BitVec 1 := Scalar.ori v367_r0 v368_r0
  let c0_i32_59_r0 : BitVec 32 := 0#32
  let c1_i32_60_r0 : BitVec 32 := 1#32
  let arg5_r0 : BitVec 32 := Scf.iv c0_i32_59_r0 c1_i32_60_r0 k1_t1
  let c0_i32_120_r0 : BitVec 32 := 0#32
  let v160_r0 : BitVec 1 := Scalar.cmpi .eq arg5_r0 c0_i32_120_r0
  let v370_r0 : BitVec 1 := Scalar.ori v369_r0 v160_r0
  let c0_i32_229_r0 : BitVec 32 := 0#32
  let v371_r0 : BitVec 1 := Scalar.cmpi .sge arg5_r0 c0_i32_229_r0
  let v372_r0 : BitVec 1 := Scalar.andi v370_r0 v371_r0
  let v373_r0 : BitVec 32 := Scalar.extui v372_r0
  let c0_i32_230_r0 : BitVec 32 := 0#32
  let v374_r0 : BitVec 1 := Scalar.cmpi .ne v373_r0 c0_i32_230_r0
  v374_r0

def k1_off8 (i : grid1.Coords) (arg10_r0 : BitVec 32) (arg11_r0 : BitVec 32) : Fin 3 → Nat :=
  let c1_i32_286_r0 : BitVec 32 := 1#32
  let c0_i32_121_r0 : BitVec 32 := 0#32
  let v162_r0 : BitVec 32 := Scalar.addi arg10_r0 c0_i32_121_r0
  let c128_i32_271_r0 : BitVec 32 := 128#32
  let v464_r0 : BitVec 32 := Scalar.muli v162_r0 c128_i32_271_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v163_r0 : BitVec 32 := Scalar.addi arg11_r0 v4
  let v465_r0 : BitVec 32 := Scalar.addi v464_r0 v163_r0
  let c0_i32_273_r0 : BitVec 32 := 0#32
  let v467_r0 : BitVec 1 := Scalar.cmpi .sgt v465_r0 c0_i32_273_r0
  let v468_r0 : BitVec 32 := Scalar.extui v467_r0
  let c0_i32_274_r0 : BitVec 32 := 0#32
  let v469_r0 : BitVec 1 := Scalar.cmpi .slt v465_r0 c0_i32_274_r0
  let v470_r0 : BitVec 32 := Scalar.extui v469_r0
  let v471_r0 : BitVec 32 := Scalar.subi v468_r0 v470_r0
  let c64_i32_272_r0 : BitVec 32 := 64#32
  let c0_i32_275_r0 : BitVec 32 := 0#32
  let v472_r0 : BitVec 1 := Scalar.cmpi .sgt c64_i32_272_r0 c0_i32_275_r0
  let v473_r0 : BitVec 32 := Scalar.extui v472_r0
  let c0_i32_276_r0 : BitVec 32 := 0#32
  let v474_r0 : BitVec 1 := Scalar.cmpi .slt c64_i32_272_r0 c0_i32_276_r0
  let v475_r0 : BitVec 32 := Scalar.extui v474_r0
  let v476_r0 : BitVec 32 := Scalar.subi v473_r0 v475_r0
  let v477_r0 : BitVec 1 := Scalar.cmpi .ne v471_r0 v476_r0
  let v478_r0 : BitVec 32 := Scalar.remsi v465_r0 c64_i32_272_r0
  let c0_i32_277_r0 : BitVec 32 := 0#32
  let v479_r0 : BitVec 1 := Scalar.cmpi .ne v478_r0 c0_i32_277_r0
  let v480_r0 : BitVec 1 := Scalar.andi v477_r0 v479_r0
  let v466_r0 : BitVec 32 := Scalar.divsi v465_r0 c64_i32_272_r0
  let c1_i32_278_r0 : BitVec 32 := 1#32
  let v481_r0 : BitVec 32 := Scalar.subi v466_r0 c1_i32_278_r0
  let v482_r0 : BitVec 32 := Scalar.select v480_r0 v481_r0 v466_r0
  let v495_r0 : BitVec 32 := Scalar.muli c1_i32_286_r0 v482_r0
  let c1_i32_287_r0 : BitVec 32 := 1#32
  let c128_i32_279_r0 : BitVec 32 := 128#32
  let v483_r0 : BitVec 32 := Scalar.muli v162_r0 c128_i32_279_r0
  let v484_r0 : BitVec 32 := Scalar.addi v483_r0 v163_r0
  let c64_i32_280_r0 : BitVec 32 := 64#32
  let c0_i32_281_r0 : BitVec 32 := 0#32
  let v485_r0 : BitVec 1 := Scalar.cmpi .eq c64_i32_280_r0 c0_i32_281_r0
  let c1_i32_282_r0 : BitVec 32 := 1#32
  let v486_r0 : BitVec 32 := Scalar.select v485_r0 c1_i32_282_r0 c64_i32_280_r0
  let v487_r0 : BitVec 32 := Scalar.remsi v484_r0 v486_r0
  let c0_i32_284_r0 : BitVec 32 := 0#32
  let v489_r0 : BitVec 1 := Scalar.cmpi .slt v487_r0 c0_i32_284_r0
  let c0_i32_285_r0 : BitVec 32 := 0#32
  let v490_r0 : BitVec 1 := Scalar.cmpi .slt v486_r0 c0_i32_285_r0
  let v491_r0 : BitVec 1 := Scalar.xori v489_r0 v490_r0
  let c0_i32_283_r0 : BitVec 32 := 0#32
  let v488_r0 : BitVec 1 := Scalar.cmpi .ne v487_r0 c0_i32_283_r0
  let v492_r0 : BitVec 1 := Scalar.andi v491_r0 v488_r0
  let v493_r0 : BitVec 32 := Scalar.addi v487_r0 v486_r0
  let v494_r0 : BitVec 32 := Scalar.select v492_r0 v493_r0 v487_r0
  let v496_r0 : BitVec 32 := Scalar.muli c1_i32_287_r0 v494_r0
  let c0_i32_292_r0 : BitVec 32 := 0#32
  ![v495_r0.toNat, v496_r0.toNat, 0]
def k1_off9 (arg7_r0 : BitVec 32) : Fin 1 → Nat :=
  let c2_i32_288_r0 : BitVec 32 := 2#32
  let v497_r0 : BitVec 32 := Scalar.remui arg7_r0 c2_i32_288_r0
  ![v497_r0.toNat]
def k1_off10 (arg8_r0 : BitVec 32) : Fin 4 → Nat :=
  let c2_i32_249_r0 : BitVec 32 := 2#32
  let v415_r0 : BitVec 32 := Scalar.remui arg8_r0 c2_i32_249_r0
  let c0_i32_271_r1 : BitVec 32 := 0#32
  let c0_i32_272_r1 : BitVec 32 := 0#32
  let c0_i32_273_r1 : BitVec 32 := 0#32
  ![v415_r0.toNat, 0, 0, 0]

def k1_chk2 (arg8_r0 : BitVec 32) : Prop :=
  (∀ a, (k1_off10 arg8_r0) a + S1x128x2x128.size a ≤ S2x128x2x128.size a)
theorem k1_off10_inb : ∀ (arg8_r0 : BitVec 32) (k1_hw2 : k1_chk2 arg8_r0), ∀ a, (k1_off10 arg8_r0) a + S1x128x2x128.size a ≤ S2x128x2x128.size a := fun arg8_r0 k1_hw2 => k1_hw2

def k1_off11 (arg7_r0 : BitVec 32) : Fin 4 → Nat :=
  let c2_i32_248_r0 : BitVec 32 := 2#32
  let v414_r0 : BitVec 32 := Scalar.remui arg7_r0 c2_i32_248_r0
  let c0_i32_274_r1 : BitVec 32 := 0#32
  let c0_i32_275_r1 : BitVec 32 := 0#32
  let c0_i32_276_r1 : BitVec 32 := 0#32
  ![v414_r0.toNat, 0, 0, 0]

def k1_chk3 (arg7_r0 : BitVec 32) : Prop :=
  (∀ a, (k1_off11 arg7_r0) a + S1x1x1x128.size a ≤ S2x1x1x128.size a)
theorem k1_off11_inb : ∀ (arg7_r0 : BitVec 32) (k1_hw3 : k1_chk3 arg7_r0), ∀ a, (k1_off11 arg7_r0) a + S1x1x1x128.size a ≤ S2x1x1x128.size a := fun arg7_r0 k1_hw3 => k1_hw3

def k1_off12 (arg8_r0 : BitVec 32) : Fin 4 → Nat :=
  let c2_i32_271_r0 : BitVec 32 := 2#32
  let v464_r0 : BitVec 32 := Scalar.remui arg8_r0 c2_i32_271_r0
  let c0_i32_288_r0 : BitVec 32 := 0#32
  let c0_i32_289_r0 : BitVec 32 := 0#32
  let c0_i32_290_r0 : BitVec 32 := 0#32
  ![v464_r0.toNat, 0, 0, 0]
def k1_cond5 (i : grid1.Coords) (k1_t1 : Fin k1_t1_loop.trips) (arg10_r0 : BitVec 32) (arg11_r0 : BitVec 32) : BitVec 1 :=
  let c0_i32_121_r0 : BitVec 32 := 0#32
  let v162_r0 : BitVec 32 := Scalar.addi arg10_r0 c0_i32_121_r0
  let c128_i32_182_r0 : BitVec 32 := 128#32
  let v268_r0 : BitVec 32 := Scalar.muli v162_r0 c128_i32_182_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v163_r0 : BitVec 32 := Scalar.addi arg11_r0 v4
  let v269_r0 : BitVec 32 := Scalar.addi v268_r0 v163_r0
  let c64_i32_183_r0 : BitVec 32 := 64#32
  let c0_i32_184_r0 : BitVec 32 := 0#32
  let v270_r0 : BitVec 1 := Scalar.cmpi .eq c64_i32_183_r0 c0_i32_184_r0
  let c1_i32_185_r0 : BitVec 32 := 1#32
  let v271_r0 : BitVec 32 := Scalar.select v270_r0 c1_i32_185_r0 c64_i32_183_r0
  let v272_r0 : BitVec 32 := Scalar.remsi v269_r0 v271_r0
  let c0_i32_187_r0 : BitVec 32 := 0#32
  let v274_r0 : BitVec 1 := Scalar.cmpi .slt v272_r0 c0_i32_187_r0
  let c0_i32_188_r0 : BitVec 32 := 0#32
  let v275_r0 : BitVec 1 := Scalar.cmpi .slt v271_r0 c0_i32_188_r0
  let v276_r0 : BitVec 1 := Scalar.xori v274_r0 v275_r0
  let c0_i32_186_r0 : BitVec 32 := 0#32
  let v273_r0 : BitVec 1 := Scalar.cmpi .ne v272_r0 c0_i32_186_r0
  let v277_r0 : BitVec 1 := Scalar.andi v276_r0 v273_r0
  let v278_r0 : BitVec 32 := Scalar.addi v272_r0 v271_r0
  let v279_r0 : BitVec 32 := Scalar.select v277_r0 v278_r0 v272_r0
  let true_131_r0 : BitVec 1 := 1#1
  let c1_i32_130_r0 : BitVec 32 := 1#32
  let v174_r0 : BitVec 32 := Scalar.addi arg11_r0 c1_i32_130_r0
  let v175_r0 : BitVec 32 := Scalar.select true_131_r0 v174_r0 arg11_r0
  let c4_i32_132_r0 : BitVec 32 := 4#32
  let v176_r0 : BitVec 1 := Scalar.cmpi .eq v175_r0 c4_i32_132_r0
  let c1_i32_134_r0 : BitVec 32 := 1#32
  let v178_r0 : BitVec 32 := Scalar.addi arg10_r0 c1_i32_134_r0
  let v179_r0 : BitVec 32 := Scalar.select v176_r0 v178_r0 arg10_r0
  let c2_i32_135_r0 : BitVec 32 := 2#32
  let v180_r0 : BitVec 1 := Scalar.cmpi .eq v179_r0 c2_i32_135_r0
  let c0_i32_136_r0 : BitVec 32 := 0#32
  let v181_r0 : BitVec 32 := Scalar.select v180_r0 c0_i32_136_r0 v179_r0
  let c0_i32_137_r0 : BitVec 32 := 0#32
  let v182_r0 : BitVec 32 := Scalar.addi v181_r0 c0_i32_137_r0
  let c128_i32_197_r0 : BitVec 32 := 128#32
  let v299_r0 : BitVec 32 := Scalar.muli v182_r0 c128_i32_197_r0
  let c0_i32_133_r0 : BitVec 32 := 0#32
  let v177_r0 : BitVec 32 := Scalar.select v176_r0 c0_i32_133_r0 v175_r0
  let v183_r0 : BitVec 32 := Scalar.addi v177_r0 v4
  let v300_r0 : BitVec 32 := Scalar.addi v299_r0 v183_r0
  let c64_i32_198_r0 : BitVec 32 := 64#32
  let c0_i32_199_r0 : BitVec 32 := 0#32
  let v301_r0 : BitVec 1 := Scalar.cmpi .eq c64_i32_198_r0 c0_i32_199_r0
  let c1_i32_200_r0 : BitVec 32 := 1#32
  let v302_r0 : BitVec 32 := Scalar.select v301_r0 c1_i32_200_r0 c64_i32_198_r0
  let v303_r0 : BitVec 32 := Scalar.remsi v300_r0 v302_r0
  let c0_i32_202_r0 : BitVec 32 := 0#32
  let v305_r0 : BitVec 1 := Scalar.cmpi .slt v303_r0 c0_i32_202_r0
  let c0_i32_203_r0 : BitVec 32 := 0#32
  let v306_r0 : BitVec 1 := Scalar.cmpi .slt v302_r0 c0_i32_203_r0
  let v307_r0 : BitVec 1 := Scalar.xori v305_r0 v306_r0
  let c0_i32_201_r0 : BitVec 32 := 0#32
  let v304_r0 : BitVec 1 := Scalar.cmpi .ne v303_r0 c0_i32_201_r0
  let v308_r0 : BitVec 1 := Scalar.andi v307_r0 v304_r0
  let v309_r0 : BitVec 32 := Scalar.addi v303_r0 v302_r0
  let v310_r0 : BitVec 32 := Scalar.select v308_r0 v309_r0 v303_r0
  let v423_r0 : BitVec 1 := Scalar.cmpi .ne v279_r0 v310_r0
  let c128_i32_189_r0 : BitVec 32 := 128#32
  let v280_r0 : BitVec 32 := Scalar.muli v162_r0 c128_i32_189_r0
  let v281_r0 : BitVec 32 := Scalar.addi v280_r0 v163_r0
  let c0_i32_191_r0 : BitVec 32 := 0#32
  let v283_r0 : BitVec 1 := Scalar.cmpi .sgt v281_r0 c0_i32_191_r0
  let v284_r0 : BitVec 32 := Scalar.extui v283_r0
  let c0_i32_192_r0 : BitVec 32 := 0#32
  let v285_r0 : BitVec 1 := Scalar.cmpi .slt v281_r0 c0_i32_192_r0
  let v286_r0 : BitVec 32 := Scalar.extui v285_r0
  let v287_r0 : BitVec 32 := Scalar.subi v284_r0 v286_r0
  let c64_i32_190_r0 : BitVec 32 := 64#32
  let c0_i32_193_r0 : BitVec 32 := 0#32
  let v288_r0 : BitVec 1 := Scalar.cmpi .sgt c64_i32_190_r0 c0_i32_193_r0
  let v289_r0 : BitVec 32 := Scalar.extui v288_r0
  let c0_i32_194_r0 : BitVec 32 := 0#32
  let v290_r0 : BitVec 1 := Scalar.cmpi .slt c64_i32_190_r0 c0_i32_194_r0
  let v291_r0 : BitVec 32 := Scalar.extui v290_r0
  let v292_r0 : BitVec 32 := Scalar.subi v289_r0 v291_r0
  let v293_r0 : BitVec 1 := Scalar.cmpi .ne v287_r0 v292_r0
  let v294_r0 : BitVec 32 := Scalar.remsi v281_r0 c64_i32_190_r0
  let c0_i32_195_r0 : BitVec 32 := 0#32
  let v295_r0 : BitVec 1 := Scalar.cmpi .ne v294_r0 c0_i32_195_r0
  let v296_r0 : BitVec 1 := Scalar.andi v293_r0 v295_r0
  let v282_r0 : BitVec 32 := Scalar.divsi v281_r0 c64_i32_190_r0
  let c1_i32_196_r0 : BitVec 32 := 1#32
  let v297_r0 : BitVec 32 := Scalar.subi v282_r0 c1_i32_196_r0
  let v298_r0 : BitVec 32 := Scalar.select v296_r0 v297_r0 v282_r0
  let c128_i32_204_r0 : BitVec 32 := 128#32
  let v311_r0 : BitVec 32 := Scalar.muli v182_r0 c128_i32_204_r0
  let v312_r0 : BitVec 32 := Scalar.addi v311_r0 v183_r0
  let c0_i32_206_r0 : BitVec 32 := 0#32
  let v314_r0 : BitVec 1 := Scalar.cmpi .sgt v312_r0 c0_i32_206_r0
  let v315_r0 : BitVec 32 := Scalar.extui v314_r0
  let c0_i32_207_r0 : BitVec 32 := 0#32
  let v316_r0 : BitVec 1 := Scalar.cmpi .slt v312_r0 c0_i32_207_r0
  let v317_r0 : BitVec 32 := Scalar.extui v316_r0
  let v318_r0 : BitVec 32 := Scalar.subi v315_r0 v317_r0
  let c64_i32_205_r0 : BitVec 32 := 64#32
  let c0_i32_208_r0 : BitVec 32 := 0#32
  let v319_r0 : BitVec 1 := Scalar.cmpi .sgt c64_i32_205_r0 c0_i32_208_r0
  let v320_r0 : BitVec 32 := Scalar.extui v319_r0
  let c0_i32_209_r0 : BitVec 32 := 0#32
  let v321_r0 : BitVec 1 := Scalar.cmpi .slt c64_i32_205_r0 c0_i32_209_r0
  let v322_r0 : BitVec 32 := Scalar.extui v321_r0
  let v323_r0 : BitVec 32 := Scalar.subi v320_r0 v322_r0
  let v324_r0 : BitVec 1 := Scalar.cmpi .ne v318_r0 v323_r0
  let v325_r0 : BitVec 32 := Scalar.remsi v312_r0 c64_i32_205_r0
  let c0_i32_210_r0 : BitVec 32 := 0#32
  let v326_r0 : BitVec 1 := Scalar.cmpi .ne v325_r0 c0_i32_210_r0
  let v327_r0 : BitVec 1 := Scalar.andi v324_r0 v326_r0
  let v313_r0 : BitVec 32 := Scalar.divsi v312_r0 c64_i32_205_r0
  let c1_i32_211_r0 : BitVec 32 := 1#32
  let v328_r0 : BitVec 32 := Scalar.subi v313_r0 c1_i32_211_r0
  let v329_r0 : BitVec 32 := Scalar.select v327_r0 v328_r0 v313_r0
  let v424_r0 : BitVec 1 := Scalar.cmpi .ne v298_r0 v329_r0
  let v425_r0 : BitVec 1 := Scalar.ori v423_r0 v424_r0
  let c0_i32_59_r0 : BitVec 32 := 0#32
  let c1_i32_60_r0 : BitVec 32 := 1#32
  let arg5_r0 : BitVec 32 := Scf.iv c0_i32_59_r0 c1_i32_60_r0 k1_t1
  let c7_i32_r0 : BitVec 32 := 7#32
  let v161_r0 : BitVec 1 := Scalar.cmpi .eq arg5_r0 c7_i32_r0
  let v426_r0 : BitVec 1 := Scalar.ori v425_r0 v161_r0
  let v427_r0 : BitVec 32 := Scalar.extui v426_r0
  let c0_i32_253_r0 : BitVec 32 := 0#32
  let v428_r0 : BitVec 1 := Scalar.cmpi .ne v427_r0 c0_i32_253_r0
  v428_r0

def k1_off13 (i : grid1.Coords) (arg10_r0 : BitVec 32) (arg11_r0 : BitVec 32) : Fin 4 → Nat :=
  let c128_i32_287_r0 : BitVec 32 := 128#32
  let c0_i32_121_r0 : BitVec 32 := 0#32
  let v162_r0 : BitVec 32 := Scalar.addi arg10_r0 c0_i32_121_r0
  let c128_i32_272_r0 : BitVec 32 := 128#32
  let v465_r0 : BitVec 32 := Scalar.muli v162_r0 c128_i32_272_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v163_r0 : BitVec 32 := Scalar.addi arg11_r0 v4
  let v466_r0 : BitVec 32 := Scalar.addi v465_r0 v163_r0
  let c64_i32_273_r0 : BitVec 32 := 64#32
  let c0_i32_274_r0 : BitVec 32 := 0#32
  let v467_r0 : BitVec 1 := Scalar.cmpi .eq c64_i32_273_r0 c0_i32_274_r0
  let c1_i32_275_r0 : BitVec 32 := 1#32
  let v468_r0 : BitVec 32 := Scalar.select v467_r0 c1_i32_275_r0 c64_i32_273_r0
  let v469_r0 : BitVec 32 := Scalar.remsi v466_r0 v468_r0
  let c0_i32_277_r0 : BitVec 32 := 0#32
  let v471_r0 : BitVec 1 := Scalar.cmpi .slt v469_r0 c0_i32_277_r0
  let c0_i32_278_r0 : BitVec 32 := 0#32
  let v472_r0 : BitVec 1 := Scalar.cmpi .slt v468_r0 c0_i32_278_r0
  let v473_r0 : BitVec 1 := Scalar.xori v471_r0 v472_r0
  let c0_i32_276_r0 : BitVec 32 := 0#32
  let v470_r0 : BitVec 1 := Scalar.cmpi .ne v469_r0 c0_i32_276_r0
  let v474_r0 : BitVec 1 := Scalar.andi v473_r0 v470_r0
  let v475_r0 : BitVec 32 := Scalar.addi v469_r0 v468_r0
  let v476_r0 : BitVec 32 := Scalar.select v474_r0 v475_r0 v469_r0
  let v496_r0 : BitVec 32 := Scalar.muli c128_i32_287_r0 v476_r0
  let c128_i32_279_r0 : BitVec 32 := 128#32
  let v477_r0 : BitVec 32 := Scalar.muli v162_r0 c128_i32_279_r0
  let v478_r0 : BitVec 32 := Scalar.addi v477_r0 v163_r0
  let c0_i32_281_r0 : BitVec 32 := 0#32
  let v480_r0 : BitVec 1 := Scalar.cmpi .sgt v478_r0 c0_i32_281_r0
  let v481_r0 : BitVec 32 := Scalar.extui v480_r0
  let c0_i32_282_r0 : BitVec 32 := 0#32
  let v482_r0 : BitVec 1 := Scalar.cmpi .slt v478_r0 c0_i32_282_r0
  let v483_r0 : BitVec 32 := Scalar.extui v482_r0
  let v484_r0 : BitVec 32 := Scalar.subi v481_r0 v483_r0
  let c64_i32_280_r0 : BitVec 32 := 64#32
  let c0_i32_283_r0 : BitVec 32 := 0#32
  let v485_r0 : BitVec 1 := Scalar.cmpi .sgt c64_i32_280_r0 c0_i32_283_r0
  let v486_r0 : BitVec 32 := Scalar.extui v485_r0
  let c0_i32_284_r0 : BitVec 32 := 0#32
  let v487_r0 : BitVec 1 := Scalar.cmpi .slt c64_i32_280_r0 c0_i32_284_r0
  let v488_r0 : BitVec 32 := Scalar.extui v487_r0
  let v489_r0 : BitVec 32 := Scalar.subi v486_r0 v488_r0
  let v490_r0 : BitVec 1 := Scalar.cmpi .ne v484_r0 v489_r0
  let v491_r0 : BitVec 32 := Scalar.remsi v478_r0 c64_i32_280_r0
  let c0_i32_285_r0 : BitVec 32 := 0#32
  let v492_r0 : BitVec 1 := Scalar.cmpi .ne v491_r0 c0_i32_285_r0
  let v493_r0 : BitVec 1 := Scalar.andi v490_r0 v492_r0
  let v479_r0 : BitVec 32 := Scalar.divsi v478_r0 c64_i32_280_r0
  let c1_i32_286_r0 : BitVec 32 := 1#32
  let v494_r0 : BitVec 32 := Scalar.subi v479_r0 c1_i32_286_r0
  let v495_r0 : BitVec 32 := Scalar.select v493_r0 v494_r0 v479_r0
  let c0_i32_291_r0 : BitVec 32 := 0#32
  let c0_i32_292_r0 : BitVec 32 := 0#32
  ![v496_r0.toNat, v495_r0.toNat, 0, 0]
def k1_off14 (arg8_r0 : BitVec 32) : Fin 1 → Nat :=
  let c2_i32_271_r0 : BitVec 32 := 2#32
  let v464_r0 : BitVec 32 := Scalar.remui arg8_r0 c2_i32_271_r0
  ![v464_r0.toNat]
def k1_off15 (arg9_r0 : BitVec 32) : Fin 4 → Nat :=
  let c2_i32_271_r0 : BitVec 32 := 2#32
  let v464_r0 : BitVec 32 := Scalar.remui arg9_r0 c2_i32_271_r0
  let c0_i32_288_r0 : BitVec 32 := 0#32
  let c0_i32_289_r0 : BitVec 32 := 0#32
  let c0_i32_290_r0 : BitVec 32 := 0#32
  ![v464_r0.toNat, 0, 0, 0]
def k1_cond7 (i : grid1.Coords) (k1_t1 : Fin k1_t1_loop.trips) (arg10_r0 : BitVec 32) (arg11_r0 : BitVec 32) : BitVec 1 :=
  let c0_i32_121_r0 : BitVec 32 := 0#32
  let v162_r0 : BitVec 32 := Scalar.addi arg10_r0 c0_i32_121_r0
  let c128_i32_182_r0 : BitVec 32 := 128#32
  let v268_r0 : BitVec 32 := Scalar.muli v162_r0 c128_i32_182_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v163_r0 : BitVec 32 := Scalar.addi arg11_r0 v4
  let v269_r0 : BitVec 32 := Scalar.addi v268_r0 v163_r0
  let c64_i32_183_r0 : BitVec 32 := 64#32
  let c0_i32_184_r0 : BitVec 32 := 0#32
  let v270_r0 : BitVec 1 := Scalar.cmpi .eq c64_i32_183_r0 c0_i32_184_r0
  let c1_i32_185_r0 : BitVec 32 := 1#32
  let v271_r0 : BitVec 32 := Scalar.select v270_r0 c1_i32_185_r0 c64_i32_183_r0
  let v272_r0 : BitVec 32 := Scalar.remsi v269_r0 v271_r0
  let c0_i32_187_r0 : BitVec 32 := 0#32
  let v274_r0 : BitVec 1 := Scalar.cmpi .slt v272_r0 c0_i32_187_r0
  let c0_i32_188_r0 : BitVec 32 := 0#32
  let v275_r0 : BitVec 1 := Scalar.cmpi .slt v271_r0 c0_i32_188_r0
  let v276_r0 : BitVec 1 := Scalar.xori v274_r0 v275_r0
  let c0_i32_186_r0 : BitVec 32 := 0#32
  let v273_r0 : BitVec 1 := Scalar.cmpi .ne v272_r0 c0_i32_186_r0
  let v277_r0 : BitVec 1 := Scalar.andi v276_r0 v273_r0
  let v278_r0 : BitVec 32 := Scalar.addi v272_r0 v271_r0
  let v279_r0 : BitVec 32 := Scalar.select v277_r0 v278_r0 v272_r0
  let true_123_r0 : BitVec 1 := 1#1
  let c1_i32_122_r0 : BitVec 32 := 1#32
  let v164_r0 : BitVec 32 := Scalar.subi arg11_r0 c1_i32_122_r0
  let v165_r0 : BitVec 32 := Scalar.select true_123_r0 v164_r0 arg11_r0
  let c_m1_i32_124_r0 : BitVec 32 := 4294967295#32
  let v166_r0 : BitVec 1 := Scalar.cmpi .eq v165_r0 c_m1_i32_124_r0
  let c1_i32_126_r0 : BitVec 32 := 1#32
  let v168_r0 : BitVec 32 := Scalar.subi arg10_r0 c1_i32_126_r0
  let v169_r0 : BitVec 32 := Scalar.select v166_r0 v168_r0 arg10_r0
  let c_m1_i32_127_r0 : BitVec 32 := 4294967295#32
  let v170_r0 : BitVec 1 := Scalar.cmpi .eq v169_r0 c_m1_i32_127_r0
  let c1_i32_128_r0 : BitVec 32 := 1#32
  let v171_r0 : BitVec 32 := Scalar.select v170_r0 c1_i32_128_r0 v169_r0
  let c0_i32_129_r0 : BitVec 32 := 0#32
  let v172_r0 : BitVec 32 := Scalar.addi v171_r0 c0_i32_129_r0
  let c128_i32_231_r0 : BitVec 32 := 128#32
  let v375_r0 : BitVec 32 := Scalar.muli v172_r0 c128_i32_231_r0
  let c3_i32_125_r0 : BitVec 32 := 3#32
  let v167_r0 : BitVec 32 := Scalar.select v166_r0 c3_i32_125_r0 v165_r0
  let v173_r0 : BitVec 32 := Scalar.addi v167_r0 v4
  let v376_r0 : BitVec 32 := Scalar.addi v375_r0 v173_r0
  let c64_i32_232_r0 : BitVec 32 := 64#32
  let c0_i32_233_r0 : BitVec 32 := 0#32
  let v377_r0 : BitVec 1 := Scalar.cmpi .eq c64_i32_232_r0 c0_i32_233_r0
  let c1_i32_234_r0 : BitVec 32 := 1#32
  let v378_r0 : BitVec 32 := Scalar.select v377_r0 c1_i32_234_r0 c64_i32_232_r0
  let v379_r0 : BitVec 32 := Scalar.remsi v376_r0 v378_r0
  let c0_i32_236_r0 : BitVec 32 := 0#32
  let v381_r0 : BitVec 1 := Scalar.cmpi .slt v379_r0 c0_i32_236_r0
  let c0_i32_237_r0 : BitVec 32 := 0#32
  let v382_r0 : BitVec 1 := Scalar.cmpi .slt v378_r0 c0_i32_237_r0
  let v383_r0 : BitVec 1 := Scalar.xori v381_r0 v382_r0
  let c0_i32_235_r0 : BitVec 32 := 0#32
  let v380_r0 : BitVec 1 := Scalar.cmpi .ne v379_r0 c0_i32_235_r0
  let v384_r0 : BitVec 1 := Scalar.andi v383_r0 v380_r0
  let v385_r0 : BitVec 32 := Scalar.addi v379_r0 v378_r0
  let v386_r0 : BitVec 32 := Scalar.select v384_r0 v385_r0 v379_r0
  let v440_r0 : BitVec 1 := Scalar.cmpi .ne v279_r0 v386_r0
  let c128_i32_189_r0 : BitVec 32 := 128#32
  let v280_r0 : BitVec 32 := Scalar.muli v162_r0 c128_i32_189_r0
  let v281_r0 : BitVec 32 := Scalar.addi v280_r0 v163_r0
  let c0_i32_191_r0 : BitVec 32 := 0#32
  let v283_r0 : BitVec 1 := Scalar.cmpi .sgt v281_r0 c0_i32_191_r0
  let v284_r0 : BitVec 32 := Scalar.extui v283_r0
  let c0_i32_192_r0 : BitVec 32 := 0#32
  let v285_r0 : BitVec 1 := Scalar.cmpi .slt v281_r0 c0_i32_192_r0
  let v286_r0 : BitVec 32 := Scalar.extui v285_r0
  let v287_r0 : BitVec 32 := Scalar.subi v284_r0 v286_r0
  let c64_i32_190_r0 : BitVec 32 := 64#32
  let c0_i32_193_r0 : BitVec 32 := 0#32
  let v288_r0 : BitVec 1 := Scalar.cmpi .sgt c64_i32_190_r0 c0_i32_193_r0
  let v289_r0 : BitVec 32 := Scalar.extui v288_r0
  let c0_i32_194_r0 : BitVec 32 := 0#32
  let v290_r0 : BitVec 1 := Scalar.cmpi .slt c64_i32_190_r0 c0_i32_194_r0
  let v291_r0 : BitVec 32 := Scalar.extui v290_r0
  let v292_r0 : BitVec 32 := Scalar.subi v289_r0 v291_r0
  let v293_r0 : BitVec 1 := Scalar.cmpi .ne v287_r0 v292_r0
  let v294_r0 : BitVec 32 := Scalar.remsi v281_r0 c64_i32_190_r0
  let c0_i32_195_r0 : BitVec 32 := 0#32
  let v295_r0 : BitVec 1 := Scalar.cmpi .ne v294_r0 c0_i32_195_r0
  let v296_r0 : BitVec 1 := Scalar.andi v293_r0 v295_r0
  let v282_r0 : BitVec 32 := Scalar.divsi v281_r0 c64_i32_190_r0
  let c1_i32_196_r0 : BitVec 32 := 1#32
  let v297_r0 : BitVec 32 := Scalar.subi v282_r0 c1_i32_196_r0
  let v298_r0 : BitVec 32 := Scalar.select v296_r0 v297_r0 v282_r0
  let c128_i32_238_r0 : BitVec 32 := 128#32
  let v387_r0 : BitVec 32 := Scalar.muli v172_r0 c128_i32_238_r0
  let v388_r0 : BitVec 32 := Scalar.addi v387_r0 v173_r0
  let c0_i32_240_r0 : BitVec 32 := 0#32
  let v390_r0 : BitVec 1 := Scalar.cmpi .sgt v388_r0 c0_i32_240_r0
  let v391_r0 : BitVec 32 := Scalar.extui v390_r0
  let c0_i32_241_r0 : BitVec 32 := 0#32
  let v392_r0 : BitVec 1 := Scalar.cmpi .slt v388_r0 c0_i32_241_r0
  let v393_r0 : BitVec 32 := Scalar.extui v392_r0
  let v394_r0 : BitVec 32 := Scalar.subi v391_r0 v393_r0
  let c64_i32_239_r0 : BitVec 32 := 64#32
  let c0_i32_242_r0 : BitVec 32 := 0#32
  let v395_r0 : BitVec 1 := Scalar.cmpi .sgt c64_i32_239_r0 c0_i32_242_r0
  let v396_r0 : BitVec 32 := Scalar.extui v395_r0
  let c0_i32_243_r0 : BitVec 32 := 0#32
  let v397_r0 : BitVec 1 := Scalar.cmpi .slt c64_i32_239_r0 c0_i32_243_r0
  let v398_r0 : BitVec 32 := Scalar.extui v397_r0
  let v399_r0 : BitVec 32 := Scalar.subi v396_r0 v398_r0
  let v400_r0 : BitVec 1 := Scalar.cmpi .ne v394_r0 v399_r0
  let v401_r0 : BitVec 32 := Scalar.remsi v388_r0 c64_i32_239_r0
  let c0_i32_244_r0 : BitVec 32 := 0#32
  let v402_r0 : BitVec 1 := Scalar.cmpi .ne v401_r0 c0_i32_244_r0
  let v403_r0 : BitVec 1 := Scalar.andi v400_r0 v402_r0
  let v389_r0 : BitVec 32 := Scalar.divsi v388_r0 c64_i32_239_r0
  let c1_i32_245_r0 : BitVec 32 := 1#32
  let v404_r0 : BitVec 32 := Scalar.subi v389_r0 c1_i32_245_r0
  let v405_r0 : BitVec 32 := Scalar.select v403_r0 v404_r0 v389_r0
  let v441_r0 : BitVec 1 := Scalar.cmpi .ne v298_r0 v405_r0
  let v442_r0 : BitVec 1 := Scalar.ori v440_r0 v441_r0
  let c0_i32_59_r0 : BitVec 32 := 0#32
  let c1_i32_60_r0 : BitVec 32 := 1#32
  let arg5_r0 : BitVec 32 := Scf.iv c0_i32_59_r0 c1_i32_60_r0 k1_t1
  let c0_i32_120_r0 : BitVec 32 := 0#32
  let v160_r0 : BitVec 1 := Scalar.cmpi .eq arg5_r0 c0_i32_120_r0
  let true_259_r0 : BitVec 1 := 1#1
  let v443_r0 : BitVec 1 := Scalar.xori v160_r0 true_259_r0
  let v444_r0 : BitVec 1 := Scalar.andi v442_r0 v443_r0
  let v445_r0 : BitVec 32 := Scalar.extui v444_r0
  let c0_i32_260_r0 : BitVec 32 := 0#32
  let v446_r0 : BitVec 1 := Scalar.cmpi .ne v445_r0 c0_i32_260_r0
  v446_r0

def k1_off16 (i : grid1.Coords) (arg10_r0 : BitVec 32) (arg11_r0 : BitVec 32) : Fin 4 → Nat :=
  let c128_i32_287_r0 : BitVec 32 := 128#32
  let true_123_r0 : BitVec 1 := 1#1
  let c1_i32_122_r0 : BitVec 32 := 1#32
  let v164_r0 : BitVec 32 := Scalar.subi arg11_r0 c1_i32_122_r0
  let v165_r0 : BitVec 32 := Scalar.select true_123_r0 v164_r0 arg11_r0
  let c_m1_i32_124_r0 : BitVec 32 := 4294967295#32
  let v166_r0 : BitVec 1 := Scalar.cmpi .eq v165_r0 c_m1_i32_124_r0
  let c1_i32_126_r0 : BitVec 32 := 1#32
  let v168_r0 : BitVec 32 := Scalar.subi arg10_r0 c1_i32_126_r0
  let v169_r0 : BitVec 32 := Scalar.select v166_r0 v168_r0 arg10_r0
  let c_m1_i32_127_r0 : BitVec 32 := 4294967295#32
  let v170_r0 : BitVec 1 := Scalar.cmpi .eq v169_r0 c_m1_i32_127_r0
  let c1_i32_128_r0 : BitVec 32 := 1#32
  let v171_r0 : BitVec 32 := Scalar.select v170_r0 c1_i32_128_r0 v169_r0
  let c0_i32_129_r0 : BitVec 32 := 0#32
  let v172_r0 : BitVec 32 := Scalar.addi v171_r0 c0_i32_129_r0
  let c128_i32_272_r0 : BitVec 32 := 128#32
  let v465_r0 : BitVec 32 := Scalar.muli v172_r0 c128_i32_272_r0
  let c3_i32_125_r0 : BitVec 32 := 3#32
  let v167_r0 : BitVec 32 := Scalar.select v166_r0 c3_i32_125_r0 v165_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v173_r0 : BitVec 32 := Scalar.addi v167_r0 v4
  let v466_r0 : BitVec 32 := Scalar.addi v465_r0 v173_r0
  let c64_i32_273_r0 : BitVec 32 := 64#32
  let c0_i32_274_r0 : BitVec 32 := 0#32
  let v467_r0 : BitVec 1 := Scalar.cmpi .eq c64_i32_273_r0 c0_i32_274_r0
  let c1_i32_275_r0 : BitVec 32 := 1#32
  let v468_r0 : BitVec 32 := Scalar.select v467_r0 c1_i32_275_r0 c64_i32_273_r0
  let v469_r0 : BitVec 32 := Scalar.remsi v466_r0 v468_r0
  let c0_i32_277_r0 : BitVec 32 := 0#32
  let v471_r0 : BitVec 1 := Scalar.cmpi .slt v469_r0 c0_i32_277_r0
  let c0_i32_278_r0 : BitVec 32 := 0#32
  let v472_r0 : BitVec 1 := Scalar.cmpi .slt v468_r0 c0_i32_278_r0
  let v473_r0 : BitVec 1 := Scalar.xori v471_r0 v472_r0
  let c0_i32_276_r0 : BitVec 32 := 0#32
  let v470_r0 : BitVec 1 := Scalar.cmpi .ne v469_r0 c0_i32_276_r0
  let v474_r0 : BitVec 1 := Scalar.andi v473_r0 v470_r0
  let v475_r0 : BitVec 32 := Scalar.addi v469_r0 v468_r0
  let v476_r0 : BitVec 32 := Scalar.select v474_r0 v475_r0 v469_r0
  let v496_r0 : BitVec 32 := Scalar.muli c128_i32_287_r0 v476_r0
  let c128_i32_279_r0 : BitVec 32 := 128#32
  let v477_r0 : BitVec 32 := Scalar.muli v172_r0 c128_i32_279_r0
  let v478_r0 : BitVec 32 := Scalar.addi v477_r0 v173_r0
  let c0_i32_281_r0 : BitVec 32 := 0#32
  let v480_r0 : BitVec 1 := Scalar.cmpi .sgt v478_r0 c0_i32_281_r0
  let v481_r0 : BitVec 32 := Scalar.extui v480_r0
  let c0_i32_282_r0 : BitVec 32 := 0#32
  let v482_r0 : BitVec 1 := Scalar.cmpi .slt v478_r0 c0_i32_282_r0
  let v483_r0 : BitVec 32 := Scalar.extui v482_r0
  let v484_r0 : BitVec 32 := Scalar.subi v481_r0 v483_r0
  let c64_i32_280_r0 : BitVec 32 := 64#32
  let c0_i32_283_r0 : BitVec 32 := 0#32
  let v485_r0 : BitVec 1 := Scalar.cmpi .sgt c64_i32_280_r0 c0_i32_283_r0
  let v486_r0 : BitVec 32 := Scalar.extui v485_r0
  let c0_i32_284_r0 : BitVec 32 := 0#32
  let v487_r0 : BitVec 1 := Scalar.cmpi .slt c64_i32_280_r0 c0_i32_284_r0
  let v488_r0 : BitVec 32 := Scalar.extui v487_r0
  let v489_r0 : BitVec 32 := Scalar.subi v486_r0 v488_r0
  let v490_r0 : BitVec 1 := Scalar.cmpi .ne v484_r0 v489_r0
  let v491_r0 : BitVec 32 := Scalar.remsi v478_r0 c64_i32_280_r0
  let c0_i32_285_r0 : BitVec 32 := 0#32
  let v492_r0 : BitVec 1 := Scalar.cmpi .ne v491_r0 c0_i32_285_r0
  let v493_r0 : BitVec 1 := Scalar.andi v490_r0 v492_r0
  let v479_r0 : BitVec 32 := Scalar.divsi v478_r0 c64_i32_280_r0
  let c1_i32_286_r0 : BitVec 32 := 1#32
  let v494_r0 : BitVec 32 := Scalar.subi v479_r0 c1_i32_286_r0
  let v495_r0 : BitVec 32 := Scalar.select v493_r0 v494_r0 v479_r0
  let c0_i32_291_r0 : BitVec 32 := 0#32
  let c0_i32_292_r0 : BitVec 32 := 0#32
  ![v496_r0.toNat, v495_r0.toNat, 0, 0]
def k1_off17 (arg9_r0 : BitVec 32) : Fin 1 → Nat :=
  let c2_i32_271_r0 : BitVec 32 := 2#32
  let v464_r0 : BitVec 32 := Scalar.remui arg9_r0 c2_i32_271_r0
  ![v464_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) : Prop :=
  (∀ (k1_h1 : k1_cond1 i k1_t1 arg10_r0 arg11_r0 = 1#1), ∀ a, (k1_off4 arg6_r0) a + S1x1x1x128.size a ≤ S2x1x1x128.size a) ∧
  (∀ (k1_h1 : k1_cond1 i k1_t1 arg10_r0 arg11_r0 = 1#1), ∀ a, (k1_off5 i arg10_r0 arg11_r0) a + S1x1x128.size a ≤ S4x64x128.size a) ∧
  (∀ (k1_h1 : k1_cond1 i k1_t1 arg10_r0 arg11_r0 = 1#1), ∀ a, (k1_off6 arg6_r0) a + S1.size a ≤ S2.size a) ∧
  (∀ (k1_h2 : k1_cond2 i k1_t1 arg10_r0 arg11_r0 = 1#1), ∀ a, (k1_off7 arg7_r0) a + S1x1x1x128.size a ≤ S2x1x1x128.size a) ∧
  (∀ (k1_h2 : k1_cond2 i k1_t1 arg10_r0 arg11_r0 = 1#1), ∀ a, (k1_off8 i arg10_r0 arg11_r0) a + S1x1x128.size a ≤ S4x64x128.size a) ∧
  (∀ (k1_h2 : k1_cond2 i k1_t1 arg10_r0 arg11_r0 = 1#1), ∀ a, (k1_off9 arg7_r0) a + S1.size a ≤ S2.size a) ∧
  (∀ (k1_h5 : k1_cond5 i k1_t1 arg10_r0 arg11_r0 = 1#1), ∀ a, (k1_off12 arg8_r0) a + S1x128x2x128.size a ≤ S2x128x2x128.size a) ∧
  (∀ (k1_h5 : k1_cond5 i k1_t1 arg10_r0 arg11_r0 = 1#1), ∀ a, (k1_off13 i arg10_r0 arg11_r0) a + S128x1x2x128.size a ≤ S8192x4x2x128.size a) ∧
  (∀ (k1_h5 : k1_cond5 i k1_t1 arg10_r0 arg11_r0 = 1#1), ∀ a, (k1_off14 arg8_r0) a + S1.size a ≤ S2.size a) ∧
  (∀ (k1_h7 : k1_cond7 i k1_t1 arg10_r0 arg11_r0 = 1#1), ∀ a, (k1_off15 arg9_r0) a + S1x128x2x128.size a ≤ S2x128x2x128.size a) ∧
  (∀ (k1_h7 : k1_cond7 i k1_t1 arg10_r0 arg11_r0 = 1#1), ∀ a, (k1_off16 i arg10_r0 arg11_r0) a + S128x1x2x128.size a ≤ S8192x4x2x128.size a) ∧
  (∀ (k1_h7 : k1_cond7 i k1_t1 arg10_r0 arg11_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (k1_hw1 : k1_chk1 i k1_t1 arg6_r0 arg7_r0 arg8_r0 arg9_r0 arg10_r0 arg11_r0), ∀ (k1_h1 : k1_cond1 i k1_t1 arg10_r0 arg11_r0 = 1#1), ∀ a, (k1_off4 arg6_r0) a + S1x1x1x128.size a ≤ S2x1x1x128.size a := fun i k1_t1 arg6_r0 arg7_r0 arg8_r0 arg9_r0 arg10_r0 arg11_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (k1_hw1 : k1_chk1 i k1_t1 arg6_r0 arg7_r0 arg8_r0 arg9_r0 arg10_r0 arg11_r0), ∀ (k1_h1 : k1_cond1 i k1_t1 arg10_r0 arg11_r0 = 1#1), ∀ a, (k1_off5 i arg10_r0 arg11_r0) a + S1x1x128.size a ≤ S4x64x128.size a := fun i k1_t1 arg6_r0 arg7_r0 arg8_r0 arg9_r0 arg10_r0 arg11_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (k1_hw1 : k1_chk1 i k1_t1 arg6_r0 arg7_r0 arg8_r0 arg9_r0 arg10_r0 arg11_r0), ∀ (k1_h1 : k1_cond1 i k1_t1 arg10_r0 arg11_r0 = 1#1), ∀ a, (k1_off6 arg6_r0) a + S1.size a ≤ S2.size a := fun i k1_t1 arg6_r0 arg7_r0 arg8_r0 arg9_r0 arg10_r0 arg11_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (k1_hw1 : k1_chk1 i k1_t1 arg6_r0 arg7_r0 arg8_r0 arg9_r0 arg10_r0 arg11_r0), ∀ (k1_h2 : k1_cond2 i k1_t1 arg10_r0 arg11_r0 = 1#1), ∀ a, (k1_off7 arg7_r0) a + S1x1x1x128.size a ≤ S2x1x1x128.size a := fun i k1_t1 arg6_r0 arg7_r0 arg8_r0 arg9_r0 arg10_r0 arg11_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (k1_hw1 : k1_chk1 i k1_t1 arg6_r0 arg7_r0 arg8_r0 arg9_r0 arg10_r0 arg11_r0), ∀ (k1_h2 : k1_cond2 i k1_t1 arg10_r0 arg11_r0 = 1#1), ∀ a, (k1_off8 i arg10_r0 arg11_r0) a + S1x1x128.size a ≤ S4x64x128.size a := fun i k1_t1 arg6_r0 arg7_r0 arg8_r0 arg9_r0 arg10_r0 arg11_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (k1_hw1 : k1_chk1 i k1_t1 arg6_r0 arg7_r0 arg8_r0 arg9_r0 arg10_r0 arg11_r0), ∀ (k1_h2 : k1_cond2 i k1_t1 arg10_r0 arg11_r0 = 1#1), ∀ a, (k1_off9 arg7_r0) a + S1.size a ≤ S2.size a := fun i k1_t1 arg6_r0 arg7_r0 arg8_r0 arg9_r0 arg10_r0 arg11_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (k1_hw1 : k1_chk1 i k1_t1 arg6_r0 arg7_r0 arg8_r0 arg9_r0 arg10_r0 arg11_r0), ∀ (k1_h5 : k1_cond5 i k1_t1 arg10_r0 arg11_r0 = 1#1), ∀ a, (k1_off12 arg8_r0) a + S1x128x2x128.size a ≤ S2x128x2x128.size a := fun i k1_t1 arg6_r0 arg7_r0 arg8_r0 arg9_r0 arg10_r0 arg11_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (k1_hw1 : k1_chk1 i k1_t1 arg6_r0 arg7_r0 arg8_r0 arg9_r0 arg10_r0 arg11_r0), ∀ (k1_h5 : k1_cond5 i k1_t1 arg10_r0 arg11_r0 = 1#1), ∀ a, (k1_off13 i arg10_r0 arg11_r0) a + S128x1x2x128.size a ≤ S8192x4x2x128.size a := fun i k1_t1 arg6_r0 arg7_r0 arg8_r0 arg9_r0 arg10_r0 arg11_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (k1_hw1 : k1_chk1 i k1_t1 arg6_r0 arg7_r0 arg8_r0 arg9_r0 arg10_r0 arg11_r0), ∀ (k1_h5 : k1_cond5 i k1_t1 arg10_r0 arg11_r0 = 1#1), ∀ a, (k1_off14 arg8_r0) a + S1.size a ≤ S2.size a := fun i k1_t1 arg6_r0 arg7_r0 arg8_r0 arg9_r0 arg10_r0 arg11_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (k1_hw1 : k1_chk1 i k1_t1 arg6_r0 arg7_r0 arg8_r0 arg9_r0 arg10_r0 arg11_r0), ∀ (k1_h7 : k1_cond7 i k1_t1 arg10_r0 arg11_r0 = 1#1), ∀ a, (k1_off15 arg9_r0) a + S1x128x2x128.size a ≤ S2x128x2x128.size a := fun i k1_t1 arg6_r0 arg7_r0 arg8_r0 arg9_r0 arg10_r0 arg11_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (k1_hw1 : k1_chk1 i k1_t1 arg6_r0 arg7_r0 arg8_r0 arg9_r0 arg10_r0 arg11_r0), ∀ (k1_h7 : k1_cond7 i k1_t1 arg10_r0 arg11_r0 = 1#1), ∀ a, (k1_off16 i arg10_r0 arg11_r0) a + S128x1x2x128.size a ≤ S8192x4x2x128.size a := fun i k1_t1 arg6_r0 arg7_r0 arg8_r0 arg9_r0 arg10_r0 arg11_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (k1_hw1 : k1_chk1 i k1_t1 arg6_r0 arg7_r0 arg8_r0 arg9_r0 arg10_r0 arg11_r0), ∀ (k1_h7 : k1_cond7 i k1_t1 arg10_r0 arg11_r0 = 1#1), ∀ a, (k1_off17 arg9_r0) a + S1.size a ≤ S2.size a := fun i k1_t1 arg6_r0 arg7_r0 arg8_r0 arg9_r0 arg10_r0 arg11_r0 k1_hw1 k1_h7 => k1_hw1.2.2.2.2.2.2.2.2.2.2.2 k1_h7

def k1_off18 (v76_3_r0 : BitVec 32) : Fin 4 → Nat :=
  let c2_i32_94_r0 : BitVec 32 := 2#32
  let v117_r0 : BitVec 32 := Scalar.remui v76_3_r0 c2_i32_94_r0
  let c0_i32_110_r0 : BitVec 32 := 0#32
  let c0_i32_111_r0 : BitVec 32 := 0#32
  let c0_i32_112_r0 : BitVec 32 := 0#32
  ![v117_r0.toNat, 0, 0, 0]

def k1_off19 (i : grid1.Coords) (v76_5_r0 : BitVec 32) (v76_4_r0 : BitVec 32) : Fin 4 → Nat :=
  let c128_i32_109_r0 : BitVec 32 := 128#32
  let true_63_r0 : BitVec 1 := 1#1
  let c1_i32_62_r0 : BitVec 32 := 1#32
  let v77_r0 : BitVec 32 := Scalar.subi v76_5_r0 c1_i32_62_r0
  let v78_r0 : BitVec 32 := Scalar.select true_63_r0 v77_r0 v76_5_r0
  let c_m1_i32_64_r0 : BitVec 32 := 4294967295#32
  let v79_r0 : BitVec 1 := Scalar.cmpi .eq v78_r0 c_m1_i32_64_r0
  let c1_i32_66_r0 : BitVec 32 := 1#32
  let v81_r0 : BitVec 32 := Scalar.subi v76_4_r0 c1_i32_66_r0
  let v82_r0 : BitVec 32 := Scalar.select v79_r0 v81_r0 v76_4_r0
  let c_m1_i32_67_r0 : BitVec 32 := 4294967295#32
  let v83_r0 : BitVec 1 := Scalar.cmpi .eq v82_r0 c_m1_i32_67_r0
  let c1_i32_68_r0 : BitVec 32 := 1#32
  let v84_r0 : BitVec 32 := Scalar.select v83_r0 c1_i32_68_r0 v82_r0
  let c0_i32_69_r0 : BitVec 32 := 0#32
  let v85_r0 : BitVec 32 := Scalar.addi v84_r0 c0_i32_69_r0
  let c128_i32_r0 : BitVec 32 := 128#32
  let v118_r0 : BitVec 32 := Scalar.muli v85_r0 c128_i32_r0
  let c3_i32_65_r0 : BitVec 32 := 3#32
  let v80_r0 : BitVec 32 := Scalar.select v79_r0 c3_i32_65_r0 v78_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v86_r0 : BitVec 32 := Scalar.addi v80_r0 v4
  let v119_r0 : BitVec 32 := Scalar.addi v118_r0 v86_r0
  let c64_i32_95_r0 : BitVec 32 := 64#32
  let c0_i32_96_r0 : BitVec 32 := 0#32
  let v120_r0 : BitVec 1 := Scalar.cmpi .eq c64_i32_95_r0 c0_i32_96_r0
  let c1_i32_97_r0 : BitVec 32 := 1#32
  let v121_r0 : BitVec 32 := Scalar.select v120_r0 c1_i32_97_r0 c64_i32_95_r0
  let v122_r0 : BitVec 32 := Scalar.remsi v119_r0 v121_r0
  let c0_i32_99_r0 : BitVec 32 := 0#32
  let v124_r0 : BitVec 1 := Scalar.cmpi .slt v122_r0 c0_i32_99_r0
  let c0_i32_100_r0 : BitVec 32 := 0#32
  let v125_r0 : BitVec 1 := Scalar.cmpi .slt v121_r0 c0_i32_100_r0
  let v126_r0 : BitVec 1 := Scalar.xori v124_r0 v125_r0
  let c0_i32_98_r0 : BitVec 32 := 0#32
  let v123_r0 : BitVec 1 := Scalar.cmpi .ne v122_r0 c0_i32_98_r0
  let v127_r0 : BitVec 1 := Scalar.andi v126_r0 v123_r0
  let v128_r0 : BitVec 32 := Scalar.addi v122_r0 v121_r0
  let v129_r0 : BitVec 32 := Scalar.select v127_r0 v128_r0 v122_r0
  let v149_r0 : BitVec 32 := Scalar.muli c128_i32_109_r0 v129_r0
  let c128_i32_101_r0 : BitVec 32 := 128#32
  let v130_r0 : BitVec 32 := Scalar.muli v85_r0 c128_i32_101_r0
  let v131_r0 : BitVec 32 := Scalar.addi v130_r0 v86_r0
  let c0_i32_103_r0 : BitVec 32 := 0#32
  let v133_r0 : BitVec 1 := Scalar.cmpi .sgt v131_r0 c0_i32_103_r0
  let v134_r0 : BitVec 32 := Scalar.extui v133_r0
  let c0_i32_104_r0 : BitVec 32 := 0#32
  let v135_r0 : BitVec 1 := Scalar.cmpi .slt v131_r0 c0_i32_104_r0
  let v136_r0 : BitVec 32 := Scalar.extui v135_r0
  let v137_r0 : BitVec 32 := Scalar.subi v134_r0 v136_r0
  let c64_i32_102_r0 : BitVec 32 := 64#32
  let c0_i32_105_r0 : BitVec 32 := 0#32
  let v138_r0 : BitVec 1 := Scalar.cmpi .sgt c64_i32_102_r0 c0_i32_105_r0
  let v139_r0 : BitVec 32 := Scalar.extui v138_r0
  let c0_i32_106_r0 : BitVec 32 := 0#32
  let v140_r0 : BitVec 1 := Scalar.cmpi .slt c64_i32_102_r0 c0_i32_106_r0
  let v141_r0 : BitVec 32 := Scalar.extui v140_r0
  let v142_r0 : BitVec 32 := Scalar.subi v139_r0 v141_r0
  let v143_r0 : BitVec 1 := Scalar.cmpi .ne v137_r0 v142_r0
  let v144_r0 : BitVec 32 := Scalar.remsi v131_r0 c64_i32_102_r0
  let c0_i32_107_r0 : BitVec 32 := 0#32
  let v145_r0 : BitVec 1 := Scalar.cmpi .ne v144_r0 c0_i32_107_r0
  let v146_r0 : BitVec 1 := Scalar.andi v143_r0 v145_r0
  let v132_r0 : BitVec 32 := Scalar.divsi v131_r0 c64_i32_102_r0
  let c1_i32_108_r0 : BitVec 32 := 1#32
  let v147_r0 : BitVec 32 := Scalar.subi v132_r0 c1_i32_108_r0
  let v148_r0 : BitVec 32 := Scalar.select v146_r0 v147_r0 v132_r0
  let c0_i32_113_r0 : BitVec 32 := 0#32
  let c0_i32_114_r0 : BitVec 32 := 0#32
  ![v149_r0.toNat, v148_r0.toNat, 0, 0]

def k1_chk5 (i : grid1.Coords) (v76_5_r0 : BitVec 32) (v76_4_r0 : BitVec 32) : Prop :=
  (∀ a, (k1_off19 i v76_5_r0 v76_4_r0) a + S128x1x2x128.size a ≤ S8192x4x2x128.size a)
theorem k1_off19_inb : ∀ (i : grid1.Coords) (v76_5_r0 : BitVec 32) (v76_4_r0 : BitVec 32) (k1_hw5 : k1_chk5 i v76_5_r0 v76_4_r0), ∀ a, (k1_off19 i v76_5_r0 v76_4_r0) a + S128x1x2x128.size a ≤ S8192x4x2x128.size a := fun i v76_5_r0 v76_4_r0 k1_hw5 => k1_hw5

def k1_off20 (v76_3_r0 : BitVec 32) : Fin 1 → Nat :=
  let c2_i32_94_r0 : BitVec 32 := 2#32
  let v117_r0 : BitVec 32 := Scalar.remui v76_3_r0 c2_i32_94_r0
  ![v117_r0.toNat]
def k1_off21 (v76_3_r0 : BitVec 32) : Fin 4 → Nat :=
  let c2_i32_94_r0 : BitVec 32 := 2#32
  let v117_r0 : BitVec 32 := Scalar.remui v76_3_r0 c2_i32_94_r0
  let c0_i32_117_r0 : BitVec 32 := 0#32
  let c0_i32_118_r0 : BitVec 32 := 0#32
  let c0_i32_119_r0 : BitVec 32 := 0#32
  ![v117_r0.toNat, 0, 0, 0]

def k1_chk4 (v76_3_r0 : BitVec 32) : Prop :=
  (∀ a, (k1_off18 v76_3_r0) a + S1x128x2x128.size a ≤ S2x128x2x128.size a) ∧
  (∀ a, (k1_off20 v76_3_r0) a + S1.size a ≤ S2.size a) ∧
  (∀ a, (k1_off21 v76_3_r0) a + S1x128x2x128.size a ≤ S2x128x2x128.size a)
theorem k1_off18_inb : ∀ (v76_3_r0 : BitVec 32) (k1_hw4 : k1_chk4 v76_3_r0), ∀ a, (k1_off18 v76_3_r0) a + S1x128x2x128.size a ≤ S2x128x2x128.size a := fun v76_3_r0 k1_hw4 => k1_hw4.1
theorem k1_off20_inb : ∀ (v76_3_r0 : BitVec 32) (k1_hw4 : k1_chk4 v76_3_r0), ∀ a, (k1_off20 v76_3_r0) a + S1.size a ≤ S2.size a := fun v76_3_r0 k1_hw4 => k1_hw4.2.1
theorem k1_off21_inb : ∀ (v76_3_r0 : BitVec 32) (k1_hw4 : k1_chk4 v76_3_r0), ∀ a, (k1_off21 v76_3_r0) a + S1x128x2x128.size a ≤ S2x128x2x128.size a := fun v76_3_r0 k1_hw4 => k1_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== TilesIdeal.lean ====
abbrev S36 : Shape := ⟨1, ![36]⟩
abbrev S4x9216x256 : Shape := ⟨3, ![4, 9216, 256]⟩
abbrev S4x1024x1024 : Shape := ⟨3, ![4, 1024, 1024]⟩
abbrev S4x1024 : Shape := ⟨2, ![4, 1024]⟩
abbrev S9216x128 : Shape := ⟨2, ![9216, 128]⟩
abbrev S4x64x128 : Shape := ⟨3, ![4, 64, 128]⟩
abbrev S9216x4x256 : Shape := ⟨3, ![9216, 4, 256]⟩
abbrev S36x256x1024 : Shape := ⟨3, ![36, 256, 1024]⟩
abbrev S36x1 : Shape := ⟨2, ![36, 1]⟩
abbrev S36x1024x1024 : Shape := ⟨3, ![36, 1024, 1024]⟩
abbrev S36x1024 : Shape := ⟨2, ![36, 1024]⟩
abbrev S36x1x1024 : Shape := ⟨3, ![36, 1, 1024]⟩
abbrev S_ : Shape := ⟨0, ![]⟩
abbrev S9216x1024 : Shape := ⟨2, ![9216, 1024]⟩
abbrev S9216x1 : Shape := ⟨2, ![9216, 1]⟩
abbrev S36864x256 : Shape := ⟨2, ![36864, 256]⟩
abbrev S32768 : Shape := ⟨1, ![32768]⟩
abbrev S32768x1 : Shape := ⟨2, ![32768, 1]⟩
abbrev S32768x256 : Shape := ⟨2, ![32768, 256]⟩
abbrev S4x8192x256 : Shape := ⟨3, ![4, 8192, 256]⟩
abbrev S8192x4x256 : Shape := ⟨3, ![8192, 4, 256]⟩
abbrev S4x2048x1024 : Shape := ⟨3, ![4, 2048, 1024]⟩

abbrev nBuf : Space → Nat
  | .hbm => 56
  | .vmem => 0
  | .smem => 0
  | _ => 0

abbrev bufTy : (tb : Table) → Fin (tcTables nBuf tb) → BufTy
  | .hbm, ⟨0, _⟩ => ⟨S36, .i32⟩
  | .hbm, ⟨1, _⟩ => ⟨S4x9216x256, .f32⟩
  | .hbm, ⟨2, _⟩ => ⟨S4x1024x1024, .f32⟩
  | .hbm, ⟨3, _⟩ => ⟨S4x1024, .f32⟩
  | .hbm, ⟨4, _⟩ => ⟨S4x1024x1024, .f32⟩
  | .hbm, ⟨5, _⟩ => ⟨S4x1024, .f32⟩
  | .hbm, ⟨6, _⟩ => ⟨S9216x128, .f32⟩
  | .hbm, ⟨7, _⟩ => ⟨S4x64x128, .i32⟩
  | .hbm, ⟨8, _⟩ => ⟨S9216x4x256, .f32⟩
  | .hbm, ⟨9, _⟩ => ⟨S36x256x1024, .f32⟩
  | .hbm, ⟨10, _⟩ => ⟨S36x1, .i32⟩
  | .hbm, ⟨11, _⟩ => ⟨S36x1024x1024, .f32⟩
  | .hbm, ⟨12, _⟩ => ⟨S36x1, .i32⟩
  | .hbm, ⟨13, _⟩ => ⟨S36x1024, .f32⟩
  | .hbm, ⟨14, _⟩ => ⟨S36x1, .i32⟩
  | .hbm, ⟨15, _⟩ => ⟨S36x1024x1024, .f32⟩
  | .hbm, ⟨16, _⟩ => ⟨S36x1, .i32⟩
  | .hbm, ⟨17, _⟩ => ⟨S36x1024, .f32⟩
  | .hbm, ⟨18, _⟩ => ⟨S36x256x1024, .f32⟩
  | .hbm, ⟨19, _⟩ => ⟨S36x1x1024, .f32⟩
  | .hbm, ⟨20, _⟩ => ⟨S36x256x1024, .f32⟩
  | .hbm, ⟨21, _⟩ => ⟨S36x256x1024, .f32⟩
  | .hbm, ⟨22, _⟩ => ⟨S36x256x1024, .f32⟩
  | .hbm, ⟨23, _⟩ => ⟨S36x256x1024, .f32⟩
  | .hbm, ⟨24, _⟩ => ⟨S_, .f32⟩
  | .hbm, ⟨25, _⟩ => ⟨S36x256x1024, .f32⟩
  | .hbm, ⟨26, _⟩ => ⟨S36x256x1024, .f32⟩
  | .hbm, ⟨27, _⟩ => ⟨S36x256x1024, .f32⟩
  | .hbm, ⟨28, _⟩ => ⟨S_, .f32⟩
  | .hbm, ⟨29, _⟩ => ⟨S36x256x1024, .f32⟩
  | .hbm, ⟨30, _⟩ => ⟨S36x256x1024, .f32⟩
  | .hbm, ⟨31, _⟩ => ⟨S36x256x1024, .f32⟩
  | .hbm, ⟨32, _⟩ => ⟨S_, .f32⟩
  | .hbm, ⟨33, _⟩ => ⟨S36x256x1024, .f32⟩
  | .hbm, ⟨34, _⟩ => ⟨S36x256x1024, .f32⟩
  | .hbm, ⟨35, _⟩ => ⟨S_, .f32⟩
  | .hbm, ⟨36, _⟩ => ⟨S36x256x1024, .f32⟩
  | .hbm, ⟨37, _⟩ => ⟨S36x256x1024, .f32⟩
  | .hbm, ⟨38, _⟩ => ⟨S36x256x1024, .f32⟩
  | .hbm, ⟨39, _⟩ => ⟨S36x256x1024, .f32⟩
  | .hbm, ⟨40, _⟩ => ⟨S36x1x1024, .f32⟩
  | .hbm, ⟨41, _⟩ => ⟨S36x256x1024, .f32⟩
  | .hbm, ⟨42, _⟩ => ⟨S36x256x1024, .f32⟩
  | .hbm, ⟨43, _⟩ => ⟨S9216x1024, .f32⟩
  | .hbm, ⟨44, _⟩ => ⟨S9216x1, .f32⟩
  | .hbm, ⟨45, _⟩ => ⟨S9216x1024, .f32⟩
  | .hbm, ⟨46, _⟩ => ⟨S9216x1024, .f32⟩
  | .hbm, ⟨47, _⟩ => ⟨S9216x4x256, .f32⟩
  | .hbm, ⟨48, _⟩ => ⟨S4x9216x256, .f32⟩
  | .hbm, ⟨49, _⟩ => ⟨S36864x256, .f32⟩
  | .hbm, ⟨50, _⟩ => ⟨S32768, .i32⟩
  | .hbm, ⟨51, _⟩ => ⟨S32768x1, .i32⟩
  | .hbm, ⟨52, _⟩ => ⟨S32768x256, .f32⟩
  | .hbm, ⟨53, _⟩ => ⟨S4x8192x256, .f32⟩
  | .hbm, ⟨54, _⟩ => ⟨S8192x4x256, .f32⟩
  | .hbm, ⟨55, _⟩ => ⟨S4x2048x1024, .f32⟩
  | _, _ => ⟨S36, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_v2 : Ref sig .tc := ⟨.hbm, 11, rfl⟩
abbrev main_call1_v0 : Ref sig .tc := ⟨.hbm, 12, rfl⟩
abbrev main_v3 : Ref sig .tc := ⟨.hbm, 13, rfl⟩
abbrev main_call2_v0 : Ref sig .tc := ⟨.hbm, 14, rfl⟩
abbrev main_v4 : Ref sig .tc := ⟨.hbm, 15, rfl⟩
abbrev main_call3_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call4_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Gated.lean ====
abbrev S4x2048x768 : Shape := ⟨3, ![4, 2048, 768]⟩
abbrev S4x2048x1024 : Shape := ⟨3, ![4, 2048, 1024]⟩
abbrev S4x2048 : Shape := ⟨2, ![4, 2048]⟩
abbrev S768x1024 : Shape := ⟨2, ![768, 1024]⟩
abbrev S1024 : Shape := ⟨1, ![1024]⟩
abbrev S1024x1024 : Shape := ⟨2, ![1024, 1024]⟩
abbrev S2048x4 : Shape := ⟨2, ![2048, 4]⟩
abbrev S4 : Shape := ⟨1, ![4]⟩
abbrev S8192x768 : Shape := ⟨2, ![8192, 768]⟩
abbrev S8192x1024 : Shape := ⟨2, ![8192, 1024]⟩
abbrev S8192x1 : Shape := ⟨2, ![8192, 1]⟩
abbrev S1x1024 : Shape := ⟨2, ![1, 1024]⟩
abbrev S1x4 : Shape := ⟨2, ![1, 4]⟩
abbrev S4x8192x256 : Shape := ⟨3, ![4, 8192, 256]⟩
abbrev S8192x128 : Shape := ⟨2, ![8192, 128]⟩
abbrev S32x2x128 : Shape := ⟨3, ![32, 2, 128]⟩
abbrev S256x768 : Shape := ⟨2, ![256, 768]⟩
abbrev S256x1024 : Shape := ⟨2, ![256, 1024]⟩
abbrev S256x1 : Shape := ⟨2, ![256, 1]⟩
abbrev S4x256x256 : Shape := ⟨3, ![4, 256, 256]⟩
abbrev S256x128 : Shape := ⟨2, ![256, 128]⟩
abbrev S1x2x128 : Shape := ⟨3, ![1, 2, 128]⟩
abbrev S256x2048 : Shape := ⟨2, ![256, 2048]⟩
abbrev S256x4 : Shape := ⟨2, ![256, 4]⟩
abbrev S256x256 : Shape := ⟨2, ![256, 256]⟩
abbrev S1x256x256 : Shape := ⟨3, ![1, 256, 256]⟩
abbrev S2x128 : Shape := ⟨2, ![2, 128]⟩

abbrev nBuf : Space → Nat
  | .hbm => 21
  | .vmem => 18
  | .smem => 0
  | _ => 0

abbrev bufTy : (tb : Table) → Fin (tcTables nBuf tb) → BufTy
  | .hbm, ⟨0, _⟩ => ⟨S4x2048x768, .f32⟩
  | .hbm, ⟨1, _⟩ => ⟨S4x2048x1024, .f32⟩
  | .hbm, ⟨2, _⟩ => ⟨S4x2048, .i1⟩
  | .hbm, ⟨3, _⟩ => ⟨S4x2048, .i1⟩
  | .hbm, ⟨4, _⟩ => ⟨S768x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S2048x4, .f32⟩
  | .hbm, ⟨9, _⟩ => ⟨S4, .f32⟩
  | .hbm, ⟨10, _⟩ => ⟨S8192x768, .f32⟩
  | .hbm, ⟨11, _⟩ => ⟨S8192x1024, .f32⟩
  | .hbm, ⟨12, _⟩ => ⟨S4x2048, .i1⟩
  | .hbm, ⟨13, _⟩ => ⟨S8192x1, .i1⟩
  | .hbm, ⟨14, _⟩ => ⟨S8192x1, .f32⟩
  | .hbm, ⟨15, _⟩ => ⟨S1x1024, .f32⟩
  | .hbm, ⟨16, _⟩ => ⟨S1x1024, .f32⟩
  | .hbm, ⟨17, _⟩ => ⟨S1x4, .f32⟩
  | .hbm, ⟨18, _⟩ => ⟨S4x8192x256, .f32⟩
  | .hbm, ⟨19, _⟩ => ⟨S8192x128, .f32⟩
  | .hbm, ⟨20, _⟩ => ⟨S32x2x128, .i32⟩
  | .local _ .vmem, ⟨0, _⟩ => ⟨S256x768, .f32⟩
  | .local _ .vmem, ⟨1, _⟩ => ⟨S256x768, .f32⟩
  | .local _ .vmem, ⟨2, _⟩ => ⟨S256x1024, .f32⟩
  | .local _ .vmem, ⟨3, _⟩ => ⟨S256x1024, .f32⟩
  | .local _ .vmem, ⟨4, _⟩ => ⟨S768x1024, .f32⟩
  | .local _ .vmem, ⟨5, _⟩ => ⟨S1x1024, .f32⟩
  | .local _ .vmem, ⟨6, _⟩ => ⟨S1024x1024, .f32⟩
  | .local _ .vmem, ⟨7, _⟩ => ⟨S1x1024, .f32⟩
  | .local _ .vmem, ⟨8, _⟩ => ⟨S2048x4, .f32⟩
  | .local _ .vmem, ⟨9, _⟩ => ⟨S1x4, .f32⟩
  | .local _ .vmem, ⟨10, _⟩ => ⟨S256x1, .f32⟩
  | .local _ .vmem, ⟨11, _⟩ => ⟨S256x1, .f32⟩
  | .local _ .vmem, ⟨12, _⟩ => ⟨S4x256x256, .f32⟩
  | .local _ .vmem, ⟨13, _⟩ => ⟨S4x256x256, .f32⟩
  | .local _ .vmem, ⟨14, _⟩ => ⟨S256x128, .f32⟩
  | .local _ .vmem, ⟨15, _⟩ => ⟨S256x128, .f32⟩
  | .local _ .vmem, ⟨16, _⟩ => ⟨S1x2x128, .i32⟩
  | .local _ .vmem, ⟨17, _⟩ => ⟨S1x2x128, .i32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GatesIdeal.lean ====
abbrev S4x2048x768 : Shape := ⟨3, ![4, 2048, 768]⟩
abbrev S4x2048x1024 : Shape := ⟨3, ![4, 2048, 1024]⟩
abbrev S4x2048 : Shape := ⟨2, ![4, 2048]⟩
abbrev S768x1024 : Shape := ⟨2, ![768, 1024]⟩
abbrev S1024 : Shape := ⟨1, ![1024]⟩
abbrev S1024x1024 : Shape := ⟨2, ![1024, 1024]⟩
abbrev S2048x4 : Shape := ⟨2, ![2048, 4]⟩
abbrev S4 : Shape := ⟨1, ![4]⟩
abbrev S1x1x1024 : Shape := ⟨3, ![1, 1, 1024]⟩
abbrev S_ : Shape := ⟨0, ![]⟩
abbrev S4x2048x2048 : Shape := ⟨3, ![4, 2048, 2048]⟩
abbrev S4x2048x4 : Shape := ⟨3, ![4, 2048, 4]⟩
abbrev S1x1x4 : Shape := ⟨3, ![1, 1, 4]⟩
abbrev S4x2048x1 : Shape := ⟨3, ![4, 2048, 1]⟩
abbrev S1x4x2048x1024 : Shape := ⟨4, ![1, 4, 2048, 1024]⟩
abbrev S4x4x2048x1024 : Shape := ⟨4, ![4, 4, 2048, 1024]⟩
abbrev S8192x4x256 : Shape := ⟨3, ![8192, 4, 256]⟩
abbrev S4x8192x256 : Shape := ⟨3, ![4, 8192, 256]⟩
abbrev S8192x1 : Shape := ⟨2, ![8192, 1]⟩
abbrev S8192x128 : Shape := ⟨2, ![8192, 128]⟩
abbrev S32x2x128 : Shape := ⟨3, ![32, 2, 128]⟩

abbrev nBuf : Space → Nat
  | .hbm => 68
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S4x2048x1024, .f32⟩
  | .hbm, ⟨2, _⟩ => ⟨S4x2048, .i1⟩
  | .hbm, ⟨3, _⟩ => ⟨S4x2048, .i1⟩
  | .hbm, ⟨4, _⟩ => ⟨S768x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S2048x4, .f32⟩
  | .hbm, ⟨9, _⟩ => ⟨S4, .f32⟩
  | .hbm, ⟨10, _⟩ => ⟨S4x2048, .i1⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048x1024, .f32⟩
  | .hbm, ⟨22, _⟩ => ⟨S4x2048x1024, .f32⟩
  | .hbm, ⟨23, _⟩ => ⟨S4x2048x2048, .f32⟩
  | .hbm, ⟨24, _⟩ => ⟨S4x2048x4, .f32⟩
  | .hbm, ⟨25, _⟩ => ⟨S1x1x4, .f32⟩
  | .hbm, ⟨26, _⟩ => ⟨S4x2048x4, .f32⟩
  | .hbm, ⟨27, _⟩ => ⟨S4x2048x4, .f32⟩
  | .hbm, ⟨28, _⟩ => ⟨S_, .f32⟩
  | .hbm, ⟨29, _⟩ => ⟨S4x2048x4, .f32⟩
  | .hbm, ⟨30, _⟩ => ⟨S4x2048x4, .f32⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S4x2048, .f32⟩
  | .hbm, ⟨36, _⟩ => ⟨S4x2048x1, .f32⟩
  | .hbm, ⟨37, _⟩ => ⟨S4x2048x4, .f32⟩
  | .hbm, ⟨38, _⟩ => ⟨S4x2048x4, .f32⟩
  | .hbm, ⟨39, _⟩ => ⟨S4x2048x4, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S4x2048x4, .f32⟩
  | .hbm, ⟨44, _⟩ => ⟨S4x2048x4, .f32⟩
  | .hbm, ⟨45, _⟩ => ⟨S4x2048x1, .f32⟩
  | .hbm, ⟨46, _⟩ => ⟨S4x2048x1, .i32⟩
  | .hbm, ⟨47, _⟩ => ⟨S4x2048, .i32⟩
  | .hbm, ⟨48, _⟩ => ⟨S4x2048x1, .i32⟩
  | .hbm, ⟨49, _⟩ => ⟨S1x1x4, .i32⟩
  | .hbm, ⟨50, _⟩ => ⟨S4x2048x4, .i32⟩
  | .hbm, ⟨51, _⟩ => ⟨S4x2048x4, .i32⟩
  | .hbm, ⟨52, _⟩ => ⟨S4x2048x4, .i1⟩
  | .hbm, ⟨53, _⟩ => ⟨S4x2048x4, .f32⟩
  | .hbm, ⟨54, _⟩ => ⟨S1x4x2048x1024, .f32⟩
  | .hbm, ⟨55, _⟩ => ⟨S1x4x2048x1024, .f32⟩
  | .hbm, ⟨56, _⟩ => ⟨S1x4x2048x1024, .f32⟩
  | .hbm, ⟨57, _⟩ => ⟨S1x4x2048x1024, .f32⟩
  | .hbm, ⟨58, _⟩ => ⟨S4x4x2048x1024, .f32⟩
  | .hbm, ⟨59, _⟩ => ⟨S4x2048x1024, .f32⟩
  | .hbm, ⟨60, _⟩ => ⟨S4x2048, .f32⟩
  | .hbm, ⟨61, _⟩ => ⟨S4x2048, .f32⟩
  | .hbm, ⟨62, _⟩ => ⟨S4x2048, .f32⟩
  | .hbm, ⟨63, _⟩ => ⟨S8192x4x256, .f32⟩
  | .hbm, ⟨64, _⟩ => ⟨S4x8192x256, .f32⟩
  | .hbm, ⟨65, _⟩ => ⟨S8192x1, .f32⟩
  | .hbm, ⟨66, _⟩ => ⟨S8192x128, .f32⟩
  | .hbm, ⟨67, _⟩ => ⟨S32x2x128, .i32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_values : Ref sig .tc := ⟨.hbm, 45, rfl⟩
abbrev main_indices : Ref sig .tc := ⟨.hbm, 46, rfl⟩
abbrev main_v30 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== Routed.lean ====
abbrev S64x128 : Shape := ⟨2, ![64, 128]⟩
abbrev S4x64x128 : Shape := ⟨3, ![4, 64, 128]⟩
abbrev S8x128 : Shape := ⟨2, ![8, 128]⟩
abbrev S128x128 : Shape := ⟨2, ![128, 128]⟩
abbrev S64x64 : Shape := ⟨2, ![64, 64]⟩
abbrev S1x1 : Shape := ⟨2, ![1, 1]⟩
abbrev S64 : Shape := ⟨1, ![64]⟩
abbrev S64x1 : Shape := ⟨2, ![64, 1]⟩
abbrev S1 : Shape := ⟨1, ![1]⟩
abbrev S1x64x128 : Shape := ⟨3, ![1, 64, 128]⟩

abbrev nBuf : Space → Nat
  | .hbm => 4
  | .vmem => 4
  | .smem => 0
  | _ => 0

abbrev bufTy : (tb : Table) → Fin (tcTables nBuf tb) → BufTy
  | .hbm, ⟨0, _⟩ => ⟨S64x128, .i32⟩
  | .hbm, ⟨1, _⟩ => ⟨S64x128, .i32⟩
  | .hbm, ⟨2, _⟩ => ⟨S4x64x128, .i32⟩
  | .hbm, ⟨3, _⟩ => ⟨S8x128, .i32⟩
  | .local _ .vmem, ⟨0, _⟩ => ⟨S64x128, .i32⟩
  | .local _ .vmem, ⟨1, _⟩ => ⟨S64x128, .i32⟩
  | .local _ .vmem, ⟨2, _⟩ => ⟨S4x64x128, .i32⟩
  | .local _ .vmem, ⟨3, _⟩ => ⟨S8x128, .i32⟩
  | _, _ => ⟨S64x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S64x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x64x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== SlotsIdeal.lean ====
abbrev S64x128 : Shape := ⟨2, ![64, 128]⟩
abbrev S8192 : Shape := ⟨1, ![8192]⟩
abbrev S4 : Shape := ⟨1, ![4]⟩
abbrev S8192x1 : Shape := ⟨2, ![8192, 1]⟩
abbrev S1x4 : Shape := ⟨2, ![1, 4]⟩
abbrev S8192x4 : Shape := ⟨2, ![8192, 4]⟩
abbrev S1x8192 : Shape := ⟨2, ![1, 8192]⟩
abbrev S8192x8192 : Shape := ⟨2, ![8192, 8192]⟩
abbrev S_ : Shape := ⟨0, ![]⟩
abbrev S4x1 : Shape := ⟨2, ![4, 1]⟩
abbrev S4x4 : Shape := ⟨2, ![4, 4]⟩
abbrev S1x64x128 : Shape := ⟨3, ![1, 64, 128]⟩
abbrev S4x1x1 : Shape := ⟨3, ![4, 1, 1]⟩
abbrev S4x64x128 : Shape := ⟨3, ![4, 64, 128]⟩
abbrev S128 : Shape := ⟨1, ![128]⟩
abbrev S1 : Shape := ⟨1, ![1]⟩
abbrev S1x128 : Shape := ⟨2, ![1, 128]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S64x128, .i32⟩
  | .hbm, ⟨1, _⟩ => ⟨S8192, .i32⟩
  | .hbm, ⟨2, _⟩ => ⟨S8192, .i32⟩
  | .hbm, ⟨3, _⟩ => ⟨S4, .i32⟩
  | .hbm, ⟨4, _⟩ => ⟨S8192x1, .i32⟩
  | .hbm, ⟨5, _⟩ => ⟨S1x4, .i32⟩
  | .hbm, ⟨6, _⟩ => ⟨S8192x4, .i32⟩
  | .hbm, ⟨7, _⟩ => ⟨S8192x4, .i32⟩
  | .hbm, ⟨8, _⟩ => ⟨S8192x4, .i1⟩
  | .hbm, ⟨9, _⟩ => ⟨S8192x4, .f32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .f32⟩
  | .hbm, ⟨16, _⟩ => ⟨S8192x4, .f32⟩
  | .hbm, ⟨17, _⟩ => ⟨S_, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S1x4, .i32⟩
  | .hbm, ⟨27, _⟩ => ⟨S4x1, .i32⟩
  | .hbm, ⟨28, _⟩ => ⟨S4x4, .i32⟩
  | .hbm, ⟨29, _⟩ => ⟨S4x4, .i32⟩
  | .hbm, ⟨30, _⟩ => ⟨S4x4, .i1⟩
  | .hbm, ⟨31, _⟩ => ⟨S4x4, .f32⟩
  | .hbm, ⟨32, _⟩ => ⟨S4, .f32⟩
  | .hbm, ⟨33, _⟩ => ⟨S1x4, .f32⟩
  | .hbm, ⟨34, _⟩ => ⟨S8192x4, .f32⟩
  | .hbm, ⟨35, _⟩ => ⟨S8192x4, .f32⟩
  | .hbm, ⟨36, _⟩ => ⟨S8192x4, .f32⟩
  | .hbm, ⟨37, _⟩ => ⟨S_, .f32⟩
  | .hbm, ⟨38, _⟩ => ⟨S8192, .f32⟩
  | .hbm, ⟨39, _⟩ => ⟨S8192, .i32⟩
  | .hbm, ⟨40, _⟩ => ⟨S64x128, .i32⟩
  | .hbm, ⟨41, _⟩ => ⟨S1x64x128, .i32⟩
  | .hbm, ⟨42, _⟩ => ⟨S4x1x1, .i32⟩
  | .hbm, ⟨43, _⟩ => ⟨S_, .i32⟩
  | .hbm, ⟨44, _⟩ => ⟨S4x1x1, .i32⟩
  | .hbm, ⟨45, _⟩ => ⟨S4x1x1, .i32⟩
  | .hbm, ⟨46, _⟩ => ⟨S4x64x128, .i32⟩
  | .hbm, ⟨47, _⟩ => ⟨S4x64x128, .i32⟩
  | .hbm, ⟨48, _⟩ => ⟨S4x64x128, .i32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i32⟩
  | .hbm, ⟨53, _⟩ => ⟨S128, .f32⟩
  | .hbm, ⟨54, _⟩ => ⟨S1, .f32⟩
  | .hbm, ⟨55, _⟩ => ⟨S_, .f32⟩
  | .hbm, ⟨56, _⟩ => ⟨S128, .f32⟩
  | .hbm, ⟨57, _⟩ => ⟨S128, .i1⟩
  | .hbm, ⟨58, _⟩ => ⟨S128, .i32⟩
  | .hbm, ⟨59, _⟩ => ⟨S_, .i32⟩
  | .hbm, ⟨60, _⟩ => ⟨S128, .i32⟩
  | .hbm, ⟨61, _⟩ => ⟨S128, .i32⟩
  | .hbm, ⟨62, _⟩ => ⟨S1, .f32⟩
  | .hbm, ⟨63, _⟩ => ⟨S_, .f32⟩
  | .hbm, ⟨64, _⟩ => ⟨S128, .f32⟩
  | .hbm, ⟨65, _⟩ => ⟨S128, .i1⟩
  | .hbm, ⟨66, _⟩ => ⟨S128, .i32⟩
  | .hbm, ⟨67, _⟩ => ⟨S128, .i32⟩
  | .hbm, ⟨68, _⟩ => ⟨S1, .f32⟩
  | .hbm, ⟨69, _⟩ => ⟨S_, .f32⟩
  | .hbm, ⟨70, _⟩ => ⟨S128, .f32⟩
  | .hbm, ⟨71, _⟩ => ⟨S128, .i1⟩
  | .hbm, ⟨72, _⟩ => ⟨S128, .i32⟩
  | .hbm, ⟨73, _⟩ => ⟨S128, .i32⟩
  | .hbm, ⟨74, _⟩ => ⟨S1x128, .i32⟩
  | .hbm, ⟨75, _⟩ => ⟨S8x128, .i32⟩
  | _, _ => ⟨S64x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_cst : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_1 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_2 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_c : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_c_3 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_c_4 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩

abbrev nD : Nat := 1
abbrev τ : Topo := Topo.v7x

variable {F : FTy → Type} [FloatOps F]
-- ==== SentIdeal.lean ====
abbrev S64x128 : Shape := ⟨2, ![64, 128]⟩
abbrev S4x8192x256 : Shape := ⟨3, ![4, 8192, 256]⟩
abbrev S8192x128 : Shape := ⟨2, ![8192, 128]⟩
abbrev S4x64x128 : Shape := ⟨3, ![4, 64, 128]⟩
abbrev S8x128 : Shape := ⟨2, ![8, 128]⟩
abbrev S128x128 : Shape := ⟨2, ![128, 128]⟩
abbrev S64x64 : Shape := ⟨2, ![64, 64]⟩
abbrev S1x1 : Shape := ⟨2, ![1, 1]⟩
abbrev S64 : Shape := ⟨1, ![64]⟩
abbrev S64x1 : Shape := ⟨2, ![64, 1]⟩
abbrev S1 : Shape := ⟨1, ![1]⟩
abbrev S1x64x128 : Shape := ⟨3, ![1, 64, 128]⟩
abbrev S32768x2x128 : Shape := ⟨3, ![32768, 2, 128]⟩
abbrev S36864x2x128 : Shape := ⟨3, ![36864, 2, 128]⟩
abbrev S9216x128 : Shape := ⟨2, ![9216, 128]⟩
abbrev S2x128x2x128 : Shape := ⟨4, ![2, 128, 2, 128]⟩
abbrev S2 : Shape := ⟨1, ![2]⟩
abbrev S2x1x1x128 : Shape := ⟨4, ![2, 1, 1, 128]⟩
abbrev S1x128x2x128 : Shape := ⟨4, ![1, 128, 2, 128]⟩
abbrev S128x2x128 : Shape := ⟨3, ![128, 2, 128]⟩
abbrev S_ : Shape := ⟨0, ![]⟩
abbrev S1x1x1x128 : Shape := ⟨4, ![1, 1, 1, 128]⟩
abbrev S1x1x128 : Shape := ⟨3, ![1, 1, 128]⟩
abbrev S128 : Shape := ⟨1, ![128]⟩
abbrev S2x128x128 : Shape := ⟨3, ![2, 128, 128]⟩
abbrev S2x1x128 : Shape := ⟨3, ![2, 1, 128]⟩
abbrev S1x128x128 : Shape := ⟨3, ![1, 128, 128]⟩
abbrev S1x128 : Shape := ⟨2, ![1, 128]⟩
abbrev S4x9216x256 : Shape := ⟨3, ![4, 9216, 256]⟩

abbrev nBuf : Table → Nat
  | .hbm => 10
  | .local .tc .vmem => 4
  | .local .scVector .vmem => 4
  | _ => 0

abbrev bufTy : (tb : Table) → Fin (nBuf tb) → BufTy
  | .hbm, ⟨0, _⟩ => ⟨S64x128, .i32⟩
  | .hbm, ⟨1, _⟩ => ⟨S4x8192x256, .f32⟩
  | .hbm, ⟨2, _⟩ => ⟨S8192x128, .f32⟩
  | .hbm, ⟨3, _⟩ => ⟨S64x128, .i32⟩
  | .hbm, ⟨4, _⟩ => ⟨S4x64x128, .i32⟩
  | .hbm, ⟨5, _⟩ => ⟨S8x128, .i32⟩
  | .hbm, ⟨6, _⟩ => ⟨S32768x2x128, .f32⟩
  | .hbm, ⟨7, _⟩ => ⟨S36864x2x128, .f32⟩
  | .hbm, ⟨8, _⟩ => ⟨S9216x128, .f32⟩
  | .hbm, ⟨9, _⟩ => ⟨S4x9216x256, .f32⟩
  | .local .tc .vmem, ⟨0, _⟩ => ⟨S64x128, .i32⟩
  | .local .tc .vmem, ⟨1, _⟩ => ⟨S64x128, .i32⟩
  | .local .tc .vmem, ⟨2, _⟩ => ⟨S4x64x128, .i32⟩
  | .local .tc .vmem, ⟨3, _⟩ => ⟨S8x128, .i32⟩
  | .local .scVector .vmem, ⟨0, _⟩ => ⟨S2x128x2x128, .f32⟩
  | .local .scVector .vmem, ⟨1, _⟩ => ⟨S2x1x1x128, .i32⟩
  | .local .scVector .vmem, ⟨2, _⟩ => ⟨S2x128x128, .f32⟩
  | .local .scVector .vmem, ⟨3, _⟩ => ⟨S2x1x128, .i32⟩
  | _, _ => ⟨S64x128, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v1_scv : Ref sig .scVector := ⟨.hbm, 6, rfl⟩
abbrev main_arg2_scv : Ref sig .scVector := ⟨.hbm, 2, rfl⟩
abbrev main_v0_1_scv : Ref sig .scVector := ⟨.hbm, 4, rfl⟩
abbrev main_v0_0_scv : Ref sig .scVector := ⟨.hbm, 3, rfl⟩
abbrev main_v2_0_scv : Ref sig .scVector := ⟨.hbm, 7, rfl⟩
abbrev main_v2_1_scv : Ref sig .scVector := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scoped0 : Ref sig .scVector := ⟨.vmem, 0, rfl⟩
abbrev cc1_scoped2 : Ref sig .scVector := ⟨.vmem, 1, rfl⟩
abbrev cc1_scoped5 : Ref sig .scVector := ⟨.vmem, 2, rfl⟩
abbrev cc1_scoped7 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S64x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x64x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 : Fin 4 → Nat :=
  let c0_i32_30_r0 : BitVec 32 := 0#32
  let c2_i32_31_r0 : BitVec 32 := 2#32
  let v39_r0 : BitVec 32 := Scalar.remui c0_i32_30_r0 c2_i32_31_r0
  let c0_i32_33_r0 : BitVec 32 := 0#32
  let c0_i32_34_r0 : BitVec 32 := 0#32
  let c0_i32_35_r0 : BitVec 32 := 0#32
  ![v39_r0.toNat, 0, 0, 0]
def k1_off2 (i : grid1.Coords) : Fin 3 → Nat :=
  let c128_i32_r0 : BitVec 32 := 128#32
  let c0_i32_32_r0 : BitVec 32 := 0#32
  let c0_i32_5_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v12_r0 : BitVec 32 := Scalar.addi c0_i32_5_r0 v4
  let v40_r0 : BitVec 32 := Scalar.addi c0_i32_32_r0 v12_r0
  let v41_r0 : BitVec 32 := Scalar.muli c128_i32_r0 v40_r0
  let c0_i32_36_r0 : BitVec 32 := 0#32
  let c0_i32_37_r0 : BitVec 32 := 0#32
  ![v41_r0.toNat, 0, 0]
def k1_off3 : Fin 1 → Nat :=
  let c0_i32_30_r0 : BitVec 32 := 0#32
  let c2_i32_31_r0 : BitVec 32 := 2#32
  let v39_r0 : BitVec 32 := Scalar.remui c0_i32_30_r0 c2_i32_31_r0
  ![v39_r0.toNat]
def k1_off4 : Fin 4 → Nat :=
  let c0_i32_45_r0 : BitVec 32 := 0#32
  let c2_i32_46_r0 : BitVec 32 := 2#32
  let v51_r0 : BitVec 32 := Scalar.remui c0_i32_45_r0 c2_i32_46_r0
  let c0_i32_63_r0 : BitVec 32 := 0#32
  let c0_i32_64_r0 : BitVec 32 := 0#32
  let c0_i32_65_r0 : BitVec 32 := 0#32
  ![v51_r0.toNat, 0, 0, 0]
def k1_off5 (i : grid1.Coords) : Fin 3 → Nat :=
  let c1_i32_61_r0 : BitVec 32 := 1#32
  let c0_i32_47_r0 : BitVec 32 := 0#32
  let c0_i32_5_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v12_r0 : BitVec 32 := Scalar.addi c0_i32_5_r0 v4
  let v52_r0 : BitVec 32 := Scalar.addi c0_i32_47_r0 v12_r0
  let c0_i32_48_r0 : BitVec 32 := 0#32
  let v54_r0 : BitVec 1 := Scalar.cmpi .sgt v52_r0 c0_i32_48_r0
  let v55_r0 : BitVec 32 := Scalar.extui v54_r0
  let c0_i32_49_r0 : BitVec 32 := 0#32
  let v56_r0 : BitVec 1 := Scalar.cmpi .slt v52_r0 c0_i32_49_r0
  let v57_r0 : BitVec 32 := Scalar.extui v56_r0
  let v58_r0 : BitVec 32 := Scalar.subi v55_r0 v57_r0
  let c64_i32_r0 : BitVec 32 := 64#32
  let c0_i32_50_r0 : BitVec 32 := 0#32
  let v59_r0 : BitVec 1 := Scalar.cmpi .sgt c64_i32_r0 c0_i32_50_r0
  let v60_r0 : BitVec 32 := Scalar.extui v59_r0
  let c0_i32_51_r0 : BitVec 32 := 0#32
  let v61_r0 : BitVec 1 := Scalar.cmpi .slt c64_i32_r0 c0_i32_51_r0
  let v62_r0 : BitVec 32 := Scalar.extui v61_r0
  let v63_r0 : BitVec 32 := Scalar.subi v60_r0 v62_r0
  let v64_r0 : BitVec 1 := Scalar.cmpi .ne v58_r0 v63_r0
  let v65_r0 : BitVec 32 := Scalar.remsi v52_r0 c64_i32_r0
  let c0_i32_52_r0 : BitVec 32 := 0#32
  let v66_r0 : BitVec 1 := Scalar.cmpi .ne v65_r0 c0_i32_52_r0
  let v67_r0 : BitVec 1 := Scalar.andi v64_r0 v66_r0
  let v53_r0 : BitVec 32 := Scalar.divsi v52_r0 c64_i32_r0
  let c1_i32_53_r0 : BitVec 32 := 1#32
  let v68_r0 : BitVec 32 := Scalar.subi v53_r0 c1_i32_53_r0
  let v69_r0 : BitVec 32 := Scalar.select v67_r0 v68_r0 v53_r0
  let v81_r0 : BitVec 32 := Scalar.muli c1_i32_61_r0 v69_r0
  let c1_i32_62_r0 : BitVec 32 := 1#32
  let c0_i32_54_r0 : BitVec 32 := 0#32
  let v70_r0 : BitVec 32 := Scalar.addi c0_i32_54_r0 v12_r0
  let c64_i32_55_r0 : BitVec 32 := 64#32
  let c0_i32_56_r0 : BitVec 32 := 0#32
  let v71_r0 : BitVec 1 := Scalar.cmpi .eq c64_i32_55_r0 c0_i32_56_r0
  let c1_i32_57_r0 : BitVec 32 := 1#32
  let v72_r0 : BitVec 32 := Scalar.select v71_r0 c1_i32_57_r0 c64_i32_55_r0
  let v73_r0 : BitVec 32 := Scalar.remsi v70_r0 v72_r0
  let c0_i32_59_r0 : BitVec 32 := 0#32
  let v75_r0 : BitVec 1 := Scalar.cmpi .slt v73_r0 c0_i32_59_r0
  let c0_i32_60_r0 : BitVec 32 := 0#32
  let v76_r0 : BitVec 1 := Scalar.cmpi .slt v72_r0 c0_i32_60_r0
  let v77_r0 : BitVec 1 := Scalar.xori v75_r0 v76_r0
  let c0_i32_58_r0 : BitVec 32 := 0#32
  let v74_r0 : BitVec 1 := Scalar.cmpi .ne v73_r0 c0_i32_58_r0
  let v78_r0 : BitVec 1 := Scalar.andi v77_r0 v74_r0
  let v79_r0 : BitVec 32 := Scalar.addi v73_r0 v72_r0
  let v80_r0 : BitVec 32 := Scalar.select v78_r0 v79_r0 v73_r0
  let v82_r0 : BitVec 32 := Scalar.muli c1_i32_62_r0 v80_r0
  let c0_i32_66_r0 : BitVec 32 := 0#32
  ![v81_r0.toNat, v82_r0.toNat, 0]
@[reducible] def k1_t1_loop : Scf.Loop 32 :=
  let c0_i32_77_r0 : BitVec 32 := 0#32
  let c8_i32_r0 : BitVec 32 := 8#32
  let v92_r0 : BitVec 32 := Scalar.addi c0_i32_77_r0 c8_i32_r0
  let c1_i32_78_r0 : BitVec 32 := 1#32
  ⟨c0_i32_77_r0, v92_r0, c1_i32_78_r0⟩
def k1_off6 (arg9_r0 : BitVec 32) : Fin 4 → Nat :=
  let c2_i32_224_r0 : BitVec 32 := 2#32
  let v349_r0 : BitVec 32 := Scalar.remui arg9_r0 c2_i32_224_r0
  let c0_i32_227_r0 : BitVec 32 := 0#32
  let c0_i32_228_r0 : BitVec 32 := 0#32
  let c0_i32_229_r0 : BitVec 32 := 0#32
  ![v349_r0.toNat, 0, 0, 0]
def k1_cond1 (i : grid1.Coords) (k1_t1 : Fin k1_t1_loop.trips) (arg13_r0 : BitVec 32) (arg14_r0 : BitVec 32) : BitVec 1 :=
  let c0_i32_113_r0 : BitVec 32 := 0#32
  let v136_r0 : BitVec 32 := Scalar.addi arg13_r0 c0_i32_113_r0
  let c128_i32_138_r0 : BitVec 32 := 128#32
  let v168_r0 : BitVec 32 := Scalar.muli v136_r0 c128_i32_138_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v137_r0 : BitVec 32 := Scalar.addi arg14_r0 v4
  let v169_r0 : BitVec 32 := Scalar.addi v168_r0 v137_r0
  let true_123_r0 : BitVec 1 := 1#1
  let c1_i32_122_r0 : BitVec 32 := 1#32
  let v148_r0 : BitVec 32 := Scalar.addi arg14_r0 c1_i32_122_r0
  let v149_r0 : BitVec 32 := Scalar.select true_123_r0 v148_r0 arg14_r0
  let c4_i32_124_r0 : BitVec 32 := 4#32
  let v150_r0 : BitVec 1 := Scalar.cmpi .eq v149_r0 c4_i32_124_r0
  let c1_i32_126_r0 : BitVec 32 := 1#32
  let v152_r0 : BitVec 32 := Scalar.addi arg13_r0 c1_i32_126_r0
  let v153_r0 : BitVec 32 := Scalar.select v150_r0 v152_r0 arg13_r0
  let c2_i32_127_r0 : BitVec 32 := 2#32
  let v154_r0 : BitVec 1 := Scalar.cmpi .eq v153_r0 c2_i32_127_r0
  let c0_i32_128_r0 : BitVec 32 := 0#32
  let v155_r0 : BitVec 32 := Scalar.select v154_r0 c0_i32_128_r0 v153_r0
  let c0_i32_129_r0 : BitVec 32 := 0#32
  let v156_r0 : BitVec 32 := Scalar.addi v155_r0 c0_i32_129_r0
  let c128_i32_139_r0 : BitVec 32 := 128#32
  let v170_r0 : BitVec 32 := Scalar.muli v156_r0 c128_i32_139_r0
  let c0_i32_125_r0 : BitVec 32 := 0#32
  let v151_r0 : BitVec 32 := Scalar.select v150_r0 c0_i32_125_r0 v149_r0
  let v157_r0 : BitVec 32 := Scalar.addi v151_r0 v4
  let v171_r0 : BitVec 32 := Scalar.addi v170_r0 v157_r0
  let v172_r0 : BitVec 1 := Scalar.cmpi .ne v169_r0 v171_r0
  let c0_i32_77_r0 : BitVec 32 := 0#32
  let c1_i32_78_r0 : BitVec 32 := 1#32
  let arg8_r0 : BitVec 32 := Scf.iv c0_i32_77_r0 c1_i32_78_r0 k1_t1
  let c7_i32_140_r0 : BitVec 32 := 7#32
  let v173_r0 : BitVec 1 := Scalar.cmpi .sge arg8_r0 c7_i32_140_r0
  let true_141_r0 : BitVec 1 := 1#1
  let v174_r0 : BitVec 1 := Scalar.xori v173_r0 true_141_r0
  let v175_r0 : BitVec 1 := Scalar.andi v172_r0 v174_r0
  let true_142_r0 : BitVec 1 := 1#1
  let v176_r0 : BitVec 1 := Scalar.andi v175_r0 true_142_r0
  let v177_r0 : BitVec 32 := Scalar.extui v176_r0
  let c0_i32_143_r0 : BitVec 32 := 0#32
  let v178_r0 : BitVec 1 := Scalar.cmpi .ne v177_r0 c0_i32_143_r0
  v178_r0

def k1_off7 (i : grid1.Coords) (arg13_r0 : BitVec 32) (arg14_r0 : BitVec 32) : Fin 3 → Nat :=
  let c128_i32_226_r0 : BitVec 32 := 128#32
  let true_123_r0 : BitVec 1 := 1#1
  let c1_i32_122_r0 : BitVec 32 := 1#32
  let v148_r0 : BitVec 32 := Scalar.addi arg14_r0 c1_i32_122_r0
  let v149_r0 : BitVec 32 := Scalar.select true_123_r0 v148_r0 arg14_r0
  let c4_i32_124_r0 : BitVec 32 := 4#32
  let v150_r0 : BitVec 1 := Scalar.cmpi .eq v149_r0 c4_i32_124_r0
  let c1_i32_126_r0 : BitVec 32 := 1#32
  let v152_r0 : BitVec 32 := Scalar.addi arg13_r0 c1_i32_126_r0
  let v153_r0 : BitVec 32 := Scalar.select v150_r0 v152_r0 arg13_r0
  let c2_i32_127_r0 : BitVec 32 := 2#32
  let v154_r0 : BitVec 1 := Scalar.cmpi .eq v153_r0 c2_i32_127_r0
  let c0_i32_128_r0 : BitVec 32 := 0#32
  let v155_r0 : BitVec 32 := Scalar.select v154_r0 c0_i32_128_r0 v153_r0
  let c0_i32_129_r0 : BitVec 32 := 0#32
  let v156_r0 : BitVec 32 := Scalar.addi v155_r0 c0_i32_129_r0
  let c128_i32_225_r0 : BitVec 32 := 128#32
  let v350_r0 : BitVec 32 := Scalar.muli v156_r0 c128_i32_225_r0
  let c0_i32_125_r0 : BitVec 32 := 0#32
  let v151_r0 : BitVec 32 := Scalar.select v150_r0 c0_i32_125_r0 v149_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v157_r0 : BitVec 32 := Scalar.addi v151_r0 v4
  let v351_r0 : BitVec 32 := Scalar.addi v350_r0 v157_r0
  let v352_r0 : BitVec 32 := Scalar.muli c128_i32_226_r0 v351_r0
  let c0_i32_230_r0 : BitVec 32 := 0#32
  let c0_i32_231_r0 : BitVec 32 := 0#32
  ![v352_r0.toNat, 0, 0]
def k1_off8 (arg9_r0 : BitVec 32) : Fin 1 → Nat :=
  let c2_i32_224_r0 : BitVec 32 := 2#32
  let v349_r0 : BitVec 32 := Scalar.remui arg9_r0 c2_i32_224_r0
  ![v349_r0.toNat]
def k1_off9 (arg11_r0 : BitVec 32) : Fin 4 → Nat :=
  let c2_i32_224_r0 : BitVec 32 := 2#32
  let v349_r0 : BitVec 32 := Scalar.remui arg11_r0 c2_i32_224_r0
  let c0_i32_242_r0 : BitVec 32 := 0#32
  let c0_i32_243_r0 : BitVec 32 := 0#32
  let c0_i32_244_r0 : BitVec 32 := 0#32
  ![v349_r0.toNat, 0, 0, 0]
def k1_cond2 (i : grid1.Coords) (k1_t1 : Fin k1_t1_loop.trips) (arg13_r0 : BitVec 32) (arg14_r0 : BitVec 32) : BitVec 1 :=
  let c0_i32_113_r0 : BitVec 32 := 0#32
  let v136_r0 : BitVec 32 := Scalar.addi arg13_r0 c0_i32_113_r0
  let c128_i32_146_r0 : BitVec 32 := 128#32
  let v182_r0 : BitVec 32 := Scalar.muli v136_r0 c128_i32_146_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v137_r0 : BitVec 32 := Scalar.addi arg14_r0 v4
  let v183_r0 : BitVec 32 := Scalar.addi v182_r0 v137_r0
  let c0_i32_148_r0 : BitVec 32 := 0#32
  let v185_r0 : BitVec 1 := Scalar.cmpi .sgt v183_r0 c0_i32_148_r0
  let v186_r0 : BitVec 32 := Scalar.extui v185_r0
  let c0_i32_149_r0 : BitVec 32 := 0#32
  let v187_r0 : BitVec 1 := Scalar.cmpi .slt v183_r0 c0_i32_149_r0
  let v188_r0 : BitVec 32 := Scalar.extui v187_r0
  let v189_r0 : BitVec 32 := Scalar.subi v186_r0 v188_r0
  let c64_i32_147_r0 : BitVec 32 := 64#32
  let c0_i32_150_r0 : BitVec 32 := 0#32
  let v190_r0 : BitVec 1 := Scalar.cmpi .sgt c64_i32_147_r0 c0_i32_150_r0
  let v191_r0 : BitVec 32 := Scalar.extui v190_r0
  let c0_i32_151_r0 : BitVec 32 := 0#32
  let v192_r0 : BitVec 1 := Scalar.cmpi .slt c64_i32_147_r0 c0_i32_151_r0
  let v193_r0 : BitVec 32 := Scalar.extui v192_r0
  let v194_r0 : BitVec 32 := Scalar.subi v191_r0 v193_r0
  let v195_r0 : BitVec 1 := Scalar.cmpi .ne v189_r0 v194_r0
  let v196_r0 : BitVec 32 := Scalar.remsi v183_r0 c64_i32_147_r0
  let c0_i32_152_r0 : BitVec 32 := 0#32
  let v197_r0 : BitVec 1 := Scalar.cmpi .ne v196_r0 c0_i32_152_r0
  let v198_r0 : BitVec 1 := Scalar.andi v195_r0 v197_r0
  let v184_r0 : BitVec 32 := Scalar.divsi v183_r0 c64_i32_147_r0
  let c1_i32_153_r0 : BitVec 32 := 1#32
  let v199_r0 : BitVec 32 := Scalar.subi v184_r0 c1_i32_153_r0
  let v200_r0 : BitVec 32 := Scalar.select v198_r0 v199_r0 v184_r0
  let true_123_r0 : BitVec 1 := 1#1
  let c1_i32_122_r0 : BitVec 32 := 1#32
  let v148_r0 : BitVec 32 := Scalar.addi arg14_r0 c1_i32_122_r0
  let v149_r0 : BitVec 32 := Scalar.select true_123_r0 v148_r0 arg14_r0
  let c4_i32_124_r0 : BitVec 32 := 4#32
  let v150_r0 : BitVec 1 := Scalar.cmpi .eq v149_r0 c4_i32_124_r0
  let c1_i32_126_r0 : BitVec 32 := 1#32
  let v152_r0 : BitVec 32 := Scalar.addi arg13_r0 c1_i32_126_r0
  let v153_r0 : BitVec 32 := Scalar.select v150_r0 v152_r0 arg13_r0
  let c2_i32_127_r0 : BitVec 32 := 2#32
  let v154_r0 : BitVec 1 := Scalar.cmpi .eq v153_r0 c2_i32_127_r0
  let c0_i32_128_r0 : BitVec 32 := 0#32
  let v155_r0 : BitVec 32 := Scalar.select v154_r0 c0_i32_128_r0 v153_r0
  let c0_i32_129_r0 : BitVec 32 := 0#32
  let v156_r0 : BitVec 32 := Scalar.addi v155_r0 c0_i32_129_r0
  let c128_i32_161_r0 : BitVec 32 := 128#32
  let v213_r0 : BitVec 32 := Scalar.muli v156_r0 c128_i32_161_r0
  let c0_i32_125_r0 : BitVec 32 := 0#32
  let v151_r0 : BitVec 32 := Scalar.select v150_r0 c0_i32_125_r0 v149_r0
  let v157_r0 : BitVec 32 := Scalar.addi v151_r0 v4
  let v214_r0 : BitVec 32 := Scalar.addi v213_r0 v157_r0
  let c0_i32_163_r0 : BitVec 32 := 0#32
  let v216_r0 : BitVec 1 := Scalar.cmpi .sgt v214_r0 c0_i32_163_r0
  let v217_r0 : BitVec 32 := Scalar.extui v216_r0
  let c0_i32_164_r0 : BitVec 32 := 0#32
  let v218_r0 : BitVec 1 := Scalar.cmpi .slt v214_r0 c0_i32_164_r0
  let v219_r0 : BitVec 32 := Scalar.extui v218_r0
  let v220_r0 : BitVec 32 := Scalar.subi v217_r0 v219_r0
  let c64_i32_162_r0 : BitVec 32 := 64#32
  let c0_i32_165_r0 : BitVec 32 := 0#32
  let v221_r0 : BitVec 1 := Scalar.cmpi .sgt c64_i32_162_r0 c0_i32_165_r0
  let v222_r0 : BitVec 32 := Scalar.extui v221_r0
  let c0_i32_166_r0 : BitVec 32 := 0#32
  let v223_r0 : BitVec 1 := Scalar.cmpi .slt c64_i32_162_r0 c0_i32_166_r0
  let v224_r0 : BitVec 32 := Scalar.extui v223_r0
  let v225_r0 : BitVec 32 := Scalar.subi v222_r0 v224_r0
  let v226_r0 : BitVec 1 := Scalar.cmpi .ne v220_r0 v225_r0
  let v227_r0 : BitVec 32 := Scalar.remsi v214_r0 c64_i32_162_r0
  let c0_i32_167_r0 : BitVec 32 := 0#32
  let v228_r0 : BitVec 1 := Scalar.cmpi .ne v227_r0 c0_i32_167_r0
  let v229_r0 : BitVec 1 := Scalar.andi v226_r0 v228_r0
  let v215_r0 : BitVec 32 := Scalar.divsi v214_r0 c64_i32_162_r0
  let c1_i32_168_r0 : BitVec 32 := 1#32
  let v230_r0 : BitVec 32 := Scalar.subi v215_r0 c1_i32_168_r0
  let v231_r0 : BitVec 32 := Scalar.select v229_r0 v230_r0 v215_r0
  let v244_r0 : BitVec 1 := Scalar.cmpi .ne v200_r0 v231_r0
  let c128_i32_154_r0 : BitVec 32 := 128#32
  let v201_r0 : BitVec 32 := Scalar.muli v136_r0 c128_i32_154_r0
  let v202_r0 : BitVec 32 := Scalar.addi v201_r0 v137_r0
  let c64_i32_155_r0 : BitVec 32 := 64#32
  let c0_i32_156_r0 : BitVec 32 := 0#32
  let v203_r0 : BitVec 1 := Scalar.cmpi .eq c64_i32_155_r0 c0_i32_156_r0
  let c1_i32_157_r0 : BitVec 32 := 1#32
  let v204_r0 : BitVec 32 := Scalar.select v203_r0 c1_i32_157_r0 c64_i32_155_r0
  let v205_r0 : BitVec 32 := Scalar.remsi v202_r0 v204_r0
  let c0_i32_159_r0 : BitVec 32 := 0#32
  let v207_r0 : BitVec 1 := Scalar.cmpi .slt v205_r0 c0_i32_159_r0
  let c0_i32_160_r0 : BitVec 32 := 0#32
  let v208_r0 : BitVec 1 := Scalar.cmpi .slt v204_r0 c0_i32_160_r0
  let v209_r0 : BitVec 1 := Scalar.xori v207_r0 v208_r0
  let c0_i32_158_r0 : BitVec 32 := 0#32
  let v206_r0 : BitVec 1 := Scalar.cmpi .ne v205_r0 c0_i32_158_r0
  let v210_r0 : BitVec 1 := Scalar.andi v209_r0 v206_r0
  let v211_r0 : BitVec 32 := Scalar.addi v205_r0 v204_r0
  let v212_r0 : BitVec 32 := Scalar.select v210_r0 v211_r0 v205_r0
  let c128_i32_169_r0 : BitVec 32 := 128#32
  let v232_r0 : BitVec 32 := Scalar.muli v156_r0 c128_i32_169_r0
  let v233_r0 : BitVec 32 := Scalar.addi v232_r0 v157_r0
  let c64_i32_170_r0 : BitVec 32 := 64#32
  let c0_i32_171_r0 : BitVec 32 := 0#32
  let v234_r0 : BitVec 1 := Scalar.cmpi .eq c64_i32_170_r0 c0_i32_171_r0
  let c1_i32_172_r0 : BitVec 32 := 1#32
  let v235_r0 : BitVec 32 := Scalar.select v234_r0 c1_i32_172_r0 c64_i32_170_r0
  let v236_r0 : BitVec 32 := Scalar.remsi v233_r0 v235_r0
  let c0_i32_174_r0 : BitVec 32 := 0#32
  let v238_r0 : BitVec 1 := Scalar.cmpi .slt v236_r0 c0_i32_174_r0
  let c0_i32_175_r0 : BitVec 32 := 0#32
  let v239_r0 : BitVec 1 := Scalar.cmpi .slt v235_r0 c0_i32_175_r0
  let v240_r0 : BitVec 1 := Scalar.xori v238_r0 v239_r0
  let c0_i32_173_r0 : BitVec 32 := 0#32
  let v237_r0 : BitVec 1 := Scalar.cmpi .ne v236_r0 c0_i32_173_r0
  let v241_r0 : BitVec 1 := Scalar.andi v240_r0 v237_r0
  let v242_r0 : BitVec 32 := Scalar.addi v236_r0 v235_r0
  let v243_r0 : BitVec 32 := Scalar.select v241_r0 v242_r0 v236_r0
  let v245_r0 : BitVec 1 := Scalar.cmpi .ne v212_r0 v243_r0
  let v246_r0 : BitVec 1 := Scalar.ori v244_r0 v245_r0
  let c0_i32_77_r0 : BitVec 32 := 0#32
  let c1_i32_78_r0 : BitVec 32 := 1#32
  let arg8_r0 : BitVec 32 := Scf.iv c0_i32_77_r0 c1_i32_78_r0 k1_t1
  let c7_i32_176_r0 : BitVec 32 := 7#32
  let v247_r0 : BitVec 1 := Scalar.cmpi .sge arg8_r0 c7_i32_176_r0
  let true_177_r0 : BitVec 1 := 1#1
  let v248_r0 : BitVec 1 := Scalar.xori v247_r0 true_177_r0
  let v249_r0 : BitVec 1 := Scalar.andi v246_r0 v248_r0
  let true_178_r0 : BitVec 1 := 1#1
  let v250_r0 : BitVec 1 := Scalar.andi v249_r0 true_178_r0
  let v251_r0 : BitVec 32 := Scalar.extui v250_r0
  let c0_i32_179_r0 : BitVec 32 := 0#32
  let v252_r0 : BitVec 1 := Scalar.cmpi .ne v251_r0 c0_i32_179_r0
  v252_r0

def k1_off10 (i : grid1.Coords) (arg13_r0 : BitVec 32) (arg14_r0 : BitVec 32) : Fin 3 → Nat :=
  let c1_i32_240_r0 : BitVec 32 := 1#32
  let true_123_r0 : BitVec 1 := 1#1
  let c1_i32_122_r0 : BitVec 32 := 1#32
  let v148_r0 : BitVec 32 := Scalar.addi arg14_r0 c1_i32_122_r0
  let v149_r0 : BitVec 32 := Scalar.select true_123_r0 v148_r0 arg14_r0
  let c4_i32_124_r0 : BitVec 32 := 4#32
  let v150_r0 : BitVec 1 := Scalar.cmpi .eq v149_r0 c4_i32_124_r0
  let c1_i32_126_r0 : BitVec 32 := 1#32
  let v152_r0 : BitVec 32 := Scalar.addi arg13_r0 c1_i32_126_r0
  let v153_r0 : BitVec 32 := Scalar.select v150_r0 v152_r0 arg13_r0
  let c2_i32_127_r0 : BitVec 32 := 2#32
  let v154_r0 : BitVec 1 := Scalar.cmpi .eq v153_r0 c2_i32_127_r0
  let c0_i32_128_r0 : BitVec 32 := 0#32
  let v155_r0 : BitVec 32 := Scalar.select v154_r0 c0_i32_128_r0 v153_r0
  let c0_i32_129_r0 : BitVec 32 := 0#32
  let v156_r0 : BitVec 32 := Scalar.addi v155_r0 c0_i32_129_r0
  let c128_i32_225_r0 : BitVec 32 := 128#32
  let v350_r0 : BitVec 32 := Scalar.muli v156_r0 c128_i32_225_r0
  let c0_i32_125_r0 : BitVec 32 := 0#32
  let v151_r0 : BitVec 32 := Scalar.select v150_r0 c0_i32_125_r0 v149_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v157_r0 : BitVec 32 := Scalar.addi v151_r0 v4
  let v351_r0 : BitVec 32 := Scalar.addi v350_r0 v157_r0
  let c0_i32_227_r0 : BitVec 32 := 0#32
  let v353_r0 : BitVec 1 := Scalar.cmpi .sgt v351_r0 c0_i32_227_r0
  let v354_r0 : BitVec 32 := Scalar.extui v353_r0
  let c0_i32_228_r0 : BitVec 32 := 0#32
  let v355_r0 : BitVec 1 := Scalar.cmpi .slt v351_r0 c0_i32_228_r0
  let v356_r0 : BitVec 32 := Scalar.extui v355_r0
  let v357_r0 : BitVec 32 := Scalar.subi v354_r0 v356_r0
  let c64_i32_226_r0 : BitVec 32 := 64#32
  let c0_i32_229_r0 : BitVec 32 := 0#32
  let v358_r0 : BitVec 1 := Scalar.cmpi .sgt c64_i32_226_r0 c0_i32_229_r0
  let v359_r0 : BitVec 32 := Scalar.extui v358_r0
  let c0_i32_230_r0 : BitVec 32 := 0#32
  let v360_r0 : BitVec 1 := Scalar.cmpi .slt c64_i32_226_r0 c0_i32_230_r0
  let v361_r0 : BitVec 32 := Scalar.extui v360_r0
  let v362_r0 : BitVec 32 := Scalar.subi v359_r0 v361_r0
  let v363_r0 : BitVec 1 := Scalar.cmpi .ne v357_r0 v362_r0
  let v364_r0 : BitVec 32 := Scalar.remsi v351_r0 c64_i32_226_r0
  let c0_i32_231_r0 : BitVec 32 := 0#32
  let v365_r0 : BitVec 1 := Scalar.cmpi .ne v364_r0 c0_i32_231_r0
  let v366_r0 : BitVec 1 := Scalar.andi v363_r0 v365_r0
  let v352_r0 : BitVec 32 := Scalar.divsi v351_r0 c64_i32_226_r0
  let c1_i32_232_r0 : BitVec 32 := 1#32
  let v367_r0 : BitVec 32 := Scalar.subi v352_r0 c1_i32_232_r0
  let v368_r0 : BitVec 32 := Scalar.select v366_r0 v367_r0 v352_r0
  let v381_r0 : BitVec 32 := Scalar.muli c1_i32_240_r0 v368_r0
  let c1_i32_241_r0 : BitVec 32 := 1#32
  let c128_i32_233_r0 : BitVec 32 := 128#32
  let v369_r0 : BitVec 32 := Scalar.muli v156_r0 c128_i32_233_r0
  let v370_r0 : BitVec 32 := Scalar.addi v369_r0 v157_r0
  let c64_i32_234_r0 : BitVec 32 := 64#32
  let c0_i32_235_r0 : BitVec 32 := 0#32
  let v371_r0 : BitVec 1 := Scalar.cmpi .eq c64_i32_234_r0 c0_i32_235_r0
  let c1_i32_236_r0 : BitVec 32 := 1#32
  let v372_r0 : BitVec 32 := Scalar.select v371_r0 c1_i32_236_r0 c64_i32_234_r0
  let v373_r0 : BitVec 32 := Scalar.remsi v370_r0 v372_r0
  let c0_i32_238_r0 : BitVec 32 := 0#32
  let v375_r0 : BitVec 1 := Scalar.cmpi .slt v373_r0 c0_i32_238_r0
  let c0_i32_239_r0 : BitVec 32 := 0#32
  let v376_r0 : BitVec 1 := Scalar.cmpi .slt v372_r0 c0_i32_239_r0
  let v377_r0 : BitVec 1 := Scalar.xori v375_r0 v376_r0
  let c0_i32_237_r0 : BitVec 32 := 0#32
  let v374_r0 : BitVec 1 := Scalar.cmpi .ne v373_r0 c0_i32_237_r0
  let v378_r0 : BitVec 1 := Scalar.andi v377_r0 v374_r0
  let v379_r0 : BitVec 32 := Scalar.addi v373_r0 v372_r0
  let v380_r0 : BitVec 32 := Scalar.select v378_r0 v379_r0 v373_r0
  let v382_r0 : BitVec 32 := Scalar.muli c1_i32_241_r0 v380_r0
  let c0_i32_245_r0 : BitVec 32 := 0#32
  ![v381_r0.toNat, v382_r0.toNat, 0]
def k1_off11 (arg11_r0 : BitVec 32) : Fin 1 → Nat :=
  let c2_i32_224_r0 : BitVec 32 := 2#32
  let v349_r0 : BitVec 32 := Scalar.remui arg11_r0 c2_i32_224_r0
  ![v349_r0.toNat]
def k1_off12 (arg10_r0 : BitVec 32) : Fin 4 → Nat :=
  let c2_i32_226_r0 : BitVec 32 := 2#32
  let v352_r0 : BitVec 32 := Scalar.remui arg10_r0 c2_i32_226_r0
  let c0_i32_227_r0 : BitVec 32 := 0#32
  let c0_i32_228_r0 : BitVec 32 := 0#32
  let c0_i32_229_r0 : BitVec 32 := 0#32
  ![v352_r0.toNat, 0, 0, 0]
def k1_cond3 (i : grid1.Coords) (k1_t1 : Fin k1_t1_loop.trips) (arg13_r0 : BitVec 32) (arg14_r0 : BitVec 32) : BitVec 1 :=
  let c0_i32_113_r0 : BitVec 32 := 0#32
  let v136_r0 : BitVec 32 := Scalar.addi arg13_r0 c0_i32_113_r0
  let c128_i32_138_r0 : BitVec 32 := 128#32
  let v168_r0 : BitVec 32 := Scalar.muli v136_r0 c128_i32_138_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v137_r0 : BitVec 32 := Scalar.addi arg14_r0 v4
  let v169_r0 : BitVec 32 := Scalar.addi v168_r0 v137_r0
  let true_115_r0 : BitVec 1 := 1#1
  let c1_i32_114_r0 : BitVec 32 := 1#32
  let v138_r0 : BitVec 32 := Scalar.subi arg14_r0 c1_i32_114_r0
  let v139_r0 : BitVec 32 := Scalar.select true_115_r0 v138_r0 arg14_r0
  let c_m1_i32_116_r0 : BitVec 32 := 4294967295#32
  let v140_r0 : BitVec 1 := Scalar.cmpi .eq v139_r0 c_m1_i32_116_r0
  let c1_i32_118_r0 : BitVec 32 := 1#32
  let v142_r0 : BitVec 32 := Scalar.subi arg13_r0 c1_i32_118_r0
  let v143_r0 : BitVec 32 := Scalar.select v140_r0 v142_r0 arg13_r0
  let c_m1_i32_119_r0 : BitVec 32 := 4294967295#32
  let v144_r0 : BitVec 1 := Scalar.cmpi .eq v143_r0 c_m1_i32_119_r0
  let c1_i32_120_r0 : BitVec 32 := 1#32
  let v145_r0 : BitVec 32 := Scalar.select v144_r0 c1_i32_120_r0 v143_r0
  let c0_i32_121_r0 : BitVec 32 := 0#32
  let v146_r0 : BitVec 32 := Scalar.addi v145_r0 c0_i32_121_r0
  let c128_i32_182_r0 : BitVec 32 := 128#32
  let v256_r0 : BitVec 32 := Scalar.muli v146_r0 c128_i32_182_r0
  let c3_i32_117_r0 : BitVec 32 := 3#32
  let v141_r0 : BitVec 32 := Scalar.select v140_r0 c3_i32_117_r0 v139_r0
  let v147_r0 : BitVec 32 := Scalar.addi v141_r0 v4
  let v257_r0 : BitVec 32 := Scalar.addi v256_r0 v147_r0
  let v258_r0 : BitVec 1 := Scalar.cmpi .ne v169_r0 v257_r0
  let c0_i32_77_r0 : BitVec 32 := 0#32
  let c1_i32_78_r0 : BitVec 32 := 1#32
  let arg8_r0 : BitVec 32 := Scf.iv c0_i32_77_r0 c1_i32_78_r0 k1_t1
  let c0_i32_112_r0 : BitVec 32 := 0#32
  let v134_r0 : BitVec 1 := Scalar.cmpi .eq arg8_r0 c0_i32_112_r0
  let v259_r0 : BitVec 1 := Scalar.ori v258_r0 v134_r0
  let c0_i32_183_r0 : BitVec 32 := 0#32
  let v260_r0 : BitVec 1 := Scalar.cmpi .sge arg8_r0 c0_i32_183_r0
  let v261_r0 : BitVec 1 := Scalar.andi v259_r0 v260_r0
  let v262_r0 : BitVec 32 := Scalar.extui v261_r0
  let c0_i32_184_r0 : BitVec 32 := 0#32
  let v263_r0 : BitVec 1 := Scalar.cmpi .ne v262_r0 c0_i32_184_r0
  v263_r0

def k1_off13 (i : grid1.Coords) (arg13_r0 : BitVec 32) (arg14_r0 : BitVec 32) : Fin 3 → Nat :=
  let c128_i32_225_r0 : BitVec 32 := 128#32
  let c0_i32_113_r0 : BitVec 32 := 0#32
  let v136_r0 : BitVec 32 := Scalar.addi arg13_r0 c0_i32_113_r0
  let c128_i32_224_r0 : BitVec 32 := 128#32
  let v349_r0 : BitVec 32 := Scalar.muli v136_r0 c128_i32_224_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v137_r0 : BitVec 32 := Scalar.addi arg14_r0 v4
  let v350_r0 : BitVec 32 := Scalar.addi v349_r0 v137_r0
  let v351_r0 : BitVec 32 := Scalar.muli c128_i32_225_r0 v350_r0
  let c0_i32_230_r0 : BitVec 32 := 0#32
  let c0_i32_231_r0 : BitVec 32 := 0#32
  ![v351_r0.toNat, 0, 0]
def k1_off14 (arg10_r0 : BitVec 32) : Fin 1 → Nat :=
  let c2_i32_226_r0 : BitVec 32 := 2#32
  let v352_r0 : BitVec 32 := Scalar.remui arg10_r0 c2_i32_226_r0
  ![v352_r0.toNat]
def k1_off15 (arg12_r0 : BitVec 32) : Fin 4 → Nat :=
  let c2_i32_241_r0 : BitVec 32 := 2#32
  let v382_r0 : BitVec 32 := Scalar.remui arg12_r0 c2_i32_241_r0
  let c0_i32_242_r0 : BitVec 32 := 0#32
  let c0_i32_243_r0 : BitVec 32 := 0#32
  let c0_i32_244_r0 : BitVec 32 := 0#32
  ![v382_r0.toNat, 0, 0, 0]
def k1_cond4 (i : grid1.Coords) (k1_t1 : Fin k1_t1_loop.trips) (arg13_r0 : BitVec 32) (arg14_r0 : BitVec 32) : BitVec 1 :=
  let c0_i32_113_r0 : BitVec 32 := 0#32
  let v136_r0 : BitVec 32 := Scalar.addi arg13_r0 c0_i32_113_r0
  let c128_i32_146_r0 : BitVec 32 := 128#32
  let v182_r0 : BitVec 32 := Scalar.muli v136_r0 c128_i32_146_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v137_r0 : BitVec 32 := Scalar.addi arg14_r0 v4
  let v183_r0 : BitVec 32 := Scalar.addi v182_r0 v137_r0
  let c0_i32_148_r0 : BitVec 32 := 0#32
  let v185_r0 : BitVec 1 := Scalar.cmpi .sgt v183_r0 c0_i32_148_r0
  let v186_r0 : BitVec 32 := Scalar.extui v185_r0
  let c0_i32_149_r0 : BitVec 32 := 0#32
  let v187_r0 : BitVec 1 := Scalar.cmpi .slt v183_r0 c0_i32_149_r0
  let v188_r0 : BitVec 32 := Scalar.extui v187_r0
  let v189_r0 : BitVec 32 := Scalar.subi v186_r0 v188_r0
  let c64_i32_147_r0 : BitVec 32 := 64#32
  let c0_i32_150_r0 : BitVec 32 := 0#32
  let v190_r0 : BitVec 1 := Scalar.cmpi .sgt c64_i32_147_r0 c0_i32_150_r0
  let v191_r0 : BitVec 32 := Scalar.extui v190_r0
  let c0_i32_151_r0 : BitVec 32 := 0#32
  let v192_r0 : BitVec 1 := Scalar.cmpi .slt c64_i32_147_r0 c0_i32_151_r0
  let v193_r0 : BitVec 32 := Scalar.extui v192_r0
  let v194_r0 : BitVec 32 := Scalar.subi v191_r0 v193_r0
  let v195_r0 : BitVec 1 := Scalar.cmpi .ne v189_r0 v194_r0
  let v196_r0 : BitVec 32 := Scalar.remsi v183_r0 c64_i32_147_r0
  let c0_i32_152_r0 : BitVec 32 := 0#32
  let v197_r0 : BitVec 1 := Scalar.cmpi .ne v196_r0 c0_i32_152_r0
  let v198_r0 : BitVec 1 := Scalar.andi v195_r0 v197_r0
  let v184_r0 : BitVec 32 := Scalar.divsi v183_r0 c64_i32_147_r0
  let c1_i32_153_r0 : BitVec 32 := 1#32
  let v199_r0 : BitVec 32 := Scalar.subi v184_r0 c1_i32_153_r0
  let v200_r0 : BitVec 32 := Scalar.select v198_r0 v199_r0 v184_r0
  let true_115_r0 : BitVec 1 := 1#1
  let c1_i32_114_r0 : BitVec 32 := 1#32
  let v138_r0 : BitVec 32 := Scalar.subi arg14_r0 c1_i32_114_r0
  let v139_r0 : BitVec 32 := Scalar.select true_115_r0 v138_r0 arg14_r0
  let c_m1_i32_116_r0 : BitVec 32 := 4294967295#32
  let v140_r0 : BitVec 1 := Scalar.cmpi .eq v139_r0 c_m1_i32_116_r0
  let c1_i32_118_r0 : BitVec 32 := 1#32
  let v142_r0 : BitVec 32 := Scalar.subi arg13_r0 c1_i32_118_r0
  let v143_r0 : BitVec 32 := Scalar.select v140_r0 v142_r0 arg13_r0
  let c_m1_i32_119_r0 : BitVec 32 := 4294967295#32
  let v144_r0 : BitVec 1 := Scalar.cmpi .eq v143_r0 c_m1_i32_119_r0
  let c1_i32_120_r0 : BitVec 32 := 1#32
  let v145_r0 : BitVec 32 := Scalar.select v144_r0 c1_i32_120_r0 v143_r0
  let c0_i32_121_r0 : BitVec 32 := 0#32
  let v146_r0 : BitVec 32 := Scalar.addi v145_r0 c0_i32_121_r0
  let c128_i32_185_r0 : BitVec 32 := 128#32
  let v264_r0 : BitVec 32 := Scalar.muli v146_r0 c128_i32_185_r0
  let c3_i32_117_r0 : BitVec 32 := 3#32
  let v141_r0 : BitVec 32 := Scalar.select v140_r0 c3_i32_117_r0 v139_r0
  let v147_r0 : BitVec 32 := Scalar.addi v141_r0 v4
  let v265_r0 : BitVec 32 := Scalar.addi v264_r0 v147_r0
  let c0_i32_187_r0 : BitVec 32 := 0#32
  let v267_r0 : BitVec 1 := Scalar.cmpi .sgt v265_r0 c0_i32_187_r0
  let v268_r0 : BitVec 32 := Scalar.extui v267_r0
  let c0_i32_188_r0 : BitVec 32 := 0#32
  let v269_r0 : BitVec 1 := Scalar.cmpi .slt v265_r0 c0_i32_188_r0
  let v270_r0 : BitVec 32 := Scalar.extui v269_r0
  let v271_r0 : BitVec 32 := Scalar.subi v268_r0 v270_r0
  let c64_i32_186_r0 : BitVec 32 := 64#32
  let c0_i32_189_r0 : BitVec 32 := 0#32
  let v272_r0 : BitVec 1 := Scalar.cmpi .sgt c64_i32_186_r0 c0_i32_189_r0
  let v273_r0 : BitVec 32 := Scalar.extui v272_r0
  let c0_i32_190_r0 : BitVec 32 := 0#32
  let v274_r0 : BitVec 1 := Scalar.cmpi .slt c64_i32_186_r0 c0_i32_190_r0
  let v275_r0 : BitVec 32 := Scalar.extui v274_r0
  let v276_r0 : BitVec 32 := Scalar.subi v273_r0 v275_r0
  let v277_r0 : BitVec 1 := Scalar.cmpi .ne v271_r0 v276_r0
  let v278_r0 : BitVec 32 := Scalar.remsi v265_r0 c64_i32_186_r0
  let c0_i32_191_r0 : BitVec 32 := 0#32
  let v279_r0 : BitVec 1 := Scalar.cmpi .ne v278_r0 c0_i32_191_r0
  let v280_r0 : BitVec 1 := Scalar.andi v277_r0 v279_r0
  let v266_r0 : BitVec 32 := Scalar.divsi v265_r0 c64_i32_186_r0
  let c1_i32_192_r0 : BitVec 32 := 1#32
  let v281_r0 : BitVec 32 := Scalar.subi v266_r0 c1_i32_192_r0
  let v282_r0 : BitVec 32 := Scalar.select v280_r0 v281_r0 v266_r0
  let v295_r0 : BitVec 1 := Scalar.cmpi .ne v200_r0 v282_r0
  let c128_i32_154_r0 : BitVec 32 := 128#32
  let v201_r0 : BitVec 32 := Scalar.muli v136_r0 c128_i32_154_r0
  let v202_r0 : BitVec 32 := Scalar.addi v201_r0 v137_r0
  let c64_i32_155_r0 : BitVec 32 := 64#32
  let c0_i32_156_r0 : BitVec 32 := 0#32
  let v203_r0 : BitVec 1 := Scalar.cmpi .eq c64_i32_155_r0 c0_i32_156_r0
  let c1_i32_157_r0 : BitVec 32 := 1#32
  let v204_r0 : BitVec 32 := Scalar.select v203_r0 c1_i32_157_r0 c64_i32_155_r0
  let v205_r0 : BitVec 32 := Scalar.remsi v202_r0 v204_r0
  let c0_i32_159_r0 : BitVec 32 := 0#32
  let v207_r0 : BitVec 1 := Scalar.cmpi .slt v205_r0 c0_i32_159_r0
  let c0_i32_160_r0 : BitVec 32 := 0#32
  let v208_r0 : BitVec 1 := Scalar.cmpi .slt v204_r0 c0_i32_160_r0
  let v209_r0 : BitVec 1 := Scalar.xori v207_r0 v208_r0
  let c0_i32_158_r0 : BitVec 32 := 0#32
  let v206_r0 : BitVec 1 := Scalar.cmpi .ne v205_r0 c0_i32_158_r0
  let v210_r0 : BitVec 1 := Scalar.andi v209_r0 v206_r0
  let v211_r0 : BitVec 32 := Scalar.addi v205_r0 v204_r0
  let v212_r0 : BitVec 32 := Scalar.select v210_r0 v211_r0 v205_r0
  let c128_i32_193_r0 : BitVec 32 := 128#32
  let v283_r0 : BitVec 32 := Scalar.muli v146_r0 c128_i32_193_r0
  let v284_r0 : BitVec 32 := Scalar.addi v283_r0 v147_r0
  let c64_i32_194_r0 : BitVec 32 := 64#32
  let c0_i32_195_r0 : BitVec 32 := 0#32
  let v285_r0 : BitVec 1 := Scalar.cmpi .eq c64_i32_194_r0 c0_i32_195_r0
  let c1_i32_196_r0 : BitVec 32 := 1#32
  let v286_r0 : BitVec 32 := Scalar.select v285_r0 c1_i32_196_r0 c64_i32_194_r0
  let v287_r0 : BitVec 32 := Scalar.remsi v284_r0 v286_r0
  let c0_i32_198_r0 : BitVec 32 := 0#32
  let v289_r0 : BitVec 1 := Scalar.cmpi .slt v287_r0 c0_i32_198_r0
  let c0_i32_199_r0 : BitVec 32 := 0#32
  let v290_r0 : BitVec 1 := Scalar.cmpi .slt v286_r0 c0_i32_199_r0
  let v291_r0 : BitVec 1 := Scalar.xori v289_r0 v290_r0
  let c0_i32_197_r0 : BitVec 32 := 0#32
  let v288_r0 : BitVec 1 := Scalar.cmpi .ne v287_r0 c0_i32_197_r0
  let v292_r0 : BitVec 1 := Scalar.andi v291_r0 v288_r0
  let v293_r0 : BitVec 32 := Scalar.addi v287_r0 v286_r0
  let v294_r0 : BitVec 32 := Scalar.select v292_r0 v293_r0 v287_r0
  let v296_r0 : BitVec 1 := Scalar.cmpi .ne v212_r0 v294_r0
  let v297_r0 : BitVec 1 := Scalar.ori v295_r0 v296_r0
  let c0_i32_77_r0 : BitVec 32 := 0#32
  let c1_i32_78_r0 : BitVec 32 := 1#32
  let arg8_r0 : BitVec 32 := Scf.iv c0_i32_77_r0 c1_i32_78_r0 k1_t1
  let c0_i32_112_r0 : BitVec 32 := 0#32
  let v134_r0 : BitVec 1 := Scalar.cmpi .eq arg8_r0 c0_i32_112_r0
  let v298_r0 : BitVec 1 := Scalar.ori v297_r0 v134_r0
  let c0_i32_200_r0 : BitVec 32 := 0#32
  let v299_r0 : BitVec 1 := Scalar.cmpi .sge arg8_r0 c0_i32_200_r0
  let v300_r0 : BitVec 1 := Scalar.andi v298_r0 v299_r0
  let v301_r0 : BitVec 32 := Scalar.extui v300_r0
  let c0_i32_201_r0 : BitVec 32 := 0#32
  let v302_r0 : BitVec 1 := Scalar.cmpi .ne v301_r0 c0_i32_201_r0
  v302_r0

def k1_off16 (i : grid1.Coords) (arg13_r0 : BitVec 32) (arg14_r0 : BitVec 32) : Fin 3 → Nat :=
  let c1_i32_239_r0 : BitVec 32 := 1#32
  let c0_i32_113_r0 : BitVec 32 := 0#32
  let v136_r0 : BitVec 32 := Scalar.addi arg13_r0 c0_i32_113_r0
  let c128_i32_224_r0 : BitVec 32 := 128#32
  let v349_r0 : BitVec 32 := Scalar.muli v136_r0 c128_i32_224_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v137_r0 : BitVec 32 := Scalar.addi arg14_r0 v4
  let v350_r0 : BitVec 32 := Scalar.addi v349_r0 v137_r0
  let c0_i32_226_r0 : BitVec 32 := 0#32
  let v352_r0 : BitVec 1 := Scalar.cmpi .sgt v350_r0 c0_i32_226_r0
  let v353_r0 : BitVec 32 := Scalar.extui v352_r0
  let c0_i32_227_r0 : BitVec 32 := 0#32
  let v354_r0 : BitVec 1 := Scalar.cmpi .slt v350_r0 c0_i32_227_r0
  let v355_r0 : BitVec 32 := Scalar.extui v354_r0
  let v356_r0 : BitVec 32 := Scalar.subi v353_r0 v355_r0
  let c64_i32_225_r0 : BitVec 32 := 64#32
  let c0_i32_228_r0 : BitVec 32 := 0#32
  let v357_r0 : BitVec 1 := Scalar.cmpi .sgt c64_i32_225_r0 c0_i32_228_r0
  let v358_r0 : BitVec 32 := Scalar.extui v357_r0
  let c0_i32_229_r0 : BitVec 32 := 0#32
  let v359_r0 : BitVec 1 := Scalar.cmpi .slt c64_i32_225_r0 c0_i32_229_r0
  let v360_r0 : BitVec 32 := Scalar.extui v359_r0
  let v361_r0 : BitVec 32 := Scalar.subi v358_r0 v360_r0
  let v362_r0 : BitVec 1 := Scalar.cmpi .ne v356_r0 v361_r0
  let v363_r0 : BitVec 32 := Scalar.remsi v350_r0 c64_i32_225_r0
  let c0_i32_230_r0 : BitVec 32 := 0#32
  let v364_r0 : BitVec 1 := Scalar.cmpi .ne v363_r0 c0_i32_230_r0
  let v365_r0 : BitVec 1 := Scalar.andi v362_r0 v364_r0
  let v351_r0 : BitVec 32 := Scalar.divsi v350_r0 c64_i32_225_r0
  let c1_i32_231_r0 : BitVec 32 := 1#32
  let v366_r0 : BitVec 32 := Scalar.subi v351_r0 c1_i32_231_r0
  let v367_r0 : BitVec 32 := Scalar.select v365_r0 v366_r0 v351_r0
  let v380_r0 : BitVec 32 := Scalar.muli c1_i32_239_r0 v367_r0
  let c1_i32_240_r0 : BitVec 32 := 1#32
  let c128_i32_232_r0 : BitVec 32 := 128#32
  let v368_r0 : BitVec 32 := Scalar.muli v136_r0 c128_i32_232_r0
  let v369_r0 : BitVec 32 := Scalar.addi v368_r0 v137_r0
  let c64_i32_233_r0 : BitVec 32 := 64#32
  let c0_i32_234_r0 : BitVec 32 := 0#32
  let v370_r0 : BitVec 1 := Scalar.cmpi .eq c64_i32_233_r0 c0_i32_234_r0
  let c1_i32_235_r0 : BitVec 32 := 1#32
  let v371_r0 : BitVec 32 := Scalar.select v370_r0 c1_i32_235_r0 c64_i32_233_r0
  let v372_r0 : BitVec 32 := Scalar.remsi v369_r0 v371_r0
  let c0_i32_237_r0 : BitVec 32 := 0#32
  let v374_r0 : BitVec 1 := Scalar.cmpi .slt v372_r0 c0_i32_237_r0
  let c0_i32_238_r0 : BitVec 32 := 0#32
  let v375_r0 : BitVec 1 := Scalar.cmpi .slt v371_r0 c0_i32_238_r0
  let v376_r0 : BitVec 1 := Scalar.xori v374_r0 v375_r0
  let c0_i32_236_r0 : BitVec 32 := 0#32
  let v373_r0 : BitVec 1 := Scalar.cmpi .ne v372_r0 c0_i32_236_r0
  let v377_r0 : BitVec 1 := Scalar.andi v376_r0 v373_r0
  let v378_r0 : BitVec 32 := Scalar.addi v372_r0 v371_r0
  let v379_r0 : BitVec 32 := Scalar.select v377_r0 v378_r0 v372_r0
  let v381_r0 : BitVec 32 := Scalar.muli c1_i32_240_r0 v379_r0
  let c0_i32_245_r0 : BitVec 32 := 0#32
  ![v380_r0.toNat, v381_r0.toNat, 0]
def k1_off17 (arg12_r0 : BitVec 32) : Fin 1 → Nat :=
  let c2_i32_241_r0 : BitVec 32 := 2#32
  let v382_r0 : BitVec 32 := Scalar.remui arg12_r0 c2_i32_241_r0
  ![v382_r0.toNat]

def k1_chk1 (i : grid1.Coords) (k1_t1 : Fin k1_t1_loop.trips) (arg9_r0 : BitVec 32) (arg10_r0 : BitVec 32) (arg11_r0 : BitVec 32) (arg12_r0 : BitVec 32) (arg13_r0 : BitVec 32) (arg14_r0 : BitVec 32) : Prop :=
  (∀ (k1_h1 : k1_cond1 i k1_t1 arg13_r0 arg14_r0 = 1#1), ∀ a, (k1_off6 arg9_r0) a + S1x128x2x128.size a ≤ S2x128x2x128.size a) ∧
  (∀ (k1_h1 : k1_cond1 i k1_t1 arg13_r0 arg14_r0 = 1#1), ∀ a, (k1_off7 i arg13_r0 arg14_r0) a + S128x2x128.size a ≤ S32768x2x128.size a) ∧
  (∀ (k1_h1 : k1_cond1 i k1_t1 arg13_r0 arg14_r0 = 1#1), ∀ a, (k1_off8 arg9_r0) a + S1.size a ≤ S2.size a) ∧
  (∀ (k1_h2 : k1_cond2 i k1_t1 arg13_r0 arg14_r0 = 1#1), ∀ a, (k1_off9 arg11_r0) a + S1x1x1x128.size a ≤ S2x1x1x128.size a) ∧
  (∀ (k1_h2 : k1_cond2 i k1_t1 arg13_r0 arg14_r0 = 1#1), ∀ a, (k1_off10 i arg13_r0 arg14_r0) a + S1x1x128.size a ≤ S4x64x128.size a) ∧
  (∀ (k1_h2 : k1_cond2 i k1_t1 arg13_r0 arg14_r0 = 1#1), ∀ a, (k1_off11 arg11_r0) a + S1.size a ≤ S2.size a) ∧
  (∀ (k1_h3 : k1_cond3 i k1_t1 arg13_r0 arg14_r0 = 1#1), ∀ a, (k1_off12 arg10_r0) a + S1x128x2x128.size a ≤ S2x128x2x128.size a) ∧
  (∀ (k1_h3 : k1_cond3 i k1_t1 arg13_r0 arg14_r0 = 1#1), ∀ a, (k1_off13 i arg13_r0 arg14_r0) a + S128x2x128.size a ≤ S32768x2x128.size a) ∧
  (∀ (k1_h3 : k1_cond3 i k1_t1 arg13_r0 arg14_r0 = 1#1), ∀ a, (k1_off14 arg10_r0) a + S1.size a ≤ S2.size a) ∧
  (∀ (k1_h4 : k1_cond4 i k1_t1 arg13_r0 arg14_r0 = 1#1), ∀ a, (k1_off15 arg12_r0) a + S1x1x1x128.size a ≤ S2x1x1x128.size a) ∧
  (∀ (k1_h4 : k1_cond4 i k1_t1 arg13_r0 arg14_r0 = 1#1), ∀ a, (k1_off16 i arg13_r0 arg14_r0) a + S1x1x128.size a ≤ S4x64x128.size a) ∧
  (∀ (k1_h4 : k1_cond4 i k1_t1 arg13_r0 arg14_r0 = 1#1), ∀ a, (k1_off17 arg12_r0) a + S1.size a ≤ S2.size a)
theorem k1_off6_inb : ∀ (i : grid1.Coords) (k1_t1 : Fin k1_t1_loop.trips) (arg9_r0 : BitVec 32) (arg10_r0 : BitVec 32) (arg11_r0 : BitVec 32) (arg12_r0 : BitVec 32) (arg13_r0 : BitVec 32) (arg14_r0 : BitVec 32) (k1_hw1 : k1_chk1 i k1_t1 arg9_r0 arg10_r0 arg11_r0 arg12_r0 arg13_r0 arg14_r0), ∀ (k1_h1 : k1_cond1 i k1_t1 arg13_r0 arg14_r0 = 1#1), ∀ a, (k1_off6 arg9_r0) a + S1x128x2x128.size a ≤ S2x128x2x128.size a := fun i k1_t1 arg9_r0 arg10_r0 arg11_r0 arg12_r0 arg13_r0 arg14_r0 k1_hw1 k1_h1 => k1_hw1.1 k1_h1
theorem k1_off7_inb : ∀ (i : grid1.Coords) (k1_t1 : Fin k1_t1_loop.trips) (arg9_r0 : BitVec 32) (arg10_r0 : BitVec 32) (arg11_r0 : BitVec 32) (arg12_r0 : BitVec 32) (arg13_r0 : BitVec 32) (arg14_r0 : BitVec 32) (k1_hw1 : k1_chk1 i k1_t1 arg9_r0 arg10_r0 arg11_r0 arg12_r0 arg13_r0 arg14_r0), ∀ (k1_h1 : k1_cond1 i k1_t1 arg13_r0 arg14_r0 = 1#1), ∀ a, (k1_off7 i arg13_r0 arg14_r0) a + S128x2x128.size a ≤ S32768x2x128.size a := fun i k1_t1 arg9_r0 arg10_r0 arg11_r0 arg12_r0 arg13_r0 arg14_r0 k1_hw1 k1_h1 => k1_hw1.2.1 k1_h1
theorem k1_off8_inb : ∀ (i : grid1.Coords) (k1_t1 : Fin k1_t1_loop.trips) (arg9_r0 : BitVec 32) (arg10_r0 : BitVec 32) (arg11_r0 : BitVec 32) (arg12_r0 : BitVec 32) (arg13_r0 : BitVec 32) (arg14_r0 : BitVec 32) (k1_hw1 : k1_chk1 i k1_t1 arg9_r0 arg10_r0 arg11_r0 arg12_r0 arg13_r0 arg14_r0), ∀ (k1_h1 : k1_cond1 i k1_t1 arg13_r0 arg14_r0 = 1#1), ∀ a, (k1_off8 arg9_r0) a + S1.size a ≤ S2.size a := fun i k1_t1 arg9_r0 arg10_r0 arg11_r0 arg12_r0 arg13_r0 arg14_r0 k1_hw1 k1_h1 => k1_hw1.2.2.1 k1_h1
theorem k1_off9_inb : ∀ (i : grid1.Coords) (k1_t1 : Fin k1_t1_loop.trips) (arg9_r0 : BitVec 32) (arg10_r0 : BitVec 32) (arg11_r0 : BitVec 32) (arg12_r0 : BitVec 32) (arg13_r0 : BitVec 32) (arg14_r0 : BitVec 32) (k1_hw1 : k1_chk1 i k1_t1 arg9_r0 arg10_r0 arg11_r0 arg12_r0 arg13_r0 arg14_r0), ∀ (k1_h2 : k1_cond2 i k1_t1 arg13_r0 arg14_r0 = 1#1), ∀ a, (k1_off9 arg11_r0) a + S1x1x1x128.size a ≤ S2x1x1x128.size a := fun i k1_t1 arg9_r0 arg10_r0 arg11_r0 arg12_r0 arg13_r0 arg14_r0 k1_hw1 k1_h2 => k1_hw1.2.2.2.1 k1_h2
theorem k1_off10_inb : ∀ (i : grid1.Coords) (k1_t1 : Fin k1_t1_loop.trips) (arg9_r0 : BitVec 32) (arg10_r0 : BitVec 32) (arg11_r0 : BitVec 32) (arg12_r0 : BitVec 32) (arg13_r0 : BitVec 32) (arg14_r0 : BitVec 32) (k1_hw1 : k1_chk1 i k1_t1 arg9_r0 arg10_r0 arg11_r0 arg12_r0 arg13_r0 arg14_r0), ∀ (k1_h2 : k1_cond2 i k1_t1 arg13_r0 arg14_r0 = 1#1), ∀ a, (k1_off10 i arg13_r0 arg14_r0) a + S1x1x128.size a ≤ S4x64x128.size a := fun i k1_t1 arg9_r0 arg10_r0 arg11_r0 arg12_r0 arg13_r0 arg14_r0 k1_hw1 k1_h2 => k1_hw1.2.2.2.2.1 k1_h2
theorem k1_off11_inb : ∀ (i : grid1.Coords) (k1_t1 : Fin k1_t1_loop.trips) (arg9_r0 : BitVec 32) (arg10_r0 : BitVec 32) (arg11_r0 : BitVec 32) (arg12_r0 : BitVec 32) (arg13_r0 : BitVec 32) (arg14_r0 : BitVec 32) (k1_hw1 : k1_chk1 i k1_t1 arg9_r0 arg10_r0 arg11_r0 arg12_r0 arg13_r0 arg14_r0), ∀ (k1_h2 : k1_cond2 i k1_t1 arg13_r0 arg14_r0 = 1#1), ∀ a, (k1_off11 arg11_r0) a + S1.size a ≤ S2.size a := fun i k1_t1 arg9_r0 arg10_r0 arg11_r0 arg12_r0 arg13_r0 arg14_r0 k1_hw1 k1_h2 => k1_hw1.2.2.2.2.2.1 k1_h2
theorem k1_off12_inb : ∀ (i : grid1.Coords) (k1_t1 : Fin k1_t1_loop.trips) (arg9_r0 : BitVec 32) (arg10_r0 : BitVec 32) (arg11_r0 : BitVec 32) (arg12_r0 : BitVec 32) (arg13_r0 : BitVec 32) (arg14_r0 : BitVec 32) (k1_hw1 : k1_chk1 i k1_t1 arg9_r0 arg10_r0 arg11_r0 arg12_r0 arg13_r0 arg14_r0), ∀ (k1_h3 : k1_cond3 i k1_t1 arg13_r0 arg14_r0 = 1#1), ∀ a, (k1_off12 arg10_r0) a + S1x128x2x128.size a ≤ S2x128x2x128.size a := fun i k1_t1 arg9_r0 arg10_r0 arg11_r0 arg12_r0 arg13_r0 arg14_r0 k1_hw1 k1_h3 => k1_hw1.2.2.2.2.2.2.1 k1_h3
theorem k1_off13_inb : ∀ (i : grid1.Coords) (k1_t1 : Fin k1_t1_loop.trips) (arg9_r0 : BitVec 32) (arg10_r0 : BitVec 32) (arg11_r0 : BitVec 32) (arg12_r0 : BitVec 32) (arg13_r0 : BitVec 32) (arg14_r0 : BitVec 32) (k1_hw1 : k1_chk1 i k1_t1 arg9_r0 arg10_r0 arg11_r0 arg12_r0 arg13_r0 arg14_r0), ∀ (k1_h3 : k1_cond3 i k1_t1 arg13_r0 arg14_r0 = 1#1), ∀ a, (k1_off13 i arg13_r0 arg14_r0) a + S128x2x128.size a ≤ S32768x2x128.size a := fun i k1_t1 arg9_r0 arg10_r0 arg11_r0 arg12_r0 arg13_r0 arg14_r0 k1_hw1 k1_h3 => k1_hw1.2.2.2.2.2.2.2.1 k1_h3
theorem k1_off14_inb : ∀ (i : grid1.Coords) (k1_t1 : Fin k1_t1_loop.trips) (arg9_r0 : BitVec 32) (arg10_r0 : BitVec 32) (arg11_r0 : BitVec 32) (arg12_r0 : BitVec 32) (arg13_r0 : BitVec 32) (arg14_r0 : BitVec 32) (k1_hw1 : k1_chk1 i k1_t1 arg9_r0 arg10_r0 arg11_r0 arg12_r0 arg13_r0 arg14_r0), ∀ (k1_h3 : k1_cond3 i k1_t1 arg13_r0 arg14_r0 = 1#1), ∀ a, (k1_off14 arg10_r0) a + S1.size a ≤ S2.size a := fun i k1_t1 arg9_r0 arg10_r0 arg11_r0 arg12_r0 arg13_r0 arg14_r0 k1_hw1 k1_h3 => k1_hw1.2.2.2.2.2.2.2.2.1 k1_h3
theorem k1_off15_inb : ∀ (i : grid1.Coords) (k1_t1 : Fin k1_t1_loop.trips) (arg9_r0 : BitVec 32) (arg10_r0 : BitVec 32) (arg11_r0 : BitVec 32) (arg12_r0 : BitVec 32) (arg13_r0 : BitVec 32) (arg14_r0 : BitVec 32) (k1_hw1 : k1_chk1 i k1_t1 arg9_r0 arg10_r0 arg11_r0 arg12_r0 arg13_r0 arg14_r0), ∀ (k1_h4 : k1_cond4 i k1_t1 arg13_r0 arg14_r0 = 1#1), ∀ a, (k1_off15 arg12_r0) a + S1x1x1x128.size a ≤ S2x1x1x128.size a := fun i k1_t1 arg9_r0 arg10_r0 arg11_r0 arg12_r0 arg13_r0 arg14_r0 k1_hw1 k1_h4 => k1_hw1.2.2.2.2.2.2.2.2.2.1 k1_h4
theorem k1_off16_inb : ∀ (i : grid1.Coords) (k1_t1 : Fin k1_t1_loop.trips) (arg9_r0 : BitVec 32) (arg10_r0 : BitVec 32) (arg11_r0 : BitVec 32) (arg12_r0 : BitVec 32) (arg13_r0 : BitVec 32) (arg14_r0 : BitVec 32) (k1_hw1 : k1_chk1 i k1_t1 arg9_r0 arg10_r0 arg11_r0 arg12_r0 arg13_r0 arg14_r0), ∀ (k1_h4 : k1_cond4 i k1_t1 arg13_r0 arg14_r0 = 1#1), ∀ a, (k1_off16 i arg13_r0 arg14_r0) a + S1x1x128.size a ≤ S4x64x128.size a := fun i k1_t1 arg9_r0 arg10_r0 arg11_r0 arg12_r0 arg13_r0 arg14_r0 k1_hw1 k1_h4 => k1_hw1.2.2.2.2.2.2.2.2.2.2.1 k1_h4
theorem k1_off17_inb : ∀ (i : grid1.Coords) (k1_t1 : Fin k1_t1_loop.trips) (arg9_r0 : BitVec 32) (arg10_r0 : BitVec 32) (arg11_r0 : BitVec 32) (arg12_r0 : BitVec 32) (arg13_r0 : BitVec 32) (arg14_r0 : BitVec 32) (k1_hw1 : k1_chk1 i k1_t1 arg9_r0 arg10_r0 arg11_r0 arg12_r0 arg13_r0 arg14_r0), ∀ (k1_h4 : k1_cond4 i k1_t1 arg13_r0 arg14_r0 = 1#1), ∀ a, (k1_off17 arg12_r0) a + S1.size a ≤ S2.size a := fun i k1_t1 arg9_r0 arg10_r0 arg11_r0 arg12_r0 arg13_r0 arg14_r0 k1_hw1 k1_h4 => k1_hw1.2.2.2.2.2.2.2.2.2.2.2 k1_h4

def k1_off18 (arg10_r0 : BitVec 32) : Fin 4 → Nat :=
  let c2_i32_202_r0 : BitVec 32 := 2#32
  let v303_r0 : BitVec 32 := Scalar.remui arg10_r0 c2_i32_202_r0
  let c0_i32_224_r1 : BitVec 32 := 0#32
  let c0_i32_225_r1 : BitVec 32 := 0#32
  let c0_i32_226_r1 : BitVec 32 := 0#32
  ![v303_r0.toNat, 0, 0, 0]

def k1_chk2 (arg10_r0 : BitVec 32) : Prop :=
  (∀ a, (k1_off18 arg10_r0) a + S1x128x2x128.size a ≤ S2x128x2x128.size a)
theorem k1_off18_inb : ∀ (arg10_r0 : BitVec 32) (k1_hw2 : k1_chk2 arg10_r0), ∀ a, (k1_off18 arg10_r0) a + S1x128x2x128.size a ≤ S2x128x2x128.size a := fun arg10_r0 k1_hw2 => k1_hw2

def k1_off19 (arg12_r0 : BitVec 32) : Fin 4 → Nat :=
  let c2_i32_203_r0 : BitVec 32 := 2#32
  let v304_r0 : BitVec 32 := Scalar.remui arg12_r0 c2_i32_203_r0
  let c0_i32_227_r1 : BitVec 32 := 0#32
  let c0_i32_228_r1 : BitVec 32 := 0#32
  let c0_i32_229_r1 : BitVec 32 := 0#32
  ![v304_r0.toNat, 0, 0, 0]

def k1_chk3 (arg12_r0 : BitVec 32) : Prop :=
  (∀ a, (k1_off19 arg12_r0) a + S1x1x1x128.size a ≤ S2x1x1x128.size a)
theorem k1_off19_inb : ∀ (arg12_r0 : BitVec 32) (k1_hw3 : k1_chk3 arg12_r0), ∀ a, (k1_off19 arg12_r0) a + S1x1x1x128.size a ≤ S2x1x1x128.size a := fun arg12_r0 k1_hw3 => k1_hw3

def k1_off20 : Fin 3 → Nat :=
  let c0_i32_35_r2 : BitVec 32 := 0#32
  let c2_i32_36_r2 : BitVec 32 := 2#32
  let v38_r2 : BitVec 32 := Scalar.remui c0_i32_35_r2 c2_i32_36_r2
  let c0_i32_38_r2 : BitVec 32 := 0#32
  let c0_i32_39_r2 : BitVec 32 := 0#32
  ![v38_r2.toNat, 0, 0]
def k1_off21 (i : grid1.Coords) : Fin 2 → Nat :=
  let c128_i32_r2 : BitVec 32 := 128#32
  let c0_i32_37_r2 : BitVec 32 := 0#32
  let c0_i32_5_r2 : BitVec 32 := 0#32
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c1_i32_3 : BitVec 32 := 1#32
  let v9 : BitVec 32 := Scalar.muli v8 c1_i32_3
  let v12_r2 : BitVec 32 := Scalar.addi c0_i32_5_r2 v9
  let v39_r2 : BitVec 32 := Scalar.addi c0_i32_37_r2 v12_r2
  let v40_r2 : BitVec 32 := Scalar.muli c128_i32_r2 v39_r2
  let c0_i32_40_r2 : BitVec 32 := 0#32
  ![v40_r2.toNat, 0]
def k1_off22 : Fin 3 → Nat :=
  let c0_i32_46_r2 : BitVec 32 := 0#32
  let c2_i32_47_r2 : BitVec 32 := 2#32
  let v50_r2 : BitVec 32 := Scalar.remui c0_i32_46_r2 c2_i32_47_r2
  let c0_i32_50_r2 : BitVec 32 := 0#32
  let c0_i32_51_r2 : BitVec 32 := 0#32
  ![v50_r2.toNat, 0, 0]
def k1_off23 (i : grid1.Coords) : Fin 2 → Nat :=
  let c1_i32_49_r2 : BitVec 32 := 1#32
  let c0_i32_48_r2 : BitVec 32 := 0#32
  let c0_i32_5_r2 : BitVec 32 := 0#32
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c1_i32_3 : BitVec 32 := 1#32
  let v9 : BitVec 32 := Scalar.muli v8 c1_i32_3
  let v12_r2 : BitVec 32 := Scalar.addi c0_i32_5_r2 v9
  let v51_r2 : BitVec 32 := Scalar.addi c0_i32_48_r2 v12_r2
  let v52_r2 : BitVec 32 := Scalar.muli c1_i32_49_r2 v51_r2
  let c0_i32_52_r2 : BitVec 32 := 0#32
  ![v52_r2.toNat, 0]
@[reducible] def k1_t2_loop : Scf.Loop 32 :=
  let c0_i32_62_r2 : BitVec 32 := 0#32
  let c2_i32_63_r2 : BitVec 32 := 2#32
  let v62_r2 : BitVec 32 := Scalar.addi c0_i32_62_r2 c2_i32_63_r2
  let c1_i32_64_r2 : BitVec 32 := 1#32
  ⟨c0_i32_62_r2, v62_r2, c1_i32_64_r2⟩
def k1_off24 (arg9_r2 : BitVec 32) : Fin 3 → Nat :=
  let c2_i32_183_r2 : BitVec 32 := 2#32
  let v215_r2 : BitVec 32 := Scalar.remui arg9_r2 c2_i32_183_r2
  let c0_i32_186_r2 : BitVec 32 := 0#32
  let c0_i32_187_r2 : BitVec 32 := 0#32
  ![v215_r2.toNat, 0, 0]
def k1_cond9 (i : grid1.Coords) (k1_t2 : Fin k1_t2_loop.trips) (arg13_r2 : BitVec 32) : BitVec 1 :=
  let c0_i32_107_r2 : BitVec 32 := 0#32
  let v103_r2 : BitVec 32 := Scalar.addi arg13_r2 c0_i32_107_r2
  let c32_i32_r2 : BitVec 32 := 32#32
  let v132_r2 : BitVec 32 := Scalar.muli v103_r2 c32_i32_r2
  let c0_i32_108_r2 : BitVec 32 := 0#32
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c1_i32_3 : BitVec 32 := 1#32
  let v9 : BitVec 32 := Scalar.muli v8 c1_i32_3
  let v104_r2 : BitVec 32 := Scalar.addi c0_i32_108_r2 v9
  let v133_r2 : BitVec 32 := Scalar.addi v132_r2 v104_r2
  let true_119_r2 : BitVec 1 := 1#1
  let c1_i32_121_r2 : BitVec 32 := 1#32
  let c0_i32_120_r2 : BitVec 32 := 0#32
  let v114_r2 : BitVec 32 := Scalar.select true_119_r2 c1_i32_121_r2 c0_i32_120_r2
  let c1_i32_122_r2 : BitVec 32 := 1#32
  let v115_r2 : BitVec 1 := Scalar.cmpi .eq v114_r2 c1_i32_122_r2
  let c1_i32_124_r2 : BitVec 32 := 1#32
  let v117_r2 : BitVec 32 := Scalar.addi arg13_r2 c1_i32_124_r2
  let v118_r2 : BitVec 32 := Scalar.select v115_r2 v117_r2 arg13_r2
  let c2_i32_125_r2 : BitVec 32 := 2#32
  let v119_r2 : BitVec 1 := Scalar.cmpi .eq v118_r2 c2_i32_125_r2
  let c0_i32_126_r2 : BitVec 32 := 0#32
  let v120_r2 : BitVec 32 := Scalar.select v119_r2 c0_i32_126_r2 v118_r2
  let c0_i32_127_r2 : BitVec 32 := 0#32
  let v121_r2 : BitVec 32 := Scalar.addi v120_r2 c0_i32_127_r2
  let c32_i32_139_r2 : BitVec 32 := 32#32
  let v134_r2 : BitVec 32 := Scalar.muli v121_r2 c32_i32_139_r2
  let c0_i32_128_r2 : BitVec 32 := 0#32
  let v122_r2 : BitVec 32 := Scalar.addi c0_i32_128_r2 v9
  let v135_r2 : BitVec 32 := Scalar.addi v134_r2 v122_r2
  let v136_r2 : BitVec 1 := Scalar.cmpi .ne v133_r2 v135_r2
  let c0_i32_62_r2 : BitVec 32 := 0#32
  let c1_i32_64_r2 : BitVec 32 := 1#32
  let arg8_r2 : BitVec 32 := Scf.iv c0_i32_62_r2 c1_i32_64_r2 k1_t2
  let c1_i32_140_r2 : BitVec 32 := 1#32
  let v137_r2 : BitVec 1 := Scalar.cmpi .sge arg8_r2 c1_i32_140_r2
  let true_141_r2 : BitVec 1 := 1#1
  let v138_r2 : BitVec 1 := Scalar.xori v137_r2 true_141_r2
  let v139_r2 : BitVec 1 := Scalar.andi v136_r2 v138_r2
  let true_142_r2 : BitVec 1 := 1#1
  let v140_r2 : BitVec 1 := Scalar.andi v139_r2 true_142_r2
  let v141_r2 : BitVec 32 := Scalar.extui v140_r2
  let c0_i32_143_r2 : BitVec 32 := 0#32
  let v142_r2 : BitVec 1 := Scalar.cmpi .ne v141_r2 c0_i32_143_r2
  v142_r2

def k1_off25 (i : grid1.Coords) (arg13_r2 : BitVec 32) : Fin 2 → Nat :=
  let c128_i32_185_r2 : BitVec 32 := 128#32
  let true_119_r2 : BitVec 1 := 1#1
  let c1_i32_121_r2 : BitVec 32 := 1#32
  let c0_i32_120_r2 : BitVec 32 := 0#32
  let v114_r2 : BitVec 32 := Scalar.select true_119_r2 c1_i32_121_r2 c0_i32_120_r2
  let c1_i32_122_r2 : BitVec 32 := 1#32
  let v115_r2 : BitVec 1 := Scalar.cmpi .eq v114_r2 c1_i32_122_r2
  let c1_i32_124_r2 : BitVec 32 := 1#32
  let v117_r2 : BitVec 32 := Scalar.addi arg13_r2 c1_i32_124_r2
  let v118_r2 : BitVec 32 := Scalar.select v115_r2 v117_r2 arg13_r2
  let c2_i32_125_r2 : BitVec 32 := 2#32
  let v119_r2 : BitVec 1 := Scalar.cmpi .eq v118_r2 c2_i32_125_r2
  let c0_i32_126_r2 : BitVec 32 := 0#32
  let v120_r2 : BitVec 32 := Scalar.select v119_r2 c0_i32_126_r2 v118_r2
  let c0_i32_127_r2 : BitVec 32 := 0#32
  let v121_r2 : BitVec 32 := Scalar.addi v120_r2 c0_i32_127_r2
  let c32_i32_184_r2 : BitVec 32 := 32#32
  let v216_r2 : BitVec 32 := Scalar.muli v121_r2 c32_i32_184_r2
  let c0_i32_128_r2 : BitVec 32 := 0#32
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c1_i32_3 : BitVec 32 := 1#32
  let v9 : BitVec 32 := Scalar.muli v8 c1_i32_3
  let v122_r2 : BitVec 32 := Scalar.addi c0_i32_128_r2 v9
  let v217_r2 : BitVec 32 := Scalar.addi v216_r2 v122_r2
  let v218_r2 : BitVec 32 := Scalar.muli c128_i32_185_r2 v217_r2
  let c0_i32_188_r2 : BitVec 32 := 0#32
  ![v218_r2.toNat, 0]
def k1_off26 (arg9_r2 : BitVec 32) : Fin 1 → Nat :=
  let c2_i32_183_r2 : BitVec 32 := 2#32
  let v215_r2 : BitVec 32 := Scalar.remui arg9_r2 c2_i32_183_r2
  ![v215_r2.toNat]
def k1_off27 (arg11_r2 : BitVec 32) : Fin 3 → Nat :=
  let c2_i32_183_r2 : BitVec 32 := 2#32
  let v215_r2 : BitVec 32 := Scalar.remui arg11_r2 c2_i32_183_r2
  let c0_i32_186_r2 : BitVec 32 := 0#32
  let c0_i32_187_r2 : BitVec 32 := 0#32
  ![v215_r2.toNat, 0, 0]
def k1_cond10 (i : grid1.Coords) (k1_t2 : Fin k1_t2_loop.trips) (arg13_r2 : BitVec 32) : BitVec 1 :=
  let c0_i32_107_r2 : BitVec 32 := 0#32
  let v103_r2 : BitVec 32 := Scalar.addi arg13_r2 c0_i32_107_r2
  let c32_i32_146_r2 : BitVec 32 := 32#32
  let v146_r2 : BitVec 32 := Scalar.muli v103_r2 c32_i32_146_r2
  let c0_i32_108_r2 : BitVec 32 := 0#32
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c1_i32_3 : BitVec 32 := 1#32
  let v9 : BitVec 32 := Scalar.muli v8 c1_i32_3
  let v104_r2 : BitVec 32 := Scalar.addi c0_i32_108_r2 v9
  let v147_r2 : BitVec 32 := Scalar.addi v146_r2 v104_r2
  let true_119_r2 : BitVec 1 := 1#1
  let c1_i32_121_r2 : BitVec 32 := 1#32
  let c0_i32_120_r2 : BitVec 32 := 0#32
  let v114_r2 : BitVec 32 := Scalar.select true_119_r2 c1_i32_121_r2 c0_i32_120_r2
  let c1_i32_122_r2 : BitVec 32 := 1#32
  let v115_r2 : BitVec 1 := Scalar.cmpi .eq v114_r2 c1_i32_122_r2
  let c1_i32_124_r2 : BitVec 32 := 1#32
  let v117_r2 : BitVec 32 := Scalar.addi arg13_r2 c1_i32_124_r2
  let v118_r2 : BitVec 32 := Scalar.select v115_r2 v117_r2 arg13_r2
  let c2_i32_125_r2 : BitVec 32 := 2#32
  let v119_r2 : BitVec 1 := Scalar.cmpi .eq v118_r2 c2_i32_125_r2
  let c0_i32_126_r2 : BitVec 32 := 0#32
  let v120_r2 : BitVec 32 := Scalar.select v119_r2 c0_i32_126_r2 v118_r2
  let c0_i32_127_r2 : BitVec 32 := 0#32
  let v121_r2 : BitVec 32 := Scalar.addi v120_r2 c0_i32_127_r2
  let c32_i32_147_r2 : BitVec 32 := 32#32
  let v148_r2 : BitVec 32 := Scalar.muli v121_r2 c32_i32_147_r2
  let c0_i32_128_r2 : BitVec 32 := 0#32
  let v122_r2 : BitVec 32 := Scalar.addi c0_i32_128_r2 v9
  let v149_r2 : BitVec 32 := Scalar.addi v148_r2 v122_r2
  let v150_r2 : BitVec 1 := Scalar.cmpi .ne v147_r2 v149_r2
  let c0_i32_62_r2 : BitVec 32 := 0#32
  let c1_i32_64_r2 : BitVec 32 := 1#32
  let arg8_r2 : BitVec 32 := Scf.iv c0_i32_62_r2 c1_i32_64_r2 k1_t2
  let c1_i32_148_r2 : BitVec 32 := 1#32
  let v151_r2 : BitVec 1 := Scalar.cmpi .sge arg8_r2 c1_i32_148_r2
  let true_149_r2 : BitVec 1 := 1#1
  let v152_r2 : BitVec 1 := Scalar.xori v151_r2 true_149_r2
  let v153_r2 : BitVec 1 := Scalar.andi v150_r2 v152_r2
  let true_150_r2 : BitVec 1 := 1#1
  let v154_r2 : BitVec 1 := Scalar.andi v153_r2 true_150_r2
  let v155_r2 : BitVec 32 := Scalar.extui v154_r2
  let c0_i32_151_r2 : BitVec 32 := 0#32
  let v156_r2 : BitVec 1 := Scalar.cmpi .ne v155_r2 c0_i32_151_r2
  v156_r2

def k1_off28 (i : grid1.Coords) (arg13_r2 : BitVec 32) : Fin 2 → Nat :=
  let c1_i32_185_r2 : BitVec 32 := 1#32
  let true_119_r2 : BitVec 1 := 1#1
  let c1_i32_121_r2 : BitVec 32 := 1#32
  let c0_i32_120_r2 : BitVec 32 := 0#32
  let v114_r2 : BitVec 32 := Scalar.select true_119_r2 c1_i32_121_r2 c0_i32_120_r2
  let c1_i32_122_r2 : BitVec 32 := 1#32
  let v115_r2 : BitVec 1 := Scalar.cmpi .eq v114_r2 c1_i32_122_r2
  let c1_i32_124_r2 : BitVec 32 := 1#32
  let v117_r2 : BitVec 32 := Scalar.addi arg13_r2 c1_i32_124_r2
  let v118_r2 : BitVec 32 := Scalar.select v115_r2 v117_r2 arg13_r2
  let c2_i32_125_r2 : BitVec 32 := 2#32
  let v119_r2 : BitVec 1 := Scalar.cmpi .eq v118_r2 c2_i32_125_r2
  let c0_i32_126_r2 : BitVec 32 := 0#32
  let v120_r2 : BitVec 32 := Scalar.select v119_r2 c0_i32_126_r2 v118_r2
  let c0_i32_127_r2 : BitVec 32 := 0#32
  let v121_r2 : BitVec 32 := Scalar.addi v120_r2 c0_i32_127_r2
  let c32_i32_184_r2 : BitVec 32 := 32#32
  let v216_r2 : BitVec 32 := Scalar.muli v121_r2 c32_i32_184_r2
  let c0_i32_128_r2 : BitVec 32 := 0#32
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c1_i32_3 : BitVec 32 := 1#32
  let v9 : BitVec 32 := Scalar.muli v8 c1_i32_3
  let v122_r2 : BitVec 32 := Scalar.addi c0_i32_128_r2 v9
  let v217_r2 : BitVec 32 := Scalar.addi v216_r2 v122_r2
  let v218_r2 : BitVec 32 := Scalar.muli c1_i32_185_r2 v217_r2
  let c0_i32_188_r2 : BitVec 32 := 0#32
  ![v218_r2.toNat, 0]
def k1_off29 (arg11_r2 : BitVec 32) : Fin 1 → Nat :=
  let c2_i32_183_r2 : BitVec 32 := 2#32
  let v215_r2 : BitVec 32 := Scalar.remui arg11_r2 c2_i32_183_r2
  ![v215_r2.toNat]
def k1_off30 (arg10_r2 : BitVec 32) : Fin 3 → Nat :=
  let c2_i32_185_r2 : BitVec 32 := 2#32
  let v218_r2 : BitVec 32 := Scalar.remui arg10_r2 c2_i32_185_r2
  let c0_i32_186_r2 : BitVec 32 := 0#32
  let c0_i32_187_r2 : BitVec 32 := 0#32
  ![v218_r2.toNat, 0, 0]
def k1_cond11 (i : grid1.Coords) (k1_t2 : Fin k1_t2_loop.trips) (arg13_r2 : BitVec 32) : BitVec 1 :=
  let c0_i32_107_r2 : BitVec 32 := 0#32
  let v103_r2 : BitVec 32 := Scalar.addi arg13_r2 c0_i32_107_r2
  let c32_i32_r2 : BitVec 32 := 32#32
  let v132_r2 : BitVec 32 := Scalar.muli v103_r2 c32_i32_r2
  let c0_i32_108_r2 : BitVec 32 := 0#32
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c1_i32_3 : BitVec 32 := 1#32
  let v9 : BitVec 32 := Scalar.muli v8 c1_i32_3
  let v104_r2 : BitVec 32 := Scalar.addi c0_i32_108_r2 v9
  let v133_r2 : BitVec 32 := Scalar.addi v132_r2 v104_r2
  let true_109_r2 : BitVec 1 := 1#1
  let c_m1_i32_111_r2 : BitVec 32 := 4294967295#32
  let c0_i32_110_r2 : BitVec 32 := 0#32
  let v105_r2 : BitVec 32 := Scalar.select true_109_r2 c_m1_i32_111_r2 c0_i32_110_r2
  let c_m1_i32_112_r2 : BitVec 32 := 4294967295#32
  let v106_r2 : BitVec 1 := Scalar.cmpi .eq v105_r2 c_m1_i32_112_r2
  let c1_i32_114_r2 : BitVec 32 := 1#32
  let v108_r2 : BitVec 32 := Scalar.subi arg13_r2 c1_i32_114_r2
  let v109_r2 : BitVec 32 := Scalar.select v106_r2 v108_r2 arg13_r2
  let c_m1_i32_115_r2 : BitVec 32 := 4294967295#32
  let v110_r2 : BitVec 1 := Scalar.cmpi .eq v109_r2 c_m1_i32_115_r2
  let c1_i32_116_r2 : BitVec 32 := 1#32
  let v111_r2 : BitVec 32 := Scalar.select v110_r2 c1_i32_116_r2 v109_r2
  let c0_i32_117_r2 : BitVec 32 := 0#32
  let v112_r2 : BitVec 32 := Scalar.addi v111_r2 c0_i32_117_r2
  let c32_i32_154_r2 : BitVec 32 := 32#32
  let v160_r2 : BitVec 32 := Scalar.muli v112_r2 c32_i32_154_r2
  let c0_i32_118_r2 : BitVec 32 := 0#32
  let v113_r2 : BitVec 32 := Scalar.addi c0_i32_118_r2 v9
  let v161_r2 : BitVec 32 := Scalar.addi v160_r2 v113_r2
  let v162_r2 : BitVec 1 := Scalar.cmpi .ne v133_r2 v161_r2
  let c0_i32_62_r2 : BitVec 32 := 0#32
  let c1_i32_64_r2 : BitVec 32 := 1#32
  let arg8_r2 : BitVec 32 := Scf.iv c0_i32_62_r2 c1_i32_64_r2 k1_t2
  let c0_i32_105_r2 : BitVec 32 := 0#32
  let v101_r2 : BitVec 1 := Scalar.cmpi .eq arg8_r2 c0_i32_105_r2
  let v163_r2 : BitVec 1 := Scalar.ori v162_r2 v101_r2
  let c0_i32_155_r2 : BitVec 32 := 0#32
  let v164_r2 : BitVec 1 := Scalar.cmpi .sge arg8_r2 c0_i32_155_r2
  let v165_r2 : BitVec 1 := Scalar.andi v163_r2 v164_r2
  let v166_r2 : BitVec 32 := Scalar.extui v165_r2
  let c0_i32_156_r2 : BitVec 32 := 0#32
  let v167_r2 : BitVec 1 := Scalar.cmpi .ne v166_r2 c0_i32_156_r2
  v167_r2

def k1_off31 (i : grid1.Coords) (arg13_r2 : BitVec 32) : Fin 2 → Nat :=
  let c128_i32_184_r2 : BitVec 32 := 128#32
  let c0_i32_107_r2 : BitVec 32 := 0#32
  let v103_r2 : BitVec 32 := Scalar.addi arg13_r2 c0_i32_107_r2
  let c32_i32_183_r2 : BitVec 32 := 32#32
  let v215_r2 : BitVec 32 := Scalar.muli v103_r2 c32_i32_183_r2
  let c0_i32_108_r2 : BitVec 32 := 0#32
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c1_i32_3 : BitVec 32 := 1#32
  let v9 : BitVec 32 := Scalar.muli v8 c1_i32_3
  let v104_r2 : BitVec 32 := Scalar.addi c0_i32_108_r2 v9
  let v216_r2 : BitVec 32 := Scalar.addi v215_r2 v104_r2
  let v217_r2 : BitVec 32 := Scalar.muli c128_i32_184_r2 v216_r2
  let c0_i32_188_r2 : BitVec 32 := 0#32
  ![v217_r2.toNat, 0]
def k1_off32 (arg10_r2 : BitVec 32) : Fin 1 → Nat :=
  let c2_i32_185_r2 : BitVec 32 := 2#32
  let v218_r2 : BitVec 32 := Scalar.remui arg10_r2 c2_i32_185_r2
  ![v218_r2.toNat]
def k1_off33 (arg12_r2 : BitVec 32) : Fin 3 → Nat :=
  let c2_i32_185_r2 : BitVec 32 := 2#32
  let v218_r2 : BitVec 32 := Scalar.remui arg12_r2 c2_i32_185_r2
  let c0_i32_186_r2 : BitVec 32 := 0#32
  let c0_i32_187_r2 : BitVec 32 := 0#32
  ![v218_r2.toNat, 0, 0]
def k1_cond12 (i : grid1.Coords) (k1_t2 : Fin k1_t2_loop.trips) (arg13_r2 : BitVec 32) : BitVec 1 :=
  let c0_i32_107_r2 : BitVec 32 := 0#32
  let v103_r2 : BitVec 32 := Scalar.addi arg13_r2 c0_i32_107_r2
  let c32_i32_146_r2 : BitVec 32 := 32#32
  let v146_r2 : BitVec 32 := Scalar.muli v103_r2 c32_i32_146_r2
  let c0_i32_108_r2 : BitVec 32 := 0#32
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c1_i32_3 : BitVec 32 := 1#32
  let v9 : BitVec 32 := Scalar.muli v8 c1_i32_3
  let v104_r2 : BitVec 32 := Scalar.addi c0_i32_108_r2 v9
  let v147_r2 : BitVec 32 := Scalar.addi v146_r2 v104_r2
  let true_109_r2 : BitVec 1 := 1#1
  let c_m1_i32_111_r2 : BitVec 32 := 4294967295#32
  let c0_i32_110_r2 : BitVec 32 := 0#32
  let v105_r2 : BitVec 32 := Scalar.select true_109_r2 c_m1_i32_111_r2 c0_i32_110_r2
  let c_m1_i32_112_r2 : BitVec 32 := 4294967295#32
  let v106_r2 : BitVec 1 := Scalar.cmpi .eq v105_r2 c_m1_i32_112_r2
  let c1_i32_114_r2 : BitVec 32 := 1#32
  let v108_r2 : BitVec 32 := Scalar.subi arg13_r2 c1_i32_114_r2
  let v109_r2 : BitVec 32 := Scalar.select v106_r2 v108_r2 arg13_r2
  let c_m1_i32_115_r2 : BitVec 32 := 4294967295#32
  let v110_r2 : BitVec 1 := Scalar.cmpi .eq v109_r2 c_m1_i32_115_r2
  let c1_i32_116_r2 : BitVec 32 := 1#32
  let v111_r2 : BitVec 32 := Scalar.select v110_r2 c1_i32_116_r2 v109_r2
  let c0_i32_117_r2 : BitVec 32 := 0#32
  let v112_r2 : BitVec 32 := Scalar.addi v111_r2 c0_i32_117_r2
  let c32_i32_157_r2 : BitVec 32 := 32#32
  let v168_r2 : BitVec 32 := Scalar.muli v112_r2 c32_i32_157_r2
  let c0_i32_118_r2 : BitVec 32 := 0#32
  let v113_r2 : BitVec 32 := Scalar.addi c0_i32_118_r2 v9
  let v169_r2 : BitVec 32 := Scalar.addi v168_r2 v113_r2
  let v170_r2 : BitVec 1 := Scalar.cmpi .ne v147_r2 v169_r2
  let c0_i32_62_r2 : BitVec 32 := 0#32
  let c1_i32_64_r2 : BitVec 32 := 1#32
  let arg8_r2 : BitVec 32 := Scf.iv c0_i32_62_r2 c1_i32_64_r2 k1_t2
  let c0_i32_105_r2 : BitVec 32 := 0#32
  let v101_r2 : BitVec 1 := Scalar.cmpi .eq arg8_r2 c0_i32_105_r2
  let v171_r2 : BitVec 1 := Scalar.ori v170_r2 v101_r2
  let c0_i32_158_r2 : BitVec 32 := 0#32
  let v172_r2 : BitVec 1 := Scalar.cmpi .sge arg8_r2 c0_i32_158_r2
  let v173_r2 : BitVec 1 := Scalar.andi v171_r2 v172_r2
  let v174_r2 : BitVec 32 := Scalar.extui v173_r2
  let c0_i32_159_r2 : BitVec 32 := 0#32
  let v175_r2 : BitVec 1 := Scalar.cmpi .ne v174_r2 c0_i32_159_r2
  v175_r2

def k1_off34 (i : grid1.Coords) (arg13_r2 : BitVec 32) : Fin 2 → Nat :=
  let c1_i32_184_r2 : BitVec 32 := 1#32
  let c0_i32_107_r2 : BitVec 32 := 0#32
  let v103_r2 : BitVec 32 := Scalar.addi arg13_r2 c0_i32_107_r2
  let c32_i32_183_r2 : BitVec 32 := 32#32
  let v215_r2 : BitVec 32 := Scalar.muli v103_r2 c32_i32_183_r2
  let c0_i32_108_r2 : BitVec 32 := 0#32
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c1_i32_3 : BitVec 32 := 1#32
  let v9 : BitVec 32 := Scalar.muli v8 c1_i32_3
  let v104_r2 : BitVec 32 := Scalar.addi c0_i32_108_r2 v9
  let v216_r2 : BitVec 32 := Scalar.addi v215_r2 v104_r2
  let v217_r2 : BitVec 32 := Scalar.muli c1_i32_184_r2 v216_r2
  let c0_i32_188_r2 : BitVec 32 := 0#32
  ![v217_r2.toNat, 0]
def k1_off35 (arg12_r2 : BitVec 32) : Fin 1 → Nat :=
  let c2_i32_185_r2 : BitVec 32 := 2#32
  let v218_r2 : BitVec 32 := Scalar.remui arg12_r2 c2_i32_185_r2
  ![v218_r2.toNat]

def k1_chk4 (i : grid1.Coords) (k1_t2 : Fin k1_t2_loop.trips) (arg9_r2 : BitVec 32) (arg10_r2 : BitVec 32) (arg11_r2 : BitVec 32) (arg12_r2 : BitVec 32) (arg13_r2 : BitVec 32) : Prop :=
  (∀ (k1_h9 : k1_cond9 i k1_t2 arg13_r2 = 1#1), ∀ a, (k1_off24 arg9_r2) a + S1x128x128.size a ≤ S2x128x128.size a) ∧
  (∀ (k1_h9 : k1_cond9 i k1_t2 arg13_r2 = 1#1), ∀ a, (k1_off25 i arg13_r2) a + S128x128.size a ≤ S8192x128.size a) ∧
  (∀ (k1_h9 : k1_cond9 i k1_t2 arg13_r2 = 1#1), ∀ a, (k1_off26 arg9_r2) a + S1.size a ≤ S2.size a) ∧
  (∀ (k1_h10 : k1_cond10 i k1_t2 arg13_r2 = 1#1), ∀ a, (k1_off27 arg11_r2) a + S1x1x128.size a ≤ S2x1x128.size a) ∧
  (∀ (k1_h10 : k1_cond10 i k1_t2 arg13_r2 = 1#1), ∀ a, (k1_off28 i arg13_r2) a + S1x128.size a ≤ S64x128.size a) ∧
  (∀ (k1_h10 : k1_cond10 i k1_t2 arg13_r2 = 1#1), ∀ a, (k1_off29 arg11_r2) a + S1.size a ≤ S2.size a) ∧
  (∀ (k1_h11 : k1_cond11 i k1_t2 arg13_r2 = 1#1), ∀ a, (k1_off30 arg10_r2) a + S1x128x128.size a ≤ S2x128x128.size a) ∧
  (∀ (k1_h11 : k1_cond11 i k1_t2 arg13_r2 = 1#1), ∀ a, (k1_off31 i arg13_r2) a + S128x128.size a ≤ S8192x128.size a) ∧
  (∀ (k1_h11 : k1_cond11 i k1_t2 arg13_r2 = 1#1), ∀ a, (k1_off32 arg10_r2) a + S1.size a ≤ S2.size a) ∧
  (∀ (k1_h12 : k1_cond12 i k1_t2 arg13_r2 = 1#1), ∀ a, (k1_off33 arg12_r2) a + S1x1x128.size a ≤ S2x1x128.size a) ∧
  (∀ (k1_h12 : k1_cond12 i k1_t2 arg13_r2 = 1#1), ∀ a, (k1_off34 i arg13_r2) a + S1x128.size a ≤ S64x128.size a) ∧
  (∀ (k1_h12 : k1_cond12 i k1_t2 arg13_r2 = 1#1), ∀ a, (k1_off35 arg12_r2) a + S1.size a ≤ S2.size a)
theorem k1_off24_inb : ∀ (i : grid1.Coords) (k1_t2 : Fin k1_t2_loop.trips) (arg9_r2 : BitVec 32) (arg10_r2 : BitVec 32) (arg11_r2 : BitVec 32) (arg12_r2 : BitVec 32) (arg13_r2 : BitVec 32) (k1_hw4 : k1_chk4 i k1_t2 arg9_r2 arg10_r2 arg11_r2 arg12_r2 arg13_r2), ∀ (k1_h9 : k1_cond9 i k1_t2 arg13_r2 = 1#1), ∀ a, (k1_off24 arg9_r2) a + S1x128x128.size a ≤ S2x128x128.size a := fun i k1_t2 arg9_r2 arg10_r2 arg11_r2 arg12_r2 arg13_r2 k1_hw4 k1_h9 => k1_hw4.1 k1_h9
theorem k1_off25_inb : ∀ (i : grid1.Coords) (k1_t2 : Fin k1_t2_loop.trips) (arg9_r2 : BitVec 32) (arg10_r2 : BitVec 32) (arg11_r2 : BitVec 32) (arg12_r2 : BitVec 32) (arg13_r2 : BitVec 32) (k1_hw4 : k1_chk4 i k1_t2 arg9_r2 arg10_r2 arg11_r2 arg12_r2 arg13_r2), ∀ (k1_h9 : k1_cond9 i k1_t2 arg13_r2 = 1#1), ∀ a, (k1_off25 i arg13_r2) a + S128x128.size a ≤ S8192x128.size a := fun i k1_t2 arg9_r2 arg10_r2 arg11_r2 arg12_r2 arg13_r2 k1_hw4 k1_h9 => k1_hw4.2.1 k1_h9
theorem k1_off26_inb : ∀ (i : grid1.Coords) (k1_t2 : Fin k1_t2_loop.trips) (arg9_r2 : BitVec 32) (arg10_r2 : BitVec 32) (arg11_r2 : BitVec 32) (arg12_r2 : BitVec 32) (arg13_r2 : BitVec 32) (k1_hw4 : k1_chk4 i k1_t2 arg9_r2 arg10_r2 arg11_r2 arg12_r2 arg13_r2), ∀ (k1_h9 : k1_cond9 i k1_t2 arg13_r2 = 1#1), ∀ a, (k1_off26 arg9_r2) a + S1.size a ≤ S2.size a := fun i k1_t2 arg9_r2 arg10_r2 arg11_r2 arg12_r2 arg13_r2 k1_hw4 k1_h9 => k1_hw4.2.2.1 k1_h9
theorem k1_off27_inb : ∀ (i : grid1.Coords) (k1_t2 : Fin k1_t2_loop.trips) (arg9_r2 : BitVec 32) (arg10_r2 : BitVec 32) (arg11_r2 : BitVec 32) (arg12_r2 : BitVec 32) (arg13_r2 : BitVec 32) (k1_hw4 : k1_chk4 i k1_t2 arg9_r2 arg10_r2 arg11_r2 arg12_r2 arg13_r2), ∀ (k1_h10 : k1_cond10 i k1_t2 arg13_r2 = 1#1), ∀ a, (k1_off27 arg11_r2) a + S1x1x128.size a ≤ S2x1x128.size a := fun i k1_t2 arg9_r2 arg10_r2 arg11_r2 arg12_r2 arg13_r2 k1_hw4 k1_h10 => k1_hw4.2.2.2.1 k1_h10
theorem k1_off28_inb : ∀ (i : grid1.Coords) (k1_t2 : Fin k1_t2_loop.trips) (arg9_r2 : BitVec 32) (arg10_r2 : BitVec 32) (arg11_r2 : BitVec 32) (arg12_r2 : BitVec 32) (arg13_r2 : BitVec 32) (k1_hw4 : k1_chk4 i k1_t2 arg9_r2 arg10_r2 arg11_r2 arg12_r2 arg13_r2), ∀ (k1_h10 : k1_cond10 i k1_t2 arg13_r2 = 1#1), ∀ a, (k1_off28 i arg13_r2) a + S1x128.size a ≤ S64x128.size a := fun i k1_t2 arg9_r2 arg10_r2 arg11_r2 arg12_r2 arg13_r2 k1_hw4 k1_h10 => k1_hw4.2.2.2.2.1 k1_h10
theorem k1_off29_inb : ∀ (i : grid1.Coords) (k1_t2 : Fin k1_t2_loop.trips) (arg9_r2 : BitVec 32) (arg10_r2 : BitVec 32) (arg11_r2 : BitVec 32) (arg12_r2 : BitVec 32) (arg13_r2 : BitVec 32) (k1_hw4 : k1_chk4 i k1_t2 arg9_r2 arg10_r2 arg11_r2 arg12_r2 arg13_r2), ∀ (k1_h10 : k1_cond10 i k1_t2 arg13_r2 = 1#1), ∀ a, (k1_off29 arg11_r2) a + S1.size a ≤ S2.size a := fun i k1_t2 arg9_r2 arg10_r2 arg11_r2 arg12_r2 arg13_r2 k1_hw4 k1_h10 => k1_hw4.2.2.2.2.2.1 k1_h10
theorem k1_off30_inb : ∀ (i : grid1.Coords) (k1_t2 : Fin k1_t2_loop.trips) (arg9_r2 : BitVec 32) (arg10_r2 : BitVec 32) (arg11_r2 : BitVec 32) (arg12_r2 : BitVec 32) (arg13_r2 : BitVec 32) (k1_hw4 : k1_chk4 i k1_t2 arg9_r2 arg10_r2 arg11_r2 arg12_r2 arg13_r2), ∀ (k1_h11 : k1_cond11 i k1_t2 arg13_r2 = 1#1), ∀ a, (k1_off30 arg10_r2) a + S1x128x128.size a ≤ S2x128x128.size a := fun i k1_t2 arg9_r2 arg10_r2 arg11_r2 arg12_r2 arg13_r2 k1_hw4 k1_h11 => k1_hw4.2.2.2.2.2.2.1 k1_h11
theorem k1_off31_inb : ∀ (i : grid1.Coords) (k1_t2 : Fin k1_t2_loop.trips) (arg9_r2 : BitVec 32) (arg10_r2 : BitVec 32) (arg11_r2 : BitVec 32) (arg12_r2 : BitVec 32) (arg13_r2 : BitVec 32) (k1_hw4 : k1_chk4 i k1_t2 arg9_r2 arg10_r2 arg11_r2 arg12_r2 arg13_r2), ∀ (k1_h11 : k1_cond11 i k1_t2 arg13_r2 = 1#1), ∀ a, (k1_off31 i arg13_r2) a + S128x128.size a ≤ S8192x128.size a := fun i k1_t2 arg9_r2 arg10_r2 arg11_r2 arg12_r2 arg13_r2 k1_hw4 k1_h11 => k1_hw4.2.2.2.2.2.2.2.1 k1_h11
theorem k1_off32_inb : ∀ (i : grid1.Coords) (k1_t2 : Fin k1_t2_loop.trips) (arg9_r2 : BitVec 32) (arg10_r2 : BitVec 32) (arg11_r2 : BitVec 32) (arg12_r2 : BitVec 32) (arg13_r2 : BitVec 32) (k1_hw4 : k1_chk4 i k1_t2 arg9_r2 arg10_r2 arg11_r2 arg12_r2 arg13_r2), ∀ (k1_h11 : k1_cond11 i k1_t2 arg13_r2 = 1#1), ∀ a, (k1_off32 arg10_r2) a + S1.size a ≤ S2.size a := fun i k1_t2 arg9_r2 arg10_r2 arg11_r2 arg12_r2 arg13_r2 k1_hw4 k1_h11 => k1_hw4.2.2.2.2.2.2.2.2.1 k1_h11
theorem k1_off33_inb : ∀ (i : grid1.Coords) (k1_t2 : Fin k1_t2_loop.trips) (arg9_r2 : BitVec 32) (arg10_r2 : BitVec 32) (arg11_r2 : BitVec 32) (arg12_r2 : BitVec 32) (arg13_r2 : BitVec 32) (k1_hw4 : k1_chk4 i k1_t2 arg9_r2 arg10_r2 arg11_r2 arg12_r2 arg13_r2), ∀ (k1_h12 : k1_cond12 i k1_t2 arg13_r2 = 1#1), ∀ a, (k1_off33 arg12_r2) a + S1x1x128.size a ≤ S2x1x128.size a := fun i k1_t2 arg9_r2 arg10_r2 arg11_r2 arg12_r2 arg13_r2 k1_hw4 k1_h12 => k1_hw4.2.2.2.2.2.2.2.2.2.1 k1_h12
theorem k1_off34_inb : ∀ (i : grid1.Coords) (k1_t2 : Fin k1_t2_loop.trips) (arg9_r2 : BitVec 32) (arg10_r2 : BitVec 32) (arg11_r2 : BitVec 32) (arg12_r2 : BitVec 32) (arg13_r2 : BitVec 32) (k1_hw4 : k1_chk4 i k1_t2 arg9_r2 arg10_r2 arg11_r2 arg12_r2 arg13_r2), ∀ (k1_h12 : k1_cond12 i k1_t2 arg13_r2 = 1#1), ∀ a, (k1_off34 i arg13_r2) a + S1x128.size a ≤ S64x128.size a := fun i k1_t2 arg9_r2 arg10_r2 arg11_r2 arg12_r2 arg13_r2 k1_hw4 k1_h12 => k1_hw4.2.2.2.2.2.2.2.2.2.2.1 k1_h12
theorem k1_off35_inb : ∀ (i : grid1.Coords) (k1_t2 : Fin k1_t2_loop.trips) (arg9_r2 : BitVec 32) (arg10_r2 : BitVec 32) (arg11_r2 : BitVec 32) (arg12_r2 : BitVec 32) (arg13_r2 : BitVec 32) (k1_hw4 : k1_chk4 i k1_t2 arg9_r2 arg10_r2 arg11_r2 arg12_r2 arg13_r2), ∀ (k1_h12 : k1_cond12 i k1_t2 arg13_r2 = 1#1), ∀ a, (k1_off35 arg12_r2) a + S1.size a ≤ S2.size a := fun i k1_t2 arg9_r2 arg10_r2 arg11_r2 arg12_r2 arg13_r2 k1_hw4 k1_h12 => k1_hw4.2.2.2.2.2.2.2.2.2.2.2 k1_h12

def k1_off36 (arg10_r2 : BitVec 32) : Fin 3 → Nat :=
  let c2_i32_160_r2 : BitVec 32 := 2#32
  let v176_r2 : BitVec 32 := Scalar.remui arg10_r2 c2_i32_160_r2
  let c0_i32_183_r3 : BitVec 32 := 0#32
  let c0_i32_184_r3 : BitVec 32 := 0#32
  ![v176_r2.toNat, 0, 0]

def k1_chk5 (arg10_r2 : BitVec 32) : Prop :=
  (∀ a, (k1_off36 arg10_r2) a + S1x128x128.size a ≤ S2x128x128.size a)
theorem k1_off36_inb : ∀ (arg10_r2 : BitVec 32) (k1_hw5 : k1_chk5 arg10_r2), ∀ a, (k1_off36 arg10_r2) a + S1x128x128.size a ≤ S2x128x128.size a := fun arg10_r2 k1_hw5 => k1_hw5

def k1_off37 (arg12_r2 : BitVec 32) : Fin 3 → Nat :=
  let c2_i32_161_r2 : BitVec 32 := 2#32
  let v177_r2 : BitVec 32 := Scalar.remui arg12_r2 c2_i32_161_r2
  let c0_i32_185_r3 : BitVec 32 := 0#32
  let c0_i32_186_r3 : BitVec 32 := 0#32
  ![v177_r2.toNat, 0, 0]

def k1_chk6 (arg12_r2 : BitVec 32) : Prop :=
  (∀ a, (k1_off37 arg12_r2) a + S1x1x128.size a ≤ S2x1x128.size a)
theorem k1_off37_inb : ∀ (arg12_r2 : BitVec 32) (k1_hw6 : k1_chk6 arg12_r2), ∀ a, (k1_off37 arg12_r2) a + S1x1x128.size a ≤ S2x1x128.size a := fun arg12_r2 k1_hw6 => k1_hw6

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Proof.Words.lean ====
/-
  The integer chains of the gather's tile in closed form: at trip `k` of the pipeline's loop the words carried, the
  conditions of its copies and the offsets of the blocks they name, for every tile of the grid.
-/
module

public import proofs.«01_k».proof.Proof.Gen.KernelIdeal
public import proofs.«01_k».proof.Proof.Gen.KernelIdeal.Skeleton
public import Idealize.ShloMosaic.Lib.Decide

@[expose] public section

noncomputable section

namespace Cert.Proof.Gather

open Cert.KernelIdeal Cert.KernelIdeal.Gen
open Idealize.ShloMosaic Idealize.SL.Sem

/-- The tile's number. -/
abbrev tile (i : grid0.Coords) : ℕ := (i 0).val * 16 + (i 1).val

/-- The block of 128 rows that the tile gathers at trip `k`. -/
abbrev blk (i : grid0.Coords) (k : ℕ) : ℕ := (k / 4) * 128 + (4 * tile i + k % 4)

/-- The words the loop carries before trip `k`: the index copies started, the blocks gathered (twice), the output
    copies waited for, and the two coordinates of the block. -/
abbrev w6 (k : ℕ) : BitVec 32 := BitVec.ofNat 32 (min (k + 1) 8)
abbrev w7 (k : ℕ) : BitVec 32 := BitVec.ofNat 32 k
abbrev w9 (k : ℕ) : BitVec 32 := BitVec.ofNat 32 (k - 1)
abbrev w10 (k : ℕ) : BitVec 32 := BitVec.ofNat 32 ((k / 4) % 2)
abbrev w11 (k : ℕ) : BitVec 32 := BitVec.ofNat 32 (k % 4)

theorem trips_eq : k0_t1_loop.trips = 8 := by decide +kernel

theorem tile_lt (i : grid0.Coords) : tile i < 32 := by
  have h0 : (i 0).val < 2 := (i 0).isLt
  have h1 : (i 1).val < 16 := (i 1).isLt
  unfold tile; omega

theorem blk_lt (i : grid0.Coords) (k : ℕ) (hk : k < 8) : blk i k < 256 := by
  have := tile_lt i; unfold blk; omega

/-! ## The conditions -/

theorem cond1_iff : ∀ (i : grid0.Coords) (k : Fin k0_t1_loop.trips), (k0_cond1 i k (w10 k.val) (w11 k.val) = 1#1) ↔ k.val < 7 := by decide +kernel
theorem cond2_true : ∀ (i : grid0.Coords) (k : Fin k0_t1_loop.trips), k0_cond2 i k (w10 k.val) (w11 k.val) = 1#1 := by decide +kernel
theorem cond5_true : ∀ (i : grid0.Coords) (k : Fin k0_t1_loop.trips), k0_cond5 i k (w10 k.val) (w11 k.val) = 1#1 := by decide +kernel
theorem cond7_iff : ∀ (i : grid0.Coords) (k : Fin k0_t1_loop.trips), (k0_cond7 i k (w10 k.val) (w11 k.val) = 1#1) ↔ 0 < k.val := by decide +kernel

/-! ## The offsets -/

theorem off2_eq : ∀ i : grid0.Coords, k0_off2 i = ![blk i 0 / 64, blk i 0 % 64, 0] := by decide +kernel
theorem off4_eq : ∀ k : Fin k0_t1_loop.trips, k.val < 7 → k0_off4 (w6 k.val) = ![(k.val + 1) % 2, 0, 0, 0] := by decide +kernel
theorem off5_eq : ∀ (i : grid0.Coords) (k : Fin k0_t1_loop.trips), k.val < 7 →
    k0_off5 i (w10 k.val) (w11 k.val) = ![blk i (k.val + 1) / 64, blk i (k.val + 1) % 64, 0] := by decide +kernel
theorem off6_eq : ∀ k : Fin k0_t1_loop.trips, k.val < 7 → k0_off6 (w6 k.val) = ![(k.val + 1) % 2] := by decide +kernel
theorem off7_eq : ∀ k : Fin k0_t1_loop.trips, k0_off7 (w7 k.val) = ![k.val % 2, 0, 0, 0] := by decide +kernel
theorem off8_eq : ∀ (i : grid0.Coords) (k : Fin k0_t1_loop.trips),
    k0_off8 i (w10 k.val) (w11 k.val) = ![blk i k.val / 64, blk i k.val % 64, 0] := by decide +kernel
theorem off9_eq : ∀ k : Fin k0_t1_loop.trips, k0_off9 (w7 k.val) = ![k.val % 2] := by decide +kernel
theorem off10_eq : ∀ k : Fin k0_t1_loop.trips, k0_off10 (w7 k.val) = ![k.val % 2, 0, 0, 0] := by decide +kernel
theorem off11_eq : ∀ k : Fin k0_t1_loop.trips, k0_off11 (w7 k.val) = ![k.val % 2, 0, 0, 0] := by decide +kernel
theorem off12_eq : ∀ k : Fin k0_t1_loop.trips, k0_off12 (w7 k.val) = ![k.val % 2, 0, 0, 0] := by decide +kernel
theorem off13_eq : ∀ (i : grid0.Coords) (k : Fin k0_t1_loop.trips),
    k0_off13 i (w10 k.val) (w11 k.val) = ![128 * (blk i k.val % 64), blk i k.val / 64, 0, 0] := by decide +kernel
theorem off14_eq : ∀ k : Fin k0_t1_loop.trips, k0_off14 (w7 k.val) = ![k.val % 2] := by decide +kernel
theorem off15_eq : ∀ k : Fin k0_t1_loop.trips, 0 < k.val → k0_off15 (w9 k.val) = ![(k.val + 1) % 2, 0, 0, 0] := by decide +kernel
theorem off16_eq : ∀ (i : grid0.Coords) (k : Fin k0_t1_loop.trips), 0 < k.val →
    k0_off16 i (w10 k.val) (w11 k.val) = ![128 * (blk i (k.val - 1) % 64), blk i (k.val - 1) / 64, 0, 0] := by decide +kernel
theorem off17_eq : ∀ k : Fin k0_t1_loop.trips, 0 < k.val → k0_off17 (w9 k.val) = ![(k.val + 1) % 2] := by decide +kernel
theorem off18_eq : k0_off18 (w9 8) = ![1, 0, 0, 0] := by decide +kernel
theorem off19_eq : ∀ i : grid0.Coords, k0_off19 i (w11 8) (w10 8) = ![128 * (blk i 7 % 64), blk i 7 / 64, 0, 0] := by decide +kernel
theorem off20_eq : k0_off20 (w9 8) = ![1] := by decide +kernel
theorem off21_eq : k0_off21 (w9 8) = ![1, 0, 0, 0] := by decide +kernel

/-! ## The checks -/

theorem chk1_true : ∀ (i : grid0.Coords) (k : Fin k0_t1_loop.trips), k0_chk1 i k (w6 k.val) (w7 k.val) (w7 k.val) (w9 k.val) (w10 k.val) (w11 k.val) := by decide +kernel
theorem chk2_true : ∀ k : Fin k0_t1_loop.trips, k0_chk2 (w7 k.val) := by decide +kernel
theorem chk3_true : ∀ k : Fin k0_t1_loop.trips, k0_chk3 (w7 k.val) := by decide +kernel
theorem chk4_true : k0_chk4 (w9 8) := by decide +kernel
theorem chk5_true : ∀ i : grid0.Coords, k0_chk5 i (w11 8) (w10 8) := by decide +kernel

end Cert.Proof.Gather

end
-- ==== Proof.Names.lean ====
/-
  The gather's tile: the names of its buffers, of the blocks of 128 rows it moves, of the two slots of its staging
  buffers and of their semaphores; the slices that the printed body takes are these (`sl_canon`).
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Ring
public import Idealize.ShloMosaic.Lib.Tactic

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev aLoc (d : Dev nD) : Loc nD τ sig := (SparseCore.T d).loc main_arg0
abbrev iLoc (d : Dev nD) : Loc nD τ sig := (SparseCore.T d).loc main_arg1
abbrev yLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev yM : Memref sig .scVector .hbm S36864x2x128 .f32 := Memref.whole main_v0_scv
abbrev iM : Memref sig .scVector .hbm S4x64x128 .i32 := Memref.whole main_arg1_scv
abbrev oM : Memref sig .scVector .hbm S8192x4x2x128 .f32 := Memref.whole main_v1_scv
abbrev ibM : Memref sig .scVector .vmem S2x1x1x128 .i32 := Memref.whole cc0_scoped0
abbrev obM : Memref sig .scVector .vmem S2x128x2x128 .f32 := Memref.whole cc0_scoped2

/-! ## Slots, blocks and cells -/

abbrev iOff (p : Fin 2) : Fin 4 → Nat := ![p.val, 0, 0, 0]
theorem iOff_inb (p : Fin 2) : ∀ a, iOff p a + S1x1x1x128.size a ≤ S2x1x1x128.size a := by
  have := p.isLt; intro a; fin_cases a
  · show p.val + 1 ≤ 2; omega
  · show 0 + 1 ≤ 1; omega
  · show 0 + 1 ≤ 1; omega
  · show 0 + 128 ≤ 128; omega
theorem oOff_inb (p : Fin 2) : ∀ a, iOff p a + S1x128x2x128.size a ≤ S2x128x2x128.size a := by
  have := p.isLt; intro a; fin_cases a
  · show p.val + 1 ≤ 2; omega
  · show 0 + 128 ≤ 128; omega
  · show 0 + 2 ≤ 2; omega
  · show 0 + 128 ≤ 128; omega
abbrev sOff (p : Fin 2) : Fin 1 → Nat := ![p.val]
theorem sOff_inb (p : Fin 2) : ∀ a, sOff p a + S1.size a ≤ S2.size a := by
  have := p.isLt; intro a; fin_cases a; show p.val + 1 ≤ 2; omega
abbrev rOff (i : grid0.Coords) (t : Fin 8) : Fin 3 → Nat := ![blk i t.val / 64, blk i t.val % 64, 0]
theorem rOff_inb (i : grid0.Coords) (t : Fin 8) : ∀ a, rOff i t a + S1x1x128.size a ≤ S4x64x128.size a := by
  have := blk_lt i t.val t.isLt; intro a; fin_cases a
  · show blk i t.val / 64 + 1 ≤ 4; omega
  · show blk i t.val % 64 + 1 ≤ 64; omega
  · show 0 + 128 ≤ 128; omega
abbrev bOff (i : grid0.Coords) (t : Fin 8) : Fin 4 → Nat := ![128 * (blk i t.val % 64), blk i t.val / 64, 0, 0]
theorem bOff_inb (i : grid0.Coords) (t : Fin 8) : ∀ a, bOff i t a + S128x1x2x128.size a ≤ S8192x4x2x128.size a := by
  have := blk_lt i t.val t.isLt; intro a; fin_cases a
  · show 128 * (blk i t.val % 64) + 128 ≤ 8192; omega
  · show blk i t.val / 64 + 1 ≤ 4; omega
  · show 0 + 2 ≤ 2; omega
  · show 0 + 128 ≤ 128; omega

/-- Slot `p` of the index buffer. -/
def iSlot (p : Fin 2) : Memref sig .scVector .vmem S1x1x128 .i32 :=
  (ibM.slice (Rect.unit (s := S2x1x1x128) (iOff p) S1x1x1x128.size (iOff_inb p)) (fun _ => rfl)).squeeze S1x1x128 squeezes_S1x1x1x128_S1x1x128
/-- Slot `p` of the row buffer. -/
def oSlot (p : Fin 2) : Memref sig .scVector .vmem S128x2x128 .f32 :=
  (obM.slice (Rect.unit (s := S2x128x2x128) (iOff p) S1x128x2x128.size (oOff_inb p)) (fun _ => rfl)).squeeze S128x2x128 squeezes_S1x128x2x128_S128x2x128
/-- The list of the 128 row numbers of trip `t`. -/
def iRow (i : grid0.Coords) (t : Fin 8) : Memref sig .scVector .hbm S1x1x128 .i32 :=
  iM.slice (Rect.unit (s := S4x64x128) (rOff i t) S1x1x128.size (rOff_inb i t)) (fun _ => rfl)
/-- The block of 128 rows of the output of trip `t`. -/
def oBlk (i : grid0.Coords) (t : Fin 8) : Memref sig .scVector .hbm S128x2x128 .f32 :=
  (oM.slice (Rect.unit (s := S8192x4x2x128) (bOff i t) S128x1x2x128.size (bOff_inb i t)) (fun _ => rfl)).squeeze S128x2x128 squeezes_S128x1x2x128_S128x2x128
/-- The cell of the index copies into slot `p`; of the output copies out of slot `p`. -/
def iSem (p : Fin 2) : DmaSems sig S_ := (cc0_scoped1.slice (Rect.unit (s := S2) (sOff p) S1.size (sOff_inb p))).squeeze S_ squeezes_S1_S_
def oSem (p : Fin 2) : DmaSems sig S_ := (cc0_scoped3.slice (Rect.unit (s := S2) (sOff p) S1.size (sOff_inb p))).squeeze S_ squeezes_S1_S_

/-! ## The printed slices are these -/

private theorem iSem_congr {off : Fin 1 → Nat} {p : Fin 2} (e : off = sOff p) (hh) :
    (cc0_scoped1.slice (Rect.unit (s := S2) off S1.size hh)).squeeze S_ squeezes_S1_S_ = iSem p :=
  congrArg (fun A : DmaSems sig S1 => A.squeeze S_ squeezes_S1_S_) (SemArray.slice_unit_congr _ e _ _)
private theorem oSem_congr {off : Fin 1 → Nat} {p : Fin 2} (e : off = sOff p) (hh) :
    (cc0_scoped3.slice (Rect.unit (s := S2) off S1.size hh)).squeeze S_ squeezes_S1_S_ = oSem p :=
  congrArg (fun A : DmaSems sig S1 => A.squeeze S_ squeezes_S1_S_) (SemArray.slice_unit_congr _ e _ _)
private theorem iSlot_congr {off : Fin 4 → Nat} {p : Fin 2} (e : off = iOff p) (hh hs) :
    (ibM.slice (Rect.unit (s := S2x1x1x128) off S1x1x1x128.size hh) hs).squeeze S1x1x128 squeezes_S1x1x1x128_S1x1x128 = iSlot p :=
  congrArg (fun M : Memref sig .scVector .vmem S1x1x1x128 .i32 => M.squeeze S1x1x128 squeezes_S1x1x1x128_S1x1x128) (Memref.slice_unit_congr _ e _ _ _ _)
private theorem oSlot_congr {off : Fin 4 → Nat} {p : Fin 2} (e : off = iOff p) (hh hs) :
    (obM.slice (Rect.unit (s := S2x128x2x128) off S1x128x2x128.size hh) hs).squeeze S128x2x128 squeezes_S1x128x2x128_S128x2x128 = oSlot p :=
  congrArg (fun M : Memref sig .scVector .vmem S1x128x2x128 .f32 => M.squeeze S128x2x128 squeezes_S1x128x2x128_S128x2x128) (Memref.slice_unit_congr _ e _ _ _ _)
private theorem iRow_congr {i : grid0.Coords} {off : Fin 3 → Nat} {t : Fin 8} (e : off = rOff i t) (hh hs) :
    iM.slice (Rect.unit (s := S4x64x128) off S1x1x128.size hh) hs = iRow i t := Memref.slice_unit_congr _ e _ _ _ (fun _ => rfl)
private theorem oBlk_congr {i : grid0.Coords} {off : Fin 4 → Nat} {t : Fin 8} (e : off = bOff i t) (hh hs) :
    (oM.slice (Rect.unit (s := S8192x4x2x128) off S128x1x2x128.size hh) hs).squeeze S128x2x128 squeezes_S128x1x2x128_S128x2x128 = oBlk i t :=
  congrArg (fun M : Memref sig .scVector .hbm S128x1x2x128 .f32 => M.squeeze S128x2x128 squeezes_S128x1x2x128_S128x2x128) (Memref.slice_unit_congr _ e _ _ _ _)

theorem sl_val (k : ℕ) : (Ring.sl 2 k).val = k % 2 := rfl

section Canon
variable (i : grid0.Coords) (k : Fin k0_t1_loop.trips)

@[sl_canon] theorem c1 (hh hs) : (ibM.slice (Rect.unit (s := S2x1x1x128) k0_off1 S1x1x1x128.size hh) hs).squeeze S1x1x128 squeezes_S1x1x1x128_S1x1x128 = iSlot 0 :=
  iSlot_congr (by rw [k0_off1_eq]; rfl) _ _
@[sl_canon] theorem c2 (hh hs) : iM.slice (Rect.unit (s := S4x64x128) (k0_off2 i) S1x1x128.size hh) hs = iRow i 0 := iRow_congr (by rw [off2_eq i]; rfl) _ _
@[sl_canon] theorem c3 (hh) : (cc0_scoped1.slice (Rect.unit (s := S2) k0_off3 S1.size hh)).squeeze S_ squeezes_S1_S_ = iSem 0 :=
  iSem_congr (by rw [k0_off3_eq]; rfl) _
@[sl_canon] theorem c4 (hk : k.val < 7) (hh hs) : (ibM.slice (Rect.unit (s := S2x1x1x128) (k0_off4 (w6 k.val)) S1x1x1x128.size hh) hs).squeeze S1x1x128 squeezes_S1x1x1x128_S1x1x128 = iSlot (Ring.sl 2 (k.val + 1)) :=
  iSlot_congr (by rw [off4_eq k hk]; rfl) _ _
@[sl_canon] theorem c5 (hk : k.val < 7) (hh hs) : iM.slice (Rect.unit (s := S4x64x128) (k0_off5 i (w10 k.val) (w11 k.val)) S1x1x128.size hh) hs = iRow i (Ring.bk 8 (k.val + 1)) :=
  iRow_congr (by rw [off5_eq i k hk, rOff, Ring.bk_val (by omega)]) _ _
@[sl_canon] theorem c6 (hk : k.val < 7) (hh) : (cc0_scoped1.slice (Rect.unit (s := S2) (k0_off6 (w6 k.val)) S1.size hh)).squeeze S_ squeezes_S1_S_ = iSem (Ring.sl 2 (k.val + 1)) :=
  iSem_congr (by rw [off6_eq k hk]; rfl) _
@[sl_canon] theorem c7 (hh hs) : (ibM.slice (Rect.unit (s := S2x1x1x128) (k0_off7 (w7 k.val)) S1x1x1x128.size hh) hs).squeeze S1x1x128 squeezes_S1x1x1x128_S1x1x128 = iSlot (Ring.sl 2 k.val) :=
  iSlot_congr (by rw [off7_eq k]; rfl) _ _
@[sl_canon] theorem c8 (hh hs) : iM.slice (Rect.unit (s := S4x64x128) (k0_off8 i (w10 k.val) (w11 k.val)) S1x1x128.size hh) hs = iRow i (Ring.bk 8 k.val) :=
  iRow_congr (by rw [off8_eq i k, rOff, Ring.bk_val (Nat.lt_of_lt_of_eq k.isLt trips_eq)]) _ _
@[sl_canon] theorem c9 (hh) : (cc0_scoped1.slice (Rect.unit (s := S2) (k0_off9 (w7 k.val)) S1.size hh)).squeeze S_ squeezes_S1_S_ = iSem (Ring.sl 2 k.val) :=
  iSem_congr (by rw [off9_eq k]; rfl) _
@[sl_canon] theorem c10 (hh hs) : (obM.slice (Rect.unit (s := S2x128x2x128) (k0_off10 (w7 k.val)) S1x128x2x128.size hh) hs).squeeze S128x2x128 squeezes_S1x128x2x128_S128x2x128 = oSlot (Ring.sl 2 k.val) :=
  oSlot_congr (by rw [off10_eq k]; rfl) _ _
@[sl_canon] theorem c11 (hh hs) : (ibM.slice (Rect.unit (s := S2x1x1x128) (k0_off11 (w7 k.val)) S1x1x1x128.size hh) hs).squeeze S1x1x128 squeezes_S1x1x1x128_S1x1x128 = iSlot (Ring.sl 2 k.val) :=
  iSlot_congr (by rw [off11_eq k]; rfl) _ _
@[sl_canon] theorem c12 (hh hs) : (obM.slice (Rect.unit (s := S2x128x2x128) (k0_off12 (w7 k.val)) S1x128x2x128.size hh) hs).squeeze S128x2x128 squeezes_S1x128x2x128_S128x2x128 = oSlot (Ring.sl 2 k.val) :=
  oSlot_congr (by rw [off12_eq k]; rfl) _ _
@[sl_canon] theorem c13 (hh hs) : (oM.slice (Rect.unit (s := S8192x4x2x128) (k0_off13 i (w10 k.val) (w11 k.val)) S128x1x2x128.size hh) hs).squeeze S128x2x128 squeezes_S128x1x2x128_S128x2x128 = oBlk i (Ring.bk 8 k.val) :=
  oBlk_congr (by rw [off13_eq i k, bOff, Ring.bk_val (Nat.lt_of_lt_of_eq k.isLt trips_eq)]) _ _
@[sl_canon] theorem c14 (hh) : (cc0_scoped3.slice (Rect.unit (s := S2) (k0_off14 (w7 k.val)) S1.size hh)).squeeze S_ squeezes_S1_S_ = oSem (Ring.sl 2 k.val) :=
  oSem_congr (by rw [off14_eq k]; rfl) _
@[sl_canon] theorem c15 (hk : 0 < k.val) (hh hs) : (obM.slice (Rect.unit (s := S2x128x2x128) (k0_off15 (w9 k.val)) S1x128x2x128.size hh) hs).squeeze S128x2x128 squeezes_S1x128x2x128_S128x2x128 = oSlot (Ring.sl 2 (k.val + 1)) :=
  oSlot_congr (by rw [off15_eq k hk]; rfl) _ _
@[sl_canon] theorem c16 (hk : 0 < k.val) (hh hs) : (oM.slice (Rect.unit (s := S8192x4x2x128) (k0_off16 i (w10 k.val) (w11 k.val)) S128x1x2x128.size hh) hs).squeeze S128x2x128 squeezes_S128x1x2x128_S128x2x128 = oBlk i (Ring.bk 8 (k.val - 1)) :=
  oBlk_congr (by rw [off16_eq i k hk, bOff, Ring.bk_val (show k.val - 1 < 8 by have := Nat.lt_of_lt_of_eq k.isLt trips_eq; omega)]) _ _
@[sl_canon] theorem c17 (hk : 0 < k.val) (hh) : (cc0_scoped3.slice (Rect.unit (s := S2) (k0_off17 (w9 k.val)) S1.size hh)).squeeze S_ squeezes_S1_S_ = oSem (Ring.sl 2 (k.val + 1)) :=
  oSem_congr (by rw [off17_eq k hk]; rfl) _
@[sl_canon] theorem c19 (hh hs) : (oM.slice (Rect.unit (s := S8192x4x2x128) (k0_off19 i (w11 8) (w10 8)) S128x1x2x128.size hh) hs).squeeze S128x2x128 squeezes_S128x1x2x128_S128x2x128 = oBlk i 7 :=
  oBlk_congr (by rw [off19_eq i]; rfl) _ _
@[sl_canon] theorem c20 (hh) : (cc0_scoped3.slice (Rect.unit (s := S2) (k0_off20 (w9 8)) S1.size hh)).squeeze S_ squeezes_S1_S_ = oSem 1 :=
  oSem_congr (by rw [off20_eq]; rfl) _
@[sl_canon] theorem c21 (hh hs) : (obM.slice (Rect.unit (s := S2x128x2x128) (k0_off21 (w9 8)) S1x128x2x128.size hh) hs).squeeze S128x2x128 squeezes_S1x128x2x128_S128x2x128 = oSlot 1 :=
  oSlot_congr (by rw [off21_eq]; rfl) _ _

end Canon

end Cert.Proof.Gather

end
-- ==== Proof.Res.lean ====
module

public import proofs.«01_k».proof.Proof.Names

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile
variable (d : Dev nD) (L : grid0.Coords) (q : PosShare TreeShare)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The table, as the gather names it. -/
abbrev yAll : Memref sig .scVector .hbm S36864x2x128 .f32 :=
  yM.slice (Rect.unit (s := S36864x2x128) ![0, 0, 0] S36864x2x128.size inb_S36864x2x128_S36864x2x128_0_0_0) (fun _ => rfl)

variable (XY : Buf (Elt F) ((yAll).view.loc (VT d L))) (XI : Buf (Elt F) (iM.view.loc (VT d L)))

abbrev yP : sProp 𝕄 := (yAll).view.loc (VT d L) ↦[(yAll).view.set]{q} XY
abbrev iRowP (t : Fin 8) : sProp 𝕄 := (iRow L t).view.loc (VT d L) ↦[(iRow L t).view.set]{fullShare} XI
abbrev iSlotP (p : Fin 2) (f : Buf (Elt F) ((iSlot p).view.loc (VT d L))) : sProp 𝕄 := (iSlot p).view.loc (VT d L) ↦[(iSlot p).view.set]{fullShare} f
abbrev oSlotP (p : Fin 2) (f : Buf (Elt F) ((oSlot p).view.loc (VT d L))) : sProp 𝕄 := (oSlot p).view.loc (VT d L) ↦[(oSlot p).view.set]{fullShare} f
abbrev oBlkP (t : Fin 8) (f : Buf (Elt F) ((oBlk L t).view.loc (VT d L))) : sProp 𝕄 := (oBlk L t).view.loc (VT d L) ↦[(oBlk L t).view.set]{fullShare} f
abbrev iCell (p : Fin 2) : sProp 𝕄 := semVal (VT d L, SemLoc.dma (iSem p).sem) 0
abbrev oCell (p : Fin 2) : sProp 𝕄 := semVal (VT d L, SemLoc.dma (oSem p).sem) 0
abbrev gCell : sProp 𝕄 := semVal (VT d L, SemLoc.dma (cc0_scoped4).sem) 0

/-- An index copy in flight: list `t` into slot `p`, over `f`. -/
abbrev iFl (p : Fin 2) (t : Fin 8) (f : Buf (Elt F) ((iSlot p).view.loc (VT d L))) : sProp 𝕄 :=
  Transfers.Flight countersEmb (VT d L) (SemLoc.dma (iSem p).sem) (default : HIx 1) 4096
    iprop(iSlotP d L p ((iSlot p).view.writes (Elt F) f [⟨Rect.whole S1x1x128, ReadAs.same.apply ((iRow L t).view.read (Elt F) XI)⟩]) ∗ iRowP d L XI t)
/-- An output copy in flight: slot `p`, holding `g`, to block `t`, over `f`. -/
abbrev oFl (p : Fin 2) (t : Fin 8) (g : Buf (Elt F) ((oSlot p).view.loc (VT d L))) (f : Buf (Elt F) ((oBlk L t).view.loc (VT d L))) : sProp 𝕄 :=
  Transfers.Flight countersEmb (VT d L) (SemLoc.dma (oSem p).sem) (default : HIx 1) 1048576
    iprop(oBlkP d L t ((oBlk L t).view.writes (Elt F) f [⟨Rect.whole S128x2x128, ReadAs.same.apply ((oSlot p).view.read (Elt F) g)⟩]) ∗ oSlotP d L p g)

abbrev tripProg (k : Fin k0_t1_loop.trips) := k0_t1_body (F := F) L yM (Memref.isWhole_whole _) iM (Memref.isWhole_whole _) oM (Memref.isWhole_whole _)
    ibM (Memref.isWhole_whole _) cc0_scoped1 obM (Memref.isWhole_whole _) cc0_scoped3 cc0_scoped4 (BitVec.ofNat 32 (4 * tile L)) k (w6 k.val, w7 k.val, w7 k.val, w9 k.val, w10 k.val, w11 k.val)

/-- The list in slot `p`, as the gather names it. -/
abbrev offs (p : Fin 2) : Memref sig .scVector .vmem S128 .i32 :=
  ((iSlot p).slice (Rect.unit (s := S1x1x128) ![0, 0, 0] S1x1x128.size inb_S1x1x128_S1x1x128_0_0_0) (fun _ => rfl)).squeeze S128 squeezes_S1x1x128_S128

/-- The entry of the list array that names the row gathered to element `j` of the output. -/
def lst (j : S8192x4x2x128.Idx) : S4x64x128.Idx
  | 0 => j 1
  | 1 => ⟨(j 0).val / 128, by have : (j 0).val < 8192 := (j 0).isLt; show (j 0).val / 128 < 64; omega⟩
  | 2 => ⟨(j 0).val % 128, by show (j 0).val % 128 < 128; omega⟩
/-- The element of the table gathered there. -/
def srcIx (I : S4x64x128.Idx → BitVec 32) (j : S8192x4x2x128.Idx) : S36864x2x128.Idx
  | 0 => Fin.ofNat 36864 (I (lst j)).toNat
  | 1 => j 2
  | 2 => j 3
/-- What the gather leaves in the output. -/
def GOf (Y : S36864x2x128.Idx → Elt F .f32) (I : S4x64x128.Idx → BitVec 32) : S8192x4x2x128.Idx → Elt F .f32 := fun j => Y (srcIx I j)

/-- The contents of an index slot that a list was copied to. -/
abbrev lstAt (p : Fin 2) (t : Fin 8) (g : Buf (Elt F) ((iSlot p).view.loc (VT d L))) : Buf (Elt F) ((iSlot p).view.loc (VT d L)) :=
  (iSlot p).view.writes (Elt F) g [⟨Rect.whole S1x1x128, ReadAs.same.apply ((iRow L t).view.read (Elt F) XI)⟩]

theorem offs_emb : ∀ x : S128.Idx, (((Rect.unit (s := S1x1x128) ![0, 0, 0] S1x1x128.size inb_S1x1x128_S1x1x128_0_0_0).emb
    (Shape.reshapeEquiv squeezes_S1x1x128_S128.numel_eq x)) 2).val = (x 0).val := by decide +kernel

/-- Entry `x` of the list in the slot. -/
theorem offs_read (p : Fin 2) (t : Fin 8) (g : Buf (Elt F) ((iSlot p).view.loc (VT d L))) (x : S128.Idx) (j : S4x64x128.Idx)
    (h0 : (j 0).val = blk L t.val / 64) (h1 : (j 1).val = blk L t.val % 64) (h2 : (j 2).val = (x 0).val) :
    (offs p).view.read (Elt F) (lstAt d L XI p t g) x = XI j := by
  have e : (offs p).view.read (Elt F) (lstAt d L XI p t g) x
      = (iSlot p).view.read (Elt F) (lstAt d L XI p t g) ((Rect.unit (s := S1x1x128) ![0, 0, 0] S1x1x128.size inb_S1x1x128_S1x1x128_0_0_0).emb
          (Shape.reshapeEquiv squeezes_S1x1x128_S128.numel_eq x)) := by
    rw [View.read_apply, View.read_apply]; rfl
  have hx := offs_emb x
  rw [e, View.read_writes_whole]
  generalize (Rect.unit (s := S1x1x128) ![0, 0, 0] S1x1x128.size inb_S1x1x128_S1x1x128_0_0_0).emb
          (Shape.reshapeEquiv squeezes_S1x1x128_S128.numel_eq x) = y at hx ⊢
  refine ((View.read_apply _ _).trans (cast_eq _ _)).trans (congrArg XI ?_)
  refine (show ∀ u : S4x64x128.Idx, (u 0).val = (j 0).val → (u 1).val = (j 1).val → (u 2).val = (j 2).val → u = j from fun u a b c => by
    funext a; apply Fin.ext; match a with
    | 0 => assumption
    | 1 => assumption
    | 2 => assumption) _ ?_ ?_ ?_
  · show blk L t.val / 64 + 1 * (y 0).val = _; rw [h0]; have y0 : (y 0).val < 1 := (y 0).isLt; omega
  · show blk L t.val % 64 + 1 * (y 1).val = _; rw [h1]; have y1 : (y 1).val < 1 := (y 1).isLt; omega
  · show 0 + 1 * (y 2).val = _; rw [h2]; omega

theorem hin_of (hXI : ∀ j, (XI j).toNat < 36864) (p : Fin 2) (t : Fin 8) (g : Buf (Elt F) ((iSlot p).view.loc (VT d L))) :
    ∀ x, ((offs p).view.read (Elt F) (lstAt d L XI p t g) x).toNat < S36864x2x128.size gathers_S36864x2x128_S128x2x128.axis := by
  intro x
  have hb := blk_lt L t.val t.isLt
  have := offs_read d L XI p t g x (fun | 0 => ⟨blk L t.val / 64, by show _ < 4; omega⟩ | 1 => ⟨blk L t.val % 64, by show _ < 64; omega⟩ | 2 => x 0) rfl rfl rfl
  rw [this]; exact hXI _

/-- The element of the output that element `x` of the block of trip `t` is. -/
abbrev oIx (t : Fin 8) (x : S128x2x128.Idx) : S8192x4x2x128.Idx := (oBlk L t).view.emb x

theorem oBlk_emb (t : Fin 8) (x : S128x2x128.Idx) :
    ((oIx L t x) 0).val = 128 * (blk L t.val % 64) + (x 0).val ∧ ((oIx L t x) 1).val = blk L t.val / 64
      ∧ ((oIx L t x) 2).val = (x 1).val ∧ ((oIx L t x) 3).val = (x 2).val := by
  let y : S128x1x2x128.Idx := fun | 0 => x 0 | 1 => ⟨0, by decide⟩ | 2 => x 1 | 3 => x 2
  have e : Shape.reshapeEquiv squeezes_S128x1x2x128_S128x2x128.numel_eq x = y := by
    refine Shape.reshapeEquiv_eq_of_rowMajor _ ?_
    rw [Shape.rowMajor_val_three, Shape.rowMajor_val_four]
    show (((x 0).val * 1 + 0) * 2 + (x 1).val) * 128 + (x 2).val = ((x 0).val * 2 + (x 1).val) * 128 + (x 2).val
    omega
  refine ⟨?_, ?_, ?_, ?_⟩
  · show 128 * (blk L t.val % 64) + 1 * (Shape.reshapeEquiv squeezes_S128x1x2x128_S128x2x128.numel_eq x 0).val = _
    rw [e]; show _ + 1 * (x 0).val = _; omega
  · show blk L t.val / 64 + 1 * (Shape.reshapeEquiv squeezes_S128x1x2x128_S128x2x128.numel_eq x 1).val = _
    rw [e]; rfl
  · show 0 + 1 * (Shape.reshapeEquiv squeezes_S128x1x2x128_S128x2x128.numel_eq x 2).val = _
    rw [e]; show 0 + 1 * (x 1).val = _; omega
  · show 0 + 1 * (Shape.reshapeEquiv squeezes_S128x1x2x128_S128x2x128.numel_eq x 3).val = _
    rw [e]; show 0 + 1 * (x 2).val = _; omega

theorem yAll_emb (z : S36864x2x128.Idx) : ((yAll).view.emb z : S36864x2x128.Idx) = z := by
  funext a; apply Fin.ext
  match a with
  | 0 => show 0 + 1 * (z 0).val = _; omega
  | 1 => show 0 + 1 * (z 1).val = _; omega
  | 2 => show 0 + 1 * (z 2).val = _; omega

theorem yAll_read (z : S36864x2x128.Idx) : (yAll).view.read (Elt F) XY z = XY z :=
  ((View.read_apply _ _).trans (cast_eq _ _)).trans (congrArg XY (yAll_emb z))

/-- The element a gather by the rows `r` takes. -/
theorem gidx (r : Fin (S128x2x128.size gathers_S36864x2x128_S128x2x128.axis') → Fin (S36864x2x128.size gathers_S36864x2x128_S128x2x128.axis)) (x : S128x2x128.Idx) (j : S36864x2x128.Idx)
    (h0 : (r (x 0)).val = (j 0).val) (h1 : (x 1).val = (j 1).val) (h2 : (x 2).val = (j 2).val) :
    gathers_S36864x2x128_S128x2x128.idx r x = j := by
  funext a; apply Fin.ext
  match a with
  | 0 => exact (congrArg Fin.val (Shape.Gathers.idx_axis _ r x)).trans h0
  | 1 => exact (Shape.Gathers.idx_of_ne _ r x _ (by decide)).trans h1
  | 2 => exact (Shape.Gathers.idx_of_ne _ r x _ (by decide)).trans h2

theorem rows_val (w : S128.Idx → Elt F .i32) (hn : S128.numel = S128x2x128.size gathers_S36864x2x128_S128x2x128.axis')
    (h : ∀ x, (w x).toNat < S36864x2x128.size gathers_S36864x2x128_S128x2x128.axis) (k : Fin (S128x2x128.size gathers_S36864x2x128_S128x2x128.axis')) :
    ∃ y : S128.Idx, (y 0).val = k.val ∧ (SparseCore.rows (F := F) w hn h k).val = (w y).toNat := by
  refine ⟨S128.rowMajor.symm (k.cast hn.symm), ?_, rfl⟩
  rw [← Shape.rowMajor_val_one (d := ![128]), Equiv.apply_symm_apply]; rfl

/-- The rows gathered by the list of trip `t` are the output's block of that trip. -/
theorem gather_val (hXI : ∀ j, (XI j).toNat < 36864) (p : Fin 2) (t : Fin 8) (g : Buf (Elt F) ((iSlot p).view.loc (VT d L)))
    (hn : S128.numel = S128x2x128.size gathers_S36864x2x128_S128x2x128.axis') (x : S128x2x128.Idx) :
    SparseCore.gatherPayload gathers_S36864x2x128_S128x2x128 ((yAll).view.read (Elt F) XY)
        (SparseCore.rows ((offs p).view.read (Elt F) (lstAt d L XI p t g)) hn (hin_of d L XI hXI p t g)) x
      = GOf (F := F) XY XI (oIx L t x) := by
  have hin := hin_of d L XI hXI p t g
  have hw : ∀ y j, _ := offs_read d L XI p t g
  have hr := rows_val ((offs p).view.read (Elt F) (lstAt d L XI p t g)) hn hin
  change SparseCore.gatherPayload _ _ (SparseCore.rows _ hn hin) x = _
  generalize (offs p).view.read (Elt F) (lstAt d L XI p t g) = w at hin hw hr ⊢
  generalize SparseCore.rows w hn hin = r at hr ⊢
  obtain ⟨e0, e1, e2, e3⟩ := oBlk_emb L t x
  have hb := blk_lt L t.val t.isLt
  have hx0 : (x 0).val < 128 := (x 0).isLt
  obtain ⟨y, hy, hr⟩ := hr (x 0)
  rw [SparseCore.gatherPayload, yAll_read]
  refine congrArg XY (gidx r x (srcIx XI (oIx L t x)) ?_ e2.symm e3.symm)
  rw [hr, hw y (lst (oIx L t x)) e1
    (by show (oIx L t x 0).val / 128 = _; rw [e0]; omega)
    (by show (oIx L t x 0).val % 128 = _; rw [e0, hy]; omega)]
  exact (Nat.mod_eq_of_lt (hXI (lst (oIx L t x)))).symm

theorem of_eq {P Q : sProp 𝕄} (e : P = Q) : P ⊢ Q := e ▸ .rfl

/-! ## The states of the slots and of the blocks -/

/-- An index slot at rest; with the list of trip `t` on its way into it. -/
abbrev iFree (p : Fin 2) : sProp 𝕄 := iprop((∃ f, iSlotP d L p f) ∗ iCell d L p)
abbrev iBusy (p : Fin 2) (t : Fin 8) : sProp 𝕄 := iprop(∃ f, iFl d L XI p t f)
/-- A row slot at rest; with the rows of trip `t` on their way out of it. -/
abbrev oFree (p : Fin 2) : sProp 𝕄 := iprop((∃ f, oSlotP (F := F) d L p f) ∗ oCell d L p)
abbrev oBusy (p : Fin 2) (t : Fin 8) : sProp 𝕄 :=
  iprop(∃ g f, ⌜∀ x, (oSlot p).view.read (Elt F) g x = GOf (F := F) XY XI (oIx L t x)⌝ ∗ oFl d L p t g f)
/-- A block of the output at what the gather leaves there; at anything. -/
abbrev oDone (t : Fin 8) : sProp 𝕄 := oBlkP d L t (GOf (F := F) XY XI)
abbrev oTodo (t : Fin 8) : sProp 𝕄 := iprop(∃ f, oBlkP (F := F) d L t f)
/-- What the core owes, its waits grown by waits of its own copies. -/
abbrev owesMore (O : CellTallies nD τ sig (HIx 1)) (W : Waits sig (HIx 1)) : sProp 𝕄 :=
  iprop(∃ W', ⌜∀ p ∈ W', p ∈ W ∨ p.2 = none⌝ ∗ owes (VT d L) O W')

/-- A block that the rows were copied to is at what the gather leaves there. -/
theorem done_of (p : Fin 2) (t : Fin 8) (g : Buf (Elt F) ((oSlot p).view.loc (VT d L))) (f : Buf (Elt F) ((oBlk L t).view.loc (VT d L)))
    (h : ∀ x, (oSlot p).view.read (Elt F) g x = GOf (F := F) XY XI (oIx L t x)) :
    oBlkP (F := F) d L t ((oBlk L t).view.writes (Elt F) f [⟨Rect.whole S128x2x128, ReadAs.same.apply ((oSlot p).view.read (Elt F) g)⟩])
      = oDone d L XY XI t := by
  refine pointsTo_congr fun i hi => ?_
  obtain ⟨x, -, rfl⟩ := Finset.mem_map.mp hi
  have e := congrFun (View.read_writes_whole (Val := Elt F) (oBlk L t).view f (ReadAs.same.apply ((oSlot p).view.read (Elt F) g))) x
  rw [View.read_apply] at e
  exact (cast_eq _ _).symm.trans (e.trans (h x))

end Tile

end Cert.Proof.Gather

end
-- ==== Proof.Trip.lean ====
module

public import proofs.«01_k».proof.Proof.Res

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile
variable (d : Dev nD) (L : grid0.Coords) (q : PosShare TreeShare)
variable (XY : Buf (Elt F) ((yAll).view.loc (VT d L))) (XI : Buf (Elt F) (iM.view.loc (VT d L)))

abbrev wordsAt (k : ℕ) : BitVec 32 × BitVec 32 × BitVec 32 × BitVec 32 × BitVec 32 × BitVec 32 := (w6 k, w7 k, w7 k, w9 k, w10 k, w11 k)

set_option maxHeartbeats 4000000 in
/-- A trip of the middle. -/
theorem trip_mid (k : Fin k0_t1_loop.trips) (h0 : 0 < k.val) (h7 : k.val < 7) (O : CellTallies nD τ sig (HIx 1)) (W : Waits sig (HIx 1)) (hXI : ∀ j, (XI j).toNat < 36864) :
    (iprop(Transfers.MayWaits (VT d L) (default : HIx 1) O
        ∗ yP d L q XY ∗ iRowP d L XI (Ring.bk 8 (k.val + 1))
        ∗ iFree d L (Ring.sl 2 (k.val + 1)) ∗ iBusy d L XI (Ring.sl 2 k.val) (Ring.bk 8 k.val)
        ∗ oBusy d L XY XI (Ring.sl 2 (k.val + 1)) (Ring.bk 8 (k.val - 1)) ∗ oFree d L (Ring.sl 2 k.val)
        ∗ oTodo d L (Ring.bk 8 k.val) ∗ gCell d L ∗ owes (VT d L) O W) : sProp 𝕄)
      ⊢ wp frame (wpE (defs₀ (F := F)) 𝒱₀ (VT d L) none) Set.univ (tripProg L k)
        (fun r => iprop(⌜r = wordsAt (k.val + 1)⌝ ∗ yP d L q XY ∗ iRowP d L XI (Ring.bk 8 k.val)
          ∗ iBusy d L XI (Ring.sl 2 (k.val + 1)) (Ring.bk 8 (k.val + 1)) ∗ iFree d L (Ring.sl 2 k.val)
          ∗ oBusy d L XY XI (Ring.sl 2 k.val) (Ring.bk 8 k.val) ∗ oFree d L (Ring.sl 2 (k.val + 1))
          ∗ oDone d L XY XI (Ring.bk 8 (k.val - 1)) ∗ gCell d L ∗ owesMore d L O W)) := by
  iintro ⟨#Hmw, HY, HR, ⟨⟨%fi, HI⟩, HIc⟩, ⟨%fi', HIF⟩, ⟨%g, %f, %hg, HOF⟩, ⟨⟨%fo, HO⟩, HOc⟩, ⟨%f', HB⟩, HGc, HW⟩
  have e1 : k0_cond1 L k (w10 k.val) (w11 k.val) = 1#1 := (cond1_iff L k).mpr h7
  have e2 := cond2_true L k
  have e5 := cond5_true L k
  have e7 : k0_cond7 L k (w10 k.val) (w11 k.val) = 1#1 := (cond7_iff L k).mpr h0
  have k1 := chk1_true L k
  have k2 := chk2_true k
  have k3 := chk3_true k
  have hin := fun g => hin_of d L XI hXI (Ring.sl 2 k.val) (Ring.bk 8 k.val) g
  dsimp only [tripProg]
  sl_unfold [k0_t1_body]
  sl_exec
  simp only [c10 k, c11 k]
  sl_exec
  sl_step
  isplitr
  · ipureintro
    clear * - h0 h7
    clear trip_mid XY XI
    revert L k
    decide +kernel
  isplitl [HY]; · iexact HY
  isplitl [HIF_src]; · iexact HIF_src
  isplitl [HIc]; · iexists fi; iexact HIc
  isplitl [HIF_dst HIF]
  · isplitl [HIF_dst]; · iexists _; iexact HIF_dst
    iexact HIF
  isplitl [HOc]
  · iexists _; iexists f'
    isplitr
    rotate_left
    · iexact HOc
    · ipureintro
      intro x
      rw [View.read_writes_whole]
      exact gather_val d L XY XI hXI (Ring.sl 2 k.val) (Ring.bk 8 k.val) _ rfl x
  isplitl [HOF_src HOF]
  · isplitl [HOF_src]; · iexists _; iexact HOF_src
    iexact HOF
  isplitl [HOF_dst]
  · iapply (of_eq (done_of d L XY XI (Ring.sl 2 (k.val + 1)) (Ring.bk 8 (k.val - 1)) g f hg)); iexact HOF_dst
  isplitl [HGc]; · iexact HGc
  iexists _
  isplitr
  rotate_left
  · iexact HW
  · ipureintro
    intro p hp
    simp only [Set.mem_insert_iff, Finset.mem_insert] at hp
    rcases hp with rfl | rfl | rfl | hp
    · exact Or.inr rfl
    · exact Or.inr rfl
    · exact Or.inr rfl
    · exact Or.inl hp

set_option maxHeartbeats 4000000 in
/-- The first trip: no output copy to wait for. -/
theorem trip_first (k : Fin k0_t1_loop.trips) (h0 : k.val = 0) (O : CellTallies nD τ sig (HIx 1)) (W : Waits sig (HIx 1)) (hXI : ∀ j, (XI j).toNat < 36864) :
    (iprop(Transfers.MayWaits (VT d L) (default : HIx 1) O
        ∗ yP d L q XY ∗ iRowP d L XI (Ring.bk 8 (k.val + 1))
        ∗ iFree d L (Ring.sl 2 (k.val + 1)) ∗ iBusy d L XI (Ring.sl 2 k.val) (Ring.bk 8 k.val)
        ∗ oFree d L (Ring.sl 2 k.val)
        ∗ oTodo d L (Ring.bk 8 k.val) ∗ gCell d L ∗ owes (VT d L) O W) : sProp 𝕄)
      ⊢ wp frame (wpE (defs₀ (F := F)) 𝒱₀ (VT d L) none) Set.univ (tripProg L k)
        (fun r => iprop(⌜r = wordsAt (k.val + 1)⌝ ∗ yP d L q XY ∗ iRowP d L XI (Ring.bk 8 k.val)
          ∗ iBusy d L XI (Ring.sl 2 (k.val + 1)) (Ring.bk 8 (k.val + 1)) ∗ iFree d L (Ring.sl 2 k.val)
          ∗ oBusy d L XY XI (Ring.sl 2 k.val) (Ring.bk 8 k.val) ∗ gCell d L ∗ owesMore d L O W)) := by
  iintro ⟨#Hmw, HY, HR, ⟨⟨%fi, HI⟩, HIc⟩, ⟨%fi', HIF⟩, ⟨⟨%fo, HO⟩, HOc⟩, ⟨%f', HB⟩, HGc, HW⟩
  have h7 : k.val < 7 := by omega
  have e1 : k0_cond1 L k (w10 k.val) (w11 k.val) = 1#1 := (cond1_iff L k).mpr h7
  have e2 := cond2_true L k
  have e5 := cond5_true L k
  have e7 : ¬ k0_cond7 L k (w10 k.val) (w11 k.val) = 1#1 := fun h => absurd ((cond7_iff L k).mp h) (by omega)
  have k1 := chk1_true L k
  have k2 := chk2_true k
  have k3 := chk3_true k
  have hin := fun g => hin_of d L XI hXI (Ring.sl 2 k.val) (Ring.bk 8 k.val) g
  dsimp only [tripProg]
  sl_unfold [k0_t1_body]
  sl_exec
  simp only [c10 k, c11 k]
  sl_exec
  sl_step
  isplitr
  · ipureintro
    clear * - h0 h7
    clear trip_first XY XI
    revert L k
    decide +kernel
  isplitl [HY]; · iexact HY
  isplitl [HIF_src]; · iexact HIF_src
  isplitl [HIc]; · iexists fi; iexact HIc
  isplitl [HIF_dst HIF]
  · isplitl [HIF_dst]; · iexists _; iexact HIF_dst
    iexact HIF
  isplitl [HOc]
  · iexists _; iexists f'
    isplitr
    rotate_left
    · iexact HOc
    · ipureintro
      intro x
      rw [View.read_writes_whole]
      exact gather_val d L XY XI hXI (Ring.sl 2 k.val) (Ring.bk 8 k.val) _ rfl x
  isplitl [HGc]; · iexact HGc
  iexists _
  isplitr
  rotate_left
  · iexact HW
  · ipureintro
    intro p hp
    simp only [Set.mem_insert_iff, Finset.mem_insert] at hp
    rcases hp with rfl | rfl | hp
    · exact Or.inr rfl
    · exact Or.inr rfl
    · exact Or.inl hp

set_option maxHeartbeats 4000000 in
/-- The last trip: no list to fetch. -/
theorem trip_last (k : Fin k0_t1_loop.trips) (h7 : k.val = 7) (O : CellTallies nD τ sig (HIx 1)) (W : Waits sig (HIx 1)) (hXI : ∀ j, (XI j).toNat < 36864) :
    (iprop(Transfers.MayWaits (VT d L) (default : HIx 1) O
        ∗ yP d L q XY
        ∗ iBusy d L XI (Ring.sl 2 k.val) (Ring.bk 8 k.val)
        ∗ oBusy d L XY XI (Ring.sl 2 (k.val + 1)) (Ring.bk 8 (k.val - 1)) ∗ oFree d L (Ring.sl 2 k.val)
        ∗ oTodo d L (Ring.bk 8 k.val) ∗ gCell d L ∗ owes (VT d L) O W) : sProp 𝕄)
      ⊢ wp frame (wpE (defs₀ (F := F)) 𝒱₀ (VT d L) none) Set.univ (tripProg L k)
        (fun r => iprop(⌜r = wordsAt (k.val + 1)⌝ ∗ yP d L q XY ∗ iRowP d L XI (Ring.bk 8 k.val)
          ∗ iFree d L (Ring.sl 2 k.val)
          ∗ oBusy d L XY XI (Ring.sl 2 k.val) (Ring.bk 8 k.val) ∗ oFree d L (Ring.sl 2 (k.val + 1))
          ∗ oDone d L XY XI (Ring.bk 8 (k.val - 1)) ∗ gCell d L ∗ owesMore d L O W)) := by
  iintro ⟨#Hmw, HY, ⟨%fi', HIF⟩, ⟨%g, %f, %hg, HOF⟩, ⟨⟨%fo, HO⟩, HOc⟩, ⟨%f', HB⟩, HGc, HW⟩
  have h0 : 0 < k.val := by omega
  have e1 : ¬ k0_cond1 L k (w10 k.val) (w11 k.val) = 1#1 := fun h => absurd ((cond1_iff L k).mp h) (by omega)
  have e2 := cond2_true L k
  have e5 := cond5_true L k
  have e7 : k0_cond7 L k (w10 k.val) (w11 k.val) = 1#1 := (cond7_iff L k).mpr h0
  have k1 := chk1_true L k
  have k2 := chk2_true k
  have k3 := chk3_true k
  have hin := fun g => hin_of d L XI hXI (Ring.sl 2 k.val) (Ring.bk 8 k.val) g
  dsimp only [tripProg]
  sl_unfold [k0_t1_body]
  sl_exec
  simp only [c10 k, c11 k]
  sl_exec
  sl_step
  isplitr
  · ipureintro
    clear * - h0 h7
    clear trip_last XY XI
    revert L k
    decide +kernel
  isplitl [HY]; · iexact HY
  isplitl [HIF_src]; · iexact HIF_src
  isplitl [HIF_dst HIF]
  · isplitl [HIF_dst]; · iexists _; iexact HIF_dst
    iexact HIF
  isplitl [HOc]
  · iexists _; iexists f'
    isplitr
    rotate_left
    · iexact HOc
    · ipureintro
      intro x
      rw [View.read_writes_whole]
      exact gather_val d L XY XI hXI (Ring.sl 2 k.val) (Ring.bk 8 k.val) _ rfl x
  isplitl [HOF_src HOF]
  · isplitl [HOF_src]; · iexists _; iexact HOF_src
    iexact HOF
  isplitl [HOF_dst]
  · iapply (of_eq (done_of d L XY XI (Ring.sl 2 (k.val + 1)) (Ring.bk 8 (k.val - 1)) g f hg)); iexact HOF_dst
  isplitl [HGc]; · iexact HGc
  iexists _
  isplitr
  rotate_left
  · iexact HW
  · ipureintro
    intro p hp
    simp only [Set.mem_insert_iff, Finset.mem_insert] at hp
    rcases hp with rfl | rfl | rfl | hp
    · exact Or.inr rfl
    · exact Or.inr rfl
    · exact Or.inr rfl
    · exact Or.inl hp

end Tile

end Cert.Proof.Gather

end
-- ==== Proof.Tile.lean ====
module

public import proofs.«01_k».proof.Proof.Trip

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile
variable (d : Dev nD) (L : grid0.Coords) (q : PosShare TreeShare)
variable (XY : Buf (Elt F) ((yAll).view.loc (VT d L))) (XI : Buf (Elt F) (iM.view.loc (VT d L)))

/-! ## What a trip finds and leaves -/

/-- List `t` before trip `k`: with the copy that fetches it, or home. -/
abbrev rowSt (k : ℕ) (t : Fin 8) : sProp 𝕄 := if t.val = k then iprop(emp) else iRowP d L XI t
/-- Block `t` before trip `k`: done, with the copy that fills it, or to do. -/
abbrev blkSt (k : ℕ) (t : Fin 8) : sProp 𝕄 :=
  if t.val + 1 < k then oDone d L XY XI t else if t.val + 1 = k then iprop(emp) else oTodo d L t
/-- The index slots before trip `k`. -/
abbrev inSt (k : ℕ) : sProp 𝕄 :=
  if k < 8 then iprop(iBusy d L XI (Ring.sl 2 k) (Ring.bk 8 k) ∗ iFree d L (Ring.sl 2 (k + 1))) else iprop(iFree d L (Ring.sl 2 k) ∗ iFree d L (Ring.sl 2 (k + 1)))
/-- The row slot that trip `k` does not fill. -/
abbrev outSt (k : ℕ) : sProp 𝕄 := if k = 0 then oFree d L (Ring.sl 2 (k + 1)) else oBusy d L XY XI (Ring.sl 2 (k + 1)) (Ring.bk 8 (k - 1))

/-- The loop's invariant. -/
def Inv (O : CellTallies nD τ sig (HIx 1)) (W : Waits sig (HIx 1)) (k : ℕ) (r : BitVec 32 × BitVec 32 × BitVec 32 × BitVec 32 × BitVec 32 × BitVec 32) : sProp 𝕄 :=
  iprop(Transfers.MayWaits (VT d L) (default : HIx 1) O ∗ ⌜r = wordsAt k⌝ ∗ yP d L q XY ∗ bigSep Finset.univ (rowSt d L XI k) ∗ inSt d L XI k ∗ outSt d L XY XI k ∗ oFree d L (Ring.sl 2 k)
    ∗ bigSep Finset.univ (blkSt d L XY XI k) ∗ gCell d L ∗ owesMore d L O W)

theorem two_pt (Φ : Fin 8 → sProp 𝕄) {a b : Fin 8} (hab : a ≠ b) :
    bigSep Finset.univ Φ = iprop(Φ a ∗ Φ b ∗ bigSep ((Finset.univ.erase a).erase b) Φ) := by
  rw [SparseCore.bigSep_erase' (Finset.mem_univ a), SparseCore.bigSep_erase' (Finset.mem_erase.mpr ⟨hab.symm, Finset.mem_univ b⟩)]

theorem two_pt_congr {Φ Ψ : Fin 8 → sProp 𝕄} {a b : Fin 8} (h : ∀ t, t ≠ a → t ≠ b → Φ t = Ψ t) :
    bigSep ((Finset.univ.erase a).erase b) Φ = bigSep ((Finset.univ.erase a).erase b) Ψ :=
  bigSep_congr fun t ht => h t (Finset.ne_of_mem_erase (Finset.mem_of_mem_erase ht)) (Finset.ne_of_mem_erase ht)

theorem one_pt_congr {Φ Ψ : Fin 8 → sProp 𝕄} {a : Fin 8} (h : ∀ t, t ≠ a → Φ t = Ψ t) :
    bigSep (Finset.univ.erase a) Φ = bigSep (Finset.univ.erase a) Ψ :=
  bigSep_congr fun t ht => h t (Finset.ne_of_mem_erase ht)

theorem owesMore_trans (O : CellTallies nD τ sig (HIx 1)) {W W' : Waits sig (HIx 1)} (h : ∀ p ∈ W', p ∈ W ∨ p.2 = none) :
    owesMore (F := F) d L O W' ⊢ owesMore d L O W := by
  iintro ⟨%W2, %h2, H⟩
  iexists W2; isplitr
  · ipureintro; intro p hp; rcases h2 p hp with hp | hp
    · exact h p hp
    · exact .inr hp
  · iexact H

theorem bk_ne {a b : ℕ} (ha : a < 8) (hb : b < 8) (h : a ≠ b) : Ring.bk 8 a ≠ Ring.bk 8 b := fun e => h (by
  have := congrArg Fin.val e; rwa [Ring.bk_val ha, Ring.bk_val hb] at this)
theorem ne_bk {t : Fin 8} {a : ℕ} (ha : a < 8) (h : t ≠ Ring.bk 8 a) : t.val ≠ a := fun e => h (Fin.ext (by rw [Ring.bk_val ha, e]))

theorem trip_inv (k : Fin k0_t1_loop.trips) (O : CellTallies nD τ sig (HIx 1)) (W : Waits sig (HIx 1)) (hXI : ∀ j, (XI j).toNat < 36864) (r) :
    (Inv d L q XY XI O W k.val r : sProp 𝕄)
      ⊢ wp frame (wpE (defs₀ (F := F)) 𝒱₀ (VT d L) none) Set.univ (k0_t1_body (F := F) L yM (Memref.isWhole_whole _) iM (Memref.isWhole_whole _) oM (Memref.isWhole_whole _)
          ibM (Memref.isWhole_whole _) cc0_scoped1 obM (Memref.isWhole_whole _) cc0_scoped3 cc0_scoped4 (BitVec.ofNat 32 (4 * tile L)) k r)
        (fun r => Inv d L q XY XI O W (k.val + 1) r) := by
  have hk : k.val < 8 := Nat.lt_of_lt_of_eq k.isLt trips_eq
  have sl2 : Ring.sl 2 (k.val + 1 + 1) = Ring.sl 2 k.val := Ring.sl_add 2 k.val
  unfold Inv
  iintro ⟨#Hmw, %hr, HY, HR, HI, HOs, HO, HB, HG, %W', %hW', HW⟩
  subst hr
  by_cases h7 : k.val < 7
  · have hab : Ring.bk 8 k.val ≠ Ring.bk 8 (k.val + 1) := bk_ne hk (by omega) (by omega)
    have hRs : bigSep Finset.univ (rowSt d L XI k.val) = iprop(iprop(emp) ∗ iRowP d L XI (Ring.bk 8 (k.val + 1)) ∗ bigSep ((Finset.univ.erase (Ring.bk 8 k.val)).erase (Ring.bk 8 (k.val + 1))) (rowSt d L XI k.val)) := by
      rw [two_pt _ hab]
      congr 1
      · exact if_pos (Ring.bk_val hk)
      · congr 1; exact if_neg (by rw [Ring.bk_val (by omega)]; omega)
    have hRs' : bigSep Finset.univ (rowSt d L XI (k.val + 1)) = iprop(iRowP d L XI (Ring.bk 8 k.val) ∗ iprop(emp) ∗ bigSep ((Finset.univ.erase (Ring.bk 8 k.val)).erase (Ring.bk 8 (k.val + 1))) (rowSt d L XI k.val)) := by
      rw [two_pt _ hab]
      congr 1
      · exact if_neg (by rw [Ring.bk_val hk]; omega)
      · congr 1
        · exact if_pos (Ring.bk_val (by omega))
        · refine two_pt_congr fun t h1 h2 => ?_
          rw [rowSt, rowSt, if_neg (ne_bk (by omega) h2), if_neg (ne_bk hk h1)]
    have hIn : inSt d L XI k.val = iprop(iBusy d L XI (Ring.sl 2 k.val) (Ring.bk 8 k.val) ∗ iFree d L (Ring.sl 2 (k.val + 1))) := if_pos hk
    have hIn' : inSt d L XI (k.val + 1) = iprop(iBusy d L XI (Ring.sl 2 (k.val + 1)) (Ring.bk 8 (k.val + 1)) ∗ iFree d L (Ring.sl 2 (k.val + 1 + 1))) := if_pos (by omega)
    rw [sl2] at hIn'
    ihave HR := (of_eq hRs) $$ HR
    ihave HI := (of_eq hIn) $$ HI
    icases HR with ⟨-, HR, HRs⟩
    icases HI with ⟨HI0, HI1⟩
    by_cases h0 : k.val = 0
    · have hB : bigSep Finset.univ (blkSt d L XY XI k.val) = iprop(oTodo (F := F) d L (Ring.bk 8 k.val) ∗ bigSep (Finset.univ.erase (Ring.bk 8 k.val)) (blkSt d L XY XI k.val)) := by
        refine (SparseCore.bigSep_erase' (Finset.mem_univ (Ring.bk 8 k.val))).trans ?_
        congr 1
        rw [blkSt, if_neg (by omega), if_neg (by omega)]
      have hB' : bigSep Finset.univ (blkSt d L XY XI (k.val + 1)) = iprop(iprop(emp) ∗ bigSep (Finset.univ.erase (Ring.bk 8 k.val)) (blkSt d L XY XI k.val)) := by
        refine (SparseCore.bigSep_erase' (Finset.mem_univ (Ring.bk 8 k.val))).trans ?_
        congr 1
        · rw [blkSt, Ring.bk_val hk, if_neg (by omega), if_pos rfl]
        · refine one_pt_congr fun t h1 => ?_
          have := ne_bk hk h1
          rw [blkSt, blkSt, if_neg (by omega), if_neg (by omega), if_neg (by omega), if_neg (by omega)]
      have hO : outSt d L XY XI k.val = oFree d L (Ring.sl 2 (k.val + 1)) := if_pos h0
      have hO' : outSt d L XY XI (k.val + 1) = oBusy d L XY XI (Ring.sl 2 k.val) (Ring.bk 8 k.val) := (if_neg (by omega)).trans (by rw [sl2]; rfl)
      ihave HB := (of_eq hB) $$ HB
      ihave HOs := (of_eq hO) $$ HOs
      icases HB with ⟨HB, HBs⟩
      iapply (wp_wand_r Idealize.ShloMosaic.frame (wpE (defs₀ (F := F)) 𝒱₀ (VT d L) none) Set.univ)
      isplitl [HY HR HI0 HI1 HO HB HG HW]
      · iapply (trip_first d L q XY XI k h0 O W' hXI)
        isplitr; · iexact Hmw
        isplitl [HY]; · iexact HY
        isplitl [HR]; · iexact HR
        isplitl [HI1]; · iexact HI1
        isplitl [HI0]; · iexact HI0
        isplitl [HO]; · iexact HO
        isplitl [HB]; · iexact HB
        isplitl [HG]; · iexact HG
        iexact HW
      · iintro %r ⟨%hr, HY, HR, HI0, HI1, HOb, HG, HW⟩
        isplitr; · iexact Hmw
        isplitr; · ipureintro; exact hr
        isplitl [HY]; · iexact HY
        isplitl [HR HRs]
        · iapply (of_eq hRs'.symm)
          isplitl [HR]; · iexact HR
          isplitr; · iempintro
          iexact HRs
        isplitl [HI0 HI1]
        · iapply (of_eq hIn'.symm)
          isplitl [HI0]; · iexact HI0
          iexact HI1
        isplitl [HOb]; · iapply (of_eq hO'.symm); iexact HOb
        isplitl [HOs]; · iexact HOs
        isplitl [HBs]
        · iapply (of_eq hB'.symm)
          isplitr; · iempintro
          iexact HBs
        isplitl [HG]; · iexact HG
        iapply (owesMore_trans d L O hW'); iexact HW
    · have hab2 : Ring.bk 8 (k.val - 1) ≠ Ring.bk 8 k.val := bk_ne (by omega) hk (by omega)
      have hB : bigSep Finset.univ (blkSt d L XY XI k.val) = iprop(iprop(emp) ∗ oTodo (F := F) d L (Ring.bk 8 k.val) ∗ bigSep ((Finset.univ.erase (Ring.bk 8 (k.val - 1))).erase (Ring.bk 8 k.val)) (blkSt d L XY XI k.val)) := by
        rw [two_pt _ hab2]
        congr 1
        · rw [blkSt, Ring.bk_val (show k.val - 1 < 8 by omega), if_neg (by omega), if_pos (by omega)]
        · congr 1
          rw [blkSt, Ring.bk_val hk, if_neg (by omega), if_neg (by omega)]
      have hB' : bigSep Finset.univ (blkSt d L XY XI (k.val + 1)) = iprop(oDone d L XY XI (Ring.bk 8 (k.val - 1)) ∗ iprop(emp) ∗ bigSep ((Finset.univ.erase (Ring.bk 8 (k.val - 1))).erase (Ring.bk 8 k.val)) (blkSt d L XY XI k.val)) := by
        rw [two_pt _ hab2]
        congr 1
        · rw [blkSt, Ring.bk_val (show k.val - 1 < 8 by omega), if_pos (by omega)]
        · congr 1
          · rw [blkSt, Ring.bk_val hk, if_neg (by omega), if_pos rfl]
          · refine two_pt_congr fun t h1 h2 => ?_
            have h1 := ne_bk (by omega) h1
            have h2 := ne_bk hk h2
            by_cases h3 : t.val + 1 < k.val
            · rw [blkSt, blkSt, if_pos (by omega), if_pos h3]
            · rw [blkSt, blkSt, if_neg (by omega), if_neg (by omega), if_neg h3, if_neg (by omega)]
      have hO : outSt d L XY XI k.val = oBusy d L XY XI (Ring.sl 2 (k.val + 1)) (Ring.bk 8 (k.val - 1)) := if_neg (by omega)
      have hO' : outSt d L XY XI (k.val + 1) = oBusy d L XY XI (Ring.sl 2 k.val) (Ring.bk 8 k.val) := (if_neg (by omega)).trans (by rw [sl2]; rfl)
      ihave HB := (of_eq hB) $$ HB
      ihave HOs := (of_eq hO) $$ HOs
      icases HB with ⟨-, HB, HBs⟩
      iapply (wp_wand_r Idealize.ShloMosaic.frame (wpE (defs₀ (F := F)) 𝒱₀ (VT d L) none) Set.univ)
      isplitl [HY HR HI0 HI1 HOs HO HB HG HW]
      · iapply (trip_mid d L q XY XI k (by omega) h7 O W' hXI)
        isplitr; · iexact Hmw
        isplitl [HY]; · iexact HY
        isplitl [HR]; · iexact HR
        isplitl [HI1]; · iexact HI1
        isplitl [HI0]; · iexact HI0
        isplitl [HOs]; · iexact HOs
        isplitl [HO]; · iexact HO
        isplitl [HB]; · iexact HB
        isplitl [HG]; · iexact HG
        iexact HW
      · iintro %r ⟨%hr, HY, HR, HI0, HI1, HOb, HOs, HD, HG, HW⟩
        isplitr; · iexact Hmw
        isplitr; · ipureintro; exact hr
        isplitl [HY]; · iexact HY
        isplitl [HR HRs]
        · iapply (of_eq hRs'.symm)
          isplitl [HR]; · iexact HR
          isplitr; · iempintro
          iexact HRs
        isplitl [HI0 HI1]
        · iapply (of_eq hIn'.symm)
          isplitl [HI0]; · iexact HI0
          iexact HI1
        isplitl [HOb]; · iapply (of_eq hO'.symm); iexact HOb
        isplitl [HOs]; · iexact HOs
        isplitl [HD HBs]
        · iapply (of_eq hB'.symm)
          isplitl [HD]; · iexact HD
          isplitr; · iempintro
          iexact HBs
        isplitl [HG]; · iexact HG
        iapply (owesMore_trans d L O hW'); iexact HW
  · have h7 : k.val = 7 := by omega
    have hRs : bigSep Finset.univ (rowSt d L XI k.val) = iprop(iprop(emp) ∗ bigSep (Finset.univ.erase (Ring.bk 8 k.val)) (rowSt d L XI k.val)) := by
      refine (SparseCore.bigSep_erase' (Finset.mem_univ (Ring.bk 8 k.val))).trans ?_
      congr 1
      exact if_pos (Ring.bk_val hk)
    have hRs' : bigSep Finset.univ (rowSt d L XI (k.val + 1)) = iprop(iRowP d L XI (Ring.bk 8 k.val) ∗ bigSep (Finset.univ.erase (Ring.bk 8 k.val)) (rowSt d L XI k.val)) := by
      refine (SparseCore.bigSep_erase' (Finset.mem_univ (Ring.bk 8 k.val))).trans ?_
      congr 1
      · exact if_neg (by rw [Ring.bk_val hk]; omega)
      · refine one_pt_congr fun t h1 => ?_
        have := t.isLt
        rw [rowSt, rowSt, if_neg (by omega), if_neg (ne_bk hk h1)]
    have hIn : inSt d L XI k.val = iprop(iBusy d L XI (Ring.sl 2 k.val) (Ring.bk 8 k.val) ∗ iFree d L (Ring.sl 2 (k.val + 1))) := if_pos hk
    have hIn' : inSt d L XI (k.val + 1) = iprop(iFree d L (Ring.sl 2 (k.val + 1)) ∗ iFree d L (Ring.sl 2 (k.val + 1 + 1))) := if_neg (by omega)
    rw [sl2] at hIn'
    ihave HR := (of_eq hRs) $$ HR
    ihave HI := (of_eq hIn) $$ HI
    icases HR with ⟨-, HRs⟩
    icases HI with ⟨HI0, HI1⟩
    have hab2 : Ring.bk 8 (k.val - 1) ≠ Ring.bk 8 k.val := bk_ne (by omega) hk (by omega)
    have hB : bigSep Finset.univ (blkSt d L XY XI k.val) = iprop(iprop(emp) ∗ oTodo (F := F) d L (Ring.bk 8 k.val) ∗ bigSep ((Finset.univ.erase (Ring.bk 8 (k.val - 1))).erase (Ring.bk 8 k.val)) (blkSt d L XY XI k.val)) := by
      rw [two_pt _ hab2]
      congr 1
      · rw [blkSt, Ring.bk_val (show k.val - 1 < 8 by omega), if_neg (by omega), if_pos (by omega)]
      · congr 1
        rw [blkSt, Ring.bk_val hk, if_neg (by omega), if_neg (by omega)]
    have hB' : bigSep Finset.univ (blkSt d L XY XI (k.val + 1)) = iprop(oDone d L XY XI (Ring.bk 8 (k.val - 1)) ∗ iprop(emp) ∗ bigSep ((Finset.univ.erase (Ring.bk 8 (k.val - 1))).erase (Ring.bk 8 k.val)) (blkSt d L XY XI k.val)) := by
      rw [two_pt _ hab2]
      congr 1
      · rw [blkSt, Ring.bk_val (show k.val - 1 < 8 by omega), if_pos (by omega)]
      · congr 1
        · rw [blkSt, Ring.bk_val hk, if_neg (by omega), if_pos rfl]
        · refine two_pt_congr fun t h1 h2 => ?_
          have h1 := ne_bk (by omega) h1
          have h2 := ne_bk hk h2
          by_cases h3 : t.val + 1 < k.val
          · rw [blkSt, blkSt, if_pos (by omega), if_pos h3]
          · rw [blkSt, blkSt, if_neg (by omega), if_neg (by omega), if_neg h3, if_neg (by omega)]
    have hO : outSt d L XY XI k.val = oBusy d L XY XI (Ring.sl 2 (k.val + 1)) (Ring.bk 8 (k.val - 1)) := if_neg (by omega)
    have hO' : outSt d L XY XI (k.val + 1) = oBusy d L XY XI (Ring.sl 2 k.val) (Ring.bk 8 k.val) := (if_neg (by omega)).trans (by rw [sl2]; rfl)
    ihave HB := (of_eq hB) $$ HB
    ihave HOs := (of_eq hO) $$ HOs
    icases HB with ⟨-, HB, HBs⟩
    iapply (wp_wand_r Idealize.ShloMosaic.frame (wpE (defs₀ (F := F)) 𝒱₀ (VT d L) none) Set.univ)
    isplitl [HY HI0 HOs HO HB HG HW]
    · iapply (trip_last d L q XY XI k h7 O W' hXI)
      isplitr; · iexact Hmw
      isplitl [HY]; · iexact HY
      isplitl [HI0]; · iexact HI0
      isplitl [HOs]; · iexact HOs
      isplitl [HO]; · iexact HO
      isplitl [HB]; · iexact HB
      isplitl [HG]; · iexact HG
      iexact HW
    · iintro %r ⟨%hr, HY, HR, HI0, HOb, HOs, HD, HG, HW⟩
      isplitr; · iexact Hmw
      isplitr; · ipureintro; exact hr
      isplitl [HY]; · iexact HY
      isplitl [HR HRs]
      · iapply (of_eq hRs'.symm)
        isplitl [HR]; · iexact HR
        iexact HRs
      isplitl [HI0 HI1]
      · iapply (of_eq hIn'.symm)
        isplitl [HI1]; · iexact HI1
        iexact HI0
      isplitl [HOb]; · iapply (of_eq hO'.symm); iexact HOb
      isplitl [HOs]; · iexact HOs
      isplitl [HD HBs]
      · iapply (of_eq hB'.symm)
        isplitl [HD]; · iexact HD
        isplitr; · iempintro
        iexact HBs
      isplitl [HG]; · iexact HG
      iapply (owesMore_trans d L O hW'); iexact HW

set_option maxHeartbeats 1000000 in
theorem tile_run (O : CellTallies nD τ sig (HIx 1)) (W : Waits sig (HIx 1)) (hXI : ∀ j, (XI j).toNat < 36864) :
    (iprop(Transfers.MayWaits (VT d L) (default : HIx 1) O
        ∗ yP d L q XY ∗ bigSep Finset.univ (iRowP d L XI) ∗ bigSep Finset.univ (fun t => oTodo (F := F) d L t)
        ∗ iFree d L 0 ∗ iFree d L 1 ∗ oFree d L 0 ∗ oFree d L 1
        ∗ gCell d L ∗ owes (VT d L) O W) : sProp 𝕄)
      ⊢ wp frame (wpE (defs₀ (F := F)) 𝒱₀ (VT d L) none) Set.univ (cc0_k L yM (Memref.isWhole_whole _) iM (Memref.isWhole_whole _) oM (Memref.isWhole_whole _)
    ibM (Memref.isWhole_whole _) cc0_scoped1 obM (Memref.isWhole_whole _) cc0_scoped3 cc0_scoped4)
        (fun r => iprop(yP d L q XY ∗ bigSep Finset.univ (iRowP d L XI) ∗ bigSep Finset.univ (oDone d L XY XI)
        ∗ iFree d L 0 ∗ iFree d L 1 ∗ oFree d L 0 ∗ oFree d L 1
        ∗ gCell d L ∗ owesMore d L O W)) := by
  have hrow : bigSep Finset.univ (iRowP d L XI) = iprop(iRowP d L XI 0 ∗ bigSep (Finset.univ.erase 0) (iRowP d L XI)) := SparseCore.bigSep_erase' (Finset.mem_univ _)
  have hrow0 : bigSep (Finset.univ.erase 0) (iRowP d L XI) = bigSep Finset.univ (rowSt d L XI 0) := by
    have e : bigSep Finset.univ (rowSt d L XI 0) = iprop(rowSt d L XI 0 0 ∗ bigSep (Finset.univ.erase 0) (rowSt d L XI 0)) := SparseCore.bigSep_erase' (Finset.mem_univ _)
    have e2 : bigSep (Finset.univ.erase 0) (rowSt d L XI 0) = bigSep (Finset.univ.erase 0) (iRowP d L XI) := one_pt_congr fun t ht => if_neg (fun e => ht (Fin.ext e))
    rw [e, e2]
    exact (equiv_iff.mp BI.emp_sep).symm
  rw [hrow]
  iintro ⟨#Hmw, HY, ⟨HR, HRs⟩, HB, ⟨⟨%fi, HI⟩, HIc⟩, HI1, HO0, HO1, HGc, HW⟩
  simp only [cc0_k_eq_skeleton]; unfold cc0_k_skel
  simp only [k0_part13_eq_skeleton, k0_part14_eq_skeleton, k0_part15_eq_skeleton, k0_part16_eq_skeleton]
  sl_exec
  have hv4 : tile_run.sl.v4 L = BitVec.ofNat 32 (4 * tile L) := by
    clear * -
    clear tile_run XY XI
    revert L; decide +kernel
  rw [hv4]
  sl_for (Inv d L q XY XI O W) $$ [HY HRs HB HIc HI1 HO0 HO1 HGc HW]
  case region =>
    intro k r
    iintro H
    iapply (trip_inv d L q XY XI k O W hXI r)
    iexact H
  · unfold Inv
    isplitr; · iexact Hmw
    isplitr; · ipureintro; decide
    isplitl [HY]; · iexact HY
    isplitl [HRs]
    · iapply (of_eq hrow0); iexact HRs
    have hIn : inSt d L XI 0 = iprop(iBusy d L XI (Ring.sl 2 0) (Ring.bk 8 0) ∗ iFree d L (Ring.sl 2 (0 + 1))) := if_pos (by omega)
    have hO : outSt d L XY XI 0 = oFree d L (Ring.sl 2 (0 + 1)) := if_pos rfl
    isplitl [HIc HI1]
    · iapply (of_eq hIn.symm)
      isplitl [HIc]; · iexists fi; iexact HIc
      iexact HI1
    isplitl [HO1]; · iapply (of_eq hO.symm); iexact HO1
    isplitl [HO0]; · iexact HO0
    isplitl [HB]; · iexact HB
    isplitl [HGc]; · iexact HGc
    iexists W; isplitr
    · ipureintro; exact fun p hp => .inl hp
    · iexact HW
  iintro %r HI
  unfold Inv
  icases HI with ⟨-, %hr, HY, HR, HI, HOs, HO, HB, HG, %W', %hW', HW⟩
  subst hr
  have hR8 : bigSep Finset.univ (rowSt d L XI 8) = bigSep Finset.univ (iRowP d L XI) :=
    bigSep_congr fun t _ => if_neg (by have := t.isLt; omega)
  have hI8 : inSt d L XI 8 = iprop(iFree d L 0 ∗ iFree d L 1) := if_neg (by omega)
  have hO8 : outSt d L XY XI 8 = oBusy d L XY XI 1 7 := if_neg (by omega)
  have hB8 : bigSep Finset.univ (blkSt d L XY XI 8) = iprop(iprop(emp) ∗ bigSep (Finset.univ.erase 7) (oDone d L XY XI)) := by
    refine (SparseCore.bigSep_erase' (Finset.mem_univ 7)).trans ?_
    congr 1
  have hD : bigSep Finset.univ (oDone d L XY XI) = iprop(oDone d L XY XI 7 ∗ bigSep (Finset.univ.erase 7) (oDone d L XY XI)) := SparseCore.bigSep_erase' (Finset.mem_univ 7)
  have ht : Scf.trips k0_t1_loop.lb k0_t1_loop.ub k0_t1_loop.st = 8 := trips_eq
  ihave HR := (of_eq ((congrArg (fun n => bigSep Finset.univ (rowSt d L XI n)) ht).trans hR8)) $$ HR
  ihave HI := (of_eq ((congrArg (fun n => inSt d L XI n) ht).trans hI8)) $$ HI
  ihave HOs := (of_eq ((congrArg (fun n => outSt d L XY XI n) ht).trans hO8)) $$ HOs
  ihave HB := (of_eq ((congrArg (fun n => bigSep Finset.univ (blkSt d L XY XI n)) ht).trans hB8)) $$ HB
  ihave HO := (of_eq (congrArg (fun n => oFree d L (Ring.sl 2 n)) ht)) $$ HO
  rw [ht]
  icases HOs with ⟨%g, %f, %hg, HOF⟩
  icases HB with ⟨-, HBs⟩
  have k4 := chk4_true
  have k5 := chk5_true L
  sl_exec
  sl_step
  isplitl [HY]; · iexact HY
  isplitl [HR]; · iapply (of_eq hrow); iexact HR
  isplitl [HOF_dst HBs]
  · iapply (of_eq hD.symm)
    isplitl [HOF_dst]
    · iapply (of_eq (done_of d L XY XI 1 7 g f hg)); iexact HOF_dst
    iexact HBs
  icases HI with ⟨HI0, HI1⟩
  isplitl [HI0]; · iexact HI0
  isplitl [HI1]; · iexact HI1
  isplitl [HO]; · iexact HO
  isplitl [HOF_src HOF]
  · isplitl [HOF_src]; · iexists _; iexact HOF_src
    iexact HOF
  isplitl [HG]; · iexact HG
  iexists _
  isplitr
  rotate_left
  · iexact HW
  · ipureintro
    intro p hp
    simp only [Set.mem_insert_iff, Finset.mem_insert] at hp
    rcases hp with rfl | hp
    · exact Or.inr rfl
    · exact hW' p hp

end Tile

end Cert.Proof.Gather

end
-- ==== Proof.Body.lean ====
/-
  The gather's tile, launched: its scoped buffers cut into their two slots and joined again, and the tile's run from
  what the launch deals it to what it hands back.
-/
module

public import proofs.«01_k».proof.Proof.Tile

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A buffer in parts that a function of the index names -/

section Parts
variable {ℓ : Loc nD τ sig} {ι : Type} [Fintype ι] [DecidableEq ι] (A : ι → Finset (Idx ℓ)) (κ : Idx ℓ → ι) (h : ∀ i x, x ∈ A i ↔ κ x = i)

include h in
theorem parts_disjoint : ∀ i ∈ (Finset.univ : Finset ι), ∀ j ∈ (Finset.univ : Finset ι), i ≠ j → Disjoint (A i) (A j) :=
  fun i _ j _ hij => Finset.disjoint_left.mpr fun x hi hj => hij (((h i x).mp hi).symm.trans ((h j x).mp hj))
include h in
theorem parts_cover : (Finset.univ : Finset ι).biUnion A = Finset.univ :=
  Finset.eq_univ_of_forall fun x => Finset.mem_biUnion.mpr ⟨κ x, Finset.mem_univ _, (h _ x).mpr rfl⟩
include h in
theorem parts_split (q : PosShare TreeShare) (f : Buf (Elt F) ℓ) :
    (ℓ ↦{q} f : sProp 𝕄) = bigSep Finset.univ fun i => ℓ ↦[A i]{q} f := by
  rw [← pointsTo_biUnion Finset.univ (ℓ := ℓ) A (parts_disjoint A κ h), parts_cover A κ h]
include h in
theorem parts_join (i₀ : ι) : (bigSep Finset.univ fun i => iprop(∃ f, ℓ ↦[A i]{fullShare} f)) ⊢ (iprop(∃ f, ℓ ↦{fullShare} f) : sProp 𝕄) := by
  refine (bigSep_exists_pi Finset.univ (fun i (f : Buf (Elt F) ℓ) => (ℓ ↦[A i]{fullShare} f : sProp 𝕄))).trans ?_
  iintro ⟨%fs, H⟩
  have : Nonempty (Buf (Elt F) ℓ) := ⟨fs i₀⟩
  ihave H' := (pointsTo_biUnion_join (ℓ := ℓ) (q := fullShare) (Val := Elt F) Finset.univ A fs (fs i₀) (parts_disjoint A κ h)) $$ H
  icases H' with ⟨%g, -, Hg⟩
  rw [parts_cover A κ h]
  iexists g; iexact Hg
end Parts

section Tile
variable (d : Dev nD) (L : grid0.Coords)

/-! ## The slots of the two scoped buffers -/

theorem iSlot_set (p : Fin 2) : (iSlot p).view.set = (Rect.unit (s := S2x1x1x128) (iOff p) S1x1x1x128.size (iOff_inb p)).set := by
  show (((View.whole (cc0_scoped0 : Ref sig .scVector)).slice (Rect.unit (s := S2x1x1x128) (iOff p) S1x1x1x128.size (iOff_inb p))).reshape S1x1x128 squeezes_S1x1x1x128_S1x1x128.numel_eq).set = _
  rw [View.set_reshape, View.set_slice]; exact Finset.map_refl
theorem oSlot_set (p : Fin 2) : (oSlot p).view.set = (Rect.unit (s := S2x128x2x128) (iOff p) S1x128x2x128.size (oOff_inb p)).set := by
  show (((View.whole (cc0_scoped2 : Ref sig .scVector)).slice (Rect.unit (s := S2x128x2x128) (iOff p) S1x128x2x128.size (oOff_inb p))).reshape S128x2x128 squeezes_S1x128x2x128_S128x2x128.numel_eq).set = _
  rw [View.set_reshape, View.set_slice]; exact Finset.map_refl

theorem iSlot_mem (p : Fin 2) (x : S2x1x1x128.Idx) : x ∈ (Rect.unit (s := S2x1x1x128) (iOff p) S1x1x1x128.size (iOff_inb p)).set ↔ x 0 = p := by
  rw [Rect.mem_set_unit]
  have h1 : (x 1).val < 1 := (x 1).isLt
  have h2 : (x 2).val < 1 := (x 2).isLt
  have h3 : (x 3).val < 128 := (x 3).isLt
  constructor
  · intro h; have h0 := h 0; change p.val ≤ (x 0).val ∧ (x 0).val < p.val + 1 at h0; exact Fin.ext (by omega)
  · rintro rfl a
    fin_cases a
    · show (x 0).val ≤ (x 0).val ∧ (x 0).val < (x 0).val + 1; omega
    · show 0 ≤ (x 1).val ∧ (x 1).val < 0 + 1; omega
    · show 0 ≤ (x 2).val ∧ (x 2).val < 0 + 1; omega
    · show 0 ≤ (x 3).val ∧ (x 3).val < 0 + 128; omega
theorem oSlot_mem (p : Fin 2) (x : S2x128x2x128.Idx) : x ∈ (Rect.unit (s := S2x128x2x128) (iOff p) S1x128x2x128.size (oOff_inb p)).set ↔ x 0 = p := by
  rw [Rect.mem_set_unit]
  have h1 : (x 1).val < 128 := (x 1).isLt
  have h2 : (x 2).val < 2 := (x 2).isLt
  have h3 : (x 3).val < 128 := (x 3).isLt
  constructor
  · intro h; have h0 := h 0; change p.val ≤ (x 0).val ∧ (x 0).val < p.val + 1 at h0; exact Fin.ext (by omega)
  · rintro rfl a
    fin_cases a
    · show (x 0).val ≤ (x 0).val ∧ (x 0).val < (x 0).val + 1; omega
    · show 0 ≤ (x 1).val ∧ (x 1).val < 0 + 128; omega
    · show 0 ≤ (x 2).val ∧ (x 2).val < 0 + 2; omega
    · show 0 ≤ (x 3).val ∧ (x 3).val < 0 + 128; omega

abbrev ibLoc : Loc nD τ sig := (VT d L).loc cc0_scoped0
abbrev obLoc : Loc nD τ sig := (VT d L).loc cc0_scoped2

theorem iSlot_mem' (p : Fin 2) (x : Idx (ibLoc d L)) : x ∈ (iSlot p).view.set ↔ (show S2x1x1x128.Idx from x) 0 = p := by
  rw [iSlot_set]; exact iSlot_mem p x
theorem oSlot_mem' (p : Fin 2) (x : Idx (obLoc d L)) : x ∈ (oSlot p).view.set ↔ (show S2x128x2x128.Idx from x) 0 = p := by
  rw [oSlot_set]; exact oSlot_mem p x

theorem ib_split (f : Buf (Elt F) (ibLoc d L)) : (ibLoc d L ↦{fullShare} f : sProp 𝕄) ⊢ iprop(iSlotP d L 0 f ∗ iSlotP d L 1 f) := by
  rw [parts_split (ℓ := ibLoc d L) (fun p : Fin 2 => (iSlot p).view.set) (fun x => (show S2x1x1x128.Idx from x) 0) (iSlot_mem' d L), bigSep_fin_two]; exact .rfl
theorem ob_split (f : Buf (Elt F) (obLoc d L)) : (obLoc d L ↦{fullShare} f : sProp 𝕄) ⊢ iprop(oSlotP d L 0 f ∗ oSlotP d L 1 f) := by
  rw [parts_split (ℓ := obLoc d L) (fun p : Fin 2 => (oSlot p).view.set) (fun x => (show S2x128x2x128.Idx from x) 0) (oSlot_mem' d L), bigSep_fin_two]; exact .rfl
theorem ib_join : iprop((∃ f, iSlotP (F := F) d L 0 f) ∗ (∃ f, iSlotP d L 1 f)) ⊢ (iprop(∃ f, ibLoc d L ↦{fullShare} f) : sProp 𝕄) := by
  refine .trans ?_ (parts_join (ℓ := ibLoc d L) (fun p : Fin 2 => (iSlot p).view.set) (fun x => (show S2x1x1x128.Idx from x) 0) (iSlot_mem' d L) 0)
  rw [bigSep_fin_two]; exact .rfl
theorem ob_join : iprop((∃ f, oSlotP (F := F) d L 0 f) ∗ (∃ f, oSlotP d L 1 f)) ⊢ (iprop(∃ f, obLoc d L ↦{fullShare} f) : sProp 𝕄) := by
  refine .trans ?_ (parts_join (ℓ := obLoc d L) (fun p : Fin 2 => (oSlot p).view.set) (fun x => (show S2x128x2x128.Idx from x) 0) (oSlot_mem' d L) 0)
  rw [bigSep_fin_two]; exact .rfl

/-! ## The scoped cells and buffers, one by one -/

abbrev csem (k : Nat) (hk : k < 5 := by decide) : DmaSem sig := ⟨k, hk⟩
abbrev dcell (d : Dev nD) (c : Fin τ.nSC) (i : Fin τ.nSub) (k : Fin 5) : GSem nD τ sig := (V d c i, .dma (csem k.val k.isLt))

theorem dcell_mem (c : Fin τ.nSC) (i : Fin τ.nSub) (k : Fin 5) : dcell d c i k ∈ ownCells (V d c i) :=
  mem_ownCells.mpr ⟨rfl, (show ∀ s : DmaSem sig, (SemLoc.dma s : SemLoc sig).isScoped .scVector = true by decide) _⟩

theorem ownSems0_V :
    (ownSems0 (VT d L) : sProp 𝕄)
      = iprop((iCell d L 0 ∗ iCell d L 1 ∗ oCell d L 0 ∗ oCell d L 1 ∗ gCell d L)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

theorem ownBufs_V :
    (ownBufs (VT d L) : sProp 𝕄)
      = iprop((∃ f, ibLoc d L ↦{fullShare} f) ∗ (∃ f, obLoc d L ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## The tile, from what the launch deals it -/

/-- A tile's share of the table. -/
abbrev qOf (L : grid0.Coords) : PosShare TreeShare := Transfers.shareTokN fullShare (tile L)

variable (XY : Buf (Elt F) ((yAll).view.loc (VT d L))) (XI : Buf (Elt F) (iM.view.loc (VT d L)))

/-- What a tile takes: its share of the table, its eight lists, its eight blocks of the output. What it brings back:
    the same, the blocks at the rows that the lists name. -/
abbrev goP : sProp 𝕄 := iprop(yP d L (qOf L) XY ∗ bigSep Finset.univ (iRowP d L XI) ∗ bigSep Finset.univ (fun t => oTodo (F := F) d L t))
abbrev tdP : sProp 𝕄 := iprop(yP d L (qOf L) XY ∗ bigSep Finset.univ (iRowP d L XI) ∗ bigSep Finset.univ (oDone d L XY XI))

theorem tile_body (hF : (K (F := F)).Facts) (hXI : ∀ j, (XI j).toNat < 36864) (O : CellTallies nD τ sig (HIx 1)) (W : Waits sig (HIx 1)) (hO : ∀ g, O g none = 0) :
    iprop(levAts (K (F := F)).L (K (F := F)).lev ∗ emp ∗ goP d L XY XI
        ∗ scopedBufs (VT d L) ∗ scopedSems0 (VT d L) ∗ owes (VT d L) O W)
      ⊢ wp frame (wpE (defs₀ (F := F)) 𝒱₀ (VT d L) none) Set.univ
          (cc0_k L yM (Memref.isWhole_whole _) iM (Memref.isWhole_whole _) oM (Memref.isWhole_whole _)
            ibM (Memref.isWhole_whole _) cc0_scoped1 obM (Memref.isWhole_whole _) cc0_scoped3 cc0_scoped4)
          fun _ => iprop(tdP d L XY XI ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hy, Hi, Ho⟩, ⟨⟨%g0, HA⟩, ⟨%t0, HB⟩, Hbufs⟩, ⟨⟨C0, C1, C2, C3, C4⟩, Hsems⟩, HO⟩
  ihave Hmw := (show levAts (K (F := F)).L (K (F := F)).lev ⊢ Transfers.MayWaits (VT d L) (default : HIx 1) O from
    (K (F := F)).mayWaits_none (thr := VT d L) hO) $$ Hlv
  ihave HA' := (ib_split d L g0) $$ HA
  ihave HB' := (ob_split d L t0) $$ HB
  icases HA' with ⟨A0, A1⟩
  icases HB' with ⟨B0, B1⟩
  iapply (wp_wand_r Idealize.ShloMosaic.frame (wpE (defs₀ (F := F)) 𝒱₀ (VT d L) none) Set.univ)
  isplitl [Hy Hi Ho A0 A1 B0 B1 C0 C1 C2 C3 C4 HO]
  · iapply (tile_run d L (qOf L) XY XI O W hXI)
    isplitr; · iexact Hmw
    isplitl [Hy]; · iexact Hy
    isplitl [Hi]; · iexact Hi
    isplitl [Ho]; · iexact Ho
    isplitl [A0 C0]
    · isplitl [A0]; · iexists _; iexact A0
      iexact C0
    isplitl [A1 C1]
    · isplitl [A1]; · iexists _; iexact A1
      iexact C1
    isplitl [B0 C2]
    · isplitl [B0]; · iexists _; iexact B0
      iexact C2
    isplitl [B1 C3]
    · isplitl [B1]; · iexists _; iexact B1
      iexact C3
    isplitl [C4]; · iexact C4
    iexact HO
  iintro %_ ⟨Hy, Hi, Ho, ⟨A0, C0⟩, ⟨A1, C1⟩, ⟨B0, C2⟩, ⟨B1, C3⟩, C4, ⟨%W', %hW, HO⟩⟩
  isplitl [Hy Hi Ho]
  · isplitl [Hy]; · iexact Hy
    isplitl [Hi]; · iexact Hi
    iexact Ho
  isplitl [A0 A1 B0 B1 Hbufs]
  · isplitl [A0 A1]
    · iapply (ib_join d L)
      isplitl [A0]; · iexact A0
      iexact A1
    isplitl [B0 B1]
    · iapply (ob_join d L)
      isplitl [B0]; · iexact B0
      iexact B1
    iexact Hbufs
  isplitl [C0 C1 C2 C3 C4 Hsems]
  · isplitr [Hsems]
    · isplitl [C0]; · iexact C0
      isplitl [C1]; · iexact C1
      isplitl [C2]; · iexact C2
      isplitl [C3]; · iexact C3
      iexact C4
    iexact Hsems
  iexists W'; isplitr
  · ipureintro; intro p hp
    rcases hW p hp with h | h
    · exact .inl h
    · exact .inr (.inl h)
  · iexact HO

end Tile

end Cert.Proof.Gather

end
-- ==== Proof.Arrays.lean ====
/-
  Every tile's eight lists and eight blocks of the output out of the whole arrays and back, the table in read shares.
-/
module

public import proofs.«01_k».proof.Proof.Body

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays in the tiles' parts -/

def coordsV (c : Fin (grid0.bound 0)) (s : Fin (grid0.bound 1)) : grid0.Coords :=
  fun | 0 => c | 1 => s | ⟨_ + 2, h⟩ => absurd h (Nat.not_lt.2 (Nat.le_add_left _ _))

/-- A trip of a tile: the SparseCore, the subcore, the trip. -/
abbrev Tr : Type := Fin 2 × Fin 16 × Fin 8
abbrev trL (p : Tr) : grid0.Coords := coordsV p.1 p.2.1

/-- The trip that moves block `b`. -/
def trOf (b : ℕ) (hb : b < 256) : Tr :=
  (⟨(b % 128) / 4 / 16, by omega⟩, ⟨(b % 128) / 4 % 16, by omega⟩, ⟨b / 128 * 4 + b % 4, by omega⟩)

theorem trOf_eq (b : ℕ) (hb : b < 256) (p : Tr) : b = blk (trL p) p.2.2.val ↔ trOf b hb = p := by
  obtain ⟨c, s, t⟩ := p
  have hc := c.isLt; have hs := s.isLt; have ht := t.isLt
  show b = t.val / 4 * 128 + (4 * (c.val * 16 + s.val) + t.val % 4) ↔ _
  unfold trOf
  rw [Prod.mk.injEq, Prod.mk.injEq, Fin.ext_iff, Fin.ext_iff, Fin.ext_iff]
  show b = t.val / 4 * 128 + (4 * (c.val * 16 + s.val) + t.val % 4) ↔ b % 128 / 4 / 16 = c.val ∧ b % 128 / 4 % 16 = s.val ∧ b / 128 * 4 + b % 4 = t.val
  omega

theorem iRow_set (L : grid0.Coords) (t : Fin 8) : (iRow L t).view.set = (Rect.unit (s := S4x64x128) (rOff L t) S1x1x128.size (rOff_inb L t)).set := by
  show ((View.whole (main_arg1_scv : Ref sig .scVector)).slice (Rect.unit (s := S4x64x128) (rOff L t) S1x1x128.size (rOff_inb L t))).set = _
  rw [View.set_slice]; exact Finset.map_refl
theorem oBlk_set (L : grid0.Coords) (t : Fin 8) : (oBlk L t).view.set = (Rect.unit (s := S8192x4x2x128) (bOff L t) S128x1x2x128.size (bOff_inb L t)).set := by
  show (((View.whole (main_v1_scv : Ref sig .scVector)).slice (Rect.unit (s := S8192x4x2x128) (bOff L t) S128x1x2x128.size (bOff_inb L t))).reshape S128x2x128 squeezes_S128x1x2x128_S128x2x128.numel_eq).set = _
  rw [View.set_reshape, View.set_slice]; exact Finset.map_refl
theorem yAll_set : (yAll).view.set = Finset.univ := by
  show ((View.whole (main_v0_scv : Ref sig .scVector)).slice (Rect.unit (s := S36864x2x128) ![0, 0, 0] S36864x2x128.size inb_S36864x2x128_S36864x2x128_0_0_0)).set = _
  rw [View.set_slice]
  refine Finset.map_refl.trans (Finset.eq_univ_of_forall fun x => ?_)
  rw [Rect.mem_set_unit]
  have h0 : (x 0).val < 36864 := (x 0).isLt
  have h1 : (x 1).val < 2 := (x 1).isLt
  have h2 : (x 2).val < 128 := (x 2).isLt
  intro a; fin_cases a
  · show 0 ≤ (x 0).val ∧ (x 0).val < 0 + 36864; omega
  · show 0 ≤ (x 1).val ∧ (x 1).val < 0 + 2; omega
  · show 0 ≤ (x 2).val ∧ (x 2).val < 0 + 128; omega

theorem rowTr_lt (x : S4x64x128.Idx) : (x 0).val * 64 + (x 1).val < 256 := by
  have h0 : (x 0).val < 4 := (x 0).isLt
  have h1 : (x 1).val < 64 := (x 1).isLt
  omega
theorem blkTr_lt (x : S8192x4x2x128.Idx) : (x 1).val * 64 + (x 0).val / 128 < 256 := by
  have h0 : (x 0).val < 8192 := (x 0).isLt
  have h1 : (x 1).val < 4 := (x 1).isLt
  omega

theorem iRow_mem (L : grid0.Coords) (t : Fin 8) (x : S4x64x128.Idx) :
    x ∈ (Rect.unit (s := S4x64x128) (rOff L t) S1x1x128.size (rOff_inb L t)).set ↔ (x 0).val * 64 + (x 1).val = blk L t.val := by
  rw [Rect.mem_set_unit]
  have h1 : (x 1).val < 64 := (x 1).isLt
  have h2 : (x 2).val < 128 := (x 2).isLt
  constructor
  · intro h
    have a0 := h 0; have a1 := h 1
    change blk L t.val / 64 ≤ (x 0).val ∧ (x 0).val < blk L t.val / 64 + 1 at a0
    change blk L t.val % 64 ≤ (x 1).val ∧ (x 1).val < blk L t.val % 64 + 1 at a1
    omega
  · intro h a; fin_cases a
    · show blk L t.val / 64 ≤ (x 0).val ∧ (x 0).val < blk L t.val / 64 + 1; omega
    · show blk L t.val % 64 ≤ (x 1).val ∧ (x 1).val < blk L t.val % 64 + 1; omega
    · show 0 ≤ (x 2).val ∧ (x 2).val < 0 + 128; omega
theorem oBlk_mem (L : grid0.Coords) (t : Fin 8) (x : S8192x4x2x128.Idx) :
    x ∈ (Rect.unit (s := S8192x4x2x128) (bOff L t) S128x1x2x128.size (bOff_inb L t)).set ↔ (x 1).val * 64 + (x 0).val / 128 = blk L t.val := by
  rw [Rect.mem_set_unit]
  have h0 : (x 0).val < 8192 := (x 0).isLt
  have h1 : (x 1).val < 4 := (x 1).isLt
  have h2 : (x 2).val < 2 := (x 2).isLt
  have h3 : (x 3).val < 128 := (x 3).isLt
  constructor
  · intro h
    have a0 := h 0; have a1 := h 1
    change 128 * (blk L t.val % 64) ≤ (x 0).val ∧ (x 0).val < 128 * (blk L t.val % 64) + 128 at a0
    change blk L t.val / 64 ≤ (x 1).val ∧ (x 1).val < blk L t.val / 64 + 1 at a1
    omega
  · intro h a; fin_cases a
    · show 128 * (blk L t.val % 64) ≤ (x 0).val ∧ (x 0).val < 128 * (blk L t.val % 64) + 128; omega
    · show blk L t.val / 64 ≤ (x 1).val ∧ (x 1).val < blk L t.val / 64 + 1; omega
    · show 0 ≤ (x 2).val ∧ (x 2).val < 0 + 2; omega
    · show 0 ≤ (x 3).val ∧ (x 3).val < 0 + 128; omega

section Arrays
variable (d : Dev nD)

theorem iRow_part (p : Tr) (x : Idx (iLoc d)) : x ∈ (iRow (trL p) p.2.2).view.set ↔ trOf _ (rowTr_lt x) = p := by
  rw [iRow_set]; exact (iRow_mem (trL p) p.2.2 x).trans (trOf_eq _ (rowTr_lt x) p)
theorem oBlk_part (p : Tr) (x : Idx (oLoc d)) : x ∈ (oBlk (trL p) p.2.2).view.set ↔ trOf _ (blkTr_lt x) = p := by
  rw [oBlk_set]; exact (oBlk_mem (trL p) p.2.2 x).trans (trOf_eq _ (blkTr_lt x) p)

/-- The lists whole are the tiles' lists. -/
theorem lists_split (XI : Buf (Elt F) (iLoc d)) :
    (iLoc d ↦{fullShare} XI : sProp 𝕄)
      = bigSep Finset.univ fun c : Fin 2 => bigSep Finset.univ fun s : Fin 16 => bigSep Finset.univ fun t : Fin 8 => iRowP d (coordsV c s) XI t := by
  rw [parts_split (ℓ := iLoc d) (fun p : Tr => (iRow (trL p) p.2.2).view.set) (fun x => trOf _ (rowTr_lt x)) (iRow_part d), BI.bigSep_univ_prod]
  exact bigSep_congr fun c _ => BI.bigSep_univ_prod _
/-- The output whole is the tiles' blocks. -/
theorem out_split (X : Buf (Elt F) (oLoc d)) :
    (oLoc d ↦{fullShare} X : sProp 𝕄)
      = bigSep Finset.univ fun c : Fin 2 => bigSep Finset.univ fun s : Fin 16 => bigSep Finset.univ fun t : Fin 8 => oBlkP d (coordsV c s) t X := by
  rw [parts_split (ℓ := oLoc d) (fun p : Tr => (oBlk (trL p) p.2.2).view.set) (fun x => trOf _ (blkTr_lt x)) (oBlk_part d), BI.bigSep_univ_prod]
  exact bigSep_congr fun c _ => BI.bigSep_univ_prod _

/-- What stays with the host of the table while the tiles read it. -/
abbrev yKeep (XY : Buf (Elt F) (yLoc d)) : sProp 𝕄 := yLoc d ↦{Transfers.shareDrop fullShare 32} XY

theorem yP_eq (L : grid0.Coords) (q : PosShare TreeShare) (XY : Buf (Elt F) (yLoc d)) : (yP d L q XY : sProp 𝕄) = yLoc d ↦{q} XY := by
  show (yLoc d ↦[(yAll).view.set]{q} XY : sProp 𝕄) = _
  rw [yAll_set]

abbrev tileNo (p : Fin 2 × Fin 16) : ℕ := p.1.val * 16 + p.2.val
theorem tile_coordsV (c : Fin 2) (s : Fin 16) : tile (coordsV c s) = tileNo (c, s) := rfl
theorem tileNo_injOn : Set.InjOn tileNo ((Finset.univ : Finset (Fin 2 × Fin 16)) : Set (Fin 2 × Fin 16)) := fun a _ b _ h => by
  have h' : a.1.val * 16 + a.2.val = b.1.val * 16 + b.2.val := h
  have := a.2.isLt; have := b.2.isLt; exact Prod.ext (Fin.ext (by omega)) (Fin.ext (by omega))

theorem table_split (XY : Buf (Elt F) (yLoc d)) :
    (yLoc d ↦{fullShare} XY : sProp 𝕄)
      = iprop(yKeep d XY ∗ bigSep Finset.univ fun c : Fin 2 => bigSep Finset.univ fun s : Fin 16 => yP d (coordsV c s) (qOf (coordsV c s)) XY) := by
  rw [BI.Entails.antisymm (Transfers.pointsTo_toks_range (ℓ := yLoc d) (S := Finset.univ) (f := XY) fullShare 32).1
      (Transfers.pointsTo_toks_range (ℓ := yLoc d) (S := Finset.univ) (f := XY) fullShare 32).2,
    show Finset.range 32 = (Finset.univ : Finset (Fin 2 × Fin 16)).image tileNo by decide,
    SparseCore.bigSep_image_of_injOn tileNo_injOn,
    BI.bigSep_univ_prod]
  have e (c : Fin 2) (t : Fin 16) : (yP d (coordsV c t) (qOf (coordsV c t)) XY : sProp 𝕄) = yLoc d ↦{Transfers.shareTokN fullShare (tileNo (c, t))} XY :=
    (yP_eq d (coordsV c t) (qOf (coordsV c t)) XY).trans
      (congrArg (fun n : ℕ => (yLoc d ↦{Transfers.shareTokN fullShare n} XY : sProp 𝕄)) (tile_coordsV c t))
  simp only [e]

end Arrays

end Cert.Proof.Gather

end
-- ==== Proof.Launch.lean ====
/-
  The gather, launched: what the call takes and hands back, the host's two reshapes around it, the run of the whole
  program.
-/
module

public import proofs.«01_k».proof.Proof.Arrays
public import proofs.«01_k».proof.Defs

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the handshakes carry -/

variable (m : (ℓ : Loc nD τ sig) → Buf (Elt F) ℓ) (ρ : Dev nD → PrngReg)

abbrev a' : DevRef τ sig := Proc.devRef .tc (main_arg0 : Ref sig .tc)
abbrev i' : DevRef τ sig := Proc.devRef .tc (main_arg1 : Ref sig .tc)
abbrev y' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 (rfl : (.f32 : EltTy) = .f32) shapeCasts_S4x9216x256_S36864x2x128
abbrev opOut : HloOp τ sig (Elt F) := StableHlo.reshape main_v1 main_v2 (rfl : (.f32 : EltTy) = .f32) shapeCasts_S8192x4x2x128_S4x2048x1024

/-- The launch memory; the table as the host hands it to the call; the memory after the call; the result. -/
def V0 (d : Dev nD) : Valuation τ sig (Elt F) := fun b => m (d, b)
def V1 (d : Dev nD) : Valuation τ sig (Elt F) := (opIn (F := F)).result (V0 m d)
def YV (d : Dev nD) : Buf (Elt F) (yLoc d) := V1 m d y'
def GV (d : Dev nD) : Buf (Elt F) (oLoc d) := GOf (F := F) (YV m d) (m (iLoc d))
def V2 (d : Dev nD) : Valuation τ sig (Elt F) := Function.update (V1 m d) o' (GV m d)
def RV (d : Dev nD) : Buf (Elt F) (rLoc d) := (opOut (F := F)).result (V2 m d) r'

/-- Every word of the lists names a row of the table. -/
def PreOK : Prop := ∀ (d : Dev nD) (j : S4x64x128.Idx), (m (iLoc d) j).toNat < 36864

def goM (d : Dev nD) (c : Fin 2) (s : Fin 16) : sProp 𝕄 := goP d (coordsV c s) (YV m d) (m (iLoc d))
def tdM (d : Dev nD) (c : Fin 2) (s : Fin 16) : sProp 𝕄 := tdP d (coordsV c s) (YV m d) (m (iLoc d))

/-- The tiles' parts of SparseCore `c`, at the call and after it. -/
def goAll (d : Dev nD) (c : Fin 2) : sProp 𝕄 := bigSep Finset.univ fun s : Fin ((K (F := F)).nSub 0) => goM m d c (Fin.cast nSub_zero s)
def tdAll (d : Dev nD) (c : Fin 2) : sProp 𝕄 := bigSep Finset.univ fun s : Fin ((K (F := F)).nSub 0) => tdM m d c (Fin.cast nSub_zero s)

def P : (K (F := F)).Pay (nD := nD) (Val := Elt F) (Name := ℕ) (U := UU) where
  st := fun q d c => match q with | 0 => goAll m d (Fin.cast nCore_zero c)
  dn := fun q d c => match q with | 0 => tdAll m d (Fin.cast nCore_zero c)
  go := fun q d c i => match q with | 0 => goM m d (Fin.cast nCore_zero c) (Fin.cast nSub_zero i)
  td := fun q d c i => match q with | 0 => tdM m d (Fin.cast nCore_zero c) (Fin.cast nSub_zero i)
  x := fun _ _ => iprop(emp)

instance iRowP_storable (d : Dev nD) (L : grid0.Coords) (XI : Buf (Elt F) (iLoc d)) (t : Fin 8) : BI.Storable (upEmb : UEmb _ 𝕄) (iRowP d L XI t) :=
  (fun f => inferInstance : ∀ f : Buf (Elt F) ((iRow L t).view.loc (VT d L)),
    BI.Storable (upEmb : UEmb _ 𝕄) ((iRow L t).view.loc (VT d L) ↦[(iRow L t).view.set]{fullShare} f)) XI
instance oDone_storable (d : Dev nD) (L : grid0.Coords) (XY : Buf (Elt F) (yLoc d)) (XI : Buf (Elt F) (iLoc d)) (t : Fin 8) :
    BI.Storable (upEmb : UEmb _ 𝕄) (oDone d L XY XI t) :=
  (fun f => inferInstance : ∀ f : Buf (Elt F) ((oBlk L t).view.loc (VT d L)),
    BI.Storable (upEmb : UEmb _ 𝕄) ((oBlk L t).view.loc (VT d L) ↦[(oBlk L t).view.set]{fullShare} f)) (GOf (F := F) XY XI)
instance goM_storable (d : Dev nD) (c : Fin 2) (s : Fin 16) : BI.Storable (upEmb : UEmb _ 𝕄) (goM m d c s) := by
  unfold goM goP
  have h1 : ∀ t, BI.Storable (upEmb : UEmb _ 𝕄) (iRowP d (coordsV c s) (m (iLoc d)) t) := iRowP_storable d _ _
  infer_instance
instance tdM_storable (d : Dev nD) (c : Fin 2) (s : Fin 16) : BI.Storable (upEmb : UEmb _ 𝕄) (tdM m d c s) := by
  unfold tdM tdP
  have h1 : ∀ t, BI.Storable (upEmb : UEmb _ 𝕄) (iRowP d (coordsV c s) (m (iLoc d)) t) := iRowP_storable d _ _
  have h2 : ∀ t, BI.Storable (upEmb : UEmb _ 𝕄) (oDone d (coordsV c s) (YV m d) (m (iLoc d)) t) := oDone_storable d _ _ _
  infer_instance

instance goAll_storable (d : Dev nD) (c : Fin 2) : BI.Storable (upEmb : UEmb _ 𝕄) (goAll m d c) := by unfold goAll; infer_instance
instance tdAll_storable (d : Dev nD) (c : Fin 2) : BI.Storable (upEmb : UEmb _ 𝕄) (tdAll m d c) := by unfold tdAll; infer_instance

instance P_storable : (P (F := F) m).IsStorable where
  st q d c := match q with | 0 => goAll_storable m d _
  dn q d c := match q with | 0 => tdAll_storable m d _
  go q d c i := match q with | 0 => goM_storable m d _ _
  td q d c i := match q with | 0 => tdM_storable m d _ _

/-! ## The obligations of the launch -/

theorem defs₀_vector (c : Fin τ.nSC) (s : Fin τ.nSub) :
    defs₀ (F := F) (.scVector c s) 0 ()
      = SparseCore.onTile hcore0 hsub0 (fun c s => cc0_k (coordsV c s)
          yM (Memref.isWhole_whole _) iM (Memref.isWhole_whole _) oM (Memref.isWhole_whole _)
          ibM (Memref.isWhole_whole _) cc0_scoped1 obM (Memref.isWhole_whole _) cc0_scoped3 cc0_scoped4) ⟨⟩ c s := rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (YV m d) (m (iLoc d)) hF (hpre d) O W hO

theorem split_id (A B : sProp 𝕄) : A ⊢ |={Set.univ}=> iprop(A ∗ (B -∗ B)) := by
  iintro H; imodintro
  isplitl [H]; · iexact H
  iintro H; iexact H

theorem P_st (d : Dev nD) (c : Fin ((K (F := F)).nCore 0)) : (P m).st 0 d c = goAll m d (Fin.cast nCore_zero c) := by unfold P; dsimp only
theorem P_dn (d : Dev nD) (c : Fin ((K (F := F)).nCore 0)) : (P m).dn 0 d c = tdAll m d (Fin.cast nCore_zero c) := by unfold P; dsimp only
theorem P_go (d : Dev nD) (c : Fin ((K (F := F)).nCore 0)) : (bigSep Finset.univ fun i : Fin ((K (F := F)).nSub 0) => (P m).go 0 d c i) = goAll m d (Fin.cast nCore_zero c) := by unfold P goAll; dsimp only
theorem P_td (d : Dev nD) (c : Fin ((K (F := F)).nCore 0)) : (bigSep Finset.univ fun i : Fin ((K (F := F)).nSub 0) => (P m).td 0 d c i) = tdAll m d (Fin.cast nCore_zero c) := by unfold P tdAll; dsimp only

theorem vecSplit : (K (F := F)).VecSplit' (P m) 0 := by
  intro d c
  rw [P_st, P_dn, P_go, P_td]
  exact split_id _ _

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's program -/

/-- The host's arrays. -/
abbrev SA : Finset (DevRef τ sig) := {a', i', y', o', r'}

theorem held_SA (d : Dev nD) (W : Valuation τ sig (Elt F)) :
    (held (T d) SA W : sProp 𝕄) = iprop((aLoc d ↦{fullShare} W a') ∗ (iLoc d ↦{fullShare} W i') ∗ (yLoc d ↦{fullShare} W y')
      ∗ (oLoc d ↦{fullShare} W o') ∗ rLoc d ↦{fullShare} W r') := by
  unfold held SA
  rw [SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) SA (V0 m d) := by
  rw [held_SA]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide), SparseCore.bigSep_insert' (by decide), bigSep_singleton]
  rfl

theorem opIn_sub : (opIn (F := F)).bufs ⊆ SA := show ({a', y'} : Finset (DevRef τ sig)) ⊆ SA by decide
theorem opOut_sub : (opOut (F := F)).bufs ⊆ SA := show ({o', r'} : Finset (DevRef τ sig)) ⊆ SA by decide

theorem V1_ne (d : Dev nD) (b : DevRef τ sig) (h : b ∉ ({y'} : Finset (DevRef τ sig))) : V1 m d b = V0 m d b := (opIn (F := F)).result_of_not_mem (V0 m d) h
theorem V2_o (d : Dev nD) : V2 m d o' = GV m d := Function.update_self _ _ _
theorem V2_ne (d : Dev nD) (b : DevRef τ sig) (h : b ≠ o') : V2 m d b = V1 m d b := Function.update_of_ne h _ _
theorem V3_ne (d : Dev nD) (b : DevRef τ sig) (h : b ∉ ({r'} : Finset (DevRef τ sig))) : (opOut (F := F)).result (V2 m d) b = V2 m d b :=
  (opOut (F := F)).result_of_not_mem (V2 m d) h

theorem held_V1 (d : Dev nD) :
    (held (T d) SA ((opIn (F := F)).result (V0 m d)) : sProp 𝕄) = iprop((aLoc d ↦{fullShare} m (aLoc d)) ∗ (iLoc d ↦{fullShare} m (iLoc d)) ∗ (yLoc d ↦{fullShare} YV m d)
      ∗ (oLoc d ↦{fullShare} m (oLoc d)) ∗ rLoc d ↦{fullShare} m (rLoc d)) := by
  show (held (T d) SA (V1 m d) : sProp 𝕄) = _
  rw [held_SA, V1_ne m d a' (by decide), V1_ne m d i' (by decide), V1_ne m d o' (by decide), V1_ne m d r' (by decide)]; rfl
theorem held_V2 (d : Dev nD) :
    (held (T d) SA (V2 m d) : sProp 𝕄) = iprop((aLoc d ↦{fullShare} m (aLoc d)) ∗ (iLoc d ↦{fullShare} m (iLoc d)) ∗ (yLoc d ↦{fullShare} YV m d)
      ∗ (oLoc d ↦{fullShare} GV m d) ∗ rLoc d ↦{fullShare} m (rLoc d)) := by
  rw [held_SA, V2_o, V2_ne m d a' (by decide), V2_ne m d i' (by decide), V2_ne m d y' (by decide), V2_ne m d r' (by decide),
    V1_ne m d a' (by decide), V1_ne m d i' (by decide), V1_ne m d r' (by decide)]; rfl
theorem held_V3 (d : Dev nD) :
    (held (T d) SA ((opOut (F := F)).result (V2 m d)) : sProp 𝕄) = iprop((aLoc d ↦{fullShare} m (aLoc d)) ∗ (iLoc d ↦{fullShare} m (iLoc d)) ∗ (yLoc d ↦{fullShare} YV m d)
      ∗ (oLoc d ↦{fullShare} GV m d) ∗ rLoc d ↦{fullShare} RV m d) := by
  rw [held_SA, V3_ne m d a' (by decide), V3_ne m d i' (by decide), V3_ne m d y' (by decide), V3_ne m d o' (by decide),
    V2_o, V2_ne m d a' (by decide), V2_ne m d i' (by decide), V2_ne m d y' (by decide),
    V1_ne m d a' (by decide), V1_ne m d i' (by decide)]; rfl

theorem todo_one (d : Dev nD) (L : grid0.Coords) (t : Fin 8) (X : Buf (Elt F) (oLoc d)) : (oBlkP d L t X : sProp 𝕄) ⊢ oTodo (F := F) d L t := by
  iintro H; iexists X; iexact H
theorem todo_of (d : Dev nD) (X : Buf (Elt F) (oLoc d)) :
    (bigSep Finset.univ fun c : Fin 2 => bigSep Finset.univ fun s : Fin 16 => bigSep Finset.univ fun t : Fin 8 => oBlkP d (coordsV c s) t X)
      ⊢ (bigSep Finset.univ fun c : Fin 2 => bigSep Finset.univ fun s : Fin 16 => bigSep Finset.univ fun t : Fin 8 => oTodo (F := F) d (coordsV c s) t : sProp 𝕄) :=
  bigSep_mono fun c _ => bigSep_mono fun s _ => bigSep_mono fun t _ => todo_one d _ t X

theorem bigSep_tiles (Φ : Fin 2 → Fin 16 → sProp 𝕄) :
    (bigSep Finset.univ fun c : Fin ((K (F := F)).nCore 0) => bigSep Finset.univ fun s : Fin ((K (F := F)).nSub 0) => Φ (Fin.cast nCore_zero c) (Fin.cast nSub_zero s))
      = bigSep Finset.univ fun c : Fin 2 => bigSep Finset.univ fun s : Fin 16 => Φ c s := rfl

/-- What the call takes for the two SparseCores is the table's shares, the lists and the output; what it hands back. -/
theorem st0_eq (d : Dev nD) : (bigSep Finset.univ fun c : Fin ((K (F := F)).nCore 0) => (P m).st 0 d c)
    = iprop((bigSep Finset.univ fun c : Fin 2 => bigSep Finset.univ fun s : Fin 16 => yP d (coordsV c s) (qOf (coordsV c s)) (YV m d))
      ∗ (bigSep Finset.univ fun c : Fin 2 => bigSep Finset.univ fun s : Fin 16 => bigSep Finset.univ fun t : Fin 8 => iRowP d (coordsV c s) (m (iLoc d)) t)
      ∗ bigSep Finset.univ fun c : Fin 2 => bigSep Finset.univ fun s : Fin 16 => bigSep Finset.univ fun t : Fin 8 => oTodo (F := F) d (coordsV c s) t) := by
  simp only [P_st]
  unfold goAll
  rw [bigSep_tiles (F := F) (goM m d)]
  unfold goM goP
  rw [← bigSep_sep', ← bigSep_sep']
  refine bigSep_congr fun c _ => ?_
  rw [← bigSep_sep', ← bigSep_sep']
theorem dn0_eq (d : Dev nD) : (bigSep Finset.univ fun c : Fin ((K (F := F)).nCore 0) => (P m).dn 0 d c)
    = iprop((bigSep Finset.univ fun c : Fin 2 => bigSep Finset.univ fun s : Fin 16 => yP d (coordsV c s) (qOf (coordsV c s)) (YV m d))
      ∗ (iLoc d ↦{fullShare} m (iLoc d)) ∗ oLoc d ↦{fullShare} GV m d) := by
  rw [lists_split, out_split]
  simp only [P_dn]
  unfold tdAll
  rw [bigSep_tiles (F := F) (tdM m d)]
  unfold tdM tdP
  rw [← bigSep_sep', ← bigSep_sep']
  refine bigSep_congr fun c _ => ?_
  rw [← bigSep_sep', ← bigSep_sep']
  rfl

/-- What the host leaves: the arguments as they were, the result. -/
abbrev FIN (d : Dev nD) : sProp 𝕄 := iprop((aLoc d ↦{fullShare} m (aLoc d)) ∗ (iLoc d ↦{fullShare} m (iLoc d)) ∗ rLoc d ↦{fullShare} RV m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := SA) opIn_sub (V := V0 m d)) $$ [Hb Hheld]
  · isplitl [Hb]; · iexact Hb
    iexact Hheld
  iintro ⟨Hb, Hheld⟩
  rw [wp_ret]; imodintro
  ihave Hh := (Entails.of_eq (held_V1 (F := F) m d)) $$ Hheld
  icases Hh with ⟨Ha, Hi, Hy, Ho, Hr⟩
  ihave Hi' := (Entails.of_eq (lists_split d (m (iLoc d)))) $$ Hi
  ihave Ho' := (Entails.of_eq (out_split d (m (oLoc d)))) $$ Ho
  ihave Ho'' := (todo_of d (m (oLoc d))) $$ Ho'
  ihave Hy' := (Entails.of_eq (table_split d (YV m d))) $$ Hy
  icases Hy' with ⟨Hk, Hy⟩
  iapply ((K (F := F)).wp_run (D (F := F)) 𝒱 (EH := EH) (P := P m) κ d 0) $$ [Hst Hi' Ho'' Hy Ha Hk Hr Hb Hts]
  isplitr; · iexact Hctx
  isplitl [Hst]; · iexact Hst
  isplitl [Hi' Ho'' Hy]
  · iapply (Entails.of_eq (st0_eq m d).symm)
    isplitl [Hy]; · iexact Hy
    isplitl [Hi']; · iexact Hi'
    iexact Ho''
  iintro ⟨Hst, Hdn⟩
  ihave Hdn' := (Entails.of_eq (dn0_eq m d)) $$ Hdn
  icases Hdn' with ⟨Hy, Hi, Ho⟩
  ihave Hy' := (Entails.of_eq (table_split d (YV m d)).symm) $$ [Hk Hy]
  · isplitl [Hk]; · iexact Hk
    iexact Hy
  ihave Hheld := (Entails.of_eq (held_V2 (F := F) m d).symm) $$ [Ha Hi Hy' Ho Hr]
  · isplitl [Ha]; · iexact Ha
    isplitl [Hi]; · iexact Hi
    isplitl [Hy']; · iexact Hy'
    isplitl [Ho]; · iexact Ho
    iexact Hr
  iapply (wp_hlo_within 𝒱 (SparseCore.T d) none Set.univ (op := opOut) (S := SA) opOut_sub (V := V2 m d)) $$ [Hb Hheld]
  · isplitl [Hb]; · iexact Hb
    iexact Hheld
  iintro ⟨Hb, Hheld⟩
  ihave Hh := (Entails.of_eq (held_V3 (F := F) m d)) $$ Hheld
  icases Hh with ⟨Ha, Hi, -, -, Hr⟩
  rw [wp_ret]; imodintro; imodintro
  isplitl [Hst]; · iexact Hst
  isplitr [Hb Hts]
  · isplitl [Ha]; · iexact Ha
    isplitl [Hi]; · iexact Hi
    iexact Hr
  isplitl [Hb] <;> iassumption

def fq (d : Dev nD) (s' : Phys nD τ sig (Elt F)) : Prop :=
  s'.mem.mem (aLoc d) = m (aLoc d) ∧ s'.mem.mem (iLoc d) = m (iLoc d) ∧ s'.mem.mem (rLoc d) = RV m d

theorem hfin (d : Dev nD) (s' : Phys nD τ sig (Elt F)) : iprop(FIN m d ∗ SI s') ⊢ (⌜fq m d s'⌝ : sProp 𝕄) := by
  iintro ⟨⟨Ha, Hi, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := rLoc d) (I := Finset.univ) (q := fullShare) (f := RV m d)) $$ [HSI Hr]
  · isplitl [HSI] <;> iassumption
  icases H with %h3
  ipureintro
  have e1 : s'.mem.mem (aLoc d) = m (aLoc d) := funext fun (i : Idx (aLoc d)) => h1 i (Finset.mem_univ i)
  have e2 : s'.mem.mem (iLoc d) = m (iLoc d) := funext fun (i : Idx (iLoc d)) => h2 i (Finset.mem_univ i)
  have e3 : s'.mem.mem (rLoc d) = RV m d := funext fun (i : Idx (rLoc d)) => h3 i (Finset.mem_univ i)
  exact ⟨e1, e2, e3⟩

/-! ## The program's run -/

def QC : PUnit × MemSt nD τ sig (Elt F) → Prop := fun r =>
  (∀ c : Dev nD, r.2.mem (aLoc c) = m (aLoc c) ∧ r.2.mem (iLoc c) = m (iLoc c) ∧ r.2.mem (rLoc c) = RV m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Value.lean ====
/-
  What the launched gather leaves in its result is what the reference takes from the table: element by element, the
  same entry of the lists names the same row of the same table. And the range of the lists' words, read off the
  precondition.
-/
module

public import proofs.«01_k».proof.Proof.Launch
public import proofs.«01_k».proof.Proof.Gen.ReferenceIdeal.Run
public import proofs.«01_k».proof.Proof.Gen.Pre_rows_named
public import Idealize.ShloMosaic.Lib.Pipeline.Value

@[expose] public section

noncomputable section

namespace Cert.Proof.Gather

open Cert.KernelIdeal Cert.KernelIdeal.Gen
open Idealize.ShloMosaic

variable {F : FTy → Type} [FloatOps F]

/-! ## The precondition, a word at a time -/

theorem word_lt (w : BitVec 32) (h : IntOp.cmpi .sge w 0#32 &&& IntOp.cmpi .slt w 36864#32 = 1#1) : w.toNat < 36864 := by
  have hs : (0#32).sle w = true := by
    cases hb : (0#32).sle w
    · rw [show IntOp.cmpi .sge w 0#32 = 0#1 by simp only [IntOp.cmpi, hb]; rfl] at h
      simp at h
    · rfl
  have hl : w.slt 36864#32 = true := by
    cases hb : w.slt 36864#32
    · rw [show IntOp.cmpi .slt w 36864#32 = 0#1 by simp only [IntOp.cmpi, hb]; rfl] at h
      simp at h
    · rfl
  rw [BitVec.sle_eq_decide, decide_eq_true_eq] at hs
  rw [BitVec.slt_eq_decide, decide_eq_true_eq] at hl
  rw [BitVec.toInt_eq_toNat_cond] at hs hl
  simp only [BitVec.toInt_eq_toNat_cond, BitVec.toNat_ofNat, Nat.reducePow, Nat.reduceMod] at hs hl
  have := w.isLt
  split at hs <;> omega

theorem lists_lt (A : FVec F Pre_rows_named.S4x9216x256 .f32) (I : IVec Pre_rows_named.S4x64x128 32)
    (h : Cert.Pre_rows_named.fn (F := F) A I = fun _ => 1#1) (j : S4x64x128.Idx) : (I j).toNat < 36864 := by
  have e := congrFun h j
  simp only [Cert.Pre_rows_named.fn, andi, cmpi, broadcastInDim, constantI] at e
  exact word_lt _ e

/-! ## The reference's gather, read at an element -/

theorem take_row (x : ReferenceIdeal.S36864x256.Idx → Elt F .f32) (ix : IVec ReferenceIdeal.S32768x1 32) (y : ReferenceIdeal.S32768x256.Idx)
    (k : ReferenceIdeal.S36864x256.Idx) (e : ReferenceIdeal.S32768x1.Idx) (he0 : (e 0).val = (y 0).val)
    (hk0 : (k 0).val = min (ix e).toInt.toNat 36863) (hk1 : (k 1).val = (y 1).val) :
    Host.gather ReferenceIdeal.gather_S36864x256_S32768x1_S32768x256_1_0_n_n_0_1_1256 x ix y = x k := by
  unfold Host.gather
  congr 1
  funext a
  refine Fin.ext ?_
  generalize hD : ReferenceIdeal.gather_S36864x256_S32768x1_S32768x256_1_0_n_n_0_1_1256 = D
  show D.start y ix a + D.batchCoord y a + D.offCoord y a = (k a).val
  rw [D.batchCoord_eq_zero y a (by subst hD; exact List.not_mem_nil), Nat.add_zero]
  match a with
  | ⟨0, _⟩ =>
    rw [D.offCoord_eq_zero y _ (fun h => ((D.mem_sKept _).1 h).1 (by subst hD; exact List.mem_singleton.2 rfl)), Nat.add_zero]
    refine Eq.trans ?_ hk0.symm
    subst hD
    unfold GatherDims.start
    refine (dif_pos (List.mem_singleton.2 rfl)).trans ?_
    have hs : ∀ c, ReferenceIdeal.gather_S36864x256_S32768x1_S32768x256_1_0_n_n_0_1_1256.siIdx y c = e := by
      intro c
      funext b
      refine Fin.ext ?_
      match b with
      | ⟨0, _⟩ => exact he0.symm
      | ⟨1, _⟩ =>
        have h1 : (e 1).val < 1 := (e 1).isLt
        have h2 : (ReferenceIdeal.gather_S36864x256_S32768x1_S32768x256_1_0_n_n_0_1_1256.siIdx y c 1).val < 1 := Fin.isLt _
        exact (Nat.lt_one_iff.1 h2).trans (Nat.lt_one_iff.1 h1).symm
    rw [hs]
    rfl
  | ⟨1, _⟩ =>
    have h0 : D.start y ix ⟨1, by decide⟩ = 0 := by
      subst hD
      unfold GatherDims.start
      exact dif_neg (by decide)
    refine (congrArg (· + D.offCoord y _) h0).trans ((Nat.zero_add _).trans (Eq.trans ?_ hk1.symm))
    subst hD
    unfold GatherDims.offCoord
    refine (dif_pos ((GatherDims.mem_sKept _ _).2 ⟨fun h => absurd (List.mem_singleton.1 h) (by simp), List.not_mem_nil⟩)).trans ?_
    rfl

/-! ## The two results -/

variable (m : (ℓ : Loc nD τ sig) → Buf (Elt F) ℓ)

/-- The rows the reference takes, in the order of the lists. -/
abbrev takenOf (A : FVec F S4x9216x256 .f32) (I : IVec S4x64x128 32) : FVec F ReferenceIdeal.S32768x256 .f32 :=
  Host.gather ReferenceIdeal.gather_S36864x256_S32768x1_S32768x256_1_0_n_n_0_1_1256
    (shapeCast ReferenceIdeal.S36864x256 A ReferenceIdeal.Facts₀.shapeCasts_S4x9216x256_S36864x256)
    (broadcastInDim ReferenceIdeal.S32768x1 ![0] ReferenceIdeal.Facts₀.bcast_S32768_S32768x1_0
      (shapeCast ReferenceIdeal.S32768 I ReferenceIdeal.Facts₀.shapeCasts_S4x64x128_S32768))

/-- The reference's term. -/
abbrev refOf (A : FVec F S4x9216x256 .f32) (I : IVec S4x64x128 32) : FVec F S4x2048x1024 .f32 :=
  shapeCast ReferenceIdeal.S4x2048x1024 (transpose ReferenceIdeal.S8192x4x256 [1, 0, 2] (shapeCast ReferenceIdeal.S4x8192x256
    (takenOf A I)
    ReferenceIdeal.Facts₀.shapeCasts_S32768x256_S4x8192x256) ReferenceIdeal.Facts₀.transposes_S4x8192x256_S8192x4x256_1_0_2)
    ReferenceIdeal.Facts₀.shapeCasts_S8192x4x256_S4x2048x1024

theorem YV_eq (d : Dev nD) : YV m d = shapeCast S36864x2x128 (m (aLoc d)) shapeCasts_S4x9216x256_S36864x2x128 := by
  unfold YV V1
  rw [StableHlo.reshape_result']
  rfl

theorem RV_eq (d : Dev nD) : RV m d = shapeCast S4x2048x1024 (GV m d) shapeCasts_S8192x4x2x128_S4x2048x1024 :=
  by
  unfold RV
  rw [StableHlo.reshape_result']
  funext i
  show shapeCast S4x2048x1024 (V2 m d o') _ i = _
  rw [V2_o]

section Element

variable (j : S4x2048x1024.Idx)

/-- The element of the result at `(b, n, k)` is element `(k / 128 % 2, k % 128)` of quarter `k / 256` of the row of token
    `2048 b + n`. -/
def gIx : S8192x4x2x128.Idx
  | 0 => ⟨(j 0).val * 2048 + (j 1).val, by
      have h0 : (j 0).val < 4 := (j 0).isLt
      have h1 : (j 1).val < 2048 := (j 1).isLt
      show _ < 8192; omega⟩
  | 1 => ⟨(j 2).val / 256, by have h2 : (j 2).val < 1024 := (j 2).isLt; show _ < 4; omega⟩
  | 2 => ⟨(j 2).val / 128 % 2, by show _ < 2; omega⟩
  | 3 => ⟨(j 2).val % 128, by show _ < 128; omega⟩

/-- The same element as the reference lays it out: quarter, token, column of 256. -/
def tIx : ReferenceIdeal.S8192x4x256.Idx
  | 0 => gIx j 0
  | 1 => gIx j 1
  | 2 => ⟨(j 2).val % 256, by show _ < 256; omega⟩
def qIx : ReferenceIdeal.S4x8192x256.Idx
  | 0 => tIx j 1
  | 1 => tIx j 0
  | 2 => tIx j 2
def rIx : ReferenceIdeal.S32768x256.Idx
  | 0 => ⟨(j 2).val / 256 * 8192 + ((j 0).val * 2048 + (j 1).val), by
      have h0 : (j 0).val < 4 := (j 0).isLt
      have h1 : (j 1).val < 2048 := (j 1).isLt
      have h2 : (j 2).val < 1024 := (j 2).isLt
      show _ < 32768; omega⟩
  | 1 => tIx j 2
def eIx : ReferenceIdeal.S32768x1.Idx
  | 0 => rIx j 0
  | 1 => ⟨0, Nat.one_pos⟩
def fIx : ReferenceIdeal.S32768.Idx := fun
  | 0 => rIx j 0

theorem lists_read (I : IVec S4x64x128 32) :
    broadcastInDim ReferenceIdeal.S32768x1 ![0] ReferenceIdeal.Facts₀.bcast_S32768_S32768x1_0
        (shapeCast ReferenceIdeal.S32768 I ReferenceIdeal.Facts₀.shapeCasts_S4x64x128_S32768) (eIx j) = I (lst (gIx j)) := by
  refine Eq.trans (b := shapeCast ReferenceIdeal.S32768 I ReferenceIdeal.Facts₀.shapeCasts_S4x64x128_S32768 (fIx j)) ?_ ?_
  · unfold broadcastInDim
    refine congrArg _ (funext fun a => Fin.ext ?_)
    obtain rfl : a = 0 := Subsingleton.elim _ _
    rfl
  · refine shapeCast_apply I _ _ _ ?_
    rw [Shape.rowMajor_val_three, Shape.rowMajor_val_one]
    show ((j 2).val / 256 * 64 + ((j 0).val * 2048 + (j 1).val) / 128) * 128 + ((j 0).val * 2048 + (j 1).val) % 128
      = (j 2).val / 256 * 8192 + ((j 0).val * 2048 + (j 1).val)
    omega

end Element

/-- What the kernel leaves is what the reference takes. -/
theorem value_eq (A : FVec F S4x9216x256 .f32) (I : IVec S4x64x128 32) (hI : ∀ j, (I j).toNat < 36864) :
    shapeCast S4x2048x1024 (GOf (F := F) (shapeCast S36864x2x128 A shapeCasts_S4x9216x256_S36864x2x128) I) shapeCasts_S8192x4x2x128_S4x2048x1024
      = refOf A I := by
  funext j
  have h0 : (j 0).val < 4 := (j 0).isLt
  have h1 : (j 1).val < 2048 := (j 1).isLt
  have h2 : (j 2).val < 1024 := (j 2).isLt
  have hw := hI (lst (gIx j))
  obtain ⟨w, hwd⟩ : ∃ w : ℕ, w = (I (lst (gIx j))).toNat := ⟨_, rfl⟩
  rw [← hwd] at hw
  have hs0 : (srcIx I (gIx j) 0).val = w := by
    show (I (lst (gIx j))).toNat % 36864 = w
    rw [← hwd]; exact Nat.mod_eq_of_lt hw
  -- the element of the table, in the three-way layout of the argument
  let a : S4x9216x256.Idx := fun
    | 0 => ⟨w / 9216, by show _ < 4; omega⟩
    | 1 => ⟨w % 9216, by show _ < 9216; omega⟩
    | 2 => ⟨(j 2).val % 256, by show _ < 256; omega⟩
  let k : ReferenceIdeal.S36864x256.Idx := fun
    | 0 => ⟨w, hw⟩
    | 1 => ⟨(j 2).val % 256, by show _ < 256; omega⟩
  refine Eq.trans (b := A a) ?_ ?_
  · refine (shapeCast_apply _ _ j (gIx j) ?_).trans ?_
    · rw [Shape.rowMajor_val_three, Shape.rowMajor_val_four]
      show ((((j 0).val * 2048 + (j 1).val) * 4 + (j 2).val / 256) * 2 + (j 2).val / 128 % 2) * 128 + (j 2).val % 128
        = ((j 0).val * 2048 + (j 1).val) * 1024 + (j 2).val
      omega
    · refine shapeCast_apply A _ (srcIx I (gIx j)) a ?_
      rw [Shape.rowMajor_val_three, Shape.rowMajor_val_three, hs0]
      show (w / 9216 * 9216 + w % 9216) * 256 + (j 2).val % 256 = (w * 2 + (j 2).val / 128 % 2) * 128 + (j 2).val % 128
      omega
  · symm
    refine (shapeCast_apply _ _ j (tIx j) ?_).trans ?_
    · rw [Shape.rowMajor_val_three, Shape.rowMajor_val_three]
      show (((j 0).val * 2048 + (j 1).val) * 4 + (j 2).val / 256) * 256 + (j 2).val % 256
        = ((j 0).val * 2048 + (j 1).val) * 1024 + (j 2).val
      omega
    refine Eq.trans (b := shapeCast ReferenceIdeal.S4x8192x256 (takenOf A I) ReferenceIdeal.Facts₀.shapeCasts_S32768x256_S4x8192x256 (qIx j)) ?_ ?_
    · refine transpose_apply _ _ _ _ (qIx j) ?_
      intro b
      match b with
      | ⟨0, _⟩ => rfl
      | ⟨1, _⟩ => rfl
      | ⟨2, _⟩ => rfl
    refine (shapeCast_apply _ _ (qIx j) (rIx j) ?_).trans ?_
    · rw [Shape.rowMajor_val_three, Shape.rowMajor_val_two]
      rfl
    refine (take_row _ _ (rIx j) k (eIx j) rfl ?_ rfl).trans ?_
    · rw [lists_read]
      show w = _
      have ht : (I (lst (gIx j))).toInt.toNat = w := by
        rw [BitVec.toInt_eq_toNat_cond, ← hwd, if_pos (by omega)]
        rfl
      rw [ht]; omega
    · refine shapeCast_apply A _ k a ?_
      rw [Shape.rowMajor_val_three, Shape.rowMajor_val_two]
      show (w / 9216 * 9216 + w % 9216) * 256 + (j 2).val % 256 = w * 256 + (j 2).val % 256
      omega

theorem RV_ref (d : Dev nD) (hpre : PreOK m) : RV m d = refOf (m (aLoc d)) (m (iLoc d)) := by
  rw [RV_eq]
  unfold GV
  rw [YV_eq]
  exact value_eq _ _ (hpre d)

end Cert.Proof.Gather

end
-- ==== Proof.Served.Words.lean ====
/-
  The integer chains of the gather's tile in closed form: at trip `k` of the pipeline's loop the words carried, the
  conditions of its copies and the offsets of the blocks they name, for every tile of the grid.
-/
module

public import proofs.«01_k».proof.Proof.Gen.ServedIdeal
public import proofs.«01_k».proof.Proof.Gen.ServedIdeal.Skeleton
public import Idealize.ShloMosaic.Lib.Decide

@[expose] public section

noncomputable section

namespace Cert.Proof.Served

open Cert.ServedIdeal Cert.ServedIdeal.Gen
open Idealize.ShloMosaic Idealize.SL.Sem

/-- The tile's number. -/
abbrev tile (i : grid1.Coords) : ℕ := (i 0).val * 16 + (i 1).val

/-- The block of 128 rows that the tile gathers at trip `k`. -/
abbrev blk (i : grid1.Coords) (k : ℕ) : ℕ := (k / 4) * 128 + (4 * tile i + k % 4)

/-- The words the loop carries before trip `k`: the index copies started, the blocks gathered (twice), the output
    copies waited for, and the two coordinates of the block. -/
abbrev w6 (k : ℕ) : BitVec 32 := BitVec.ofNat 32 (min (k + 1) 8)
abbrev w7 (k : ℕ) : BitVec 32 := BitVec.ofNat 32 k
abbrev w9 (k : ℕ) : BitVec 32 := BitVec.ofNat 32 (k - 1)
abbrev w10 (k : ℕ) : BitVec 32 := BitVec.ofNat 32 ((k / 4) % 2)
abbrev w11 (k : ℕ) : BitVec 32 := BitVec.ofNat 32 (k % 4)

theorem trips_eq : k1_t1_loop.trips = 8 := by decide +kernel

theorem tile_lt (i : grid1.Coords) : tile i < 32 := by
  have h0 : (i 0).val < 2 := (i 0).isLt
  have h1 : (i 1).val < 16 := (i 1).isLt
  unfold tile; omega

theorem blk_lt (i : grid1.Coords) (k : ℕ) (hk : k < 8) : blk i k < 256 := by
  have := tile_lt i; unfold blk; omega

/-! ## The conditions -/

theorem cond1_iff : ∀ (i : grid1.Coords) (k : Fin k1_t1_loop.trips), (k1_cond1 i k (w10 k.val) (w11 k.val) = 1#1) ↔ k.val < 7 := by decide +kernel
theorem cond2_true : ∀ (i : grid1.Coords) (k : Fin k1_t1_loop.trips), k1_cond2 i k (w10 k.val) (w11 k.val) = 1#1 := by decide +kernel
theorem cond5_true : ∀ (i : grid1.Coords) (k : Fin k1_t1_loop.trips), k1_cond5 i k (w10 k.val) (w11 k.val) = 1#1 := by decide +kernel
theorem cond7_iff : ∀ (i : grid1.Coords) (k : Fin k1_t1_loop.trips), (k1_cond7 i k (w10 k.val) (w11 k.val) = 1#1) ↔ 0 < k.val := by decide +kernel

/-! ## The offsets -/

theorem off2_eq : ∀ i : grid1.Coords, k1_off2 i = ![blk i 0 / 64, blk i 0 % 64, 0] := by decide +kernel
theorem off4_eq : ∀ k : Fin k1_t1_loop.trips, k.val < 7 → k1_off4 (w6 k.val) = ![(k.val + 1) % 2, 0, 0, 0] := by decide +kernel
theorem off5_eq : ∀ (i : grid1.Coords) (k : Fin k1_t1_loop.trips), k.val < 7 →
    k1_off5 i (w10 k.val) (w11 k.val) = ![blk i (k.val + 1) / 64, blk i (k.val + 1) % 64, 0] := by decide +kernel
theorem off6_eq : ∀ k : Fin k1_t1_loop.trips, k.val < 7 → k1_off6 (w6 k.val) = ![(k.val + 1) % 2] := by decide +kernel
theorem off7_eq : ∀ k : Fin k1_t1_loop.trips, k1_off7 (w7 k.val) = ![k.val % 2, 0, 0, 0] := by decide +kernel
theorem off8_eq : ∀ (i : grid1.Coords) (k : Fin k1_t1_loop.trips),
    k1_off8 i (w10 k.val) (w11 k.val) = ![blk i k.val / 64, blk i k.val % 64, 0] := by decide +kernel
theorem off9_eq : ∀ k : Fin k1_t1_loop.trips, k1_off9 (w7 k.val) = ![k.val % 2] := by decide +kernel
theorem off10_eq : ∀ k : Fin k1_t1_loop.trips, k1_off10 (w7 k.val) = ![k.val % 2, 0, 0, 0] := by decide +kernel
theorem off11_eq : ∀ k : Fin k1_t1_loop.trips, k1_off11 (w7 k.val) = ![k.val % 2, 0, 0, 0] := by decide +kernel
theorem off12_eq : ∀ k : Fin k1_t1_loop.trips, k1_off12 (w7 k.val) = ![k.val % 2, 0, 0, 0] := by decide +kernel
theorem off13_eq : ∀ (i : grid1.Coords) (k : Fin k1_t1_loop.trips),
    k1_off13 i (w10 k.val) (w11 k.val) = ![128 * (blk i k.val % 64), blk i k.val / 64, 0, 0] := by decide +kernel
theorem off14_eq : ∀ k : Fin k1_t1_loop.trips, k1_off14 (w7 k.val) = ![k.val % 2] := by decide +kernel
theorem off15_eq : ∀ k : Fin k1_t1_loop.trips, 0 < k.val → k1_off15 (w9 k.val) = ![(k.val + 1) % 2, 0, 0, 0] := by decide +kernel
theorem off16_eq : ∀ (i : grid1.Coords) (k : Fin k1_t1_loop.trips), 0 < k.val →
    k1_off16 i (w10 k.val) (w11 k.val) = ![128 * (blk i (k.val - 1) % 64), blk i (k.val - 1) / 64, 0, 0] := by decide +kernel
theorem off17_eq : ∀ k : Fin k1_t1_loop.trips, 0 < k.val → k1_off17 (w9 k.val) = ![(k.val + 1) % 2] := by decide +kernel
theorem off18_eq : k1_off18 (w9 8) = ![1, 0, 0, 0] := by decide +kernel
theorem off19_eq : ∀ i : grid1.Coords, k1_off19 i (w11 8) (w10 8) = ![128 * (blk i 7 % 64), blk i 7 / 64, 0, 0] := by decide +kernel
theorem off20_eq : k1_off20 (w9 8) = ![1] := by decide +kernel
theorem off21_eq : k1_off21 (w9 8) = ![1, 0, 0, 0] := by decide +kernel

/-! ## The checks -/

theorem chk1_true : ∀ (i : grid1.Coords) (k : Fin k1_t1_loop.trips), k1_chk1 i k (w6 k.val) (w7 k.val) (w7 k.val) (w9 k.val) (w10 k.val) (w11 k.val) := by decide +kernel
theorem chk2_true : ∀ k : Fin k1_t1_loop.trips, k1_chk2 (w7 k.val) := by decide +kernel
theorem chk3_true : ∀ k : Fin k1_t1_loop.trips, k1_chk3 (w7 k.val) := by decide +kernel
theorem chk4_true : k1_chk4 (w9 8) := by decide +kernel
theorem chk5_true : ∀ i : grid1.Coords, k1_chk5 i (w11 8) (w10 8) := by decide +kernel

end Cert.Proof.Served

end
-- ==== Proof.Served.Names.lean ====
/-
  The gather's tile: the names of its buffers, of the blocks of 128 rows it moves, of the two slots of its staging
  buffers and of their semaphores; the slices that the printed body takes are these (`sl_canon`).
-/
module

public import proofs.«01_k».proof.Proof.Served.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Ring
public import Idealize.ShloMosaic.Lib.Tactic

@[expose] public section

noncomputable section

namespace Cert.Proof.Served

open Cert.ServedIdeal Cert.ServedIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

abbrev mLoc (d : Dev nD) (b : Ref sig .tc) : Loc nD τ sig := (SparseCore.T d).loc b
abbrev iLoc (d : Dev nD) : Loc nD τ sig := (SparseCore.T d).loc main_arg7
abbrev yLoc (d : Dev nD) : Loc nD τ sig := (SparseCore.T d).loc main_v3
abbrev oLoc (d : Dev nD) : Loc nD τ sig := (SparseCore.T d).loc main_v4
abbrev rLoc (d : Dev nD) : Loc nD τ sig := (SparseCore.T d).loc main_v5

abbrev yM : Memref sig .scVector .hbm S36864x2x128 .f32 := Memref.whole main_v3_scv
abbrev iM : Memref sig .scVector .hbm S4x64x128 .i32 := Memref.whole main_arg7_scv
abbrev oM : Memref sig .scVector .hbm S8192x4x2x128 .f32 := Memref.whole main_v4_scv
abbrev ibM : Memref sig .scVector .vmem S2x1x1x128 .i32 := Memref.whole cc1_scoped0
abbrev obM : Memref sig .scVector .vmem S2x128x2x128 .f32 := Memref.whole cc1_scoped2

/-! ## Slots, blocks and cells -/

abbrev iOff (p : Fin 2) : Fin 4 → Nat := ![p.val, 0, 0, 0]
theorem iOff_inb (p : Fin 2) : ∀ a, iOff p a + S1x1x1x128.size a ≤ S2x1x1x128.size a := by
  have := p.isLt; intro a; fin_cases a
  · show p.val + 1 ≤ 2; omega
  · show 0 + 1 ≤ 1; omega
  · show 0 + 1 ≤ 1; omega
  · show 0 + 128 ≤ 128; omega
theorem oOff_inb (p : Fin 2) : ∀ a, iOff p a + S1x128x2x128.size a ≤ S2x128x2x128.size a := by
  have := p.isLt; intro a; fin_cases a
  · show p.val + 1 ≤ 2; omega
  · show 0 + 128 ≤ 128; omega
  · show 0 + 2 ≤ 2; omega
  · show 0 + 128 ≤ 128; omega
abbrev sOff (p : Fin 2) : Fin 1 → Nat := ![p.val]
theorem sOff_inb (p : Fin 2) : ∀ a, sOff p a + S1.size a ≤ S2.size a := by
  have := p.isLt; intro a; fin_cases a; show p.val + 1 ≤ 2; omega
abbrev rOff (i : grid1.Coords) (t : Fin 8) : Fin 3 → Nat := ![blk i t.val / 64, blk i t.val % 64, 0]
theorem rOff_inb (i : grid1.Coords) (t : Fin 8) : ∀ a, rOff i t a + S1x1x128.size a ≤ S4x64x128.size a := by
  have := blk_lt i t.val t.isLt; intro a; fin_cases a
  · show blk i t.val / 64 + 1 ≤ 4; omega
  · show blk i t.val % 64 + 1 ≤ 64; omega
  · show 0 + 128 ≤ 128; omega
abbrev bOff (i : grid1.Coords) (t : Fin 8) : Fin 4 → Nat := ![128 * (blk i t.val % 64), blk i t.val / 64, 0, 0]
theorem bOff_inb (i : grid1.Coords) (t : Fin 8) : ∀ a, bOff i t a + S128x1x2x128.size a ≤ S8192x4x2x128.size a := by
  have := blk_lt i t.val t.isLt; intro a; fin_cases a
  · show 128 * (blk i t.val % 64) + 128 ≤ 8192; omega
  · show blk i t.val / 64 + 1 ≤ 4; omega
  · show 0 + 2 ≤ 2; omega
  · show 0 + 128 ≤ 128; omega

/-- Slot `p` of the index buffer. -/
def iSlot (p : Fin 2) : Memref sig .scVector .vmem S1x1x128 .i32 :=
  (ibM.slice (Rect.unit (s := S2x1x1x128) (iOff p) S1x1x1x128.size (iOff_inb p)) (fun _ => rfl)).squeeze S1x1x128 squeezes_S1x1x1x128_S1x1x128
/-- Slot `p` of the row buffer. -/
def oSlot (p : Fin 2) : Memref sig .scVector .vmem S128x2x128 .f32 :=
  (obM.slice (Rect.unit (s := S2x128x2x128) (iOff p) S1x128x2x128.size (oOff_inb p)) (fun _ => rfl)).squeeze S128x2x128 squeezes_S1x128x2x128_S128x2x128
/-- The list of the 128 row numbers of trip `t`. -/
def iRow (i : grid1.Coords) (t : Fin 8) : Memref sig .scVector .hbm S1x1x128 .i32 :=
  iM.slice (Rect.unit (s := S4x64x128) (rOff i t) S1x1x128.size (rOff_inb i t)) (fun _ => rfl)
/-- The block of 128 rows of the output of trip `t`. -/
def oBlk (i : grid1.Coords) (t : Fin 8) : Memref sig .scVector .hbm S128x2x128 .f32 :=
  (oM.slice (Rect.unit (s := S8192x4x2x128) (bOff i t) S128x1x2x128.size (bOff_inb i t)) (fun _ => rfl)).squeeze S128x2x128 squeezes_S128x1x2x128_S128x2x128
/-- The cell of the index copies into slot `p`; of the output copies out of slot `p`. -/
def iSem (p : Fin 2) : DmaSems sig S_ := (cc1_scoped1.slice (Rect.unit (s := S2) (sOff p) S1.size (sOff_inb p))).squeeze S_ squeezes_S1_S_
def oSem (p : Fin 2) : DmaSems sig S_ := (cc1_scoped3.slice (Rect.unit (s := S2) (sOff p) S1.size (sOff_inb p))).squeeze S_ squeezes_S1_S_

/-! ## The printed slices are these -/

private theorem iSem_congr {off : Fin 1 → Nat} {p : Fin 2} (e : off = sOff p) (hh) :
    (cc1_scoped1.slice (Rect.unit (s := S2) off S1.size hh)).squeeze S_ squeezes_S1_S_ = iSem p :=
  congrArg (fun A : DmaSems sig S1 => A.squeeze S_ squeezes_S1_S_) (SemArray.slice_unit_congr _ e _ _)
private theorem oSem_congr {off : Fin 1 → Nat} {p : Fin 2} (e : off = sOff p) (hh) :
    (cc1_scoped3.slice (Rect.unit (s := S2) off S1.size hh)).squeeze S_ squeezes_S1_S_ = oSem p :=
  congrArg (fun A : DmaSems sig S1 => A.squeeze S_ squeezes_S1_S_) (SemArray.slice_unit_congr _ e _ _)
private theorem iSlot_congr {off : Fin 4 → Nat} {p : Fin 2} (e : off = iOff p) (hh hs) :
    (ibM.slice (Rect.unit (s := S2x1x1x128) off S1x1x1x128.size hh) hs).squeeze S1x1x128 squeezes_S1x1x1x128_S1x1x128 = iSlot p :=
  congrArg (fun M : Memref sig .scVector .vmem S1x1x1x128 .i32 => M.squeeze S1x1x128 squeezes_S1x1x1x128_S1x1x128) (Memref.slice_unit_congr _ e _ _ _ _)
private theorem oSlot_congr {off : Fin 4 → Nat} {p : Fin 2} (e : off = iOff p) (hh hs) :
    (obM.slice (Rect.unit (s := S2x128x2x128) off S1x128x2x128.size hh) hs).squeeze S128x2x128 squeezes_S1x128x2x128_S128x2x128 = oSlot p :=
  congrArg (fun M : Memref sig .scVector .vmem S1x128x2x128 .f32 => M.squeeze S128x2x128 squeezes_S1x128x2x128_S128x2x128) (Memref.slice_unit_congr _ e _ _ _ _)
private theorem iRow_congr {i : grid1.Coords} {off : Fin 3 → Nat} {t : Fin 8} (e : off = rOff i t) (hh hs) :
    iM.slice (Rect.unit (s := S4x64x128) off S1x1x128.size hh) hs = iRow i t := Memref.slice_unit_congr _ e _ _ _ (fun _ => rfl)
private theorem oBlk_congr {i : grid1.Coords} {off : Fin 4 → Nat} {t : Fin 8} (e : off = bOff i t) (hh hs) :
    (oM.slice (Rect.unit (s := S8192x4x2x128) off S128x1x2x128.size hh) hs).squeeze S128x2x128 squeezes_S128x1x2x128_S128x2x128 = oBlk i t :=
  congrArg (fun M : Memref sig .scVector .hbm S128x1x2x128 .f32 => M.squeeze S128x2x128 squeezes_S128x1x2x128_S128x2x128) (Memref.slice_unit_congr _ e _ _ _ _)

theorem sl_val (k : ℕ) : (Ring.sl 2 k).val = k % 2 := rfl

section Canon
variable (i : grid1.Coords) (k : Fin k1_t1_loop.trips)

@[sl_canon] theorem c1 (hh hs) : (ibM.slice (Rect.unit (s := S2x1x1x128) k1_off1 S1x1x1x128.size hh) hs).squeeze S1x1x128 squeezes_S1x1x1x128_S1x1x128 = iSlot 0 :=
  iSlot_congr (by rw [k1_off1_eq]; rfl) _ _
@[sl_canon] theorem c2 (hh hs) : iM.slice (Rect.unit (s := S4x64x128) (k1_off2 i) S1x1x128.size hh) hs = iRow i 0 := iRow_congr (by rw [off2_eq i]; rfl) _ _
@[sl_canon] theorem c3 (hh) : (cc1_scoped1.slice (Rect.unit (s := S2) k1_off3 S1.size hh)).squeeze S_ squeezes_S1_S_ = iSem 0 :=
  iSem_congr (by rw [k1_off3_eq]; rfl) _
@[sl_canon] theorem c4 (hk : k.val < 7) (hh hs) : (ibM.slice (Rect.unit (s := S2x1x1x128) (k1_off4 (w6 k.val)) S1x1x1x128.size hh) hs).squeeze S1x1x128 squeezes_S1x1x1x128_S1x1x128 = iSlot (Ring.sl 2 (k.val + 1)) :=
  iSlot_congr (by rw [off4_eq k hk]; rfl) _ _
@[sl_canon] theorem c5 (hk : k.val < 7) (hh hs) : iM.slice (Rect.unit (s := S4x64x128) (k1_off5 i (w10 k.val) (w11 k.val)) S1x1x128.size hh) hs = iRow i (Ring.bk 8 (k.val + 1)) :=
  iRow_congr (by rw [off5_eq i k hk, rOff, Ring.bk_val (by omega)]) _ _
@[sl_canon] theorem c6 (hk : k.val < 7) (hh) : (cc1_scoped1.slice (Rect.unit (s := S2) (k1_off6 (w6 k.val)) S1.size hh)).squeeze S_ squeezes_S1_S_ = iSem (Ring.sl 2 (k.val + 1)) :=
  iSem_congr (by rw [off6_eq k hk]; rfl) _
@[sl_canon] theorem c7 (hh hs) : (ibM.slice (Rect.unit (s := S2x1x1x128) (k1_off7 (w7 k.val)) S1x1x1x128.size hh) hs).squeeze S1x1x128 squeezes_S1x1x1x128_S1x1x128 = iSlot (Ring.sl 2 k.val) :=
  iSlot_congr (by rw [off7_eq k]; rfl) _ _
@[sl_canon] theorem c8 (hh hs) : iM.slice (Rect.unit (s := S4x64x128) (k1_off8 i (w10 k.val) (w11 k.val)) S1x1x128.size hh) hs = iRow i (Ring.bk 8 k.val) :=
  iRow_congr (by rw [off8_eq i k, rOff, Ring.bk_val (Nat.lt_of_lt_of_eq k.isLt trips_eq)]) _ _
@[sl_canon] theorem c9 (hh) : (cc1_scoped1.slice (Rect.unit (s := S2) (k1_off9 (w7 k.val)) S1.size hh)).squeeze S_ squeezes_S1_S_ = iSem (Ring.sl 2 k.val) :=
  iSem_congr (by rw [off9_eq k]; rfl) _
@[sl_canon] theorem c10 (hh hs) : (obM.slice (Rect.unit (s := S2x128x2x128) (k1_off10 (w7 k.val)) S1x128x2x128.size hh) hs).squeeze S128x2x128 squeezes_S1x128x2x128_S128x2x128 = oSlot (Ring.sl 2 k.val) :=
  oSlot_congr (by rw [off10_eq k]; rfl) _ _
@[sl_canon] theorem c11 (hh hs) : (ibM.slice (Rect.unit (s := S2x1x1x128) (k1_off11 (w7 k.val)) S1x1x1x128.size hh) hs).squeeze S1x1x128 squeezes_S1x1x1x128_S1x1x128 = iSlot (Ring.sl 2 k.val) :=
  iSlot_congr (by rw [off11_eq k]; rfl) _ _
@[sl_canon] theorem c12 (hh hs) : (obM.slice (Rect.unit (s := S2x128x2x128) (k1_off12 (w7 k.val)) S1x128x2x128.size hh) hs).squeeze S128x2x128 squeezes_S1x128x2x128_S128x2x128 = oSlot (Ring.sl 2 k.val) :=
  oSlot_congr (by rw [off12_eq k]; rfl) _ _
@[sl_canon] theorem c13 (hh hs) : (oM.slice (Rect.unit (s := S8192x4x2x128) (k1_off13 i (w10 k.val) (w11 k.val)) S128x1x2x128.size hh) hs).squeeze S128x2x128 squeezes_S128x1x2x128_S128x2x128 = oBlk i (Ring.bk 8 k.val) :=
  oBlk_congr (by rw [off13_eq i k, bOff, Ring.bk_val (Nat.lt_of_lt_of_eq k.isLt trips_eq)]) _ _
@[sl_canon] theorem c14 (hh) : (cc1_scoped3.slice (Rect.unit (s := S2) (k1_off14 (w7 k.val)) S1.size hh)).squeeze S_ squeezes_S1_S_ = oSem (Ring.sl 2 k.val) :=
  oSem_congr (by rw [off14_eq k]; rfl) _
@[sl_canon] theorem c15 (hk : 0 < k.val) (hh hs) : (obM.slice (Rect.unit (s := S2x128x2x128) (k1_off15 (w9 k.val)) S1x128x2x128.size hh) hs).squeeze S128x2x128 squeezes_S1x128x2x128_S128x2x128 = oSlot (Ring.sl 2 (k.val + 1)) :=
  oSlot_congr (by rw [off15_eq k hk]; rfl) _ _
@[sl_canon] theorem c16 (hk : 0 < k.val) (hh hs) : (oM.slice (Rect.unit (s := S8192x4x2x128) (k1_off16 i (w10 k.val) (w11 k.val)) S128x1x2x128.size hh) hs).squeeze S128x2x128 squeezes_S128x1x2x128_S128x2x128 = oBlk i (Ring.bk 8 (k.val - 1)) :=
  oBlk_congr (by rw [off16_eq i k hk, bOff, Ring.bk_val (show k.val - 1 < 8 by have := Nat.lt_of_lt_of_eq k.isLt trips_eq; omega)]) _ _
@[sl_canon] theorem c17 (hk : 0 < k.val) (hh) : (cc1_scoped3.slice (Rect.unit (s := S2) (k1_off17 (w9 k.val)) S1.size hh)).squeeze S_ squeezes_S1_S_ = oSem (Ring.sl 2 (k.val + 1)) :=
  oSem_congr (by rw [off17_eq k hk]; rfl) _
@[sl_canon] theorem c19 (hh hs) : (oM.slice (Rect.unit (s := S8192x4x2x128) (k1_off19 i (w11 8) (w10 8)) S128x1x2x128.size hh) hs).squeeze S128x2x128 squeezes_S128x1x2x128_S128x2x128 = oBlk i 7 :=
  oBlk_congr (by rw [off19_eq i]; rfl) _ _
@[sl_canon] theorem c20 (hh) : (cc1_scoped3.slice (Rect.unit (s := S2) (k1_off20 (w9 8)) S1.size hh)).squeeze S_ squeezes_S1_S_ = oSem 1 :=
  oSem_congr (by rw [off20_eq]; rfl) _
@[sl_canon] theorem c21 (hh hs) : (obM.slice (Rect.unit (s := S2x128x2x128) (k1_off21 (w9 8)) S1x128x2x128.size hh) hs).squeeze S128x2x128 squeezes_S1x128x2x128_S128x2x128 = oSlot 1 :=
  oSlot_congr (by rw [off21_eq]; rfl) _ _

end Canon

end Cert.Proof.Served

end
-- ==== Proof.Served.Res.lean ====
module

public import proofs.«01_k».proof.Proof.Served.Names

@[expose] public section

noncomputable section

namespace Cert.Proof.Served

open Cert.ServedIdeal Cert.ServedIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile
variable (d : Dev nD) (L : grid1.Coords) (q : PosShare TreeShare)

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

/-- The table, as the gather names it. -/
abbrev yAll : Memref sig .scVector .hbm S36864x2x128 .f32 :=
  yM.slice (Rect.unit (s := S36864x2x128) ![0, 0, 0] S36864x2x128.size inb_S36864x2x128_S36864x2x128_0_0_0) (fun _ => rfl)

variable (XY : Buf (Elt F) ((yAll).view.loc (VT d L))) (XI : Buf (Elt F) (iM.view.loc (VT d L)))

abbrev yP : sProp 𝕄 := (yAll).view.loc (VT d L) ↦[(yAll).view.set]{q} XY
abbrev iRowP (t : Fin 8) : sProp 𝕄 := (iRow L t).view.loc (VT d L) ↦[(iRow L t).view.set]{fullShare} XI
abbrev iSlotP (p : Fin 2) (f : Buf (Elt F) ((iSlot p).view.loc (VT d L))) : sProp 𝕄 := (iSlot p).view.loc (VT d L) ↦[(iSlot p).view.set]{fullShare} f
abbrev oSlotP (p : Fin 2) (f : Buf (Elt F) ((oSlot p).view.loc (VT d L))) : sProp 𝕄 := (oSlot p).view.loc (VT d L) ↦[(oSlot p).view.set]{fullShare} f
abbrev oBlkP (t : Fin 8) (f : Buf (Elt F) ((oBlk L t).view.loc (VT d L))) : sProp 𝕄 := (oBlk L t).view.loc (VT d L) ↦[(oBlk L t).view.set]{fullShare} f
abbrev iCell (p : Fin 2) : sProp 𝕄 := semVal (VT d L, SemLoc.dma (iSem p).sem) 0
abbrev oCell (p : Fin 2) : sProp 𝕄 := semVal (VT d L, SemLoc.dma (oSem p).sem) 0
abbrev gCell : sProp 𝕄 := semVal (VT d L, SemLoc.dma (cc1_scoped4).sem) 0

/-- An index copy in flight: list `t` into slot `p`, over `f`. -/
abbrev iFl (p : Fin 2) (t : Fin 8) (f : Buf (Elt F) ((iSlot p).view.loc (VT d L))) : sProp 𝕄 :=
  Transfers.Flight countersEmb (VT d L) (SemLoc.dma (iSem p).sem) (default : HIx 1) 4096
    iprop(iSlotP d L p ((iSlot p).view.writes (Elt F) f [⟨Rect.whole S1x1x128, ReadAs.same.apply ((iRow L t).view.read (Elt F) XI)⟩]) ∗ iRowP d L XI t)
/-- An output copy in flight: slot `p`, holding `g`, to block `t`, over `f`. -/
abbrev oFl (p : Fin 2) (t : Fin 8) (g : Buf (Elt F) ((oSlot p).view.loc (VT d L))) (f : Buf (Elt F) ((oBlk L t).view.loc (VT d L))) : sProp 𝕄 :=
  Transfers.Flight countersEmb (VT d L) (SemLoc.dma (oSem p).sem) (default : HIx 1) 1048576
    iprop(oBlkP d L t ((oBlk L t).view.writes (Elt F) f [⟨Rect.whole S128x2x128, ReadAs.same.apply ((oSlot p).view.read (Elt F) g)⟩]) ∗ oSlotP d L p g)

abbrev tripProg (k : Fin k1_t1_loop.trips) := k1_t1_body (F := F) L yM (Memref.isWhole_whole _) iM (Memref.isWhole_whole _) oM (Memref.isWhole_whole _)
    ibM (Memref.isWhole_whole _) cc1_scoped1 obM (Memref.isWhole_whole _) cc1_scoped3 cc1_scoped4 (BitVec.ofNat 32 (4 * tile L)) k (w6 k.val, w7 k.val, w7 k.val, w9 k.val, w10 k.val, w11 k.val)

/-- The list in slot `p`, as the gather names it. -/
abbrev offs (p : Fin 2) : Memref sig .scVector .vmem S128 .i32 :=
  ((iSlot p).slice (Rect.unit (s := S1x1x128) ![0, 0, 0] S1x1x128.size inb_S1x1x128_S1x1x128_0_0_0) (fun _ => rfl)).squeeze S128 squeezes_S1x1x128_S128

/-- The entry of the list array that names the row gathered to element `j` of the output. -/
def lst (j : S8192x4x2x128.Idx) : S4x64x128.Idx
  | 0 => j 1
  | 1 => ⟨(j 0).val / 128, by have : (j 0).val < 8192 := (j 0).isLt; show (j 0).val / 128 < 64; omega⟩
  | 2 => ⟨(j 0).val % 128, by show (j 0).val % 128 < 128; omega⟩
/-- The element of the table gathered there. -/
def srcIx (I : S4x64x128.Idx → BitVec 32) (j : S8192x4x2x128.Idx) : S36864x2x128.Idx
  | 0 => Fin.ofNat 36864 (I (lst j)).toNat
  | 1 => j 2
  | 2 => j 3
/-- What the gather leaves in the output. -/
def GOf (Y : S36864x2x128.Idx → Elt F .f32) (I : S4x64x128.Idx → BitVec 32) : S8192x4x2x128.Idx → Elt F .f32 := fun j => Y (srcIx I j)

/-- The contents of an index slot that a list was copied to. -/
abbrev lstAt (p : Fin 2) (t : Fin 8) (g : Buf (Elt F) ((iSlot p).view.loc (VT d L))) : Buf (Elt F) ((iSlot p).view.loc (VT d L)) :=
  (iSlot p).view.writes (Elt F) g [⟨Rect.whole S1x1x128, ReadAs.same.apply ((iRow L t).view.read (Elt F) XI)⟩]

theorem offs_emb : ∀ x : S128.Idx, (((Rect.unit (s := S1x1x128) ![0, 0, 0] S1x1x128.size inb_S1x1x128_S1x1x128_0_0_0).emb
    (Shape.reshapeEquiv squeezes_S1x1x128_S128.numel_eq x)) 2).val = (x 0).val := by decide +kernel

/-- Entry `x` of the list in the slot. -/
theorem offs_read (p : Fin 2) (t : Fin 8) (g : Buf (Elt F) ((iSlot p).view.loc (VT d L))) (x : S128.Idx) (j : S4x64x128.Idx)
    (h0 : (j 0).val = blk L t.val / 64) (h1 : (j 1).val = blk L t.val % 64) (h2 : (j 2).val = (x 0).val) :
    (offs p).view.read (Elt F) (lstAt d L XI p t g) x = XI j := by
  have e : (offs p).view.read (Elt F) (lstAt d L XI p t g) x
      = (iSlot p).view.read (Elt F) (lstAt d L XI p t g) ((Rect.unit (s := S1x1x128) ![0, 0, 0] S1x1x128.size inb_S1x1x128_S1x1x128_0_0_0).emb
          (Shape.reshapeEquiv squeezes_S1x1x128_S128.numel_eq x)) := by
    rw [View.read_apply, View.read_apply]; rfl
  have hx := offs_emb x
  rw [e, View.read_writes_whole]
  generalize (Rect.unit (s := S1x1x128) ![0, 0, 0] S1x1x128.size inb_S1x1x128_S1x1x128_0_0_0).emb
          (Shape.reshapeEquiv squeezes_S1x1x128_S128.numel_eq x) = y at hx ⊢
  refine ((View.read_apply _ _).trans (cast_eq _ _)).trans (congrArg XI ?_)
  refine (show ∀ u : S4x64x128.Idx, (u 0).val = (j 0).val → (u 1).val = (j 1).val → (u 2).val = (j 2).val → u = j from fun u a b c => by
    funext a; apply Fin.ext; match a with
    | 0 => assumption
    | 1 => assumption
    | 2 => assumption) _ ?_ ?_ ?_
  · show blk L t.val / 64 + 1 * (y 0).val = _; rw [h0]; have y0 : (y 0).val < 1 := (y 0).isLt; omega
  · show blk L t.val % 64 + 1 * (y 1).val = _; rw [h1]; have y1 : (y 1).val < 1 := (y 1).isLt; omega
  · show 0 + 1 * (y 2).val = _; rw [h2]; omega

theorem hin_of (hXI : ∀ j, (XI j).toNat < 36864) (p : Fin 2) (t : Fin 8) (g : Buf (Elt F) ((iSlot p).view.loc (VT d L))) :
    ∀ x, ((offs p).view.read (Elt F) (lstAt d L XI p t g) x).toNat < S36864x2x128.size gathers_S36864x2x128_S128x2x128.axis := by
  intro x
  have hb := blk_lt L t.val t.isLt
  have := offs_read d L XI p t g x (fun | 0 => ⟨blk L t.val / 64, by show _ < 4; omega⟩ | 1 => ⟨blk L t.val % 64, by show _ < 64; omega⟩ | 2 => x 0) rfl rfl rfl
  rw [this]; exact hXI _

/-- The element of the output that element `x` of the block of trip `t` is. -/
abbrev oIx (t : Fin 8) (x : S128x2x128.Idx) : S8192x4x2x128.Idx := (oBlk L t).view.emb x

theorem oBlk_emb (t : Fin 8) (x : S128x2x128.Idx) :
    ((oIx L t x) 0).val = 128 * (blk L t.val % 64) + (x 0).val ∧ ((oIx L t x) 1).val = blk L t.val / 64
      ∧ ((oIx L t x) 2).val = (x 1).val ∧ ((oIx L t x) 3).val = (x 2).val := by
  let y : S128x1x2x128.Idx := fun | 0 => x 0 | 1 => ⟨0, by decide⟩ | 2 => x 1 | 3 => x 2
  have e : Shape.reshapeEquiv squeezes_S128x1x2x128_S128x2x128.numel_eq x = y := by
    refine Shape.reshapeEquiv_eq_of_rowMajor _ ?_
    rw [Shape.rowMajor_val_three, Shape.rowMajor_val_four]
    show (((x 0).val * 1 + 0) * 2 + (x 1).val) * 128 + (x 2).val = ((x 0).val * 2 + (x 1).val) * 128 + (x 2).val
    omega
  refine ⟨?_, ?_, ?_, ?_⟩
  · show 128 * (blk L t.val % 64) + 1 * (Shape.reshapeEquiv squeezes_S128x1x2x128_S128x2x128.numel_eq x 0).val = _
    rw [e]; show _ + 1 * (x 0).val = _; omega
  · show blk L t.val / 64 + 1 * (Shape.reshapeEquiv squeezes_S128x1x2x128_S128x2x128.numel_eq x 1).val = _
    rw [e]; rfl
  · show 0 + 1 * (Shape.reshapeEquiv squeezes_S128x1x2x128_S128x2x128.numel_eq x 2).val = _
    rw [e]; show 0 + 1 * (x 1).val = _; omega
  · show 0 + 1 * (Shape.reshapeEquiv squeezes_S128x1x2x128_S128x2x128.numel_eq x 3).val = _
    rw [e]; show 0 + 1 * (x 2).val = _; omega

theorem yAll_emb (z : S36864x2x128.Idx) : ((yAll).view.emb z : S36864x2x128.Idx) = z := by
  funext a; apply Fin.ext
  match a with
  | 0 => show 0 + 1 * (z 0).val = _; omega
  | 1 => show 0 + 1 * (z 1).val = _; omega
  | 2 => show 0 + 1 * (z 2).val = _; omega

theorem yAll_read (z : S36864x2x128.Idx) : (yAll).view.read (Elt F) XY z = XY z :=
  ((View.read_apply _ _).trans (cast_eq _ _)).trans (congrArg XY (yAll_emb z))

/-- The element a gather by the rows `r` takes. -/
theorem gidx (r : Fin (S128x2x128.size gathers_S36864x2x128_S128x2x128.axis') → Fin (S36864x2x128.size gathers_S36864x2x128_S128x2x128.axis)) (x : S128x2x128.Idx) (j : S36864x2x128.Idx)
    (h0 : (r (x 0)).val = (j 0).val) (h1 : (x 1).val = (j 1).val) (h2 : (x 2).val = (j 2).val) :
    gathers_S36864x2x128_S128x2x128.idx r x = j := by
  funext a; apply Fin.ext
  match a with
  | 0 => exact (congrArg Fin.val (Shape.Gathers.idx_axis _ r x)).trans h0
  | 1 => exact (Shape.Gathers.idx_of_ne _ r x _ (by decide)).trans h1
  | 2 => exact (Shape.Gathers.idx_of_ne _ r x _ (by decide)).trans h2

theorem rows_val (w : S128.Idx → Elt F .i32) (hn : S128.numel = S128x2x128.size gathers_S36864x2x128_S128x2x128.axis')
    (h : ∀ x, (w x).toNat < S36864x2x128.size gathers_S36864x2x128_S128x2x128.axis) (k : Fin (S128x2x128.size gathers_S36864x2x128_S128x2x128.axis')) :
    ∃ y : S128.Idx, (y 0).val = k.val ∧ (SparseCore.rows (F := F) w hn h k).val = (w y).toNat := by
  refine ⟨S128.rowMajor.symm (k.cast hn.symm), ?_, rfl⟩
  rw [← Shape.rowMajor_val_one (d := ![128]), Equiv.apply_symm_apply]; rfl

/-- The rows gathered by the list of trip `t` are the output's block of that trip. -/
theorem gather_val (hXI : ∀ j, (XI j).toNat < 36864) (p : Fin 2) (t : Fin 8) (g : Buf (Elt F) ((iSlot p).view.loc (VT d L)))
    (hn : S128.numel = S128x2x128.size gathers_S36864x2x128_S128x2x128.axis') (x : S128x2x128.Idx) :
    SparseCore.gatherPayload gathers_S36864x2x128_S128x2x128 ((yAll).view.read (Elt F) XY)
        (SparseCore.rows ((offs p).view.read (Elt F) (lstAt d L XI p t g)) hn (hin_of d L XI hXI p t g)) x
      = GOf (F := F) XY XI (oIx L t x) := by
  have hin := hin_of d L XI hXI p t g
  have hw : ∀ y j, _ := offs_read d L XI p t g
  have hr := rows_val ((offs p).view.read (Elt F) (lstAt d L XI p t g)) hn hin
  change SparseCore.gatherPayload _ _ (SparseCore.rows _ hn hin) x = _
  generalize (offs p).view.read (Elt F) (lstAt d L XI p t g) = w at hin hw hr ⊢
  generalize SparseCore.rows w hn hin = r at hr ⊢
  obtain ⟨e0, e1, e2, e3⟩ := oBlk_emb L t x
  have hb := blk_lt L t.val t.isLt
  have hx0 : (x 0).val < 128 := (x 0).isLt
  obtain ⟨y, hy, hr⟩ := hr (x 0)
  rw [SparseCore.gatherPayload, yAll_read]
  refine congrArg XY (gidx r x (srcIx XI (oIx L t x)) ?_ e2.symm e3.symm)
  rw [hr, hw y (lst (oIx L t x)) e1
    (by show (oIx L t x 0).val / 128 = _; rw [e0]; omega)
    (by show (oIx L t x 0).val % 128 = _; rw [e0, hy]; omega)]
  exact (Nat.mod_eq_of_lt (hXI (lst (oIx L t x)))).symm

theorem of_eq {P Q : sProp 𝕄} (e : P = Q) : P ⊢ Q := e ▸ .rfl

/-! ## The states of the slots and of the blocks -/

/-- An index slot at rest; with the list of trip `t` on its way into it. -/
abbrev iFree (p : Fin 2) : sProp 𝕄 := iprop((∃ f, iSlotP d L p f) ∗ iCell d L p)
abbrev iBusy (p : Fin 2) (t : Fin 8) : sProp 𝕄 := iprop(∃ f, iFl d L XI p t f)
/-- A row slot at rest; with the rows of trip `t` on their way out of it. -/
abbrev oFree (p : Fin 2) : sProp 𝕄 := iprop((∃ f, oSlotP (F := F) d L p f) ∗ oCell d L p)
abbrev oBusy (p : Fin 2) (t : Fin 8) : sProp 𝕄 :=
  iprop(∃ g f, ⌜∀ x, (oSlot p).view.read (Elt F) g x = GOf (F := F) XY XI (oIx L t x)⌝ ∗ oFl d L p t g f)
/-- A block of the output at what the gather leaves there; at anything. -/
abbrev oDone (t : Fin 8) : sProp 𝕄 := oBlkP d L t (GOf (F := F) XY XI)
abbrev oTodo (t : Fin 8) : sProp 𝕄 := iprop(∃ f, oBlkP (F := F) d L t f)
/-- What the core owes, its waits grown by waits of its own copies. -/
abbrev owesMore (O : CellTallies nD τ sig (HIx 1)) (W : Waits sig (HIx 1)) : sProp 𝕄 :=
  iprop(∃ W', ⌜∀ p ∈ W', p ∈ W ∨ p.2 = none⌝ ∗ owes (VT d L) O W')

/-- A block that the rows were copied to is at what the gather leaves there. -/
theorem done_of (p : Fin 2) (t : Fin 8) (g : Buf (Elt F) ((oSlot p).view.loc (VT d L))) (f : Buf (Elt F) ((oBlk L t).view.loc (VT d L)))
    (h : ∀ x, (oSlot p).view.read (Elt F) g x = GOf (F := F) XY XI (oIx L t x)) :
    oBlkP (F := F) d L t ((oBlk L t).view.writes (Elt F) f [⟨Rect.whole S128x2x128, ReadAs.same.apply ((oSlot p).view.read (Elt F) g)⟩])
      = oDone d L XY XI t := by
  refine pointsTo_congr fun i hi => ?_
  obtain ⟨x, -, rfl⟩ := Finset.mem_map.mp hi
  have e := congrFun (View.read_writes_whole (Val := Elt F) (oBlk L t).view f (ReadAs.same.apply ((oSlot p).view.read (Elt F) g))) x
  rw [View.read_apply] at e
  exact (cast_eq _ _).symm.trans (e.trans (h x))

end Tile

end Cert.Proof.Served

end
-- ==== Proof.Served.Trip.lean ====
module

public import proofs.«01_k».proof.Proof.Served.Res

@[expose] public section

noncomputable section

namespace Cert.Proof.Served

open Cert.ServedIdeal Cert.ServedIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile
variable (d : Dev nD) (L : grid1.Coords) (q : PosShare TreeShare)
variable (XY : Buf (Elt F) ((yAll).view.loc (VT d L))) (XI : Buf (Elt F) (iM.view.loc (VT d L)))

abbrev wordsAt (k : ℕ) : BitVec 32 × BitVec 32 × BitVec 32 × BitVec 32 × BitVec 32 × BitVec 32 := (w6 k, w7 k, w7 k, w9 k, w10 k, w11 k)

set_option maxHeartbeats 4000000 in
/-- A trip of the middle. -/
theorem trip_mid (k : Fin k1_t1_loop.trips) (h0 : 0 < k.val) (h7 : k.val < 7) (O : CellTallies nD τ sig (HIx 1)) (W : Waits sig (HIx 1)) (hXI : ∀ j, (XI j).toNat < 36864) :
    (iprop(Transfers.MayWaits (VT d L) (default : HIx 1) O
        ∗ yP d L q XY ∗ iRowP d L XI (Ring.bk 8 (k.val + 1))
        ∗ iFree d L (Ring.sl 2 (k.val + 1)) ∗ iBusy d L XI (Ring.sl 2 k.val) (Ring.bk 8 k.val)
        ∗ oBusy d L XY XI (Ring.sl 2 (k.val + 1)) (Ring.bk 8 (k.val - 1)) ∗ oFree d L (Ring.sl 2 k.val)
        ∗ oTodo d L (Ring.bk 8 k.val) ∗ gCell d L ∗ owes (VT d L) O W) : sProp 𝕄)
      ⊢ wp frame (wpE (defs₀ (F := F)) 𝒱₀ (VT d L) none) Set.univ (tripProg L k)
        (fun r => iprop(⌜r = wordsAt (k.val + 1)⌝ ∗ yP d L q XY ∗ iRowP d L XI (Ring.bk 8 k.val)
          ∗ iBusy d L XI (Ring.sl 2 (k.val + 1)) (Ring.bk 8 (k.val + 1)) ∗ iFree d L (Ring.sl 2 k.val)
          ∗ oBusy d L XY XI (Ring.sl 2 k.val) (Ring.bk 8 k.val) ∗ oFree d L (Ring.sl 2 (k.val + 1))
          ∗ oDone d L XY XI (Ring.bk 8 (k.val - 1)) ∗ gCell d L ∗ owesMore d L O W)) := by
  iintro ⟨#Hmw, HY, HR, ⟨⟨%fi, HI⟩, HIc⟩, ⟨%fi', HIF⟩, ⟨%g, %f, %hg, HOF⟩, ⟨⟨%fo, HO⟩, HOc⟩, ⟨%f', HB⟩, HGc, HW⟩
  have e1 : k1_cond1 L k (w10 k.val) (w11 k.val) = 1#1 := (cond1_iff L k).mpr h7
  have e2 := cond2_true L k
  have e5 := cond5_true L k
  have e7 : k1_cond7 L k (w10 k.val) (w11 k.val) = 1#1 := (cond7_iff L k).mpr h0
  have k1 := chk1_true L k
  have k2 := chk2_true k
  have k3 := chk3_true k
  have hin := fun g => hin_of d L XI hXI (Ring.sl 2 k.val) (Ring.bk 8 k.val) g
  dsimp only [tripProg]
  sl_unfold [k1_t1_body]
  sl_exec
  simp only [c10 k, c11 k]
  sl_exec
  sl_step
  isplitr
  · ipureintro
    clear * - h0 h7
    clear trip_mid XY XI
    revert L k
    decide +kernel
  isplitl [HY]; · iexact HY
  isplitl [HIF_src]; · iexact HIF_src
  isplitl [HIc]; · iexists fi; iexact HIc
  isplitl [HIF_dst HIF]
  · isplitl [HIF_dst]; · iexists _; iexact HIF_dst
    iexact HIF
  isplitl [HOc]
  · iexists _; iexists f'
    isplitr
    rotate_left
    · iexact HOc
    · ipureintro
      intro x
      rw [View.read_writes_whole]
      exact gather_val d L XY XI hXI (Ring.sl 2 k.val) (Ring.bk 8 k.val) _ rfl x
  isplitl [HOF_src HOF]
  · isplitl [HOF_src]; · iexists _; iexact HOF_src
    iexact HOF
  isplitl [HOF_dst]
  · iapply (of_eq (done_of d L XY XI (Ring.sl 2 (k.val + 1)) (Ring.bk 8 (k.val - 1)) g f hg)); iexact HOF_dst
  isplitl [HGc]; · iexact HGc
  iexists _
  isplitr
  rotate_left
  · iexact HW
  · ipureintro
    intro p hp
    simp only [Set.mem_insert_iff, Finset.mem_insert] at hp
    rcases hp with rfl | rfl | rfl | hp
    · exact Or.inr rfl
    · exact Or.inr rfl
    · exact Or.inr rfl
    · exact Or.inl hp

set_option maxHeartbeats 4000000 in
/-- The first trip: no output copy to wait for. -/
theorem trip_first (k : Fin k1_t1_loop.trips) (h0 : k.val = 0) (O : CellTallies nD τ sig (HIx 1)) (W : Waits sig (HIx 1)) (hXI : ∀ j, (XI j).toNat < 36864) :
    (iprop(Transfers.MayWaits (VT d L) (default : HIx 1) O
        ∗ yP d L q XY ∗ iRowP d L XI (Ring.bk 8 (k.val + 1))
        ∗ iFree d L (Ring.sl 2 (k.val + 1)) ∗ iBusy d L XI (Ring.sl 2 k.val) (Ring.bk 8 k.val)
        ∗ oFree d L (Ring.sl 2 k.val)
        ∗ oTodo d L (Ring.bk 8 k.val) ∗ gCell d L ∗ owes (VT d L) O W) : sProp 𝕄)
      ⊢ wp frame (wpE (defs₀ (F := F)) 𝒱₀ (VT d L) none) Set.univ (tripProg L k)
        (fun r => iprop(⌜r = wordsAt (k.val + 1)⌝ ∗ yP d L q XY ∗ iRowP d L XI (Ring.bk 8 k.val)
          ∗ iBusy d L XI (Ring.sl 2 (k.val + 1)) (Ring.bk 8 (k.val + 1)) ∗ iFree d L (Ring.sl 2 k.val)
          ∗ oBusy d L XY XI (Ring.sl 2 k.val) (Ring.bk 8 k.val) ∗ gCell d L ∗ owesMore d L O W)) := by
  iintro ⟨#Hmw, HY, HR, ⟨⟨%fi, HI⟩, HIc⟩, ⟨%fi', HIF⟩, ⟨⟨%fo, HO⟩, HOc⟩, ⟨%f', HB⟩, HGc, HW⟩
  have h7 : k.val < 7 := by omega
  have e1 : k1_cond1 L k (w10 k.val) (w11 k.val) = 1#1 := (cond1_iff L k).mpr h7
  have e2 := cond2_true L k
  have e5 := cond5_true L k
  have e7 : ¬ k1_cond7 L k (w10 k.val) (w11 k.val) = 1#1 := fun h => absurd ((cond7_iff L k).mp h) (by omega)
  have k1 := chk1_true L k
  have k2 := chk2_true k
  have k3 := chk3_true k
  have hin := fun g => hin_of d L XI hXI (Ring.sl 2 k.val) (Ring.bk 8 k.val) g
  dsimp only [tripProg]
  sl_unfold [k1_t1_body]
  sl_exec
  simp only [c10 k, c11 k]
  sl_exec
  sl_step
  isplitr
  · ipureintro
    clear * - h0 h7
    clear trip_first XY XI
    revert L k
    decide +kernel
  isplitl [HY]; · iexact HY
  isplitl [HIF_src]; · iexact HIF_src
  isplitl [HIc]; · iexists fi; iexact HIc
  isplitl [HIF_dst HIF]
  · isplitl [HIF_dst]; · iexists _; iexact HIF_dst
    iexact HIF
  isplitl [HOc]
  · iexists _; iexists f'
    isplitr
    rotate_left
    · iexact HOc
    · ipureintro
      intro x
      rw [View.read_writes_whole]
      exact gather_val d L XY XI hXI (Ring.sl 2 k.val) (Ring.bk 8 k.val) _ rfl x
  isplitl [HGc]; · iexact HGc
  iexists _
  isplitr
  rotate_left
  · iexact HW
  · ipureintro
    intro p hp
    simp only [Set.mem_insert_iff, Finset.mem_insert] at hp
    rcases hp with rfl | rfl | hp
    · exact Or.inr rfl
    · exact Or.inr rfl
    · exact Or.inl hp

set_option maxHeartbeats 4000000 in
/-- The last trip: no list to fetch. -/
theorem trip_last (k : Fin k1_t1_loop.trips) (h7 : k.val = 7) (O : CellTallies nD τ sig (HIx 1)) (W : Waits sig (HIx 1)) (hXI : ∀ j, (XI j).toNat < 36864) :
    (iprop(Transfers.MayWaits (VT d L) (default : HIx 1) O
        ∗ yP d L q XY
        ∗ iBusy d L XI (Ring.sl 2 k.val) (Ring.bk 8 k.val)
        ∗ oBusy d L XY XI (Ring.sl 2 (k.val + 1)) (Ring.bk 8 (k.val - 1)) ∗ oFree d L (Ring.sl 2 k.val)
        ∗ oTodo d L (Ring.bk 8 k.val) ∗ gCell d L ∗ owes (VT d L) O W) : sProp 𝕄)
      ⊢ wp frame (wpE (defs₀ (F := F)) 𝒱₀ (VT d L) none) Set.univ (tripProg L k)
        (fun r => iprop(⌜r = wordsAt (k.val + 1)⌝ ∗ yP d L q XY ∗ iRowP d L XI (Ring.bk 8 k.val)
          ∗ iFree d L (Ring.sl 2 k.val)
          ∗ oBusy d L XY XI (Ring.sl 2 k.val) (Ring.bk 8 k.val) ∗ oFree d L (Ring.sl 2 (k.val + 1))
          ∗ oDone d L XY XI (Ring.bk 8 (k.val - 1)) ∗ gCell d L ∗ owesMore d L O W)) := by
  iintro ⟨#Hmw, HY, ⟨%fi', HIF⟩, ⟨%g, %f, %hg, HOF⟩, ⟨⟨%fo, HO⟩, HOc⟩, ⟨%f', HB⟩, HGc, HW⟩
  have h0 : 0 < k.val := by omega
  have e1 : ¬ k1_cond1 L k (w10 k.val) (w11 k.val) = 1#1 := fun h => absurd ((cond1_iff L k).mp h) (by omega)
  have e2 := cond2_true L k
  have e5 := cond5_true L k
  have e7 : k1_cond7 L k (w10 k.val) (w11 k.val) = 1#1 := (cond7_iff L k).mpr h0
  have k1 := chk1_true L k
  have k2 := chk2_true k
  have k3 := chk3_true k
  have hin := fun g => hin_of d L XI hXI (Ring.sl 2 k.val) (Ring.bk 8 k.val) g
  dsimp only [tripProg]
  sl_unfold [k1_t1_body]
  sl_exec
  simp only [c10 k, c11 k]
  sl_exec
  sl_step
  isplitr
  · ipureintro
    clear * - h0 h7
    clear trip_last XY XI
    revert L k
    decide +kernel
  isplitl [HY]; · iexact HY
  isplitl [HIF_src]; · iexact HIF_src
  isplitl [HIF_dst HIF]
  · isplitl [HIF_dst]; · iexists _; iexact HIF_dst
    iexact HIF
  isplitl [HOc]
  · iexists _; iexists f'
    isplitr
    rotate_left
    · iexact HOc
    · ipureintro
      intro x
      rw [View.read_writes_whole]
      exact gather_val d L XY XI hXI (Ring.sl 2 k.val) (Ring.bk 8 k.val) _ rfl x
  isplitl [HOF_src HOF]
  · isplitl [HOF_src]; · iexists _; iexact HOF_src
    iexact HOF
  isplitl [HOF_dst]
  · iapply (of_eq (done_of d L XY XI (Ring.sl 2 (k.val + 1)) (Ring.bk 8 (k.val - 1)) g f hg)); iexact HOF_dst
  isplitl [HGc]; · iexact HGc
  iexists _
  isplitr
  rotate_left
  · iexact HW
  · ipureintro
    intro p hp
    simp only [Set.mem_insert_iff, Finset.mem_insert] at hp
    rcases hp with rfl | rfl | rfl | hp
    · exact Or.inr rfl
    · exact Or.inr rfl
    · exact Or.inr rfl
    · exact Or.inl hp

end Tile

end Cert.Proof.Served

end
-- ==== Proof.Served.Tile.lean ====
module

public import proofs.«01_k».proof.Proof.Served.Trip

@[expose] public section

noncomputable section

namespace Cert.Proof.Served

open Cert.ServedIdeal Cert.ServedIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile
variable (d : Dev nD) (L : grid1.Coords) (q : PosShare TreeShare)
variable (XY : Buf (Elt F) ((yAll).view.loc (VT d L))) (XI : Buf (Elt F) (iM.view.loc (VT d L)))

/-! ## What a trip finds and leaves -/

/-- List `t` before trip `k`: with the copy that fetches it, or home. -/
abbrev rowSt (k : ℕ) (t : Fin 8) : sProp 𝕄 := if t.val = k then iprop(emp) else iRowP d L XI t
/-- Block `t` before trip `k`: done, with the copy that fills it, or to do. -/
abbrev blkSt (k : ℕ) (t : Fin 8) : sProp 𝕄 :=
  if t.val + 1 < k then oDone d L XY XI t else if t.val + 1 = k then iprop(emp) else oTodo d L t
/-- The index slots before trip `k`. -/
abbrev inSt (k : ℕ) : sProp 𝕄 :=
  if k < 8 then iprop(iBusy d L XI (Ring.sl 2 k) (Ring.bk 8 k) ∗ iFree d L (Ring.sl 2 (k + 1))) else iprop(iFree d L (Ring.sl 2 k) ∗ iFree d L (Ring.sl 2 (k + 1)))
/-- The row slot that trip `k` does not fill. -/
abbrev outSt (k : ℕ) : sProp 𝕄 := if k = 0 then oFree d L (Ring.sl 2 (k + 1)) else oBusy d L XY XI (Ring.sl 2 (k + 1)) (Ring.bk 8 (k - 1))

/-- The loop's invariant. -/
def Inv (O : CellTallies nD τ sig (HIx 1)) (W : Waits sig (HIx 1)) (k : ℕ) (r : BitVec 32 × BitVec 32 × BitVec 32 × BitVec 32 × BitVec 32 × BitVec 32) : sProp 𝕄 :=
  iprop(Transfers.MayWaits (VT d L) (default : HIx 1) O ∗ ⌜r = wordsAt k⌝ ∗ yP d L q XY ∗ bigSep Finset.univ (rowSt d L XI k) ∗ inSt d L XI k ∗ outSt d L XY XI k ∗ oFree d L (Ring.sl 2 k)
    ∗ bigSep Finset.univ (blkSt d L XY XI k) ∗ gCell d L ∗ owesMore d L O W)

theorem two_pt (Φ : Fin 8 → sProp 𝕄) {a b : Fin 8} (hab : a ≠ b) :
    bigSep Finset.univ Φ = iprop(Φ a ∗ Φ b ∗ bigSep ((Finset.univ.erase a).erase b) Φ) := by
  rw [SparseCore.bigSep_erase' (Finset.mem_univ a), SparseCore.bigSep_erase' (Finset.mem_erase.mpr ⟨hab.symm, Finset.mem_univ b⟩)]

theorem two_pt_congr {Φ Ψ : Fin 8 → sProp 𝕄} {a b : Fin 8} (h : ∀ t, t ≠ a → t ≠ b → Φ t = Ψ t) :
    bigSep ((Finset.univ.erase a).erase b) Φ = bigSep ((Finset.univ.erase a).erase b) Ψ :=
  bigSep_congr fun t ht => h t (Finset.ne_of_mem_erase (Finset.mem_of_mem_erase ht)) (Finset.ne_of_mem_erase ht)

theorem one_pt_congr {Φ Ψ : Fin 8 → sProp 𝕄} {a : Fin 8} (h : ∀ t, t ≠ a → Φ t = Ψ t) :
    bigSep (Finset.univ.erase a) Φ = bigSep (Finset.univ.erase a) Ψ :=
  bigSep_congr fun t ht => h t (Finset.ne_of_mem_erase ht)

theorem owesMore_trans (O : CellTallies nD τ sig (HIx 1)) {W W' : Waits sig (HIx 1)} (h : ∀ p ∈ W', p ∈ W ∨ p.2 = none) :
    owesMore (F := F) d L O W' ⊢ owesMore d L O W := by
  iintro ⟨%W2, %h2, H⟩
  iexists W2; isplitr
  · ipureintro; intro p hp; rcases h2 p hp with hp | hp
    · exact h p hp
    · exact .inr hp
  · iexact H

theorem bk_ne {a b : ℕ} (ha : a < 8) (hb : b < 8) (h : a ≠ b) : Ring.bk 8 a ≠ Ring.bk 8 b := fun e => h (by
  have := congrArg Fin.val e; rwa [Ring.bk_val ha, Ring.bk_val hb] at this)
theorem ne_bk {t : Fin 8} {a : ℕ} (ha : a < 8) (h : t ≠ Ring.bk 8 a) : t.val ≠ a := fun e => h (Fin.ext (by rw [Ring.bk_val ha, e]))

theorem trip_inv (k : Fin k1_t1_loop.trips) (O : CellTallies nD τ sig (HIx 1)) (W : Waits sig (HIx 1)) (hXI : ∀ j, (XI j).toNat < 36864) (r) :
    (Inv d L q XY XI O W k.val r : sProp 𝕄)
      ⊢ wp frame (wpE (defs₀ (F := F)) 𝒱₀ (VT d L) none) Set.univ (k1_t1_body (F := F) L yM (Memref.isWhole_whole _) iM (Memref.isWhole_whole _) oM (Memref.isWhole_whole _)
          ibM (Memref.isWhole_whole _) cc1_scoped1 obM (Memref.isWhole_whole _) cc1_scoped3 cc1_scoped4 (BitVec.ofNat 32 (4 * tile L)) k r)
        (fun r => Inv d L q XY XI O W (k.val + 1) r) := by
  have hk : k.val < 8 := Nat.lt_of_lt_of_eq k.isLt trips_eq
  have sl2 : Ring.sl 2 (k.val + 1 + 1) = Ring.sl 2 k.val := Ring.sl_add 2 k.val
  unfold Inv
  iintro ⟨#Hmw, %hr, HY, HR, HI, HOs, HO, HB, HG, %W', %hW', HW⟩
  subst hr
  by_cases h7 : k.val < 7
  · have hab : Ring.bk 8 k.val ≠ Ring.bk 8 (k.val + 1) := bk_ne hk (by omega) (by omega)
    have hRs : bigSep Finset.univ (rowSt d L XI k.val) = iprop(iprop(emp) ∗ iRowP d L XI (Ring.bk 8 (k.val + 1)) ∗ bigSep ((Finset.univ.erase (Ring.bk 8 k.val)).erase (Ring.bk 8 (k.val + 1))) (rowSt d L XI k.val)) := by
      rw [two_pt _ hab]
      congr 1
      · exact if_pos (Ring.bk_val hk)
      · congr 1; exact if_neg (by rw [Ring.bk_val (by omega)]; omega)
    have hRs' : bigSep Finset.univ (rowSt d L XI (k.val + 1)) = iprop(iRowP d L XI (Ring.bk 8 k.val) ∗ iprop(emp) ∗ bigSep ((Finset.univ.erase (Ring.bk 8 k.val)).erase (Ring.bk 8 (k.val + 1))) (rowSt d L XI k.val)) := by
      rw [two_pt _ hab]
      congr 1
      · exact if_neg (by rw [Ring.bk_val hk]; omega)
      · congr 1
        · exact if_pos (Ring.bk_val (by omega))
        · refine two_pt_congr fun t h1 h2 => ?_
          rw [rowSt, rowSt, if_neg (ne_bk (by omega) h2), if_neg (ne_bk hk h1)]
    have hIn : inSt d L XI k.val = iprop(iBusy d L XI (Ring.sl 2 k.val) (Ring.bk 8 k.val) ∗ iFree d L (Ring.sl 2 (k.val + 1))) := if_pos hk
    have hIn' : inSt d L XI (k.val + 1) = iprop(iBusy d L XI (Ring.sl 2 (k.val + 1)) (Ring.bk 8 (k.val + 1)) ∗ iFree d L (Ring.sl 2 (k.val + 1 + 1))) := if_pos (by omega)
    rw [sl2] at hIn'
    ihave HR := (of_eq hRs) $$ HR
    ihave HI := (of_eq hIn) $$ HI
    icases HR with ⟨-, HR, HRs⟩
    icases HI with ⟨HI0, HI1⟩
    by_cases h0 : k.val = 0
    · have hB : bigSep Finset.univ (blkSt d L XY XI k.val) = iprop(oTodo (F := F) d L (Ring.bk 8 k.val) ∗ bigSep (Finset.univ.erase (Ring.bk 8 k.val)) (blkSt d L XY XI k.val)) := by
        refine (SparseCore.bigSep_erase' (Finset.mem_univ (Ring.bk 8 k.val))).trans ?_
        congr 1
        rw [blkSt, if_neg (by omega), if_neg (by omega)]
      have hB' : bigSep Finset.univ (blkSt d L XY XI (k.val + 1)) = iprop(iprop(emp) ∗ bigSep (Finset.univ.erase (Ring.bk 8 k.val)) (blkSt d L XY XI k.val)) := by
        refine (SparseCore.bigSep_erase' (Finset.mem_univ (Ring.bk 8 k.val))).trans ?_
        congr 1
        · rw [blkSt, Ring.bk_val hk, if_neg (by omega), if_pos rfl]
        · refine one_pt_congr fun t h1 => ?_
          have := ne_bk hk h1
          rw [blkSt, blkSt, if_neg (by omega), if_neg (by omega), if_neg (by omega), if_neg (by omega)]
      have hO : outSt d L XY XI k.val = oFree d L (Ring.sl 2 (k.val + 1)) := if_pos h0
      have hO' : outSt d L XY XI (k.val + 1) = oBusy d L XY XI (Ring.sl 2 k.val) (Ring.bk 8 k.val) := (if_neg (by omega)).trans (by rw [sl2]; rfl)
      ihave HB := (of_eq hB) $$ HB
      ihave HOs := (of_eq hO) $$ HOs
      icases HB with ⟨HB, HBs⟩
      iapply (wp_wand_r Idealize.ShloMosaic.frame (wpE (defs₀ (F := F)) 𝒱₀ (VT d L) none) Set.univ)
      isplitl [HY HR HI0 HI1 HO HB HG HW]
      · iapply (trip_first d L q XY XI k h0 O W' hXI)
        isplitr; · iexact Hmw
        isplitl [HY]; · iexact HY
        isplitl [HR]; · iexact HR
        isplitl [HI1]; · iexact HI1
        isplitl [HI0]; · iexact HI0
        isplitl [HO]; · iexact HO
        isplitl [HB]; · iexact HB
        isplitl [HG]; · iexact HG
        iexact HW
      · iintro %r ⟨%hr, HY, HR, HI0, HI1, HOb, HG, HW⟩
        isplitr; · iexact Hmw
        isplitr; · ipureintro; exact hr
        isplitl [HY]; · iexact HY
        isplitl [HR HRs]
        · iapply (of_eq hRs'.symm)
          isplitl [HR]; · iexact HR
          isplitr; · iempintro
          iexact HRs
        isplitl [HI0 HI1]
        · iapply (of_eq hIn'.symm)
          isplitl [HI0]; · iexact HI0
          iexact HI1
        isplitl [HOb]; · iapply (of_eq hO'.symm); iexact HOb
        isplitl [HOs]; · iexact HOs
        isplitl [HBs]
        · iapply (of_eq hB'.symm)
          isplitr; · iempintro
          iexact HBs
        isplitl [HG]; · iexact HG
        iapply (owesMore_trans d L O hW'); iexact HW
    · have hab2 : Ring.bk 8 (k.val - 1) ≠ Ring.bk 8 k.val := bk_ne (by omega) hk (by omega)
      have hB : bigSep Finset.univ (blkSt d L XY XI k.val) = iprop(iprop(emp) ∗ oTodo (F := F) d L (Ring.bk 8 k.val) ∗ bigSep ((Finset.univ.erase (Ring.bk 8 (k.val - 1))).erase (Ring.bk 8 k.val)) (blkSt d L XY XI k.val)) := by
        rw [two_pt _ hab2]
        congr 1
        · rw [blkSt, Ring.bk_val (show k.val - 1 < 8 by omega), if_neg (by omega), if_pos (by omega)]
        · congr 1
          rw [blkSt, Ring.bk_val hk, if_neg (by omega), if_neg (by omega)]
      have hB' : bigSep Finset.univ (blkSt d L XY XI (k.val + 1)) = iprop(oDone d L XY XI (Ring.bk 8 (k.val - 1)) ∗ iprop(emp) ∗ bigSep ((Finset.univ.erase (Ring.bk 8 (k.val - 1))).erase (Ring.bk 8 k.val)) (blkSt d L XY XI k.val)) := by
        rw [two_pt _ hab2]
        congr 1
        · rw [blkSt, Ring.bk_val (show k.val - 1 < 8 by omega), if_pos (by omega)]
        · congr 1
          · rw [blkSt, Ring.bk_val hk, if_neg (by omega), if_pos rfl]
          · refine two_pt_congr fun t h1 h2 => ?_
            have h1 := ne_bk (by omega) h1
            have h2 := ne_bk hk h2
            by_cases h3 : t.val + 1 < k.val
            · rw [blkSt, blkSt, if_pos (by omega), if_pos h3]
            · rw [blkSt, blkSt, if_neg (by omega), if_neg (by omega), if_neg h3, if_neg (by omega)]
      have hO : outSt d L XY XI k.val = oBusy d L XY XI (Ring.sl 2 (k.val + 1)) (Ring.bk 8 (k.val - 1)) := if_neg (by omega)
      have hO' : outSt d L XY XI (k.val + 1) = oBusy d L XY XI (Ring.sl 2 k.val) (Ring.bk 8 k.val) := (if_neg (by omega)).trans (by rw [sl2]; rfl)
      ihave HB := (of_eq hB) $$ HB
      ihave HOs := (of_eq hO) $$ HOs
      icases HB with ⟨-, HB, HBs⟩
      iapply (wp_wand_r Idealize.ShloMosaic.frame (wpE (defs₀ (F := F)) 𝒱₀ (VT d L) none) Set.univ)
      isplitl [HY HR HI0 HI1 HOs HO HB HG HW]
      · iapply (trip_mid d L q XY XI k (by omega) h7 O W' hXI)
        isplitr; · iexact Hmw
        isplitl [HY]; · iexact HY
        isplitl [HR]; · iexact HR
        isplitl [HI1]; · iexact HI1
        isplitl [HI0]; · iexact HI0
        isplitl [HOs]; · iexact HOs
        isplitl [HO]; · iexact HO
        isplitl [HB]; · iexact HB
        isplitl [HG]; · iexact HG
        iexact HW
      · iintro %r ⟨%hr, HY, HR, HI0, HI1, HOb, HOs, HD, HG, HW⟩
        isplitr; · iexact Hmw
        isplitr; · ipureintro; exact hr
        isplitl [HY]; · iexact HY
        isplitl [HR HRs]
        · iapply (of_eq hRs'.symm)
          isplitl [HR]; · iexact HR
          isplitr; · iempintro
          iexact HRs
        isplitl [HI0 HI1]
        · iapply (of_eq hIn'.symm)
          isplitl [HI0]; · iexact HI0
          iexact HI1
        isplitl [HOb]; · iapply (of_eq hO'.symm); iexact HOb
        isplitl [HOs]; · iexact HOs
        isplitl [HD HBs]
        · iapply (of_eq hB'.symm)
          isplitl [HD]; · iexact HD
          isplitr; · iempintro
          iexact HBs
        isplitl [HG]; · iexact HG
        iapply (owesMore_trans d L O hW'); iexact HW
  · have h7 : k.val = 7 := by omega
    have hRs : bigSep Finset.univ (rowSt d L XI k.val) = iprop(iprop(emp) ∗ bigSep (Finset.univ.erase (Ring.bk 8 k.val)) (rowSt d L XI k.val)) := by
      refine (SparseCore.bigSep_erase' (Finset.mem_univ (Ring.bk 8 k.val))).trans ?_
      congr 1
      exact if_pos (Ring.bk_val hk)
    have hRs' : bigSep Finset.univ (rowSt d L XI (k.val + 1)) = iprop(iRowP d L XI (Ring.bk 8 k.val) ∗ bigSep (Finset.univ.erase (Ring.bk 8 k.val)) (rowSt d L XI k.val)) := by
      refine (SparseCore.bigSep_erase' (Finset.mem_univ (Ring.bk 8 k.val))).trans ?_
      congr 1
      · exact if_neg (by rw [Ring.bk_val hk]; omega)
      · refine one_pt_congr fun t h1 => ?_
        have := t.isLt
        rw [rowSt, rowSt, if_neg (by omega), if_neg (ne_bk hk h1)]
    have hIn : inSt d L XI k.val = iprop(iBusy d L XI (Ring.sl 2 k.val) (Ring.bk 8 k.val) ∗ iFree d L (Ring.sl 2 (k.val + 1))) := if_pos hk
    have hIn' : inSt d L XI (k.val + 1) = iprop(iFree d L (Ring.sl 2 (k.val + 1)) ∗ iFree d L (Ring.sl 2 (k.val + 1 + 1))) := if_neg (by omega)
    rw [sl2] at hIn'
    ihave HR := (of_eq hRs) $$ HR
    ihave HI := (of_eq hIn) $$ HI
    icases HR with ⟨-, HRs⟩
    icases HI with ⟨HI0, HI1⟩
    have hab2 : Ring.bk 8 (k.val - 1) ≠ Ring.bk 8 k.val := bk_ne (by omega) hk (by omega)
    have hB : bigSep Finset.univ (blkSt d L XY XI k.val) = iprop(iprop(emp) ∗ oTodo (F := F) d L (Ring.bk 8 k.val) ∗ bigSep ((Finset.univ.erase (Ring.bk 8 (k.val - 1))).erase (Ring.bk 8 k.val)) (blkSt d L XY XI k.val)) := by
      rw [two_pt _ hab2]
      congr 1
      · rw [blkSt, Ring.bk_val (show k.val - 1 < 8 by omega), if_neg (by omega), if_pos (by omega)]
      · congr 1
        rw [blkSt, Ring.bk_val hk, if_neg (by omega), if_neg (by omega)]
    have hB' : bigSep Finset.univ (blkSt d L XY XI (k.val + 1)) = iprop(oDone d L XY XI (Ring.bk 8 (k.val - 1)) ∗ iprop(emp) ∗ bigSep ((Finset.univ.erase (Ring.bk 8 (k.val - 1))).erase (Ring.bk 8 k.val)) (blkSt d L XY XI k.val)) := by
      rw [two_pt _ hab2]
      congr 1
      · rw [blkSt, Ring.bk_val (show k.val - 1 < 8 by omega), if_pos (by omega)]
      · congr 1
        · rw [blkSt, Ring.bk_val hk, if_neg (by omega), if_pos rfl]
        · refine two_pt_congr fun t h1 h2 => ?_
          have h1 := ne_bk (by omega) h1
          have h2 := ne_bk hk h2
          by_cases h3 : t.val + 1 < k.val
          · rw [blkSt, blkSt, if_pos (by omega), if_pos h3]
          · rw [blkSt, blkSt, if_neg (by omega), if_neg (by omega), if_neg h3, if_neg (by omega)]
    have hO : outSt d L XY XI k.val = oBusy d L XY XI (Ring.sl 2 (k.val + 1)) (Ring.bk 8 (k.val - 1)) := if_neg (by omega)
    have hO' : outSt d L XY XI (k.val + 1) = oBusy d L XY XI (Ring.sl 2 k.val) (Ring.bk 8 k.val) := (if_neg (by omega)).trans (by rw [sl2]; rfl)
    ihave HB := (of_eq hB) $$ HB
    ihave HOs := (of_eq hO) $$ HOs
    icases HB with ⟨-, HB, HBs⟩
    iapply (wp_wand_r Idealize.ShloMosaic.frame (wpE (defs₀ (F := F)) 𝒱₀ (VT d L) none) Set.univ)
    isplitl [HY HI0 HOs HO HB HG HW]
    · iapply (trip_last d L q XY XI k h7 O W' hXI)
      isplitr; · iexact Hmw
      isplitl [HY]; · iexact HY
      isplitl [HI0]; · iexact HI0
      isplitl [HOs]; · iexact HOs
      isplitl [HO]; · iexact HO
      isplitl [HB]; · iexact HB
      isplitl [HG]; · iexact HG
      iexact HW
    · iintro %r ⟨%hr, HY, HR, HI0, HOb, HOs, HD, HG, HW⟩
      isplitr; · iexact Hmw
      isplitr; · ipureintro; exact hr
      isplitl [HY]; · iexact HY
      isplitl [HR HRs]
      · iapply (of_eq hRs'.symm)
        isplitl [HR]; · iexact HR
        iexact HRs
      isplitl [HI0 HI1]
      · iapply (of_eq hIn'.symm)
        isplitl [HI1]; · iexact HI1
        iexact HI0
      isplitl [HOb]; · iapply (of_eq hO'.symm); iexact HOb
      isplitl [HOs]; · iexact HOs
      isplitl [HD HBs]
      · iapply (of_eq hB'.symm)
        isplitl [HD]; · iexact HD
        isplitr; · iempintro
        iexact HBs
      isplitl [HG]; · iexact HG
      iapply (owesMore_trans d L O hW'); iexact HW

set_option maxHeartbeats 1000000 in
theorem tile_run (O : CellTallies nD τ sig (HIx 1)) (W : Waits sig (HIx 1)) (hXI : ∀ j, (XI j).toNat < 36864) :
    (iprop(Transfers.MayWaits (VT d L) (default : HIx 1) O
        ∗ yP d L q XY ∗ bigSep Finset.univ (iRowP d L XI) ∗ bigSep Finset.univ (fun t => oTodo (F := F) d L t)
        ∗ iFree d L 0 ∗ iFree d L 1 ∗ oFree d L 0 ∗ oFree d L 1
        ∗ gCell d L ∗ owes (VT d L) O W) : sProp 𝕄)
      ⊢ wp frame (wpE (defs₀ (F := F)) 𝒱₀ (VT d L) none) Set.univ (cc1_k L yM (Memref.isWhole_whole _) iM (Memref.isWhole_whole _) oM (Memref.isWhole_whole _)
    ibM (Memref.isWhole_whole _) cc1_scoped1 obM (Memref.isWhole_whole _) cc1_scoped3 cc1_scoped4)
        (fun r => iprop(yP d L q XY ∗ bigSep Finset.univ (iRowP d L XI) ∗ bigSep Finset.univ (oDone d L XY XI)
        ∗ iFree d L 0 ∗ iFree d L 1 ∗ oFree d L 0 ∗ oFree d L 1
        ∗ gCell d L ∗ owesMore d L O W)) := by
  have hrow : bigSep Finset.univ (iRowP d L XI) = iprop(iRowP d L XI 0 ∗ bigSep (Finset.univ.erase 0) (iRowP d L XI)) := SparseCore.bigSep_erase' (Finset.mem_univ _)
  have hrow0 : bigSep (Finset.univ.erase 0) (iRowP d L XI) = bigSep Finset.univ (rowSt d L XI 0) := by
    have e : bigSep Finset.univ (rowSt d L XI 0) = iprop(rowSt d L XI 0 0 ∗ bigSep (Finset.univ.erase 0) (rowSt d L XI 0)) := SparseCore.bigSep_erase' (Finset.mem_univ _)
    have e2 : bigSep (Finset.univ.erase 0) (rowSt d L XI 0) = bigSep (Finset.univ.erase 0) (iRowP d L XI) := one_pt_congr fun t ht => if_neg (fun e => ht (Fin.ext e))
    rw [e, e2]
    exact (equiv_iff.mp BI.emp_sep).symm
  rw [hrow]
  iintro ⟨#Hmw, HY, ⟨HR, HRs⟩, HB, ⟨⟨%fi, HI⟩, HIc⟩, HI1, HO0, HO1, HGc, HW⟩
  simp only [cc1_k_eq_skeleton]; unfold cc1_k_skel
  simp only [k1_part13_eq_skeleton, k1_part14_eq_skeleton, k1_part15_eq_skeleton, k1_part16_eq_skeleton]
  sl_exec
  have hv4 : tile_run.sl.v4 L = BitVec.ofNat 32 (4 * tile L) := by
    clear * -
    clear tile_run XY XI
    revert L; decide +kernel
  rw [hv4]
  sl_for (Inv d L q XY XI O W) $$ [HY HRs HB HIc HI1 HO0 HO1 HGc HW]
  case region =>
    intro k r
    iintro H
    iapply (trip_inv d L q XY XI k O W hXI r)
    iexact H
  · unfold Inv
    isplitr; · iexact Hmw
    isplitr; · ipureintro; decide
    isplitl [HY]; · iexact HY
    isplitl [HRs]
    · iapply (of_eq hrow0); iexact HRs
    have hIn : inSt d L XI 0 = iprop(iBusy d L XI (Ring.sl 2 0) (Ring.bk 8 0) ∗ iFree d L (Ring.sl 2 (0 + 1))) := if_pos (by omega)
    have hO : outSt d L XY XI 0 = oFree d L (Ring.sl 2 (0 + 1)) := if_pos rfl
    isplitl [HIc HI1]
    · iapply (of_eq hIn.symm)
      isplitl [HIc]; · iexists fi; iexact HIc
      iexact HI1
    isplitl [HO1]; · iapply (of_eq hO.symm); iexact HO1
    isplitl [HO0]; · iexact HO0
    isplitl [HB]; · iexact HB
    isplitl [HGc]; · iexact HGc
    iexists W; isplitr
    · ipureintro; exact fun p hp => .inl hp
    · iexact HW
  iintro %r HI
  unfold Inv
  icases HI with ⟨-, %hr, HY, HR, HI, HOs, HO, HB, HG, %W', %hW', HW⟩
  subst hr
  have hR8 : bigSep Finset.univ (rowSt d L XI 8) = bigSep Finset.univ (iRowP d L XI) :=
    bigSep_congr fun t _ => if_neg (by have := t.isLt; omega)
  have hI8 : inSt d L XI 8 = iprop(iFree d L 0 ∗ iFree d L 1) := if_neg (by omega)
  have hO8 : outSt d L XY XI 8 = oBusy d L XY XI 1 7 := if_neg (by omega)
  have hB8 : bigSep Finset.univ (blkSt d L XY XI 8) = iprop(iprop(emp) ∗ bigSep (Finset.univ.erase 7) (oDone d L XY XI)) := by
    refine (SparseCore.bigSep_erase' (Finset.mem_univ 7)).trans ?_
    congr 1
  have hD : bigSep Finset.univ (oDone d L XY XI) = iprop(oDone d L XY XI 7 ∗ bigSep (Finset.univ.erase 7) (oDone d L XY XI)) := SparseCore.bigSep_erase' (Finset.mem_univ 7)
  have ht : Scf.trips k1_t1_loop.lb k1_t1_loop.ub k1_t1_loop.st = 8 := trips_eq
  ihave HR := (of_eq ((congrArg (fun n => bigSep Finset.univ (rowSt d L XI n)) ht).trans hR8)) $$ HR
  ihave HI := (of_eq ((congrArg (fun n => inSt d L XI n) ht).trans hI8)) $$ HI
  ihave HOs := (of_eq ((congrArg (fun n => outSt d L XY XI n) ht).trans hO8)) $$ HOs
  ihave HB := (of_eq ((congrArg (fun n => bigSep Finset.univ (blkSt d L XY XI n)) ht).trans hB8)) $$ HB
  ihave HO := (of_eq (congrArg (fun n => oFree d L (Ring.sl 2 n)) ht)) $$ HO
  rw [ht]
  icases HOs with ⟨%g, %f, %hg, HOF⟩
  icases HB with ⟨-, HBs⟩
  have k4 := chk4_true
  have k5 := chk5_true L
  sl_exec
  sl_step
  isplitl [HY]; · iexact HY
  isplitl [HR]; · iapply (of_eq hrow); iexact HR
  isplitl [HOF_dst HBs]
  · iapply (of_eq hD.symm)
    isplitl [HOF_dst]
    · iapply (of_eq (done_of d L XY XI 1 7 g f hg)); iexact HOF_dst
    iexact HBs
  icases HI with ⟨HI0, HI1⟩
  isplitl [HI0]; · iexact HI0
  isplitl [HI1]; · iexact HI1
  isplitl [HO]; · iexact HO
  isplitl [HOF_src HOF]
  · isplitl [HOF_src]; · iexists _; iexact HOF_src
    iexact HOF
  isplitl [HG]; · iexact HG
  iexists _
  isplitr
  rotate_left
  · iexact HW
  · ipureintro
    intro p hp
    simp only [Set.mem_insert_iff, Finset.mem_insert] at hp
    rcases hp with rfl | hp
    · exact Or.inr rfl
    · exact hW' p hp

end Tile

end Cert.Proof.Served

end
-- ==== Proof.Served.Body.lean ====
/-
  The gather's tile, launched: its scoped buffers cut into their two slots and joined again, and the tile's run from
  what the launch deals it to what it hands back.
-/
module

public import proofs.«01_k».proof.Proof.Served.Tile

@[expose] public section

noncomputable section

namespace Cert.Proof.Served

open Cert.ServedIdeal Cert.ServedIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A buffer in parts that a function of the index names -/

section Parts
variable {ℓ : Loc nD τ sig} {ι : Type} [Fintype ι] [DecidableEq ι] (A : ι → Finset (Idx ℓ)) (κ : Idx ℓ → ι) (h : ∀ i x, x ∈ A i ↔ κ x = i)

include h in
theorem parts_disjoint : ∀ i ∈ (Finset.univ : Finset ι), ∀ j ∈ (Finset.univ : Finset ι), i ≠ j → Disjoint (A i) (A j) :=
  fun i _ j _ hij => Finset.disjoint_left.mpr fun x hi hj => hij (((h i x).mp hi).symm.trans ((h j x).mp hj))
include h in
theorem parts_cover : (Finset.univ : Finset ι).biUnion A = Finset.univ :=
  Finset.eq_univ_of_forall fun x => Finset.mem_biUnion.mpr ⟨κ x, Finset.mem_univ _, (h _ x).mpr rfl⟩
include h in
theorem parts_split (q : PosShare TreeShare) (f : Buf (Elt F) ℓ) :
    (ℓ ↦{q} f : sProp 𝕄) = bigSep Finset.univ fun i => ℓ ↦[A i]{q} f := by
  rw [← pointsTo_biUnion Finset.univ (ℓ := ℓ) A (parts_disjoint A κ h), parts_cover A κ h]
include h in
theorem parts_join (i₀ : ι) : (bigSep Finset.univ fun i => iprop(∃ f, ℓ ↦[A i]{fullShare} f)) ⊢ (iprop(∃ f, ℓ ↦{fullShare} f) : sProp 𝕄) := by
  refine (bigSep_exists_pi Finset.univ (fun i (f : Buf (Elt F) ℓ) => (ℓ ↦[A i]{fullShare} f : sProp 𝕄))).trans ?_
  iintro ⟨%fs, H⟩
  have : Nonempty (Buf (Elt F) ℓ) := ⟨fs i₀⟩
  ihave H' := (pointsTo_biUnion_join (ℓ := ℓ) (q := fullShare) (Val := Elt F) Finset.univ A fs (fs i₀) (parts_disjoint A κ h)) $$ H
  icases H' with ⟨%g, -, Hg⟩
  rw [parts_cover A κ h]
  iexists g; iexact Hg
end Parts

section Tile
variable (d : Dev nD) (L : grid1.Coords)

/-! ## The slots of the two scoped buffers -/

theorem iSlot_set (p : Fin 2) : (iSlot p).view.set = (Rect.unit (s := S2x1x1x128) (iOff p) S1x1x1x128.size (iOff_inb p)).set := by
  show (((View.whole (cc1_scoped0 : Ref sig .scVector)).slice (Rect.unit (s := S2x1x1x128) (iOff p) S1x1x1x128.size (iOff_inb p))).reshape S1x1x128 squeezes_S1x1x1x128_S1x1x128.numel_eq).set = _
  rw [View.set_reshape, View.set_slice]; exact Finset.map_refl
theorem oSlot_set (p : Fin 2) : (oSlot p).view.set = (Rect.unit (s := S2x128x2x128) (iOff p) S1x128x2x128.size (oOff_inb p)).set := by
  show (((View.whole (cc1_scoped2 : Ref sig .scVector)).slice (Rect.unit (s := S2x128x2x128) (iOff p) S1x128x2x128.size (oOff_inb p))).reshape S128x2x128 squeezes_S1x128x2x128_S128x2x128.numel_eq).set = _
  rw [View.set_reshape, View.set_slice]; exact Finset.map_refl

theorem iSlot_mem (p : Fin 2) (x : S2x1x1x128.Idx) : x ∈ (Rect.unit (s := S2x1x1x128) (iOff p) S1x1x1x128.size (iOff_inb p)).set ↔ x 0 = p := by
  rw [Rect.mem_set_unit]
  have h1 : (x 1).val < 1 := (x 1).isLt
  have h2 : (x 2).val < 1 := (x 2).isLt
  have h3 : (x 3).val < 128 := (x 3).isLt
  constructor
  · intro h; have h0 := h 0; change p.val ≤ (x 0).val ∧ (x 0).val < p.val + 1 at h0; exact Fin.ext (by omega)
  · rintro rfl a
    fin_cases a
    · show (x 0).val ≤ (x 0).val ∧ (x 0).val < (x 0).val + 1; omega
    · show 0 ≤ (x 1).val ∧ (x 1).val < 0 + 1; omega
    · show 0 ≤ (x 2).val ∧ (x 2).val < 0 + 1; omega
    · show 0 ≤ (x 3).val ∧ (x 3).val < 0 + 128; omega
theorem oSlot_mem (p : Fin 2) (x : S2x128x2x128.Idx) : x ∈ (Rect.unit (s := S2x128x2x128) (iOff p) S1x128x2x128.size (oOff_inb p)).set ↔ x 0 = p := by
  rw [Rect.mem_set_unit]
  have h1 : (x 1).val < 128 := (x 1).isLt
  have h2 : (x 2).val < 2 := (x 2).isLt
  have h3 : (x 3).val < 128 := (x 3).isLt
  constructor
  · intro h; have h0 := h 0; change p.val ≤ (x 0).val ∧ (x 0).val < p.val + 1 at h0; exact Fin.ext (by omega)
  · rintro rfl a
    fin_cases a
    · show (x 0).val ≤ (x 0).val ∧ (x 0).val < (x 0).val + 1; omega
    · show 0 ≤ (x 1).val ∧ (x 1).val < 0 + 128; omega
    · show 0 ≤ (x 2).val ∧ (x 2).val < 0 + 2; omega
    · show 0 ≤ (x 3).val ∧ (x 3).val < 0 + 128; omega

abbrev ibLoc : Loc nD τ sig := (VT d L).loc cc1_scoped0
abbrev obLoc : Loc nD τ sig := (VT d L).loc cc1_scoped2

theorem iSlot_mem' (p : Fin 2) (x : Idx (ibLoc d L)) : x ∈ (iSlot p).view.set ↔ (show S2x1x1x128.Idx from x) 0 = p := by
  rw [iSlot_set]; exact iSlot_mem p x
theorem oSlot_mem' (p : Fin 2) (x : Idx (obLoc d L)) : x ∈ (oSlot p).view.set ↔ (show S2x128x2x128.Idx from x) 0 = p := by
  rw [oSlot_set]; exact oSlot_mem p x

theorem ib_split (f : Buf (Elt F) (ibLoc d L)) : (ibLoc d L ↦{fullShare} f : sProp 𝕄) ⊢ iprop(iSlotP d L 0 f ∗ iSlotP d L 1 f) := by
  rw [parts_split (ℓ := ibLoc d L) (fun p : Fin 2 => (iSlot p).view.set) (fun x => (show S2x1x1x128.Idx from x) 0) (iSlot_mem' d L), bigSep_fin_two]; exact .rfl
theorem ob_split (f : Buf (Elt F) (obLoc d L)) : (obLoc d L ↦{fullShare} f : sProp 𝕄) ⊢ iprop(oSlotP d L 0 f ∗ oSlotP d L 1 f) := by
  rw [parts_split (ℓ := obLoc d L) (fun p : Fin 2 => (oSlot p).view.set) (fun x => (show S2x128x2x128.Idx from x) 0) (oSlot_mem' d L), bigSep_fin_two]; exact .rfl
theorem ib_join : iprop((∃ f, iSlotP (F := F) d L 0 f) ∗ (∃ f, iSlotP d L 1 f)) ⊢ (iprop(∃ f, ibLoc d L ↦{fullShare} f) : sProp 𝕄) := by
  refine .trans ?_ (parts_join (ℓ := ibLoc d L) (fun p : Fin 2 => (iSlot p).view.set) (fun x => (show S2x1x1x128.Idx from x) 0) (iSlot_mem' d L) 0)
  rw [bigSep_fin_two]; exact .rfl
theorem ob_join : iprop((∃ f, oSlotP (F := F) d L 0 f) ∗ (∃ f, oSlotP d L 1 f)) ⊢ (iprop(∃ f, obLoc d L ↦{fullShare} f) : sProp 𝕄) := by
  refine .trans ?_ (parts_join (ℓ := obLoc d L) (fun p : Fin 2 => (oSlot p).view.set) (fun x => (show S2x128x2x128.Idx from x) 0) (oSlot_mem' d L) 0)
  rw [bigSep_fin_two]; exact .rfl

/-! ## The scoped cells and buffers, one by one -/

abbrev csem (k : Nat) (hk : k < 5 := by decide) : DmaSem sig := ⟨14 + k, by show 14 + k < 19; omega⟩
abbrev dcell (d : Dev nD) (c : Fin τ.nSC) (i : Fin τ.nSub) (k : Fin 5) : GSem nD τ sig := (V d c i, .dma (csem k.val k.isLt))

theorem dcell_mem (c : Fin τ.nSC) (i : Fin τ.nSub) (k : Fin 5) : dcell d c i k ∈ ownCells (V d c i) :=
  mem_ownCells.mpr ⟨rfl, (show ∀ s : DmaSem sig, (SemLoc.dma s : SemLoc sig).isScoped .scVector = true by decide) _⟩

theorem ownSems0_V :
    (ownSems0 (VT d L) : sProp 𝕄)
      = iprop((iCell d L 0 ∗ iCell d L 1 ∗ oCell d L 0 ∗ oCell d L 1 ∗ gCell d L)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

theorem ownBufs_V :
    (ownBufs (VT d L) : sProp 𝕄)
      = iprop((∃ f, ibLoc d L ↦{fullShare} f) ∗ (∃ f, obLoc d L ↦{fullShare} f)
          ∗ bigSep (((ownRefs (τ := τ) (.scVector (cV L) (jV L))).erase ((Proc.scVector (cV L) (jV L)).devRef cc1_scoped0)).erase
              ((Proc.scVector (cV L) (jV L)).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

/-! ## The tile, from what the launch deals it -/

/-- A tile's share of the table. -/
abbrev qOf (L : grid1.Coords) : PosShare TreeShare := Transfers.shareTokN fullShare (tile L)

variable (XY : Buf (Elt F) ((yAll).view.loc (VT d L))) (XI : Buf (Elt F) (iM.view.loc (VT d L)))

/-- What a tile takes: its share of the table, its eight lists, its eight blocks of the output. What it brings back:
    the same, the blocks at the rows that the lists name. -/
abbrev goP : sProp 𝕄 := iprop(yP d L (qOf L) XY ∗ bigSep Finset.univ (iRowP d L XI) ∗ bigSep Finset.univ (fun t => oTodo (F := F) d L t))
abbrev tdP : sProp 𝕄 := iprop(yP d L (qOf L) XY ∗ bigSep Finset.univ (iRowP d L XI) ∗ bigSep Finset.univ (oDone d L XY XI))

theorem tile_body (hF : (K (F := F)).Facts) (hXI : ∀ j, (XI j).toNat < 36864) (O : CellTallies nD τ sig (HIx 1)) (W : Waits sig (HIx 1)) (hO : ∀ g, O g none = 0) :
    iprop(levAts (K (F := F)).L (K (F := F)).lev ∗ emp ∗ goP d L XY XI
        ∗ scopedBufs (VT d L) ∗ scopedSems0 (VT d L) ∗ owes (VT d L) O W)
      ⊢ wp frame (wpE (defs₀ (F := F)) 𝒱₀ (VT d L) none) Set.univ
          (cc1_k L yM (Memref.isWhole_whole _) iM (Memref.isWhole_whole _) oM (Memref.isWhole_whole _)
            ibM (Memref.isWhole_whole _) cc1_scoped1 obM (Memref.isWhole_whole _) cc1_scoped3 cc1_scoped4)
          fun _ => iprop(tdP d L XY XI ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hy, Hi, Ho⟩, ⟨⟨%g0, HA⟩, ⟨%t0, HB⟩, Hbufs⟩, ⟨⟨C0, C1, C2, C3, C4⟩, Hsems⟩, HO⟩
  ihave Hmw := (show levAts (K (F := F)).L (K (F := F)).lev ⊢ Transfers.MayWaits (VT d L) (default : HIx 1) O from
    (K (F := F)).mayWaits_none (thr := VT d L) hO) $$ Hlv
  ihave HA' := (ib_split d L g0) $$ HA
  ihave HB' := (ob_split d L t0) $$ HB
  icases HA' with ⟨A0, A1⟩
  icases HB' with ⟨B0, B1⟩
  iapply (wp_wand_r Idealize.ShloMosaic.frame (wpE (defs₀ (F := F)) 𝒱₀ (VT d L) none) Set.univ)
  isplitl [Hy Hi Ho A0 A1 B0 B1 C0 C1 C2 C3 C4 HO]
  · iapply (tile_run d L (qOf L) XY XI O W hXI)
    isplitr; · iexact Hmw
    isplitl [Hy]; · iexact Hy
    isplitl [Hi]; · iexact Hi
    isplitl [Ho]; · iexact Ho
    isplitl [A0 C0]
    · isplitl [A0]; · iexists _; iexact A0
      iexact C0
    isplitl [A1 C1]
    · isplitl [A1]; · iexists _; iexact A1
      iexact C1
    isplitl [B0 C2]
    · isplitl [B0]; · iexists _; iexact B0
      iexact C2
    isplitl [B1 C3]
    · isplitl [B1]; · iexists _; iexact B1
      iexact C3
    isplitl [C4]; · iexact C4
    iexact HO
  iintro %_ ⟨Hy, Hi, Ho, ⟨A0, C0⟩, ⟨A1, C1⟩, ⟨B0, C2⟩, ⟨B1, C3⟩, C4, ⟨%W', %hW, HO⟩⟩
  isplitl [Hy Hi Ho]
  · isplitl [Hy]; · iexact Hy
    isplitl [Hi]; · iexact Hi
    iexact Ho
  isplitl [A0 A1 B0 B1 Hbufs]
  · isplitl [A0 A1]
    · iapply (ib_join d L)
      isplitl [A0]; · iexact A0
      iexact A1
    isplitl [B0 B1]
    · iapply (ob_join d L)
      isplitl [B0]; · iexact B0
      iexact B1
    iexact Hbufs
  isplitl [C0 C1 C2 C3 C4 Hsems]
  · isplitr [Hsems]
    · isplitl [C0]; · iexact C0
      isplitl [C1]; · iexact C1
      isplitl [C2]; · iexact C2
      isplitl [C3]; · iexact C3
      iexact C4
    iexact Hsems
  iexists W'; isplitr
  · ipureintro; intro p hp
    rcases hW p hp with h | h
    · exact .inl h
    · exact .inr (.inl h)
  · iexact HO

end Tile

end Cert.Proof.Served

end
-- ==== Proof.Served.Arrays.lean ====
/-
  Every tile's eight lists and eight blocks of the output out of the whole arrays and back, the table in read shares.
-/
module

public import proofs.«01_k».proof.Proof.Served.Body

@[expose] public section

noncomputable section

namespace Cert.Proof.Served

open Cert.ServedIdeal Cert.ServedIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays in the tiles' parts -/

def coordsV (c : Fin (grid1.bound 0)) (s : Fin (grid1.bound 1)) : grid1.Coords :=
  fun | 0 => c | 1 => s | ⟨_ + 2, h⟩ => absurd h (Nat.not_lt.2 (Nat.le_add_left _ _))

/-- A trip of a tile: the SparseCore, the subcore, the trip. -/
abbrev Tr : Type := Fin 2 × Fin 16 × Fin 8
abbrev trL (p : Tr) : grid1.Coords := coordsV p.1 p.2.1

/-- The trip that moves block `b`. -/
def trOf (b : ℕ) (hb : b < 256) : Tr :=
  (⟨(b % 128) / 4 / 16, by omega⟩, ⟨(b % 128) / 4 % 16, by omega⟩, ⟨b / 128 * 4 + b % 4, by omega⟩)

theorem trOf_eq (b : ℕ) (hb : b < 256) (p : Tr) : b = blk (trL p) p.2.2.val ↔ trOf b hb = p := by
  obtain ⟨c, s, t⟩ := p
  have hc := c.isLt; have hs := s.isLt; have ht := t.isLt
  show b = t.val / 4 * 128 + (4 * (c.val * 16 + s.val) + t.val % 4) ↔ _
  unfold trOf
  rw [Prod.mk.injEq, Prod.mk.injEq, Fin.ext_iff, Fin.ext_iff, Fin.ext_iff]
  show b = t.val / 4 * 128 + (4 * (c.val * 16 + s.val) + t.val % 4) ↔ b % 128 / 4 / 16 = c.val ∧ b % 128 / 4 % 16 = s.val ∧ b / 128 * 4 + b % 4 = t.val
  omega

theorem iRow_set (L : grid1.Coords) (t : Fin 8) : (iRow L t).view.set = (Rect.unit (s := S4x64x128) (rOff L t) S1x1x128.size (rOff_inb L t)).set := by
  show ((View.whole (main_arg7_scv : Ref sig .scVector)).slice (Rect.unit (s := S4x64x128) (rOff L t) S1x1x128.size (rOff_inb L t))).set = _
  rw [View.set_slice]; exact Finset.map_refl
theorem oBlk_set (L : grid1.Coords) (t : Fin 8) : (oBlk L t).view.set = (Rect.unit (s := S8192x4x2x128) (bOff L t) S128x1x2x128.size (bOff_inb L t)).set := by
  show (((View.whole (main_v4_scv : Ref sig .scVector)).slice (Rect.unit (s := S8192x4x2x128) (bOff L t) S128x1x2x128.size (bOff_inb L t))).reshape S128x2x128 squeezes_S128x1x2x128_S128x2x128.numel_eq).set = _
  rw [View.set_reshape, View.set_slice]; exact Finset.map_refl
theorem yAll_set : (yAll).view.set = Finset.univ := by
  show ((View.whole (main_v3_scv : Ref sig .scVector)).slice (Rect.unit (s := S36864x2x128) ![0, 0, 0] S36864x2x128.size inb_S36864x2x128_S36864x2x128_0_0_0)).set = _
  rw [View.set_slice]
  refine Finset.map_refl.trans (Finset.eq_univ_of_forall fun x => ?_)
  rw [Rect.mem_set_unit]
  have h0 : (x 0).val < 36864 := (x 0).isLt
  have h1 : (x 1).val < 2 := (x 1).isLt
  have h2 : (x 2).val < 128 := (x 2).isLt
  intro a; fin_cases a
  · show 0 ≤ (x 0).val ∧ (x 0).val < 0 + 36864; omega
  · show 0 ≤ (x 1).val ∧ (x 1).val < 0 + 2; omega
  · show 0 ≤ (x 2).val ∧ (x 2).val < 0 + 128; omega

theorem rowTr_lt (x : S4x64x128.Idx) : (x 0).val * 64 + (x 1).val < 256 := by
  have h0 : (x 0).val < 4 := (x 0).isLt
  have h1 : (x 1).val < 64 := (x 1).isLt
  omega
theorem blkTr_lt (x : S8192x4x2x128.Idx) : (x 1).val * 64 + (x 0).val / 128 < 256 := by
  have h0 : (x 0).val < 8192 := (x 0).isLt
  have h1 : (x 1).val < 4 := (x 1).isLt
  omega

theorem iRow_mem (L : grid1.Coords) (t : Fin 8) (x : S4x64x128.Idx) :
    x ∈ (Rect.unit (s := S4x64x128) (rOff L t) S1x1x128.size (rOff_inb L t)).set ↔ (x 0).val * 64 + (x 1).val = blk L t.val := by
  rw [Rect.mem_set_unit]
  have h1 : (x 1).val < 64 := (x 1).isLt
  have h2 : (x 2).val < 128 := (x 2).isLt
  constructor
  · intro h
    have a0 := h 0; have a1 := h 1
    change blk L t.val / 64 ≤ (x 0).val ∧ (x 0).val < blk L t.val / 64 + 1 at a0
    change blk L t.val % 64 ≤ (x 1).val ∧ (x 1).val < blk L t.val % 64 + 1 at a1
    omega
  · intro h a; fin_cases a
    · show blk L t.val / 64 ≤ (x 0).val ∧ (x 0).val < blk L t.val / 64 + 1; omega
    · show blk L t.val % 64 ≤ (x 1).val ∧ (x 1).val < blk L t.val % 64 + 1; omega
    · show 0 ≤ (x 2).val ∧ (x 2).val < 0 + 128; omega
theorem oBlk_mem (L : grid1.Coords) (t : Fin 8) (x : S8192x4x2x128.Idx) :
    x ∈ (Rect.unit (s := S8192x4x2x128) (bOff L t) S128x1x2x128.size (bOff_inb L t)).set ↔ (x 1).val * 64 + (x 0).val / 128 = blk L t.val := by
  rw [Rect.mem_set_unit]
  have h0 : (x 0).val < 8192 := (x 0).isLt
  have h1 : (x 1).val < 4 := (x 1).isLt
  have h2 : (x 2).val < 2 := (x 2).isLt
  have h3 : (x 3).val < 128 := (x 3).isLt
  constructor
  · intro h
    have a0 := h 0; have a1 := h 1
    change 128 * (blk L t.val % 64) ≤ (x 0).val ∧ (x 0).val < 128 * (blk L t.val % 64) + 128 at a0
    change blk L t.val / 64 ≤ (x 1).val ∧ (x 1).val < blk L t.val / 64 + 1 at a1
    omega
  · intro h a; fin_cases a
    · show 128 * (blk L t.val % 64) ≤ (x 0).val ∧ (x 0).val < 128 * (blk L t.val % 64) + 128; omega
    · show blk L t.val / 64 ≤ (x 1).val ∧ (x 1).val < blk L t.val / 64 + 1; omega
    · show 0 ≤ (x 2).val ∧ (x 2).val < 0 + 2; omega
    · show 0 ≤ (x 3).val ∧ (x 3).val < 0 + 128; omega

section Arrays
variable (d : Dev nD)

theorem iRow_part (p : Tr) (x : Idx (iLoc d)) : x ∈ (iRow (trL p) p.2.2).view.set ↔ trOf _ (rowTr_lt x) = p := by
  rw [iRow_set]; exact (iRow_mem (trL p) p.2.2 x).trans (trOf_eq _ (rowTr_lt x) p)
theorem oBlk_part (p : Tr) (x : Idx (oLoc d)) : x ∈ (oBlk (trL p) p.2.2).view.set ↔ trOf _ (blkTr_lt x) = p := by
  rw [oBlk_set]; exact (oBlk_mem (trL p) p.2.2 x).trans (trOf_eq _ (blkTr_lt x) p)

/-- The lists whole are the tiles' lists. -/
theorem lists_split (XI : Buf (Elt F) (iLoc d)) :
    (iLoc d ↦{fullShare} XI : sProp 𝕄)
      = bigSep Finset.univ fun c : Fin 2 => bigSep Finset.univ fun s : Fin 16 => bigSep Finset.univ fun t : Fin 8 => iRowP d (coordsV c s) XI t := by
  rw [parts_split (ℓ := iLoc d) (fun p : Tr => (iRow (trL p) p.2.2).view.set) (fun x => trOf _ (rowTr_lt x)) (iRow_part d), BI.bigSep_univ_prod]
  exact bigSep_congr fun c _ => BI.bigSep_univ_prod _
/-- The output whole is the tiles' blocks. -/
theorem out_split (X : Buf (Elt F) (oLoc d)) :
    (oLoc d ↦{fullShare} X : sProp 𝕄)
      = bigSep Finset.univ fun c : Fin 2 => bigSep Finset.univ fun s : Fin 16 => bigSep Finset.univ fun t : Fin 8 => oBlkP d (coordsV c s) t X := by
  rw [parts_split (ℓ := oLoc d) (fun p : Tr => (oBlk (trL p) p.2.2).view.set) (fun x => trOf _ (blkTr_lt x)) (oBlk_part d), BI.bigSep_univ_prod]
  exact bigSep_congr fun c _ => BI.bigSep_univ_prod _

/-- What stays with the host of the table while the tiles read it. -/
abbrev yKeep (XY : Buf (Elt F) (yLoc d)) : sProp 𝕄 := yLoc d ↦{Transfers.shareDrop fullShare 32} XY

theorem yP_eq (L : grid1.Coords) (q : PosShare TreeShare) (XY : Buf (Elt F) (yLoc d)) : (yP d L q XY : sProp 𝕄) = yLoc d ↦{q} XY := by
  show (yLoc d ↦[(yAll).view.set]{q} XY : sProp 𝕄) = _
  rw [yAll_set]

abbrev tileNo (p : Fin 2 × Fin 16) : ℕ := p.1.val * 16 + p.2.val
theorem tile_coordsV (c : Fin 2) (s : Fin 16) : tile (coordsV c s) = tileNo (c, s) := rfl
theorem tileNo_injOn : Set.InjOn tileNo ((Finset.univ : Finset (Fin 2 × Fin 16)) : Set (Fin 2 × Fin 16)) := fun a _ b _ h => by
  have h' : a.1.val * 16 + a.2.val = b.1.val * 16 + b.2.val := h
  have := a.2.isLt; have := b.2.isLt; exact Prod.ext (Fin.ext (by omega)) (Fin.ext (by omega))

theorem table_split (XY : Buf (Elt F) (yLoc d)) :
    (yLoc d ↦{fullShare} XY : sProp 𝕄)
      = iprop(yKeep d XY ∗ bigSep Finset.univ fun c : Fin 2 => bigSep Finset.univ fun s : Fin 16 => yP d (coordsV c s) (qOf (coordsV c s)) XY) := by
  rw [BI.Entails.antisymm (Transfers.pointsTo_toks_range (ℓ := yLoc d) (S := Finset.univ) (f := XY) fullShare 32).1
      (Transfers.pointsTo_toks_range (ℓ := yLoc d) (S := Finset.univ) (f := XY) fullShare 32).2,
    show Finset.range 32 = (Finset.univ : Finset (Fin 2 × Fin 16)).image tileNo by decide,
    SparseCore.bigSep_image_of_injOn tileNo_injOn,
    BI.bigSep_univ_prod]
  have e (c : Fin 2) (t : Fin 16) : (yP d (coordsV c t) (qOf (coordsV c t)) XY : sProp 𝕄) = yLoc d ↦{Transfers.shareTokN fullShare (tileNo (c, t))} XY :=
    (yP_eq d (coordsV c t) (qOf (coordsV c t)) XY).trans
      (congrArg (fun n : ℕ => (yLoc d ↦{Transfers.shareTokN fullShare n} XY : sProp 𝕄)) (tile_coordsV c t))
  simp only [e]

end Arrays

end Cert.Proof.Served

end
-- ==== Proof.Served.Ffn.lean ====
/-
  The experts' call, one tile of 256 rows: what its body leaves in the output block, as a function of the blocks it
  reads, and the body's triple.
-/
module

public import proofs.«01_k».proof.Proof.Served.Names
public import proofs.«01_k».proof.Proof.Gen.ServedIdeal.Launch
public import proofs.«01_k».proof.Proof.Gen.ServedIdeal.Skeleton
public import Idealize.ShloMosaic.Lib.Pipeline.FrameBody
public import Idealize.ShloMosaic.Lib.Ring
public import Idealize.ShloMosaic.Lib.Tactic

@[expose] public section

set_option maxRecDepth 16384

noncomputable section

namespace Cert.Proof.Served

open Cert.ServedIdeal Cert.ServedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

/-- The rectangle of quarter `k` of a tile: all rows, 256 columns. -/
abbrev q0 : Rect S4x256x256 := Rect.unit (s := S4x256x256) ![0, 0, 0] S1x256x256.size inb_S4x256x256_S1x256x256_0_0_0
abbrev q1 : Rect S4x256x256 := Rect.unit (s := S4x256x256) ![1, 0, 0] S1x256x256.size inb_S4x256x256_S1x256x256_1_0_0
abbrev q2 : Rect S4x256x256 := Rect.unit (s := S4x256x256) ![2, 0, 0] S1x256x256.size inb_S4x256x256_S1x256x256_2_0_0
abbrev q3 : Rect S4x256x256 := Rect.unit (s := S4x256x256) ![3, 0, 0] S1x256x256.size inb_S4x256x256_S1x256x256_3_0_0
/-- An expert's matrix, its bias row, and the first column of the rows' weights. -/
abbrev qw : Rect S1x1024x1024 := Rect.unit (s := S1x1024x1024) ![0, 0, 0] S1x1024x1024.size inb_S1x1024x1024_S1x1024x1024_0_0_0
abbrev qb : Rect S1x1x1024 := Rect.unit (s := S1x1x1024) ![0, 0, 0] S1x1x1024.size inb_S1x1x1024_S1x1x1024_0_0_0
abbrev qp : Rect S256x128 := Rect.unit (s := S256x128) ![0, 0] S256x1.size inb_S256x128_S256x1_0_0

/-- The second product of the tile, before its bias. -/
def midTile (x0 : Vec F S4x256x256 .f32) (x1 : Vec F S1x1024x1024 .f32) (x2 : Vec F S1x1x1024 .f32) (x3 : Vec F S1x1024x1024 .f32) :
    FVec F S256x1024 .f32 :=
  k0_pay6 (View.ld x0 q0) (View.ld x0 q1) (View.ld x0 q2) (View.ld x0 q3) (View.ld x1 qw) (View.ld x2 qb) (View.ld x3 qw)

/-- The stores of one tile, the last first. -/
abbrev tilePieces (x0 : Vec F S4x256x256 .f32) (x1 : Vec F S1x1024x1024 .f32) (x2 : Vec F S1x1x1024 .f32) (x3 : Vec F S1x1024x1024 .f32)
    (x4 : Vec F S1x1x1024 .f32) (x5 : Vec F S256x128 .f32) : List (View.Piece (Elt F) S4x256x256 .f32) :=
  [⟨q3, k0_pay5 (midTile x0 x1 x2 x3) (View.ld x4 qb) (View.ld x5 qp)⟩, ⟨q2, k0_pay4 (midTile x0 x1 x2 x3) (View.ld x4 qb) (View.ld x5 qp)⟩,
    ⟨q1, k0_pay3 (midTile x0 x1 x2 x3) (View.ld x4 qb) (View.ld x5 qp)⟩, ⟨q0, k0_pay2 (midTile x0 x1 x2 x3) (View.ld x4 qb) (View.ld x5 qp)⟩]

theorem tile_cover (x0 : Vec F S4x256x256 .f32) (x1 : Vec F S1x1024x1024 .f32) (x2 : Vec F S1x1x1024 .f32) (x3 : Vec F S1x1024x1024 .f32)
    (x4 : Vec F S1x1x1024 .f32) (x5 : Vec F S256x128 .f32) (y : S4x256x256.Idx) :
    ∃ p ∈ tilePieces x0 x1 x2 x3 x4 x5, y ∈ p.1.set :=
  View.cover_of_tiled (tilePieces x0 x1 x2 x3 x4 x5) S1x256x256.size (by rfl) y

/-- What one tile's body leaves in its output block. -/
def outTile (x0 : Vec F S4x256x256 .f32) (x1 : Vec F S1x1024x1024 .f32) (x2 : Vec F S1x1x1024 .f32) (x3 : Vec F S1x1024x1024 .f32)
    (x4 : Vec F S1x1x1024 .f32) (x5 : Vec F S256x128 .f32) : Vec F S4x256x256 .f32 :=
  View.canon (tilePieces x0 x1 x2 x3 x4 x5)

set_option maxHeartbeats 1000000 in
/-- The body's triple: the blocks read are given back, the output block ends at `outTile`. -/
theorem tile_triple (c : Dev nD) (i : grid0.Coords) (arg1 : Memref sig .tc .smem S36 .i32) (harg1 : arg1.IsWhole)
    (arg2 : Memref sig .tc .vmem S4x256x256 .f32) (harg2 : arg2.IsWhole)
    (arg3 : Memref sig .tc .vmem S1x1024x1024 .f32) (harg3 : arg3.IsWhole) (arg4 : Memref sig .tc .vmem S1x1x1024 .f32) (harg4 : arg4.IsWhole)
    (arg5 : Memref sig .tc .vmem S1x1024x1024 .f32) (harg5 : arg5.IsWhole) (arg6 : Memref sig .tc .vmem S1x1x1024 .f32) (harg6 : arg6.IsWhole)
    (arg7 : Memref sig .tc .vmem S256x128 .f32) (harg7 : arg7.IsWhole) (arg8 : Memref sig .tc .vmem S4x256x256 .f32) (harg8 : arg8.IsWhole)
    (x0 : Vec F S4x256x256 .f32) (x1 : Vec F S1x1024x1024 .f32) (x2 : Vec F S1x1x1024 .f32) (x3 : Vec F S1x1024x1024 .f32)
    (x4 : Vec F S1x1x1024 .f32) (x5 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (outTile x0 x1 x2 x3 x4 x5)) -∗ K ⟨⟩))
      ⊢ wp frame (wpE (defs₀ (F := F)) Variants.none c none) E
          (cc0__ffn_body i arg1 harg1 arg2 harg2 arg3 harg3 arg4 harg4 arg5 harg5 arg6 harg6 arg7 harg7 arg8 harg8) K := by
  simp only [cc0__ffn_body_eq_skeleton]; unfold cc0__ffn_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr; swap; · iexact H6
  ipureintro
  exact View.read_writes_eq_canon _ _ _ (tile_cover _ _ _ _ _ _)

end Cert.Proof.Served

end
-- ==== Proof.Served.Region.lean ====
/-
  The experts' call: its windows' contents point by point, and the call as one step of the host's program, entered with
  every array of the host at `V` and left with the output array at what the write-backs make of it.
-/
module

public import proofs.«01_k».proof.Proof.Served.Ffn
public import Idealize.ShloMosaic.Lib.Pipeline.RegionArraysT
public import Idealize.ShloMosaic.Lib.Pipeline.RegionArraysS
public import Idealize.ShloMosaic.Lib.SparseCore.Threads

@[expose] public section

set_option maxRecDepth 16384

noncomputable section

namespace Cert.Proof.Served

open Cert.ServedIdeal Cert.ServedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation BodyObligationLoose RegionSeg cellOf arrRef arrRefs tblRefs ucRefs prefHeld afterRegion)

variable {F : FTy → Type} [FloatOps F]

local notation "𝕄" => MT nD τ sig (HIx 1) (Elt F) ℕ UU ℕ

variable (V : Dev nD → Valuation τ sig (Elt F))

/-- The table of the tiles' experts as the call finds it. -/
def tabOf : pre0.Contents (Elt F) := fun j => V 0 (Proc.devRef .tc (pre0.ref j))
/-- The call's side condition: every tile's expert is one of the four. -/
abbrev TabOk : Prop := ok0 (F := F) (tabOf V)
abbrev adm (hO : TabOk V) : (pcfg0 (F := F)).Adm := ⟨tabOf V, hO⟩
abbrev cfgV (hO : TabOk V) : Cfg sig Λ₀ := Pipeline.pin pcfgs (fun _ => adm V hO) 0

/-- Window `w`'s block at point `t`, read off the array the call finds. -/
def blkOf (hO : TabOk V) (c : Dev nD) (w : Fin (cfgV V hO).W) (t : Fin (cfgV V hO).N) : ((cfgV V hO).win w).block.Idx → Elt F ((cfgV V hO).win w).elt :=
  (((cfgV V hO).win w).blk t).view.read (Elt F) (V c (Proc.devRef .tc (arrRef spec0 w)))

/-- The pairs the host's waits may have recorded before the call. -/
def recd (c : Dev nD) : Set (SemLoc sig × HIx 1) := {p | (K (F := F)).lev ((SparseCore.T c : Thread nD τ), p.1) p.2 ≤ 0}

def dats (hO : TabOk V) (_ : Fin 1) (c : Dev nD) : Dat τ (Elt F) (HIx 1) ℕ UU ℕ (cfgV V hO) c where
  A w := V c (Proc.devRef .tc (arrRef spec0 w))
  after w t := match w with
    | ⟨0, _⟩ => blkOf V hO c 0 t
    | ⟨1, _⟩ => blkOf V hO c 1 t
    | ⟨2, _⟩ => blkOf V hO c 2 t
    | ⟨3, _⟩ => blkOf V hO c 3 t
    | ⟨4, _⟩ => blkOf V hO c 4 t
    | ⟨5, _⟩ => blkOf V hO c 5 t
    | ⟨6, h⟩ => outTile (blkOf V hO c 0 t) (blkOf V hO c 1 t) (blkOf V hO c 2 t) (blkOf V hO c 3 t) (blkOf V hO c 4 t) (blkOf V hO c 5 t)
  Φ _ := prefHeld pre0 c (fun _ => fullShare) (tabOf V)
  q _ := fullShare
  owed _ := (K (F := F)).Otc c 0
  recorded _ := recd (F := F) c

theorem A_eq (hO : TabOk V) (c : Dev nD) (w : Fin (cfgV V hO).W) : (dats V hO 0 c).A w = V c (Proc.devRef .tc (arrRef spec0 w)) := by
  dsimp only [dats]

theorem phi_eq (hO : TabOk V) (c : Dev nD) (t) : (dats V hO 0 c).Φ t = prefHeld pre0 c (fun _ => fullShare) (tabOf V) := by dsimp only [dats]

theorem after_0 (hO : TabOk V) (c : Dev nD) (t : Fin (cfgV V hO).N) : (dats V hO 0 c).after 0 t = blkOf V hO c 0 t := by dsimp only [dats]; try rfl
theorem after_1 (hO : TabOk V) (c : Dev nD) (t : Fin (cfgV V hO).N) : (dats V hO 0 c).after 1 t = blkOf V hO c 1 t := by dsimp only [dats]; try rfl
theorem after_2 (hO : TabOk V) (c : Dev nD) (t : Fin (cfgV V hO).N) : (dats V hO 0 c).after 2 t = blkOf V hO c 2 t := by dsimp only [dats]; try rfl
theorem after_3 (hO : TabOk V) (c : Dev nD) (t : Fin (cfgV V hO).N) : (dats V hO 0 c).after 3 t = blkOf V hO c 3 t := by dsimp only [dats]; try rfl
theorem after_4 (hO : TabOk V) (c : Dev nD) (t : Fin (cfgV V hO).N) : (dats V hO 0 c).after 4 t = blkOf V hO c 4 t := by dsimp only [dats]; try rfl
theorem after_5 (hO : TabOk V) (c : Dev nD) (t : Fin (cfgV V hO).N) : (dats V hO 0 c).after 5 t = blkOf V hO c 5 t := by dsimp only [dats]; try rfl
theorem after_6 (hO : TabOk V) (c : Dev nD) (t : Fin (cfgV V hO).N) : (dats V hO 0 c).after 6 t
    = outTile (blkOf V hO c 0 t) (blkOf V hO c 1 t) (blkOf V hO c 2 t) (blkOf V hO c 3 t) (blkOf V hO c 4 t) (blkOf V hO c 5 t) := by dsimp only [dats]; try rfl

theorem before_0 (hO : TabOk V) (c : Dev nD) (t : Fin (cfgV V hO).N) (d) : (dats V hO 0 c).before 0 t d = blkOf V hO c 0 t :=
  ((dats V hO 0 c).before_in_eq_fetched 0 rfl (fun _ => rfl) (fun _ _ _ => rfl) (fun t => by rw [after_0]; unfold Dat.blockOf blkOf; rw [A_eq]; try rfl) t d).trans
    (by unfold Dat.fetched Dat.blockOf blkOf; rw [A_eq]; try rfl)
theorem before_1 (hO : TabOk V) (c : Dev nD) (t : Fin (cfgV V hO).N) (d) : (dats V hO 0 c).before 1 t d = blkOf V hO c 1 t :=
  ((dats V hO 0 c).before_in_eq_fetched 1 rfl (fun _ => rfl) (fun _ _ _ => rfl) (fun t => by rw [after_1]; unfold Dat.blockOf blkOf; rw [A_eq]; try rfl) t d).trans
    (by unfold Dat.fetched Dat.blockOf blkOf; rw [A_eq]; try rfl)
theorem before_2 (hO : TabOk V) (c : Dev nD) (t : Fin (cfgV V hO).N) (d) : (dats V hO 0 c).before 2 t d = blkOf V hO c 2 t :=
  ((dats V hO 0 c).before_in_eq_fetched 2 rfl (fun _ => rfl) (fun _ _ _ => rfl) (fun t => by rw [after_2]; unfold Dat.blockOf blkOf; rw [A_eq]; try rfl) t d).trans
    (by unfold Dat.fetched Dat.blockOf blkOf; rw [A_eq]; try rfl)
theorem before_3 (hO : TabOk V) (c : Dev nD) (t : Fin (cfgV V hO).N) (d) : (dats V hO 0 c).before 3 t d = blkOf V hO c 3 t :=
  ((dats V hO 0 c).before_in_eq_fetched 3 rfl (fun _ => rfl) (fun _ _ _ => rfl) (fun t => by rw [after_3]; unfold Dat.blockOf blkOf; rw [A_eq]; try rfl) t d).trans
    (by unfold Dat.fetched Dat.blockOf blkOf; rw [A_eq]; try rfl)
theorem before_4 (hO : TabOk V) (c : Dev nD) (t : Fin (cfgV V hO).N) (d) : (dats V hO 0 c).before 4 t d = blkOf V hO c 4 t :=
  ((dats V hO 0 c).before_in_eq_fetched 4 rfl (fun _ => rfl) (fun _ _ _ => rfl) (fun t => by rw [after_4]; unfold Dat.blockOf blkOf; rw [A_eq]; try rfl) t d).trans
    (by unfold Dat.fetched Dat.blockOf blkOf; rw [A_eq]; try rfl)
theorem before_5 (hO : TabOk V) (c : Dev nD) (t : Fin (cfgV V hO).N) (d) : (dats V hO 0 c).before 5 t d = blkOf V hO c 5 t :=
  ((dats V hO 0 c).before_in_eq_fetched 5 rfl (fun _ => rfl) (fun _ _ _ => rfl) (fun t => by rw [after_5]; unfold Dat.blockOf blkOf; rw [A_eq]; try rfl) t d).trans
    (by unfold Dat.fetched Dat.blockOf blkOf; rw [A_eq]; try rfl)

/-! ## The body at a point -/

abbrev stg0 (hO : TabOk V) (t : Fin (cfgV V hO).N) := ((cfgV V hO).win 0).stage ((cfgV V hO).slots t 0)
abbrev stg1 (hO : TabOk V) (t : Fin (cfgV V hO).N) := ((cfgV V hO).win 1).stage ((cfgV V hO).slots t 1)
abbrev stg2 (hO : TabOk V) (t : Fin (cfgV V hO).N) := ((cfgV V hO).win 2).stage ((cfgV V hO).slots t 2)
abbrev stg3 (hO : TabOk V) (t : Fin (cfgV V hO).N) := ((cfgV V hO).win 3).stage ((cfgV V hO).slots t 3)
abbrev stg4 (hO : TabOk V) (t : Fin (cfgV V hO).N) := ((cfgV V hO).win 4).stage ((cfgV V hO).slots t 4)
abbrev stg5 (hO : TabOk V) (t : Fin (cfgV V hO).N) := ((cfgV V hO).win 5).stage ((cfgV V hO).slots t 5)
abbrev stg6 (hO : TabOk V) (t : Fin (cfgV V hO).N) := ((cfgV V hO).win 6).stage ((cfgV V hO).slots t 6)

/-- The body on the staging buffers of point `t`. -/
abbrev bodyV (hO : TabOk V) (t : Fin (cfgV V hO).N) : Prog (TpuEff nD τ sig (Elt F) Λ₀ .tc) PUnit :=
  cc0__ffn_body (grid0.coords t) (Memref.whole main_arg0) (Memref.isWhole_whole _)
    (spec0_0.stage ((cfgV V hO).slots t 0)) (hstage0_0 (((cfgV V hO).slots t 0).cast nbuf0_0))
    (spec0_1.stage ((cfgV V hO).slots t 1)) (hstage0_1 (((cfgV V hO).slots t 1).cast nbuf0_1))
    (spec0_2.stage ((cfgV V hO).slots t 2)) (hstage0_2 (((cfgV V hO).slots t 2).cast nbuf0_2))
    (spec0_3.stage ((cfgV V hO).slots t 3)) (hstage0_3 (((cfgV V hO).slots t 3).cast nbuf0_3))
    (spec0_4.stage ((cfgV V hO).slots t 4)) (hstage0_4 (((cfgV V hO).slots t 4).cast nbuf0_4))
    (spec0_5.stage ((cfgV V hO).slots t 5)) (hstage0_5 (((cfgV V hO).slots t 5).cast nbuf0_5))
    (spec0_6.stage ((cfgV V hO).slots t 6)) (hstage0_6 (((cfgV V hO).slots t 6).cast nbuf0_6))

def bodyPre (hO : TabOk V) (c : Dev nD) (t : Fin (cfgV V hO).N) : sProp 𝕄 :=
  iprop((dats V hO 0 c).Φ t.castSucc ∗ (dats V hO 0 c).owesAt none t.castSucc
    ∗ (∃ d, owns (c : Thread nD τ) (stg0 V hO t) fullShare ((dats V hO 0 c).before 0 t d))
    ∗ (∃ d, owns (c : Thread nD τ) (stg1 V hO t) fullShare ((dats V hO 0 c).before 1 t d))
    ∗ (∃ d, owns (c : Thread nD τ) (stg2 V hO t) fullShare ((dats V hO 0 c).before 2 t d))
    ∗ (∃ d, owns (c : Thread nD τ) (stg3 V hO t) fullShare ((dats V hO 0 c).before 3 t d))
    ∗ (∃ d, owns (c : Thread nD τ) (stg4 V hO t) fullShare ((dats V hO 0 c).before 4 t d))
    ∗ (∃ d, owns (c : Thread nD τ) (stg5 V hO t) fullShare ((dats V hO 0 c).before 5 t d))
    ∗ (∃ d, owns (c : Thread nD τ) (stg6 V hO t) fullShare ((dats V hO 0 c).before 6 t d)))

def bodyPost (hO : TabOk V) (c : Dev nD) (t : Fin (cfgV V hO).N) : sProp 𝕄 :=
  iprop((dats V hO 0 c).Φ t.succ ∗ (dats V hO 0 c).owesAt none t.succ
    ∗ owns (c : Thread nD τ) (stg0 V hO t) fullShare ((dats V hO 0 c).after 0 t)
    ∗ owns (c : Thread nD τ) (stg1 V hO t) fullShare ((dats V hO 0 c).after 1 t)
    ∗ owns (c : Thread nD τ) (stg2 V hO t) fullShare ((dats V hO 0 c).after 2 t)
    ∗ owns (c : Thread nD τ) (stg3 V hO t) fullShare ((dats V hO 0 c).after 3 t)
    ∗ owns (c : Thread nD τ) (stg4 V hO t) fullShare ((dats V hO 0 c).after 4 t)
    ∗ owns (c : Thread nD τ) (stg5 V hO t) fullShare ((dats V hO 0 c).after 5 t)
    ∗ owns (c : Thread nD τ) (stg6 V hO t) fullShare ((dats V hO 0 c).after 6 t))

theorem sound_body (hO : TabOk V) (c : Dev nD) (t : Fin (cfgV V hO).N) :
    bodyPre V hO c t ⊢ wp frame (wpE (defs₀ (F := F)) Variants.none c none) Set.univ (bodyV V hO t) (fun _ => bodyPost V hO c t) := by
  unfold bodyPre bodyPost bodyV
  simp only [before_0, before_1, before_2, before_3, before_4, before_5]
  rw [show (dats V hO 0 c).Φ t.succ = (dats V hO 0 c).Φ t.castSucc from rfl,
    show (dats V hO 0 c).owesAt none t.succ = (dats V hO 0 c).owesAt none t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (tile_triple c (grid0.coords t) _ _ _ _ _ _ _ _ _ _ _ _ _ _ _ _ (blkOf V hO c 0 t) (blkOf V hO c 1 t) (blkOf V hO c 2 t) (blkOf V hO c 3 t)
    (blkOf V hO c 4 t) (blkOf V hO c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (hO : TabOk V) (t : Fin (cfgV V hO).N) :
    defs₀ (F := F) .tc (cfgV V hO).body ((cfgV V hO).bodyArgs t ((cfgV V hO).slots t)) = bodyV V hO t := by
  unfold defs₀; rfl

theorem body_obligation (hO : TabOk V) (c : Dev nD) : BodyObligation (dats (F := F) V hO 0 c) (defs₀ (F := F)) Variants.none none Set.univ := fun t => by
  rw [bigSep_W0, bigSep_W0, defs₀_row V hO]
  exact triple_restated (sound_body V hO c t) rfl .rfl fun _ => .rfl

/-! ## The call as one step of the host's program -/

/-- The host's arrays after the call. -/
def Vout (hO : TabOk V) (c : Dev nD) : Valuation τ sig (Elt F) := afterRegion (dats V hO 0 c) (V c)

/-- What the host owes, its recorded waits low. -/
def owesLow (c : Dev nD) : sProp 𝕄 :=
  iprop(∃ W, ⌜(K (F := F)).WBelow (SparseCore.T c : Thread nD τ) W 0⌝ ∗ owes (SparseCore.T c : Thread nD τ) ((K (F := F)).Otc c 0) W)

/-- The host's arrays that are neither a window's array nor the table. -/
abbrev restRefs : Finset (DevRef τ sig) := (ucRefs τ sig \ arrRefs spec0) \ tblRefs pre0

theorem arr_sub : arrRefs (τ := τ) spec0 ⊆ ucRefs τ sig := Pipeline.arrRefs_sub_ucRefs spec0 winFacts0.arr_unscoped
theorem tbl_sub : tblRefs (τ := τ) pre0 ⊆ ucRefs τ sig \ arrRefs spec0 :=
  Pipeline.tblRefs_sub_ucRefs_sdiff spec0 pre0 preFacts0.unscoped preFacts0.disj

/-- The host's arrays, split into the windows', the table and the rest. -/
theorem held_parts (c : Dev nD) (W : Valuation τ sig (Elt F)) :
    (StableHlo.held (SparseCore.T c : Thread nD τ) (ucRefs τ sig) W : sProp 𝕄)
      = iprop(StableHlo.held (SparseCore.T c : Thread nD τ) (arrRefs spec0) W ∗ StableHlo.held (SparseCore.T c : Thread nD τ) (tblRefs pre0) W
        ∗ StableHlo.held (SparseCore.T c : Thread nD τ) restRefs W) := by
  rw [StableHlo.held_sub_split _ arr_sub W, StableHlo.held_sub_split _ tbl_sub W]

theorem share_eq (hO : TabOk V) (c : Dev nD) : ∀ w, (dats V hO 0 c).share w = fullShare := (dats V hO 0 c).share_full fun _ => rfl

theorem arrays_in (hO : TabOk V) (c : Dev nD) :
    ((dats V hO 0 c).arrays ((dats V hO 0 c).arrAt · 0) : sProp 𝕄) = StableHlo.held (SparseCore.T c : Thread nD τ) (arrRefs spec0) (V c) :=
  Pipeline.arrays_held pcfgs (fun _ => adm V hO) (dats V hO) 0 launch0 c (share_eq V hO c) _ (V c) fun w => (show (dats V hO 0 c).arrAt w 0 = _ from A_eq V hO c w)
theorem arrays_out (hO : TabOk V) (c : Dev nD) :
    ((dats V hO 0 c).arrays ((dats V hO 0 c).arrAt · (cfgV V hO).N) : sProp 𝕄) = StableHlo.held (SparseCore.T c : Thread nD τ) (arrRefs spec0) (Vout V hO c) :=
  Pipeline.arrays_held pcfgs (fun _ => adm V hO) (dats V hO) 0 launch0 c (share_eq V hO c) _ (Vout V hO c) fun w =>
    (Pipeline.afterRegion_arr (dats V hO 0 c) (V c) winFacts0.arr_inj w).symm
theorem table_in (c : Dev nD) : (prefHeld pre0 c (fun _ => fullShare) (tabOf V) : sProp 𝕄) = StableHlo.held (SparseCore.T c : Thread nD τ) (tblRefs pre0) (V c) :=
  Pipeline.prefHeld_held pre0 preFacts0.inj c (tabOf V) (V c) fun k => by
    obtain rfl : c = 0 := Subsingleton.elim _ _; rfl

theorem rest_out (hO : TabOk V) (c : Dev nD) : (StableHlo.held (SparseCore.T c : Thread nD τ) restRefs (Vout V hO c) : sProp 𝕄)
    = StableHlo.held (SparseCore.T c : Thread nD τ) restRefs (V c) :=
  StableHlo.held_congr _ fun b hb => Pipeline.afterRegion_off (dats V hO 0 c) (V c) (ucRefs τ sig) b (Finset.mem_sdiff.mp hb).1
theorem table_out (hO : TabOk V) (c : Dev nD) : (StableHlo.held (SparseCore.T c : Thread nD τ) (tblRefs pre0) (Vout V hO c) : sProp 𝕄)
    = StableHlo.held (SparseCore.T c : Thread nD τ) (tblRefs pre0) (V c) :=
  StableHlo.held_congr _ fun b hb => Pipeline.afterRegion_off (dats V hO 0 c) (V c) (ucRefs τ sig) b (tbl_sub hb)

theorem below_of_bound (hO : TabOk V) (c : Dev nD) (W : Waits sig (HIx 1)) (t) (h : ∀ p ∈ W, p ∈ (dats V hO 0 c).bound none t) :
    (K (F := F)).WBelow (SparseCore.T c : Thread nD τ) W 0 := fun p hp => by
  rcases h p hp with h | ⟨w, s, rfl⟩
  · exact h
  · exact le_of_eq rfl

def seg (hO : TabOk V) : RegionSeg pcfgs (fun _ => adm V hO) (dats V hO) none (defs₀ (F := F)) 𝒱₀ (K (F := F)).L (K (F := F)).lev 0 where
  win := launch0.win.to₀
  block_pos := block_pos0
  stage_whole := stage_whole0
  K := PEmpty
  osem k := k.elim
  ho := Pipeline.OwnSemFacts.none _
  hbody c := (body_obligation V hO c).loose
  hwaits c := Pipeline.cellsWaits_of_cut (Pipeline.pin pcfgs (fun _ => adm V hO)) (dats V hO) none 0 c 0 ((K (F := F)).Otc c 0) (fun _ => rfl)
    (fun _ _ => Finset.mem_univ _) (fun _ _ => le_of_eq rfl) (fun g i h => ⟨Finset.mem_univ _, Nat.lt_of_lt_of_le (Nat.succ_pos _) ((K (F := F)).lev_of_Otc_pos h)⟩)
  pre c := iprop(StableHlo.held (SparseCore.T c : Thread nD τ) (ucRefs τ sig) (V c) ∗ owesLow (F := F) c)
  post c := iprop(StableHlo.held (SparseCore.T c : Thread nD τ) (ucRefs τ sig) (Vout V hO c) ∗ owesLow (F := F) c)
  X _ := iprop(emp)
  Y c := prefHeld pre0 c (fun _ => fullShare) (tabOf V)
  Z c := StableHlo.held (SparseCore.T c : Thread nD τ) restRefs (V c)
  hentry c := by
    rw [Pipeline.ownSems0_none, held_parts]
    iintro ⟨⟨⟨Ha, Ht, Hr⟩, HO⟩, -, -⟩
    imodintro
    isplitl [Ha]; · iapply (Entails.of_eq (arrays_in V hO c).symm); iexact Ha
    isplitl [Ht]; · iapply (Entails.of_eq (table_in V c).symm); iexact Ht
    isplitl [HO]
    · unfold owesLow Dat.owesAt Pipeline.owesWithin
      icases HO with ⟨%W, %hW, HO⟩
      iexists W
      isplitr; · ipureintro; exact fun p hp => Or.inl (hW p hp)
      iexact HO
    isplitr; · iempintro
    iexact Hr
  hin c := by
    iintro ⟨-, Hpf, -⟩
    iapply (Entails.of_eq (phi_eq V hO c 0).symm); iexact Hpf
  hout c := by
    rw [Pipeline.ownSems0_none]
    iintro Hpf
    isplitl [Hpf]; · iapply (Entails.of_eq (phi_eq V hO c (Fin.last _))); iexact Hpf
    isplitr; · iempintro
    iapply (Entails.of_eq (scopedRest0_eq c).symm)
    iempintro
  hexit c := by
    rw [held_parts]
    iintro ⟨Ha, HO, Hpf, Hr⟩
    imodintro
    isplitr [HO]
    · isplitl [Ha]; · iapply (Entails.of_eq (arrays_out V hO c)); iexact Ha
      isplitl [Hpf]
      · iapply (Entails.of_eq (table_out V hO c).symm)
        iapply (Entails.of_eq (table_in V c))
        iexact Hpf
      iapply (Entails.of_eq (rest_out V hO c).symm); iexact Hr
    unfold owesLow Dat.owesAt Pipeline.owesWithin
    icases HO with ⟨%W, %hW, HO⟩
    iexists W
    isplitr; · ipureintro; exact below_of_bound V hO c W _ hW
    iexact HO

end Cert.Proof.Served

end
-- ==== Proof.Served.Launch.lean ====
/-
  The experts' call and the gather, launched: what the gather's call takes and hands back, the host's reshapes around
  the two calls, the run of the whole program.
-/
module

public import proofs.«01_k».proof.Proof.Served.Arrays
public import proofs.«01_k».proof.Proof.Served.Region
public import proofs.«01_k».proof.Defs

@[expose] public section

noncomputable section

namespace Cert.Proof.Served

open Cert.ServedIdeal Cert.ServedIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.ShloMosaic.Pipeline (ucRefs arrRef arrRefs pin)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host's memory, step by step -/

variable (m : (ℓ : Loc nD τ sig) → Buf (Elt F) ℓ) (ρ : Dev nD → PrngReg)

abbrev dr (b : Ref sig .tc) : DevRef τ sig := Proc.devRef .tc b
abbrev opB1 : HloOp τ sig (Elt F) := StableHlo.reshape main_arg3 main_v0 (rfl : (.f32 : EltTy) = .f32) shapeCasts_S4x1024_S4x1x1024
abbrev opB2 : HloOp τ sig (Elt F) := StableHlo.reshape main_arg5 main_v1 (rfl : (.f32 : EltTy) = .f32) shapeCasts_S4x1024_S4x1x1024
abbrev opIn : HloOp τ sig (Elt F) := StableHlo.reshape main_v2 main_v3 (rfl : (.f32 : EltTy) = .f32) shapeCasts_S4x9216x256_S36864x2x128
abbrev opOut : HloOp τ sig (Elt F) := StableHlo.reshape main_v4 main_v5 (rfl : (.f32 : EltTy) = .f32) shapeCasts_S8192x4x2x128_S4x2048x1024

/-- Every tile's expert is one of the four and every word of the lists names a row of the table. -/
structure PreOK : Prop where
  te : ∀ (d : Dev nD) (j : S36.Idx), (m (mLoc d main_arg0) j).toNat < 4
  slots : ∀ (d : Dev nD) (j : S4x64x128.Idx), (m (iLoc d) j).toNat < 36864

/-- The launch memory, and the memory at the experts' call. -/
def V0 (d : Dev nD) : Valuation τ sig (Elt F) := fun b => m (d, b)
def V1 (d : Dev nD) : Valuation τ sig (Elt F) := (opB1 (F := F)).result (V0 m d)
def V2 (d : Dev nD) : Valuation τ sig (Elt F) := (opB2 (F := F)).result (V1 m d)

theorem V1_ne (d : Dev nD) (b : DevRef τ sig) (h : b ∉ ({dr main_v0} : Finset (DevRef τ sig))) : V1 m d b = V0 m d b := (opB1 (F := F)).result_of_not_mem (V0 m d) h
theorem V2_ne (d : Dev nD) (b : DevRef τ sig) (h : b ∉ ({dr main_v1} : Finset (DevRef τ sig))) : V2 m d b = V1 m d b := (opB2 (F := F)).result_of_not_mem (V1 m d) h
theorem V2_arg (d : Dev nD) (b : Ref sig .tc) (h0 : dr b ∉ ({dr main_v0} : Finset (DevRef τ sig))) (h1 : dr b ∉ ({dr main_v1} : Finset (DevRef τ sig))) :
    V2 m d (dr b) = m (mLoc d b) := (V2_ne m d _ h1).trans (V1_ne m d _ h0)

/-- The experts' side condition holds at the experts' call. -/
theorem tabOk (hpre : PreOK m) : TabOk (V2 m) := by
  have key : ∀ i : grid0.Coords, ((tabOf (V2 m)).at 0 (Rect.unit (s := S36) ![(Scalar.indexCast (BitVec.ofNat 32 (i 0).val) : Index).toNat] S1.size (k0_off1_inb i)) numel1_S1 : BitVec 32).toNat < 4 := by
    intro i
    have := hpre.te 0
    unfold Pipeline.Prefetch.Contents.at tabOf
    rw [show V2 m 0 (Proc.devRef .tc (pre0.ref 0)) = m (mLoc 0 main_arg0) from V2_arg m 0 main_arg0 (by decide) (by decide)]
    exact this _
  refine ⟨fun i => ⟨fun a => ?_, Or.inl rfl⟩, fun i => ⟨fun a => ?_, Or.inl rfl⟩, fun i => ⟨fun a => ?_, Or.inl rfl⟩, fun i => ⟨fun a => ?_, Or.inl rfl⟩⟩ <;>
  · have := key i
    match a with
    | ⟨0, _⟩ => exact (Nat.mul_one _).symm ▸ Nat.succ_le_of_lt this
    | ⟨1, _⟩ => first | exact (by decide : (0 + 1) * 1024 ≤ 1024) | exact (by decide : (0 + 1) * 1 ≤ 1)
    | ⟨2, _⟩ => exact (by decide : (0 + 1) * 1024 ≤ 1024)

variable (hO : TabOk (V2 m))

/-- The memory after the experts' call, at the gather's call, after it, and at the end; the gather's table, what the
    gather leaves, the result. -/
def V3 (d : Dev nD) : Valuation τ sig (Elt F) := Vout (V2 m) hO d
def V4 (d : Dev nD) : Valuation τ sig (Elt F) := (opIn (F := F)).result (V3 m hO d)
def YV (d : Dev nD) : Buf (Elt F) (yLoc d) := V4 m hO d (dr main_v3)
def GV (d : Dev nD) : Buf (Elt F) (oLoc d) := GOf (F := F) (YV m hO d) (m (iLoc d))
def V5 (d : Dev nD) : Valuation τ sig (Elt F) := Function.update (V4 m hO d) (dr main_v4) (GV m hO d)
def V6 (d : Dev nD) : Valuation τ sig (Elt F) := (opOut (F := F)).result (V5 m hO d)
def RV (d : Dev nD) : Buf (Elt F) (rLoc d) := V6 m hO d (dr main_v5)

theorem V3_in (d : Dev nD) (b : Ref sig .tc) (h : b ≠ main_v2) : V3 m hO d (dr b) = V2 m d (dr b) :=
  Pipeline.afterRegion_keeps (dats (V2 m) hO 0 d) (V2 m d) winFacts0.arr_inj (A_eq (V2 m) hO d) b
    fun
      | 0, _ => rfl | 1, _ => rfl | 2, _ => rfl | 3, _ => rfl | 4, _ => rfl | 5, _ => rfl
      | 6, e => absurd e.symm h
      | ⟨_ + 7, h⟩, _ => absurd h (Nat.not_lt.2 (Nat.le_add_left _ _))
theorem V4_ne (d : Dev nD) (b : DevRef τ sig) (h : b ∉ ({dr main_v3} : Finset (DevRef τ sig))) : V4 m hO d b = V3 m hO d b := (opIn (F := F)).result_of_not_mem (V3 m hO d) h
theorem V5_o (d : Dev nD) : V5 m hO d (dr main_v4) = GV m hO d := Function.update_self _ _ _
theorem V5_ne (d : Dev nD) (b : DevRef τ sig) (h : b ≠ dr main_v4) : V5 m hO d b = V4 m hO d b := Function.update_of_ne h _ _
theorem V6_ne (d : Dev nD) (b : DevRef τ sig) (h : b ∉ ({dr main_v5} : Finset (DevRef τ sig))) : V6 m hO d b = V5 m hO d b := (opOut (F := F)).result_of_not_mem (V5 m hO d) h

/-- An array that no step writes is at the end what it was at the launch. -/
theorem V6_arg (d : Dev nD) (b : Ref sig .tc) (h : b ∉ ({main_v0, main_v1, main_v2, main_v3, main_v4, main_v5} : Finset (Ref sig .tc))) :
    V6 m hO d (dr b) = m (mLoc d b) := by
  have hn : ∀ c : Ref sig .tc, c ∈ ({main_v0, main_v1, main_v2, main_v3, main_v4, main_v5} : Finset (Ref sig .tc)) → dr b ≠ dr c :=
    fun c hc e => h (Proc.devRef_injective _ e ▸ hc)
  rw [V6_ne m hO d _ (fun e => hn main_v5 (by decide) (Finset.mem_singleton.1 e)), V5_ne m hO d _ (hn main_v4 (by decide)),
    V4_ne m hO d _ (fun e => hn main_v3 (by decide) (Finset.mem_singleton.1 e)), V3_in m hO d b (fun e => hn main_v2 (by decide) (congrArg dr e)),
    V2_arg m d b (fun e => hn main_v0 (by decide) (Finset.mem_singleton.1 e)) (fun e => hn main_v1 (by decide) (Finset.mem_singleton.1 e))]

theorem V4_i (d : Dev nD) : V4 m hO d (dr main_arg7) = m (iLoc d) := by
  rw [V4_ne m hO d _ (by decide), V3_in m hO d main_arg7 (by decide), V2_arg m d main_arg7 (by decide) (by decide)]

/-! ## What the handshakes carry -/

def goM (d : Dev nD) (c : Fin 2) (s : Fin 16) : sProp 𝕄 := goP d (coordsV c s) (YV m hO d) (m (iLoc d))
def tdM (d : Dev nD) (c : Fin 2) (s : Fin 16) : sProp 𝕄 := tdP d (coordsV c s) (YV m hO d) (m (iLoc d))

/-- The tiles' parts of SparseCore `c`, at the call and after it. -/
def goAll (d : Dev nD) (c : Fin 2) : sProp 𝕄 := bigSep Finset.univ fun s : Fin ((K (F := F)).nSub 0) => goM m hO d c (Fin.cast nSub_zero s)
def tdAll (d : Dev nD) (c : Fin 2) : sProp 𝕄 := bigSep Finset.univ fun s : Fin ((K (F := F)).nSub 0) => tdM m hO d c (Fin.cast nSub_zero s)

def P : (K (F := F)).Pay (nD := nD) (Val := Elt F) (Name := ℕ) (U := UU) where
  st := fun q d c => match q with | 0 => goAll m hO d (Fin.cast nCore_zero c)
  dn := fun q d c => match q with | 0 => tdAll m hO d (Fin.cast nCore_zero c)
  go := fun q d c i => match q with | 0 => goM m hO d (Fin.cast nCore_zero c) (Fin.cast nSub_zero i)
  td := fun q d c i => match q with | 0 => tdM m hO d (Fin.cast nCore_zero c) (Fin.cast nSub_zero i)
  x := fun _ _ => iprop(emp)

instance iRowP_storable (d : Dev nD) (L : grid1.Coords) (XI : Buf (Elt F) (iLoc d)) (t : Fin 8) : BI.Storable (upEmb : UEmb _ 𝕄) (iRowP d L XI t) :=
  (fun f => inferInstance : ∀ f : Buf (Elt F) ((iRow L t).view.loc (VT d L)),
    BI.Storable (upEmb : UEmb _ 𝕄) ((iRow L t).view.loc (VT d L) ↦[(iRow L t).view.set]{fullShare} f)) XI
instance oDone_storable (d : Dev nD) (L : grid1.Coords) (XY : Buf (Elt F) (yLoc d)) (XI : Buf (Elt F) (iLoc d)) (t : Fin 8) :
    BI.Storable (upEmb : UEmb _ 𝕄) (oDone d L XY XI t) :=
  (fun f => inferInstance : ∀ f : Buf (Elt F) ((oBlk L t).view.loc (VT d L)),
    BI.Storable (upEmb : UEmb _ 𝕄) ((oBlk L t).view.loc (VT d L) ↦[(oBlk L t).view.set]{fullShare} f)) (GOf (F := F) XY XI)
instance goM_storable (d : Dev nD) (c : Fin 2) (s : Fin 16) : BI.Storable (upEmb : UEmb _ 𝕄) (goM m hO d c s) := by
  unfold goM goP
  have h1 : ∀ t, BI.Storable (upEmb : UEmb _ 𝕄) (iRowP d (coordsV c s) (m (iLoc d)) t) := iRowP_storable d _ _
  infer_instance
instance tdM_storable (d : Dev nD) (c : Fin 2) (s : Fin 16) : BI.Storable (upEmb : UEmb _ 𝕄) (tdM m hO d c s) := by
  unfold tdM tdP
  have h1 : ∀ t, BI.Storable (upEmb : UEmb _ 𝕄) (iRowP d (coordsV c s) (m (iLoc d)) t) := iRowP_storable d _ _
  have h2 : ∀ t, BI.Storable (upEmb : UEmb _ 𝕄) (oDone d (coordsV c s) (YV m hO d) (m (iLoc d)) t) := oDone_storable d _ _ _
  infer_instance

instance goAll_storable (d : Dev nD) (c : Fin 2) : BI.Storable (upEmb : UEmb _ 𝕄) (goAll m hO d c) := by unfold goAll; infer_instance
instance tdAll_storable (d : Dev nD) (c : Fin 2) : BI.Storable (upEmb : UEmb _ 𝕄) (tdAll m hO d c) := by unfold tdAll; infer_instance

instance P_storable : (P (F := F) m hO).IsStorable where
  st q d c := match q with | 0 => goAll_storable m hO d _
  dn q d c := match q with | 0 => tdAll_storable m hO d _
  go q d c i := match q with | 0 => goM_storable m hO d _ _
  td q d c i := match q with | 0 => tdM_storable m hO d _ _

/-! ## The obligations of the launch -/

theorem defs₀_vector (c : Fin τ.nSC) (s : Fin τ.nSub) :
    defs₀ (F := F) (.scVector c s) 1 ()
      = SparseCore.onTile hcore1 hsub1 (fun c s => cc1_k (coordsV c s)
          yM (Memref.isWhole_whole _) iM (Memref.isWhole_whole _) oM (Memref.isWhole_whole _)
          ibM (Memref.isWhole_whole _) cc1_scoped1 obM (Memref.isWhole_whole _) cc1_scoped3 cc1_scoped4) ⟨⟩ c s := rfl

theorem tileObl (hF : (K (F := F)).Facts) (hpre : PreOK m) : (K (F := F)).TileObl (D (F := F)) 𝒱 (P m hO) v₀ 0 := by
  intro d c i O W hOw _ _
  simp only [show (P m hO).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact tile_body d (coordsV ⟨_, hci.1⟩ ⟨_, hci.2⟩) (YV m hO d) (m (iLoc d)) hF (hpre.slots d) O W hOw

theorem split_id (A B : sProp 𝕄) : A ⊢ |={Set.univ}=> iprop(A ∗ (B -∗ B)) := by
  iintro H; imodintro
  isplitl [H]; · iexact H
  iintro H; iexact H

theorem P_st (d : Dev nD) (c : Fin ((K (F := F)).nCore 0)) : (P m hO).st 0 d c = goAll m hO d (Fin.cast nCore_zero c) := by unfold P; dsimp only
theorem P_dn (d : Dev nD) (c : Fin ((K (F := F)).nCore 0)) : (P m hO).dn 0 d c = tdAll m hO d (Fin.cast nCore_zero c) := by unfold P; dsimp only
theorem P_go (d : Dev nD) (c : Fin ((K (F := F)).nCore 0)) : (bigSep Finset.univ fun i : Fin ((K (F := F)).nSub 0) => (P m hO).go 0 d c i) = goAll m hO d (Fin.cast nCore_zero c) := by unfold P goAll; dsimp only
theorem P_td (d : Dev nD) (c : Fin ((K (F := F)).nCore 0)) : (bigSep Finset.univ fun i : Fin ((K (F := F)).nSub 0) => (P m hO).td 0 d c i) = tdAll m hO d (Fin.cast nCore_zero c) := by unfold P tdAll; dsimp only

theorem vecSplit : (K (F := F)).VecSplit' (P m hO) 0 := by
  intro d c
  rw [P_st, P_dn, P_go, P_td]
  exact split_id _ _

theorem bigSep_emp' {I : Type} (s : Finset I) : (bigSep s fun _ => iprop(emp)) = (iprop(emp) : sProp 𝕄) := bigSep_emp_const s

/-! ## The launch's ghost state: the handshakes', the experts' pipeline's -/

abbrev aM (_ : Fin 1) : (pcfg0 (F := F)).Adm := adm (V2 m) hO
def EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

def pElem : UP := initOf (Pipeline.cells (nD := nD) (τ := τ) (pin (pcfgs (F := F)) (aM m hO)) (cellOf_inj (aM m hO))) (Pipeline.launchToks (nD := nD) (τ := τ) (pin (pcfgs (F := F)) (aM m hO)) (cellOf_inj (aM m hO)))
def u₀ : UU := (initOf (K (F := F)).hsCells (K (F := F)).hsToks, (pElem m hO, 1))

/-- A device's part of the pipeline's ghost state. -/
def G (d : Dev nD) : sProp 𝕄 :=
  iprop(Pipeline.cellsGhost (pin (pcfgs (F := F)) (aM m hO)) EP 0 d ∗ Pipeline.toksInit (pin (pcfgs (F := F)) (aM m hO)) EP 0 d)

theorem ghost_split (d : Dev nD) :
    iprop((bigSep Finset.univ fun p : Fin 1 => Pipeline.cellsGhost (pin (pcfgs (F := F)) (aM m hO)) EP p d)
      ∗ bigSep Finset.univ fun p : Fin 1 => Pipeline.toksInit (pin (pcfgs (F := F)) (aM m hO)) EP p d) = (G m hO d : sProp 𝕄) := by
  unfold G
  rw [bigSep_univ_of_subsingleton (0 : Fin 1), bigSep_univ_of_subsingleton (0 : Fin 1)]

theorem hu₀ : (ownU (u₀ (F := F) m hO) : sProp 𝕄)
    ⊢ |={Set.univ}=> iprop(BI.own (EH (initOf (K (F := F)).hsCells (K (F := F)).hsToks)) ∗ (bigSep Finset.univ fun d : Dev nD => G m hO d)
        ∗ bigSep Finset.univ fun thr : Thread nD τ => bigSep Finset.univ fun q : Fin 1 => (P m hO).x q thr) := by
  unfold u₀
  iintro Hu
  ihave H := (ownU_pair (initOf (K (F := F)).hsCells (K (F := F)).hsToks) ((pElem m hO, 1) : UP × Counters)) $$ Hu
  icases H with ⟨HH, HP⟩
  ihave H := (own_pair_emb embR (pElem m hO) (1 : Counters)) $$ HP
  icases H with ⟨HP, -⟩
  imod (Pipeline.fund_ghost (pin (pcfgs (F := F)) (aM m hO)) EP (cellOf_inj (aM m hO))) $$ [HP] with ⟨Hc, Ht⟩
  · iexact HP
  imodintro
  isplitl [HH]; · iexact HH
  isplitl [Hc Ht]
  · iapply (Entails.of_eq (bigSep_congr fun d _ => ghost_split m hO d))
    iapply (Entails.of_eq (bigSep_sep' _ _ _).symm)
    isplitl [Hc]; · iexact Hc
    iexact Ht
  rw [show (bigSep Finset.univ fun thr : Thread nD τ => bigSep Finset.univ fun q : Fin 1 => (P (F := F) m hO).x q thr) = bigSep Finset.univ fun _ => iprop(emp) from
    bigSep_congr fun _ _ => bigSep_univ_of_subsingleton (0 : Fin 1), bigSep_emp']
  iempintro

/-! ## The experts' call as a step of the host -/

/-- The experts' call, in the program the host's is lifted from. -/
def ffnCall : Prog (TpuEff nD τ sig (Elt F) (ΛP (F := F)) .tc) PUnit := .op (.customCall (Pipeline.entry 0) ()) .ret
theorem ffnCall_lift : (SparseCore.liftProg (Q := 1) (ffnCall (F := F)) : Prog (TpuEff nD τ sig (Elt F) (SparseCore.Sig (ΛP (F := F)) 1) .tc) PUnit)
    = Prog.lift (.customCall (SparseCore.inner (Pipeline.entry 0)) ()) := rfl

theorem wp_ffn (d : Dev nD) (Φ : PUnit → sProp 𝕄) :
    iprop((iprop(boundary (SparseCore.T d : Thread nD τ) ∗ held (T d) (ucRefs τ sig) (V3 m hO d) ∗ owesLow (F := F) d) -∗ Φ ⟨⟩)
        ∗ boundary (SparseCore.T d : Thread nD τ) ∗ (held (T d) (ucRefs τ sig) (V2 m d) ∗ owesLow (F := F) d) ∗ levAts (K (F := F)).L (K (F := F)).lev ∗ G m hO d)
      ⊢ wp frame (wpE ((K (F := F)).defs (D (F := F))) 𝒱 (SparseCore.T d) none) Set.univ
          (Prog.lift (.customCall (SparseCore.inner (Pipeline.entry 0)) ())) Φ := by
  rw [← ffnCall_lift]
  have hl := (K (F := F)).wp_liftProg (D (F := F)) 𝒱 (SparseCore.T d) Set.univ none (ffnCall (F := F)) Φ
  have h := Pipeline.RegionSeg.wp (pcfgs (F := F)) (aM m hO) (dats (V2 m) hO) none (cellOf_inj (aM m hO)) EP (defs₀ (F := F)) 𝒱₀
    (K (F := F)).L (K (F := F)).lev (seg (V2 m) hO) d none (fun _ h => nomatch h) Prog.ret Φ
  unfold ffnCall at hl
  refine BIBase.Entails.trans ?_ (h.trans hl)
  unfold G
  refine sep_mono (wand_mono .rfl ?_) .rfl
  rw [wp_ret]
  exact fupd_intro

/-- The host's handshake state before the gather's call, without what it owes. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))
theorem tcSt_zero (d : Dev nD) : ((K (F := F)).tcSt EH d 0 : sProp 𝕄) = iprop(owesLow (F := F) d ∗ tcRest (F := F) d) := rfl

/-! ## The host's program -/

/-- The gather's arrays. -/
abbrev SG : Finset (DevRef τ sig) := {dr main_v3, dr main_arg7, dr main_v4}
theorem uc (b : Ref sig .tc) (h : b.isScoped = false := by rfl) : dr b ∈ ucRefs τ sig := Pipeline.devRef_mem_ucRefs h
theorem SG_sub : SG ⊆ ucRefs τ sig := by
  intro b hb
  simp only [Finset.mem_insert, Finset.mem_singleton] at hb
  rcases hb with rfl | rfl | rfl
  · exact uc main_v3
  · exact uc main_arg7
  · exact uc main_v4

theorem op_sub (a b : Ref sig .tc) (ha : a.isScoped = false) (hb : b.isScoped = false) : ({dr a, dr b} : Finset (DevRef τ sig)) ⊆ ucRefs τ sig := by
  intro x hx
  simp only [Finset.mem_insert, Finset.mem_singleton] at hx
  rcases hx with rfl | rfl
  · exact uc _ ha
  · exact uc _ hb
theorem opB1_sub : (opB1 (F := F)).bufs ⊆ ucRefs τ sig := op_sub main_arg3 main_v0 rfl rfl
theorem opB2_sub : (opB2 (F := F)).bufs ⊆ ucRefs τ sig := op_sub main_arg5 main_v1 rfl rfl
theorem opIn_sub : (opIn (F := F)).bufs ⊆ ucRefs τ sig := op_sub main_v2 main_v3 rfl rfl
theorem opOut_sub : (opOut (F := F)).bufs ⊆ ucRefs τ sig := op_sub main_v4 main_v5 rfl rfl

theorem unscoped_held (d : Dev nD) : (unscopedBufs d (fun b => m ((SparseCore.T d).loc b)) : sProp 𝕄) = held (T d) (ucRefs τ sig) (V0 m d) :=
  Pipeline.unscopedBufs_held d (V0 m d)

theorem held_SG (d : Dev nD) (W : Valuation τ sig (Elt F)) :
    (held (T d) SG W : sProp 𝕄) = iprop((yLoc d ↦{fullShare} W (dr main_v3)) ∗ (iLoc d ↦{fullShare} W (dr main_arg7)) ∗ oLoc d ↦{fullShare} W (dr main_v4)) := by
  unfold held SG
  rw [SparseCore.bigSep_insert' (by decide), SparseCore.bigSep_insert' (by decide), bigSep_singleton]

/-- The host's other arrays. -/
abbrev restV (d : Dev nD) : sProp 𝕄 := held (T d) (ucRefs τ sig \ SG) (V4 m hO d)

theorem held_V4 (d : Dev nD) :
    (held (T d) (ucRefs τ sig) (V4 m hO d) : sProp 𝕄)
      = iprop(((yLoc d ↦{fullShare} YV m hO d) ∗ (iLoc d ↦{fullShare} m (iLoc d)) ∗ oLoc d ↦{fullShare} V4 m hO d (dr main_v4)) ∗ restV m hO d) := by
  rw [StableHlo.held_sub_split _ SG_sub, held_SG, V4_i]; rfl
theorem held_V5 (d : Dev nD) :
    (held (T d) (ucRefs τ sig) (V5 m hO d) : sProp 𝕄)
      = iprop(((yLoc d ↦{fullShare} YV m hO d) ∗ (iLoc d ↦{fullShare} m (iLoc d)) ∗ oLoc d ↦{fullShare} GV m hO d) ∗ restV m hO d) := by
  rw [StableHlo.held_sub_split _ SG_sub, held_SG, V5_o, V5_ne m hO d _ (by decide), V5_ne m hO d (dr main_arg7) (by decide), V4_i,
    StableHlo.held_congr (T d) (S := ucRefs τ sig \ SG) (V := V5 m hO d) (V' := V4 m hO d) fun b hb => V5_ne m hO d b fun e =>
      (Finset.mem_sdiff.mp hb).2 (e ▸ Finset.mem_insert_of_mem (Finset.mem_insert_of_mem (Finset.mem_singleton_self _)))]; rfl

theorem todo_one (d : Dev nD) (L : grid1.Coords) (t : Fin 8) (X : Buf (Elt F) (oLoc d)) : (oBlkP d L t X : sProp 𝕄) ⊢ oTodo (F := F) d L t := by
  iintro H; iexists X; iexact H
theorem todo_of (d : Dev nD) (X : Buf (Elt F) (oLoc d)) :
    (bigSep Finset.univ fun c : Fin 2 => bigSep Finset.univ fun s : Fin 16 => bigSep Finset.univ fun t : Fin 8 => oBlkP d (coordsV c s) t X)
      ⊢ (bigSep Finset.univ fun c : Fin 2 => bigSep Finset.univ fun s : Fin 16 => bigSep Finset.univ fun t : Fin 8 => oTodo (F := F) d (coordsV c s) t : sProp 𝕄) :=
  bigSep_mono fun c _ => bigSep_mono fun s _ => bigSep_mono fun t _ => todo_one d _ t X

theorem bigSep_tiles (Φ : Fin 2 → Fin 16 → sProp 𝕄) :
    (bigSep Finset.univ fun c : Fin ((K (F := F)).nCore 0) => bigSep Finset.univ fun s : Fin ((K (F := F)).nSub 0) => Φ (Fin.cast nCore_zero c) (Fin.cast nSub_zero s))
      = bigSep Finset.univ fun c : Fin 2 => bigSep Finset.univ fun s : Fin 16 => Φ c s := rfl

/-- What the call takes for the two SparseCores is the table's shares, the lists and the output; what it hands back. -/
theorem st0_eq (d : Dev nD) : (bigSep Finset.univ fun c : Fin ((K (F := F)).nCore 0) => (P m hO).st 0 d c)
    = iprop((bigSep Finset.univ fun c : Fin 2 => bigSep Finset.univ fun s : Fin 16 => yP d (coordsV c s) (qOf (coordsV c s)) (YV m hO d))
      ∗ (bigSep Finset.univ fun c : Fin 2 => bigSep Finset.univ fun s : Fin 16 => bigSep Finset.univ fun t : Fin 8 => iRowP d (coordsV c s) (m (iLoc d)) t)
      ∗ bigSep Finset.univ fun c : Fin 2 => bigSep Finset.univ fun s : Fin 16 => bigSep Finset.univ fun t : Fin 8 => oTodo (F := F) d (coordsV c s) t) := by
  simp only [P_st]
  unfold goAll
  rw [bigSep_tiles (F := F) (goM m hO d)]
  unfold goM goP
  rw [← bigSep_sep', ← bigSep_sep']
  refine bigSep_congr fun c _ => ?_
  rw [← bigSep_sep', ← bigSep_sep']
theorem dn0_eq (d : Dev nD) : (bigSep Finset.univ fun c : Fin ((K (F := F)).nCore 0) => (P m hO).dn 0 d c)
    = iprop((bigSep Finset.univ fun c : Fin 2 => bigSep Finset.univ fun s : Fin 16 => yP d (coordsV c s) (qOf (coordsV c s)) (YV m hO d))
      ∗ (iLoc d ↦{fullShare} m (iLoc d)) ∗ oLoc d ↦{fullShare} GV m hO d) := by
  rw [lists_split, out_split]
  simp only [P_dn]
  unfold tdAll
  rw [bigSep_tiles (F := F) (tdM m hO d)]
  unfold tdM tdP
  rw [← bigSep_sep', ← bigSep_sep']
  refine bigSep_congr fun c _ => ?_
  rw [← bigSep_sep', ← bigSep_sep']
  rfl

/-- What the host leaves: all its arrays, at the last memory. -/
abbrev FIN (d : Dev nD) : sProp 𝕄 := held (T d) (ucRefs τ sig) (V6 m hO d)

theorem hmain (κ : GSem nD τ sig → ℕ) (d : Dev nD) :
    iprop((K (F := F)).ctx EH (P m hO) κ ∗ (K (F := F)).tcSt EH d 0 ∗ (K (F := F)).tcRes m ρ d ∗ G m hO d)
      ⊢ wp frame (wpE ((K (F := F)).defs (D (F := F))) 𝒱 (SparseCore.T d) none) Set.univ (main d)
          fun _ => iprop((K (F := F)).tcSt EH d 1 ∗ FIN m hO d ∗ (K (F := F)).tcEnd d) := by
  unfold SparseCore.Cfg.tcRes SparseCore.Cfg.tcEnd
  rw [unscoped_held, tcSt_zero]
  simp only [main, wp_bind, wp_pure]
  iintro ⟨#Hctx, ⟨HO, Hrest⟩, ⟨Hb, Hheld, Hts, -⟩, HG⟩
  iapply (wp_hlo_within 𝒱 (SparseCore.T d) none Set.univ (op := opB1) (S := ucRefs τ sig) opB1_sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opB2) (S := ucRefs τ sig) opB2_sub (V := V1 m d)) $$ [Hb Hheld]
  · isplitl [Hb]; · iexact Hb
    iexact Hheld
  iintro ⟨Hb, Hheld⟩
  rw [wp_ret]; imodintro
  iapply (wp_ffn m hO d) $$ [HO Hrest Hb Hheld Hts HG]
  isplitr [HO Hb Hheld HG]
  swap
  · isplitl [Hb]; · iexact Hb
    isplitl [Hheld HO]
    · isplitl [Hheld]; · iexact Hheld
      iexact HO
    isplitr; · iapply (SparseCore.Cfg.ctx_levAts κ); iexact Hctx
    iexact HG
  iintro ⟨Hb, Hheld, HO⟩
  ihave Hst := (Entails.of_eq (tcSt_zero (F := F) d).symm) $$ [HO Hrest]
  · isplitl [HO]; · iexact HO
    iexact Hrest
  iapply (wp_hlo_within 𝒱 (SparseCore.T d) none Set.univ (op := opIn) (S := ucRefs τ sig) opIn_sub (V := V3 m hO d)) $$ [Hb Hheld]
  · isplitl [Hb]; · iexact Hb
    iexact Hheld
  iintro ⟨Hb, Hheld⟩
  rw [wp_ret]; imodintro
  ihave Hh := (Entails.of_eq (show (held (T d) (ucRefs τ sig) ((opIn (F := F)).result (V3 m hO d)) : sProp 𝕄) = _ from held_V4 (F := F) m hO d)) $$ Hheld
  icases Hh with ⟨⟨Hy, Hi, Ho⟩, Hr⟩
  ihave Hi' := (Entails.of_eq (lists_split d (m (iLoc d)))) $$ Hi
  ihave Ho' := (Entails.of_eq (out_split d (V4 m hO d (dr main_v4)))) $$ Ho
  ihave Ho'' := (todo_of d (V4 m hO d (dr main_v4))) $$ Ho'
  ihave Hy' := (Entails.of_eq (table_split d (YV m hO d))) $$ Hy
  icases Hy' with ⟨Hk, Hy⟩
  iapply ((K (F := F)).wp_run (D (F := F)) 𝒱 (EH := EH) (P := P m hO) κ d 0) $$ [Hst Hi' Ho'' Hy Hk Hr Hb Hts]
  isplitr; · iexact Hctx
  isplitl [Hst]; · iexact Hst
  isplitl [Hi' Ho'' Hy]
  · iapply (Entails.of_eq (st0_eq m hO d).symm)
    isplitl [Hy]; · iexact Hy
    isplitl [Hi']; · iexact Hi'
    iexact Ho''
  iintro ⟨Hst, Hdn⟩
  ihave Hdn' := (Entails.of_eq (dn0_eq m hO d)) $$ Hdn
  icases Hdn' with ⟨Hy, Hi, Ho⟩
  ihave Hy' := (Entails.of_eq (table_split d (YV m hO d)).symm) $$ [Hk Hy]
  · isplitl [Hk]; · iexact Hk
    iexact Hy
  ihave Hheld := (Entails.of_eq (held_V5 (F := F) m hO d).symm) $$ [Hi Hy' Ho Hr]
  · isplitr [Hr]
    · isplitl [Hy']; · iexact Hy'
      isplitl [Hi]; · iexact Hi
      iexact Ho
    iexact Hr
  iapply (wp_hlo_within 𝒱 (SparseCore.T d) none Set.univ (op := opOut) (S := ucRefs τ sig) opOut_sub (V := V5 m hO d)) $$ [Hb Hheld]
  · isplitl [Hb]; · iexact Hb
    iexact Hheld
  iintro ⟨Hb, Hheld⟩
  rw [wp_ret]; imodintro; imodintro
  isplitl [Hst]; · iexact Hst
  isplitl [Hheld]; · iexact Hheld
  isplitl [Hb] <;> iassumption

def fq (d : Dev nD) (s' : Phys nD τ sig (Elt F)) : Prop := ∀ b ∈ ucRefs τ sig, s'.mem.mem (d, b) = V6 m hO d b

theorem hfin (d : Dev nD) (s' : Phys nD τ sig (Elt F)) : iprop(FIN m hO d ∗ SI s') ⊢ (⌜fq m hO d s'⌝ : sProp 𝕄) :=
  (pointsTo_read_all (ucRefs τ sig) (fun b => (d, b)) (V6 m hO d) s').trans sep_elim_left

/-! ## The program's run -/

def QC : PUnit × MemSt nD τ sig (Elt F) → Prop := fun r =>
  (∀ c : Dev nD, r.2.mem (rLoc c) = RV m hO c ∧ ∀ b : Ref sig .tc, b.isScoped = false →
    b ∉ ({main_v0, main_v1, main_v2, main_v3, main_v4, main_v5} : Finset (Ref sig .tc)) → r.2.mem (mLoc c b) = m (mLoc c b)) ∧ r.2.sem = fun _ => 0

theorem run_main [∀ e, Nonempty (Elt F e)] (hpre : PreOK m) :
    θ_run (Cert.ServedIdeal.defs (F := F)) (Cert.ServedIdeal.threads (F := F)) ⟨m, fun _ => 0, ρ⟩ (QC m (tabOk m hpre)) :=
  SparseCore.Cfg.θ_run_sc_quiescent (K := K (F := F)) (D := D (F := F)) (𝒱 := 𝒱) (EH := EH) (P := P m (tabOk m hpre)) (A := ∅) facts v₀
    (fun q hq => match q with | 0 => nomatch hq)
    (fun q _ => match q with | 0 => tileObl m (tabOk m hpre) facts hpre)
    (fun q _ => match q with | 0 => SparseCore.Cfg.VecSplit.of_plain (vecSplit m (tabOk m hpre)))
    m ρ main (G m (tabOk m hpre)) (FIN m (tabOk m hpre)) (u₀ (F := F) m (tabOk m hpre)) (sep_elim_left.trans (hu₀ m (tabOk m hpre))) (hmain m ρ (tabOk m hpre))
    (fq m (tabOk m hpre)) (hfin m (tabOk m hpre)) (QC m (tabOk m hpre))
    (fun _ h hz => ⟨fun c => ⟨h c _ (uc main_v5), fun b hb hn => (h c _ (uc b hb)).trans (V6_arg m (tabOk m hpre) c b hn)⟩, hz⟩)

end Cert.Proof.Served

end
-- ==== Proof.Served.Cell.lean ====
/-
  One tile of the experts' call, element by element, floats read as extended reals: an element of the output block is
  the expert's second product of the activated first one, plus its bias, times the row's weight.
-/
module

public import proofs.«01_k».proof.Proof.Served.Ffn
public import Idealize.ShloMosaic.Lib.Pipeline.Value
public import Idealize.ShloMosaic.Lib.Pipeline.ValueKit.Tiles
public import Idealize.ShloMosaic.Lib.MatmulPlain
public import Idealize.ShloMosaic.Lib.ValueIdx

@[expose] public section

noncomputable section

namespace Cert.Proof.Served

open Cert.ServedIdeal Cert.ServedIdeal.Gen
open Idealize.ShloMosaic Idealize.ShloMosaic.ValueIdx

/-! ## The element -/

/-- The activation: `x / 2 · (1 + tanh (k · (x + c · x³)))`, the constants as both programs write them. -/
def act (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- An element from a row, the expert's first matrix and bias, its second matrix's column and bias, the row's weight. -/
def cellOf (X : Fin 1024 → EReal) (W₁ : Fin 1024 → Fin 1024 → EReal) (b₁ : Fin 1024 → EReal) (W₂ : Fin 1024 → EReal) (b₂ p : EReal) : EReal :=
  (∑ j, act ((∑ i, X i * W₁ i j) + b₁ j) * W₂ j + b₂) * p

/-- Column `i` of a row of 1024 is column `i % 256` of quarter `i / 256`. -/
def qtrOf (i : Fin 1024) : Fin 4 := ⟨i.val / 256, by omega⟩
def cOf (i : Fin 1024) : Fin 256 := ⟨i.val % 256, by omega⟩
def kOf (q : Fin 4) (c : Fin 256) : Fin 1024 := ⟨q.val * 256 + c.val, by omega⟩

/-! ## The tile's pieces -/

variable (x0 : Vec Ideal S4x256x256 .f32) (x1 : Vec Ideal S1x1024x1024 .f32) (x2 : Vec Ideal S1x1x1024 .f32) (x3 : Vec Ideal S1x1024x1024 .f32)
  (x4 : Vec Ideal S1x1x1024 .f32) (x5 : Vec Ideal S256x128 .f32)

/-- The whole rows, put together from the four quarters. -/
abbrev rowsOf (v0 v2 v4 v6 : Vec Ideal S1x256x256 .f32) : FVec Ideal S256x1024 .f32 :=
  concatenate S256x1024 1 [⟨S256x256, shapeCast S256x256 v0 shapeCasts_S1x256x256_S256x256⟩, ⟨S256x256, shapeCast S256x256 v2 shapeCasts_S1x256x256_S256x256⟩,
    ⟨S256x256, shapeCast S256x256 v4 shapeCasts_S1x256x256_S256x256⟩, ⟨S256x256, shapeCast S256x256 v6 shapeCasts_S1x256x256_S256x256⟩]
    concatenates_S256x256_S256x256_S256x256_S256x256_S256x1024_d1

theorem quarter_read (v : Vec Ideal S1x256x256 .f32) (n c : Fin 256) :
    shapeCast S256x256 v shapeCasts_S1x256x256_S256x256 (ix2 n c) = v (ix3 0 n c) :=
  shapeCast_apply v _ _ _ (by rw [Shape.rowMajor_val_three, Shape.rowMajor_val_two]; show (0 * 256 + n.val) * 256 + c.val = n.val * 256 + c.val; omega)

theorem rows_read (n : Fin 256) (i : Fin 1024) :
    rowsOf (View.ld x0 q0) (View.ld x0 q1) (View.ld x0 q2) (View.ld x0 q3) (ix2 n i) = x0 (ix3 (qtrOf i) n (cOf i)) := by
  have hi := i.isLt
  have piece : ∀ (k : Nat) (hk : k < 4) (v : Vec Ideal S1x256x256 .f32)
      (hv : [(⟨S256x256, shapeCast S256x256 (View.ld x0 q0) shapeCasts_S1x256x256_S256x256⟩ : (s : Shape) × (s.Idx → EReal)), ⟨S256x256, shapeCast S256x256 (View.ld x0 q1) shapeCasts_S1x256x256_S256x256⟩,
        ⟨S256x256, shapeCast S256x256 (View.ld x0 q2) shapeCasts_S1x256x256_S256x256⟩, ⟨S256x256, shapeCast S256x256 (View.ld x0 q3) shapeCasts_S1x256x256_S256x256⟩][k]'hk
        = ⟨S256x256, shapeCast S256x256 v shapeCasts_S1x256x256_S256x256⟩)
      (pre : Nat) (hpre : pre = k * 256)
      (hsum : ((([(⟨S256x256, shapeCast S256x256 (View.ld x0 q0) shapeCasts_S1x256x256_S256x256⟩ : (s : Shape) × (s.Idx → EReal)), ⟨S256x256, shapeCast S256x256 (View.ld x0 q1) shapeCasts_S1x256x256_S256x256⟩,
        ⟨S256x256, shapeCast S256x256 (View.ld x0 q2) shapeCasts_S1x256x256_S256x256⟩, ⟨S256x256, shapeCast S256x256 (View.ld x0 q3) shapeCasts_S1x256x256_S256x256⟩].take k).map (·.1)).map
          fun s => if h : s.rank = S256x1024.rank then s.size ((1 : Fin 2).cast h.symm) else 0).sum = pre)
      (hik : i.val / 256 = k),
      rowsOf (View.ld x0 q0) (View.ld x0 q1) (View.ld x0 q2) (View.ld x0 q3) (ix2 n i) = v (ix3 0 n (cOf i)) := by
    intro k hk v hv pre hpre hsum hik
    refine (concatenate_apply_piece (t := S256x1024) 1 [⟨S256x256, shapeCast S256x256 (View.ld x0 q0) shapeCasts_S1x256x256_S256x256⟩, ⟨S256x256, shapeCast S256x256 (View.ld x0 q1) shapeCasts_S1x256x256_S256x256⟩,
        ⟨S256x256, shapeCast S256x256 (View.ld x0 q2) shapeCasts_S1x256x256_S256x256⟩, ⟨S256x256, shapeCast S256x256 (View.ld x0 q3) shapeCasts_S1x256x256_S256x256⟩] _ (ix2 n i) k hk S256x256 _ hv rfl pre hsum (ix2 n (cOf i)) ?_ ?_).trans (quarter_read v n (cOf i))
    · intro b hb
      match b with
      | ⟨0, _⟩ => rfl
      | ⟨1, _⟩ => exact absurd rfl hb
    · show pre + i.val % 256 = i.val
      omega
  have key : ∀ (k : Nat) (hk : k < 4) (inb) (hik : i.val / 256 = k),
      View.ld x0 (Rect.unit (s := S4x256x256) ![k, 0, 0] S1x256x256.size inb) (ix3 0 n (cOf i)) = x0 (ix3 (qtrOf i) n (cOf i)) := by
    intro k hk inb hik
    refine View.ld_unit_apply_of _ _ _ _ _ _ fun a => ?_
    match a with
    | ⟨0, _⟩ => show i.val / 256 = k + 0; omega
    | ⟨1, _⟩ => show n.val = 0 + n.val; omega
    | ⟨2, _⟩ => show i.val % 256 = 0 + i.val % 256; omega
  have h4 : i.val / 256 < 4 := by omega
  rcases (by omega : i.val / 256 = 0 ∨ i.val / 256 = 1 ∨ i.val / 256 = 2 ∨ i.val / 256 = 3) with h | h | h | h
  · exact (piece 0 (by omega) (View.ld x0 q0) rfl 0 rfl rfl h).trans (key 0 (by omega) _ h)
  · exact (piece 1 (by omega) (View.ld x0 q1) rfl 256 rfl rfl h).trans (key 1 (by omega) _ h)
  · exact (piece 2 (by omega) (View.ld x0 q2) rfl 512 rfl rfl h).trans (key 2 (by omega) _ h)
  · exact (piece 3 (by omega) (View.ld x0 q3) rfl 768 rfl rfl h).trans (key 3 (by omega) _ h)

theorem matrix_read (x : Vec Ideal S1x1024x1024 .f32) (i j : Fin 1024) :
    shapeCast S1024x1024 (View.ld x qw) shapeCasts_S1x1024x1024_S1024x1024 (ix2 i j) = x (ix3 0 i j) := by
  refine (shapeCast_apply _ _ _ (ix3 0 i j) (by rw [Shape.rowMajor_val_three, Shape.rowMajor_val_two]; show (0 * 1024 + i.val) * 1024 + j.val = i.val * 1024 + j.val; omega)).trans ?_
  refine View.ld_unit_apply_of _ _ _ _ _ _ fun a => ?_
  match a with
  | ⟨0, _⟩ => rfl
  | ⟨1, _⟩ => show i.val = 0 + i.val; omega
  | ⟨2, _⟩ => show j.val = 0 + j.val; omega

theorem bias_read (x : Vec Ideal S1x1x1024 .f32) (n : Fin 256) (j : Fin 1024) :
    broadcastTo S256x1024 (shapeCast S1x1024 (View.ld x qb) shapeCasts_S1x1x1024_S1x1024) broadcasts_S1x1024_S256x1024 (ix2 n j) = x (ix3 0 0 j) := by
  refine (broadcastTo_apply _ _ _ (ix2 (0 : Fin 1) j) ?_).trans ?_
  · intro a
    match a with
    | ⟨0, _⟩ => rfl
    | ⟨1, _⟩ => rfl
  refine (shapeCast_apply _ _ _ (ix3 (0 : Fin 1) (0 : Fin 1) j) (by rw [Shape.rowMajor_val_three, Shape.rowMajor_val_two]; show (0 * 1 + 0) * 1024 + j.val = 0 * 1024 + j.val; omega)).trans ?_
  refine View.ld_unit_apply_of _ _ _ _ _ _ fun a => ?_
  match a with
  | ⟨0, _⟩ => rfl
  | ⟨1, _⟩ => rfl
  | ⟨2, _⟩ => show j.val = 0 + j.val; omega

theorem weight_read (x : Vec Ideal S256x128 .f32) (n : Fin 256) (k : Fin 1024) :
    broadcastTo S256x1024 (View.ld x qp) broadcasts_S256x1_S256x1024 (ix2 n k) = x (ix2 n 0) := by
  refine (broadcastTo_apply _ _ _ (ix2 n (0 : Fin 1)) ?_).trans ?_
  · intro a
    match a with
    | ⟨0, _⟩ => rfl
    | ⟨1, _⟩ => rfl
  refine View.ld_unit_apply_of _ _ _ _ _ _ fun a => ?_
  match a with
  | ⟨0, _⟩ => show n.val = 0 + n.val; omega
  | ⟨1, _⟩ => rfl

/-- A product into a zero accumulator. -/
theorem product_read (L : FVec Ideal S256x1024 .f32) (R : FVec Ideal S1024x1024 .f32) (n : Fin 256) (k : Fin 1024) :
    matmul dot_S256x1024_S1024x1024_S256x1024_1_0_0_1_n_n none L R (constant S256x1024 .f32 0x00000000#32) (ix2 n k)
      = ∑ j : Fin 1024, L (ix2 n j) * R (ix2 j k) := by
  refine (Ideal.matmul_plain_apply (M := 256) (K := 1024) (N := 1024) none L R _ n k).trans ?_
  show Ideal.ofBits .f32 0x00000000#32 + _ = _
  rw [Ideal.ofBits_zero_f32, zero_add]

theorem mid_read (n : Fin 256) (k : Fin 1024) :
    midTile x0 x1 x2 x3 (ix2 n k)
      = ∑ j : Fin 1024, act ((∑ i : Fin 1024, x0 (ix3 (qtrOf i) n (cOf i)) * x1 (ix3 0 i j)) + x2 (ix3 0 0 j)) * x3 (ix3 0 j k) := by
  unfold midTile k0_pay6
  refine (product_read _ _ n k).trans (Finset.sum_congr rfl fun j _ => ?_)
  refine congrArg₂ (· * ·) ?_ (matrix_read x3 j k)
  have h15 : ∀ M B : FVec Ideal S256x1024 .f32, ∀ y : S256x1024.Idx,
      (mulf (addf M B) (mulf (broadcast S256x1024 (Scalar.ofBits .f32 0x3F000000#32)) (addf (broadcast S256x1024 (Scalar.ofBits .f32 0x3F800000#32))
        (tanh (mulf (broadcast S256x1024 (Scalar.ofBits .f32 0x3F4C422A#32)) (addf (addf M B) (mulf (broadcast S256x1024 (Scalar.ofBits .f32 0x3D372713#32))
          (mulf (addf M B) (mulf (addf M B) (addf M B)))))))))) y = act (M y + B y) := fun M B y => rfl
  refine (h15 _ _ _).trans (congrArg act ?_)
  refine congrArg₂ (· + ·) ?_ (bias_read x2 n j)
  refine (product_read _ _ n j).trans (Finset.sum_congr rfl fun i _ => ?_)
  exact congrArg₂ (· * ·) (rows_read x0 n i) (matrix_read x1 i j)

/-- The tile's element at row `n`, column `k`. -/
def cellTile (n : Fin 256) (k : Fin 1024) : EReal :=
  cellOf (fun i => x0 (ix3 (qtrOf i) n (cOf i))) (fun i j => x1 (ix3 0 i j)) (fun j => x2 (ix3 0 0 j)) (fun j => x3 (ix3 0 j k)) (x4 (ix3 0 0 k)) (x5 (ix2 n 0))

theorem pay1_read (n : Fin 256) (k : Fin 1024) :
    k0_pay1 (midTile x0 x1 x2 x3) (View.ld x4 qb) (View.ld x5 qp) (ix2 n k) = cellTile x0 x1 x2 x3 x4 x5 n k := by
  unfold k0_pay1 cellTile cellOf
  show (_ + _) * _ = _
  exact congrArg₂ (· * ·) (congrArg₂ (· + ·) (mid_read x0 x1 x2 x3 n k) (bias_read x4 n k)) (weight_read x5 n k)

theorem out_read (q : Fin 4) (n c : Fin 256) : outTile x0 x1 x2 x3 x4 x5 (ix3 q n c) = cellTile x0 x1 x2 x3 x4 x5 n (kOf q c) := by
  unfold outTile
  refine (View.canon_apply_of_pieces (fun y : S4x256x256.Idx => k0_pay1 (midTile x0 x1 x2 x3) (View.ld x4 qb) (View.ld x5 qp) (ix2 (y 1) (kOf (y 0) (y 2))))
    (tilePieces x0 x1 x2 x3 x4 x5) ?_ (ix3 q n c) (tile_cover x0 x1 x2 x3 x4 x5 _)).trans (pay1_read x0 x1 x2 x3 x4 x5 n (kOf q c))
  have piece : ∀ (k : Nat) (hk : k < 4) (inb) (o : Nat) (ho : o = k * 256) (hs : S256x1024.Slices ![0, o] S256x256) (Y : FVec Ideal S256x1024 .f32)
      (x : (Rect.unit (s := S4x256x256) ![k, 0, 0] S1x256x256.size inb).shape.Idx),
      shapeCast S1x256x256 (extractStridedSlice S256x256 ![0, o] Y hs) shapeCasts_S256x256_S1x256x256 x
        = Y (ix2 ((Rect.unit (s := S4x256x256) ![k, 0, 0] S1x256x256.size inb).emb x 1)
            (kOf ((Rect.unit (s := S4x256x256) ![k, 0, 0] S1x256x256.size inb).emb x 0) ((Rect.unit (s := S4x256x256) ![k, 0, 0] S1x256x256.size inb).emb x 2))) := by
    intro k hk inb o ho hs Y x
    subst ho
    have hx0 : (x 0).val < 1 := (x 0).isLt
    have e0 : ((Rect.unit (s := S4x256x256) ![k, 0, 0] S1x256x256.size inb).emb x 0).val = k + 1 * (x 0).val := rfl
    have e1 : ((Rect.unit (s := S4x256x256) ![k, 0, 0] S1x256x256.size inb).emb x 1).val = 0 + 1 * (x 1).val := rfl
    have e2 : ((Rect.unit (s := S4x256x256) ![k, 0, 0] S1x256x256.size inb).emb x 2).val = 0 + 1 * (x 2).val := rfl
    refine (shapeCast_apply _ _ x (ix2 (x 1 : Fin 256) (x 2 : Fin 256)) ?_).trans ?_
    · rw [Shape.rowMajor_val_two]
      refine Eq.trans ?_ (Shape.rowMajor_val_three (d := ![1, 256, 256]) x).symm
      show (x 1).val * 256 + (x 2).val = ((x 0).val * 256 + (x 1).val) * 256 + (x 2).val
      omega
    refine extractStridedSlice_apply _ _ _ _ _ fun a => ?_
    match a with
    | ⟨0, _⟩ => show ((Rect.unit (s := S4x256x256) ![k, 0, 0] S1x256x256.size inb).emb x 1).val = 0 + (x 1).val; rw [e1]; omega
    | ⟨1, _⟩ =>
      show ((Rect.unit (s := S4x256x256) ![k, 0, 0] S1x256x256.size inb).emb x 0).val * 256 + ((Rect.unit (s := S4x256x256) ![k, 0, 0] S1x256x256.size inb).emb x 2).val = k * 256 + (x 2).val
      rw [e0, e2]; omega
  intro p hp x
  simp only [tilePieces, List.mem_cons, List.not_mem_nil, or_false] at hp
  rcases hp with rfl | rfl | rfl | rfl
  · exact piece 3 (by omega) inb_S4x256x256_S1x256x256_3_0_0 768 rfl slices_S256x1024_o0_768_S256x256 (k0_pay1 (midTile x0 x1 x2 x3) (View.ld x4 qb) (View.ld x5 qp)) x
  · exact piece 2 (by omega) inb_S4x256x256_S1x256x256_2_0_0 512 rfl slices_S256x1024_o0_512_S256x256 (k0_pay1 (midTile x0 x1 x2 x3) (View.ld x4 qb) (View.ld x5 qp)) x
  · exact piece 1 (by omega) inb_S4x256x256_S1x256x256_1_0_0 256 rfl slices_S256x1024_o0_256_S256x256 (k0_pay1 (midTile x0 x1 x2 x3) (View.ld x4 qb) (View.ld x5 qp)) x
  · exact piece 0 (by omega) inb_S4x256x256_S1x256x256_0_0_0 0 rfl slices_S256x1024_o0_0_S256x256 (k0_pay1 (midTile x0 x1 x2 x3) (View.ld x4 qb) (View.ld x5 qp)) x

end Cert.Proof.Served

end
-- ==== Proof.Served.Block.lean ====
/-
  The experts' call, array by array: which elements of the arrays a tile's blocks hold, and what the call leaves in its
  output array, element by element.
-/
module

public import proofs.«01_k».proof.Proof.Served.Cell
public import proofs.«01_k».proof.Proof.Served.Region
public import Idealize.ShloMosaic.Lib.Pipeline.ValueKit.Geometry

@[expose] public section

noncomputable section

namespace Cert.Proof.Served

open Cert.ServedIdeal Cert.ServedIdeal.Gen
open Idealize.ShloMosaic Idealize.ShloMosaic.ValueIdx
open Idealize.ShloMosaic.Pipeline (Dat Cfg Window arrRef)

variable (V : Dev nD → Valuation τ sig (Elt Ideal)) (hO : TabOk V)

/-- The point of tile `t`. -/
def pt (t : Fin 36) : Fin (cfgV V hO).N := t.cast (show 36 = grid0.N from N_0.symm)
/-- The expert of tile `t`. -/
def teOf (t : Fin 36) : BitVec 32 := V 0 (Proc.devRef .tc main_arg0) (ix1 t)
/-- Row `n` of tile `t`. -/
def rowOf (t : Fin 36) (n : Fin 256) : Fin 9216 := ⟨t.val * 256 + n.val, by omega⟩

theorem coord_pt (t : Fin 36) : (grid0.coords (pt V hO t) 0).val = t.val := by
  refine (Pipeline.Grid.coords_val (G := grid0) (pt V hO t) 0 (S := 1) (B := 36) (by decide) rfl).trans ?_
  show t.val / 1 % 36 = t.val
  omega

theorem word_pt (t : Fin 36) : (BitVec.ofNat 32 (grid0.coords (pt V hO t) 0).val).toNat = t.val := by
  rw [coord_pt, BitVec.toNat_ofNat]; have := t.isLt; omega

theorem blk_0 (t : Fin 36) (q : Fin 4) (n k : Fin 256) :
    blkOf V hO 0 0 (pt V hO t) (ix3 q n k) = V 0 (Proc.devRef .tc main_arg1) (ix3 q (rowOf t n) k) := by
  unfold blkOf
  refine congrArg (V 0 (Proc.devRef .tc main_arg1)) (funext fun a => Fin.ext ?_)
  have h := word_pt V hO t
  match a with
  | ⟨0, _⟩ => show 0 * 4 + 1 * q.val = q.val; omega
  | ⟨1, _⟩ => show (BitVec.ofNat 32 (grid0.coords (pt V hO t) 0).val).toNat * 256 + 1 * n.val = t.val * 256 + n.val; rw [h]; omega
  | ⟨2, _⟩ => show 0 * 256 + 1 * k.val = k.val; omega

theorem blk_5 (t : Fin 36) (n : Fin 256) (k : Fin 128) :
    blkOf V hO 0 5 (pt V hO t) (ix2 n k) = V 0 (Proc.devRef .tc main_arg6) (ix2 (rowOf t n) k) := by
  unfold blkOf
  refine congrArg (V 0 (Proc.devRef .tc main_arg6)) (funext fun a => Fin.ext ?_)
  have h := word_pt V hO t
  match a with
  | ⟨0, _⟩ => show (BitVec.ofNat 32 (grid0.coords (pt V hO t) 0).val).toNat * 256 + 1 * n.val = t.val * 256 + n.val; rw [h]; omega
  | ⟨1, _⟩ => show 0 * 128 + 1 * k.val = k.val; omega

/-- The word of the table that the index maps read at tile `t`. -/
theorem table_read (t : Fin 36) :
    (tabOf V).at 0 (Rect.unit (s := S36) ![(Scalar.indexCast (BitVec.ofNat 32 (grid0.coords (pt V hO t) 0).val) : Index).toNat] S1.size (k0_off1_inb (grid0.coords (pt V hO t)))) numel1_S1
      = teOf V t := by
  unfold Pipeline.Prefetch.Contents.at tabOf teOf
  refine congrArg (V 0 (Proc.devRef .tc main_arg0)) (funext fun a => Fin.ext ?_)
  match a with
  | ⟨0, _⟩ =>
    show (Scalar.indexCast (BitVec.ofNat 32 (grid0.coords (pt V hO t) 0).val) : Index).toNat + 1 * 0 = t.val
    have h : (Scalar.indexCast (BitVec.ofNat 32 (grid0.coords (pt V hO t) 0).val) : Index).toNat = t.val := by
      show (BitVec.ofNat 32 (grid0.coords (pt V hO t) 0).val).toNat = t.val
      exact word_pt V hO t
    omega

variable (hT : ∀ t, (teOf V t).toNat < 4)

/-- The expert of tile `t`, as one of the four. -/
def exOf (t : Fin 36) : Fin 4 := ⟨(teOf V t).toNat, hT t⟩

theorem blk_1 (t : Fin 36) (i j : Fin 1024) :
    blkOf V hO 0 1 (pt V hO t) (ix3 0 i j) = V 0 (Proc.devRef .tc main_arg2) (ix3 (exOf V hT t) i j) := by
  unfold blkOf
  refine congrArg (V 0 (Proc.devRef .tc main_arg2)) (funext fun a => Fin.ext ?_)
  have h := table_read V hO t
  match a with
  | ⟨0, _⟩ => exact (congrArg (fun w : BitVec 32 => w.toNat * 1 + 1 * 0) h).trans (by simp only [Nat.mul_one, Nat.mul_zero, Nat.add_zero]; rfl)
  | ⟨1, _⟩ => show 0 * 1024 + 1 * i.val = i.val; omega
  | ⟨2, _⟩ => show 0 * 1024 + 1 * j.val = j.val; omega

theorem blk_3 (t : Fin 36) (i j : Fin 1024) :
    blkOf V hO 0 3 (pt V hO t) (ix3 0 i j) = V 0 (Proc.devRef .tc main_arg4) (ix3 (exOf V hT t) i j) := by
  unfold blkOf
  refine congrArg (V 0 (Proc.devRef .tc main_arg4)) (funext fun a => Fin.ext ?_)
  have h := table_read V hO t
  match a with
  | ⟨0, _⟩ => exact (congrArg (fun w : BitVec 32 => w.toNat * 1 + 1 * 0) h).trans (by simp only [Nat.mul_one, Nat.mul_zero, Nat.add_zero]; rfl)
  | ⟨1, _⟩ => show 0 * 1024 + 1 * i.val = i.val; omega
  | ⟨2, _⟩ => show 0 * 1024 + 1 * j.val = j.val; omega

theorem blk_2 (t : Fin 36) (j : Fin 1024) :
    blkOf V hO 0 2 (pt V hO t) (ix3 0 0 j) = V 0 (Proc.devRef .tc main_v0) (ix3 (exOf V hT t) 0 j) := by
  unfold blkOf
  refine congrArg (V 0 (Proc.devRef .tc main_v0)) (funext fun a => Fin.ext ?_)
  have h := table_read V hO t
  match a with
  | ⟨0, _⟩ => exact (congrArg (fun w : BitVec 32 => w.toNat * 1 + 1 * 0) h).trans (by simp only [Nat.mul_one, Nat.mul_zero, Nat.add_zero]; rfl)
  | ⟨1, _⟩ => rfl
  | ⟨2, _⟩ => show 0 * 1024 + 1 * j.val = j.val; omega

theorem blk_4 (t : Fin 36) (j : Fin 1024) :
    blkOf V hO 0 4 (pt V hO t) (ix3 0 0 j) = V 0 (Proc.devRef .tc main_v1) (ix3 (exOf V hT t) 0 j) := by
  unfold blkOf
  refine congrArg (V 0 (Proc.devRef .tc main_v1)) (funext fun a => Fin.ext ?_)
  have h := table_read V hO t
  match a with
  | ⟨0, _⟩ => exact (congrArg (fun w : BitVec 32 => w.toNat * 1 + 1 * 0) h).trans (by simp only [Nat.mul_one, Nat.mul_zero, Nat.add_zero]; rfl)
  | ⟨1, _⟩ => rfl
  | ⟨2, _⟩ => show 0 * 1024 + 1 * j.val = j.val; omega

/-! ## The output array -/

/-- An element of what the experts' call leaves: row `r` is row `r % 256` of tile `r / 256`. -/
def tileOf (r : Fin 9216) : Fin 36 := ⟨r.val / 256, by omega⟩
def inTile (r : Fin 9216) : Fin 256 := ⟨r.val % 256, by omega⟩

def expertsOf (A : FVec Ideal S4x9216x256 .f32) (W1 : FVec Ideal S4x1024x1024 .f32) (B1 : FVec Ideal S4x1024 .f32) (W2 : FVec Ideal S4x1024x1024 .f32)
    (B2 : FVec Ideal S4x1024 .f32) (P : FVec Ideal S9216x128 .f32) (e : Fin 36 → Fin 4) (r : Fin 9216) (k : Fin 1024) : EReal :=
  cellOf (fun i => A (ix3 (qtrOf i) r (cOf i))) (fun i j => W1 (ix3 (e (tileOf r)) i j)) (fun j => B1 (ix2 (e (tileOf r)) j))
    (fun j => W2 (ix3 (e (tileOf r)) j k)) (B2 (ix2 (e (tileOf r)) k)) (P (ix2 r 0))

theorem flush_6 : ∀ t, ((cfgV V hO).win 6).flush t = true :=
  fun t => (Pipeline.Window.flushOf_reads cc0_transform_6 reads0_6 hreads0_6 0 (by decide) (by decide) (Pipeline.Window.sep_of_coord cc0_transform_6 0 1 (fun _ => rfl) (by decide)) (P := 1) (m := 0) (by decide) rfl t).mpr (Nat.mod_one _)

variable (B1 B2 : FVec Ideal S4x1024 .f32)

theorem ix3_surj (y : S4x256x256.Idx) : ∃ (q : Fin 4) (n k : Fin 256), y = ix3 q n k := ⟨y 0, y 1, y 2, eq_ix3 y⟩

/-- What a tile writes, once its blocks are known to hold the rows and the expert's arrays. -/
theorem tile_at (A : FVec Ideal S4x9216x256 .f32) (W1 : FVec Ideal S4x1024x1024 .f32) (W2 : FVec Ideal S4x1024x1024 .f32) (P : FVec Ideal S9216x128 .f32)
    (e : Fin 36 → Fin 4) (t : Fin 36) (x0 : Vec Ideal S4x256x256 .f32) (x1 : Vec Ideal S1x1024x1024 .f32) (x2 : Vec Ideal S1x1x1024 .f32)
    (x3 : Vec Ideal S1x1024x1024 .f32) (x4 : Vec Ideal S1x1x1024 .f32) (x5 : Vec Ideal S256x128 .f32)
    (h0 : ∀ (q : Fin 4) (n k : Fin 256), x0 (ix3 q n k) = A (ix3 q (rowOf t n) k))
    (h1 : ∀ i j : Fin 1024, x1 (ix3 0 i j) = W1 (ix3 (e t) i j)) (h2 : ∀ j : Fin 1024, x2 (ix3 0 0 j) = B1 (ix2 (e t) j))
    (h3 : ∀ i j : Fin 1024, x3 (ix3 0 i j) = W2 (ix3 (e t) i j)) (h4 : ∀ j : Fin 1024, x4 (ix3 0 0 j) = B2 (ix2 (e t) j))
    (h5 : ∀ (n : Fin 256) (k : Fin 128), x5 (ix2 n k) = P (ix2 (rowOf t n) k)) (q : Fin 4) (n k : Fin 256) :
    outTile x0 x1 x2 x3 x4 x5 (ix3 q n k) = expertsOf A W1 B1 W2 B2 P e (rowOf t n) (kOf q k) := by
  rw [out_read]
  have ht : tileOf (rowOf t n) = t := Fin.ext (by show (t.val * 256 + n.val) / 256 = t.val; omega)
  unfold cellTile expertsOf
  rw [ht]
  simp only [h0, h1, h2, h3, h4, h5]

theorem experts_out (hB1 : ∀ (e : Fin 4) (j : Fin 1024), V 0 (Proc.devRef .tc main_v0) (ix3 e 0 j) = B1 (ix2 e j))
    (hB2 : ∀ (e : Fin 4) (j : Fin 1024), V 0 (Proc.devRef .tc main_v1) (ix3 e 0 j) = B2 (ix2 e j)) :
    Vout V hO 0 (Proc.devRef .tc main_v2) = fun i : S4x9216x256.Idx =>
      expertsOf (V 0 (Proc.devRef .tc main_arg1)) (V 0 (Proc.devRef .tc main_arg2)) B1 (V 0 (Proc.devRef .tc main_arg4)) B2 (V 0 (Proc.devRef .tc main_arg6))
        (exOf V hT) (i 1) (kOf (i 0) (i 2)) := by
  refine (Pipeline.afterRegion_arr (dats V hO 0 0) (V 0) winFacts0.arr_inj 6).trans ?_
  refine Dat.arrAt_eq_of_emb (dats V hO 0 0) 6 _ ?_ ?_
  · intro t _ y
    obtain ⟨t, rfl⟩ : ∃ t' : Fin 36, t = pt V hO t' := ⟨t.cast N_0, rfl⟩
    obtain ⟨q, n, k, rfl⟩ : ∃ (q : Fin 4) (n k : Fin 256), y = (ix3 q n k : S4x256x256.Idx) := ix3_surj y
    have e1 : (((cfgV V hO).win 6).blk (pt V hO t)).view.emb (ix3 q n k : S4x256x256.Idx) = (ix3 q (rowOf t n) k : S4x9216x256.Idx) := by
      have h := word_pt V hO t
      funext a
      refine Fin.ext ?_
      match a with
      | ⟨0, _⟩ => show 0 * 4 + 1 * q.val = q.val; omega
      | ⟨1, _⟩ => show (BitVec.ofNat 32 (grid0.coords (pt V hO t) 0).val).toNat * 256 + 1 * n.val = t.val * 256 + n.val; rw [h]; omega
      | ⟨2, _⟩ => show 0 * 256 + 1 * k.val = k.val; omega
    rw [e1]
    have e2 : (dats V hO 0 0).after 6 (pt V hO t) (((cfgV V hO).win 6).xinj ((cfgV V hO).grid.coords (pt V hO t)) (ix3 q n k : S4x256x256.Idx))
        = outTile (blkOf V hO 0 0 (pt V hO t)) (blkOf V hO 0 1 (pt V hO t)) (blkOf V hO 0 2 (pt V hO t)) (blkOf V hO 0 3 (pt V hO t)) (blkOf V hO 0 4 (pt V hO t))
          (blkOf V hO 0 5 (pt V hO t)) (ix3 q n k) := by
      rw [after_6]; rfl
    exact e2.trans (tile_at B1 B2 _ _ _ _ (exOf V hT) t _ _ _ _ _ _ (blk_0 V hO t) (blk_1 V hO hT t)
      (fun j => (blk_2 V hO hT t j).trans (hB1 _ j)) (blk_3 V hO hT t) (fun j => (blk_4 V hO hT t j).trans (hB2 _ j)) (blk_5 V hO t) q n k)
  · intro i'
    let i : S4x9216x256.Idx := i'
    show ∃ t, _ ∧ i ∈ _
    have h0 : (i 1).val < 9216 := (i 1).isLt
    refine ⟨pt V hO (tileOf (i 1)), flush_6 V hO _, ?_⟩
    have e1 : i = (((cfgV V hO).win 6).blk (pt V hO (tileOf (i 1)))).view.emb (ix3 (i 0) (inTile (i 1)) (i 2) : S4x256x256.Idx) := by
      have h := word_pt V hO (tileOf (i 1))
      funext a
      refine Fin.ext ?_
      match a with
      | ⟨0, _⟩ => show (i 0).val = 0 * 4 + 1 * (i 0).val; omega
      | ⟨1, _⟩ =>
        show (i 1).val = (BitVec.ofNat 32 (grid0.coords (pt V hO (tileOf (i 1))) 0).val).toNat * 256 + 1 * ((i 1).val % 256)
        rw [h]; show (i 1).val = (i 1).val / 256 * 256 + 1 * ((i 1).val % 256); omega
      | ⟨2, _⟩ => show (i 2).val = 0 * 256 + 1 * (i 2).val; omega
    exact Finset.mem_map.2 ⟨(ix3 (i 0) (inTile (i 1)) (i 2) : S4x256x256.Idx), Finset.mem_univ _, e1.symm⟩

end Cert.Proof.Served

end
-- ==== Proof.Served.Ref.lean ====
/-
  The reference for the experts' call, read at an element: the two products, the biases, the activation between them and
  the weight of the row are those of the tile's expert, so an element is the one the tile writes.
-/
module

public import proofs.«01_k».proof.Proof.Served.Block
public import proofs.«01_k».proof.Proof.Gen.TilesIdeal.Run
public import Idealize.ShloMosaic.Lib.StackMember
public import Idealize.ShloMosaic.Lib.Pipeline.Value

@[expose] public section

noncomputable section

namespace Cert.Proof.Served

open Cert.TilesIdeal Cert.TilesIdeal.Facts₀
open Idealize.ShloMosaic Idealize.ShloMosaic.ValueIdx

variable (te : IVec S36 32) (hT : ∀ t : Fin 36, (te (ix1 t)).toNat < 4)

/-- The expert the table names for tile `t`. -/
def named (t : Fin 36) : Fin 4 := ⟨(te (ix1 t)).toNat, hT t⟩

abbrev ixOf : IVec S36x1 32 := broadcastInDim S36x1 ![0] bcast_S36_S36x1_0 te

theorem ixOf_apply (t : Fin 36) : ixOf te (ix2 t 0) = te (ix1 t) := by
  refine broadcastInDim_apply _ _ _ _ _ fun a => ?_
  obtain rfl : a = 0 := Subsingleton.elim _ _
  rfl

theorem clamp (w : BitVec 32) (h : w.toNat < 4) : min w.toInt.toNat 3 = w.toNat := by
  rw [BitVec.toInt_eq_toNat_of_lt (by omega)]
  omega

section Stack

variable (x : FVec Ideal S4x1024x1024 .f32)

theorem matrix_of (t : Fin 36) (i j : Fin 1024) :
    Host.gather gather_S4x1024x1024_S36x1_S36x1024x1024_12_0_n_n_0_1_110241024 x (ixOf te) (ix3 t i j) = x (ix3 (named te hT t) i j) := by
  unfold Host.gather
  congr 1
  funext a
  refine Fin.ext ?_
  generalize hD : gather_S4x1024x1024_S36x1_S36x1024x1024_12_0_n_n_0_1_110241024 = D
  show D.start (ix3 t i j) (ixOf te) a + D.batchCoord (ix3 t i j) a + D.offCoord (ix3 t i j) a = ((ix3 (named te hT t) i j : S4x1024x1024.Idx) a).val
  rw [D.batchCoord_eq_zero (ix3 t i j) a (by subst hD; exact List.not_mem_nil), Nat.add_zero]
  match a with
  | ⟨0, _⟩ =>
    rw [D.offCoord_eq_zero (ix3 t i j) _ (fun h => ((D.mem_sKept _).1 h).1 (by subst hD; exact List.mem_singleton.2 rfl)), Nat.add_zero]
    subst hD
    unfold GatherDims.start
    refine (dif_pos (List.mem_singleton.2 rfl)).trans ?_
    have hs : ∀ c, gather_S4x1024x1024_S36x1_S36x1024x1024_12_0_n_n_0_1_110241024.siIdx (ix3 t i j) c = (ix2 t 0 : S36x1.Idx) := by
      intro c
      funext b
      refine Fin.ext ?_
      match b with
      | ⟨0, _⟩ => rfl
      | ⟨1, _⟩ =>
        have h2 : (gather_S4x1024x1024_S36x1_S36x1024x1024_12_0_n_n_0_1_110241024.siIdx (ix3 t i j) c 1).val < 1 := Fin.isLt _
        exact Nat.lt_one_iff.1 h2
    rw [hs, ixOf_apply]
    exact clamp _ (hT t)
  | ⟨1, _⟩ =>
    have h0 : D.start (ix3 t i j) (ixOf te) ⟨1, by decide⟩ = 0 := by
      subst hD
      unfold GatherDims.start
      exact dif_neg (by decide)
    refine (congrArg (· + D.offCoord (ix3 t i j) _) h0).trans ((Nat.zero_add _).trans ?_)
    subst hD
    unfold GatherDims.offCoord
    refine (dif_pos ((GatherDims.mem_sKept _ _).2 ⟨fun h => absurd (List.mem_singleton.1 h) (by simp), List.not_mem_nil⟩)).trans ?_
    rfl
  | ⟨2, _⟩ =>
    have h0 : D.start (ix3 t i j) (ixOf te) ⟨2, by decide⟩ = 0 := by
      subst hD
      unfold GatherDims.start
      exact dif_neg (by decide)
    refine (congrArg (· + D.offCoord (ix3 t i j) _) h0).trans ((Nat.zero_add _).trans ?_)
    subst hD
    unfold GatherDims.offCoord
    refine (dif_pos ((GatherDims.mem_sKept _ _).2 ⟨fun h => absurd (List.mem_singleton.1 h) (by simp), List.not_mem_nil⟩)).trans ?_
    rfl

end Stack

theorem vector_of (x : FVec Ideal S4x1024 .f32) (t : Fin 36) (j : Fin 1024) :
    Host.gather gather_S4x1024_S36x1_S36x1024_1_0_n_n_0_1_11024 x (ixOf te) (ix2 t j) = x (ix2 (named te hT t) j) := by
  unfold Host.gather
  congr 1
  funext a
  refine Fin.ext ?_
  generalize hD : gather_S4x1024_S36x1_S36x1024_1_0_n_n_0_1_11024 = D
  show D.start (ix2 t j) (ixOf te) a + D.batchCoord (ix2 t j) a + D.offCoord (ix2 t j) a = ((ix2 (named te hT t) j : S4x1024.Idx) a).val
  rw [D.batchCoord_eq_zero (ix2 t j) a (by subst hD; exact List.not_mem_nil), Nat.add_zero]
  match a with
  | ⟨0, _⟩ =>
    rw [D.offCoord_eq_zero (ix2 t j) _ (fun h => ((D.mem_sKept _).1 h).1 (by subst hD; exact List.mem_singleton.2 rfl)), Nat.add_zero]
    subst hD
    unfold GatherDims.start
    refine (dif_pos (List.mem_singleton.2 rfl)).trans ?_
    have hs : ∀ c, gather_S4x1024_S36x1_S36x1024_1_0_n_n_0_1_11024.siIdx (ix2 t j) c = (ix2 t 0 : S36x1.Idx) := by
      intro c
      funext b
      refine Fin.ext ?_
      match b with
      | ⟨0, _⟩ => rfl
      | ⟨1, _⟩ =>
        have h2 : (gather_S4x1024_S36x1_S36x1024_1_0_n_n_0_1_11024.siIdx (ix2 t j) c 1).val < 1 := Fin.isLt _
        exact Nat.lt_one_iff.1 h2
    rw [hs, ixOf_apply]
    exact clamp _ (hT t)
  | ⟨1, _⟩ =>
    have h0 : D.start (ix2 t j) (ixOf te) ⟨1, by decide⟩ = 0 := by
      subst hD
      unfold GatherDims.start
      exact dif_neg (by decide)
    refine (congrArg (· + D.offCoord (ix2 t j) _) h0).trans ((Nat.zero_add _).trans ?_)
    subst hD
    unfold GatherDims.offCoord
    refine (dif_pos ((GatherDims.mem_sKept _ _).2 ⟨fun h => absurd (List.mem_singleton.1 h) (by simp), List.not_mem_nil⟩)).trans ?_
    rfl

/-! ## The stages of the reference -/

abbrev biasOf (b : FVec Ideal S4x1024 .f32) : FVec Ideal S36x256x1024 .f32 :=
  broadcastInDim S36x256x1024 ![0, 1, 2] bcast_S36x1x1024_S36x256x1024_0_1_2 (broadcastInDim S36x1x1024 ![0, 2] bcast_S36x1024_S36x1x1024_0_2
    (Host.gather gather_S4x1024_S36x1_S36x1024_1_0_n_n_0_1_11024 b (ixOf te)))

theorem expertBias_read (b : FVec Ideal S4x1024 .f32) (t : Fin 36) (n : Fin 256) (j : Fin 1024) :
    biasOf te b (ix3 t n j) = b (ix2 (named te hT t) j) := by
  refine (broadcastInDim_apply (s := S36x1x1024) (t := S36x256x1024) _ _ _ (ix3 t n j) (ix3 t 0 j : S36x1x1024.Idx) fun a => ?_).trans
    ((broadcastInDim_apply (s := S36x1024) (t := S36x1x1024) _ _ _ (ix3 t 0 j) (ix2 t j : S36x1024.Idx) fun a => ?_).trans (vector_of te hT b t j))
  · match a with
    | ⟨0, _⟩ => rfl
    | ⟨1, _⟩ => rfl
    | ⟨2, _⟩ => rfl
  · match a with
    | ⟨0, _⟩ => rfl
    | ⟨1, _⟩ => rfl

abbrev tileRows (A : FVec Ideal S4x9216x256 .f32) : FVec Ideal S36x256x1024 .f32 :=
  shapeCast S36x256x1024 (transpose S9216x4x256 [1, 0, 2] A transposes_S4x9216x256_S9216x4x256_1_0_2) shapeCasts_S9216x4x256_S36x256x1024

theorem tileRows_read (A : FVec Ideal S4x9216x256 .f32) (t : Fin 36) (n : Fin 256) (i : Fin 1024) :
    tileRows A (ix3 t n i) = A (ix3 (qtrOf i) (rowOf t n) (cOf i)) := by
  refine (shapeCast_apply _ _ (ix3 t n i) (ix3 (rowOf t n) (qtrOf i) (cOf i) : S9216x4x256.Idx) ?_).trans (transpose_apply _ _ _ _ _ fun a => ?_)
  · rw [Shape.rowMajor_val_three, Shape.rowMajor_val_three]
    show ((t.val * 256 + n.val) * 4 + i.val / 256) * 256 + i.val % 256 = (t.val * 256 + n.val) * 1024 + i.val
    omega
  · match a with
    | ⟨0, _⟩ => rfl
    | ⟨1, _⟩ => rfl
    | ⟨2, _⟩ => rfl

abbrev firstOf (A : FVec Ideal S4x9216x256 .f32) (W1 : FVec Ideal S4x1024x1024 .f32) (b1 : FVec Ideal S4x1024 .f32) : FVec Ideal S36x256x1024 .f32 :=
  addf (Host.dotGeneral dot_S36x256x1024_S36x1024x1024_S36x256x1024_2_1_1_2_0_0 none (tileRows A)
    (Host.gather gather_S4x1024x1024_S36x1_S36x1024x1024_12_0_n_n_0_1_110241024 W1 (ixOf te))) (biasOf te b1)

abbrev actOf (U : FVec Ideal S36x256x1024 .f32) : FVec Ideal S36x256x1024 .f32 :=
  mulf U (mulf (broadcastInDim S36x256x1024 ![] bcast_S_S36x256x1024 (constant S_ .f32 0x3F000000#32))
    (addf (broadcastInDim S36x256x1024 ![] bcast_S_S36x256x1024 (constant S_ .f32 0x3F800000#32))
      (Host.tanh (mulf (broadcastInDim S36x256x1024 ![] bcast_S_S36x256x1024 (constant S_ .f32 0x3F4C422A#32))
        (addf U (mulf (broadcastInDim S36x256x1024 ![] bcast_S_S36x256x1024 (constant S_ .f32 0x3D372713#32)) (mulf (mulf U U) U)))))))

abbrev outOf (A : FVec Ideal S4x9216x256 .f32) (W1 : FVec Ideal S4x1024x1024 .f32) (b1 : FVec Ideal S4x1024 .f32) (W2 : FVec Ideal S4x1024x1024 .f32)
    (b2 : FVec Ideal S4x1024 .f32) (P : FVec Ideal S9216x128 .f32) : FVec Ideal S4x9216x256 .f32 :=
  transpose S4x9216x256 [1, 0, 2] (shapeCast S9216x4x256 (mulf (shapeCast S9216x1024
      (addf (Host.dotGeneral dot_S36x256x1024_S36x1024x1024_S36x256x1024_2_1_1_2_0_0 none (actOf (firstOf te A W1 b1))
        (Host.gather gather_S4x1024x1024_S36x1_S36x1024x1024_12_0_n_n_0_1_110241024 W2 (ixOf te))) (biasOf te b2)) shapeCasts_S36x256x1024_S9216x1024)
    (broadcastInDim S9216x1024 ![0, 1] bcast_S9216x1_S9216x1024_0_1 (extractStridedSlice S9216x1 ![0, 0] P slices_S9216x128_S9216x1_0_0)))
    shapeCasts_S9216x1024_S9216x4x256) transposes_S9216x4x256_S4x9216x256_1_0_2

theorem dot_read (L : FVec Ideal S36x256x1024 .f32) (R : FVec Ideal S36x1024x1024 .f32) (t : Fin 36) (n : Fin 256) (j : Fin 1024) :
    Host.dotGeneral dot_S36x256x1024_S36x1024x1024_S36x256x1024_2_1_1_2_0_0 none L R (ix3 t n j) = ∑ c : Fin 1024, L (ix3 t n c) * R (ix3 t c j) :=
  StackMember.dotGeneral_stack_apply _ none L R t n j

theorem act_read (U : FVec Ideal S36x256x1024 .f32) (i : S36x256x1024.Idx) : actOf U i = act (U i) := by
  show U i * (_ * (_ + Ideal.tanh (_ * (U i + _ * ((U i * U i) * U i))))) = act (U i)
  unfold act
  rw [mul_comm (U i * U i) (U i)]
  rfl

theorem first_read (A : FVec Ideal S4x9216x256 .f32) (W1 : FVec Ideal S4x1024x1024 .f32) (b1 : FVec Ideal S4x1024 .f32) (t : Fin 36) (n : Fin 256) (j : Fin 1024) :
    firstOf te A W1 b1 (ix3 t n j)
      = (∑ i : Fin 1024, A (ix3 (qtrOf i) (rowOf t n) (cOf i)) * W1 (ix3 (named te hT t) i j)) + b1 (ix2 (named te hT t) j) := by
  show Host.dotGeneral _ none _ _ (ix3 t n j) + biasOf te b1 (ix3 t n j) = _
  rw [dot_read, expertBias_read te hT]
  simp only [tileRows_read, matrix_of te hT]

theorem out_element (A : FVec Ideal S4x9216x256 .f32) (W1 : FVec Ideal S4x1024x1024 .f32) (b1 : FVec Ideal S4x1024 .f32) (W2 : FVec Ideal S4x1024x1024 .f32)
    (b2 : FVec Ideal S4x1024 .f32) (P : FVec Ideal S9216x128 .f32) (q : Fin 4) (r : Fin 9216) (c : Fin 256) :
    outOf te A W1 b1 W2 b2 P (ix3 q r c) = expertsOf A W1 b1 W2 b2 P (named te hT) r (kOf q c) := by
  refine (transpose_apply _ _ _ (ix3 q r c) (ix3 r q c : S9216x4x256.Idx) fun a => ?_).trans
    ((shapeCast_apply _ _ (ix3 r q c) (ix2 r (kOf q c) : S9216x1024.Idx) ?_).trans ?_)
  · match a with
    | ⟨0, _⟩ => rfl
    | ⟨1, _⟩ => rfl
    | ⟨2, _⟩ => rfl
  · rw [Shape.rowMajor_val_two, Shape.rowMajor_val_three]
    show r.val * 1024 + (q.val * 256 + c.val) = (r.val * 4 + q.val) * 256 + c.val
    omega
  have hr : rowOf (tileOf r) (inTile r) = r := Fin.ext (by show r.val / 256 * 256 + r.val % 256 = r.val; omega)
  have e1 : shapeCast S9216x1024 (addf (Host.dotGeneral dot_S36x256x1024_S36x1024x1024_S36x256x1024_2_1_1_2_0_0 none (actOf (firstOf te A W1 b1))
        (Host.gather gather_S4x1024x1024_S36x1_S36x1024x1024_12_0_n_n_0_1_110241024 W2 (ixOf te))) (biasOf te b2)) shapeCasts_S36x256x1024_S9216x1024 (ix2 r (kOf q c))
      = (∑ j : Fin 1024, act ((∑ i : Fin 1024, A (ix3 (qtrOf i) r (cOf i)) * W1 (ix3 (named te hT (tileOf r)) i j)) + b1 (ix2 (named te hT (tileOf r)) j))
          * W2 (ix3 (named te hT (tileOf r)) j (kOf q c))) + b2 (ix2 (named te hT (tileOf r)) (kOf q c)) := by
    refine (shapeCast_apply _ _ _ (ix3 (tileOf r) (inTile r) (kOf q c) : S36x256x1024.Idx) ?_).trans ?_
    · rw [Shape.rowMajor_val_two, Shape.rowMajor_val_three]
      show (r.val / 256 * 256 + r.val % 256) * 1024 + (kOf q c).val = r.val * 1024 + (kOf q c).val
      omega
    · show Host.dotGeneral _ none _ _ (ix3 (tileOf r) (inTile r) (kOf q c)) + biasOf te b2 (ix3 (tileOf r) (inTile r) (kOf q c)) = _
      rw [dot_read, expertBias_read te hT]
      simp only [act_read, first_read te hT, matrix_of te hT, hr]
  have e2 : broadcastInDim S9216x1024 ![0, 1] bcast_S9216x1_S9216x1024_0_1 (extractStridedSlice S9216x1 ![0, 0] P slices_S9216x128_S9216x1_0_0) (ix2 r (kOf q c))
      = P (ix2 r 0) := by
    refine (broadcastInDim_apply (s := S9216x1) (t := S9216x1024) _ _ _ (ix2 r (kOf q c)) (ix2 r 0 : S9216x1.Idx) fun a => ?_).trans
      (extractStridedSlice_apply _ _ _ _ _ fun a => ?_)
    · match a with
      | ⟨0, _⟩ => rfl
      | ⟨1, _⟩ => rfl
    · match a with
      | ⟨0, _⟩ => exact (Nat.zero_add _).symm
      | ⟨1, _⟩ => rfl
  exact congrArg₂ (· * ·) e1 e2

end Cert.Proof.Served

end
-- ==== Proof.Served.Value.lean ====
/-
  What the two launched calls leave in the result is what the reference computes: the experts' call leaves the table the
  reference computes, element by element, and the gather then takes from it the rows the reference takes. And the range
  of the tiles' experts and of the lists' words, read off the precondition.
-/
module

public import proofs.«01_k».proof.Proof.Served.Launch
public import proofs.«01_k».proof.Proof.Served.Ref
public import proofs.«01_k».proof.Proof.Value
public import proofs.«01_k».proof.Proof.Gen.Pre_slots_named
public import Idealize.ShloMosaic.Lib.ReduceAll

@[expose] public section

noncomputable section

namespace Cert.Proof.Served

open Cert.ServedIdeal Cert.ServedIdeal.Gen
open Idealize.ShloMosaic Idealize.ShloMosaic.ValueIdx

/-! ## The precondition, a word at a time -/

theorem expert_lt (w : BitVec 32) (h : IntOp.cmpi .sge w 0#32 &&& IntOp.cmpi .slt w 4#32 = 1#1) : w.toNat < 4 := by
  have hs : (0#32).sle w = true := by
    cases hb : (0#32).sle w
    · rw [show IntOp.cmpi .sge w 0#32 = 0#1 by simp only [IntOp.cmpi, hb]; rfl] at h
      simp at h
    · rfl
  have hl : w.slt 4#32 = true := by
    cases hb : w.slt 4#32
    · rw [show IntOp.cmpi .slt w 4#32 = 0#1 by simp only [IntOp.cmpi, hb]; rfl] at h
      simp at h
    · rfl
  rw [BitVec.sle_eq_decide, decide_eq_true_eq] at hs
  rw [BitVec.slt_eq_decide, decide_eq_true_eq] at hl
  rw [BitVec.toInt_eq_toNat_cond] at hs hl
  simp only [BitVec.toInt_eq_toNat_cond, BitVec.toNat_ofNat, Nat.reducePow, Nat.reduceMod] at hs hl
  have := w.isLt
  split at hs <;> omega

theorem words_lt {F : FTy → Type} [FloatOps F] (te : IVec Pre_slots_named.S36 32) (a1 : FVec F Pre_slots_named.S4x9216x256 .f32)
    (a2 : FVec F Pre_slots_named.S4x1024x1024 .f32) (a3 : FVec F Pre_slots_named.S4x1024 .f32) (a4 : FVec F Pre_slots_named.S4x1024x1024 .f32)
    (a5 : FVec F Pre_slots_named.S4x1024 .f32) (a6 : FVec F Pre_slots_named.S9216x128 .f32) (I : IVec Pre_slots_named.S4x64x128 32)
    (h : Cert.Pre_slots_named.fn (F := F) te a1 a2 a3 a4 a5 a6 I = fun _ => 1#1) :
    (∀ j : S36.Idx, (te j).toNat < 4) ∧ ∀ j : S4x64x128.Idx, (I j).toNat < 36864 := by
  have e := congrFun h ix0
  dsimp only [Cert.Pre_slots_named.fn] at e
  haveI : Subsingleton Pre_slots_named.S_.Idx := ⟨fun a b => funext fun i => i.elim0⟩
  have e' := IntOp.andi_eq_one.1 e
  exact ⟨fun j => expert_lt _ (Host.reduce_andi_all _ _ _ _ _ e'.1 j), fun j => Gather.word_lt _ (Host.reduce_andi_all _ _ _ _ _ e'.2 j)⟩

/-! ## The two results -/

variable (m : (ℓ : Loc nD τ sig) → Buf (Elt Ideal) ℓ)

theorem teOf_eq (t : Fin 36) : teOf (V2 m) t = m (mLoc 0 main_arg0) (ix1 t) :=
  congrFun (V2_arg m 0 main_arg0 (by decide) (by decide)) (ix1 t)

theorem bias1_eq (e : Fin 4) (j : Fin 1024) : V2 m 0 (dr main_v0) (ix3 e 0 j) = m (mLoc 0 main_arg3) (ix2 e j) := by
  rw [V2_ne m 0 _ (by decide)]
  unfold V1
  rw [StableHlo.reshape_result']
  refine shapeCast_apply (s := S4x1024) (t := S4x1x1024) _ _ (ix3 e 0 j) (ix2 e j : S4x1024.Idx) ?_
  rw [Shape.rowMajor_val_two, Shape.rowMajor_val_three]
  show e.val * 1024 + j.val = (e.val * 1 + 0) * 1024 + j.val
  omega

theorem bias2_eq (e : Fin 4) (j : Fin 1024) : V2 m 0 (dr main_v1) (ix3 e 0 j) = m (mLoc 0 main_arg5) (ix2 e j) := by
  unfold V2
  rw [StableHlo.reshape_result']
  refine (shapeCast_apply (s := S4x1024) (t := S4x1x1024) _ _ (ix3 e 0 j) (ix2 e j : S4x1024.Idx) ?_).trans ?_
  · rw [Shape.rowMajor_val_two, Shape.rowMajor_val_three]
    show e.val * 1024 + j.val = (e.val * 1 + 0) * 1024 + j.val
    omega
  · exact congrFun (V1_ne m 0 (dr main_arg5) (by decide)) (ix2 e j)

/-- The table the experts' call leaves is the one the reference computes. -/
theorem table_eq (hpre : PreOK m) :
    V3 m (tabOk m hpre) 0 (dr main_v2)
      = outOf (m (mLoc 0 main_arg0)) (m (mLoc 0 main_arg1)) (m (mLoc 0 main_arg2)) (m (mLoc 0 main_arg3)) (m (mLoc 0 main_arg4)) (m (mLoc 0 main_arg5)) (m (mLoc 0 main_arg6)) := by
  have hT : ∀ t, (teOf (V2 m) t).toNat < 4 := fun t => by rw [teOf_eq]; exact hpre.te 0 _
  refine (experts_out (V2 m) (tabOk m hpre) hT (m (mLoc 0 main_arg3)) (m (mLoc 0 main_arg5)) (bias1_eq m) (bias2_eq m)).trans ?_
  funext i
  obtain ⟨q, r, c, rfl⟩ : ∃ (q : Fin 4) (r : Fin 9216) (c : Fin 256), i = (ix3 q r c : S4x9216x256.Idx) := ⟨i 0, i 1, i 2, eq_ix3 i⟩
  refine Eq.trans ?_ (out_element (m (mLoc 0 main_arg0)) (fun t => hpre.te 0 _) _ _ _ _ _ _ q r c).symm
  have he : exOf (V2 m) hT = named (m (mLoc 0 main_arg0)) (fun t => hpre.te 0 _) := funext fun t => Fin.ext (show (teOf (V2 m) t).toNat = BitVec.toNat (w := 32) (m (mLoc 0 main_arg0) (ix1 t)) by rw [teOf_eq])
  show expertsOf _ _ _ _ _ _ (exOf (V2 m) hT) r (kOf q c) = _
  rw [he]
  congr 1

variable (hO : TabOk (V2 m))

theorem YV_eq (d : Dev nD) : YV m hO d = shapeCast S36864x2x128 (V3 m hO d (dr main_v2)) shapeCasts_S4x9216x256_S36864x2x128 := by
  unfold YV V4
  rw [StableHlo.reshape_result']
  rfl

theorem RV_eq (d : Dev nD) : RV m hO d = shapeCast S4x2048x1024 (GV m hO d) shapeCasts_S8192x4x2x128_S4x2048x1024 := by
  unfold RV V6
  rw [StableHlo.reshape_result']
  funext i
  show shapeCast S4x2048x1024 (V5 m hO d (dr main_v4)) _ i = _
  rw [V5_o]

/-- The result is the reference's. -/
theorem RV_ref (hpre : PreOK m) :
    RV m (tabOk m hpre) 0 = Gather.refOf (F := Ideal) (outOf (m (mLoc 0 main_arg0)) (m (mLoc 0 main_arg1)) (m (mLoc 0 main_arg2)) (m (mLoc 0 main_arg3))
      (m (mLoc 0 main_arg4)) (m (mLoc 0 main_arg5)) (m (mLoc 0 main_arg6))) (m (iLoc 0)) := by
  rw [RV_eq]
  refine Eq.trans ?_ (Gather.value_eq (F := Ideal) _ _ (hpre.slots 0))
  rw [← table_eq m hpre]
  unfold GV
  rw [YV_eq]
  rfl

/-- The reference's result, by its stages. -/
theorem res_eq (m' : (ℓ : Loc TilesIdeal.nD TilesIdeal.τ TilesIdeal.sig) → Buf (Elt Ideal) ℓ) (c : Dev TilesIdeal.nD)
    (a0 : IVec S36 32) (a1 : FVec Ideal S4x9216x256 .f32) (a2 : FVec Ideal S4x1024x1024 .f32) (a3 : FVec Ideal S4x1024 .f32) (a4 : FVec Ideal S4x1024x1024 .f32)
    (a5 : FVec Ideal S4x1024 .f32) (a6 : FVec Ideal S9216x128 .f32) (a7 : IVec S4x64x128 32)
    (h0 : m' ((c.tc : Thread TilesIdeal.nD TilesIdeal.τ).loc TilesIdeal.main_arg0) = a0) (h1 : m' ((c.tc : Thread TilesIdeal.nD TilesIdeal.τ).loc TilesIdeal.main_arg1) = a1)
    (h2 : m' ((c.tc : Thread TilesIdeal.nD TilesIdeal.τ).loc TilesIdeal.main_arg2) = a2) (h3 : m' ((c.tc : Thread TilesIdeal.nD TilesIdeal.τ).loc TilesIdeal.main_arg3) = a3)
    (h4 : m' ((c.tc : Thread TilesIdeal.nD TilesIdeal.τ).loc TilesIdeal.main_arg4) = a4) (h5 : m' ((c.tc : Thread TilesIdeal.nD TilesIdeal.τ).loc TilesIdeal.main_arg5) = a5)
    (h6 : m' ((c.tc : Thread TilesIdeal.nD TilesIdeal.τ).loc TilesIdeal.main_arg6) = a6) (h7 : m' ((c.tc : Thread TilesIdeal.nD TilesIdeal.τ).loc TilesIdeal.main_arg7) = a7) :
    Cert.TilesIdeal.Value.res_main_v38 m' c = Gather.refOf (F := Ideal) (outOf a0 a1 a2 a3 a4 a5 a6) a7 := by
  subst h0 h1 h2 h3 h4 h5 h6 h7
  unfold Cert.TilesIdeal.Value.res_main_v38
  rfl

end Cert.Proof.Served

end
-- ==== Proof.Served.Same.lean ====
/-
  The two printed programs of the experts' call with the gather have the same text, so they are the same program at the
  same float values: stated here once, for the frame at the machine's floats.
-/
module

public import proofs.«01_k».proof.Defs
public import proofs.«01_k».proof.Proof.Gen.Served
public import proofs.«01_k».proof.Proof.Gen.ServedIdeal

@[expose] public section

namespace Cert.Proof.Served

open Idealize.ShloMosaic Idealize.SL.Sem

theorem same_tc (a : Cert.Served.Λ₀.Label) (b : Cert.Served.Λ₀.Args a) :
    Cert.Served.defs₀ (F := Bits) .tc a b = Cert.ServedIdeal.defs₀ (F := Bits) .tc a b := by
  match a, b with
  | 0, (t, s) => rfl
  | 1, _ => rfl

theorem same_vector (c s) (a : Cert.Served.Λ₀.Label) (b : Cert.Served.Λ₀.Args a) :
    Cert.Served.defs₀ (F := Bits) (.scVector c s) a b = Cert.ServedIdeal.defs₀ (F := Bits) (.scVector c s) a b := by
  match a, b with
  | 0, (t, s) => rfl
  | 1, _ => rfl

theorem same_scalar (c) (a : Cert.Served.Λ₀.Label) (b : Cert.Served.Λ₀.Args a) :
    Cert.Served.defs₀ (F := Bits) (.scScalar c) a b = Cert.ServedIdeal.defs₀ (F := Bits) (.scScalar c) a b := by
  match a, b with
  | 0, (t, s) => rfl
  | 1, _ => rfl

theorem same_bodies : Cert.Served.defs₀ (F := Bits) = Cert.ServedIdeal.defs₀ (F := Bits) := by
  funext p a b
  match p with
  | .tc => exact same_tc a b
  | .scVector c s => exact same_vector c s a b
  | .scScalar c => exact same_scalar c a b

set_option maxHeartbeats 4000000 in
theorem same_defs : Cert.Served.defs (F := Bits) = Cert.ServedIdeal.defs (F := Bits) := by
  have h := congrArg (fun D => Cert.ServedIdeal.sc.defs (Pipeline.defs Cert.ServedIdeal.pcfgs D)) same_bodies
  exact h

set_option maxHeartbeats 4000000 in
theorem same_main : Cert.Served.main (F := Bits) = Cert.ServedIdeal.main (F := Bits) := by
  funext d
  unfold Cert.Served.main Cert.ServedIdeal.main
  rfl

set_option maxHeartbeats 4000000 in
theorem same_threads : Cert.Served.threads (F := Bits) = Cert.ServedIdeal.threads (F := Bits) := by
  have h := congrArg (fun M => Cert.ServedIdeal.sc.threads M) same_main
  exact h

set_option maxHeartbeats 4000000 in
/-- What holds of every run of the one program holds of every run of the other. -/
theorem same_run (x : MemSt Cert.ServedIdeal.nD Cert.ServedIdeal.τ Cert.ServedIdeal.sig (Elt Bits))
    (Q : PUnit × MemSt Cert.ServedIdeal.nD Cert.ServedIdeal.τ Cert.ServedIdeal.sig (Elt Bits) → Prop)
    (h : θ_run (Cert.ServedIdeal.defs (F := Bits)) (Cert.ServedIdeal.threads (F := Bits)) x Q) :
    θ_run (Cert.Served.defs (F := Bits)) (Cert.Served.threads (F := Bits)) x Q :=
  have e := congrArg₂ (fun D T => θ_run D T x Q) same_defs same_threads
  Eq.mpr e h

end Cert.Proof.Served

end
-- ==== Proof.Gated.Pick.lean ====
/-
  The choice the gate makes among four numbers, floats read as extended reals: the softmax of four logits, and the
  first position where four numbers are greatest, as a chain of comparisons takes it and as a stable sort does.
-/
module

public import Idealize.ShloMosaic.Lib.ValueIdx
public import Idealize.ShloMosaic.Lib.Pipeline.Value
public import Idealize.ShloMosaic.PureOps.Ideal.Laws

@[expose] public section

noncomputable section

namespace Cert.Proof.Gated

open Idealize.ShloMosaic Idealize.ShloMosaic.ValueIdx

/-! ## The softmax -/

/-- The greatest of four numbers. -/
def top (l : Fin 4 → EReal) : EReal := max (max (max (l 0) (l 1)) (l 2)) (l 3)

/-- The exponential of each, taken from the greatest. -/
def expo (l : Fin 4 → EReal) (k : Fin 4) : EReal := Ideal.exp (l k - top l)

/-- The softmax. -/
def share (l : Fin 4 → EReal) (k : Fin 4) : EReal := Ideal.div (expo l k) (expo l 0 + expo l 1 + expo l 2 + expo l 3)

/-! ## The first greatest -/

def upto1 (q : Fin 4 → EReal) : Fin 4 := if q 0 < q 1 then 1 else 0
def upto2 (q : Fin 4 → EReal) : Fin 4 := if q (upto1 q) < q 2 then 2 else upto1 q
/-- The first position where `q` is greatest. -/
def pick (q : Fin 4 → EReal) : Fin 4 := if q (upto2 q) < q 3 then 3 else upto2 q

theorem gt_eq (a b : EReal) : Ideal.cmp .ogt a b = if b < a then 1#1 else 0#1 := by
  unfold Ideal.cmp
  by_cases h : b < a
  · simp [h]
  · simp [h]

theorem select_gt {α : Type} (a b : EReal) (x y : α) : Scalar.select (Ideal.cmp .ogt a b) x y = if b < a then x else y := by
  rw [gt_eq]
  by_cases h : b < a
  · rw [if_pos h, if_pos h]; rfl
  · rw [if_neg h, if_neg h]; rfl

/-- The chain's number and its position. -/
theorem chain_value (q : Fin 4 → EReal) :
    (let v1 := Scalar.select (Ideal.cmp .ogt (q 1) (q 0)) (q 1) (q 0)
     let v2 := Scalar.select (Ideal.cmp .ogt (q 2) v1) (q 2) v1
     Scalar.select (Ideal.cmp .ogt (q 3) v2) (q 3) v2) = q (pick q) := by
  have e1 : Scalar.select (Ideal.cmp .ogt (q 1) (q 0)) (q 1) (q 0) = q (upto1 q) := by
    rw [select_gt]; unfold upto1; split_ifs <;> rfl
  have e2 : Scalar.select (Ideal.cmp .ogt (q 2) (q (upto1 q))) (q 2) (q (upto1 q)) = q (upto2 q) := by
    rw [select_gt]; unfold upto2; split_ifs <;> rfl
  show Scalar.select (Ideal.cmp .ogt (q 3) (Scalar.select (Ideal.cmp .ogt (q 2) (Scalar.select (Ideal.cmp .ogt (q 1) (q 0)) (q 1) (q 0))) (q 2)
    (Scalar.select (Ideal.cmp .ogt (q 1) (q 0)) (q 1) (q 0)))) (q 3) _ = _
  rw [e1, e2, select_gt]; unfold pick; split_ifs <;> rfl

theorem chain_word (q : Fin 4 → EReal) :
    (let v1 := Scalar.select (Ideal.cmp .ogt (q 1) (q 0)) (q 1) (q 0)
     let v2 := Scalar.select (Ideal.cmp .ogt (q 2) v1) (q 2) v1
     Scalar.select (Ideal.cmp .ogt (q 3) v2) 3#32 (Scalar.select (Ideal.cmp .ogt (q 2) v1) 2#32 (Scalar.select (Ideal.cmp .ogt (q 1) (q 0)) 1#32 0#32)))
      = BitVec.ofNat 32 (pick q).val := by
  have e1 : Scalar.select (Ideal.cmp .ogt (q 1) (q 0)) (q 1) (q 0) = q (upto1 q) := by
    rw [select_gt]; unfold upto1; split_ifs <;> rfl
  have e2 : Scalar.select (Ideal.cmp .ogt (q 2) (q (upto1 q))) (q 2) (q (upto1 q)) = q (upto2 q) := by
    rw [select_gt]; unfold upto2; split_ifs <;> rfl
  have w1 : Scalar.select (Ideal.cmp .ogt (q 1) (q 0)) 1#32 0#32 = BitVec.ofNat 32 (upto1 q).val := by
    rw [select_gt]; unfold upto1; split_ifs <;> rfl
  have w2 : Scalar.select (Ideal.cmp .ogt (q 2) (q (upto1 q))) 2#32 (BitVec.ofNat 32 (upto1 q).val) = BitVec.ofNat 32 (upto2 q).val := by
    rw [select_gt]; unfold upto2; split_ifs <;> rfl
  show Scalar.select (Ideal.cmp .ogt (q 3) (Scalar.select (Ideal.cmp .ogt (q 2) (Scalar.select (Ideal.cmp .ogt (q 1) (q 0)) (q 1) (q 0))) (q 2)
    (Scalar.select (Ideal.cmp .ogt (q 1) (q 0)) (q 1) (q 0)))) 3#32 (Scalar.select (Ideal.cmp .ogt (q 2) (Scalar.select (Ideal.cmp .ogt (q 1) (q 0)) (q 1) (q 0))) 2#32
      (Scalar.select (Ideal.cmp .ogt (q 1) (q 0)) 1#32 0#32)) = _
  rw [e1, w1, w2, e2, select_gt]; unfold pick; split_ifs <;> rfl

/-- A stable sort, greater first, puts the first greatest first. -/
theorem sorted_first (q : Fin 4 → EReal) (B : Fin 4 → Fin 4 → Bool) (hB : ∀ a b, B a b = decide (q b < q a)) :
    sortedFrom B 0 = pick q := by
  obtain rfl : B = fun a b => decide (q b < q a) := funext fun a => funext fun b => hB a b
  have h0 : ∀ (B : Fin 4 → Fin 4 → Bool), sortedFrom B 0
      = (let h2 : Fin 4 := if B 3 2 then 3 else 2
         let h1 : Fin 4 := if B h2 1 then h2 else 1
         if B h1 0 then h1 else 0) := by
    intro B
    have hs : ∀ (a b : Fin 4) (l : List (Fin 4)), insertBefore B a (b :: l) = if B b a then b :: insertBefore B a l else a :: b :: l := fun _ _ _ => rfl
    have hget : ∀ (l : List (Fin 4)) (h : sortPositions 4 B = l) (hl : 0 < l.length), sortedFrom B 0 = l[0] := by
      intro l h hl; subst h; rfl
    have hp : sortPositions 4 B = insertBefore B 0 (insertBefore B 1 (insertBefore B 2 [3])) := rfl
    have h2 : ∃ t, insertBefore B 2 [3] = (if B 3 2 then (3 : Fin 4) else 2) :: t := by
      rw [hs]; split_ifs
      · exact ⟨_, rfl⟩
      · exact ⟨_, rfl⟩
    obtain ⟨t2, e2⟩ := h2
    generalize (if B 3 2 then (3 : Fin 4) else 2) = x2 at e2 ⊢
    have h1 : ∃ t, insertBefore B 1 (insertBefore B 2 [3]) = (if B x2 1 then x2 else (1 : Fin 4)) :: t := by
      rw [e2, hs]; split_ifs
      · exact ⟨_, rfl⟩
      · exact ⟨_, rfl⟩
    obtain ⟨t1, e1⟩ := h1
    show _ = if B (if B x2 1 then x2 else 1) 0 then (if B x2 1 then x2 else 1) else 0
    generalize (if B x2 1 then x2 else (1 : Fin 4)) = x1 at e1 ⊢
    have h0 : ∃ t, insertBefore B 0 (insertBefore B 1 (insertBefore B 2 [3])) = (if B x1 0 then x1 else (0 : Fin 4)) :: t := by
      rw [e1, hs]; split_ifs
      · exact ⟨_, rfl⟩
      · exact ⟨_, rfl⟩
    obtain ⟨t0, e0⟩ := h0
    exact hget _ (hp.trans e0) (Nat.succ_pos _)
  rw [h0]
  unfold pick upto2 upto1
  simp only [decide_eq_true_eq]
  rcases lt_or_ge (q 0) (q 1) with h01 | h01 <;> rcases lt_or_ge (q 1) (q 2) with h12 | h12 <;> rcases lt_or_ge (q 2) (q 3) with h23 | h23 <;>
    rcases lt_or_ge (q 0) (q 2) with h02 | h02 <;> rcases lt_or_ge (q 0) (q 3) with h03 | h03 <;> rcases lt_or_ge (q 1) (q 3) with h13 | h13 <;>
    first
    | (exfalso; order)
    | simp [h01, h12, h23, h02, h03, h13, not_lt.mpr h01, not_lt.mpr h12, not_lt.mpr h23, not_lt.mpr h02, not_lt.mpr h03, not_lt.mpr h13]
    | simp [*, not_lt_of_ge]

/-! ## The host's reductions over four -/

theorem fold_max (l : Fin 4 → EReal) : (Finset.univ : Finset (Fin 4)).fold max ⊥ l = top l := by
  have : (Finset.univ : Finset (Fin 4)) = {3, 2, 1, 0} := by decide
  rw [this]
  simp only [Finset.fold_insert (show (3 : Fin 4) ∉ ({2, 1, 0} : Finset (Fin 4)) by decide), Finset.fold_insert (show (2 : Fin 4) ∉ ({1, 0} : Finset (Fin 4)) by decide),
    Finset.fold_insert (show (1 : Fin 4) ∉ ({0} : Finset (Fin 4)) by decide), Finset.fold_singleton]
  unfold top
  rw [max_bot_right, max_comm (l 3), max_comm (l 2), max_comm (l 1)]

end Cert.Proof.Gated

end
-- ==== Proof.Gated.Cell.lean ====
/-
  One block of the gate's call, element by element, floats read as extended reals: the two projections of a row, its
  four logits, the share and number of the expert it picks, and the row that is sent on.
-/
module

public import proofs.«01_k».proof.Proof.Gated.Pick
public import proofs.«01_k».proof.Proof.Gen.GatedIdeal.Frame
public import Idealize.ShloMosaic.Lib.Pipeline.Value
public import Idealize.ShloMosaic.Lib.Pipeline.ValueKit.Tiles
public import Idealize.ShloMosaic.Lib.MatmulPlain
public import Idealize.ShloMosaic.Lib.ValueIdx

@[expose] public section

noncomputable section

namespace Cert.Proof.Gated

open Cert.GatedIdeal Cert.GatedIdeal.Gen
open Idealize.ShloMosaic Idealize.ShloMosaic.ValueIdx

/-! ## A row's numbers -/

/-- A projection of the row `h`. -/
def proj {n : Nat} (h : Fin n → EReal) (W : Fin n → Fin 1024 → EReal) (b : Fin 1024 → EReal) (j : Fin 1024) : EReal := (∑ i, h i * W i j) + b j

/-- Two rows of 1024, one after the other. -/
def joined (a b : Fin 1024 → EReal) (i : Fin 2048) : EReal := if h : i.val < 1024 then a ⟨i.val, h⟩ else b ⟨i.val - 1024, by omega⟩

/-- The row's four logits. -/
def logit (a b : Fin 1024 → EReal) (Wg : Fin 2048 → Fin 4 → EReal) (bg : Fin 4 → EReal) (k : Fin 4) : EReal :=
  Ideal.div ((∑ i, joined a b i * Wg i k) + bg k) (Ideal.ofBits .f32 0x3F99999A#32)

/-- The row sent to expert `e`: the first projection, the second, or their mean. -/
def sent (a b : Fin 1024 → EReal) (e : Fin 4) (j : Fin 1024) : EReal :=
  if e = 0 then a j else if e = 1 then b j else Ideal.ofBits .f32 0x3F000000#32 * (a j + b j)

/-- Column `c` of quarter `q` of a row of 1024. -/
def wide (q : Fin 4) (c : Fin 256) : Fin 1024 := ⟨q.val * 256 + c.val, by omega⟩

/-! ## A token's numbers, from the whole arrays: token `n` of batch `b` -/

def tokA (a0 : FVec Ideal S4x2048x768 .f32) (a4 : FVec Ideal S768x1024 .f32) (a5 : FVec Ideal S1024 .f32) (b : Fin 4) (n : Fin 2048) : Fin 1024 → EReal :=
  proj (fun i => a0 (ix3 b n i)) (fun i j => a4 (ix2 i j)) (fun j => a5 (ix1 j))
def tokB (a1 : FVec Ideal S4x2048x1024 .f32) (a6 : FVec Ideal S1024x1024 .f32) (a7 : FVec Ideal S1024 .f32) (b : Fin 4) (n : Fin 2048) : Fin 1024 → EReal :=
  proj (fun i => a1 (ix3 b n i)) (fun i j => a6 (ix2 i j)) (fun j => a7 (ix1 j))
/-- The logits of a token, from its two projections. -/
def tokL (A B : Fin 1024 → EReal) (a8 : FVec Ideal S2048x4 .f32) (a9 : FVec Ideal S4 .f32) : Fin 4 → EReal :=
  logit A B (fun i k => a8 (ix2 i k)) (fun k => a9 (ix1 k))
/-- The batch of row `r` of the flat arrays, and its place in the batch. -/
def hi (r : Fin 8192) : Fin 4 := ⟨r.val / 2048, by omega⟩
def lo (r : Fin 8192) : Fin 2048 := ⟨r.val % 2048, by omega⟩
/-- The flat row of lane `l` of half `a` of tile `i`. -/
def flat (i : Fin 32) (a : Fin 2) (l : Fin 128) : Fin 8192 := ⟨i.val * 256 + (a.val * 128 + l.val), by omega⟩

/-! ## The products -/

theorem prod2_read (L : FVec Ideal S256x768 .f32) (R : FVec Ideal S768x1024 .f32) (n : Fin 256) (k : Fin 1024) :
    matmul dot_S256x768_S768x1024_S256x1024_1_0_0_1_n_n none L R (constant S256x1024 .f32 0x00000000#32) (ix2 n k) = ∑ j : Fin 768, L (ix2 n j) * R (ix2 j k) := by
  refine (Ideal.matmul_plain_apply (M := 256) (K := 768) (N := 1024) none L R _ n k).trans ?_
  show Ideal.ofBits .f32 0x00000000#32 + _ = _
  rw [Ideal.ofBits_zero_f32, zero_add]

theorem prod3_read (L : FVec Ideal S256x1024 .f32) (R : FVec Ideal S1024x1024 .f32) (n : Fin 256) (k : Fin 1024) :
    matmul dot_S256x1024_S1024x1024_S256x1024_1_0_0_1_n_n none L R (constant S256x1024 .f32 0x00000000#32) (ix2 n k) = ∑ j : Fin 1024, L (ix2 n j) * R (ix2 j k) := by
  refine (Ideal.matmul_plain_apply (M := 256) (K := 1024) (N := 1024) none L R _ n k).trans ?_
  show Ideal.ofBits .f32 0x00000000#32 + _ = _
  rw [Ideal.ofBits_zero_f32, zero_add]

theorem prodg_read (L : FVec Ideal S256x2048 .f32) (R : FVec Ideal S2048x4 .f32) (n : Fin 256) (k : Fin 4) :
    matmul dot_S256x2048_S2048x4_S256x4_1_0_0_1_n_n none L R (constant S256x4 .f32 0x00000000#32) (ix2 n k) = ∑ j : Fin 2048, L (ix2 n j) * R (ix2 j k) := by
  refine (Ideal.matmul_plain_apply (M := 256) (K := 2048) (N := 4) none L R _ n k).trans ?_
  show Ideal.ofBits .f32 0x00000000#32 + _ = _
  rw [Ideal.ofBits_zero_f32, zero_add]

theorem wideBias_read (b : FVec Ideal S1x1024 .f32) (n : Fin 256) (j : Fin 1024) : broadcastTo S256x1024 b broadcasts_S1x1024_S256x1024 (ix2 n j) = b (ix2 0 j) := by
  refine broadcastTo_apply _ _ _ (ix2 (0 : Fin 1) j) ?_
  intro a
  match a with
  | ⟨0, _⟩ => rfl
  | ⟨1, _⟩ => rfl

theorem gateBias_read (b : FVec Ideal S1x4 .f32) (n : Fin 256) (j : Fin 4) : broadcastTo S256x4 b broadcasts_S1x4_S256x4 (ix2 n j) = b (ix2 0 j) := by
  refine broadcastTo_apply _ _ _ (ix2 (0 : Fin 1) j) ?_
  intro a
  match a with
  | ⟨0, _⟩ => rfl
  | ⟨1, _⟩ => rfl

theorem same_shape {s : Shape} {α : Type} (x : s.Idx → α) (h : s.ShapeCasts s) (y : s.Idx) : shapeCast s x h y = x y :=
  shapeCast_apply x h y y rfl

/-! ## The payloads at a row -/

theorem first_proj (v0 : Vec Ideal S256x768 .f32) (v2 : Vec Ideal S768x1024 .f32) (v4 : Vec Ideal S1x1024 .f32) (n : Fin 256) (j : Fin 1024) :
    k0_pay6 v0 v2 v4 (ix2 n j) = proj (fun i => v0 (ix2 n i)) (fun i j => v2 (ix2 i j)) (fun j => v4 (ix2 0 j)) j := by
  unfold k0_pay6 proj
  refine congrArg₂ (· + ·) ((prod2_read _ _ n j).trans (Finset.sum_congr rfl fun i _ => congrArg₂ (· * ·) (same_shape v0 _ _) rfl)) ?_
  exact (wideBias_read _ n j).trans (same_shape v4 _ _)

theorem second_proj (v8 : Vec Ideal S256x1024 .f32) (v10 : Vec Ideal S1024x1024 .f32) (v12 : Vec Ideal S1x1024 .f32) (n : Fin 256) (j : Fin 1024) :
    k0_pay7 v8 v10 v12 (ix2 n j) = proj (fun i => v8 (ix2 n i)) (fun i j => v10 (ix2 i j)) (fun j => v12 (ix2 0 j)) j := by
  unfold k0_pay7 proj
  refine congrArg₂ (· + ·) ((prod3_read _ _ n j).trans (Finset.sum_congr rfl fun i _ => congrArg₂ (· * ·) (same_shape v8 _ _) rfl)) ?_
  exact (wideBias_read _ n j).trans (same_shape v12 _ _)

theorem joined_read (A B : FVec Ideal S256x1024 .f32) (n : Fin 256) (i : Fin 2048) :
    concatenate S256x2048 1 [⟨S256x1024, A⟩, ⟨S256x1024, B⟩] concatenates_S256x1024_S256x1024_S256x2048_d1 (ix2 n i)
      = joined (fun j => A (ix2 n j)) (fun j => B (ix2 n j)) i := by
  unfold joined
  by_cases h : i.val < 1024
  · rw [dif_pos h]
    refine concatenate_apply_piece (t := S256x2048) 1 [⟨S256x1024, A⟩, ⟨S256x1024, B⟩] _ (ix2 n i) 0 (show 0 < 2 by decide) S256x1024 A rfl rfl 0 rfl (ix2 n ⟨i.val, h⟩) ?_ ?_
    · intro b hb
      match b with
      | ⟨0, _⟩ => rfl
      | ⟨1, _⟩ => exact absurd rfl hb
    · show 0 + i.val = i.val
      omega
  · rw [dif_neg h]
    refine concatenate_apply_piece (t := S256x2048) 1 [⟨S256x1024, A⟩, ⟨S256x1024, B⟩] _ (ix2 n i) 1 (show 1 < 2 by decide) S256x1024 B rfl rfl 1024 rfl (ix2 n ⟨i.val - 1024, by omega⟩) ?_ ?_
    · intro b hb
      match b with
      | ⟨0, _⟩ => rfl
      | ⟨1, _⟩ => exact absurd rfl hb
    · show 1024 + (i.val - 1024) = i.val
      omega

section Rows

variable (v0 : Vec Ideal S256x768 .f32) (v2 : Vec Ideal S768x1024 .f32) (v4 : Vec Ideal S1x1024 .f32) (v8 : Vec Ideal S256x1024 .f32) (v10 : Vec Ideal S1024x1024 .f32)
  (v12 : Vec Ideal S1x1024 .f32) (v17 : Vec Ideal S2048x4 .f32) (v19 : Vec Ideal S1x4 .f32)

/-- The first projection of row `n`, and the second. -/
def rowA (n : Fin 256) : Fin 1024 → EReal := proj (fun i => v0 (ix2 n i)) (fun i j => v2 (ix2 i j)) (fun j => v4 (ix2 0 j))
def rowB (n : Fin 256) : Fin 1024 → EReal := proj (fun i => v8 (ix2 n i)) (fun i j => v10 (ix2 i j)) (fun j => v12 (ix2 0 j))
/-- The logits of row `n`. -/
def rowL (n : Fin 256) : Fin 4 → EReal := logit (rowA v0 v2 v4 n) (rowB v8 v10 v12 n) (fun i k => v17 (ix2 i k)) (fun k => v19 (ix2 0 k))

theorem gate_read (n : Fin 256) (k : Fin 4) :
    k0_pay8 v0 v2 v4 v8 v10 v12 v17 v19 (ix2 n k)
      = (∑ i, joined (rowA v0 v2 v4 n) (rowB v8 v10 v12 n) i * v17 (ix2 i k)) + v19 (ix2 0 k) := by
  unfold k0_pay8
  refine congrArg₂ (· + ·) ((prodg_read _ _ n k).trans (Finset.sum_congr rfl fun i _ => congrArg₂ (· * ·) ?_ rfl)) ?_
  · refine (joined_read _ _ n i).trans ?_
    exact congrArg₂ (fun a b => joined a b i) (funext fun j => first_proj v0 v2 v4 n j) (funext fun j => second_proj v8 v10 v12 n j)
  · exact (gateBias_read _ n k).trans (same_shape v19 _ _)

theorem column_read (o : Nat) (ho : o < 4) (Y : FVec Ideal S256x4 .f32) (h : S256x4.Slices ![0, o] S256x1) (n : Fin 256) :
    extractStridedSlice S256x1 ![0, o] Y h (ix2 n 0) = Y (ix2 n ⟨o, ho⟩) := by
  refine extractStridedSlice_apply _ _ _ _ _ fun a => ?_
  match a with
  | ⟨0, _⟩ => show n.val = 0 + n.val; omega
  | ⟨1, _⟩ => rfl

theorem logit0 (n : Fin 256) : k0_pay9 v0 v2 v4 v8 v10 v12 v17 v19 (ix2 n 0) = rowL v0 v2 v4 v8 v10 v12 v17 v19 n 0 := by
  unfold k0_pay9 rowL logit
  exact congrArg₂ Ideal.div ((column_read 0 (by decide) _ _ n).trans (gate_read v0 v2 v4 v8 v10 v12 v17 v19 n 0)) rfl
theorem logit1 (n : Fin 256) : k0_pay10 v0 v2 v4 v8 v10 v12 v17 v19 (ix2 n 0) = rowL v0 v2 v4 v8 v10 v12 v17 v19 n 1 := by
  unfold k0_pay10 rowL logit
  exact congrArg₂ Ideal.div ((column_read 1 (by decide) _ _ n).trans (gate_read v0 v2 v4 v8 v10 v12 v17 v19 n 1)) rfl
theorem logit2 (n : Fin 256) : k0_pay11 v0 v2 v4 v8 v10 v12 v17 v19 (ix2 n 0) = rowL v0 v2 v4 v8 v10 v12 v17 v19 n 2 := by
  unfold k0_pay11 rowL logit
  exact congrArg₂ Ideal.div ((column_read 2 (by decide) _ _ n).trans (gate_read v0 v2 v4 v8 v10 v12 v17 v19 n 2)) rfl
theorem logit3 (n : Fin 256) : k0_pay12 v0 v2 v4 v8 v10 v12 v17 v19 (ix2 n 0) = rowL v0 v2 v4 v8 v10 v12 v17 v19 n 3 := by
  unfold k0_pay12 rowL logit
  exact congrArg₂ Ideal.div ((column_read 3 (by decide) _ _ n).trans (gate_read v0 v2 v4 v8 v10 v12 v17 v19 n 3)) rfl
theorem logit01 (n : Fin 256) : k0_pay13 v0 v2 v4 v8 v10 v12 v17 v19 (ix2 n 0)
    = max (rowL v0 v2 v4 v8 v10 v12 v17 v19 n 0) (rowL v0 v2 v4 v8 v10 v12 v17 v19 n 1) := by
  unfold k0_pay13
  exact congrArg₂ max (logit0 v0 v2 v4 v8 v10 v12 v17 v19 n) (logit1 v0 v2 v4 v8 v10 v12 v17 v19 n)

end Rows

section Choice

variable (t0 t1 t2 t3 t4 : FVec Ideal S256x1 .f32) (y : S256x1.Idx) (L : Fin 4 → EReal)
  (h0 : t0 y = L 0) (h1 : t1 y = L 1) (h2 : t2 y = L 2) (h3 : t3 y = L 3) (h4 : t4 y = max (L 0) (L 1))

include h0 h1 h2 h3 h4

theorem most_read : k0_pay14 t2 t3 t4 y = top L := by
  show max (max (t4 y) (t2 y)) (t3 y) = _
  rw [h2, h3, h4]; rfl

theorem expo0 : k0_pay15 t0 t2 t3 t4 y = expo L 0 := by
  show Ideal.exp (t0 y - k0_pay14 t2 t3 t4 y) = _
  rw [most_read t0 t1 t2 t3 t4 y L h0 h1 h2 h3 h4, h0]; rfl
theorem expo1 : k0_pay16 t1 t2 t3 t4 y = expo L 1 := by
  show Ideal.exp (t1 y - k0_pay14 t2 t3 t4 y) = _
  rw [most_read t0 t1 t2 t3 t4 y L h0 h1 h2 h3 h4, h1]; rfl
theorem expo2 : k0_pay17 t2 t3 t4 y = expo L 2 := by
  show Ideal.exp (t2 y - k0_pay14 t2 t3 t4 y) = _
  rw [most_read t0 t1 t2 t3 t4 y L h0 h1 h2 h3 h4, h2]; rfl
theorem expo3 : k0_pay18 t2 t3 t4 y = expo L 3 := by
  show Ideal.exp (t3 y - k0_pay14 t2 t3 t4 y) = _
  rw [most_read t0 t1 t2 t3 t4 y L h0 h1 h2 h3 h4, h3]; rfl

theorem total_read : k0_pay19 t0 t1 t2 t3 t4 y = expo L 0 + expo L 1 + expo L 2 + expo L 3 := by
  show k0_pay15 t0 t2 t3 t4 y + k0_pay16 t1 t2 t3 t4 y + k0_pay17 t2 t3 t4 y + k0_pay18 t2 t3 t4 y = _
  rw [expo0 t0 t1 t2 t3 t4 y L h0 h1 h2 h3 h4, expo1 t0 t1 t2 t3 t4 y L h0 h1 h2 h3 h4, expo2 t0 t1 t2 t3 t4 y L h0 h1 h2 h3 h4, expo3 t0 t1 t2 t3 t4 y L h0 h1 h2 h3 h4]

theorem share0 : k0_pay20 t0 t1 t2 t3 t4 y = share L 0 :=
  congrArg₂ Ideal.div (expo0 t0 t1 t2 t3 t4 y L h0 h1 h2 h3 h4) (total_read t0 t1 t2 t3 t4 y L h0 h1 h2 h3 h4)
theorem share1 : k0_pay21 t0 t1 t2 t3 t4 y = share L 1 :=
  congrArg₂ Ideal.div (expo1 t0 t1 t2 t3 t4 y L h0 h1 h2 h3 h4) (total_read t0 t1 t2 t3 t4 y L h0 h1 h2 h3 h4)
theorem share2 : k0_pay22 t0 t1 t2 t3 t4 y = share L 2 :=
  congrArg₂ Ideal.div (expo2 t0 t1 t2 t3 t4 y L h0 h1 h2 h3 h4) (total_read t0 t1 t2 t3 t4 y L h0 h1 h2 h3 h4)
theorem share3 : k0_pay23 t0 t1 t2 t3 t4 y = share L 3 :=
  congrArg₂ Ideal.div (expo3 t0 t1 t2 t3 t4 y L h0 h1 h2 h3 h4) (total_read t0 t1 t2 t3 t4 y L h0 h1 h2 h3 h4)

theorem best_read : k0_pay29 t0 t1 t2 t3 t4 y = share L (pick (share L)) := by
  have e0 := share0 t0 t1 t2 t3 t4 y L h0 h1 h2 h3 h4
  have e1 := share1 t0 t1 t2 t3 t4 y L h0 h1 h2 h3 h4
  have e2 := share2 t0 t1 t2 t3 t4 y L h0 h1 h2 h3 h4
  have e3 := share3 t0 t1 t2 t3 t4 y L h0 h1 h2 h3 h4
  rw [← chain_value (share L), ← e0, ← e1, ← e2, ← e3]
  rfl

theorem number_read : k0_pay30 t0 t1 t2 t3 t4 y = BitVec.ofNat 32 (pick (share L)).val := by
  have e0 := share0 t0 t1 t2 t3 t4 y L h0 h1 h2 h3 h4
  have e1 := share1 t0 t1 t2 t3 t4 y L h0 h1 h2 h3 h4
  have e2 := share2 t0 t1 t2 t3 t4 y L h0 h1 h2 h3 h4
  have e3 := share3 t0 t1 t2 t3 t4 y L h0 h1 h2 h3 h4
  rw [← chain_word (share L), ← e0, ← e1, ← e2, ← e3]
  rfl

end Choice

theorem flag_read (b : IVec S256x1 1) (n : Fin 256) (j : Fin 1024) : broadcastTo S256x1024 b broadcasts_S256x1_S256x1024 (ix2 n j) = b (ix2 n 0) := by
  refine broadcastTo_apply _ _ _ (ix2 n (0 : Fin 1)) ?_
  intro a
  match a with
  | ⟨0, _⟩ => rfl
  | ⟨1, _⟩ => rfl

theorem sent_of_word (a b : Fin 1024 → EReal) (e : Fin 4) (j : Fin 1024) :
    Scalar.select (IntOp.cmpi .eq (BitVec.ofNat 32 e.val) 0#32) (a j)
      (Scalar.select (IntOp.cmpi .eq (BitVec.ofNat 32 e.val) 1#32) (b j) (Ideal.ofBits .f32 0x3F000000#32 * (a j + b j))) = sent a b e j := by
  unfold sent
  match e with
  | ⟨0, _⟩ => rfl
  | ⟨1, _⟩ => rfl
  | ⟨2, _⟩ => rfl
  | ⟨3, _⟩ => rfl

theorem sent_read (A B : FVec Ideal S256x1024 .f32) (t0 t1 t2 t3 t4 : FVec Ideal S256x1 .f32) (n : Fin 256) (L : Fin 4 → EReal)
    (h0 : t0 (ix2 n 0) = L 0) (h1 : t1 (ix2 n 0) = L 1) (h2 : t2 (ix2 n 0) = L 2) (h3 : t3 (ix2 n 0) = L 3) (h4 : t4 (ix2 n 0) = max (L 0) (L 1)) (j : Fin 1024) :
    k0_pay31 A B t0 t1 t2 t3 t4 (ix2 n j) = sent (fun j => A (ix2 n j)) (fun j => B (ix2 n j)) (pick (share L)) j := by
  have hn := number_read t0 t1 t2 t3 t4 (ix2 n 0) L h0 h1 h2 h3 h4
  unfold k0_pay31
  rw [← sent_of_word, ← hn]
  refine congr (congr (congrArg Scalar.select ?_) rfl) (congr (congr (congrArg Scalar.select ?_) rfl) rfl)
  · exact (flag_read _ n j).trans (same_shape _ _ _)
  · exact (flag_read _ n j).trans (same_shape _ _ _)

end Cert.Proof.Gated

end
-- ==== Proof.Gated.Out.lean ====
/-
  What one block of the gate's call leaves in its three output buffers, element by element, floats read as extended
  reals.
-/
module

public import proofs.«01_k».proof.Proof.Gated.Cell

@[expose] public section

noncomputable section

namespace Cert.Proof.Gated

open Cert.GatedIdeal Cert.GatedIdeal.Gen
open Idealize.ShloMosaic Idealize.ShloMosaic.ValueIdx

/-- A load of the whole buffer is the buffer. -/
theorem ld_all {s : Shape} {e : EltTy} (x : Vec Ideal s e) (off : Fin s.rank → Nat) (inb) (h : ∀ a, off a = 0) :
    View.ld x (Rect.unit (s := s) off s.size inb) = x := by
  funext y
  refine View.ld_unit_apply_of _ _ _ _ _ _ fun a => ?_
  rw [h a]
  exact (Nat.zero_add _).symm

theorem zero2 : ∀ a : Fin 2, (![0, 0] : Fin 2 → Nat) a = 0
  | ⟨0, _⟩ => rfl
  | ⟨1, _⟩ => rfl

variable (x0 : Vec Ideal S256x768 .f32) (x1 : Vec Ideal S256x1024 .f32) (x2 : Vec Ideal S768x1024 .f32) (x3 : Vec Ideal S1x1024 .f32) (x4 : Vec Ideal S1024x1024 .f32)
  (x5 : Vec Ideal S1x1024 .f32) (x6 : Vec Ideal S2048x4 .f32) (x7 : Vec Ideal S1x4 .f32) (x8 : Vec Ideal S256x1 .f32)

/-- The expert that row `n` picks. -/
def rowPick (n : Fin 256) : Fin 4 := pick (share (rowL x0 x2 x3 x1 x4 x5 x6 x7 n))

theorem p34 (n : Fin 256) (j : Fin 1024) : k0_pay34 x0 x1 x2 x3 x4 x5 x6 x7 x8 (ix2 n j) = rowA x0 x2 x3 n j := by
  unfold k0_pay34
  rw [ld_all x0 _ _ zero2, ld_all x2 _ _ zero2, ld_all x3 _ _ zero2]
  exact first_proj x0 x2 x3 n j
theorem p35 (n : Fin 256) (j : Fin 1024) : k0_pay35 x0 x1 x2 x3 x4 x5 x6 x7 x8 (ix2 n j) = rowB x1 x4 x5 n j := by
  unfold k0_pay35
  rw [ld_all x1 _ _ zero2, ld_all x4 _ _ zero2, ld_all x5 _ _ zero2]
  exact second_proj x1 x4 x5 n j
theorem p36 (n : Fin 256) : k0_pay36 x0 x1 x2 x3 x4 x5 x6 x7 x8 (ix2 n 0) = rowL x0 x2 x3 x1 x4 x5 x6 x7 n 0 := by
  unfold k0_pay36
  rw [ld_all x0 _ _ zero2, ld_all x1 _ _ zero2, ld_all x2 _ _ zero2, ld_all x3 _ _ zero2, ld_all x4 _ _ zero2, ld_all x5 _ _ zero2, ld_all x6 _ _ zero2, ld_all x7 _ _ zero2]
  exact logit0 x0 x2 x3 x1 x4 x5 x6 x7 n
theorem p37 (n : Fin 256) : k0_pay37 x0 x1 x2 x3 x4 x5 x6 x7 x8 (ix2 n 0) = rowL x0 x2 x3 x1 x4 x5 x6 x7 n 1 := by
  unfold k0_pay37
  rw [ld_all x0 _ _ zero2, ld_all x1 _ _ zero2, ld_all x2 _ _ zero2, ld_all x3 _ _ zero2, ld_all x4 _ _ zero2, ld_all x5 _ _ zero2, ld_all x6 _ _ zero2, ld_all x7 _ _ zero2]
  exact logit1 x0 x2 x3 x1 x4 x5 x6 x7 n
theorem p38 (n : Fin 256) : k0_pay38 x0 x1 x2 x3 x4 x5 x6 x7 x8 (ix2 n 0) = rowL x0 x2 x3 x1 x4 x5 x6 x7 n 2 := by
  unfold k0_pay38
  rw [ld_all x0 _ _ zero2, ld_all x1 _ _ zero2, ld_all x2 _ _ zero2, ld_all x3 _ _ zero2, ld_all x4 _ _ zero2, ld_all x5 _ _ zero2, ld_all x6 _ _ zero2, ld_all x7 _ _ zero2]
  exact logit2 x0 x2 x3 x1 x4 x5 x6 x7 n
theorem p39 (n : Fin 256) : k0_pay39 x0 x1 x2 x3 x4 x5 x6 x7 x8 (ix2 n 0) = rowL x0 x2 x3 x1 x4 x5 x6 x7 n 3 := by
  unfold k0_pay39
  rw [ld_all x0 _ _ zero2, ld_all x1 _ _ zero2, ld_all x2 _ _ zero2, ld_all x3 _ _ zero2, ld_all x4 _ _ zero2, ld_all x5 _ _ zero2, ld_all x6 _ _ zero2, ld_all x7 _ _ zero2]
  exact logit3 x0 x2 x3 x1 x4 x5 x6 x7 n
theorem p40 (n : Fin 256) : k0_pay40 x0 x1 x2 x3 x4 x5 x6 x7 x8 (ix2 n 0)
    = max (rowL x0 x2 x3 x1 x4 x5 x6 x7 n 0) (rowL x0 x2 x3 x1 x4 x5 x6 x7 n 1) := by
  unfold k0_pay40
  rw [ld_all x0 _ _ zero2, ld_all x1 _ _ zero2, ld_all x2 _ _ zero2, ld_all x3 _ _ zero2, ld_all x4 _ _ zero2, ld_all x5 _ _ zero2, ld_all x6 _ _ zero2, ld_all x7 _ _ zero2]
  exact logit01 x0 x2 x3 x1 x4 x5 x6 x7 n

theorem p41 (n : Fin 256) (j : Fin 1024) :
    k0_pay41 x0 x1 x2 x3 x4 x5 x6 x7 x8 (ix2 n j) = sent (rowA x0 x2 x3 n) (rowB x1 x4 x5 n) (rowPick x0 x1 x2 x3 x4 x5 x6 x7 n) j := by
  unfold k0_pay41 rowPick
  refine (sent_read _ _ _ _ _ _ _ n (rowL x0 x2 x3 x1 x4 x5 x6 x7 n) (p36 x0 x1 x2 x3 x4 x5 x6 x7 x8 n) (p37 x0 x1 x2 x3 x4 x5 x6 x7 x8 n)
    (p38 x0 x1 x2 x3 x4 x5 x6 x7 x8 n) (p39 x0 x1 x2 x3 x4 x5 x6 x7 x8 n) (p40 x0 x1 x2 x3 x4 x5 x6 x7 x8 n) j).trans ?_
  exact congrArg₂ (fun a b => sent a b _ j) (funext fun j => p34 x0 x1 x2 x3 x4 x5 x6 x7 x8 n j) (funext fun j => p35 x0 x1 x2 x3 x4 x5 x6 x7 x8 n j)

/-! ## The three buffers -/

/-- A quarter of the columns, stored as one block of the first buffer. -/
theorem quarter_store (k : Nat) (hk : k < 4) (inb) (o : Nat) (ho : o = k * 256) (hs : S256x1024.Slices ![0, o] S256x256) (Y : FVec Ideal S256x1024 .f32)
    (x : (Rect.unit (s := S4x256x256) ![k, 0, 0] S1x256x256.size inb).shape.Idx) :
    shapeCast S1x256x256 (extractStridedSlice S256x256 ![0, o] Y hs) shapeCasts_S256x256_S1x256x256 x
      = Y (ix2 ((Rect.unit (s := S4x256x256) ![k, 0, 0] S1x256x256.size inb).emb x 1)
          (wide ((Rect.unit (s := S4x256x256) ![k, 0, 0] S1x256x256.size inb).emb x 0) ((Rect.unit (s := S4x256x256) ![k, 0, 0] S1x256x256.size inb).emb x 2))) := by
  subst ho
  have hx0 : (x 0).val < 1 := (x 0).isLt
  have e0 : ((Rect.unit (s := S4x256x256) ![k, 0, 0] S1x256x256.size inb).emb x 0).val = k + 1 * (x 0).val := rfl
  have e1 : ((Rect.unit (s := S4x256x256) ![k, 0, 0] S1x256x256.size inb).emb x 1).val = 0 + 1 * (x 1).val := rfl
  have e2 : ((Rect.unit (s := S4x256x256) ![k, 0, 0] S1x256x256.size inb).emb x 2).val = 0 + 1 * (x 2).val := rfl
  refine (shapeCast_apply _ _ x (ix2 (x 1 : Fin 256) (x 2 : Fin 256)) ?_).trans ?_
  · rw [Shape.rowMajor_val_two]
    refine Eq.trans ?_ (Shape.rowMajor_val_three (d := ![1, 256, 256]) x).symm
    show (x 1).val * 256 + (x 2).val = ((x 0).val * 256 + (x 1).val) * 256 + (x 2).val
    omega
  refine extractStridedSlice_apply _ _ _ _ _ fun a => ?_
  match a with
  | ⟨0, _⟩ => show ((Rect.unit (s := S4x256x256) ![k, 0, 0] S1x256x256.size inb).emb x 1).val = 0 + (x 1).val; rw [e1]; omega
  | ⟨1, _⟩ =>
    show ((Rect.unit (s := S4x256x256) ![k, 0, 0] S1x256x256.size inb).emb x 0).val * 256 + ((Rect.unit (s := S4x256x256) ![k, 0, 0] S1x256x256.size inb).emb x 2).val = k * 256 + (x 2).val
    rw [e0, e2]; omega

theorem out9_read (q : Fin 4) (n c : Fin 256) :
    out0_9 x0 x1 x2 x3 x4 x5 x6 x7 x8 (ix3 q n c) = sent (rowA x0 x2 x3 n) (rowB x1 x4 x5 n) (rowPick x0 x1 x2 x3 x4 x5 x6 x7 n) (wide q c) := by
  unfold out0_9
  refine (View.canon_apply_of_pieces (fun y : S4x256x256.Idx => k0_pay41 x0 x1 x2 x3 x4 x5 x6 x7 x8 (ix2 (y 1) (wide (y 0) (y 2)))) _ ?_ (ix3 q n c) (cover0_9 _ _ _ _ _)).trans
    (p41 x0 x1 x2 x3 x4 x5 x6 x7 x8 n (wide q c))
  intro p hp x
  simp only [List.mem_cons, List.not_mem_nil, or_false] at hp
  rcases hp with rfl | rfl | rfl | rfl
  · exact quarter_store 3 (by omega) inb_S4x256x256_S1x256x256_3_0_0 768 rfl slices_S256x1024_o0_768_S256x256 (k0_pay41 x0 x1 x2 x3 x4 x5 x6 x7 x8) x
  · exact quarter_store 2 (by omega) inb_S4x256x256_S1x256x256_2_0_0 512 rfl slices_S256x1024_o0_512_S256x256 (k0_pay41 x0 x1 x2 x3 x4 x5 x6 x7 x8) x
  · exact quarter_store 1 (by omega) inb_S4x256x256_S1x256x256_1_0_0 256 rfl slices_S256x1024_o0_256_S256x256 (k0_pay41 x0 x1 x2 x3 x4 x5 x6 x7 x8) x
  · exact quarter_store 0 (by omega) inb_S4x256x256_S1x256x256_0_0_0 0 rfl slices_S256x1024_o0_0_S256x256 (k0_pay41 x0 x1 x2 x3 x4 x5 x6 x7 x8) x

theorem weighted_read (v : FVec Ideal S256x1 .f32) (w : Vec Ideal S256x1 .f32) (n : Fin 256) (k : Fin 128) :
    k0_pay4 v w (ix2 n k) = v (ix2 n 0) * w (ix2 n 0) := by
  unfold k0_pay4
  refine (broadcastTo_apply _ _ _ (ix2 n (0 : Fin 1)) ?_).trans ?_
  · intro a
    match a with
    | ⟨0, _⟩ => rfl
    | ⟨1, _⟩ => rfl
  refine (same_shape _ _ _).trans ?_
  exact congrArg₂ (· * ·) rfl (same_shape w _ _)

theorem canon_pair (p : Vec Ideal S256x128 .f32) (y : S256x128.Idx) : View.canon [⟨r0_12, p⟩] y = p y := by
  refine View.canon_apply_of_pieces p _ ?_ y (cover0_10 p y)
  intro pc hp x
  obtain rfl := List.mem_singleton.1 hp
  refine congrArg p (funext fun a => Fin.ext ?_)
  match a with
  | ⟨0, _⟩ => show (x 0).val = 0 + 1 * (x 0).val; omega
  | ⟨1, _⟩ => show (x 1).val = 0 + 1 * (x 1).val; omega

theorem canon_words (p : Vec Ideal S1x2x128 .i32) (y : S1x2x128.Idx) : View.canon [⟨r0_13, p⟩] y = p y := by
  refine View.canon_apply_of_pieces p _ ?_ y (cover0_11 p y)
  intro pc hp x
  obtain rfl := List.mem_singleton.1 hp
  refine congrArg p (funext fun a => Fin.ext ?_)
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega

theorem out10_read (n : Fin 256) (k : Fin 128) :
    out0_10 x0 x1 x2 x3 x4 x5 x6 x7 x8 (ix2 n k)
      = share (rowL x0 x2 x3 x1 x4 x5 x6 x7 n) (rowPick x0 x1 x2 x3 x4 x5 x6 x7 n) * x8 (ix2 n 0) := by
  unfold out0_10 rowPick
  refine (canon_pair _ _).trans ((weighted_read _ _ n k).trans ?_)
  rw [ld_all x8 _ _ zero2]
  refine congrArg₂ (· * ·) ?_ rfl
  exact best_read _ _ _ _ _ (ix2 n 0) (rowL x0 x2 x3 x1 x4 x5 x6 x7 n) (p36 x0 x1 x2 x3 x4 x5 x6 x7 x8 n) (p37 x0 x1 x2 x3 x4 x5 x6 x7 x8 n)
    (p38 x0 x1 x2 x3 x4 x5 x6 x7 x8 n) (p39 x0 x1 x2 x3 x4 x5 x6 x7 x8 n) (p40 x0 x1 x2 x3 x4 x5 x6 x7 x8 n)

/-- Row `128 a + l`. -/
def pairRow (a : Fin 2) (l : Fin 128) : Fin 256 := ⟨a.val * 128 + l.val, by omega⟩

theorem paired_read (v : IVec S256x1 32) (a : Fin 2) (l : Fin 128) : k0_pay5 v (ix3 0 a l) = v (ix2 (pairRow a l) 0) := by
  unfold k0_pay5
  refine (shapeCast_apply _ _ _ (ix2 a l) (by rw [Shape.rowMajor_val_two, Shape.rowMajor_val_three]; show a.val * 128 + l.val = (0 * 2 + a.val) * 128 + l.val; omega)).trans ?_
  exact shapeCast_apply _ _ _ (ix2 (pairRow a l) (0 : Fin 1)) (by rw [Shape.rowMajor_val_two, Shape.rowMajor_val_two]; show (a.val * 128 + l.val) * 1 + 0 = a.val * 128 + l.val; omega)

theorem out11_read (a : Fin 2) (l : Fin 128) :
    out0_11 x0 x1 x2 x3 x4 x5 x6 x7 x8 (ix3 0 a l) = BitVec.ofNat 32 (rowPick x0 x1 x2 x3 x4 x5 x6 x7 (pairRow a l)).val := by
  unfold out0_11 rowPick
  refine (canon_words _ _).trans ?_
  refine (paired_read _ a l).trans ?_
  exact number_read _ _ _ _ _ (ix2 (pairRow a l) 0) (rowL x0 x2 x3 x1 x4 x5 x6 x7 (pairRow a l)) (p36 x0 x1 x2 x3 x4 x5 x6 x7 x8 _) (p37 x0 x1 x2 x3 x4 x5 x6 x7 x8 _)
    (p38 x0 x1 x2 x3 x4 x5 x6 x7 x8 _) (p39 x0 x1 x2 x3 x4 x5 x6 x7 x8 _) (p40 x0 x1 x2 x3 x4 x5 x6 x7 x8 _)

end Cert.Proof.Gated

end
-- ==== Proof.Gated.Block.lean ====
/-
  The gate's call, array by array: which elements of the arguments a block holds, and what the call leaves in its three
  output arrays, element by element.
-/
module

public import proofs.«01_k».proof.Proof.Gated.Out
public import Idealize.ShloMosaic.Lib.Pipeline.ValueKit.Geometry

@[expose] public section

noncomputable section

namespace Cert.Proof.Gated

open Cert.GatedIdeal Cert.GatedIdeal.Gen
open Idealize.ShloMosaic Idealize.ShloMosaic.TcCoe Idealize.ShloMosaic.ValueIdx
open Idealize.ShloMosaic.Pipeline (Dat Cfg Window arrRef)

variable (m : (ℓ : Loc nD τ sig) → Buf (Elt Ideal) ℓ)

/-- An argument, and a buffer as the call finds it, on the one device. -/
abbrev arg (b : Ref sig .tc) : Buf (Elt Ideal) (((0 : Dev nD) : Thread nD τ).loc b) := m (((0 : Dev nD) : Thread nD τ).loc b)

/-! ## The arrays the call reads -/

theorem V_v0 : V m 0 main_v0 = shapeCast S8192x768 (arg m main_arg0) shapeCasts_S4x2048x768_S8192x768 := by
  unfold V
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl
theorem V_v1 : V m 0 main_v1 = shapeCast S8192x1024 (arg m main_arg1) shapeCasts_S4x2048x1024_S8192x1024 := by
  unfold V
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl
theorem V_v4 : V m 0 main_v4 = uitofp (F := Ideal) .f32 (shapeCast S8192x1 (andi (arg m main_arg2) (arg m main_arg3)) shapeCasts_S4x2048_S8192x1) := by
  unfold V
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl
theorem V_v5 : V m 0 main_v5 = shapeCast S1x1024 (arg m main_arg5) shapeCasts_S1024_S1x1024 := by
  unfold V
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl
theorem V_v6 : V m 0 main_v6 = shapeCast S1x1024 (arg m main_arg7) shapeCasts_S1024_S1x1024 := by
  unfold V
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl
theorem V_v7 : V m 0 main_v7 = shapeCast S1x4 (arg m main_arg9) shapeCasts_S4_S1x4 := by
  unfold V
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem hilo (r : Fin 8192) : r.val / 2048 * 2048 + r.val % 2048 = r.val := by omega

theorem v0_read (r : Fin 8192) (i : Fin 768) : V m 0 main_v0 (ix2 r i) = arg m main_arg0 (ix3 (hi r) (lo r) i) := by
  rw [V_v0]
  refine shapeCast_apply (s := S4x2048x768) (t := S8192x768) _ _ (ix2 r i) (ix3 (hi r) (lo r) i : S4x2048x768.Idx) ?_
  rw [Shape.rowMajor_val_two, Shape.rowMajor_val_three]
  have := hilo r
  show (r.val / 2048 * 2048 + r.val % 2048) * 768 + i.val = r.val * 768 + i.val
  omega
theorem v1_read (r : Fin 8192) (i : Fin 1024) : V m 0 main_v1 (ix2 r i) = arg m main_arg1 (ix3 (hi r) (lo r) i) := by
  rw [V_v1]
  refine shapeCast_apply (s := S4x2048x1024) (t := S8192x1024) _ _ (ix2 r i) (ix3 (hi r) (lo r) i : S4x2048x1024.Idx) ?_
  rw [Shape.rowMajor_val_two, Shape.rowMajor_val_three]
  have := hilo r
  show (r.val / 2048 * 2048 + r.val % 2048) * 1024 + i.val = r.val * 1024 + i.val
  omega
theorem v4_read (r : Fin 8192) : V m 0 main_v4 (ix2 r 0) = uitofp (F := Ideal) .f32 (andi (arg m main_arg2) (arg m main_arg3)) (ix2 (hi r) (lo r)) := by
  rw [V_v4]
  refine congrArg (FloatOps.uitofp (F := Ideal) .f32) (shapeCast_apply (s := S4x2048) (t := S8192x1) _ _ (ix2 r 0) (ix2 (hi r) (lo r) : S4x2048.Idx) ?_)
  rw [Shape.rowMajor_val_two, Shape.rowMajor_val_two]
  have := hilo r
  show r.val / 2048 * 2048 + r.val % 2048 = r.val * 1 + 0
  omega
theorem v5_read (j : Fin 1024) : V m 0 main_v5 (ix2 0 j) = arg m main_arg5 (ix1 j) := by
  rw [V_v5]
  refine shapeCast_apply (s := S1024) (t := S1x1024) _ _ (ix2 0 j) (ix1 j : S1024.Idx) ?_
  rw [Shape.rowMajor_val_one, Shape.rowMajor_val_two]
  show j.val = 0 * 1024 + j.val
  omega
theorem v6_read (j : Fin 1024) : V m 0 main_v6 (ix2 0 j) = arg m main_arg7 (ix1 j) := by
  rw [V_v6]
  refine shapeCast_apply (s := S1024) (t := S1x1024) _ _ (ix2 0 j) (ix1 j : S1024.Idx) ?_
  rw [Shape.rowMajor_val_one, Shape.rowMajor_val_two]
  show j.val = 0 * 1024 + j.val
  omega
theorem v7_read (k : Fin 4) : V m 0 main_v7 (ix2 0 k) = arg m main_arg9 (ix1 k) := by
  rw [V_v7]
  refine shapeCast_apply (s := S4) (t := S1x4) _ _ (ix2 0 k) (ix1 k : S4.Idx) ?_
  rw [Shape.rowMajor_val_one, Shape.rowMajor_val_two]
  show k.val = 0 * 4 + k.val
  omega

/-! ## The blocks -/

/-- The point of block `t`, and row `n` of it. -/
def pt (t : Fin 32) : Fin cfg0.N := t.cast (show 32 = grid0.N from N_0.symm)
def rowOf (t : Fin 32) (n : Fin 256) : Fin 8192 := ⟨t.val * 256 + n.val, by omega⟩

theorem coord_pt (t : Fin 32) : (grid0.coords (pt t) 0).val = t.val := by
  refine (Pipeline.Grid.coords_val (G := grid0) (pt t) 0 (S := 1) (B := 32) (by decide) rfl).trans ?_
  show t.val / 1 % 32 = t.val
  omega

theorem word_pt (t : Fin 32) : (BitVec.ofNat 32 (grid0.coords (pt t) 0).val).toNat = t.val := by
  rw [coord_pt, BitVec.toNat_ofNat]; have := t.isLt; omega

variable (t : Fin 32)

theorem blk_0 (n : Fin 256) (i : Fin 768) : iblk m 0 0 (pt t) (ix2 n i) = arg m main_arg0 (ix3 (hi (rowOf t n)) (lo (rowOf t n)) i) := by
  refine Eq.trans ?_ (v0_read m (rowOf t n) i)
  unfold iblk
  refine congrArg (V m 0 main_v0) (funext fun a => Fin.ext ?_)
  have h := word_pt t
  match a with
  | ⟨0, _⟩ => show (BitVec.ofNat 32 (grid0.coords (pt t) 0).val).toNat * 256 + 1 * n.val = t.val * 256 + n.val; rw [h]; omega
  | ⟨1, _⟩ => show 0 * 768 + 1 * i.val = i.val; omega
theorem blk_1 (n : Fin 256) (i : Fin 1024) : iblk m 0 1 (pt t) (ix2 n i) = arg m main_arg1 (ix3 (hi (rowOf t n)) (lo (rowOf t n)) i) := by
  refine Eq.trans ?_ (v1_read m (rowOf t n) i)
  unfold iblk
  refine congrArg (V m 0 main_v1) (funext fun a => Fin.ext ?_)
  have h := word_pt t
  match a with
  | ⟨0, _⟩ => show (BitVec.ofNat 32 (grid0.coords (pt t) 0).val).toNat * 256 + 1 * n.val = t.val * 256 + n.val; rw [h]; omega
  | ⟨1, _⟩ => show 0 * 1024 + 1 * i.val = i.val; omega
theorem blk_8 (n : Fin 256) : iblk m 0 8 (pt t) (ix2 n 0)
    = uitofp (F := Ideal) .f32 (andi (arg m main_arg2) (arg m main_arg3)) (ix2 (hi (rowOf t n)) (lo (rowOf t n))) := by
  refine Eq.trans ?_ (v4_read m (rowOf t n))
  unfold iblk
  refine congrArg (V m 0 main_v4) (funext fun a => Fin.ext ?_)
  have h := word_pt t
  match a with
  | ⟨0, _⟩ => show (BitVec.ofNat 32 (grid0.coords (pt t) 0).val).toNat * 256 + 1 * n.val = t.val * 256 + n.val; rw [h]; omega
  | ⟨1, _⟩ => rfl
theorem blk_2 (i : Fin 768) (j : Fin 1024) : iblk m 0 2 (pt t) (ix2 i j) = arg m main_arg4 (ix2 i j) := by
  refine Eq.trans ?_ (congrFun (V_main_arg4 m 0) (ix2 i j))
  unfold iblk
  refine congrArg (V m 0 main_arg4) (funext fun a => Fin.ext ?_)
  match a with
  | ⟨0, _⟩ => show 0 * 768 + 1 * i.val = i.val; omega
  | ⟨1, _⟩ => show 0 * 1024 + 1 * j.val = j.val; omega
theorem blk_4 (i j : Fin 1024) : iblk m 0 4 (pt t) (ix2 i j) = arg m main_arg6 (ix2 i j) := by
  refine Eq.trans ?_ (congrFun (V_main_arg6 m 0) (ix2 i j))
  unfold iblk
  refine congrArg (V m 0 main_arg6) (funext fun a => Fin.ext ?_)
  match a with
  | ⟨0, _⟩ => show 0 * 1024 + 1 * i.val = i.val; omega
  | ⟨1, _⟩ => show 0 * 1024 + 1 * j.val = j.val; omega
theorem blk_6 (i : Fin 2048) (k : Fin 4) : iblk m 0 6 (pt t) (ix2 i k) = arg m main_arg8 (ix2 i k) := by
  refine Eq.trans ?_ (congrFun (V_main_arg8 m 0) (ix2 i k))
  unfold iblk
  refine congrArg (V m 0 main_arg8) (funext fun a => Fin.ext ?_)
  match a with
  | ⟨0, _⟩ => show 0 * 2048 + 1 * i.val = i.val; omega
  | ⟨1, _⟩ => show 0 * 4 + 1 * k.val = k.val; omega
theorem blk_3 (j : Fin 1024) : iblk m 0 3 (pt t) (ix2 0 j) = arg m main_arg5 (ix1 j) := by
  refine Eq.trans ?_ (v5_read m j)
  unfold iblk
  refine congrArg (V m 0 main_v5) (funext fun a => Fin.ext ?_)
  match a with
  | ⟨0, _⟩ => rfl
  | ⟨1, _⟩ => show 0 * 1024 + 1 * j.val = j.val; omega
theorem blk_5 (j : Fin 1024) : iblk m 0 5 (pt t) (ix2 0 j) = arg m main_arg7 (ix1 j) := by
  refine Eq.trans ?_ (v6_read m j)
  unfold iblk
  refine congrArg (V m 0 main_v6) (funext fun a => Fin.ext ?_)
  match a with
  | ⟨0, _⟩ => rfl
  | ⟨1, _⟩ => show 0 * 1024 + 1 * j.val = j.val; omega
theorem blk_7 (k : Fin 4) : iblk m 0 7 (pt t) (ix2 0 k) = arg m main_arg9 (ix1 k) := by
  refine Eq.trans ?_ (v7_read m k)
  unfold iblk
  refine congrArg (V m 0 main_v7) (funext fun a => Fin.ext ?_)
  match a with
  | ⟨0, _⟩ => rfl
  | ⟨1, _⟩ => show 0 * 4 + 1 * k.val = k.val; omega

/-! ## A row's numbers, from the arguments -/

def gA (r : Fin 8192) : Fin 1024 → EReal := tokA (arg m main_arg0) (arg m main_arg4) (arg m main_arg5) (hi r) (lo r)
def gB (r : Fin 8192) : Fin 1024 → EReal := tokB (arg m main_arg1) (arg m main_arg6) (arg m main_arg7) (hi r) (lo r)
def gL (r : Fin 8192) : Fin 4 → EReal := tokL (gA m r) (gB m r) (arg m main_arg8) (arg m main_arg9)
def gE (r : Fin 8192) : Fin 4 := pick (share (gL m r))

theorem rowA_eq (n : Fin 256) : rowA (iblk m 0 0 (pt t)) (iblk m 0 2 (pt t)) (iblk m 0 3 (pt t)) n = gA m (rowOf t n) := by
  unfold rowA gA tokA
  exact congr (congrArg₂ proj (funext fun i => blk_0 m t n i) (funext fun i => funext fun j => blk_2 m t i j)) (funext fun j => blk_3 m t j)
theorem rowB_eq (n : Fin 256) : rowB (iblk m 0 1 (pt t)) (iblk m 0 4 (pt t)) (iblk m 0 5 (pt t)) n = gB m (rowOf t n) := by
  unfold rowB gB tokB
  exact congr (congrArg₂ proj (funext fun i => blk_1 m t n i) (funext fun i => funext fun j => blk_4 m t i j)) (funext fun j => blk_5 m t j)
theorem rowL_eq (n : Fin 256) : rowL (iblk m 0 0 (pt t)) (iblk m 0 2 (pt t)) (iblk m 0 3 (pt t)) (iblk m 0 1 (pt t)) (iblk m 0 4 (pt t)) (iblk m 0 5 (pt t))
    (iblk m 0 6 (pt t)) (iblk m 0 7 (pt t)) n = gL m (rowOf t n) := by
  unfold rowL gL tokL
  exact congr (congr (congrArg₂ logit (rowA_eq m t n) (rowB_eq m t n)) (funext fun i => funext fun k => blk_6 m t i k)) (funext fun k => blk_7 m t k)
theorem rowPick_eq (n : Fin 256) : rowPick (iblk m 0 0 (pt t)) (iblk m 0 1 (pt t)) (iblk m 0 2 (pt t)) (iblk m 0 3 (pt t)) (iblk m 0 4 (pt t)) (iblk m 0 5 (pt t))
    (iblk m 0 6 (pt t)) (iblk m 0 7 (pt t)) n = gE m (rowOf t n) := by
  unfold rowPick gE
  rw [rowL_eq]

/-! ## The three arrays -/

def rowsArr : S4x8192x256.Idx → EReal := fun i => sent (gA m (i 1)) (gB m (i 1)) (gE m (i 1)) (wide (i 0) (i 2))
def weightArr : S8192x128.Idx → EReal := fun i =>
  share (gL m (i 0)) (gE m (i 0)) * uitofp (F := Ideal) .f32 (andi (arg m main_arg2) (arg m main_arg3)) (ix2 (hi (i 0)) (lo (i 0)))
def numberArr : S32x2x128.Idx → BitVec 32 := fun i => BitVec.ofNat 32 (gE m (flat (i 0) (i 1) (i 2))).val

def tileOf (r : Fin 8192) : Fin 32 := ⟨r.val / 256, by omega⟩
def inTile (r : Fin 8192) : Fin 256 := ⟨r.val % 256, by omega⟩

theorem flush_9 : ∀ t, (cfg0.win 9).flush t = true :=
  fun t => (Pipeline.Window.flushOf_reads cc0_transform_9 reads0_9 hreads0_9 0 (by decide) (by decide) (Pipeline.Window.sep_of_coord cc0_transform_9 0 1 (fun _ => rfl) (by decide)) (P := 1) (m := 0) (by decide) rfl t).mpr (Nat.mod_one _)
theorem flush_10 : ∀ t, (cfg0.win 10).flush t = true :=
  fun t => (Pipeline.Window.flushOf_reads cc0_transform_10 reads0_10 hreads0_10 0 (by decide) (by decide) (Pipeline.Window.sep_of_coord cc0_transform_10 0 0 (fun _ => rfl) (by decide)) (P := 1) (m := 0) (by decide) rfl t).mpr (Nat.mod_one _)
theorem flush_11 : ∀ t, (cfg0.win 11).flush t = true :=
  fun t => (Pipeline.Window.flushOf_reads cc0_transform_11 reads0_11 hreads0_11 0 (by decide) (by decide) (Pipeline.Window.sep_of_coord cc0_transform_11 0 0 (fun _ => rfl) (by decide)) (P := 1) (m := 0) (by decide) rfl t).mpr (Nat.mod_one _)

theorem row_out (q : Fin 4) (n k : Fin 256) :
    out0_9 (iblk m 0 0 (pt t)) (iblk m 0 1 (pt t)) (iblk m 0 2 (pt t)) (iblk m 0 3 (pt t)) (iblk m 0 4 (pt t)) (iblk m 0 5 (pt t))
      (iblk m 0 6 (pt t)) (iblk m 0 7 (pt t)) (iblk m 0 8 (pt t)) (ix3 q n k) = rowsArr m (ix3 q (rowOf t n) k) := by
  refine (out9_read (iblk m 0 0 (pt t)) (iblk m 0 1 (pt t)) (iblk m 0 2 (pt t)) (iblk m 0 3 (pt t)) (iblk m 0 4 (pt t)) (iblk m 0 5 (pt t))
    (iblk m 0 6 (pt t)) (iblk m 0 7 (pt t)) (iblk m 0 8 (pt t)) q n k).trans ?_
  rw [rowA_eq, rowB_eq, rowPick_eq]
  rfl

theorem rows_out : (dats m 0 0).arrAt 9 cfg0.N = rowsArr m := by
  refine Dat.arrAt_eq_of_emb (dats m 0 0) 9 _ ?_ ?_
  · intro t _ y
    obtain ⟨t, rfl⟩ : ∃ t' : Fin 32, t = pt t' := ⟨t.cast N_0, rfl⟩
    obtain ⟨q, n, k, rfl⟩ : ∃ (q : Fin 4) (n k : Fin 256), y = (ix3 q n k : S4x256x256.Idx) := ⟨y 0, y 1, y 2, eq_ix3 (y : S4x256x256.Idx)⟩
    have e1 : ((cfg0.win 9).blk (pt t)).view.emb (ix3 q n k : S4x256x256.Idx) = (ix3 q (rowOf t n) k : S4x8192x256.Idx) := by
      have h := word_pt t
      funext a
      refine Fin.ext ?_
      match a with
      | ⟨0, _⟩ => show 0 * 4 + 1 * q.val = q.val; omega
      | ⟨1, _⟩ => show (BitVec.ofNat 32 (grid0.coords (pt t) 0).val).toNat * 256 + 1 * n.val = t.val * 256 + n.val; rw [h]; omega
      | ⟨2, _⟩ => show 0 * 256 + 1 * k.val = k.val; omega
    have e3 : (cfg0.win 9).xinj (cfg0.grid.coords (pt t)) (ix3 q n k : S4x256x256.Idx) = (ix3 q n k : S4x256x256.Idx) := by
      funext a
      match a with
      | ⟨0, _⟩ => rfl
      | ⟨1, _⟩ => rfl
      | ⟨2, _⟩ => rfl
    rw [e1, after0_9, e3]
    exact (cast_eq _ _).trans (row_out m t q n k)
  · intro i'
    let i : S4x8192x256.Idx := i'
    show ∃ t, _ ∧ i ∈ _
    have h0 : (i 1).val < 8192 := (i 1).isLt
    refine ⟨pt (tileOf (i 1)), flush_9 _, ?_⟩
    have e1 : i = ((cfg0.win 9).blk (pt (tileOf (i 1)))).view.emb (ix3 (i 0) (inTile (i 1)) (i 2) : S4x256x256.Idx) := by
      have h := word_pt (tileOf (i 1))
      funext a
      refine Fin.ext ?_
      match a with
      | ⟨0, _⟩ => show (i 0).val = 0 * 4 + 1 * (i 0).val; omega
      | ⟨1, _⟩ =>
        show (i 1).val = (BitVec.ofNat 32 (grid0.coords (pt (tileOf (i 1))) 0).val).toNat * 256 + 1 * ((i 1).val % 256)
        rw [h]; show (i 1).val = (i 1).val / 256 * 256 + 1 * ((i 1).val % 256); omega
      | ⟨2, _⟩ => show (i 2).val = 0 * 256 + 1 * (i 2).val; omega
    exact Finset.mem_map.2 ⟨(ix3 (i 0) (inTile (i 1)) (i 2) : S4x256x256.Idx), Finset.mem_univ _, e1.symm⟩

theorem weight_out : (dats m 0 0).arrAt 10 cfg0.N = weightArr m := by
  refine Dat.arrAt_eq_of_emb (dats m 0 0) 10 _ ?_ ?_
  · intro t _ y
    obtain ⟨t, rfl⟩ : ∃ t' : Fin 32, t = pt t' := ⟨t.cast N_0, rfl⟩
    obtain ⟨n, k, rfl⟩ : ∃ (n : Fin 256) (k : Fin 128), y = (ix2 n k : S256x128.Idx) := ⟨y 0, y 1, eq_ix2 (y : S256x128.Idx)⟩
    have e1 : ((cfg0.win 10).blk (pt t)).view.emb (ix2 n k : S256x128.Idx) = (ix2 (rowOf t n) k : S8192x128.Idx) := by
      have h := word_pt t
      funext a
      refine Fin.ext ?_
      match a with
      | ⟨0, _⟩ => show (BitVec.ofNat 32 (grid0.coords (pt t) 0).val).toNat * 256 + 1 * n.val = t.val * 256 + n.val; rw [h]; omega
      | ⟨1, _⟩ => show 0 * 128 + 1 * k.val = k.val; omega
    rw [e1, after0_10]
    refine (out10_read _ _ _ _ _ _ _ _ _ n k).trans ?_
    rw [rowL_eq, rowPick_eq, blk_8]
    rfl
  · intro i'
    let i : S8192x128.Idx := i'
    show ∃ t, _ ∧ i ∈ _
    have h0 : (i 0).val < 8192 := (i 0).isLt
    refine ⟨pt (tileOf (i 0)), flush_10 _, ?_⟩
    have e1 : i = ((cfg0.win 10).blk (pt (tileOf (i 0)))).view.emb (ix2 (inTile (i 0)) (i 1) : S256x128.Idx) := by
      have h := word_pt (tileOf (i 0))
      funext a
      refine Fin.ext ?_
      match a with
      | ⟨0, _⟩ =>
        show (i 0).val = (BitVec.ofNat 32 (grid0.coords (pt (tileOf (i 0))) 0).val).toNat * 256 + 1 * ((i 0).val % 256)
        rw [h]; show (i 0).val = (i 0).val / 256 * 256 + 1 * ((i 0).val % 256); omega
      | ⟨1, _⟩ => show (i 1).val = 0 * 128 + 1 * (i 1).val; omega
    exact Finset.mem_map.2 ⟨(ix2 (inTile (i 0)) (i 1) : S256x128.Idx), Finset.mem_univ _, e1.symm⟩

theorem number_out : (dats m 0 0).arrAt 11 cfg0.N = numberArr m := by
  refine Dat.arrAt_eq_of_emb (dats m 0 0) 11 _ ?_ ?_
  · intro t _ y
    obtain ⟨t, rfl⟩ : ∃ t' : Fin 32, t = pt t' := ⟨t.cast N_0, rfl⟩
    obtain ⟨a, l, rfl⟩ : ∃ (a : Fin 2) (l : Fin 128), y = (ix3 0 a l : S1x2x128.Idx) := by
      refine ⟨y 1, y 2, (eq_ix3 (y : S1x2x128.Idx)).trans ?_⟩
      congr 1
      exact Subsingleton.elim (α := Fin 1) _ _
    have e1 : ((cfg0.win 11).blk (pt t)).view.emb (ix3 0 a l : S1x2x128.Idx) = (ix3 t a l : S32x2x128.Idx) := by
      have h := word_pt t
      funext a'
      refine Fin.ext ?_
      match a' with
      | ⟨0, _⟩ => show (BitVec.ofNat 32 (grid0.coords (pt t) 0).val).toNat * 1 + 1 * 0 = t.val; rw [h]; omega
      | ⟨1, _⟩ => show 0 * 2 + 1 * a.val = a.val; omega
      | ⟨2, _⟩ => show 0 * 128 + 1 * l.val = l.val; omega
    rw [e1, after0_11]
    refine (out11_read _ _ _ _ _ _ _ _ _ a l).trans ?_
    rw [rowPick_eq]
    rfl
  · intro i'
    let i : S32x2x128.Idx := i'
    show ∃ t, _ ∧ i ∈ _
    refine ⟨pt (i 0), flush_11 _, ?_⟩
    have e1 : i = ((cfg0.win 11).blk (pt (i 0))).view.emb (ix3 0 (i 1) (i 2) : S1x2x128.Idx) := by
      have h := word_pt (i 0)
      funext a
      refine Fin.ext ?_
      match a with
      | ⟨0, _⟩ =>
        show (i 0).val = (BitVec.ofNat 32 (grid0.coords (pt (i 0)) 0).val).toNat * 1 + 1 * 0
        rw [h]; omega
      | ⟨1, _⟩ => show (i 1).val = 0 * 2 + 1 * (i 1).val; omega
      | ⟨2, _⟩ => show (i 2).val = 0 * 128 + 1 * (i 2).val; omega
    exact Finset.mem_map.2 ⟨(ix3 0 (i 1) (i 2) : S1x2x128.Idx), Finset.mem_univ _, e1.symm⟩

end Cert.Proof.Gated

end
-- ==== Proof.Gated.Ref.lean ====
/-
  The reference for the gate's call, read at an element, floats read as extended reals: the projections, the logits,
  their shares, the expert picked and its share, and the row sent on.
-/
module

public import proofs.«01_k».proof.Proof.Gated.Cell
public import proofs.«01_k».proof.Proof.Gen.GatesIdeal.Run
public import Idealize.ShloMosaic.Lib.Pointwise

@[expose] public section

noncomputable section

namespace Cert.Proof.Gated

open Cert.GatesIdeal Cert.GatesIdeal.Facts₀
open Idealize.ShloMosaic hiding ix0 ix1 ix2 ix3 ix4
open Idealize.ShloMosaic.ValueIdx

/-! ## The stages -/

abbrev projA (a0 : FVec Ideal S4x2048x768 .f32) (a4 : FVec Ideal S768x1024 .f32) (a5 : FVec Ideal S1024 .f32) : FVec Ideal S4x2048x1024 .f32 :=
  addf (Host.dotGeneral dot_S4x2048x768_S768x1024_S4x2048x1024_2_0_01_1_n_n none a0 a4)
    (broadcastInDim S4x2048x1024 ![0, 1, 2] bcast_S1x1x1024_S4x2048x1024_0_1_2 (broadcastInDim S1x1x1024 ![2] bcast_S1024_S1x1x1024_2 a5))

abbrev projB (a1 : FVec Ideal S4x2048x1024 .f32) (a6 : FVec Ideal S1024x1024 .f32) (a7 : FVec Ideal S1024 .f32) : FVec Ideal S4x2048x1024 .f32 :=
  addf (Host.dotGeneral dot_S4x2048x1024_S1024x1024_S4x2048x1024_2_0_01_1_n_n none a1 a6)
    (broadcastInDim S4x2048x1024 ![0, 1, 2] bcast_S1x1x1024_S4x2048x1024_0_1_2 (broadcastInDim S1x1x1024 ![2] bcast_S1024_S1x1x1024_2 a7))

abbrev logitsOf (A B : FVec Ideal S4x2048x1024 .f32) (a8 : FVec Ideal S2048x4 .f32) (a9 : FVec Ideal S4 .f32) : FVec Ideal S4x2048x4 .f32 :=
  Host.divf (addf (Host.dotGeneral dot_S4x2048x2048_S2048x4_S4x2048x4_2_0_01_1_n_n none
      (concatenate S4x2048x2048 2 [⟨S4x2048x1024, A⟩, ⟨S4x2048x1024, B⟩] concatenates_S4x2048x1024_S4x2048x1024_S4x2048x2048_d2) a8)
    (broadcastInDim S4x2048x4 ![0, 1, 2] bcast_S1x1x4_S4x2048x4_0_1_2 (broadcastInDim S1x1x4 ![2] bcast_S4_S1x1x4_2 a9)))
    (broadcastInDim S4x2048x4 ![] bcast_S_S4x2048x4 (constant S_ .f32 0x3F99999A#32))

abbrev fourOf (x : FVec Ideal S4x2048 .f32) : FVec Ideal S4x2048x4 .f32 :=
  broadcastInDim S4x2048x4 ![0, 1, 2] bcast_S4x2048x1_S4x2048x4_0_1_2 (broadcastInDim S4x2048x1 ![0, 1] bcast_S4x2048_S4x2048x1_0_1 x)

abbrev topOf (L : FVec Ideal S4x2048x4 .f32) : FVec Ideal S4x2048 .f32 :=
  maximumf (broadcastInDim S4x2048 ![] bcast_S_S4x2048 (constant S_ .f32 0xFF800000#32))
    (Host.reduce FloatOps.maximumf L (constant S_ .f32 0xFF800000#32) reducesTo_S4x2048x4_S4x2048_d2 h_S_)

abbrev exposOf (L : FVec Ideal S4x2048x4 .f32) : FVec Ideal S4x2048x4 .f32 := Host.exp (subf L (fourOf (topOf L)))

abbrev sharesOf (L : FVec Ideal S4x2048x4 .f32) : FVec Ideal S4x2048x4 .f32 :=
  Host.divf (exposOf L) (fourOf (Host.reduceAdd (exposOf L) (constant S_ .f32 0x00000000#32) reducesTo_S4x2048x4_S4x2048_d2 h_S_))

abbrev bestOf (P : FVec Ideal S4x2048x4 .f32) : FVec Ideal S4x2048x1 .f32 × IVec S4x2048x1 32 :=
  Host.topK S4x2048x1 2 (FloatOps.cmpfTotal .gt) P sliceFits_S4x2048x4_S4x2048x1

/-! ## Reads -/

theorem bias3_read (x : FVec Ideal S1024 .f32) (b : Fin 4) (n : Fin 2048) (j : Fin 1024) :
    broadcastInDim S4x2048x1024 ![0, 1, 2] bcast_S1x1x1024_S4x2048x1024_0_1_2 (broadcastInDim S1x1x1024 ![2] bcast_S1024_S1x1x1024_2 x) (ix3 b n j) = x (ix1 j) := by
  refine (broadcastInDim_apply (s := S1x1x1024) (t := S4x2048x1024) _ _ _ (ix3 b n j) (ix3 0 0 j : S1x1x1024.Idx) fun a => ?_).trans
    (broadcastInDim_apply (s := S1024) (t := S1x1x1024) _ _ _ (ix3 0 0 j) (ix1 j : S1024.Idx) fun a => ?_)
  · match a with
    | ⟨0, _⟩ => rfl
    | ⟨1, _⟩ => rfl
    | ⟨2, _⟩ => rfl
  · match a with
    | ⟨0, _⟩ => rfl

theorem bias4_read (x : FVec Ideal S4 .f32) (b : Fin 4) (n : Fin 2048) (k : Fin 4) :
    broadcastInDim S4x2048x4 ![0, 1, 2] bcast_S1x1x4_S4x2048x4_0_1_2 (broadcastInDim S1x1x4 ![2] bcast_S4_S1x1x4_2 x) (ix3 b n k) = x (ix1 k) := by
  refine (broadcastInDim_apply (s := S1x1x4) (t := S4x2048x4) _ _ _ (ix3 b n k) (ix3 0 0 k : S1x1x4.Idx) fun a => ?_).trans
    (broadcastInDim_apply (s := S4) (t := S1x1x4) _ _ _ (ix3 0 0 k) (ix1 k : S4.Idx) fun a => ?_)
  · match a with
    | ⟨0, _⟩ => rfl
    | ⟨1, _⟩ => rfl
    | ⟨2, _⟩ => rfl
  · match a with
    | ⟨0, _⟩ => rfl

theorem four_read {α : Type} (x : S4x2048.Idx → α) (b : Fin 4) (n : Fin 2048) (k : Fin 4) :
    broadcastInDim S4x2048x4 ![0, 1, 2] bcast_S4x2048x1_S4x2048x4_0_1_2 (broadcastInDim S4x2048x1 ![0, 1] bcast_S4x2048_S4x2048x1_0_1 x) (ix3 b n k) = x (ix2 b n) := by
  refine (broadcastInDim_apply (s := S4x2048x1) (t := S4x2048x4) _ _ _ (ix3 b n k) (ix3 b n 0 : S4x2048x1.Idx) fun a => ?_).trans
    (broadcastInDim_apply (s := S4x2048) (t := S4x2048x1) _ _ _ (ix3 b n 0) (ix2 b n : S4x2048.Idx) fun a => ?_)
  · match a with
    | ⟨0, _⟩ => rfl
    | ⟨1, _⟩ => rfl
    | ⟨2, _⟩ => rfl
  · match a with
    | ⟨0, _⟩ => rfl
    | ⟨1, _⟩ => rfl

theorem fourOf_read (x : FVec Ideal S4x2048 .f32) (b : Fin 4) (n : Fin 2048) (k : Fin 4) : fourOf x (ix3 b n k) = x (ix2 b n) := four_read x b n k

theorem dotA_read (x : FVec Ideal S4x2048x768 .f32) (w : FVec Ideal S768x1024 .f32) (b : Fin 4) (n : Fin 2048) (j : Fin 1024) :
    Host.dotGeneral dot_S4x2048x768_S768x1024_S4x2048x1024_2_0_01_1_n_n none x w (ix3 b n j) = ∑ i : Fin 768, x (ix3 b n i) * w (ix2 i j) := by
  simp only [pointwise]
  try exact zero_add _

theorem dotB_read (x : FVec Ideal S4x2048x1024 .f32) (w : FVec Ideal S1024x1024 .f32) (b : Fin 4) (n : Fin 2048) (j : Fin 1024) :
    Host.dotGeneral dot_S4x2048x1024_S1024x1024_S4x2048x1024_2_0_01_1_n_n none x w (ix3 b n j) = ∑ i : Fin 1024, x (ix3 b n i) * w (ix2 i j) := by
  simp only [pointwise]
  try exact zero_add _

theorem dotG_read (x : FVec Ideal S4x2048x2048 .f32) (w : FVec Ideal S2048x4 .f32) (b : Fin 4) (n : Fin 2048) (k : Fin 4) :
    Host.dotGeneral dot_S4x2048x2048_S2048x4_S4x2048x4_2_0_01_1_n_n none x w (ix3 b n k) = ∑ i : Fin 2048, x (ix3 b n i) * w (ix2 i k) := by
  simp only [pointwise]
  try exact zero_add _

theorem dotO_read (x : FVec Ideal S4x4x2048x1024 .f32) (w : FVec Ideal S4x2048x4 .f32) (b : Fin 4) (n : Fin 2048) (j : Fin 1024) :
    Host.dotGeneral dot_S4x4x2048x1024_S4x2048x4_S4x2048x1024_0_2_3_n_12_01 none x w (ix3 b n j) = ∑ e : Fin 4, x (ix4 e b n j) * w (ix3 b n e) := by
  simp only [pointwise]
  try exact zero_add _

theorem projA_read (a0 : FVec Ideal S4x2048x768 .f32) (a4 : FVec Ideal S768x1024 .f32) (a5 : FVec Ideal S1024 .f32) (b : Fin 4) (n : Fin 2048) (j : Fin 1024) :
    projA a0 a4 a5 (ix3 b n j) = tokA a0 a4 a5 b n j := by
  show Host.dotGeneral _ none _ _ (ix3 b n j) + _ = _
  rw [dotA_read, bias3_read]; rfl

theorem projB_read (a1 : FVec Ideal S4x2048x1024 .f32) (a6 : FVec Ideal S1024x1024 .f32) (a7 : FVec Ideal S1024 .f32) (b : Fin 4) (n : Fin 2048) (j : Fin 1024) :
    projB a1 a6 a7 (ix3 b n j) = tokB a1 a6 a7 b n j := by
  show Host.dotGeneral _ none _ _ (ix3 b n j) + _ = _
  rw [dotB_read, bias3_read]; rfl

theorem joined3_read (A B : FVec Ideal S4x2048x1024 .f32) (b : Fin 4) (n : Fin 2048) (i : Fin 2048) :
    concatenate S4x2048x2048 2 [⟨S4x2048x1024, A⟩, ⟨S4x2048x1024, B⟩] concatenates_S4x2048x1024_S4x2048x1024_S4x2048x2048_d2 (ix3 b n i)
      = joined (fun j => A (ix3 b n j)) (fun j => B (ix3 b n j)) i := by
  unfold joined
  by_cases h : i.val < 1024
  · rw [dif_pos h]
    refine concatenate_apply_piece (t := S4x2048x2048) 2 [⟨S4x2048x1024, A⟩, ⟨S4x2048x1024, B⟩] _ (ix3 b n i) 0 (show 0 < 2 by decide) S4x2048x1024 A rfl rfl 0 rfl (ix3 b n ⟨i.val, h⟩) ?_ ?_
    · intro c hc
      match c with
      | ⟨0, _⟩ => rfl
      | ⟨1, _⟩ => rfl
      | ⟨2, _⟩ => exact absurd rfl hc
    · show 0 + i.val = i.val
      omega
  · rw [dif_neg h]
    refine concatenate_apply_piece (t := S4x2048x2048) 2 [⟨S4x2048x1024, A⟩, ⟨S4x2048x1024, B⟩] _ (ix3 b n i) 1 (show 1 < 2 by decide) S4x2048x1024 B rfl rfl 1024 rfl (ix3 b n ⟨i.val - 1024, by omega⟩) ?_ ?_
    · intro c hc
      match c with
      | ⟨0, _⟩ => rfl
      | ⟨1, _⟩ => rfl
      | ⟨2, _⟩ => exact absurd rfl hc
    · show 1024 + (i.val - 1024) = i.val
      omega

theorem logits_read (A B : FVec Ideal S4x2048x1024 .f32) (a8 : FVec Ideal S2048x4 .f32) (a9 : FVec Ideal S4 .f32) (b : Fin 4) (n : Fin 2048) (k : Fin 4) :
    logitsOf A B a8 a9 (ix3 b n k) = tokL (fun j => A (ix3 b n j)) (fun j => B (ix3 b n j)) a8 a9 k := by
  refine (congrArg₂ Ideal.div (congrArg₂ (· + ·) (dotG_read _ _ b n k) (bias4_read a9 b n k)) rfl).trans ?_
  simp only [joined3_read]
  rfl

/-! ## The shares of a token -/

section Shares

variable (L : FVec Ideal S4x2048x4 .f32) (b : Fin 4) (n : Fin 2048)

theorem bottom : Ideal.ofBits .f32 0xFF800000#32 = ⊥ := by simp [Ideal.ofBits, Ideal.ieee]

theorem top_read : topOf L (ix2 b n) = top (fun k => L (ix3 b n k)) := by
  show max (Ideal.ofBits .f32 0xFF800000#32) (Host.reduce FloatOps.maximumf L (constant S_ .f32 0xFF800000#32) reducesTo_S4x2048x4_S4x2048_d2 h_S_ (ix2 b n)) = _
  rw [Host.reduce_eq_fold, Shape.ReducesTo.fold_fiber_r3_a2]
  show max (Ideal.ofBits .f32 0xFF800000#32) ((Finset.univ : Finset (Fin 4)).fold max (Ideal.ofBits .f32 0xFF800000#32) (fun k => L (ix3 b n k))) = _
  rw [bottom, fold_max]
  exact max_eq_right bot_le

theorem expos_read (k : Fin 4) : exposOf L (ix3 b n k) = expo (fun k => L (ix3 b n k)) k := by
  show Ideal.exp (L (ix3 b n k) - fourOf (topOf L) (ix3 b n k)) = _
  rw [fourOf_read, top_read]; rfl

theorem total3_read : Host.reduceAdd (exposOf L) (constant S_ .f32 0x00000000#32) reducesTo_S4x2048x4_S4x2048_d2 h_S_ (ix2 b n)
    = expo (fun k => L (ix3 b n k)) 0 + expo (fun k => L (ix3 b n k)) 1 + expo (fun k => L (ix3 b n k)) 2 + expo (fun k => L (ix3 b n k)) 3 := by
  rw [Host.reduceAdd_apply, Ideal.hostReduceAdd_def, Ideal.hostReduceAdd_r3_a2]
  show Ideal.ofBits .f32 0x00000000#32 + ∑ k : Fin 4, exposOf L (ix3 b n k) = _
  rw [Ideal.ofBits_zero_f32, zero_add, Fin.sum_univ_four]
  simp only [expos_read]

theorem shares_read (k : Fin 4) : sharesOf L (ix3 b n k) = share (fun k => L (ix3 b n k)) k := by
  show Ideal.div (exposOf L (ix3 b n k)) (fourOf _ (ix3 b n k)) = _
  rw [fourOf_read, total3_read, expos_read]; rfl

end Shares

/-! ## The expert picked -/

section Best

variable (P : FVec Ideal S4x2048x4 .f32) (b : Fin 4) (n : Fin 2048)

theorem beat_eq (x y : EReal) : (FloatOps.cmpfTotal (F := Ideal) (φ := .f32) .gt x y == 1#1) = decide (y < x) := by
  show (Ideal.cmp .ogt x y == 1#1) = decide (y < x)
  rw [gt_eq]
  by_cases h : y < x
  · simp [h]
  · simp [h]

theorem along_read (k : Fin 4) : (ix3 b n 0 : S4x2048x4.Idx).along 2 k = ix3 b n k := by
  unfold Shape.Idx.along
  funext a
  match a with
  | ⟨0, _⟩ => rfl
  | ⟨1, _⟩ => rfl
  | ⟨2, _⟩ => rfl

theorem sorted_read (x : IVec S4x2048x4 32) :
    (Host.sort2 S4x2048x4 2 (fun l r => FloatOps.cmpfTotal (F := Ideal) (φ := .f32) .gt l.1 r.1) P x).1 (ix3 b n 0) = P (ix3 b n (pick (fun k => P (ix3 b n k))))
    ∧ (Host.sort2 S4x2048x4 2 (fun l r => FloatOps.cmpfTotal (F := Ideal) (φ := .f32) .gt l.1 r.1) P x).2 (ix3 b n 0) = x (ix3 b n (pick (fun k => P (ix3 b n k)))) := by
  have hs : sortedFrom (fun k k' : Fin 4 => FloatOps.cmpfTotal (F := Ideal) (φ := .f32) .gt (P ((ix3 b n 0 : S4x2048x4.Idx).along 2 k)) (P ((ix3 b n 0 : S4x2048x4.Idx).along 2 k')) == 1#1) 0
      = pick (fun k => P (ix3 b n k)) := by
    refine sorted_first _ _ fun k k' => ?_
    rw [along_read, along_read]
    exact beat_eq _ _
  constructor
  · refine Eq.trans ?_ (congrArg P ((congrArg (fun k => (ix3 b n 0 : S4x2048x4.Idx).along 2 k) hs).trans (along_read b n _)))
    rfl
  · refine Eq.trans ?_ (congrArg x ((congrArg (fun k => (ix3 b n 0 : S4x2048x4.Idx).along 2 k) hs).trans (along_read b n _)))
    rfl

/-- The positions that are sorted along with the shares. -/
abbrev places : IVec S4x2048x4 32 := fun i => if hd : 2 < S4x2048x4.rank then iotaInDim S4x2048x4 32 ⟨2, hd⟩ i else 0#32

theorem cut_read {α : Type} (x : S4x2048x4.Idx → α) (h : S4x2048x4.Slices (fun _ => 0) S4x2048x1) :
    extractStridedSlice S4x2048x1 (fun _ => 0) x h (ix3 b n 0) = x (ix3 b n 0) := by
  refine extractStridedSlice_apply _ _ _ _ _ fun a => ?_
  match a with
  | ⟨0, _⟩ => exact (Nat.zero_add _).symm
  | ⟨1, _⟩ => exact (Nat.zero_add _).symm
  | ⟨2, _⟩ => rfl

theorem best_value : (bestOf P).1 (ix3 b n 0) = P (ix3 b n (pick (fun k => P (ix3 b n k)))) := by
  exact (cut_read b n _ sliceFits_S4x2048x4_S4x2048x1).trans (sorted_read P b n places).1

theorem best_number : (bestOf P).2 (ix3 b n 0) = BitVec.ofNat 32 (pick (fun k => P (ix3 b n k))).val := by
  exact (cut_read b n _ sliceFits_S4x2048x4_S4x2048x1).trans (sorted_read P b n places).2

end Best

/-! ## The three results -/

section Results

variable (A B : FVec Ideal S4x2048x1024 .f32)

abbrev meanOf : FVec Ideal S4x2048x1024 .f32 :=
  mulf (broadcastInDim S4x2048x1024 ![] bcast_S_S4x2048x1024 (constant S_ .f32 0x3F000000#32)) (addf A B)

abbrev sheetOf (x : FVec Ideal S4x2048x1024 .f32) : FVec Ideal S1x4x2048x1024 .f32 :=
  broadcastInDim S1x4x2048x1024 ![1, 2, 3] bcast_S4x2048x1024_S1x4x2048x1024_1_2_3 x

abbrev stackOf : FVec Ideal S4x4x2048x1024 .f32 :=
  concatenate S4x4x2048x1024 0 [⟨S1x4x2048x1024, sheetOf A⟩, ⟨S1x4x2048x1024, sheetOf B⟩, ⟨S1x4x2048x1024, sheetOf (meanOf A B)⟩, ⟨S1x4x2048x1024, sheetOf (meanOf A B)⟩]
    concatenates_S1x4x2048x1024_S1x4x2048x1024_S1x4x2048x1024_S1x4x2048x1024_S4x4x2048x1024_d0

abbrev hotOf (W : IVec S4x2048x1 32) : FVec Ideal S4x2048x4 .f32 :=
  uitofp .f32 (cmpi .eq (broadcastInDim S4x2048x4 ![0, 1, 2] bcast_S4x2048x1_S4x2048x4_0_1_2 (broadcastInDim S4x2048x1 ![0, 1] bcast_S4x2048_S4x2048x1_0_1
      (shapeCast S4x2048 W shapeCasts_S4x2048x1_S4x2048)))
    (broadcastInDim S4x2048x4 ![0, 1, 2] bcast_S1x1x4_S4x2048x4_0_1_2 (iotaInDim S1x1x4 32 2)))

abbrev sentOf (W : IVec S4x2048x1 32) : FVec Ideal S4x8192x256 .f32 :=
  transpose S4x8192x256 [1, 0, 2] (shapeCast S8192x4x256 (Host.dotGeneral dot_S4x4x2048x1024_S4x2048x4_S4x2048x1024_0_2_3_n_12_01 none (stackOf A B) (hotOf W))
    shapeCasts_S4x2048x1024_S8192x4x256) transposes_S8192x4x256_S4x8192x256_1_0_2

abbrev weightOf (v : FVec Ideal S4x2048x1 .f32) (a2 a3 : IVec S4x2048 1) : FVec Ideal S8192x128 .f32 :=
  broadcastInDim S8192x128 ![0, 1] bcast_S8192x1_S8192x128_0_1 (shapeCast S8192x1 (mulf (shapeCast S4x2048 v shapeCasts_S4x2048x1_S4x2048) (uitofp .f32 (andi a2 a3)))
    shapeCasts_S4x2048_S8192x1)

abbrev numberOf (W : IVec S4x2048x1 32) : IVec S32x2x128 32 := shapeCast S32x2x128 W shapeCasts_S4x2048x1_S32x2x128

theorem sheet_read (x : FVec Ideal S4x2048x1024 .f32) (b : Fin 4) (n : Fin 2048) (j : Fin 1024) : sheetOf x (ix4 0 b n j) = x (ix3 b n j) := by
  refine broadcastInDim_apply (s := S4x2048x1024) (t := S1x4x2048x1024) _ _ _ (ix4 0 b n j) (ix3 b n j : S4x2048x1024.Idx) fun a => ?_
  match a with
  | ⟨0, _⟩ => rfl
  | ⟨1, _⟩ => rfl
  | ⟨2, _⟩ => rfl

abbrev sheets : List ((s : Shape) × (s.Idx → EReal)) :=
  [⟨S1x4x2048x1024, sheetOf A⟩, ⟨S1x4x2048x1024, sheetOf B⟩, ⟨S1x4x2048x1024, sheetOf (meanOf A B)⟩, ⟨S1x4x2048x1024, sheetOf (meanOf A B)⟩]

theorem stack_at (b : Fin 4) (n : Fin 2048) (j : Fin 1024) (e : Fin 4) (k : Nat) (hk : k < 4) (he : e.val = k) (y : FVec Ideal S1x4x2048x1024 .f32)
    (hy : (sheets A B)[k]'hk = ⟨S1x4x2048x1024, y⟩)
    (hp : ((((sheets A B).take k).map (·.1)).map fun s : Shape => if h : s.rank = S4x4x2048x1024.rank then s.size ((0 : Fin S4x4x2048x1024.rank).cast h.symm) else 0).sum = k) :
    stackOf A B (ix4 e b n j) = y (ix4 0 b n j) := by
  refine concatenate_apply_piece (t := S4x4x2048x1024) 0 (sheets A B) _ (ix4 e b n j) k hk S1x4x2048x1024 y hy rfl k hp (ix4 0 b n j) ?_ ?_
  · intro c hc
    match c with
    | ⟨0, _⟩ => exact absurd rfl hc
    | ⟨1, _⟩ => rfl
    | ⟨2, _⟩ => rfl
    | ⟨3, _⟩ => rfl
  · show k + 0 = e.val
    omega

theorem stack_read (e b : Fin 4) (n : Fin 2048) (j : Fin 1024) :
    stackOf A B (ix4 e b n j) = sent (fun j => A (ix3 b n j)) (fun j => B (ix3 b n j)) e j := by
  unfold sent
  match e with
  | ⟨0, _⟩ => exact (stack_at A B b n j 0 0 (by omega) rfl _ rfl rfl).trans (sheet_read A b n j)
  | ⟨1, _⟩ => exact (stack_at A B b n j 1 1 (by omega) rfl _ rfl rfl).trans (sheet_read B b n j)
  | ⟨2, _⟩ => exact (stack_at A B b n j 2 2 (by omega) rfl _ rfl rfl).trans (sheet_read (meanOf A B) b n j)
  | ⟨3, _⟩ => exact (stack_at A B b n j 3 3 (by omega) rfl _ rfl rfl).trans (sheet_read (meanOf A B) b n j)

theorem squeeze_read {α : Type} (x : S4x2048x1.Idx → α) (b : Fin 4) (n : Fin 2048) :
    shapeCast S4x2048 x shapeCasts_S4x2048x1_S4x2048 (ix2 b n) = x (ix3 b n 0) := by
  refine shapeCast_apply _ _ _ (ix3 b n 0 : S4x2048x1.Idx) ?_
  rw [Shape.rowMajor_val_two, Shape.rowMajor_val_three]
  show (b.val * 2048 + n.val) * 1 + 0 = b.val * 2048 + n.val
  omega

theorem one_hot (p e : Fin 4) :
    (((IntOp.cmpi .eq (BitVec.ofNat 32 p.val) (BitVec.ofNat 32 e.val)).toNat : ℝ) : EReal) = if p = e then 1 else 0 := by
  have h : (IntOp.cmpi .eq (BitVec.ofNat 32 p.val) (BitVec.ofNat 32 e.val)).toNat = if p = e then 1 else 0 := by
    revert p e; decide
  rw [h]
  split_ifs <;> simp

theorem hot_read (W : IVec S4x2048x1 32) (b : Fin 4) (n : Fin 2048) (p : Fin 4) (hW : W (ix3 b n 0) = BitVec.ofNat 32 p.val) (e : Fin 4) :
    hotOf W (ix3 b n e) = if p = e then 1 else 0 := by
  refine Eq.trans ?_ (one_hot p e)
  have h1 : broadcastInDim S4x2048x4 ![0, 1, 2] bcast_S4x2048x1_S4x2048x4_0_1_2 (broadcastInDim S4x2048x1 ![0, 1] bcast_S4x2048_S4x2048x1_0_1
      (shapeCast S4x2048 W shapeCasts_S4x2048x1_S4x2048)) (ix3 b n e) = BitVec.ofNat 32 p.val :=
    (four_read _ b n e).trans ((squeeze_read W b n).trans hW)
  have h2 : broadcastInDim S4x2048x4 ![0, 1, 2] bcast_S1x1x4_S4x2048x4_0_1_2 (iotaInDim S1x1x4 32 2) (ix3 b n e) = BitVec.ofNat 32 e.val := by
    refine (broadcastInDim_apply (s := S1x1x4) (t := S4x2048x4) _ _ _ (ix3 b n e) (ix3 0 0 e : S1x1x4.Idx) fun a => ?_).trans rfl
    match a with
    | ⟨0, _⟩ => rfl
    | ⟨1, _⟩ => rfl
    | ⟨2, _⟩ => rfl
  exact congrArg (fun w : BitVec 1 => ((w.toNat : ℝ) : EReal)) (congrArg₂ (IntOp.cmpi .eq) h1 h2)

theorem flat_pair (r : Fin 8192) : r.val / 2048 * 2048 + r.val % 2048 = r.val := by omega

theorem sent3_read (W : IVec S4x2048x1 32) (q : Fin 4) (r : Fin 8192) (c : Fin 256) (p : Fin 4) (hW : W (ix3 (hi r) (lo r) 0) = BitVec.ofNat 32 p.val) :
    sentOf A B W (ix3 q r c) = sent (fun j => A (ix3 (hi r) (lo r) j)) (fun j => B (ix3 (hi r) (lo r) j)) p (wide q c) := by
  refine (transpose_apply _ _ _ (ix3 q r c) (ix3 r q c : S8192x4x256.Idx) fun a => ?_).trans
    ((shapeCast_apply _ _ (ix3 r q c) (ix3 (hi r) (lo r) (wide q c) : S4x2048x1024.Idx) ?_).trans ?_)
  · match a with
    | ⟨0, _⟩ => rfl
    | ⟨1, _⟩ => rfl
    | ⟨2, _⟩ => rfl
  · rw [Shape.rowMajor_val_three, Shape.rowMajor_val_three]
    have := flat_pair r
    show (r.val / 2048 * 2048 + r.val % 2048) * 1024 + (q.val * 256 + c.val) = (r.val * 4 + q.val) * 256 + c.val
    omega
  refine (dotO_read _ _ _ _ _).trans ?_
  simp only [stack_read, hot_read W (hi r) (lo r) p hW]
  simp

theorem weight3_read (v : FVec Ideal S4x2048x1 .f32) (a2 a3 : IVec S4x2048 1) (r : Fin 8192) (k : Fin 128) :
    weightOf v a2 a3 (ix2 r k) = v (ix3 (hi r) (lo r) 0) * uitofp (F := Ideal) .f32 (andi a2 a3) (ix2 (hi r) (lo r)) := by
  refine (broadcastInDim_apply (s := S8192x1) (t := S8192x128) _ _ _ (ix2 r k) (ix2 r 0 : S8192x1.Idx) fun a => ?_).trans
    ((shapeCast_apply _ _ (ix2 r 0) (ix2 (hi r) (lo r) : S4x2048.Idx) ?_).trans ?_)
  · match a with
    | ⟨0, _⟩ => rfl
    | ⟨1, _⟩ => rfl
  · rw [Shape.rowMajor_val_two, Shape.rowMajor_val_two]
    have := flat_pair r
    show r.val / 2048 * 2048 + r.val % 2048 = r.val * 1 + 0
    omega
  exact congrArg₂ (· * ·) (squeeze_read v _ _) rfl

theorem number3_read (W : IVec S4x2048x1 32) (i : Fin 32) (a : Fin 2) (l : Fin 128) :
    numberOf W (ix3 i a l) = W (ix3 (hi (flat i a l)) (lo (flat i a l)) 0) := by
  refine shapeCast_apply _ _ (ix3 i a l) (ix3 (hi (flat i a l)) (lo (flat i a l)) 0 : S4x2048x1.Idx) ?_
  rw [Shape.rowMajor_val_three, Shape.rowMajor_val_three]
  have := flat_pair (flat i a l)
  show ((flat i a l).val / 2048 * 2048 + (flat i a l).val % 2048) * 1 + 0 = (i.val * 2 + a.val) * 128 + l.val
  rw [this]
  show (i.val * 256 + (a.val * 128 + l.val)) * 1 + 0 = _
  omega

end Results

end Cert.Proof.Gated

end
-- ==== Proof.Gated.Value.lean ====
/-
  The gate's call against its reference: the three arrays that the call leaves are the reference's three results. And
  the call's run, with these arrays.
-/
module

public import proofs.«01_k».proof.Proof.Gated.Block
public import proofs.«01_k».proof.Proof.Gated.Ref

@[expose] public section

noncomputable section

namespace Cert.Proof.Gated

open Idealize.ShloMosaic hiding ix0 ix1 ix2 ix3 ix4
open Idealize.ShloMosaic.ValueIdx Idealize.SL.Sem

section
open Cert.GatedIdeal Cert.GatedIdeal.Gen

variable (m : (ℓ : Loc nD τ sig) → Buf (Elt Ideal) ℓ)

/-- The reference's stages, of the call's arguments. -/
abbrev rA := projA (arg m main_arg0) (arg m main_arg4) (arg m main_arg5)
abbrev rB := projB (arg m main_arg1) (arg m main_arg6) (arg m main_arg7)
abbrev rP := sharesOf (logitsOf (rA m) (rB m) (arg m main_arg8) (arg m main_arg9))

variable (r : Fin 8192)

theorem rA_eq : (fun j => rA m (ix3 (hi r) (lo r) j)) = gA m r := funext fun j => projA_read _ _ _ _ _ j
theorem rB_eq : (fun j => rB m (ix3 (hi r) (lo r) j)) = gB m r := funext fun j => projB_read _ _ _ _ _ j
theorem rL_eq : (fun k => logitsOf (rA m) (rB m) (arg m main_arg8) (arg m main_arg9) (ix3 (hi r) (lo r) k)) = gL m r := by
  funext k
  refine (logits_read (rA m) (rB m) (arg m main_arg8) (arg m main_arg9) (hi r) (lo r) k).trans ?_
  rw [rA_eq, rB_eq]; rfl
theorem rP_eq : (fun k => rP m (ix3 (hi r) (lo r) k)) = share (gL m r) := by
  funext k
  refine (shares_read (logitsOf (rA m) (rB m) (arg m main_arg8) (arg m main_arg9)) (hi r) (lo r) k).trans ?_
  rw [rL_eq]
theorem rW_eq : (bestOf (rP m)).2 (ix3 (hi r) (lo r) 0) = BitVec.ofNat 32 (gE m r).val := by
  refine (best_number (rP m) (hi r) (lo r)).trans ?_
  rw [rP_eq]; rfl
theorem rV_eq : (bestOf (rP m)).1 (ix3 (hi r) (lo r) 0) = share (gL m r) (gE m r) := by
  refine (best_value (rP m) (hi r) (lo r)).trans ?_
  refine (congrFun (rP_eq m r) _).trans ?_
  rw [rP_eq]; rfl

theorem rows_ref : rowsArr m = sentOf (rA m) (rB m) (bestOf (rP m)).2 := by
  funext i
  obtain ⟨q, r, c, rfl⟩ : ∃ (q : Fin 4) (r : Fin 8192) (c : Fin 256), i = ix3 q r c := ⟨i 0, i 1, i 2, ValueIdx.eq_ix3 i⟩
  refine Eq.trans ?_ (sent3_read (rA m) (rB m) (bestOf (rP m)).2 q r c (gE m r) (rW_eq m r)).symm
  rw [rA_eq, rB_eq]
  rfl

theorem weight_ref : weightArr m = weightOf (bestOf (rP m)).1 (arg m main_arg2) (arg m main_arg3) := by
  funext i
  obtain ⟨r, k, rfl⟩ : ∃ (r : Fin 8192) (k : Fin 128), i = ix2 r k := ⟨i 0, i 1, ValueIdx.eq_ix2 i⟩
  refine Eq.trans ?_ (weight3_read (bestOf (rP m)).1 (arg m main_arg2) (arg m main_arg3) r k).symm
  rw [rV_eq]
  rfl

theorem number_ref : numberArr m = numberOf (bestOf (rP m)).2 := by
  funext i
  obtain ⟨t, a, l, rfl⟩ : ∃ (t : Fin 32) (a : Fin 2) (l : Fin 128), i = ix3 t a l := ⟨i 0, i 1, i 2, ValueIdx.eq_ix3 i⟩
  refine Eq.trans ?_ (number3_read (bestOf (rP m)).2 t a l).symm
  rw [rW_eq]
  rfl

/-- The call's run: the three arrays, and the arguments as before. -/
theorem run_gated (ρ : Dev nD → PrngReg) :
    θ_run (defs (F := Ideal)) (onTc (τ := τ) (main (F := Ideal))) ⟨m, fun _ => 0, ρ⟩ fun r =>
      r.2.mem (((0 : Dev nD).tc : Thread nD τ).loc main_v8_0) = rowsArr m
      ∧ r.2.mem (((0 : Dev nD).tc : Thread nD τ).loc main_v8_1) = weightArr m
      ∧ r.2.mem (((0 : Dev nD).tc : Thread nD τ).loc main_v8_2) = numberArr m :=
  (θ_run defs _ _).mono (fun _ h => ⟨((h.1 0).1 9).trans (rows_out m), ((h.1 0).1 10).trans (weight_out m), ((h.1 0).1 11).trans (number_out m)⟩)
    (run_main_quiescent m ρ)

end

/-! ## The reference's results -/

section
open Cert.GatesIdeal Cert.GatesIdeal.Value

variable (m' : (ℓ : Loc nD τ sig) → Buf (Elt Ideal) ℓ)
  (a0 : FVec Ideal S4x2048x768 .f32) (a1 : FVec Ideal S4x2048x1024 .f32) (a2 a3 : IVec S4x2048 1) (a4 : FVec Ideal S768x1024 .f32)
  (a5 : FVec Ideal S1024 .f32) (a6 : FVec Ideal S1024x1024 .f32) (a7 : FVec Ideal S1024 .f32) (a8 : FVec Ideal S2048x4 .f32) (a9 : FVec Ideal S4 .f32)

theorem res_rows
    (h0 : m' (((0 : Dev nD).tc : Thread nD τ).loc main_arg0) = a0)
    (h1 : m' (((0 : Dev nD).tc : Thread nD τ).loc main_arg1) = a1)
    (h2 : m' (((0 : Dev nD).tc : Thread nD τ).loc main_arg2) = a2)
    (h3 : m' (((0 : Dev nD).tc : Thread nD τ).loc main_arg3) = a3)
    (h4 : m' (((0 : Dev nD).tc : Thread nD τ).loc main_arg4) = a4)
    (h5 : m' (((0 : Dev nD).tc : Thread nD τ).loc main_arg5) = a5)
    (h6 : m' (((0 : Dev nD).tc : Thread nD τ).loc main_arg6) = a6)
    (h7 : m' (((0 : Dev nD).tc : Thread nD τ).loc main_arg7) = a7)
    (h8 : m' (((0 : Dev nD).tc : Thread nD τ).loc main_arg8) = a8)
    (h9 : m' (((0 : Dev nD).tc : Thread nD τ).loc main_arg9) = a9) :
    res_main_v42 m' 0 = sentOf (projA a0 a4 a5) (projB a1 a6 a7) (bestOf (sharesOf (logitsOf (projA a0 a4 a5) (projB a1 a6 a7) a8 a9))).2 := by
  subst h0 h1 h2 h3 h4 h5 h6 h7 h8 h9; unfold res_main_v42; rfl

theorem res_weight
    (h0 : m' (((0 : Dev nD).tc : Thread nD τ).loc main_arg0) = a0)
    (h1 : m' (((0 : Dev nD).tc : Thread nD τ).loc main_arg1) = a1)
    (h2 : m' (((0 : Dev nD).tc : Thread nD τ).loc main_arg2) = a2)
    (h3 : m' (((0 : Dev nD).tc : Thread nD τ).loc main_arg3) = a3)
    (h4 : m' (((0 : Dev nD).tc : Thread nD τ).loc main_arg4) = a4)
    (h5 : m' (((0 : Dev nD).tc : Thread nD τ).loc main_arg5) = a5)
    (h6 : m' (((0 : Dev nD).tc : Thread nD τ).loc main_arg6) = a6)
    (h7 : m' (((0 : Dev nD).tc : Thread nD τ).loc main_arg7) = a7)
    (h8 : m' (((0 : Dev nD).tc : Thread nD τ).loc main_arg8) = a8)
    (h9 : m' (((0 : Dev nD).tc : Thread nD τ).loc main_arg9) = a9) :
    res_main_v44 m' 0 = weightOf (bestOf (sharesOf (logitsOf (projA a0 a4 a5) (projB a1 a6 a7) a8 a9))).1 a2 a3 := by
  subst h0 h1 h2 h3 h4 h5 h6 h7 h8 h9; unfold res_main_v44; rfl

theorem res_number
    (h0 : m' (((0 : Dev nD).tc : Thread nD τ).loc main_arg0) = a0)
    (h1 : m' (((0 : Dev nD).tc : Thread nD τ).loc main_arg1) = a1)
    (h2 : m' (((0 : Dev nD).tc : Thread nD τ).loc main_arg2) = a2)
    (h3 : m' (((0 : Dev nD).tc : Thread nD τ).loc main_arg3) = a3)
    (h4 : m' (((0 : Dev nD).tc : Thread nD τ).loc main_arg4) = a4)
    (h5 : m' (((0 : Dev nD).tc : Thread nD τ).loc main_arg5) = a5)
    (h6 : m' (((0 : Dev nD).tc : Thread nD τ).loc main_arg6) = a6)
    (h7 : m' (((0 : Dev nD).tc : Thread nD τ).loc main_arg7) = a7)
    (h8 : m' (((0 : Dev nD).tc : Thread nD τ).loc main_arg8) = a8)
    (h9 : m' (((0 : Dev nD).tc : Thread nD τ).loc main_arg9) = a9) :
    res_main_v45 m' 0 = numberOf (bestOf (sharesOf (logitsOf (projA a0 a4 a5) (projB a1 a6 a7) a8 a9))).2 := by
  subst h0 h1 h2 h3 h4 h5 h6 h7 h8 h9; unfold res_main_v45; rfl

end

/-- From the same arguments, the reference's three results are the call's three arrays. -/
theorem results_eq (m : (ℓ : Loc Cert.GatedIdeal.nD Cert.GatedIdeal.τ Cert.GatedIdeal.sig) → Buf (Elt Ideal) ℓ)
    (m' : (ℓ : Loc Cert.GatesIdeal.nD Cert.GatesIdeal.τ Cert.GatesIdeal.sig) → Buf (Elt Ideal) ℓ)
    (h0 : m' (((0 : Dev Cert.GatesIdeal.nD).tc : Thread Cert.GatesIdeal.nD Cert.GatesIdeal.τ).loc Cert.GatesIdeal.main_arg0) = arg m Cert.GatedIdeal.main_arg0)
    (h1 : m' (((0 : Dev Cert.GatesIdeal.nD).tc : Thread Cert.GatesIdeal.nD Cert.GatesIdeal.τ).loc Cert.GatesIdeal.main_arg1) = arg m Cert.GatedIdeal.main_arg1)
    (h2 : m' (((0 : Dev Cert.GatesIdeal.nD).tc : Thread Cert.GatesIdeal.nD Cert.GatesIdeal.τ).loc Cert.GatesIdeal.main_arg2) = arg m Cert.GatedIdeal.main_arg2)
    (h3 : m' (((0 : Dev Cert.GatesIdeal.nD).tc : Thread Cert.GatesIdeal.nD Cert.GatesIdeal.τ).loc Cert.GatesIdeal.main_arg3) = arg m Cert.GatedIdeal.main_arg3)
    (h4 : m' (((0 : Dev Cert.GatesIdeal.nD).tc : Thread Cert.GatesIdeal.nD Cert.GatesIdeal.τ).loc Cert.GatesIdeal.main_arg4) = arg m Cert.GatedIdeal.main_arg4)
    (h5 : m' (((0 : Dev Cert.GatesIdeal.nD).tc : Thread Cert.GatesIdeal.nD Cert.GatesIdeal.τ).loc Cert.GatesIdeal.main_arg5) = arg m Cert.GatedIdeal.main_arg5)
    (h6 : m' (((0 : Dev Cert.GatesIdeal.nD).tc : Thread Cert.GatesIdeal.nD Cert.GatesIdeal.τ).loc Cert.GatesIdeal.main_arg6) = arg m Cert.GatedIdeal.main_arg6)
    (h7 : m' (((0 : Dev Cert.GatesIdeal.nD).tc : Thread Cert.GatesIdeal.nD Cert.GatesIdeal.τ).loc Cert.GatesIdeal.main_arg7) = arg m Cert.GatedIdeal.main_arg7)
    (h8 : m' (((0 : Dev Cert.GatesIdeal.nD).tc : Thread Cert.GatesIdeal.nD Cert.GatesIdeal.τ).loc Cert.GatesIdeal.main_arg8) = arg m Cert.GatedIdeal.main_arg8)
    (h9 : m' (((0 : Dev Cert.GatesIdeal.nD).tc : Thread Cert.GatesIdeal.nD Cert.GatesIdeal.τ).loc Cert.GatesIdeal.main_arg9) = arg m Cert.GatedIdeal.main_arg9) :
    Cert.GatesIdeal.Value.res_main_v42 m' 0 = rowsArr m ∧ Cert.GatesIdeal.Value.res_main_v44 m' 0 = weightArr m
      ∧ Cert.GatesIdeal.Value.res_main_v45 m' 0 = numberArr m :=
  ⟨(res_rows m' _ _ _ _ _ _ _ _ _ _ h0 h1 h2 h3 h4 h5 h6 h7 h8 h9).trans (rows_ref m).symm,
    (res_weight m' _ _ _ _ _ _ _ _ _ _ h0 h1 h2 h3 h4 h5 h6 h7 h8 h9).trans (weight_ref m).symm,
    (res_number m' _ _ _ _ _ _ _ _ _ _ h0 h1 h2 h3 h4 h5 h6 h7 h8 h9).trans (number_ref m).symm⟩

end Cert.Proof.Gated

end
-- ==== Proof.Gated.Same.lean ====
/-
  The two printed programs of the gate's call have the same text, so they are the same program at the same float values:
  stated here once, for the frame at the machine's floats.
-/
module

public import proofs.«01_k».proof.Defs
public import proofs.«01_k».proof.Proof.Gen.Gated
public import proofs.«01_k».proof.Proof.Gen.GatedIdeal

@[expose] public section

namespace Cert.Proof.Gated

open Idealize.ShloMosaic Idealize.SL.Sem

set_option maxHeartbeats 4000000 in
theorem same_bodies : Cert.Gated.defs₀ (F := Bits) = Cert.GatedIdeal.defs₀ (F := Bits) := by
  funext p a b
  match p, a, b with
  | .tc, 0, (t, s) => rfl
  | .scVector _ _, 0, (t, s) => rfl
  | .scScalar _, 0, (t, s) => rfl

set_option maxHeartbeats 4000000 in
theorem same_defs : Cert.Gated.defs (F := Bits) = Cert.GatedIdeal.defs (F := Bits) := by
  have h := congrArg (fun D => Pipeline.defs Cert.GatedIdeal.pcfgs D) same_bodies
  exact h

set_option maxHeartbeats 4000000 in
theorem same_main : Cert.Gated.main (F := Bits) = Cert.GatedIdeal.main (F := Bits) := by
  funext d
  unfold Cert.Gated.main Cert.GatedIdeal.main
  rfl

set_option maxHeartbeats 4000000 in
theorem same_threads : onTc (τ := Cert.Gated.τ) (Cert.Gated.main (F := Bits)) = onTc (τ := Cert.GatedIdeal.τ) (Cert.GatedIdeal.main (F := Bits)) := by
  have h := congrArg (fun M => onTc (τ := Cert.GatedIdeal.τ) M) same_main
  exact h

set_option maxHeartbeats 4000000 in
/-- What holds of every run of the one program holds of every run of the other. -/
theorem same_run (x : MemSt Cert.GatedIdeal.nD Cert.GatedIdeal.τ Cert.GatedIdeal.sig (Elt Bits))
    (Q : PUnit × MemSt Cert.GatedIdeal.nD Cert.GatedIdeal.τ Cert.GatedIdeal.sig (Elt Bits) → Prop)
    (h : θ_run (Cert.GatedIdeal.defs (F := Bits)) (onTc (τ := Cert.GatedIdeal.τ) (Cert.GatedIdeal.main (F := Bits))) x Q) :
    θ_run (Cert.Gated.defs (F := Bits)) (onTc (τ := Cert.Gated.τ) (Cert.Gated.main (F := Bits))) x Q :=
  have e := congrArg₂ (fun D T => θ_run D T x Q) same_defs same_threads
  Eq.mpr e h

end Cert.Proof.Gated

end
-- ==== Proof.Routed.Count.lean ====
/-
  Counting tokens: a token's place among the tokens of its expert, the tokens of each expert, where each expert's rows
  start, and the slot a token gets. Once over 64 rows of 128 lanes, and once over 8192 tokens in a row: the same sums.
-/
module

public import proofs.«01_k».proof.Proof.Gen.RoutedIdeal.Frame
public import Idealize.ShloMosaic.Lib.Pointwise
public import Idealize.ShloMosaic.Lib.ValueIdx
public import Idealize.ShloMosaic.Lib.WordCmp

@[expose] public section

noncomputable section

namespace Cert.Proof.Routed

open Idealize.ShloMosaic

/-! ## Zeros and ones -/

/-- A bit as a number. -/
def flag (b : BitVec 1) : EReal := ((b.toNat : ℝ) : EReal)

theorem flag_zero : flag 0#1 = 0 := by unfold flag; simp
theorem flag_one : flag 1#1 = 1 := by unfold flag; simp

theorem bit_cases (b : BitVec 1) : b = 0#1 ∨ b = 1#1 := by
  have h : ∀ b : BitVec 1, b = 0#1 ∨ b = 1#1 := by decide
  exact h b

/-- A bit widened to a word and read as a signed number. -/
theorem wide_flag (b : BitVec 1) : (((b.setWidth 32).toInt : ℝ) : EReal) = flag b := by
  rcases bit_cases b with rfl | rfl
  · rw [flag_zero]; simp
  · rw [flag_one]; simp

/-- One if `a` comes before `b`, otherwise zero. -/
def before (a b : Nat) : EReal := if a < b then 1 else 0

theorem before_flag (a b : Nat) (ha : a < 2 ^ 31) (hb : b < 2 ^ 31) : flag (IntOp.cmpi .slt (BitVec.ofNat 32 a) (BitVec.ofNat 32 b)) = before a b := by
  rw [WordCmp.cmpi_slt_ofNat (w := 32) ha hb]
  unfold before
  by_cases h : a < b
  · rw [if_pos h, decide_eq_true h]; exact flag_one
  · rw [if_neg h, decide_eq_false h]; exact flag_zero

/-- One if the word `w` is `k`, otherwise zero. -/
def hit (w k : BitVec 32) : EReal := flag (IntOp.cmpi .eq w k)

theorem hit_same (w : BitVec 32) : hit w w = 1 := by
  have : IntOp.cmpi .eq w w = 1#1 := by unfold IntOp.cmpi; simp
  unfold hit; rw [this, flag_one]
theorem hit_other (w k : BitVec 32) (h : w ≠ k) : hit w k = 0 := by
  have : IntOp.cmpi .eq w k = 0#1 := by unfold IntOp.cmpi; simp [beq_eq_false_iff_ne.2 h]
  unfold hit; rw [this, flag_zero]

/-! ## The sums, over 64 rows of 128 lanes -/

/-- Token `c` of row `r`, counted through. -/
def tok (r : Fin 64) (c : Fin 128) : Fin 8192 := ⟨r.val * 128 + c.val, by omega⟩

section Sums

variable (E : Fin 64 → Fin 128 → BitVec 32)

/-- The tokens of expert `k` before token `(r, c)`: those of its row, and those of the rows above. -/
def rank (k : BitVec 32) (r : Fin 64) (c : Fin 128) : EReal :=
  (∑ c' : Fin 128, hit (E r c') k * before c'.val c.val) + ∑ c' : Fin 128, ∑ r' : Fin 64, before r'.val r.val * hit (E r' c') k

/-- The tokens of expert `k`. -/
def count (k : BitVec 32) : EReal := ∑ r : Fin 64, ∑ c : Fin 128, hit (E r c) k

/-- The rows expert `k` gets: its tokens, rounded up to whole tiles of 256. -/
def room (k : BitVec 32) : EReal :=
  Ideal.liftRound Int.ceil (Ideal.div (count E k) (Ideal.ofBits .f32 0x43800000#32)) * Ideal.ofBits .f32 0x43800000#32

def start1 : EReal := Ideal.ofBits .f32 0x00000000#32 + room E 0#32
def start2 : EReal := start1 E + room E 1#32
def start3 : EReal := start2 E + room E 2#32

/-- The first row of each expert. -/
def start : Fin 4 → EReal := ![Ideal.ofBits .f32 0x00000000#32, start1 E, start2 E, start3 E]

/-- The slot of token `(r, c)`. -/
def slot (r : Fin 64) (c : Fin 128) : BitVec 32 :=
  Scalar.select (IntOp.cmpi .eq (E r c) 3#32) (Ideal.fptosi 32 (rank E 3#32 r c + start3 E))
    (Scalar.select (IntOp.cmpi .eq (E r c) 2#32) (Ideal.fptosi 32 (rank E 2#32 r c + start2 E))
      (Scalar.select (IntOp.cmpi .eq (E r c) 1#32) (Ideal.fptosi 32 (rank E 1#32 r c + start1 E))
        (Scalar.select (IntOp.cmpi .eq (E r c) 0#32) (Ideal.fptosi 32 (rank E 0#32 r c + Ideal.ofBits .f32 0x00000000#32)) 0#32)))

/-- The expert of tile `t`. -/
def owner (t : Nat) : BitVec 32 :=
  let x : EReal := (((IntOp.muli (BitVec.ofNat 32 t) 256#32).toInt : ℝ) : EReal)
  IntOp.addi (IntOp.addi (IntOp.addi 0#32 ((Ideal.cmp .oge x (start1 E)).setWidth 32)) ((Ideal.cmp .oge x (start2 E)).setWidth 32))
    ((Ideal.cmp .oge x (start3 E)).setWidth 32)

/-! ## The same sums over the 8192 tokens in a row -/

/-- The words in a row. -/
def inRow (t : Fin 8192) : BitVec 32 := E ⟨t.val / 128, by omega⟩ ⟨t.val % 128, by omega⟩

theorem inRow_tok (r : Fin 64) (c : Fin 128) : inRow E (tok r c) = E r c := by
  unfold inRow tok
  congr 1
  · exact Fin.ext (by show (r.val * 128 + c.val) / 128 = r.val; omega)
  · exact Fin.ext (by show (r.val * 128 + c.val) % 128 = c.val; omega)

theorem sum_tokens (f : Fin 8192 → EReal) : ∑ t : Fin 8192, f t = ∑ r : Fin 64, ∑ c : Fin 128, f (tok r c) := by
  rw [← Fintype.sum_prod_type' (f := fun r c => f (tok r c))]
  refine (Fintype.sum_equiv (finProdFinEquiv (m := 64) (n := 128)) (fun x => f (tok x.1 x.2)) f fun x => ?_).symm
  refine congrArg f (Fin.ext ?_)
  show x.1.val * 128 + x.2.val = x.2.val + 128 * x.1.val
  omega

theorem count_tokens (k : BitVec 32) : ∑ t : Fin 8192, hit (inRow E t) k = count E k := by
  rw [sum_tokens]
  simp only [inRow_tok]
  rfl

theorem before_tok (r r' : Fin 64) (c c' : Fin 128) (h : EReal) :
    before (tok r' c').val (tok r c).val * h = before r'.val r.val * h + if r' = r then h * before c'.val c.val else 0 := by
  have hc := c.isLt
  have hc' := c'.isLt
  unfold before
  show (if r'.val * 128 + c'.val < r.val * 128 + c.val then (1 : EReal) else 0) * h = _
  rcases lt_trichotomy r'.val r.val with hr | hr | hr
  · rw [if_pos (by omega), if_pos hr, if_neg (fun e => absurd (congrArg Fin.val e) (by omega)), add_zero]
  · obtain rfl : r' = r := Fin.ext hr
    rw [if_pos rfl, if_neg (lt_irrefl _), zero_mul, zero_add, mul_comm]
    by_cases hcc : c'.val < c.val
    · rw [if_pos hcc, if_pos (by omega)]
    · rw [if_neg hcc, if_neg (by omega)]
  · rw [if_neg (by omega), if_neg (by omega), if_neg (fun e => absurd (congrArg Fin.val e) (by omega)), add_zero]

theorem rank_tokens (k : BitVec 32) (r : Fin 64) (c : Fin 128) :
    ∑ t : Fin 8192, before t.val (tok r c).val * hit (inRow E t) k = rank E k r c := by
  rw [sum_tokens]
  simp only [inRow_tok, before_tok, Finset.sum_add_distrib]
  unfold rank
  rw [add_comm]
  refine congrArg₂ (· + ·) ?_ Finset.sum_comm
  rw [Finset.sum_comm]
  refine Finset.sum_congr rfl fun c' _ => ?_
  rw [Finset.sum_ite_eq' Finset.univ r]
  simp

theorem zero_word : Ideal.ofBits .f32 0x00000000#32 = 0 := Ideal.ofBits_zero_f32

theorem start_sum (k : Fin 4) : ∑ l : Fin 4, before l.val k.val * room E (BitVec.ofNat 32 l.val) = start E k := by
  rw [Fin.sum_univ_four]
  unfold before start
  match k with
  | 0 => simp [zero_word]
  | 1 => simp [start1, zero_word]
  | 2 => simp [start2, start1, zero_word]
  | 3 => simp [start3, start2, start1, zero_word]

theorem fptosi_zero : Ideal.fptosi 32 0 = 0#32 := by
  have : Ideal.fptosi 32 ((0 : ℝ) : EReal) = 0#32 := by rw [Ideal.fptosi, Ideal.toIntClamped_coe]; norm_num
  simpa using this

theorem slot_sum (r : Fin 64) (c : Fin 128) :
    Ideal.fptosi 32 (∑ k : Fin 4, hit (E r c) (BitVec.ofNat 32 k.val) * (rank E (BitVec.ofNat 32 k.val) r c + start E k)) = slot E r c := by
  rw [Fin.sum_univ_four]
  unfold slot
  show Ideal.fptosi 32 (hit (E r c) 0#32 * (rank E 0#32 r c + Ideal.ofBits .f32 0x00000000#32) + hit (E r c) 1#32 * (rank E 1#32 r c + start1 E)
    + hit (E r c) 2#32 * (rank E 2#32 r c + start2 E) + hit (E r c) 3#32 * (rank E 3#32 r c + start3 E)) = _
  generalize E r c = w
  have e : ∀ (k : BitVec 32) (x y : BitVec 32), Scalar.select (IntOp.cmpi .eq w k) x y = if w = k then x else y := by
    intro k x y
    unfold IntOp.cmpi Scalar.select
    by_cases h : w = k
    · simp [h]
    · simp [h, beq_eq_false_iff_ne.2 h]
  simp only [e]
  by_cases h3 : w = 3#32
  · subst h3
    rw [hit_same, hit_other _ _ (by decide), hit_other _ _ (by decide), hit_other _ _ (by decide), if_pos rfl]
    simp only [zero_mul, zero_add, one_mul]
  by_cases h2 : w = 2#32
  · subst h2
    rw [hit_same, hit_other _ _ (by decide), hit_other _ _ (by decide), hit_other _ _ (by decide), if_neg (by decide), if_pos rfl]
    simp only [zero_mul, zero_add, one_mul, add_zero]
  by_cases h1 : w = 1#32
  · subst h1
    rw [hit_same, hit_other _ _ (by decide), hit_other _ _ (by decide), hit_other _ _ (by decide), if_neg (by decide), if_neg (by decide), if_pos rfl]
    simp only [zero_mul, zero_add, one_mul, add_zero]
  by_cases h0 : w = 0#32
  · subst h0
    rw [hit_same, hit_other _ _ (by decide), hit_other _ _ (by decide), hit_other _ _ (by decide), if_neg (by decide), if_neg (by decide), if_neg (by decide), if_pos rfl]
    simp only [zero_mul, zero_add, one_mul, add_zero]
  rw [hit_other _ _ h0, hit_other _ _ h1, hit_other _ _ h2, hit_other _ _ h3, if_neg h3, if_neg h2, if_neg h1, if_neg h0]
  simp only [zero_mul, add_zero]
  exact fptosi_zero

end Sums

end Cert.Proof.Routed

end
-- ==== Proof.Routed.Cell.lean ====
/-
  The slot assignment's call, element by element, floats read as extended reals: a token's place among its expert's
  tokens, each expert's first row, and what the call leaves in its three output buffers.
-/
module

public import proofs.«01_k».proof.Proof.Routed.Count
public import proofs.«01_k».proof.Proof.Gen.RoutedIdeal.Frame
public import Idealize.ShloMosaic.Lib.Pipeline.Value
public import Idealize.ShloMosaic.Lib.Pipeline.ValueKit.Tiles
public import Idealize.ShloMosaic.Lib.MatmulPlain
public import Idealize.ShloMosaic.Lib.ValueIdx

@[expose] public section

noncomputable section

namespace Cert.Proof.Routed

open Cert.RoutedIdeal Cert.RoutedIdeal.Gen
open Idealize.ShloMosaic hiding ix0 ix1 ix2 ix3 ix4
open Idealize.ShloMosaic.ValueIdx

theorem ld_all {s : Shape} {e : EltTy} (x : Vec Ideal s e) (off : Fin s.rank → Nat) (inb) (h : ∀ a, off a = 0) :
    View.ld x (Rect.unit (s := s) off s.size inb) = x := by
  funext y
  refine View.ld_unit_apply_of _ _ _ _ _ _ fun a => ?_
  rw [h a]
  exact (Nat.zero_add _).symm

theorem zero2 : ∀ a : Fin 2, (![0, 0] : Fin 2 → Nat) a = 0
  | ⟨0, _⟩ => rfl
  | ⟨1, _⟩ => rfl

/-! ## Products, sums and spreads -/

theorem rowProd_read (L : FVec Ideal S64x128 .f32) (R : FVec Ideal S128x128 .f32) (r : Fin 64) (c : Fin 128) :
    matmul dot_S64x128_S128x128_S64x128_1_0_0_1_n_n none L R (constant S64x128 .f32 0x00000000#32) (ix2 r c) = ∑ j : Fin 128, L (ix2 r j) * R (ix2 j c) := by
  refine (Ideal.matmul_plain_apply (M := 64) (K := 128) (N := 128) none L R _ r c).trans ?_
  show Ideal.ofBits .f32 0x00000000#32 + _ = _
  rw [Ideal.ofBits_zero_f32, zero_add]

theorem colProd_read (L : FVec Ideal S64x64 .f32) (R : FVec Ideal S64x128 .f32) (r : Fin 64) (c : Fin 128) :
    matmul dot_S64x64_S64x128_S64x128_1_0_0_1_n_n none L R (constant S64x128 .f32 0x00000000#32) (ix2 r c) = ∑ j : Fin 64, L (ix2 r j) * R (ix2 j c) := by
  refine (Ideal.matmul_plain_apply (M := 64) (K := 64) (N := 128) none L R _ r c).trans ?_
  show Ideal.ofBits .f32 0x00000000#32 + _ = _
  rw [Ideal.ofBits_zero_f32, zero_add]

theorem laneSum_read (X : FVec Ideal S64x128 .f32) (r : Fin 64) :
    shapeCast S64x1 (multiReduction .add [1] S64 X 0x00000000#32 reduces_S64x128_S64 (.inl rfl) rfl) shapeCasts_S64_S64x1 (ix2 r 0)
      = ∑ c : Fin 128, X (ix2 r c) := by
  refine (shapeCast_apply (s := S64) (t := S64x1) _ _ (ix2 r 0) (ix1 r : S64.Idx) ?_).trans ?_
  · rw [Shape.rowMajor_val_one, Shape.rowMajor_val_two]
    show r.val = r.val * 1 + 0
    omega
  · exact Ideal.reduceAdd_r2_a1 (n0 := 64) (n1 := 128) reduces_S64x128_S64 X (ix1 r)

theorem fullSum_read (X : FVec Ideal S64x128 .f32) :
    shapeCast S1x1 (multiReduction .add [0] S1 (shapeCast S64x1 (multiReduction .add [1] S64 X 0x00000000#32 reduces_S64x128_S64 (.inl rfl) rfl) shapeCasts_S64_S64x1)
        0x00000000#32 reduces_S64x1_S1 (.inl rfl) rfl) shapeCasts_S1_S1x1 (ix2 0 0)
      = ∑ r : Fin 64, ∑ c : Fin 128, X (ix2 r c) := by
  refine (shapeCast_apply (s := S1) (t := S1x1) _ _ (ix2 0 0) (ix1 0 : S1.Idx) ?_).trans ?_
  · rw [Shape.rowMajor_val_one, Shape.rowMajor_val_two]
    rfl
  · refine (Ideal.reduceAdd_r2_a0 (n0 := 64) (n1 := 1) reduces_S64x1_S1 _ (ix1 0)).trans ?_
    refine Finset.sum_congr rfl fun r _ => ?_
    exact laneSum_read X r

theorem spreadRow_read (x : FVec Ideal S64x1 .f32) (r : Fin 64) (c : Fin 128) : broadcastTo S64x128 x broadcasts_S64x1_S64x128 (ix2 r c) = x (ix2 r 0) := by
  refine broadcastTo_apply _ _ _ (ix2 r (0 : Fin 1)) ?_
  intro a
  match a with
  | ⟨0, _⟩ => rfl
  | ⟨1, _⟩ => rfl

theorem spreadOne_read (x : FVec Ideal S1x1 .f32) (r : Fin 64) (c : Fin 128) : broadcastTo S64x128 x broadcasts_S1x1_S64x128 (ix2 r c) = x (ix2 0 0) := by
  refine broadcastTo_apply _ _ _ (ix2 (0 : Fin 1) (0 : Fin 1)) ?_
  intro a
  match a with
  | ⟨0, _⟩ => rfl
  | ⟨1, _⟩ => rfl

theorem spreadTile_read (x : FVec Ideal S1x1 .f32) (r : Fin 8) (c : Fin 128) : broadcastTo S8x128 x broadcasts_S1x1_S8x128 (ix2 r c) = x (ix2 0 0) := by
  refine broadcastTo_apply _ _ _ (ix2 (0 : Fin 1) (0 : Fin 1)) ?_
  intro a
  match a with
  | ⟨0, _⟩ => rfl
  | ⟨1, _⟩ => rfl

/-! ## The zeros and ones -/

theorem lanes_read (j c : Fin 128) : k0_pay3 (F := Ideal) (ix2 j c) = before j.val c.val := by
  have e0 : iota .tc S128x128 32 [0] iota_S128x128_d0_w32 (ix2 j c) = BitVec.ofNat 32 j.val := by
    rw [WordCmp.iota_at]
    show BitVec.ofNat 32 (0 * 128 + j.val) = _
    rw [Nat.zero_mul, Nat.zero_add]
  have e1 : iota .tc S128x128 32 [1] iota_S128x128_d1_w32 (ix2 j c) = BitVec.ofNat 32 c.val := by
    rw [WordCmp.iota_at]
    show BitVec.ofNat 32 (0 * 128 + c.val) = _
    rw [Nat.zero_mul, Nat.zero_add]
  refine Eq.trans ?_ (before_flag j.val c.val (by have := j.isLt; omega) (by have := c.isLt; omega))
  rw [← e0, ← e1]
  exact wide_flag _

theorem rows_read (r j : Fin 64) : k0_pay4 (F := Ideal) (ix2 r j) = before j.val r.val := by
  have e0 : iota .tc S64x64 32 [0] iota_S64x64_d0_w32 (ix2 r j) = BitVec.ofNat 32 r.val := by
    rw [WordCmp.iota_at]
    show BitVec.ofNat 32 (0 * 64 + r.val) = _
    rw [Nat.zero_mul, Nat.zero_add]
  have e1 : iota .tc S64x64 32 [1] iota_S64x64_d1_w32 (ix2 r j) = BitVec.ofNat 32 j.val := by
    rw [WordCmp.iota_at]
    show BitVec.ofNat 32 (0 * 64 + j.val) = _
    rw [Nat.zero_mul, Nat.zero_add]
  refine Eq.trans ?_ (before_flag j.val r.val (by have := j.isLt; omega) (by have := r.isLt; omega))
  rw [← e0, ← e1]
  exact wide_flag _

section Call

variable (x : Vec Ideal S64x128 .i32)

/-- The experts, by row and lane. -/
abbrev words : Fin 64 → Fin 128 → BitVec 32 := fun r c => x (ix2 r c)

/-- The tokens of expert `k`, marked. -/
abbrev marks (k : BitVec 32) : FVec Ideal S64x128 .f32 := sitofp .f32 (extui 32 (cmpi .eq x (broadcast S64x128 k)) natLt_1_32)

theorem marks_read (k : BitVec 32) (r : Fin 64) (c : Fin 128) : marks x k (ix2 r c) = hit (words x r c) k := wide_flag _

/-- The places of the tokens among those of expert `k`. -/
abbrev places (k : BitVec 32) : FVec Ideal S64x128 .f32 :=
  addf (matmul dot_S64x128_S128x128_S64x128_1_0_0_1_n_n none (marks x k) (k0_pay3 (F := Ideal)) (constant S64x128 .f32 0x00000000#32))
    (broadcastTo S64x128 (shapeCast S64x1 (multiReduction .add [1] S64
      (matmul dot_S64x64_S64x128_S64x128_1_0_0_1_n_n none (k0_pay4 (F := Ideal)) (marks x k) (constant S64x128 .f32 0x00000000#32))
      0x00000000#32 reduces_S64x128_S64 (.inl rfl) rfl) shapeCasts_S64_S64x1) broadcasts_S64x1_S64x128)

theorem places_read (k : BitVec 32) (r : Fin 64) (c : Fin 128) : places x k (ix2 r c) = rank (words x) k r c := by
  refine congrArg₂ (· + ·) ((rowProd_read _ _ r c).trans (Finset.sum_congr rfl fun j _ => congrArg₂ (· * ·) (marks_read x k r j) (lanes_read j c))) ?_
  refine (spreadRow_read _ r c).trans ((laneSum_read _ r).trans (Finset.sum_congr rfl fun c' _ => ?_))
  exact (colProd_read _ _ r c').trans (Finset.sum_congr rfl fun j _ => congrArg₂ (· * ·) (rows_read r j) (marks_read x k j c'))

/-- The rows of expert `k`. -/
abbrev roomOf (k : BitVec 32) : FVec Ideal S1x1 .f32 :=
  mulf (ceil (divf (shapeCast S1x1 (multiReduction .add [0] S1 (shapeCast S64x1 (multiReduction .add [1] S64 (marks x k) 0x00000000#32 reduces_S64x128_S64 (.inl rfl) rfl)
      shapeCasts_S64_S64x1) 0x00000000#32 reduces_S64x1_S1 (.inl rfl) rfl) shapeCasts_S1_S1x1) (broadcast S1x1 (Scalar.ofBits .f32 0x43800000#32))))
    (broadcast S1x1 (Scalar.ofBits .f32 0x43800000#32))

theorem room_read (k : BitVec 32) : roomOf x k (ix2 0 0) = room (words x) k := by
  unfold room count
  refine congrArg (fun s => Ideal.liftRound Int.ceil (Ideal.div s (Ideal.ofBits .f32 0x43800000#32)) * Ideal.ofBits .f32 0x43800000#32) ?_
  refine (fullSum_read _).trans (Finset.sum_congr rfl fun r _ => Finset.sum_congr rfl fun c _ => marks_read x k r c)

theorem start1_read : k0_pay8 x (ix2 0 0) = start1 (words x) := congrArg (Ideal.ofBits .f32 0x00000000#32 + ·) (room_read x 0#32)
theorem start2_read : k0_pay11 (k0_pay8 x) (k0_pay9 x) (ix2 0 0) = start2 (words x) := congrArg₂ (· + ·) (start1_read x) (room_read x 1#32)
theorem start3_read : k0_pay16 (k0_pay11 (k0_pay8 x) (k0_pay9 x)) (k0_pay14 x) (k0_pay15 (F := Ideal)) (ix2 0 0) = start3 (words x) :=
  congrArg₂ (· + ·) (start2_read x) (room_read x 2#32)

/-- One step of the assignment: the tokens of expert `k` get their slots. -/
theorem step_read (k : BitVec 32) (s : FVec Ideal S1x1 .f32) (p : IVec S64x128 32) (r : Fin 64) (c : Fin 128) (v : EReal) (hs : s (ix2 0 0) = v) (w : BitVec 32)
    (hp : p (ix2 r c) = w) :
    select (cmpi .eq x (broadcast S64x128 k)) (fptosi 32 (addf (places x k) (broadcastTo S64x128 s broadcasts_S1x1_S64x128))) p (ix2 r c)
      = Scalar.select (IntOp.cmpi .eq (words x r c) k) (Ideal.fptosi 32 (rank (words x) k r c + v)) w := by
  show Scalar.select (IntOp.cmpi .eq (x (ix2 r c)) k) (Ideal.fptosi 32 (places x k (ix2 r c) + broadcastTo S64x128 s broadcasts_S1x1_S64x128 (ix2 r c))) (p (ix2 r c)) = _
  rw [places_read, spreadOne_read, hs, hp]

/-- The assignment as the call computes it. -/
abbrev slotsOf : IVec S64x128 32 :=
  k0_pay17 x (k0_pay3 (F := Ideal)) (k0_pay4 (F := Ideal)) (k0_pay11 (k0_pay8 x) (k0_pay9 x))
    (k0_pay13 x (k0_pay3 (F := Ideal)) (k0_pay4 (F := Ideal)) (k0_pay7 x) (k0_pay8 x) (k0_pay9 x) (k0_pay10 x) (constant S64x128 .f32 0x00000000#32))
    (k0_pay14 x) (k0_pay15 (F := Ideal))

theorem slots_read (r : Fin 64) (c : Fin 128) : slotsOf x (ix2 r c) = slot (words x) r c := by
  refine step_read x 3#32 _ _ r c _ (start3_read x) _ ?_
  refine step_read x 2#32 _ _ r c _ (start2_read x) _ ?_
  refine step_read x 1#32 _ _ r c _ (start1_read x) _ ?_
  exact step_read x 0#32 _ _ r c _ rfl _ rfl

theorem tiles_read (s1 s2 s3 : FVec Ideal S1x1 .f32) (h1 : s1 (ix2 0 0) = start1 (words x)) (h2 : s2 (ix2 0 0) = start2 (words x))
    (h3 : s3 (ix2 0 0) = start3 (words x)) (r : Fin 8) (t : Fin 128) : k0_pay2 s1 s2 s3 (ix2 r t) = owner (words x) t.val := by
  have e1 : iota .tc S8x128 32 [1] iota_S8x128_d1_w32 (ix2 r t) = BitVec.ofNat 32 t.val := by
    rw [WordCmp.iota_at]
    show BitVec.ofNat 32 (0 * 128 + t.val) = _
    rw [Nat.zero_mul, Nat.zero_add]
  unfold owner
  rw [← e1, ← h1, ← h2, ← h3, ← spreadTile_read s1 r t, ← spreadTile_read s2 r t, ← spreadTile_read s3 r t]
  rfl

/-! ## The three buffers -/

theorem out1_read (r : Fin 64) (c : Fin 128) : out0_1 x (ix2 r c) = slot (words x) r c := by
  have e : out0_1 x = View.canon [⟨r0_0, slotsOf x⟩] := by
    unfold out0_1 k0_pay22 k0_pay23 k0_pay26 k0_pay27 k0_pay28 k0_pay29 k0_pay22 k0_pay23 k0_pay24 k0_pay25
    rw [ld_all x _ _ zero2]
  rw [e]
  refine (View.canon_apply_of_pieces (slotsOf x) _ ?_ (ix2 r c) (cover0_1 _ _)).trans (slots_read x r c)
  intro pc hp y
  obtain rfl := List.mem_singleton.1 hp
  refine congrArg (slotsOf x) (funext fun a => Fin.ext ?_)
  match a with
  | ⟨0, _⟩ => show (y 0).val = 0 + 1 * (y 0).val; omega
  | ⟨1, _⟩ => show (y 1).val = 0 + 1 * (y 1).val; omega

theorem out3_read (r : Fin 8) (t : Fin 128) : out0_3 x (ix2 r t) = owner (words x) t.val := by
  have e : out0_3 x = View.canon [⟨r0_5, k0_pay2 (k0_pay8 x) (k0_pay11 (k0_pay8 x) (k0_pay9 x)) (k0_pay16 (k0_pay11 (k0_pay8 x) (k0_pay9 x)) (k0_pay14 x) (k0_pay15 (F := Ideal)))⟩] := by
    unfold out0_3 k0_pay26 k0_pay28 k0_pay29 k0_pay24 k0_pay25
    rw [ld_all x _ _ zero2]
  rw [e]
  refine (View.canon_apply_of_pieces (k0_pay2 (k0_pay8 x) (k0_pay11 (k0_pay8 x) (k0_pay9 x)) (k0_pay16 (k0_pay11 (k0_pay8 x) (k0_pay9 x)) (k0_pay14 x) (k0_pay15 (F := Ideal)))) _ ?_
    (ix2 r t) (cover0_3 _ _)).trans (tiles_read x _ _ _ (start1_read x) (start2_read x) (start3_read x) r t)
  intro pc hp y
  obtain rfl := List.mem_singleton.1 hp
  refine congrArg (k0_pay2 _ _ _) (funext fun a => Fin.ext ?_)
  match a with
  | ⟨0, _⟩ => show (y 0).val = 0 + 1 * (y 0).val; omega
  | ⟨1, _⟩ => show (y 1).val = 0 + 1 * (y 1).val; omega

/-- The slots shifted by a constant, stored as one block of the second buffer. -/
theorem shifted_store (k : Nat) (hk : k < 4) (inb) (z : BitVec 32) (hz : z = IntOp.muli 9216#32 (BitVec.ofNat 32 k)) (Y : IVec S64x128 32)
    (y : (Rect.unit (s := S4x64x128) ![k, 0, 0] S1x64x128.size inb).shape.Idx) :
    shapeCast S1x64x128 (addi Y (broadcast S64x128 z)) shapeCasts_S64x128_S1x64x128 y
      = IntOp.addi (Y (ix2 ((Rect.unit (s := S4x64x128) ![k, 0, 0] S1x64x128.size inb).emb y 1) ((Rect.unit (s := S4x64x128) ![k, 0, 0] S1x64x128.size inb).emb y 2)))
          (IntOp.muli 9216#32 (BitVec.ofNat 32 ((Rect.unit (s := S4x64x128) ![k, 0, 0] S1x64x128.size inb).emb y 0).val)) := by
  subst hz
  have hy0 : (y 0).val < 1 := (y 0).isLt
  have e0 : ((Rect.unit (s := S4x64x128) ![k, 0, 0] S1x64x128.size inb).emb y 0).val = k := by show k + 1 * (y 0).val = k; omega
  have e1 : ((Rect.unit (s := S4x64x128) ![k, 0, 0] S1x64x128.size inb).emb y 1).val = (y 1).val := by show 0 + 1 * (y 1).val = _; omega
  have e2 : ((Rect.unit (s := S4x64x128) ![k, 0, 0] S1x64x128.size inb).emb y 2).val = (y 2).val := by show 0 + 1 * (y 2).val = _; omega
  rw [e0]
  refine (shapeCast_apply (s := S64x128) (t := S1x64x128) _ _ y
    (ix2 ((Rect.unit (s := S4x64x128) ![k, 0, 0] S1x64x128.size inb).emb y 1) ((Rect.unit (s := S4x64x128) ![k, 0, 0] S1x64x128.size inb).emb y 2) : S64x128.Idx) ?_).trans rfl
  rw [Shape.rowMajor_val_two, Shape.rowMajor_val_three]
  show ((Rect.unit (s := S4x64x128) ![k, 0, 0] S1x64x128.size inb).emb y 1).val * 128 + ((Rect.unit (s := S4x64x128) ![k, 0, 0] S1x64x128.size inb).emb y 2).val
    = ((y 0).val * 64 + (y 1).val) * 128 + (y 2).val
  rw [e1, e2]
  omega

theorem out2_read (q : Fin 4) (r : Fin 64) (c : Fin 128) :
    out0_2 x (ix3 q r c) = IntOp.addi (slot (words x) r c) (IntOp.muli 9216#32 (BitVec.ofNat 32 q.val)) := by
  rw [← slots_read]
  unfold out0_2 k0_pay22 k0_pay23 k0_pay26 k0_pay27 k0_pay28 k0_pay29 k0_pay22 k0_pay23 k0_pay24 k0_pay25
  rw [ld_all x _ _ zero2]
  refine (View.canon_apply_of_pieces (fun y : S4x64x128.Idx => IntOp.addi (slotsOf x (ix2 (y 1) (y 2))) (IntOp.muli 9216#32 (BitVec.ofNat 32 (y 0).val))) _ ?_ (ix3 q r c)
    (cover0_2 _ _ _ _ _)).trans rfl
  intro p hp y
  simp only [List.mem_cons, List.not_mem_nil, or_false] at hp
  rcases hp with rfl | rfl | rfl | rfl
  · exact shifted_store 3 (by omega) inb_S4x64x128_S1x64x128_3_0_0 27648#32 (by decide) (slotsOf x) y
  · exact shifted_store 2 (by omega) inb_S4x64x128_S1x64x128_2_0_0 18432#32 (by decide) (slotsOf x) y
  · exact shifted_store 1 (by omega) inb_S4x64x128_S1x64x128_1_0_0 9216#32 (by decide) (slotsOf x) y
  · exact shifted_store 0 (by omega) inb_S4x64x128_S1x64x128_0_0_0 0#32 (by decide) (slotsOf x) y

end Call

end Cert.Proof.Routed

end
-- ==== Proof.Routed.Ref.lean ====
/-
  The reference for the slot assignment, read at an element, floats read as extended reals: the experts' tokens counted
  over all the tokens in a row.
-/
module

public import proofs.«01_k».proof.Proof.Routed.Count
public import proofs.«01_k».proof.Proof.Gen.SlotsIdeal.Run
public import Idealize.ShloMosaic.Lib.Pointwise
public import Idealize.ShloMosaic.Lib.ValueIdx

@[expose] public section

noncomputable section

namespace Cert.Proof.Routed

open Cert.SlotsIdeal Cert.SlotsIdeal.Facts₀
open Idealize.ShloMosaic hiding ix0 ix1 ix2 ix3 ix4
open Idealize.ShloMosaic.ValueIdx

/-! ## The stages -/

abbrev mineOf (a0 : IVec S64x128 32) : FVec Ideal S8192x4 .f32 :=
  uitofp .f32 (cmpi .eq (broadcastInDim S8192x4 ![0, 1] bcast_S8192x1_S8192x4_0_1 (broadcastInDim S8192x1 ![0] bcast_S8192_S8192x1_0 (shapeCast S8192 a0 shapeCasts_S64x128_S8192)))
    (broadcastInDim S8192x4 ![0, 1] bcast_S1x4_S8192x4_0_1 (broadcastInDim S1x4 ![1] bcast_S4_S1x4_1 (iotaInDim S4 32 0))))

abbrev earlier : FVec Ideal S8192x8192 .f32 :=
  uitofp .f32 (cmpi .slt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0))))

abbrev roomsOf (M : FVec Ideal S8192x4 .f32) : FVec Ideal S4 .f32 :=
  mulf (Host.ceil (Host.divf (Host.reduceAdd M (constant S_ .f32 0x00000000#32) reducesTo_S8192x4_S4_d0 h_S_)
    (broadcastInDim S4 ![] bcast_S_S4 (constant S_ .f32 0x43800000#32)))) (broadcastInDim S4 ![] bcast_S_S4 (constant S_ .f32 0x43800000#32))

abbrev earlier4 : FVec Ideal S4x4 .f32 :=
  uitofp .f32 (cmpi .slt (broadcastInDim S4x4 ![0, 1] bcast_S1x4_S4x4_0_1 (broadcastInDim S1x4 ![1] bcast_S4_S1x4_1 (iotaInDim S4 32 0)))
    (broadcastInDim S4x4 ![0, 1] bcast_S4x1_S4x4_0_1 (broadcastInDim S4x1 ![0] bcast_S4_S4x1_0 (iotaInDim S4 32 0))))

abbrev startsOf (M : FVec Ideal S8192x4 .f32) : FVec Ideal S4 .f32 := Host.dotGeneral dot_S4x4_S4_S4_1_0_0_n_n_n none earlier4 (roomsOf M)

abbrev destOf (M : FVec Ideal S8192x4 .f32) : IVec S64x128 32 :=
  shapeCast S64x128 (fptosi 32 (Host.reduceAdd (mulf M (addf (Host.dotGeneral dot_S8192x8192_S8192x4_S8192x4_1_0_0_1_n_n none earlier M)
    (broadcastInDim S8192x4 ![0, 1] bcast_S1x4_S8192x4_0_1 (broadcastInDim S1x4 ![1] bcast_S4_S1x4_1 (startsOf M)))))
    (constant S_ .f32 0x00000000#32) reducesTo_S8192x4_S8192_d1 h_S_)) shapeCasts_S8192_S64x128

abbrev quartersOf (D : IVec S64x128 32) : IVec S4x64x128 32 :=
  addi (broadcastInDim S4x64x128 ![0, 1, 2] bcast_S1x64x128_S4x64x128_0_1_2 (broadcastInDim S1x64x128 ![1, 2] bcast_S64x128_S1x64x128_1_2 D))
    (broadcastInDim S4x64x128 ![0, 1, 2] bcast_S4x1x1_S4x64x128_0_1_2 (muli (broadcastInDim S4x1x1 ![] bcast_S_S4x1x1 (constantI S_ 32 9216#32))
      (broadcastInDim S4x1x1 ![0] bcast_S4_S4x1x1_0 (iotaInDim S4 32 0))))

abbrev rowOfTile : FVec Ideal S128 .f32 := sitofp .f32 (muli (iotaInDim S128 32 0) (broadcastInDim S128 ![] bcast_S_S128 (constantI S_ 32 256#32)))

abbrev tilesOf (P : FVec Ideal S4 .f32) : IVec S8x128 32 :=
  broadcastInDim S8x128 ![0, 1] bcast_S1x128_S8x128_0_1 (broadcastInDim S1x128 ![1] bcast_S128_S1x128_1
    (addi (addi (addi (broadcastInDim S128 ![] bcast_S_S128 (constantI S_ 32 0#32))
      (extui 32 (cmpf .oge rowOfTile (broadcastInDim S128 ![] bcast_S_S128 (shapeCast S_ (extractStridedSlice S1 ![1] P slices_S4_S1_1) shapeCasts_S1_S_))) natLt_1_32))
      (extui 32 (cmpf .oge rowOfTile (broadcastInDim S128 ![] bcast_S_S128 (shapeCast S_ (extractStridedSlice S1 ![2] P slices_S4_S1_2) shapeCasts_S1_S_))) natLt_1_32))
      (extui 32 (cmpf .oge rowOfTile (broadcastInDim S128 ![] bcast_S_S128 (shapeCast S_ (extractStridedSlice S1 ![3] P slices_S4_S1_3) shapeCasts_S1_S_))) natLt_1_32)))

/-! ## Reads -/

theorem four_read {α : Type} (x : S4.Idx → α) (t : Fin 8192) (k : Fin 4) :
    broadcastInDim S8192x4 ![0, 1] bcast_S1x4_S8192x4_0_1 (broadcastInDim S1x4 ![1] bcast_S4_S1x4_1 x) (ix2 t k) = x (ix1 k) := by
  refine (broadcastInDim_apply (s := S1x4) (t := S8192x4) _ _ _ (ix2 t k) (ix2 0 k : S1x4.Idx) fun a => ?_).trans
    (broadcastInDim_apply (s := S4) (t := S1x4) _ _ _ (ix2 0 k) (ix1 k : S4.Idx) fun a => ?_)
  · match a with
    | ⟨0, _⟩ => rfl
    | ⟨1, _⟩ => rfl
  · match a with
    | ⟨0, _⟩ => rfl

theorem column_read {α : Type} (x : S8192.Idx → α) (t : Fin 8192) (k : Fin 4) :
    broadcastInDim S8192x4 ![0, 1] bcast_S8192x1_S8192x4_0_1 (broadcastInDim S8192x1 ![0] bcast_S8192_S8192x1_0 x) (ix2 t k) = x (ix1 t) := by
  refine (broadcastInDim_apply (s := S8192x1) (t := S8192x4) _ _ _ (ix2 t k) (ix2 t 0 : S8192x1.Idx) fun a => ?_).trans
    (broadcastInDim_apply (s := S8192) (t := S8192x1) _ _ _ (ix2 t 0) (ix1 t : S8192.Idx) fun a => ?_)
  · match a with
    | ⟨0, _⟩ => rfl
    | ⟨1, _⟩ => rfl
  · match a with
    | ⟨0, _⟩ => rfl

theorem across_read {α : Type} (x : S8192.Idx → α) (t u : Fin 8192) :
    broadcastInDim S8192x8192 ![0, 1] bcast_S1x8192_S8192x8192_0_1 (broadcastInDim S1x8192 ![1] bcast_S8192_S1x8192_1 x) (ix2 t u) = x (ix1 u) := by
  refine (broadcastInDim_apply (s := S1x8192) (t := S8192x8192) _ _ _ (ix2 t u) (ix2 0 u : S1x8192.Idx) fun a => ?_).trans
    (broadcastInDim_apply (s := S8192) (t := S1x8192) _ _ _ (ix2 0 u) (ix1 u : S8192.Idx) fun a => ?_)
  · match a with
    | ⟨0, _⟩ => rfl
    | ⟨1, _⟩ => rfl
  · match a with
    | ⟨0, _⟩ => rfl

theorem down_read {α : Type} (x : S8192.Idx → α) (t u : Fin 8192) :
    broadcastInDim S8192x8192 ![0, 1] bcast_S8192x1_S8192x8192_0_1 (broadcastInDim S8192x1 ![0] bcast_S8192_S8192x1_0 x) (ix2 t u) = x (ix1 t) := by
  refine (broadcastInDim_apply (s := S8192x1) (t := S8192x8192) _ _ _ (ix2 t u) (ix2 t 0 : S8192x1.Idx) fun a => ?_).trans
    (broadcastInDim_apply (s := S8192) (t := S8192x1) _ _ _ (ix2 t 0) (ix1 t : S8192.Idx) fun a => ?_)
  · match a with
    | ⟨0, _⟩ => rfl
    | ⟨1, _⟩ => rfl
  · match a with
    | ⟨0, _⟩ => rfl

theorem across4_read {α : Type} (x : S4.Idx → α) (k l : Fin 4) :
    broadcastInDim S4x4 ![0, 1] bcast_S1x4_S4x4_0_1 (broadcastInDim S1x4 ![1] bcast_S4_S1x4_1 x) (ix2 k l) = x (ix1 l) := by
  refine (broadcastInDim_apply (s := S1x4) (t := S4x4) _ _ _ (ix2 k l) (ix2 0 l : S1x4.Idx) fun a => ?_).trans
    (broadcastInDim_apply (s := S4) (t := S1x4) _ _ _ (ix2 0 l) (ix1 l : S4.Idx) fun a => ?_)
  · match a with
    | ⟨0, _⟩ => rfl
    | ⟨1, _⟩ => rfl
  · match a with
    | ⟨0, _⟩ => rfl

theorem down4_read {α : Type} (x : S4.Idx → α) (k l : Fin 4) :
    broadcastInDim S4x4 ![0, 1] bcast_S4x1_S4x4_0_1 (broadcastInDim S4x1 ![0] bcast_S4_S4x1_0 x) (ix2 k l) = x (ix1 k) := by
  refine (broadcastInDim_apply (s := S4x1) (t := S4x4) _ _ _ (ix2 k l) (ix2 k 0 : S4x1.Idx) fun a => ?_).trans
    (broadcastInDim_apply (s := S4) (t := S4x1) _ _ _ (ix2 k 0) (ix1 k : S4.Idx) fun a => ?_)
  · match a with
    | ⟨0, _⟩ => rfl
    | ⟨1, _⟩ => rfl
  · match a with
    | ⟨0, _⟩ => rfl

theorem earlier_read (t u : Fin 8192) : earlier (ix2 t u) = before u.val t.val := by
  refine Eq.trans ?_ (before_flag u.val t.val (by have := u.isLt; omega) (by have := t.isLt; omega))
  exact congrArg₂ (fun a b => flag (IntOp.cmpi .slt a b)) (across_read (iotaInDim S8192 32 0) t u) (down_read (iotaInDim S8192 32 0) t u)

theorem earlier4_read (k l : Fin 4) : earlier4 (ix2 k l) = before l.val k.val := by
  refine Eq.trans ?_ (before_flag l.val k.val (by have := l.isLt; omega) (by have := k.isLt; omega))
  exact congrArg₂ (fun a b => flag (IntOp.cmpi .slt a b)) (across4_read (iotaInDim S4 32 0) k l) (down4_read (iotaInDim S4 32 0) k l)

theorem rankDot_read (L : FVec Ideal S8192x8192 .f32) (M : FVec Ideal S8192x4 .f32) (t : Fin 8192) (k : Fin 4) :
    Host.dotGeneral dot_S8192x8192_S8192x4_S8192x4_1_0_0_1_n_n none L M (ix2 t k) = ∑ u : Fin 8192, L (ix2 t u) * M (ix2 u k) := by
  simp only [pointwise]
  try exact zero_add _

theorem startDot_read (L : FVec Ideal S4x4 .f32) (v : FVec Ideal S4 .f32) (k : Fin 4) :
    Host.dotGeneral dot_S4x4_S4_S4_1_0_0_n_n_n none L v (ix1 k) = ∑ l : Fin 4, L (ix2 k l) * v (ix1 l) := by
  simp only [pointwise]
  try exact zero_add _

section Call

variable (a0 : IVec S64x128 32)

/-- The experts, by row and lane. -/
abbrev words' : Fin 64 → Fin 128 → BitVec 32 := fun r c => a0 (ix2 r c)

theorem flat_read (t : Fin 8192) : shapeCast S8192 a0 shapeCasts_S64x128_S8192 (ix1 t) = inRow (words' a0) t := by
  refine shapeCast_apply (s := S64x128) (t := S8192) _ _ (ix1 t) (ix2 ⟨t.val / 128, by omega⟩ ⟨t.val % 128, by omega⟩ : S64x128.Idx) ?_
  rw [Shape.rowMajor_val_two, Shape.rowMajor_val_one]
  show t.val / 128 * 128 + t.val % 128 = t.val
  omega

theorem mine_read (t : Fin 8192) (k : Fin 4) : mineOf a0 (ix2 t k) = hit (inRow (words' a0) t) (BitVec.ofNat 32 k.val) :=
  congrArg₂ hit ((column_read _ t k).trans (flat_read a0 t)) (four_read (iotaInDim S4 32 0) t k)

theorem counts_read (k : Fin 4) : Host.reduceAdd (mineOf a0) (constant S_ .f32 0x00000000#32) reducesTo_S8192x4_S4_d0 h_S_ (ix1 k)
    = count (words' a0) (BitVec.ofNat 32 k.val) := by
  rw [← count_tokens, Host.reduceAdd_apply, Ideal.hostReduceAdd_def, Ideal.hostReduceAdd_r2_a0]
  show Ideal.ofBits .f32 0x00000000#32 + ∑ t : Fin 8192, mineOf a0 (ix2 t k) = _
  rw [Ideal.ofBits_zero_f32, zero_add]
  exact Finset.sum_congr rfl fun t _ => mine_read a0 t k

theorem rooms_read (k : Fin 4) : roomsOf (mineOf a0) (ix1 k) = room (words' a0) (BitVec.ofNat 32 k.val) := by
  unfold room
  rw [← counts_read]
  rfl

theorem starts_read (k : Fin 4) : startsOf (mineOf a0) (ix1 k) = start (words' a0) k := by
  rw [← start_sum]
  exact (startDot_read _ _ k).trans (Finset.sum_congr rfl fun l _ => congrArg₂ (· * ·) (earlier4_read k l) (rooms_read a0 l))

theorem ranks_read (r : Fin 64) (c : Fin 128) (k : Fin 4) :
    Host.dotGeneral dot_S8192x8192_S8192x4_S8192x4_1_0_0_1_n_n none earlier (mineOf a0) (ix2 (tok r c) k) = rank (words' a0) (BitVec.ofNat 32 k.val) r c := by
  rw [← rank_tokens]
  exact (rankDot_read _ _ _ k).trans (Finset.sum_congr rfl fun u _ => congrArg₂ (· * ·) (earlier_read (tok r c) u) (mine_read a0 u k))

theorem dest_read (r : Fin 64) (c : Fin 128) : destOf (mineOf a0) (ix2 r c) = slot (words' a0) r c := by
  rw [← slot_sum]
  refine (shapeCast_apply (s := S8192) (t := S64x128) _ _ (ix2 r c) (ix1 (tok r c) : S8192.Idx) ?_).trans ?_
  · rw [Shape.rowMajor_val_two, Shape.rowMajor_val_one]
    rfl
  refine congrArg (Ideal.fptosi 32) ?_
  rw [Host.reduceAdd_apply, Ideal.hostReduceAdd_def, Ideal.hostReduceAdd_r2_a1]
  show Ideal.ofBits .f32 0x00000000#32 + ∑ k : Fin 4, mineOf a0 (ix2 (tok r c) k) * (Host.dotGeneral dot_S8192x8192_S8192x4_S8192x4_1_0_0_1_n_n none earlier (mineOf a0) (ix2 (tok r c) k)
    + broadcastInDim S8192x4 ![0, 1] bcast_S1x4_S8192x4_0_1 (broadcastInDim S1x4 ![1] bcast_S4_S1x4_1 (startsOf (mineOf a0))) (ix2 (tok r c) k)) = _
  rw [Ideal.ofBits_zero_f32, zero_add]
  refine Finset.sum_congr rfl fun k _ => congrArg₂ (· * ·) ?_ (congrArg₂ (· + ·) (ranks_read a0 r c k) ?_)
  · rw [mine_read, inRow_tok]
  · exact (four_read _ _ k).trans (starts_read a0 k)

theorem quarters_read (D : IVec S64x128 32) (q : Fin 4) (r : Fin 64) (c : Fin 128) :
    quartersOf D (ix3 q r c) = IntOp.addi (D (ix2 r c)) (IntOp.muli 9216#32 (BitVec.ofNat 32 q.val)) := by
  refine congrArg₂ IntOp.addi ?_ ?_
  · refine (broadcastInDim_apply (s := S1x64x128) (t := S4x64x128) _ _ _ (ix3 q r c) (ix3 0 r c : S1x64x128.Idx) fun a => ?_).trans
      (broadcastInDim_apply (s := S64x128) (t := S1x64x128) _ _ _ (ix3 0 r c) (ix2 r c : S64x128.Idx) fun a => ?_)
    · match a with
      | ⟨0, _⟩ => rfl
      | ⟨1, _⟩ => rfl
      | ⟨2, _⟩ => rfl
    · match a with
      | ⟨0, _⟩ => rfl
      | ⟨1, _⟩ => rfl
  · refine (broadcastInDim_apply (s := S4x1x1) (t := S4x64x128) _ _ _ (ix3 q r c) (ix3 q 0 0 : S4x1x1.Idx) fun a => ?_).trans ?_
    · match a with
      | ⟨0, _⟩ => rfl
      | ⟨1, _⟩ => rfl
      | ⟨2, _⟩ => rfl
    · refine congrArg (IntOp.muli 9216#32) ?_
      refine (broadcastInDim_apply (s := S4) (t := S4x1x1) _ _ _ (ix3 q 0 0) (ix1 q : S4.Idx) fun a => ?_).trans rfl
      match a with
      | ⟨0, _⟩ => rfl

theorem one_read (P : FVec Ideal S4 .f32) (o : Nat) (ho : o < 4) (hs : S4.Slices ![o] S1) (t : Fin 128) :
    broadcastInDim S128 ![] bcast_S_S128 (shapeCast S_ (extractStridedSlice S1 ![o] P hs) shapeCasts_S1_S_) (ix1 t) = P (ix1 ⟨o, ho⟩) := by
  refine (broadcastInDim_apply (s := S_) (t := S128) _ _ _ (ix1 t) (ix0 : S_.Idx) fun a => a.elim0).trans ?_
  refine (shapeCast_apply (s := S1) (t := S_) _ _ ix0 (ix1 0 : S1.Idx) ?_).trans ?_
  · rw [Shape.rowMajor_val_one]
    rfl
  · refine congrArg P (funext fun a => Fin.ext ?_)
    match a with
    | ⟨0, _⟩ => show o + 0 = o; omega

theorem owners_read (r : Fin 8) (t : Fin 128) : tilesOf (startsOf (mineOf a0)) (ix2 r t) = owner (words' a0) t.val := by
  have h1 : start1 (words' a0) = startsOf (mineOf a0) (ix1 ⟨1, by omega⟩) := (starts_read a0 1).symm
  have h2 : start2 (words' a0) = startsOf (mineOf a0) (ix1 ⟨2, by omega⟩) := (starts_read a0 2).symm
  have h3 : start3 (words' a0) = startsOf (mineOf a0) (ix1 ⟨3, by omega⟩) := (starts_read a0 3).symm
  refine (broadcastInDim_apply (s := S1x128) (t := S8x128) _ _ _ (ix2 r t) (ix2 0 t : S1x128.Idx) fun a => ?_).trans
    ((broadcastInDim_apply (s := S128) (t := S1x128) _ _ _ (ix2 0 t) (ix1 t : S128.Idx) fun a => ?_).trans ?_)
  · match a with
    | ⟨0, _⟩ => rfl
    | ⟨1, _⟩ => rfl
  · match a with
    | ⟨0, _⟩ => rfl
  · unfold owner
    rw [h1, h2, h3, ← one_read (startsOf (mineOf a0)) 1 (by omega) slices_S4_S1_1 t, ← one_read (startsOf (mineOf a0)) 2 (by omega) slices_S4_S1_2 t,
      ← one_read (startsOf (mineOf a0)) 3 (by omega) slices_S4_S1_3 t]
    rfl

end Call

end Cert.Proof.Routed

end
-- ==== Proof.Routed.Value.lean ====
/-
  The slot assignment's call against its reference: the three arrays that the call leaves are the reference's three
  results of the same argument. And the call's run, with these arrays.
-/
module

public import proofs.«01_k».proof.Proof.Routed.Cell
public import proofs.«01_k».proof.Proof.Routed.Ref
public import Idealize.ShloMosaic.Lib.Pipeline.ValueKit.Geometry

@[expose] public section

noncomputable section

namespace Cert.Proof.Routed

open Idealize.ShloMosaic hiding ix0 ix1 ix2 ix3 ix4
open Idealize.ShloMosaic.TcCoe Idealize.ShloMosaic.ValueIdx Idealize.SL.Sem
open Idealize.ShloMosaic.Pipeline (Dat Cfg Window arrRef)
open Cert.RoutedIdeal Cert.RoutedIdeal.Gen

variable (m : (ℓ : Loc nD τ sig) → Buf (Elt Ideal) ℓ)

/-- The experts, as the call finds them. -/
abbrev experts : IVec Cert.SlotsIdeal.S64x128 32 := m (((0 : Dev nD) : Thread nD τ).loc main_arg0)

/-- The reference's three results of these experts. -/
def slotArr : IVec Cert.SlotsIdeal.S64x128 32 := destOf (mineOf (experts m))
def quarterArr : IVec Cert.SlotsIdeal.S4x64x128 32 := quartersOf (slotArr m)
def tileArr : IVec Cert.SlotsIdeal.S8x128 32 := tilesOf (startsOf (mineOf (experts m)))

theorem slotArr_read (r : Fin 64) (c : Fin 128) : slotArr m (ix2 r c) = slot (words' (experts m)) r c := dest_read (experts m) r c
theorem quarterArr_read (q : Fin 4) (r : Fin 64) (c : Fin 128) :
    quarterArr m (ix3 q r c) = IntOp.addi (slot (words' (experts m)) r c) (IntOp.muli 9216#32 (BitVec.ofNat 32 q.val)) :=
  (quarters_read (slotArr m) q r c).trans (congrArg (fun w => IntOp.addi w (IntOp.muli 9216#32 (BitVec.ofNat 32 q.val))) (slotArr_read m r c))
theorem tileArr_read (r : Fin 8) (t : Fin 128) : tileArr m (ix2 r t) = owner (words' (experts m)) t.val := owners_read (experts m) r t

/-- The one block of the call holds the whole array. -/
theorem blk_read (t : Fin cfg0.N) (r : Fin 64) (c : Fin 128) : iblk m 0 0 t (ix2 r c) = words' (experts m) r c := by
  unfold iblk
  refine congrArg (V m 0 main_arg0) (funext fun a => Fin.ext ?_)
  match a with
  | ⟨0, _⟩ => show 0 + 1 * r.val = r.val; omega
  | ⟨1, _⟩ => show 0 + 1 * c.val = c.val; omega

theorem blk_words (t : Fin cfg0.N) : words (iblk m 0 0 t) = words' (experts m) := funext fun r => funext fun c => blk_read m t r c

theorem slots_out : (dats m 0 0).arrAt 1 cfg0.N = slotArr m := by
  refine Dat.arrAt_eq_of_emb (dats m 0 0) 1 _ ?_ ?_
  · intro t _ y
    obtain ⟨r, c, rfl⟩ : ∃ (r : Fin 64) (c : Fin 128), y = (ix2 r c : Cert.RoutedIdeal.S64x128.Idx) := ⟨y 0, y 1, ValueIdx.eq_ix2 (y : Cert.RoutedIdeal.S64x128.Idx)⟩
    have e1 : ((cfg0.win 1).blk t).view.emb (ix2 r c : Cert.RoutedIdeal.S64x128.Idx) = (ix2 r c : Cert.RoutedIdeal.S64x128.Idx) := by
      funext a
      refine Fin.ext ?_
      match a with
      | ⟨0, _⟩ => show 0 + 1 * r.val = r.val; omega
      | ⟨1, _⟩ => show 0 + 1 * c.val = c.val; omega
    rw [e1, after0_1]
    refine (out1_read _ r c).trans ?_
    rw [blk_words]
    exact (slotArr_read m r c).symm
  · intro i'
    let i : Cert.RoutedIdeal.S64x128.Idx := i'
    show ∃ t, _ ∧ i ∈ _
    refine ⟨t0_0, flush0_1 _, ?_⟩
    have e1 : i = ((cfg0.win 1).blk t0_0).view.emb (ix2 (i 0) (i 1) : Cert.RoutedIdeal.S64x128.Idx) := by
      funext a
      refine Fin.ext ?_
      match a with
      | ⟨0, _⟩ => show (i 0).val = 0 + 1 * (i 0).val; omega
      | ⟨1, _⟩ => show (i 1).val = 0 + 1 * (i 1).val; omega
    exact Finset.mem_map.2 ⟨(ix2 (i 0) (i 1) : Cert.RoutedIdeal.S64x128.Idx), Finset.mem_univ _, e1.symm⟩

theorem quarters_out : (dats m 0 0).arrAt 2 cfg0.N = quarterArr m := by
  refine Dat.arrAt_eq_of_emb (dats m 0 0) 2 _ ?_ ?_
  · intro t _ y
    obtain ⟨q, r, c, rfl⟩ : ∃ (q : Fin 4) (r : Fin 64) (c : Fin 128), y = (ix3 q r c : Cert.RoutedIdeal.S4x64x128.Idx) :=
      ⟨y 0, y 1, y 2, ValueIdx.eq_ix3 (y : Cert.RoutedIdeal.S4x64x128.Idx)⟩
    have e1 : ((cfg0.win 2).blk t).view.emb (ix3 q r c : Cert.RoutedIdeal.S4x64x128.Idx) = (ix3 q r c : Cert.RoutedIdeal.S4x64x128.Idx) := by
      funext a
      refine Fin.ext ?_
      match a with
      | ⟨0, _⟩ => show 0 + 1 * q.val = q.val; omega
      | ⟨1, _⟩ => show 0 + 1 * r.val = r.val; omega
      | ⟨2, _⟩ => show 0 + 1 * c.val = c.val; omega
    rw [e1, after0_2]
    refine (out2_read _ q r c).trans ?_
    rw [blk_words]
    exact (quarterArr_read m q r c).symm
  · intro i'
    let i : Cert.RoutedIdeal.S4x64x128.Idx := i'
    show ∃ t, _ ∧ i ∈ _
    refine ⟨t0_0, flush0_2 _, ?_⟩
    have e1 : i = ((cfg0.win 2).blk t0_0).view.emb (ix3 (i 0) (i 1) (i 2) : Cert.RoutedIdeal.S4x64x128.Idx) := by
      funext a
      refine Fin.ext ?_
      match a with
      | ⟨0, _⟩ => show (i 0).val = 0 + 1 * (i 0).val; omega
      | ⟨1, _⟩ => show (i 1).val = 0 + 1 * (i 1).val; omega
      | ⟨2, _⟩ => show (i 2).val = 0 + 1 * (i 2).val; omega
    exact Finset.mem_map.2 ⟨(ix3 (i 0) (i 1) (i 2) : Cert.RoutedIdeal.S4x64x128.Idx), Finset.mem_univ _, e1.symm⟩

theorem tiles_out : (dats m 0 0).arrAt 3 cfg0.N = tileArr m := by
  refine Dat.arrAt_eq_of_emb (dats m 0 0) 3 _ ?_ ?_
  · intro t _ y
    obtain ⟨r, c, rfl⟩ : ∃ (r : Fin 8) (c : Fin 128), y = (ix2 r c : Cert.RoutedIdeal.S8x128.Idx) := ⟨y 0, y 1, ValueIdx.eq_ix2 (y : Cert.RoutedIdeal.S8x128.Idx)⟩
    have e1 : ((cfg0.win 3).blk t).view.emb (ix2 r c : Cert.RoutedIdeal.S8x128.Idx) = (ix2 r c : Cert.RoutedIdeal.S8x128.Idx) := by
      funext a
      refine Fin.ext ?_
      match a with
      | ⟨0, _⟩ => show 0 + 1 * r.val = r.val; omega
      | ⟨1, _⟩ => show 0 + 1 * c.val = c.val; omega
    rw [e1, after0_3]
    refine (out3_read _ r c).trans ?_
    rw [blk_words]
    exact (tileArr_read m r c).symm
  · intro i'
    let i : Cert.RoutedIdeal.S8x128.Idx := i'
    show ∃ t, _ ∧ i ∈ _
    refine ⟨t0_0, flush0_3 _, ?_⟩
    have e1 : i = ((cfg0.win 3).blk t0_0).view.emb (ix2 (i 0) (i 1) : Cert.RoutedIdeal.S8x128.Idx) := by
      funext a
      refine Fin.ext ?_
      match a with
      | ⟨0, _⟩ => show (i 0).val = 0 + 1 * (i 0).val; omega
      | ⟨1, _⟩ => show (i 1).val = 0 + 1 * (i 1).val; omega
    exact Finset.mem_map.2 ⟨(ix2 (i 0) (i 1) : Cert.RoutedIdeal.S8x128.Idx), Finset.mem_univ _, e1.symm⟩

/-- The call's run: the three arrays. -/
theorem run_routed (ρ : Dev nD → PrngReg) :
    θ_run (defs (F := Ideal)) (onTc (τ := τ) (main (F := Ideal))) ⟨m, fun _ => 0, ρ⟩ fun r =>
      r.2.mem (((0 : Dev nD).tc : Thread nD τ).loc main_v0_0) = slotArr m
      ∧ r.2.mem (((0 : Dev nD).tc : Thread nD τ).loc main_v0_1) = quarterArr m
      ∧ r.2.mem (((0 : Dev nD).tc : Thread nD τ).loc main_v0_2) = tileArr m :=
  (θ_run defs _ _).mono (fun _ h => ⟨((h.1 0).1 1).trans (slots_out m), ((h.1 0).1 2).trans (quarters_out m), ((h.1 0).1 3).trans (tiles_out m)⟩)
    (run_main_quiescent m ρ)

set_option maxHeartbeats 4000000 in
/-- The reference's run, from the same experts: the same three arrays, and the experts as before. -/
theorem run_slots (m' : (ℓ : Loc Cert.SlotsIdeal.nD Cert.SlotsIdeal.τ Cert.SlotsIdeal.sig) → Buf (Elt Ideal) ℓ) (ρ' : Dev Cert.SlotsIdeal.nD → PrngReg)
    (h0 : m' (((0 : Dev Cert.SlotsIdeal.nD).tc : Thread Cert.SlotsIdeal.nD Cert.SlotsIdeal.τ).loc Cert.SlotsIdeal.main_arg0) = experts m) :
    θ_run (Cert.SlotsIdeal.defs (F := Ideal)) (onTc (τ := Cert.SlotsIdeal.τ) (Cert.SlotsIdeal.main (F := Ideal))) ⟨m', fun _ => 0, ρ'⟩ fun r =>
      r.2.mem (((0 : Dev Cert.SlotsIdeal.nD).tc : Thread Cert.SlotsIdeal.nD Cert.SlotsIdeal.τ).loc Cert.SlotsIdeal.main_v35) = slotArr m
      ∧ r.2.mem (((0 : Dev Cert.SlotsIdeal.nD).tc : Thread Cert.SlotsIdeal.nD Cert.SlotsIdeal.τ).loc Cert.SlotsIdeal.main_v42) = quarterArr m
      ∧ r.2.mem (((0 : Dev Cert.SlotsIdeal.nD).tc : Thread Cert.SlotsIdeal.nD Cert.SlotsIdeal.τ).loc Cert.SlotsIdeal.main_v67) = tileArr m
      ∧ r.2.mem (((0 : Dev Cert.SlotsIdeal.nD).tc : Thread Cert.SlotsIdeal.nD Cert.SlotsIdeal.τ).loc Cert.SlotsIdeal.main_arg0)
          = m' (((0 : Dev Cert.SlotsIdeal.nD).tc : Thread Cert.SlotsIdeal.nD Cert.SlotsIdeal.τ).loc Cert.SlotsIdeal.main_arg0) := by
  refine (θ_run Cert.SlotsIdeal.defs _ _).mono (fun r h => ?_) (Cert.SlotsIdeal.Value.run (F := Ideal) m' ρ')
  obtain ⟨e0, e1, e2, e3⟩ := h 0
  rw [h0] at e0 e1 e2
  exact ⟨e0, e1, e2, e3⟩

end Cert.Proof.Routed

end
-- ==== Proof.Routed.Same.lean ====
/-
  The two printed programs of the slot assignment have the same text, so they are the same program at the same float values:
  stated here once, for the frame at the machine's floats.
-/
module

public import proofs.«01_k».proof.Defs
public import proofs.«01_k».proof.Proof.Gen.Routed
public import proofs.«01_k».proof.Proof.Gen.RoutedIdeal

@[expose] public section

namespace Cert.Proof.Routed

open Idealize.ShloMosaic Idealize.SL.Sem

set_option maxHeartbeats 4000000 in
theorem same_bodies : Cert.Routed.defs₀ (F := Bits) = Cert.RoutedIdeal.defs₀ (F := Bits) := by
  funext p a b
  match p, a, b with
  | .tc, 0, (t, s) => rfl
  | .scVector _ _, 0, (t, s) => rfl
  | .scScalar _, 0, (t, s) => rfl

set_option maxHeartbeats 4000000 in
theorem same_defs : Cert.Routed.defs (F := Bits) = Cert.RoutedIdeal.defs (F := Bits) := by
  have h := congrArg (fun D => Pipeline.defs Cert.RoutedIdeal.pcfgs D) same_bodies
  exact h

set_option maxHeartbeats 4000000 in
theorem same_main : Cert.Routed.main (F := Bits) = Cert.RoutedIdeal.main (F := Bits) := by
  funext d
  unfold Cert.Routed.main Cert.RoutedIdeal.main
  rfl

set_option maxHeartbeats 4000000 in
theorem same_threads : onTc (τ := Cert.Routed.τ) (Cert.Routed.main (F := Bits)) = onTc (τ := Cert.RoutedIdeal.τ) (Cert.RoutedIdeal.main (F := Bits)) := by
  have h := congrArg (fun M => onTc (τ := Cert.RoutedIdeal.τ) M) same_main
  exact h

set_option maxHeartbeats 4000000 in
/-- What holds of every run of the one program holds of every run of the other. -/
theorem same_run (x : MemSt Cert.RoutedIdeal.nD Cert.RoutedIdeal.τ Cert.RoutedIdeal.sig (Elt Bits))
    (Q : PUnit × MemSt Cert.RoutedIdeal.nD Cert.RoutedIdeal.τ Cert.RoutedIdeal.sig (Elt Bits) → Prop)
    (h : θ_run (Cert.RoutedIdeal.defs (F := Bits)) (onTc (τ := Cert.RoutedIdeal.τ) (Cert.RoutedIdeal.main (F := Bits))) x Q) :
    θ_run (Cert.Routed.defs (F := Bits)) (onTc (τ := Cert.Routed.τ) (Cert.Routed.main (F := Bits))) x Q :=
  have e := congrArg₂ (fun D T => θ_run D T x Q) same_defs same_threads
  Eq.mpr e h

end Cert.Proof.Routed

end
-- ==== Proof.Sent.Words.lean ====
/-
  The integer chains of the dispatch's tile in closed form: at trip `k` of each of its two loops the words carried, the
  conditions of its copies and the offsets of the blocks they name, for every tile of the grid.
-/
module

public import proofs.«01_k».proof.Proof.Gen.SentIdeal
public import proofs.«01_k».proof.Proof.Gen.SentIdeal.Skeleton
public import Idealize.ShloMosaic.Lib.Decide

@[expose] public section

noncomputable section

namespace Cert.Proof.Sent

open Cert.SentIdeal Cert.SentIdeal.Gen
open Idealize.ShloMosaic Idealize.SL.Sem

/-- The tile's number. -/
abbrev tile (i : grid1.Coords) : ℕ := (i 0).val * 16 + (i 1).val

/-- The block of 128 rows that the first loop sends at trip `k`; that the second sends. -/
abbrev blk (i : grid1.Coords) (k : ℕ) : ℕ := (k / 4) * 128 + (4 * tile i + k % 4)
abbrev bkk (i : grid1.Coords) (k : ℕ) : ℕ := k * 32 + tile i

/-- The words a loop carries before trip `k`: the copies started, the blocks sent, the coordinates of the block. -/
abbrev w9 (k : ℕ) : BitVec 32 := BitVec.ofNat 32 (min (k + 1) 8)
abbrev u9 (k : ℕ) : BitVec 32 := BitVec.ofNat 32 (min (k + 1) 2)
abbrev w10 (k : ℕ) : BitVec 32 := BitVec.ofNat 32 k
abbrev w13 (k : ℕ) : BitVec 32 := BitVec.ofNat 32 ((k / 4) % 2)
abbrev w14 (k : ℕ) : BitVec 32 := BitVec.ofNat 32 (k % 4)
abbrev u13 (k : ℕ) : BitVec 32 := BitVec.ofNat 32 (k % 2)

theorem tripsA : k1_t1_loop.trips = 8 := by decide +kernel
theorem tripsB : k1_t2_loop.trips = 2 := by decide +kernel

theorem tile_lt (i : grid1.Coords) : tile i < 32 := by
  have h0 : (i 0).val < 2 := (i 0).isLt
  have h1 : (i 1).val < 16 := (i 1).isLt
  unfold tile; omega

theorem blk_lt (i : grid1.Coords) (k : ℕ) (hk : k < 8) : blk i k < 256 := by
  have := tile_lt i; unfold blk; omega
theorem bkk_lt (i : grid1.Coords) (k : ℕ) (hk : k < 2) : bkk i k < 64 := by
  have := tile_lt i; unfold bkk; omega

/-! ## The conditions -/

theorem cond1_iff : ∀ (i : grid1.Coords) (k : Fin k1_t1_loop.trips), (k1_cond1 i k (w13 k.val) (w14 k.val) = 1#1) ↔ k.val < 7 := by decide +kernel
theorem cond2_iff : ∀ (i : grid1.Coords) (k : Fin k1_t1_loop.trips), (k1_cond2 i k (w13 k.val) (w14 k.val) = 1#1) ↔ k.val < 7 := by decide +kernel
theorem cond3_true : ∀ (i : grid1.Coords) (k : Fin k1_t1_loop.trips), k1_cond3 i k (w13 k.val) (w14 k.val) = 1#1 := by decide +kernel
theorem cond4_true : ∀ (i : grid1.Coords) (k : Fin k1_t1_loop.trips), k1_cond4 i k (w13 k.val) (w14 k.val) = 1#1 := by decide +kernel
theorem cond9_iff : ∀ (i : grid1.Coords) (k : Fin k1_t2_loop.trips), (k1_cond9 i k (u13 k.val) = 1#1) ↔ k.val < 1 := by decide +kernel
theorem cond10_iff : ∀ (i : grid1.Coords) (k : Fin k1_t2_loop.trips), (k1_cond10 i k (u13 k.val) = 1#1) ↔ k.val < 1 := by decide +kernel
theorem cond11_true : ∀ (i : grid1.Coords) (k : Fin k1_t2_loop.trips), k1_cond11 i k (u13 k.val) = 1#1 := by decide +kernel
theorem cond12_true : ∀ (i : grid1.Coords) (k : Fin k1_t2_loop.trips), k1_cond12 i k (u13 k.val) = 1#1 := by decide +kernel

/-! ## The offsets of the first loop -/

theorem off2_eq : ∀ i : grid1.Coords, k1_off2 i = ![128 * blk i 0, 0, 0] := by decide +kernel
theorem off5_eq : ∀ i : grid1.Coords, k1_off5 i = ![blk i 0 / 64, blk i 0 % 64, 0] := by decide +kernel
theorem off6_eq : ∀ k : Fin k1_t1_loop.trips, k.val < 7 → k1_off6 (w9 k.val) = ![(k.val + 1) % 2, 0, 0, 0] := by decide +kernel
theorem off7_eq : ∀ (i : grid1.Coords) (k : Fin k1_t1_loop.trips), k.val < 7 →
    k1_off7 i (w13 k.val) (w14 k.val) = ![128 * blk i (k.val + 1), 0, 0] := by decide +kernel
theorem off8_eq : ∀ k : Fin k1_t1_loop.trips, k.val < 7 → k1_off8 (w9 k.val) = ![(k.val + 1) % 2] := by decide +kernel
theorem off9_eq : ∀ k : Fin k1_t1_loop.trips, k.val < 7 → k1_off9 (w9 k.val) = ![(k.val + 1) % 2, 0, 0, 0] := by decide +kernel
theorem off10_eq : ∀ (i : grid1.Coords) (k : Fin k1_t1_loop.trips), k.val < 7 →
    k1_off10 i (w13 k.val) (w14 k.val) = ![blk i (k.val + 1) / 64, blk i (k.val + 1) % 64, 0] := by decide +kernel
theorem off11_eq : ∀ k : Fin k1_t1_loop.trips, k.val < 7 → k1_off11 (w9 k.val) = ![(k.val + 1) % 2] := by decide +kernel
theorem off12_eq : ∀ k : Fin k1_t1_loop.trips, k1_off12 (w10 k.val) = ![k.val % 2, 0, 0, 0] := by decide +kernel
theorem off13_eq : ∀ (i : grid1.Coords) (k : Fin k1_t1_loop.trips), k1_off13 i (w13 k.val) (w14 k.val) = ![128 * blk i k.val, 0, 0] := by decide +kernel
theorem off14_eq : ∀ k : Fin k1_t1_loop.trips, k1_off14 (w10 k.val) = ![k.val % 2] := by decide +kernel
theorem off15_eq : ∀ k : Fin k1_t1_loop.trips, k1_off15 (w10 k.val) = ![k.val % 2, 0, 0, 0] := by decide +kernel
theorem off16_eq : ∀ (i : grid1.Coords) (k : Fin k1_t1_loop.trips),
    k1_off16 i (w13 k.val) (w14 k.val) = ![blk i k.val / 64, blk i k.val % 64, 0] := by decide +kernel
theorem off17_eq : ∀ k : Fin k1_t1_loop.trips, k1_off17 (w10 k.val) = ![k.val % 2] := by decide +kernel
theorem off18_eq : ∀ k : Fin k1_t1_loop.trips, k1_off18 (w10 k.val) = ![k.val % 2, 0, 0, 0] := by decide +kernel
theorem off19_eq : ∀ k : Fin k1_t1_loop.trips, k1_off19 (w10 k.val) = ![k.val % 2, 0, 0, 0] := by decide +kernel

/-! ## The offsets of the second loop -/

theorem off21_eq : ∀ i : grid1.Coords, k1_off21 i = ![128 * bkk i 0, 0] := by decide +kernel
theorem off23_eq : ∀ i : grid1.Coords, k1_off23 i = ![bkk i 0, 0] := by decide +kernel
theorem off24_eq : ∀ k : Fin k1_t2_loop.trips, k.val < 1 → k1_off24 (u9 k.val) = ![(k.val + 1) % 2, 0, 0] := by decide +kernel
theorem off25_eq : ∀ (i : grid1.Coords) (k : Fin k1_t2_loop.trips), k.val < 1 → k1_off25 i (u13 k.val) = ![128 * bkk i (k.val + 1), 0] := by decide +kernel
theorem off26_eq : ∀ k : Fin k1_t2_loop.trips, k.val < 1 → k1_off26 (u9 k.val) = ![(k.val + 1) % 2] := by decide +kernel
theorem off27_eq : ∀ k : Fin k1_t2_loop.trips, k.val < 1 → k1_off27 (u9 k.val) = ![(k.val + 1) % 2, 0, 0] := by decide +kernel
theorem off28_eq : ∀ (i : grid1.Coords) (k : Fin k1_t2_loop.trips), k.val < 1 → k1_off28 i (u13 k.val) = ![bkk i (k.val + 1), 0] := by decide +kernel
theorem off29_eq : ∀ k : Fin k1_t2_loop.trips, k.val < 1 → k1_off29 (u9 k.val) = ![(k.val + 1) % 2] := by decide +kernel
theorem off30_eq : ∀ k : Fin k1_t2_loop.trips, k1_off30 (w10 k.val) = ![k.val % 2, 0, 0] := by decide +kernel
theorem off31_eq : ∀ (i : grid1.Coords) (k : Fin k1_t2_loop.trips), k1_off31 i (u13 k.val) = ![128 * bkk i k.val, 0] := by decide +kernel
theorem off32_eq : ∀ k : Fin k1_t2_loop.trips, k1_off32 (w10 k.val) = ![k.val % 2] := by decide +kernel
theorem off33_eq : ∀ k : Fin k1_t2_loop.trips, k1_off33 (w10 k.val) = ![k.val % 2, 0, 0] := by decide +kernel
theorem off34_eq : ∀ (i : grid1.Coords) (k : Fin k1_t2_loop.trips), k1_off34 i (u13 k.val) = ![bkk i k.val, 0] := by decide +kernel
theorem off35_eq : ∀ k : Fin k1_t2_loop.trips, k1_off35 (w10 k.val) = ![k.val % 2] := by decide +kernel
theorem off36_eq : ∀ k : Fin k1_t2_loop.trips, k1_off36 (w10 k.val) = ![k.val % 2, 0, 0] := by decide +kernel
theorem off37_eq : ∀ k : Fin k1_t2_loop.trips, k1_off37 (w10 k.val) = ![k.val % 2, 0, 0] := by decide +kernel

/-! ## The checks -/

theorem chk1_true : ∀ (i : grid1.Coords) (k : Fin k1_t1_loop.trips), k1_chk1 i k (w9 k.val) (w10 k.val) (w9 k.val) (w10 k.val) (w13 k.val) (w14 k.val) := by decide +kernel
theorem chk2_true : ∀ k : Fin k1_t1_loop.trips, k1_chk2 (w10 k.val) := by decide +kernel
theorem chk3_true : ∀ k : Fin k1_t1_loop.trips, k1_chk3 (w10 k.val) := by decide +kernel
theorem chk4_true : ∀ (i : grid1.Coords) (k : Fin k1_t2_loop.trips), k1_chk4 i k (u9 k.val) (w10 k.val) (u9 k.val) (w10 k.val) (u13 k.val) := by decide +kernel
theorem chk5_true : ∀ k : Fin k1_t2_loop.trips, k1_chk5 (w10 k.val) := by decide +kernel
theorem chk6_true : ∀ k : Fin k1_t2_loop.trips, k1_chk6 (w10 k.val) := by decide +kernel

end Cert.Proof.Sent

end
-- ==== Proof.Sent.Names.lean ====
/-
  The dispatch's tile: the names of its buffers, of the blocks of 128 rows it sends and of their lists, of the two slots
  of its staging buffers and of their semaphores; the slices that the printed body takes are these (`sl_canon`).
-/
module

public import proofs.«01_k».proof.Proof.Sent.Words
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Ring
public import Idealize.ShloMosaic.Lib.Tactic

@[expose] public section

noncomputable section

namespace Cert.Proof.Sent

open Cert.SentIdeal Cert.SentIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

abbrev mLoc (d : Dev nD) (b : Ref sig .tc) : Loc nD τ sig := (SparseCore.T d).loc b

abbrev sOff (p : Fin 2) : Fin 1 → Nat := ![p.val]
theorem sOff_inb (p : Fin 2) : ∀ a, sOff p a + S1.size a ≤ S2.size a := by
  have := p.isLt; intro a; fin_cases a; show p.val + 1 ≤ 2; omega
theorem sl_val (k : ℕ) : (Ring.sl 2 k).val = k % 2 := rfl

/-! ## Loop A -/

abbrev xMA : Memref sig .scVector .hbm S32768x2x128 .f32 := Memref.whole main_v1_scv
abbrev lMA : Memref sig .scVector .hbm S4x64x128 .i32 := Memref.whole main_v0_1_scv
abbrev oMA : Memref sig .scVector .hbm S36864x2x128 .f32 := Memref.whole main_v2_0_scv
abbrev xbA : Memref sig .scVector .vmem S2x128x2x128 .f32 := Memref.whole cc1_scoped0
abbrev lbA : Memref sig .scVector .vmem S2x1x1x128 .i32 := Memref.whole cc1_scoped2

abbrev xSOA (p : Fin 2) : Fin 4 → Nat := ![p.val, 0, 0, 0]
theorem xSOA_inb (p : Fin 2) : ∀ a, xSOA p a + S1x128x2x128.size a ≤ S2x128x2x128.size a := by
  have := p.isLt; intro a; fin_cases a
  · show p.val + 1 ≤ 2; omega
  · show 0 + 128 ≤ 128; omega
  · show 0 + 2 ≤ 2; omega
  · show 0 + 128 ≤ 128; omega
abbrev lSOA (p : Fin 2) : Fin 4 → Nat := ![p.val, 0, 0, 0]
theorem lSOA_inb (p : Fin 2) : ∀ a, lSOA p a + S1x1x1x128.size a ≤ S2x1x1x128.size a := by
  have := p.isLt; intro a; fin_cases a
  · show p.val + 1 ≤ 2; omega
  · show 0 + 1 ≤ 1; omega
  · show 0 + 1 ≤ 1; omega
  · show 0 + 128 ≤ 128; omega
abbrev xBOA (i : grid1.Coords) (t : Fin 8) : Fin 3 → Nat := ![128 * blk i t.val, 0, 0]
theorem xBOA_inb (i : grid1.Coords) (t : Fin 8) : ∀ a, xBOA i t a + S128x2x128.size a ≤ S32768x2x128.size a := by
  have := blk_lt i t.val t.isLt; intro a; fin_cases a
  · show 128 * blk i t.val + 128 ≤ 32768; omega
  · show 0 + 2 ≤ 2; omega
  · show 0 + 128 ≤ 128; omega
abbrev lBOA (i : grid1.Coords) (t : Fin 8) : Fin 3 → Nat := ![blk i t.val / 64, blk i t.val % 64, 0]
theorem lBOA_inb (i : grid1.Coords) (t : Fin 8) : ∀ a, lBOA i t a + S1x1x128.size a ≤ S4x64x128.size a := by
  have := blk_lt i t.val t.isLt; intro a; fin_cases a
  · show blk i t.val / 64 + 1 ≤ 4; omega
  · show blk i t.val % 64 + 1 ≤ 64; omega
  · show 0 + 128 ≤ 128; omega

/-- Slot `p` of the row buffer; of the list buffer. -/
def xSlotA (p : Fin 2) : Memref sig .scVector .vmem S128x2x128 .f32 :=
  (xbA.slice (Rect.unit (s := S2x128x2x128) (xSOA p) S1x128x2x128.size (xSOA_inb p)) (fun _ => rfl)).squeeze S128x2x128 squeezes_S1x128x2x128_S128x2x128
def lSlotA (p : Fin 2) : Memref sig .scVector .vmem S1x1x128 .i32 :=
  (lbA.slice (Rect.unit (s := S2x1x1x128) (lSOA p) S1x1x1x128.size (lSOA_inb p)) (fun _ => rfl)).squeeze S1x1x128 squeezes_S1x1x1x128_S1x1x128
/-- The block of 128 rows of trip `t`; its list. -/
def xBlkA (i : grid1.Coords) (t : Fin 8) : Memref sig .scVector .hbm S128x2x128 .f32 :=
  xMA.slice (Rect.unit (s := S32768x2x128) (xBOA i t) S128x2x128.size (xBOA_inb i t)) (fun _ => rfl)
def lRowA (i : grid1.Coords) (t : Fin 8) : Memref sig .scVector .hbm S1x1x128 .i32 :=
  lMA.slice (Rect.unit (s := S4x64x128) (lBOA i t) S1x1x128.size (lBOA_inb i t)) (fun _ => rfl)
/-- The cells of the copies into slot `p`. -/
def xSemA (p : Fin 2) : DmaSems sig S_ := (cc1_scoped1.slice (Rect.unit (s := S2) (sOff p) S1.size (sOff_inb p))).squeeze S_ squeezes_S1_S_
def lSemA (p : Fin 2) : DmaSems sig S_ := (cc1_scoped3.slice (Rect.unit (s := S2) (sOff p) S1.size (sOff_inb p))).squeeze S_ squeezes_S1_S_

private theorem xSemA_congr {off : Fin 1 → Nat} {p : Fin 2} (e : off = sOff p) (hh) :
    (cc1_scoped1.slice (Rect.unit (s := S2) off S1.size hh)).squeeze S_ squeezes_S1_S_ = xSemA p :=
  congrArg (fun A : DmaSems sig S1 => A.squeeze S_ squeezes_S1_S_) (SemArray.slice_unit_congr _ e _ _)
private theorem lSemA_congr {off : Fin 1 → Nat} {p : Fin 2} (e : off = sOff p) (hh) :
    (cc1_scoped3.slice (Rect.unit (s := S2) off S1.size hh)).squeeze S_ squeezes_S1_S_ = lSemA p :=
  congrArg (fun A : DmaSems sig S1 => A.squeeze S_ squeezes_S1_S_) (SemArray.slice_unit_congr _ e _ _)
private theorem xSlotA_congr {off : Fin 4 → Nat} {p : Fin 2} (e : off = xSOA p) (hh hs) :
    (xbA.slice (Rect.unit (s := S2x128x2x128) off S1x128x2x128.size hh) hs).squeeze S128x2x128 squeezes_S1x128x2x128_S128x2x128 = xSlotA p :=
  congrArg (fun M : Memref sig .scVector .vmem S1x128x2x128 .f32 => M.squeeze S128x2x128 squeezes_S1x128x2x128_S128x2x128) (Memref.slice_unit_congr _ e _ _ _ _)
private theorem lSlotA_congr {off : Fin 4 → Nat} {p : Fin 2} (e : off = lSOA p) (hh hs) :
    (lbA.slice (Rect.unit (s := S2x1x1x128) off S1x1x1x128.size hh) hs).squeeze S1x1x128 squeezes_S1x1x1x128_S1x1x128 = lSlotA p :=
  congrArg (fun M : Memref sig .scVector .vmem S1x1x1x128 .i32 => M.squeeze S1x1x128 squeezes_S1x1x1x128_S1x1x128) (Memref.slice_unit_congr _ e _ _ _ _)
private theorem xBlkA_congr {i : grid1.Coords} {off : Fin 3 → Nat} {t : Fin 8} (e : off = xBOA i t) (hh hs) :
    xMA.slice (Rect.unit (s := S32768x2x128) off S128x2x128.size hh) hs = xBlkA i t := Memref.slice_unit_congr _ e _ _ _ (fun _ => rfl)
private theorem lRowA_congr {i : grid1.Coords} {off : Fin 3 → Nat} {t : Fin 8} (e : off = lBOA i t) (hh hs) :
    lMA.slice (Rect.unit (s := S4x64x128) off S1x1x128.size hh) hs = lRowA i t := Memref.slice_unit_congr _ e _ _ _ (fun _ => rfl)

section CanonA
variable (i : grid1.Coords) (k : Fin k1_t1_loop.trips)

@[sl_canon] theorem cA1xs (hh hs) : (xbA.slice (Rect.unit (s := S2x128x2x128) (k1_off1) S1x128x2x128.size hh) hs).squeeze S128x2x128 squeezes_S1x128x2x128_S128x2x128 = xSlotA 0 :=
  xSlotA_congr (by rw [k1_off1_eq]; rfl) _ _
@[sl_canon] theorem cA2xk (hh hs) : xMA.slice (Rect.unit (s := S32768x2x128) (k1_off2 i) S128x2x128.size hh) hs = xBlkA i 0 :=
  xBlkA_congr (by rw [off2_eq i]; rfl) _ _
@[sl_canon] theorem cA3xm (hh) : (cc1_scoped1.slice (Rect.unit (s := S2) (k1_off3) S1.size hh)).squeeze S_ squeezes_S1_S_ = xSemA 0 :=
  xSemA_congr (by rw [k1_off3_eq]; rfl) _
@[sl_canon] theorem cA3lm (hh) : (cc1_scoped3.slice (Rect.unit (s := S2) (k1_off3) S1.size hh)).squeeze S_ squeezes_S1_S_ = lSemA 0 :=
  lSemA_congr (by rw [k1_off3_eq]; rfl) _
@[sl_canon] theorem cA4ls (hh hs) : (lbA.slice (Rect.unit (s := S2x1x1x128) (k1_off4) S1x1x1x128.size hh) hs).squeeze S1x1x128 squeezes_S1x1x1x128_S1x1x128 = lSlotA 0 :=
  lSlotA_congr (by rw [k1_off4_eq]; rfl) _ _
@[sl_canon] theorem cA5lk (hh hs) : lMA.slice (Rect.unit (s := S4x64x128) (k1_off5 i) S1x1x128.size hh) hs = lRowA i 0 :=
  lRowA_congr (by rw [off5_eq i]; rfl) _ _
@[sl_canon] theorem cA6xs (hk : k.val < 7) (hh hs) : (xbA.slice (Rect.unit (s := S2x128x2x128) (k1_off6 (w9 k.val)) S1x128x2x128.size hh) hs).squeeze S128x2x128 squeezes_S1x128x2x128_S128x2x128 = xSlotA (Ring.sl 2 (k.val + 1)) :=
  xSlotA_congr (by rw [off6_eq k hk]; rfl) _ _
@[sl_canon] theorem cA7xk (hk : k.val < 7) (hh hs) : xMA.slice (Rect.unit (s := S32768x2x128) (k1_off7 i (w13 k.val) (w14 k.val)) S128x2x128.size hh) hs = xBlkA i (Ring.bk 8 (k.val + 1)) :=
  xBlkA_congr (by rw [off7_eq i k hk, xBOA, Ring.bk_val (by omega)]) _ _
@[sl_canon] theorem cA8xm (hk : k.val < 7) (hh) : (cc1_scoped1.slice (Rect.unit (s := S2) (k1_off8 (w9 k.val)) S1.size hh)).squeeze S_ squeezes_S1_S_ = xSemA (Ring.sl 2 (k.val + 1)) :=
  xSemA_congr (by rw [off8_eq k hk]; rfl) _
@[sl_canon] theorem cA9ls (hk : k.val < 7) (hh hs) : (lbA.slice (Rect.unit (s := S2x1x1x128) (k1_off9 (w9 k.val)) S1x1x1x128.size hh) hs).squeeze S1x1x128 squeezes_S1x1x1x128_S1x1x128 = lSlotA (Ring.sl 2 (k.val + 1)) :=
  lSlotA_congr (by rw [off9_eq k hk]; rfl) _ _
@[sl_canon] theorem cA10lk (hk : k.val < 7) (hh hs) : lMA.slice (Rect.unit (s := S4x64x128) (k1_off10 i (w13 k.val) (w14 k.val)) S1x1x128.size hh) hs = lRowA i (Ring.bk 8 (k.val + 1)) :=
  lRowA_congr (by rw [off10_eq i k hk, lBOA, Ring.bk_val (by omega)]) _ _
@[sl_canon] theorem cA11lm (hk : k.val < 7) (hh) : (cc1_scoped3.slice (Rect.unit (s := S2) (k1_off11 (w9 k.val)) S1.size hh)).squeeze S_ squeezes_S1_S_ = lSemA (Ring.sl 2 (k.val + 1)) :=
  lSemA_congr (by rw [off11_eq k hk]; rfl) _
@[sl_canon] theorem cA12xs (hh hs) : (xbA.slice (Rect.unit (s := S2x128x2x128) (k1_off12 (w10 k.val)) S1x128x2x128.size hh) hs).squeeze S128x2x128 squeezes_S1x128x2x128_S128x2x128 = xSlotA (Ring.sl 2 k.val) :=
  xSlotA_congr (by rw [off12_eq k]; rfl) _ _
@[sl_canon] theorem cA13xk (hh hs) : xMA.slice (Rect.unit (s := S32768x2x128) (k1_off13 i (w13 k.val) (w14 k.val)) S128x2x128.size hh) hs = xBlkA i (Ring.bk 8 k.val) :=
  xBlkA_congr (by rw [off13_eq i k, xBOA, Ring.bk_val (Nat.lt_of_lt_of_eq k.isLt tripsA)]) _ _
@[sl_canon] theorem cA14xm (hh) : (cc1_scoped1.slice (Rect.unit (s := S2) (k1_off14 (w10 k.val)) S1.size hh)).squeeze S_ squeezes_S1_S_ = xSemA (Ring.sl 2 k.val) :=
  xSemA_congr (by rw [off14_eq k]; rfl) _
@[sl_canon] theorem cA15ls (hh hs) : (lbA.slice (Rect.unit (s := S2x1x1x128) (k1_off15 (w10 k.val)) S1x1x1x128.size hh) hs).squeeze S1x1x128 squeezes_S1x1x1x128_S1x1x128 = lSlotA (Ring.sl 2 k.val) :=
  lSlotA_congr (by rw [off15_eq k]; rfl) _ _
@[sl_canon] theorem cA16lk (hh hs) : lMA.slice (Rect.unit (s := S4x64x128) (k1_off16 i (w13 k.val) (w14 k.val)) S1x1x128.size hh) hs = lRowA i (Ring.bk 8 k.val) :=
  lRowA_congr (by rw [off16_eq i k, lBOA, Ring.bk_val (Nat.lt_of_lt_of_eq k.isLt tripsA)]) _ _
@[sl_canon] theorem cA17lm (hh) : (cc1_scoped3.slice (Rect.unit (s := S2) (k1_off17 (w10 k.val)) S1.size hh)).squeeze S_ squeezes_S1_S_ = lSemA (Ring.sl 2 k.val) :=
  lSemA_congr (by rw [off17_eq k]; rfl) _
@[sl_canon] theorem cA18xs (hh hs) : (xbA.slice (Rect.unit (s := S2x128x2x128) (k1_off18 (w10 k.val)) S1x128x2x128.size hh) hs).squeeze S128x2x128 squeezes_S1x128x2x128_S128x2x128 = xSlotA (Ring.sl 2 k.val) :=
  xSlotA_congr (by rw [off18_eq k]; rfl) _ _
@[sl_canon] theorem cA19ls (hh hs) : (lbA.slice (Rect.unit (s := S2x1x1x128) (k1_off19 (w10 k.val)) S1x1x1x128.size hh) hs).squeeze S1x1x128 squeezes_S1x1x1x128_S1x1x128 = lSlotA (Ring.sl 2 k.val) :=
  lSlotA_congr (by rw [off19_eq k]; rfl) _ _

end CanonA

/-! ## Loop B -/

abbrev xMB : Memref sig .scVector .hbm S8192x128 .f32 := Memref.whole main_arg2_scv
abbrev lMB : Memref sig .scVector .hbm S64x128 .i32 := Memref.whole main_v0_0_scv
abbrev oMB : Memref sig .scVector .hbm S9216x128 .f32 := Memref.whole main_v2_1_scv
abbrev xbB : Memref sig .scVector .vmem S2x128x128 .f32 := Memref.whole cc1_scoped5
abbrev lbB : Memref sig .scVector .vmem S2x1x128 .i32 := Memref.whole cc1_scoped7

abbrev xSOB (p : Fin 2) : Fin 3 → Nat := ![p.val, 0, 0]
theorem xSOB_inb (p : Fin 2) : ∀ a, xSOB p a + S1x128x128.size a ≤ S2x128x128.size a := by
  have := p.isLt; intro a; fin_cases a
  · show p.val + 1 ≤ 2; omega
  · show 0 + 128 ≤ 128; omega
  · show 0 + 128 ≤ 128; omega
abbrev lSOB (p : Fin 2) : Fin 3 → Nat := ![p.val, 0, 0]
theorem lSOB_inb (p : Fin 2) : ∀ a, lSOB p a + S1x1x128.size a ≤ S2x1x128.size a := by
  have := p.isLt; intro a; fin_cases a
  · show p.val + 1 ≤ 2; omega
  · show 0 + 1 ≤ 1; omega
  · show 0 + 128 ≤ 128; omega
abbrev xBOB (i : grid1.Coords) (t : Fin 2) : Fin 2 → Nat := ![128 * bkk i t.val, 0]
theorem xBOB_inb (i : grid1.Coords) (t : Fin 2) : ∀ a, xBOB i t a + S128x128.size a ≤ S8192x128.size a := by
  have := bkk_lt i t.val t.isLt; intro a; fin_cases a
  · show 128 * bkk i t.val + 128 ≤ 8192; omega
  · show 0 + 128 ≤ 128; omega
abbrev lBOB (i : grid1.Coords) (t : Fin 2) : Fin 2 → Nat := ![bkk i t.val, 0]
theorem lBOB_inb (i : grid1.Coords) (t : Fin 2) : ∀ a, lBOB i t a + S1x128.size a ≤ S64x128.size a := by
  have := bkk_lt i t.val t.isLt; intro a; fin_cases a
  · show bkk i t.val + 1 ≤ 64; omega
  · show 0 + 128 ≤ 128; omega

/-- Slot `p` of the row buffer; of the list buffer. -/
def xSlotB (p : Fin 2) : Memref sig .scVector .vmem S128x128 .f32 :=
  (xbB.slice (Rect.unit (s := S2x128x128) (xSOB p) S1x128x128.size (xSOB_inb p)) (fun _ => rfl)).squeeze S128x128 squeezes_S1x128x128_S128x128
def lSlotB (p : Fin 2) : Memref sig .scVector .vmem S1x128 .i32 :=
  (lbB.slice (Rect.unit (s := S2x1x128) (lSOB p) S1x1x128.size (lSOB_inb p)) (fun _ => rfl)).squeeze S1x128 squeezes_S1x1x128_S1x128
/-- The block of 128 rows of trip `t`; its list. -/
def xBlkB (i : grid1.Coords) (t : Fin 2) : Memref sig .scVector .hbm S128x128 .f32 :=
  xMB.slice (Rect.unit (s := S8192x128) (xBOB i t) S128x128.size (xBOB_inb i t)) (fun _ => rfl)
def lRowB (i : grid1.Coords) (t : Fin 2) : Memref sig .scVector .hbm S1x128 .i32 :=
  lMB.slice (Rect.unit (s := S64x128) (lBOB i t) S1x128.size (lBOB_inb i t)) (fun _ => rfl)
/-- The cells of the copies into slot `p`. -/
def xSemB (p : Fin 2) : DmaSems sig S_ := (cc1_scoped6.slice (Rect.unit (s := S2) (sOff p) S1.size (sOff_inb p))).squeeze S_ squeezes_S1_S_
def lSemB (p : Fin 2) : DmaSems sig S_ := (cc1_scoped8.slice (Rect.unit (s := S2) (sOff p) S1.size (sOff_inb p))).squeeze S_ squeezes_S1_S_

private theorem xSemB_congr {off : Fin 1 → Nat} {p : Fin 2} (e : off = sOff p) (hh) :
    (cc1_scoped6.slice (Rect.unit (s := S2) off S1.size hh)).squeeze S_ squeezes_S1_S_ = xSemB p :=
  congrArg (fun A : DmaSems sig S1 => A.squeeze S_ squeezes_S1_S_) (SemArray.slice_unit_congr _ e _ _)
private theorem lSemB_congr {off : Fin 1 → Nat} {p : Fin 2} (e : off = sOff p) (hh) :
    (cc1_scoped8.slice (Rect.unit (s := S2) off S1.size hh)).squeeze S_ squeezes_S1_S_ = lSemB p :=
  congrArg (fun A : DmaSems sig S1 => A.squeeze S_ squeezes_S1_S_) (SemArray.slice_unit_congr _ e _ _)
private theorem xSlotB_congr {off : Fin 3 → Nat} {p : Fin 2} (e : off = xSOB p) (hh hs) :
    (xbB.slice (Rect.unit (s := S2x128x128) off S1x128x128.size hh) hs).squeeze S128x128 squeezes_S1x128x128_S128x128 = xSlotB p :=
  congrArg (fun M : Memref sig .scVector .vmem S1x128x128 .f32 => M.squeeze S128x128 squeezes_S1x128x128_S128x128) (Memref.slice_unit_congr _ e _ _ _ _)
private theorem lSlotB_congr {off : Fin 3 → Nat} {p : Fin 2} (e : off = lSOB p) (hh hs) :
    (lbB.slice (Rect.unit (s := S2x1x128) off S1x1x128.size hh) hs).squeeze S1x128 squeezes_S1x1x128_S1x128 = lSlotB p :=
  congrArg (fun M : Memref sig .scVector .vmem S1x1x128 .i32 => M.squeeze S1x128 squeezes_S1x1x128_S1x128) (Memref.slice_unit_congr _ e _ _ _ _)
private theorem xBlkB_congr {i : grid1.Coords} {off : Fin 2 → Nat} {t : Fin 2} (e : off = xBOB i t) (hh hs) :
    xMB.slice (Rect.unit (s := S8192x128) off S128x128.size hh) hs = xBlkB i t := Memref.slice_unit_congr _ e _ _ _ (fun _ => rfl)
private theorem lRowB_congr {i : grid1.Coords} {off : Fin 2 → Nat} {t : Fin 2} (e : off = lBOB i t) (hh hs) :
    lMB.slice (Rect.unit (s := S64x128) off S1x128.size hh) hs = lRowB i t := Memref.slice_unit_congr _ e _ _ _ (fun _ => rfl)

section CanonB
variable (i : grid1.Coords) (k : Fin k1_t2_loop.trips)

@[sl_canon] theorem cB20xs (hh hs) : (xbB.slice (Rect.unit (s := S2x128x128) (k1_off20) S1x128x128.size hh) hs).squeeze S128x128 squeezes_S1x128x128_S128x128 = xSlotB 0 :=
  xSlotB_congr (by rw [k1_off20_eq]; rfl) _ _
@[sl_canon] theorem cB21xk (hh hs) : xMB.slice (Rect.unit (s := S8192x128) (k1_off21 i) S128x128.size hh) hs = xBlkB i 0 :=
  xBlkB_congr (by rw [off21_eq i]; rfl) _ _
@[sl_canon] theorem cB3xm (hh) : (cc1_scoped6.slice (Rect.unit (s := S2) (k1_off3) S1.size hh)).squeeze S_ squeezes_S1_S_ = xSemB 0 :=
  xSemB_congr (by rw [k1_off3_eq]; rfl) _
@[sl_canon] theorem cB3lm (hh) : (cc1_scoped8.slice (Rect.unit (s := S2) (k1_off3) S1.size hh)).squeeze S_ squeezes_S1_S_ = lSemB 0 :=
  lSemB_congr (by rw [k1_off3_eq]; rfl) _
@[sl_canon] theorem cB22ls (hh hs) : (lbB.slice (Rect.unit (s := S2x1x128) (k1_off22) S1x1x128.size hh) hs).squeeze S1x128 squeezes_S1x1x128_S1x128 = lSlotB 0 :=
  lSlotB_congr (by rw [k1_off22_eq]; rfl) _ _
@[sl_canon] theorem cB23lk (hh hs) : lMB.slice (Rect.unit (s := S64x128) (k1_off23 i) S1x128.size hh) hs = lRowB i 0 :=
  lRowB_congr (by rw [off23_eq i]; rfl) _ _
@[sl_canon] theorem cB24xs (hk : k.val < 1) (hh hs) : (xbB.slice (Rect.unit (s := S2x128x128) (k1_off24 (u9 k.val)) S1x128x128.size hh) hs).squeeze S128x128 squeezes_S1x128x128_S128x128 = xSlotB (Ring.sl 2 (k.val + 1)) :=
  xSlotB_congr (by rw [off24_eq k hk]; rfl) _ _
@[sl_canon] theorem cB25xk (hk : k.val < 1) (hh hs) : xMB.slice (Rect.unit (s := S8192x128) (k1_off25 i (u13 k.val)) S128x128.size hh) hs = xBlkB i (Ring.bk 2 (k.val + 1)) :=
  xBlkB_congr (by rw [off25_eq i k hk, xBOB, Ring.bk_val (by omega)]) _ _
@[sl_canon] theorem cB26xm (hk : k.val < 1) (hh) : (cc1_scoped6.slice (Rect.unit (s := S2) (k1_off26 (u9 k.val)) S1.size hh)).squeeze S_ squeezes_S1_S_ = xSemB (Ring.sl 2 (k.val + 1)) :=
  xSemB_congr (by rw [off26_eq k hk]; rfl) _
@[sl_canon] theorem cB27ls (hk : k.val < 1) (hh hs) : (lbB.slice (Rect.unit (s := S2x1x128) (k1_off27 (u9 k.val)) S1x1x128.size hh) hs).squeeze S1x128 squeezes_S1x1x128_S1x128 = lSlotB (Ring.sl 2 (k.val + 1)) :=
  lSlotB_congr (by rw [off27_eq k hk]; rfl) _ _
@[sl_canon] theorem cB28lk (hk : k.val < 1) (hh hs) : lMB.slice (Rect.unit (s := S64x128) (k1_off28 i (u13 k.val)) S1x128.size hh) hs = lRowB i (Ring.bk 2 (k.val + 1)) :=
  lRowB_congr (by rw [off28_eq i k hk, lBOB, Ring.bk_val (by omega)]) _ _
@[sl_canon] theorem cB29lm (hk : k.val < 1) (hh) : (cc1_scoped8.slice (Rect.unit (s := S2) (k1_off29 (u9 k.val)) S1.size hh)).squeeze S_ squeezes_S1_S_ = lSemB (Ring.sl 2 (k.val + 1)) :=
  lSemB_congr (by rw [off29_eq k hk]; rfl) _
@[sl_canon] theorem cB30xs (hh hs) : (xbB.slice (Rect.unit (s := S2x128x128) (k1_off30 (w10 k.val)) S1x128x128.size hh) hs).squeeze S128x128 squeezes_S1x128x128_S128x128 = xSlotB (Ring.sl 2 k.val) :=
  xSlotB_congr (by rw [off30_eq k]; rfl) _ _
@[sl_canon] theorem cB31xk (hh hs) : xMB.slice (Rect.unit (s := S8192x128) (k1_off31 i (u13 k.val)) S128x128.size hh) hs = xBlkB i (Ring.bk 2 k.val) :=
  xBlkB_congr (by rw [off31_eq i k, xBOB, Ring.bk_val (Nat.lt_of_lt_of_eq k.isLt tripsB)]) _ _
@[sl_canon] theorem cB32xm (hh) : (cc1_scoped6.slice (Rect.unit (s := S2) (k1_off32 (w10 k.val)) S1.size hh)).squeeze S_ squeezes_S1_S_ = xSemB (Ring.sl 2 k.val) :=
  xSemB_congr (by rw [off32_eq k]; rfl) _
@[sl_canon] theorem cB33ls (hh hs) : (lbB.slice (Rect.unit (s := S2x1x128) (k1_off33 (w10 k.val)) S1x1x128.size hh) hs).squeeze S1x128 squeezes_S1x1x128_S1x128 = lSlotB (Ring.sl 2 k.val) :=
  lSlotB_congr (by rw [off33_eq k]; rfl) _ _
@[sl_canon] theorem cB34lk (hh hs) : lMB.slice (Rect.unit (s := S64x128) (k1_off34 i (u13 k.val)) S1x128.size hh) hs = lRowB i (Ring.bk 2 k.val) :=
  lRowB_congr (by rw [off34_eq i k, lBOB, Ring.bk_val (Nat.lt_of_lt_of_eq k.isLt tripsB)]) _ _
@[sl_canon] theorem cB35lm (hh) : (cc1_scoped8.slice (Rect.unit (s := S2) (k1_off35 (w10 k.val)) S1.size hh)).squeeze S_ squeezes_S1_S_ = lSemB (Ring.sl 2 k.val) :=
  lSemB_congr (by rw [off35_eq k]; rfl) _
@[sl_canon] theorem cB36xs (hh hs) : (xbB.slice (Rect.unit (s := S2x128x128) (k1_off36 (w10 k.val)) S1x128x128.size hh) hs).squeeze S128x128 squeezes_S1x128x128_S128x128 = xSlotB (Ring.sl 2 k.val) :=
  xSlotB_congr (by rw [off36_eq k]; rfl) _ _
@[sl_canon] theorem cB37ls (hh hs) : (lbB.slice (Rect.unit (s := S2x1x128) (k1_off37 (w10 k.val)) S1x1x128.size hh) hs).squeeze S1x128 squeezes_S1x1x128_S1x128 = lSlotB (Ring.sl 2 k.val) :=
  lSlotB_congr (by rw [off37_eq k]; rfl) _ _

end CanonB

end Cert.Proof.Sent

end
-- ==== Proof.Sent.Res.lean ====
/-
  The dispatch's tile: what it holds of its blocks, lists and slots, the row of the target that an entry of a list
  names, the entry that names a row, and what the scatters leave there.
-/
module

public import proofs.«01_k».proof.Proof.Sent.Names

@[expose] public section

noncomputable section

namespace Cert.Proof.Sent

open Cert.SentIdeal Cert.SentIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

theorem of_eq {P Q : sProp 𝕄} (e : P = Q) : P ⊢ Q := e ▸ .rfl

/-- What the core owes, its waits grown by waits of its own copies. -/
abbrev owesMore (d : Dev nD) (L : grid1.Coords) (O : CellTallies nD τ sig (HIx 1)) (W : Waits sig (HIx 1)) : sProp 𝕄 :=
  iprop(∃ W', ⌜∀ p ∈ W', p ∈ W ∨ p.2 = none⌝ ∗ owes (VT d L) O W')

/-- The entry of a list array whose word is `n`, if one is. -/
def entry {s : Shape} (I : s.Idx → BitVec 32) (n : ℕ) : Option s.Idx :=
  open scoped Classical in if h : ∃ j, (I j).toNat = n then some h.choose else none

theorem entry_some {s : Shape} {I : s.Idx → BitVec 32} {n : ℕ} {j : s.Idx} (h : entry I n = some j) : (I j).toNat = n := by
  unfold entry at h
  split at h
  · next hx => have := hx.choose_spec; rw [Option.some.inj h] at this; exact this
  · exact absurd h (by simp)
theorem entry_none {s : Shape} {I : s.Idx → BitVec 32} {n : ℕ} (h : entry I n = none) (j : s.Idx) : (I j).toNat ≠ n := by
  intro e
  unfold entry at h
  rw [dif_pos ⟨j, e⟩] at h
  exact absurd h (by simp)
theorem entry_of {s : Shape} {I : s.Idx → BitVec 32} (hj : ∀ j j', (I j).toNat = (I j').toNat → j = j') (j : s.Idx) :
    entry I (I j).toNat = some j := by
  cases h : entry I (I j).toNat with
  | none => exact absurd rfl (entry_none h j)
  | some j' => rw [hj j' j (entry_some h)]

section TileA
variable (d : Dev nD) (L : grid1.Coords)

/-- The target, as the scatter names it. -/
abbrev oAllA : Memref sig .scVector .hbm S36864x2x128 .f32 :=
  oMA.slice (Rect.unit (s := S36864x2x128) ![0, 0, 0] S36864x2x128.size inb_S36864x2x128_S36864x2x128_0_0_0) (fun _ => rfl)

variable (XX : Buf (Elt F) (xMA.view.loc (VT d L))) (XL : Buf (Elt F) (lMA.view.loc (VT d L))) (XO : Buf (Elt F) ((oAllA).view.loc (VT d L)))

abbrev xPA (t : Fin 8) : sProp 𝕄 := (xBlkA L t).view.loc (VT d L) ↦[(xBlkA L t).view.set]{fullShare} XX
abbrev lPA (t : Fin 8) : sProp 𝕄 := (lRowA L t).view.loc (VT d L) ↦[(lRowA L t).view.set]{fullShare} XL
abbrev xSlotPA (p : Fin 2) (f : Buf (Elt F) ((xSlotA p).view.loc (VT d L))) : sProp 𝕄 := (xSlotA p).view.loc (VT d L) ↦[(xSlotA p).view.set]{fullShare} f
abbrev lSlotPA (p : Fin 2) (f : Buf (Elt F) ((lSlotA p).view.loc (VT d L))) : sProp 𝕄 := (lSlotA p).view.loc (VT d L) ↦[(lSlotA p).view.set]{fullShare} f
abbrev xCellA (p : Fin 2) : sProp 𝕄 := semVal (VT d L, SemLoc.dma (xSemA p).sem) 0
abbrev lCellA (p : Fin 2) : sProp 𝕄 := semVal (VT d L, SemLoc.dma (lSemA p).sem) 0
abbrev gCellA : sProp 𝕄 := semVal (VT d L, SemLoc.dma (cc1_scoped4).sem) 0

/-- The contents of a slot that block `t` was copied to; that list `t` was copied to. -/
abbrev xAtA (p : Fin 2) (t : Fin 8) (g : Buf (Elt F) ((xSlotA p).view.loc (VT d L))) : Buf (Elt F) ((xSlotA p).view.loc (VT d L)) :=
  (xSlotA p).view.writes (Elt F) g [⟨Rect.whole S128x2x128, ReadAs.same.apply ((xBlkA L t).view.read (Elt F) XX)⟩]
abbrev lAtA (p : Fin 2) (t : Fin 8) (g : Buf (Elt F) ((lSlotA p).view.loc (VT d L))) : Buf (Elt F) ((lSlotA p).view.loc (VT d L)) :=
  (lSlotA p).view.writes (Elt F) g [⟨Rect.whole S1x1x128, ReadAs.same.apply ((lRowA L t).view.read (Elt F) XL)⟩]

/-- A copy in flight: block `t` into slot `p`; list `t` into slot `p`. -/
abbrev xFlA (p : Fin 2) (t : Fin 8) (f : Buf (Elt F) ((xSlotA p).view.loc (VT d L))) : sProp 𝕄 :=
  Transfers.Flight countersEmb (VT d L) (SemLoc.dma (xSemA p).sem) (default : HIx 1) 1048576
    iprop(xSlotPA d L p ((xSlotA p).view.writes (Elt F) f [⟨Rect.whole S128x2x128, ReadAs.same.apply ((xBlkA L t).view.read (Elt F) XX)⟩]) ∗ xPA d L XX t)
abbrev lFlA (p : Fin 2) (t : Fin 8) (f : Buf (Elt F) ((lSlotA p).view.loc (VT d L))) : sProp 𝕄 :=
  Transfers.Flight countersEmb (VT d L) (SemLoc.dma (lSemA p).sem) (default : HIx 1) 4096
    iprop(lSlotPA d L p ((lSlotA p).view.writes (Elt F) f [⟨Rect.whole S1x1x128, ReadAs.same.apply ((lRowA L t).view.read (Elt F) XL)⟩]) ∗ lPA d L XL t)

/-- A block and its list; the two slots at rest; with block and list `t` on their way into them. -/
abbrev rowPA (t : Fin 8) : sProp 𝕄 := iprop(xPA d L XX t ∗ lPA d L XL t)
abbrev freeA (p : Fin 2) : sProp 𝕄 := iprop(((∃ f, xSlotPA (F := F) d L p f) ∗ xCellA d L p) ∗ (∃ f, lSlotPA (F := F) d L p f) ∗ lCellA d L p)
abbrev busyA (p : Fin 2) (t : Fin 8) : sProp 𝕄 := iprop((∃ f, xFlA d L XX p t f) ∗ (∃ f, lFlA d L XL p t f))

/-- The number of the block that an entry of the lists stands in; of the block whose list names row `n` of the target. -/
def blkNoA (j : S4x64x128.Idx) : ℕ := (j 0).val * 64 + (j 1).val
def ownA (I : S4x64x128.Idx → BitVec 32) (n : ℕ) : Option ℕ := (entry I n).map blkNoA
/-- The element sent to `z` by entry `j`. -/
def srcA (j : S4x64x128.Idx) (z : S36864x2x128.Idx) : S32768x2x128.Idx
  | 0 => ⟨(((j 0).val * 64 + (j 1).val) * 128 + (j 2).val) % 32768, Nat.mod_lt _ (by decide)⟩
  | 1 => z 1
  | 2 => z 2
/-- What the scatters leave in the target over `O`. -/
def GA (X : S32768x2x128.Idx → Elt F .f32) (I : S4x64x128.Idx → BitVec 32) (O : S36864x2x128.Idx → Elt F .f32) : S36864x2x128.Idx → Elt F .f32 :=
  fun z => match entry I (z 0).val with
    | some j => X (srcA j z)
    | none => O z

/-- The elements of the target on the rows that block `b`'s list names. -/
abbrev rowsA (I : S4x64x128.Idx → BitVec 32) (b : ℕ) := SparseCore.rowsWhere (oAllA).view gathers_S36864x2x128_S128x2x128.axis (fun n => ownA I n = some b)
abbrev todoA (t : Fin 8) : sProp 𝕄 := (oAllA).view.loc (VT d L) ↦[SparseCore.rowsWhere (oAllA).view gathers_S36864x2x128_S128x2x128.axis (fun n => ownA XL n = some (blk L t.val))]{fullShare} XO
abbrev doneA (t : Fin 8) : sProp 𝕄 := (oAllA).view.loc (VT d L) ↦[SparseCore.rowsWhere (oAllA).view gathers_S36864x2x128_S128x2x128.axis (fun n => ownA XL n = some (blk L t.val))]{fullShare} (GA (F := F) XX XL XO)

/-- The list in slot `p`, as the scatter names it. -/
abbrev offsA (p : Fin 2) : Memref sig .scVector .vmem S128 .i32 :=
  ((lSlotA p).slice (Rect.unit (s := S1x1x128) ![0, 0, 0] S1x1x128.size inb_S1x1x128_S1x1x128_0_0_0) (fun _ => rfl)).squeeze S128 squeezes_S1x1x128_S128

theorem offs_embA : ∀ x : S128.Idx, (((Rect.unit (s := S1x1x128) ![0, 0, 0] S1x1x128.size inb_S1x1x128_S1x1x128_0_0_0).emb
    (Shape.reshapeEquiv squeezes_S1x1x128_S128.numel_eq x)) 2).val = (x 0).val := by decide +kernel

/-- Entry `x` of the list in the slot. -/
theorem offs_readA (p : Fin 2) (t : Fin 8) (g : Buf (Elt F) ((lSlotA p).view.loc (VT d L))) (x : S128.Idx) (j : S4x64x128.Idx)
    (h0 : (j 0).val = blk L t.val / 64) (h1 : (j 1).val = blk L t.val % 64) (h2 : (j 2).val = (x 0).val) :
    (offsA p).view.read (Elt F) (lAtA d L XL p t g) x = XL j := by
  have e : (offsA p).view.read (Elt F) (lAtA d L XL p t g) x
      = (lSlotA p).view.read (Elt F) (lAtA d L XL p t g) ((Rect.unit (s := S1x1x128) ![0, 0, 0] S1x1x128.size inb_S1x1x128_S1x1x128_0_0_0).emb
          (Shape.reshapeEquiv squeezes_S1x1x128_S128.numel_eq x)) := by
    rw [View.read_apply, View.read_apply]; rfl
  have hx := offs_embA x
  rw [e, View.read_writes_whole]
  generalize (Rect.unit (s := S1x1x128) ![0, 0, 0] S1x1x128.size inb_S1x1x128_S1x1x128_0_0_0).emb
          (Shape.reshapeEquiv squeezes_S1x1x128_S128.numel_eq x) = y at hx ⊢
  refine ((View.read_apply _ _).trans (cast_eq _ _)).trans (congrArg XL ?_)
  refine (show ∀ u : S4x64x128.Idx, (u 0).val = (j 0).val → (u 1).val = (j 1).val → (u 2).val = (j 2).val → u = j from fun u a b c => by
    funext a; apply Fin.ext; match a with
    | 0 => assumption
    | 1 => assumption
    | 2 => assumption
    ) _ ?_ ?_ ?_
  · show blk L t.val / 64 + 1 * (y 0).val = _; rw [h0]; have y0 : (y 0).val < 1 := (y 0).isLt; omega
  · show blk L t.val % 64 + 1 * (y 1).val = _; rw [h1]; have y1 : (y 1).val < 1 := (y 1).isLt; omega
  · show 0 + 1 * (y 2).val = _; rw [h2]; omega

/-- The entry of the list array that entry `x` of list `t` is. -/
def lixA (L : grid1.Coords) (t : Fin 8) (x : S128.Idx) : S4x64x128.Idx := have hb := blk_lt L t.val t.isLt; fun | 0 => ⟨blk L t.val / 64, by show _ < 4; omega⟩ | 1 => ⟨blk L t.val % 64, by show _ < 64; omega⟩ | 2 => x 0

theorem offs_read'A (p : Fin 2) (t : Fin 8) (g : Buf (Elt F) ((lSlotA p).view.loc (VT d L))) (x : S128.Idx) :
    (offsA p).view.read (Elt F) (lAtA d L XL p t g) x = XL (lixA L t x) :=
  offs_readA d L XL p t g x _ rfl rfl rfl

theorem blkNo_lixA (t : Fin 8) (x : S128.Idx) : blkNoA (lixA L t x) = blk L t.val := by
  have hb := blk_lt L t.val t.isLt
  show blk L t.val / 64 * 64 + blk L t.val % 64 = _; omega

variable (hr : ∀ j, (XL j).toNat < 36864) (hj : ∀ j j', (XL j).toNat = (XL j').toNat → j = j')

include hr in
theorem hinA (p : Fin 2) (t : Fin 8) (g : Buf (Elt F) ((lSlotA p).view.loc (VT d L))) :
    ∀ x, ((offsA p).view.read (Elt F) (lAtA d L XL p t g) x).toNat < S36864x2x128.size gathers_S36864x2x128_S128x2x128.axis := by
  intro x; rw [offs_read'A]; exact hr _

include hj in
theorem hinjA (p : Fin 2) (t : Fin 8) (g : Buf (Elt F) ((lSlotA p).view.loc (VT d L))) :
    Function.Injective fun x => ((offsA p).view.read (Elt F) (lAtA d L XL p t g) x).toNat := by
  intro x x' h
  have h' : lixA L t x = lixA L t x' := hj _ _ ((congrArg BitVec.toNat (offs_read'A d L XL p t g x)).symm.trans (h.trans (congrArg BitVec.toNat (offs_read'A d L XL p t g x'))))
  have e : x 0 = x' 0 := congrFun h' 2
  funext a; match a with
  | 0 => exact e

include hj in
theorem hownA (p : Fin 2) (t : Fin 8) (g : Buf (Elt F) ((lSlotA p).view.loc (VT d L))) :
    ∀ x, ownA XL ((offsA p).view.read (Elt F) (lAtA d L XL p t g) x).toNat = some (blk L t.val) := by
  intro x
  rw [offs_read'A, ownA, entry_of hj, Option.map_some, blkNo_lixA]

abbrev wordsAtA (k : ℕ) : BitVec 32 × BitVec 32 × BitVec 32 × BitVec 32 × BitVec 32 × BitVec 32 := (w9 k, w10 k, w9 k, w10 k, w13 k, w14 k)

abbrev progA := k1_t1_body (F := F) L xMA (Memref.isWhole_whole _) xMB (Memref.isWhole_whole _) lMA (Memref.isWhole_whole _) lMB (Memref.isWhole_whole _) oMA (Memref.isWhole_whole _) oMB (Memref.isWhole_whole _) xbA (Memref.isWhole_whole _) cc1_scoped1 lbA (Memref.isWhole_whole _) cc1_scoped3 cc1_scoped4 xbB (Memref.isWhole_whole _) cc1_scoped6 lbB (Memref.isWhole_whole _) cc1_scoped8 cc1_scoped9

end TileA

section TileB
variable (d : Dev nD) (L : grid1.Coords)

/-- The target, as the scatter names it. -/
abbrev oAllB : Memref sig .scVector .hbm S9216x128 .f32 :=
  oMB.slice (Rect.unit (s := S9216x128) ![0, 0] S9216x128.size inb_S9216x128_S9216x128_0_0) (fun _ => rfl)

variable (XX : Buf (Elt F) (xMB.view.loc (VT d L))) (XL : Buf (Elt F) (lMB.view.loc (VT d L))) (XO : Buf (Elt F) ((oAllB).view.loc (VT d L)))

abbrev xPB (t : Fin 2) : sProp 𝕄 := (xBlkB L t).view.loc (VT d L) ↦[(xBlkB L t).view.set]{fullShare} XX
abbrev lPB (t : Fin 2) : sProp 𝕄 := (lRowB L t).view.loc (VT d L) ↦[(lRowB L t).view.set]{fullShare} XL
abbrev xSlotPB (p : Fin 2) (f : Buf (Elt F) ((xSlotB p).view.loc (VT d L))) : sProp 𝕄 := (xSlotB p).view.loc (VT d L) ↦[(xSlotB p).view.set]{fullShare} f
abbrev lSlotPB (p : Fin 2) (f : Buf (Elt F) ((lSlotB p).view.loc (VT d L))) : sProp 𝕄 := (lSlotB p).view.loc (VT d L) ↦[(lSlotB p).view.set]{fullShare} f
abbrev xCellB (p : Fin 2) : sProp 𝕄 := semVal (VT d L, SemLoc.dma (xSemB p).sem) 0
abbrev lCellB (p : Fin 2) : sProp 𝕄 := semVal (VT d L, SemLoc.dma (lSemB p).sem) 0
abbrev gCellB : sProp 𝕄 := semVal (VT d L, SemLoc.dma (cc1_scoped9).sem) 0

/-- The contents of a slot that block `t` was copied to; that list `t` was copied to. -/
abbrev xAtB (p : Fin 2) (t : Fin 2) (g : Buf (Elt F) ((xSlotB p).view.loc (VT d L))) : Buf (Elt F) ((xSlotB p).view.loc (VT d L)) :=
  (xSlotB p).view.writes (Elt F) g [⟨Rect.whole S128x128, ReadAs.same.apply ((xBlkB L t).view.read (Elt F) XX)⟩]
abbrev lAtB (p : Fin 2) (t : Fin 2) (g : Buf (Elt F) ((lSlotB p).view.loc (VT d L))) : Buf (Elt F) ((lSlotB p).view.loc (VT d L)) :=
  (lSlotB p).view.writes (Elt F) g [⟨Rect.whole S1x128, ReadAs.same.apply ((lRowB L t).view.read (Elt F) XL)⟩]

/-- A copy in flight: block `t` into slot `p`; list `t` into slot `p`. -/
abbrev xFlB (p : Fin 2) (t : Fin 2) (f : Buf (Elt F) ((xSlotB p).view.loc (VT d L))) : sProp 𝕄 :=
  Transfers.Flight countersEmb (VT d L) (SemLoc.dma (xSemB p).sem) (default : HIx 1) 524288
    iprop(xSlotPB d L p ((xSlotB p).view.writes (Elt F) f [⟨Rect.whole S128x128, ReadAs.same.apply ((xBlkB L t).view.read (Elt F) XX)⟩]) ∗ xPB d L XX t)
abbrev lFlB (p : Fin 2) (t : Fin 2) (f : Buf (Elt F) ((lSlotB p).view.loc (VT d L))) : sProp 𝕄 :=
  Transfers.Flight countersEmb (VT d L) (SemLoc.dma (lSemB p).sem) (default : HIx 1) 4096
    iprop(lSlotPB d L p ((lSlotB p).view.writes (Elt F) f [⟨Rect.whole S1x128, ReadAs.same.apply ((lRowB L t).view.read (Elt F) XL)⟩]) ∗ lPB d L XL t)

/-- A block and its list; the two slots at rest; with block and list `t` on their way into them. -/
abbrev rowPB (t : Fin 2) : sProp 𝕄 := iprop(xPB d L XX t ∗ lPB d L XL t)
abbrev freeB (p : Fin 2) : sProp 𝕄 := iprop(((∃ f, xSlotPB (F := F) d L p f) ∗ xCellB d L p) ∗ (∃ f, lSlotPB (F := F) d L p f) ∗ lCellB d L p)
abbrev busyB (p : Fin 2) (t : Fin 2) : sProp 𝕄 := iprop((∃ f, xFlB d L XX p t f) ∗ (∃ f, lFlB d L XL p t f))

/-- The number of the block that an entry of the lists stands in; of the block whose list names row `n` of the target. -/
def blkNoB (j : S64x128.Idx) : ℕ := (j 0).val
def ownB (I : S64x128.Idx → BitVec 32) (n : ℕ) : Option ℕ := (entry I n).map blkNoB
/-- The element sent to `z` by entry `j`. -/
def srcB (j : S64x128.Idx) (z : S9216x128.Idx) : S8192x128.Idx
  | 0 => ⟨(((j 0).val) * 128 + (j 1).val) % 8192, Nat.mod_lt _ (by decide)⟩
  | 1 => z 1
/-- What the scatters leave in the target over `O`. -/
def GB (X : S8192x128.Idx → Elt F .f32) (I : S64x128.Idx → BitVec 32) (O : S9216x128.Idx → Elt F .f32) : S9216x128.Idx → Elt F .f32 :=
  fun z => match entry I (z 0).val with
    | some j => X (srcB j z)
    | none => O z

/-- The elements of the target on the rows that block `b`'s list names. -/
abbrev rowsB (I : S64x128.Idx → BitVec 32) (b : ℕ) := SparseCore.rowsWhere (oAllB).view gathers_S9216x128_S128x128.axis (fun n => ownB I n = some b)
abbrev todoB (t : Fin 2) : sProp 𝕄 := (oAllB).view.loc (VT d L) ↦[SparseCore.rowsWhere (oAllB).view gathers_S9216x128_S128x128.axis (fun n => ownB XL n = some (bkk L t.val))]{fullShare} XO
abbrev doneB (t : Fin 2) : sProp 𝕄 := (oAllB).view.loc (VT d L) ↦[SparseCore.rowsWhere (oAllB).view gathers_S9216x128_S128x128.axis (fun n => ownB XL n = some (bkk L t.val))]{fullShare} (GB (F := F) XX XL XO)

/-- The list in slot `p`, as the scatter names it. -/
abbrev offsB (p : Fin 2) : Memref sig .scVector .vmem S128 .i32 :=
  ((lSlotB p).slice (Rect.unit (s := S1x128) ![0, 0] S1x128.size inb_S1x128_S1x128_0_0) (fun _ => rfl)).squeeze S128 squeezes_S1x128_S128

theorem offs_embB : ∀ x : S128.Idx, (((Rect.unit (s := S1x128) ![0, 0] S1x128.size inb_S1x128_S1x128_0_0).emb
    (Shape.reshapeEquiv squeezes_S1x128_S128.numel_eq x)) 1).val = (x 0).val := by decide +kernel

/-- Entry `x` of the list in the slot. -/
theorem offs_readB (p : Fin 2) (t : Fin 2) (g : Buf (Elt F) ((lSlotB p).view.loc (VT d L))) (x : S128.Idx) (j : S64x128.Idx)
    (h0 : (j 0).val = bkk L t.val) (h1 : (j 1).val = (x 0).val) :
    (offsB p).view.read (Elt F) (lAtB d L XL p t g) x = XL j := by
  have e : (offsB p).view.read (Elt F) (lAtB d L XL p t g) x
      = (lSlotB p).view.read (Elt F) (lAtB d L XL p t g) ((Rect.unit (s := S1x128) ![0, 0] S1x128.size inb_S1x128_S1x128_0_0).emb
          (Shape.reshapeEquiv squeezes_S1x128_S128.numel_eq x)) := by
    rw [View.read_apply, View.read_apply]; rfl
  have hx := offs_embB x
  rw [e, View.read_writes_whole]
  generalize (Rect.unit (s := S1x128) ![0, 0] S1x128.size inb_S1x128_S1x128_0_0).emb
          (Shape.reshapeEquiv squeezes_S1x128_S128.numel_eq x) = y at hx ⊢
  refine ((View.read_apply _ _).trans (cast_eq _ _)).trans (congrArg XL ?_)
  refine (show ∀ u : S64x128.Idx, (u 0).val = (j 0).val → (u 1).val = (j 1).val → u = j from fun u a b => by
    funext a; apply Fin.ext; match a with
    | 0 => assumption
    | 1 => assumption
    ) _ ?_ ?_
  · show bkk L t.val + 1 * (y 0).val = _; rw [h0]; have y0 : (y 0).val < 1 := (y 0).isLt; omega
  · show 0 + 1 * (y 1).val = _; rw [h1]; omega

/-- The entry of the list array that entry `x` of list `t` is. -/
def lixB (L : grid1.Coords) (t : Fin 2) (x : S128.Idx) : S64x128.Idx := have hb := bkk_lt L t.val t.isLt; fun | 0 => ⟨bkk L t.val, by show _ < 64; omega⟩ | 1 => x 0

theorem offs_read'B (p : Fin 2) (t : Fin 2) (g : Buf (Elt F) ((lSlotB p).view.loc (VT d L))) (x : S128.Idx) :
    (offsB p).view.read (Elt F) (lAtB d L XL p t g) x = XL (lixB L t x) :=
  offs_readB d L XL p t g x _ rfl rfl

theorem blkNo_lixB (t : Fin 2) (x : S128.Idx) : blkNoB (lixB L t x) = bkk L t.val := by
  have hb := bkk_lt L t.val t.isLt
  show bkk L t.val = _; omega

variable (hr : ∀ j, (XL j).toNat < 9216) (hj : ∀ j j', (XL j).toNat = (XL j').toNat → j = j')

include hr in
theorem hinB (p : Fin 2) (t : Fin 2) (g : Buf (Elt F) ((lSlotB p).view.loc (VT d L))) :
    ∀ x, ((offsB p).view.read (Elt F) (lAtB d L XL p t g) x).toNat < S9216x128.size gathers_S9216x128_S128x128.axis := by
  intro x; rw [offs_read'B]; exact hr _

include hj in
theorem hinjB (p : Fin 2) (t : Fin 2) (g : Buf (Elt F) ((lSlotB p).view.loc (VT d L))) :
    Function.Injective fun x => ((offsB p).view.read (Elt F) (lAtB d L XL p t g) x).toNat := by
  intro x x' h
  have h' : lixB L t x = lixB L t x' := hj _ _ ((congrArg BitVec.toNat (offs_read'B d L XL p t g x)).symm.trans (h.trans (congrArg BitVec.toNat (offs_read'B d L XL p t g x'))))
  have e : x 0 = x' 0 := congrFun h' 1
  funext a; match a with
  | 0 => exact e

include hj in
theorem hownB (p : Fin 2) (t : Fin 2) (g : Buf (Elt F) ((lSlotB p).view.loc (VT d L))) :
    ∀ x, ownB XL ((offsB p).view.read (Elt F) (lAtB d L XL p t g) x).toNat = some (bkk L t.val) := by
  intro x
  rw [offs_read'B, ownB, entry_of hj, Option.map_some, blkNo_lixB]

abbrev wordsAtB (k : ℕ) : BitVec 32 × BitVec 32 × BitVec 32 × BitVec 32 × BitVec 32 × BitVec 32 := (u9 k, w10 k, u9 k, w10 k, u13 k, 0#32)

abbrev progB := k1_t2_body (F := F) L xMA (Memref.isWhole_whole _) xMB (Memref.isWhole_whole _) lMA (Memref.isWhole_whole _) lMB (Memref.isWhole_whole _) oMA (Memref.isWhole_whole _) oMB (Memref.isWhole_whole _) xbA (Memref.isWhole_whole _) cc1_scoped1 lbA (Memref.isWhole_whole _) cc1_scoped3 cc1_scoped4 xbB (Memref.isWhole_whole _) cc1_scoped6 lbB (Memref.isWhole_whole _) cc1_scoped8 cc1_scoped9

end TileB

end Cert.Proof.Sent

end
-- ==== Proof.Sent.Val.lean ====
/-
  What a scatter of the dispatch leaves on the rows its list names: there the target holds the block's rows.
-/
module

public import proofs.«01_k».proof.Proof.Sent.Res

@[expose] public section

noncomputable section

namespace Cert.Proof.Sent

open Cert.SentIdeal Cert.SentIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section TileA
variable (d : Dev nD) (L : grid1.Coords)
variable (XX : Buf (Elt F) (xMA.view.loc (VT d L))) (XL : Buf (Elt F) (lMA.view.loc (VT d L))) (XO : Buf (Elt F) ((oAllA).view.loc (VT d L)))

theorem rows_valA (w : S128.Idx → Elt F .i32) (hn : S128.numel = S128x2x128.size gathers_S36864x2x128_S128x2x128.axis')
    (h : ∀ x, (w x).toNat < S36864x2x128.size gathers_S36864x2x128_S128x2x128.axis) (k : Fin (S128x2x128.size gathers_S36864x2x128_S128x2x128.axis')) :
    ∃ y : S128.Idx, (y 0).val = k.val ∧ (SparseCore.rows (F := F) w hn h k).val = (w y).toNat := by
  refine ⟨S128.rowMajor.symm (k.cast hn.symm), ?_, rfl⟩
  rw [← Shape.rowMajor_val_one (d := ![128]), Equiv.apply_symm_apply]; rfl

/-- An element of row `n` of the target: its first coordinate is `n`, the others its own. -/
theorem row_embA (n : Fin (S36864x2x128.size gathers_S36864x2x128_S128x2x128.axis)) (y : (S36864x2x128.rowShape gathers_S36864x2x128_S128x2x128.axis).Idx) :
    (((S36864x2x128.rowRect gathers_S36864x2x128_S128x2x128.axis n).emb y : S36864x2x128.Idx) 0).val = n.val
      ∧ (((S36864x2x128.rowRect gathers_S36864x2x128_S128x2x128.axis n).emb y : S36864x2x128.Idx) 1).val = (y (1 : Fin 3)).val ∧ (((S36864x2x128.rowRect gathers_S36864x2x128_S128x2x128.axis n).emb y : S36864x2x128.Idx) 2).val = (y (2 : Fin 3)).val := by
  refine ⟨?_, ?_, ?_⟩
  · show n.val + 1 * (y (0 : Fin 3)).val = _
    have : (y (0 : Fin 3)).val < 1 := (y (0 : Fin 3)).isLt
    omega
  · show 0 + 1 * (y (1 : Fin 3)).val = _; omega
  · show 0 + 1 * (y (2 : Fin 3)).val = _; omega

theorem src_embA (k : Fin (S128x2x128.size gathers_S36864x2x128_S128x2x128.axis')) (y : (S128x2x128.rowShape gathers_S36864x2x128_S128x2x128.axis').Idx) :
    (((S128x2x128.rowRect gathers_S36864x2x128_S128x2x128.axis' k).emb y : S128x2x128.Idx) 0).val = k.val
      ∧ (((S128x2x128.rowRect gathers_S36864x2x128_S128x2x128.axis' k).emb y : S128x2x128.Idx) 1).val = (y (1 : Fin 3)).val ∧ (((S128x2x128.rowRect gathers_S36864x2x128_S128x2x128.axis' k).emb y : S128x2x128.Idx) 2).val = (y (2 : Fin 3)).val := by
  refine ⟨?_, ?_, ?_⟩
  · show k.val + 1 * (y (0 : Fin 3)).val = _
    have : (y (0 : Fin 3)).val < 1 := (y (0 : Fin 3)).isLt
    omega
  · show 0 + 1 * (y (1 : Fin 3)).val = _; omega
  · show 0 + 1 * (y (2 : Fin 3)).val = _; omega

theorem oAll_embA (z : S36864x2x128.Idx) : ((oAllA).view.emb z : S36864x2x128.Idx) = z := by
  funext a; apply Fin.ext
  match a with
  | 0 => show 0 + 1 * (z 0).val = _; omega
  | 1 => show 0 + 1 * (z 1).val = _; omega
  | 2 => show 0 + 1 * (z 2).val = _; omega

theorem blk_embA (t : Fin 8) (q : S128x2x128.Idx) (u : S32768x2x128.Idx) (h0 : (u 0).val = 128 * blk L t.val + (q 0).val)
    (h1 : (u 1).val = (q 1).val) (h2 : (u 2).val = (q 2).val) : ((xBlkA L t).view.emb q : S32768x2x128.Idx) = u := by
  refine (show ∀ w : S32768x2x128.Idx, (w 0).val = (u 0).val → (w 1).val = (u 1).val → (w 2).val = (u 2).val → w = u from fun w w0 w1 w2 => by
    funext a; apply Fin.ext; match a with
    | 0 => assumption
    | 1 => assumption
    | 2 => assumption
    ) _ ?_ ?_ ?_
  · show 128 * blk L t.val + 1 * (q 0).val = _; omega
  · show 0 + 1 * (q 1).val = _; omega
  · show 0 + 1 * (q 2).val = _; omega

variable (hr : ∀ j, (XL j).toNat < 36864) (hj : ∀ j j', (XL j).toNat = (XL j').toNat → j = j')

set_option maxRecDepth 8000 in
include hj in
theorem sentAtA (p : Fin 2) (t : Fin 8) (gx : Buf (Elt F) ((xSlotA p).view.loc (VT d L))) (gl : Buf (Elt F) ((lSlotA p).view.loc (VT d L)))
    (hn : S128.numel = S128x2x128.size gathers_S36864x2x128_S128x2x128.axis') (hin : ∀ x, ((offsA p).view.read (Elt F) (lAtA d L XL p t gl) x).toNat < S36864x2x128.size gathers_S36864x2x128_S128x2x128.axis)
    (z : Idx ((oAllA).view.loc (VT d L))) (hz : ∃ n : Fin (S36864x2x128.size gathers_S36864x2x128_S128x2x128.axis), ownA XL n.val = some (blk L t.val) ∧ z ∈ ((oAllA).view.slice (S36864x2x128.rowRect gathers_S36864x2x128_S128x2x128.axis n)).set) :
    SparseCore.scatterBuf (VT d L) (oAllA).view gathers_S36864x2x128_S128x2x128.axis
        (SparseCore.rows ((offsA p).view.read (Elt F) (lAtA d L XL p t gl)) hn hin)
        (SparseCore.scatterRowPayload (VT d L) (xSlotA p) gathers_S36864x2x128_S128x2x128 (xAtA d L XX p t gx)) XO z
      = GA (F := F) XX XL XO z := by
  obtain ⟨n, hn', hz'⟩ := hz
  obtain ⟨j, hjn, hjb⟩ := Option.map_eq_some_iff.mp hn'
  have hinj := hinjA d L XL hj p t gl
  have hw := offs_read'A d L XL p t gl
  generalize hwe : (offsA p).view.read (Elt F) (lAtA d L XL p t gl) = w at hin hw hinj ⊢
  have hk : ∃ k : Fin (S128x2x128.size gathers_S36864x2x128_S128x2x128.axis'), k.val = (j 2).val ∧ SparseCore.rows w hn hin k = n := by
    have hlt : (j 2).val < 128 := (j 2).isLt
    obtain ⟨y, hy, e⟩ := rows_valA w hn hin (⟨(j 2).val, hlt⟩ : Fin 128)
    refine ⟨(⟨(j 2).val, hlt⟩ : Fin 128), rfl, Fin.ext ?_⟩
    rw [e, hw, ← entry_some hjn]
    refine congrArg (fun i => (XL i).toNat) ?_
    have hb := blk_lt L t.val t.isLt
    funext a; apply Fin.ext
    match a with
    | 0 => show blk L t.val / 64 = (j 0).val; have h1 : (j 1).val < 64 := (j 1).isLt; have := hjb; unfold blkNoA at this; omega
    | 1 => show blk L t.val % 64 = (j 1).val; have h1 : (j 1).val < 64 := (j 1).isLt; have := hjb; unfold blkNoA at this; omega
    | 2 => exact hy
  obtain ⟨k, hkj, hk⟩ := hk
  subst hk
  rw [SparseCore.scatterBuf_of_mem _ _ _ _ (SparseCore.rows_injective hinj) _ _ hz']
  obtain ⟨y, -, hy⟩ := Finset.mem_map.mp hz'
  have hz0 : (S36864x2x128.rowRect gathers_S36864x2x128_S128x2x128.axis (SparseCore.rows w hn hin k)).emb y = z := (oAll_embA _).symm.trans hy
  obtain ⟨e0, e1, e2⟩ := row_embA (SparseCore.rows w hn hin k) y
  rw [hz0] at e0 e1 e2
  have hG : GA (F := F) XX XL XO z = XX (srcA j z) := by
    unfold GA; rw [e0, hjn]
  rw [hG]
  have hv := View.write_emb_of_mem (v := (oAllA).view.slice (S36864x2x128.rowRect gathers_S36864x2x128_S128x2x128.axis (SparseCore.rows w hn hin k))) (Val := Elt F) XO
    (SparseCore.scatterRowPayload (VT d L) (xSlotA p) gathers_S36864x2x128_S128x2x128 (xAtA d L XX p t gx) k) (Finset.mem_univ y)
  rw [hy] at hv
  refine hv.trans ((cast_eq _ _).trans ?_)
  generalize hy' : (Shape.idxEquiv gathers_S36864x2x128_S128x2x128.rowShape_eq).symm y = y'
  have q := src_embA k y'
  have hq : SparseCore.scatterRowPayload (VT d L) (xSlotA p) gathers_S36864x2x128_S128x2x128 (xAtA d L XX p t gx) k y
      = (xSlotA p).view.read (Elt F) (xAtA d L XX p t gx) ((S128x2x128.rowRect gathers_S36864x2x128_S128x2x128.axis' k).emb y') := by
    subst hy'
    exact (View.read_apply _ _).trans (View.read_apply (v := (xSlotA p).view) _ _).symm
  rw [hq, View.read_writes_whole]
  refine ((View.read_apply _ _).trans (cast_eq _ _)).trans (congrArg XX ?_)
  have yv : ∀ b : Fin 3, (y' b).val = (y b).val := fun b => by subst hy'; exact Shape.idxEquiv_symm_apply_val _ _ _
  generalize (S128x2x128.rowRect gathers_S36864x2x128_S128x2x128.axis' k).emb y' = v at q ⊢
  obtain ⟨q0, q1, q2⟩ := q
  refine blk_embA L t _ _ ?_ ?_ ?_
  · have hb := blk_lt L t.val t.isLt
    have := (j 2).isLt
    have hj2 : (j 2).val < 128 := this
    show (blkNoA j * 128 + (j 2).val) % _ = _
    rw [hjb, q0, hkj, Nat.mod_eq_of_lt (by omega)]; omega
  · show (z 1).val = _; rw [e1, q1, yv]
  · show (z 2).val = _; rw [e2, q2, yv]

set_option maxRecDepth 8000 in
include hr hj in
theorem sentA (p : Fin 2) (t : Fin 8) (gx : Buf (Elt F) ((xSlotA p).view.loc (VT d L))) (gl : Buf (Elt F) ((lSlotA p).view.loc (VT d L)))
    (hn : S128.numel = S128x2x128.size gathers_S36864x2x128_S128x2x128.axis') (hin : ∀ x, ((offsA p).view.read (Elt F) (lAtA d L XL p t gl) x).toNat < S36864x2x128.size gathers_S36864x2x128_S128x2x128.axis) :
    ((oAllA).view.loc (VT d L) ↦[SparseCore.rowsWhere (oAllA).view gathers_S36864x2x128_S128x2x128.axis (fun n => ownA XL n = some (blk L t.val))]{fullShare}
      (SparseCore.scatterBuf (VT d L) (oAllA).view gathers_S36864x2x128_S128x2x128.axis
        (SparseCore.rows ((offsA p).view.read (Elt F) (lAtA d L XL p t gl)) hn hin)
        (SparseCore.scatterRowPayload (VT d L) (xSlotA p) gathers_S36864x2x128_S128x2x128 (xAtA d L XX p t gx)) XO) : sProp 𝕄)
      = doneA d L XX XL XO t := by
  refine pointsTo_congr fun z hz => ?_
  rw [SparseCore.mem_rowsWhere] at hz
  exact sentAtA d L XX XL XO hj p t gx gl hn hin z hz

end TileA

section TileB
variable (d : Dev nD) (L : grid1.Coords)
variable (XX : Buf (Elt F) (xMB.view.loc (VT d L))) (XL : Buf (Elt F) (lMB.view.loc (VT d L))) (XO : Buf (Elt F) ((oAllB).view.loc (VT d L)))

theorem rows_valB (w : S128.Idx → Elt F .i32) (hn : S128.numel = S128x128.size gathers_S9216x128_S128x128.axis')
    (h : ∀ x, (w x).toNat < S9216x128.size gathers_S9216x128_S128x128.axis) (k : Fin (S128x128.size gathers_S9216x128_S128x128.axis')) :
    ∃ y : S128.Idx, (y 0).val = k.val ∧ (SparseCore.rows (F := F) w hn h k).val = (w y).toNat := by
  refine ⟨S128.rowMajor.symm (k.cast hn.symm), ?_, rfl⟩
  rw [← Shape.rowMajor_val_one (d := ![128]), Equiv.apply_symm_apply]; rfl

/-- An element of row `n` of the target: its first coordinate is `n`, the others its own. -/
theorem row_embB (n : Fin (S9216x128.size gathers_S9216x128_S128x128.axis)) (y : (S9216x128.rowShape gathers_S9216x128_S128x128.axis).Idx) :
    (((S9216x128.rowRect gathers_S9216x128_S128x128.axis n).emb y : S9216x128.Idx) 0).val = n.val
      ∧ (((S9216x128.rowRect gathers_S9216x128_S128x128.axis n).emb y : S9216x128.Idx) 1).val = (y (1 : Fin 2)).val := by
  refine ⟨?_, ?_⟩
  · show n.val + 1 * (y (0 : Fin 2)).val = _
    have : (y (0 : Fin 2)).val < 1 := (y (0 : Fin 2)).isLt
    omega
  · show 0 + 1 * (y (1 : Fin 2)).val = _; omega

theorem src_embB (k : Fin (S128x128.size gathers_S9216x128_S128x128.axis')) (y : (S128x128.rowShape gathers_S9216x128_S128x128.axis').Idx) :
    (((S128x128.rowRect gathers_S9216x128_S128x128.axis' k).emb y : S128x128.Idx) 0).val = k.val
      ∧ (((S128x128.rowRect gathers_S9216x128_S128x128.axis' k).emb y : S128x128.Idx) 1).val = (y (1 : Fin 2)).val := by
  refine ⟨?_, ?_⟩
  · show k.val + 1 * (y (0 : Fin 2)).val = _
    have : (y (0 : Fin 2)).val < 1 := (y (0 : Fin 2)).isLt
    omega
  · show 0 + 1 * (y (1 : Fin 2)).val = _; omega

theorem oAll_embB (z : S9216x128.Idx) : ((oAllB).view.emb z : S9216x128.Idx) = z := by
  funext a; apply Fin.ext
  match a with
  | 0 => show 0 + 1 * (z 0).val = _; omega
  | 1 => show 0 + 1 * (z 1).val = _; omega

theorem blk_embB (t : Fin 2) (q : S128x128.Idx) (u : S8192x128.Idx) (h0 : (u 0).val = 128 * bkk L t.val + (q 0).val)
    (h1 : (u 1).val = (q 1).val) : ((xBlkB L t).view.emb q : S8192x128.Idx) = u := by
  refine (show ∀ w : S8192x128.Idx, (w 0).val = (u 0).val → (w 1).val = (u 1).val → w = u from fun w w0 w1 => by
    funext a; apply Fin.ext; match a with
    | 0 => assumption
    | 1 => assumption
    ) _ ?_ ?_
  · show 128 * bkk L t.val + 1 * (q 0).val = _; omega
  · show 0 + 1 * (q 1).val = _; omega

variable (hr : ∀ j, (XL j).toNat < 9216) (hj : ∀ j j', (XL j).toNat = (XL j').toNat → j = j')

set_option maxRecDepth 8000 in
include hj in
theorem sentAtB (p : Fin 2) (t : Fin 2) (gx : Buf (Elt F) ((xSlotB p).view.loc (VT d L))) (gl : Buf (Elt F) ((lSlotB p).view.loc (VT d L)))
    (hn : S128.numel = S128x128.size gathers_S9216x128_S128x128.axis') (hin : ∀ x, ((offsB p).view.read (Elt F) (lAtB d L XL p t gl) x).toNat < S9216x128.size gathers_S9216x128_S128x128.axis)
    (z : Idx ((oAllB).view.loc (VT d L))) (hz : ∃ n : Fin (S9216x128.size gathers_S9216x128_S128x128.axis), ownB XL n.val = some (bkk L t.val) ∧ z ∈ ((oAllB).view.slice (S9216x128.rowRect gathers_S9216x128_S128x128.axis n)).set) :
    SparseCore.scatterBuf (VT d L) (oAllB).view gathers_S9216x128_S128x128.axis
        (SparseCore.rows ((offsB p).view.read (Elt F) (lAtB d L XL p t gl)) hn hin)
        (SparseCore.scatterRowPayload (VT d L) (xSlotB p) gathers_S9216x128_S128x128 (xAtB d L XX p t gx)) XO z
      = GB (F := F) XX XL XO z := by
  obtain ⟨n, hn', hz'⟩ := hz
  obtain ⟨j, hjn, hjb⟩ := Option.map_eq_some_iff.mp hn'
  have hinj := hinjB d L XL hj p t gl
  have hw := offs_read'B d L XL p t gl
  generalize hwe : (offsB p).view.read (Elt F) (lAtB d L XL p t gl) = w at hin hw hinj ⊢
  have hk : ∃ k : Fin (S128x128.size gathers_S9216x128_S128x128.axis'), k.val = (j 1).val ∧ SparseCore.rows w hn hin k = n := by
    have hlt : (j 1).val < 128 := (j 1).isLt
    obtain ⟨y, hy, e⟩ := rows_valB w hn hin (⟨(j 1).val, hlt⟩ : Fin 128)
    refine ⟨(⟨(j 1).val, hlt⟩ : Fin 128), rfl, Fin.ext ?_⟩
    rw [e, hw, ← entry_some hjn]
    refine congrArg (fun i => (XL i).toNat) ?_
    have hb := bkk_lt L t.val t.isLt
    funext a; apply Fin.ext
    match a with
    | 0 => show bkk L t.val = (j 0).val; exact hjb.symm
    | 1 => exact hy
  obtain ⟨k, hkj, hk⟩ := hk
  subst hk
  rw [SparseCore.scatterBuf_of_mem _ _ _ _ (SparseCore.rows_injective hinj) _ _ hz']
  obtain ⟨y, -, hy⟩ := Finset.mem_map.mp hz'
  have hz0 : (S9216x128.rowRect gathers_S9216x128_S128x128.axis (SparseCore.rows w hn hin k)).emb y = z := (oAll_embB _).symm.trans hy
  obtain ⟨e0, e1⟩ := row_embB (SparseCore.rows w hn hin k) y
  rw [hz0] at e0 e1
  have hG : GB (F := F) XX XL XO z = XX (srcB j z) := by
    unfold GB; rw [e0, hjn]
  rw [hG]
  have hv := View.write_emb_of_mem (v := (oAllB).view.slice (S9216x128.rowRect gathers_S9216x128_S128x128.axis (SparseCore.rows w hn hin k))) (Val := Elt F) XO
    (SparseCore.scatterRowPayload (VT d L) (xSlotB p) gathers_S9216x128_S128x128 (xAtB d L XX p t gx) k) (Finset.mem_univ y)
  rw [hy] at hv
  refine hv.trans ((cast_eq _ _).trans ?_)
  generalize hy' : (Shape.idxEquiv gathers_S9216x128_S128x128.rowShape_eq).symm y = y'
  have q := src_embB k y'
  have hq : SparseCore.scatterRowPayload (VT d L) (xSlotB p) gathers_S9216x128_S128x128 (xAtB d L XX p t gx) k y
      = (xSlotB p).view.read (Elt F) (xAtB d L XX p t gx) ((S128x128.rowRect gathers_S9216x128_S128x128.axis' k).emb y') := by
    subst hy'
    exact (View.read_apply _ _).trans (View.read_apply (v := (xSlotB p).view) _ _).symm
  rw [hq, View.read_writes_whole]
  refine ((View.read_apply _ _).trans (cast_eq _ _)).trans (congrArg XX ?_)
  have yv : ∀ b : Fin 2, (y' b).val = (y b).val := fun b => by subst hy'; exact Shape.idxEquiv_symm_apply_val _ _ _
  generalize (S128x128.rowRect gathers_S9216x128_S128x128.axis' k).emb y' = v at q ⊢
  obtain ⟨q0, q1⟩ := q
  refine blk_embB L t _ _ ?_ ?_
  · have hb := bkk_lt L t.val t.isLt
    have := (j 1).isLt
    have hj2 : (j 1).val < 128 := this
    show (blkNoB j * 128 + (j 1).val) % _ = _
    rw [hjb, q0, hkj, Nat.mod_eq_of_lt (by omega)]; omega
  · show (z 1).val = _; rw [e1, q1, yv]

set_option maxRecDepth 8000 in
include hr hj in
theorem sentB (p : Fin 2) (t : Fin 2) (gx : Buf (Elt F) ((xSlotB p).view.loc (VT d L))) (gl : Buf (Elt F) ((lSlotB p).view.loc (VT d L)))
    (hn : S128.numel = S128x128.size gathers_S9216x128_S128x128.axis') (hin : ∀ x, ((offsB p).view.read (Elt F) (lAtB d L XL p t gl) x).toNat < S9216x128.size gathers_S9216x128_S128x128.axis) :
    ((oAllB).view.loc (VT d L) ↦[SparseCore.rowsWhere (oAllB).view gathers_S9216x128_S128x128.axis (fun n => ownB XL n = some (bkk L t.val))]{fullShare}
      (SparseCore.scatterBuf (VT d L) (oAllB).view gathers_S9216x128_S128x128.axis
        (SparseCore.rows ((offsB p).view.read (Elt F) (lAtB d L XL p t gl)) hn hin)
        (SparseCore.scatterRowPayload (VT d L) (xSlotB p) gathers_S9216x128_S128x128 (xAtB d L XX p t gx)) XO) : sProp 𝕄)
      = doneB d L XX XL XO t := by
  refine pointsTo_congr fun z hz => ?_
  rw [SparseCore.mem_rowsWhere] at hz
  exact sentAtB d L XX XL XO hj p t gx gl hn hin z hz

end TileB

end Cert.Proof.Sent

end
-- ==== Proof.Sent.TripA.lean ====
/-
  A trip of each of the dispatch's two loops: the next block and list are fetched while the current block's rows are
  scattered onto the rows that its list names.
-/
module

public import proofs.«01_k».proof.Proof.Sent.Val

@[expose] public section

noncomputable section

namespace Cert.Proof.Sent

open Cert.SentIdeal Cert.SentIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section TileA
variable (d : Dev nD) (L : grid1.Coords)
variable (XX : Buf (Elt F) (xMA.view.loc (VT d L))) (XL : Buf (Elt F) (lMA.view.loc (VT d L))) (XO : Buf (Elt F) ((oAllA).view.loc (VT d L)))

/-- Rows that hold the right values are the block's rows when they are done. -/
theorem cast_doneA (t : Fin 8) (f : Buf (Elt F) ((oAllA).view.loc (VT d L)))
    (h : ∀ z ∈ SparseCore.rowsWhere (oAllA).view gathers_S36864x2x128_S128x2x128.axis (fun n => ownA XL n = some (blk L t.val)), f z = GA (F := F) XX XL XO z) :
    ((oAllA).view.loc (VT d L) ↦[SparseCore.rowsWhere (oAllA).view gathers_S36864x2x128_S128x2x128.axis (fun n => ownA XL n = some (blk L t.val))]{fullShare} f : sProp 𝕄)
      ⊢ doneA d L XX XL XO t := of_eq (pointsTo_congr h)

set_option maxHeartbeats 4000000 in
/-- A trip that has a next one. -/
theorem trip_midA (v12 v50 v53 : BitVec 32) (v64 : BitVec 1) (v65 c0 : BitVec 32) (k : Fin k1_t1_loop.trips) (h7 : k.val < 7) (O : CellTallies nD τ sig (HIx 1)) (W : Waits sig (HIx 1))
    (hr : ∀ j, (XL j).toNat < 36864) (hj : ∀ j j', (XL j).toNat = (XL j').toNat → j = j') :
    (iprop(Transfers.MayWaits (VT d L) (default : HIx 1) O
        ∗ rowPA d L XX XL (Ring.bk 8 (k.val + 1)) ∗ freeA d L (Ring.sl 2 (k.val + 1)) ∗ busyA d L XX XL (Ring.sl 2 k.val) (Ring.bk 8 k.val)
        ∗ todoA d L XL XO (Ring.bk 8 k.val) ∗ gCellA d L ∗ owes (VT d L) O W) : sProp 𝕄)
      ⊢ wp frame (wpE (defs₀ (F := F)) 𝒱₀ (VT d L) none) Set.univ (progA L (BitVec.ofNat 32 (4 * tile L)) v12 v50 v53 v64 v65 c0 k (wordsAtA k.val))
        (fun r => iprop(⌜r = wordsAtA (k.val + 1)⌝ ∗ rowPA d L XX XL (Ring.bk 8 k.val)
          ∗ busyA d L XX XL (Ring.sl 2 (k.val + 1)) (Ring.bk 8 (k.val + 1)) ∗ freeA d L (Ring.sl 2 k.val)
          ∗ doneA d L XX XL XO (Ring.bk 8 k.val) ∗ gCellA d L ∗ owesMore d L O W)) := by
  iintro ⟨#Hmw, ⟨HRx, HRl⟩, ⟨⟨⟨%fx, HX⟩, HXc⟩, ⟨%fl, HL⟩, HLc⟩, ⟨⟨%fx', HXF⟩, ⟨%fl', HLF⟩⟩, HB, HGc, HW⟩
  have e1 : k1_cond1 L k (w13 k.val) (w14 k.val) = 1#1 := (cond1_iff L k).mpr h7
  have e2 : k1_cond2 L k (w13 k.val) (w14 k.val) = 1#1 := (cond2_iff L k).mpr h7
  have e3 := cond3_true L k
  have e4 := cond4_true L k
  have k1 := chk1_true L k
  have k2 := chk2_true k
  have k3 := chk3_true k
  have hin := fun g => hinA d L XL hr (Ring.sl 2 k.val) (Ring.bk 8 k.val) g
  have hinj := fun g => hinjA d L XL hj (Ring.sl 2 k.val) (Ring.bk 8 k.val) g
  have hown := fun g => hownA d L XL hj (Ring.sl 2 k.val) (Ring.bk 8 k.val) g
  dsimp only [progA]
  sl_unfold [k1_t1_body]
  sl_exec
  simp only [cA18xs k, cA19ls k]
  sl_exec
  sl_step
  isplitr
  · ipureintro
    clear * - h7
    clear trip_midA XX XL XO
    revert L k
    decide +kernel
  isplitl [HXF_src HLF_src]
  · isplitl [HXF_src]; · iexact HXF_src
    iexact HLF_src
  isplitl [HXc HLc]
  · isplitl [HXc]; · iexists fx; iexact HXc
    iexists fl; iexact HLc
  isplitl [HXF_dst HXF HLF_dst HLF]
  · isplitl [HXF_dst HXF]
    · isplitl [HXF_dst]; · iexists _; iexact HXF_dst
      iexact HXF
    isplitl [HLF_dst]; · iexists _; iexact HLF_dst
    iexact HLF
  isplitl [HB]
  · iapply (cast_doneA d L XX XL XO (Ring.bk 8 k.val) (trip_midA.sl.HB_sc2 d L XX XL XO k hin) ?_)
    rotate_left
    · iexact HB
    · intro z hz
      rw [SparseCore.mem_rowsWhere] at hz
      exact sentAtA d L XX XL XO hj (Ring.sl 2 k.val) (Ring.bk 8 k.val) (xSlotA (Ring.sl 2 k.val)).view.junk (lSlotA (Ring.sl 2 k.val)).view.junk rfl (hin _) z hz
  isplitl [HGc]; · iexact HGc
  iexists _
  isplitr
  rotate_left
  · iexact HW
  · ipureintro
    intro p hp
    simp only [Set.mem_insert_iff, Finset.mem_insert] at hp
    rcases hp with rfl | rfl | rfl | hp
    · exact Or.inr rfl
    · exact Or.inr rfl
    · exact Or.inr rfl
    · exact Or.inl hp

set_option maxHeartbeats 4000000 in
/-- The last trip. -/
theorem trip_lastA (v12 v50 v53 : BitVec 32) (v64 : BitVec 1) (v65 c0 : BitVec 32) (k : Fin k1_t1_loop.trips) (h7 : k.val = 7) (O : CellTallies nD τ sig (HIx 1)) (W : Waits sig (HIx 1))
    (hr : ∀ j, (XL j).toNat < 36864) (hj : ∀ j j', (XL j).toNat = (XL j').toNat → j = j') :
    (iprop(Transfers.MayWaits (VT d L) (default : HIx 1) O
        ∗ busyA d L XX XL (Ring.sl 2 k.val) (Ring.bk 8 k.val)
        ∗ todoA d L XL XO (Ring.bk 8 k.val) ∗ gCellA d L ∗ owes (VT d L) O W) : sProp 𝕄)
      ⊢ wp frame (wpE (defs₀ (F := F)) 𝒱₀ (VT d L) none) Set.univ (progA L (BitVec.ofNat 32 (4 * tile L)) v12 v50 v53 v64 v65 c0 k (wordsAtA k.val))
        (fun r => iprop(⌜r = wordsAtA (k.val + 1)⌝ ∗ rowPA d L XX XL (Ring.bk 8 k.val)
          ∗ freeA d L (Ring.sl 2 k.val)
          ∗ doneA d L XX XL XO (Ring.bk 8 k.val) ∗ gCellA d L ∗ owesMore d L O W)) := by
  iintro ⟨#Hmw, ⟨⟨%fx', HXF⟩, ⟨%fl', HLF⟩⟩, HB, HGc, HW⟩
  have e1 : ¬ k1_cond1 L k (w13 k.val) (w14 k.val) = 1#1 := fun h => absurd ((cond1_iff L k).mp h) (by omega)
  have e2 : ¬ k1_cond2 L k (w13 k.val) (w14 k.val) = 1#1 := fun h => absurd ((cond2_iff L k).mp h) (by omega)
  have e3 := cond3_true L k
  have e4 := cond4_true L k
  have k1 := chk1_true L k
  have k2 := chk2_true k
  have k3 := chk3_true k
  have hin := fun g => hinA d L XL hr (Ring.sl 2 k.val) (Ring.bk 8 k.val) g
  have hinj := fun g => hinjA d L XL hj (Ring.sl 2 k.val) (Ring.bk 8 k.val) g
  have hown := fun g => hownA d L XL hj (Ring.sl 2 k.val) (Ring.bk 8 k.val) g
  dsimp only [progA]
  sl_unfold [k1_t1_body]
  sl_exec
  simp only [cA18xs k, cA19ls k]
  sl_exec
  sl_step
  isplitr
  · ipureintro
    clear * - h7
    clear trip_lastA XX XL XO
    revert L k
    decide +kernel
  isplitl [HXF_src HLF_src]
  · isplitl [HXF_src]; · iexact HXF_src
    iexact HLF_src
  isplitl [HXF_dst HXF HLF_dst HLF]
  · isplitl [HXF_dst HXF]
    · isplitl [HXF_dst]; · iexists _; iexact HXF_dst
      iexact HXF
    isplitl [HLF_dst]; · iexists _; iexact HLF_dst
    iexact HLF
  isplitl [HB]
  · iapply (cast_doneA d L XX XL XO (Ring.bk 8 k.val) (trip_lastA.sl.HB_sc0 d L XX XL XO k hin) ?_)
    rotate_left
    · iexact HB
    · intro z hz
      rw [SparseCore.mem_rowsWhere] at hz
      exact sentAtA d L XX XL XO hj (Ring.sl 2 k.val) (Ring.bk 8 k.val) (xSlotA (Ring.sl 2 k.val)).view.junk (lSlotA (Ring.sl 2 k.val)).view.junk rfl (hin _) z hz
  isplitl [HGc]; · iexact HGc
  iexists _
  isplitr
  rotate_left
  · iexact HW
  · ipureintro
    intro p hp
    simp only [Set.mem_insert_iff, Finset.mem_insert] at hp
    rcases hp with rfl | rfl | rfl | hp
    · exact Or.inr rfl
    · exact Or.inr rfl
    · exact Or.inr rfl
    · exact Or.inl hp

end TileA

end Cert.Proof.Sent

end
-- ==== Proof.Sent.TripB.lean ====
/-
  A trip of each of the dispatch's two loops: the next block and list are fetched while the current block's rows are
  scattered onto the rows that its list names.
-/
module

public import proofs.«01_k».proof.Proof.Sent.Val

@[expose] public section

noncomputable section

namespace Cert.Proof.Sent

open Cert.SentIdeal Cert.SentIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section TileB
variable (d : Dev nD) (L : grid1.Coords)
variable (XX : Buf (Elt F) (xMB.view.loc (VT d L))) (XL : Buf (Elt F) (lMB.view.loc (VT d L))) (XO : Buf (Elt F) ((oAllB).view.loc (VT d L)))

/-- Rows that hold the right values are the block's rows when they are done. -/
theorem cast_doneB (t : Fin 2) (f : Buf (Elt F) ((oAllB).view.loc (VT d L)))
    (h : ∀ z ∈ SparseCore.rowsWhere (oAllB).view gathers_S9216x128_S128x128.axis (fun n => ownB XL n = some (bkk L t.val)), f z = GB (F := F) XX XL XO z) :
    ((oAllB).view.loc (VT d L) ↦[SparseCore.rowsWhere (oAllB).view gathers_S9216x128_S128x128.axis (fun n => ownB XL n = some (bkk L t.val))]{fullShare} f : sProp 𝕄)
      ⊢ doneB d L XX XL XO t := of_eq (pointsTo_congr h)

set_option maxHeartbeats 4000000 in
/-- A trip that has a next one. -/
theorem trip_midB (v49 : BitVec 32) (k : Fin k1_t2_loop.trips) (h7 : k.val < 1) (O : CellTallies nD τ sig (HIx 1)) (W : Waits sig (HIx 1))
    (hr : ∀ j, (XL j).toNat < 9216) (hj : ∀ j j', (XL j).toNat = (XL j').toNat → j = j') :
    (iprop(Transfers.MayWaits (VT d L) (default : HIx 1) O
        ∗ rowPB d L XX XL (Ring.bk 2 (k.val + 1)) ∗ freeB d L (Ring.sl 2 (k.val + 1)) ∗ busyB d L XX XL (Ring.sl 2 k.val) (Ring.bk 2 k.val)
        ∗ todoB d L XL XO (Ring.bk 2 k.val) ∗ gCellB d L ∗ owes (VT d L) O W) : sProp 𝕄)
      ⊢ wp frame (wpE (defs₀ (F := F)) 𝒱₀ (VT d L) none) Set.univ (progB L (BitVec.ofNat 32 (tile L)) v49 k (wordsAtB k.val))
        (fun r => iprop(⌜r = wordsAtB (k.val + 1)⌝ ∗ rowPB d L XX XL (Ring.bk 2 k.val)
          ∗ busyB d L XX XL (Ring.sl 2 (k.val + 1)) (Ring.bk 2 (k.val + 1)) ∗ freeB d L (Ring.sl 2 k.val)
          ∗ doneB d L XX XL XO (Ring.bk 2 k.val) ∗ gCellB d L ∗ owesMore d L O W)) := by
  iintro ⟨#Hmw, ⟨HRx, HRl⟩, ⟨⟨⟨%fx, HX⟩, HXc⟩, ⟨%fl, HL⟩, HLc⟩, ⟨⟨%fx', HXF⟩, ⟨%fl', HLF⟩⟩, HB, HGc, HW⟩
  have e9 : k1_cond9 L k (u13 k.val) = 1#1 := (cond9_iff L k).mpr h7
  have e10 : k1_cond10 L k (u13 k.val) = 1#1 := (cond10_iff L k).mpr h7
  have e11 := cond11_true L k
  have e12 := cond12_true L k
  have k4 := chk4_true L k
  have k5 := chk5_true k
  have k6 := chk6_true k
  have hin := fun g => hinB d L XL hr (Ring.sl 2 k.val) (Ring.bk 2 k.val) g
  have hinj := fun g => hinjB d L XL hj (Ring.sl 2 k.val) (Ring.bk 2 k.val) g
  have hown := fun g => hownB d L XL hj (Ring.sl 2 k.val) (Ring.bk 2 k.val) g
  dsimp only [progB]
  sl_unfold [k1_t2_body]
  sl_exec
  simp only [cB36xs k, cB37ls k]
  sl_exec
  sl_step
  isplitr
  · ipureintro
    clear * - h7
    clear trip_midB XX XL XO
    revert L k
    decide +kernel
  isplitl [HXF_src HLF_src]
  · isplitl [HXF_src]; · iexact HXF_src
    iexact HLF_src
  isplitl [HXc HLc]
  · isplitl [HXc]; · iexists fx; iexact HXc
    iexists fl; iexact HLc
  isplitl [HXF_dst HXF HLF_dst HLF]
  · isplitl [HXF_dst HXF]
    · isplitl [HXF_dst]; · iexists _; iexact HXF_dst
      iexact HXF
    isplitl [HLF_dst]; · iexists _; iexact HLF_dst
    iexact HLF
  isplitl [HB]
  · iapply (cast_doneB d L XX XL XO (Ring.bk 2 k.val) (trip_midB.sl.HB_sc2 d L XX XL XO k hin) ?_)
    rotate_left
    · iexact HB
    · intro z hz
      rw [SparseCore.mem_rowsWhere] at hz
      exact sentAtB d L XX XL XO hj (Ring.sl 2 k.val) (Ring.bk 2 k.val) (xSlotB (Ring.sl 2 k.val)).view.junk (lSlotB (Ring.sl 2 k.val)).view.junk rfl (hin _) z hz
  isplitl [HGc]; · iexact HGc
  iexists _
  isplitr
  rotate_left
  · iexact HW
  · ipureintro
    intro p hp
    simp only [Set.mem_insert_iff, Finset.mem_insert] at hp
    rcases hp with rfl | rfl | rfl | hp
    · exact Or.inr rfl
    · exact Or.inr rfl
    · exact Or.inr rfl
    · exact Or.inl hp

set_option maxHeartbeats 4000000 in
/-- The last trip. -/
theorem trip_lastB (v49 : BitVec 32) (k : Fin k1_t2_loop.trips) (h7 : k.val = 1) (O : CellTallies nD τ sig (HIx 1)) (W : Waits sig (HIx 1))
    (hr : ∀ j, (XL j).toNat < 9216) (hj : ∀ j j', (XL j).toNat = (XL j').toNat → j = j') :
    (iprop(Transfers.MayWaits (VT d L) (default : HIx 1) O
        ∗ busyB d L XX XL (Ring.sl 2 k.val) (Ring.bk 2 k.val)
        ∗ todoB d L XL XO (Ring.bk 2 k.val) ∗ gCellB d L ∗ owes (VT d L) O W) : sProp 𝕄)
      ⊢ wp frame (wpE (defs₀ (F := F)) 𝒱₀ (VT d L) none) Set.univ (progB L (BitVec.ofNat 32 (tile L)) v49 k (wordsAtB k.val))
        (fun r => iprop(⌜r = wordsAtB (k.val + 1)⌝ ∗ rowPB d L XX XL (Ring.bk 2 k.val)
          ∗ freeB d L (Ring.sl 2 k.val)
          ∗ doneB d L XX XL XO (Ring.bk 2 k.val) ∗ gCellB d L ∗ owesMore d L O W)) := by
  iintro ⟨#Hmw, ⟨⟨%fx', HXF⟩, ⟨%fl', HLF⟩⟩, HB, HGc, HW⟩
  have e9 : ¬ k1_cond9 L k (u13 k.val) = 1#1 := fun h => absurd ((cond9_iff L k).mp h) (by omega)
  have e10 : ¬ k1_cond10 L k (u13 k.val) = 1#1 := fun h => absurd ((cond10_iff L k).mp h) (by omega)
  have e11 := cond11_true L k
  have e12 := cond12_true L k
  have k4 := chk4_true L k
  have k5 := chk5_true k
  have k6 := chk6_true k
  have hin := fun g => hinB d L XL hr (Ring.sl 2 k.val) (Ring.bk 2 k.val) g
  have hinj := fun g => hinjB d L XL hj (Ring.sl 2 k.val) (Ring.bk 2 k.val) g
  have hown := fun g => hownB d L XL hj (Ring.sl 2 k.val) (Ring.bk 2 k.val) g
  dsimp only [progB]
  sl_unfold [k1_t2_body]
  sl_exec
  simp only [cB36xs k, cB37ls k]
  sl_exec
  sl_step
  isplitr
  · ipureintro
    clear * - h7
    clear trip_lastB XX XL XO
    revert L k
    decide +kernel
  isplitl [HXF_src HLF_src]
  · isplitl [HXF_src]; · iexact HXF_src
    iexact HLF_src
  isplitl [HXF_dst HXF HLF_dst HLF]
  · isplitl [HXF_dst HXF]
    · isplitl [HXF_dst]; · iexists _; iexact HXF_dst
      iexact HXF
    isplitl [HLF_dst]; · iexists _; iexact HLF_dst
    iexact HLF
  isplitl [HB]
  · iapply (cast_doneB d L XX XL XO (Ring.bk 2 k.val) (trip_lastB.sl.HB_sc0 d L XX XL XO k hin) ?_)
    rotate_left
    · iexact HB
    · intro z hz
      rw [SparseCore.mem_rowsWhere] at hz
      exact sentAtB d L XX XL XO hj (Ring.sl 2 k.val) (Ring.bk 2 k.val) (xSlotB (Ring.sl 2 k.val)).view.junk (lSlotB (Ring.sl 2 k.val)).view.junk rfl (hin _) z hz
  isplitl [HGc]; · iexact HGc
  iexists _
  isplitr
  rotate_left
  · iexact HW
  · ipureintro
    intro p hp
    simp only [Set.mem_insert_iff, Finset.mem_insert] at hp
    rcases hp with rfl | rfl | rfl | hp
    · exact Or.inr rfl
    · exact Or.inr rfl
    · exact Or.inr rfl
    · exact Or.inl hp

end TileB

end Cert.Proof.Sent

end
-- ==== Proof.Sent.Tile.lean ====
/-
  The two loops of the dispatch's tile: the invariant before each trip, and the tile from its blocks and lists to the rows
  of the two targets that its lists name.
-/
module

public import proofs.«01_k».proof.Proof.Sent.TripA
public import proofs.«01_k».proof.Proof.Sent.TripB

@[expose] public section

noncomputable section

namespace Cert.Proof.Sent

open Cert.SentIdeal Cert.SentIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Common
theorem two_pt {n : ℕ} (Φ : Fin n → sProp 𝕄) {a b : Fin n} (hab : a ≠ b) :
    bigSep Finset.univ Φ = iprop(Φ a ∗ Φ b ∗ bigSep ((Finset.univ.erase a).erase b) Φ) := by
  rw [SparseCore.bigSep_erase' (Finset.mem_univ a), SparseCore.bigSep_erase' (Finset.mem_erase.mpr ⟨hab.symm, Finset.mem_univ b⟩)]

theorem two_pt_congr {n : ℕ} {Φ Ψ : Fin n → sProp 𝕄} {a b : Fin n} (h : ∀ t, t ≠ a → t ≠ b → Φ t = Ψ t) :
    bigSep ((Finset.univ.erase a).erase b) Φ = bigSep ((Finset.univ.erase a).erase b) Ψ :=
  bigSep_congr fun t ht => h t (Finset.ne_of_mem_erase (Finset.mem_of_mem_erase ht)) (Finset.ne_of_mem_erase ht)

theorem owesMore_trans (d : Dev nD) (L : grid1.Coords) (O : CellTallies nD τ sig (HIx 1)) {W W' : Waits sig (HIx 1)} (h : ∀ p ∈ W', p ∈ W ∨ p.2 = none) :
    owesMore (F := F) d L O W' ⊢ owesMore d L O W := by
  iintro ⟨%W2, %h2, H⟩
  iexists W2; isplitr
  · ipureintro; intro p hp; rcases h2 p hp with hp | hp
    · exact h p hp
    · exact .inr hp
  · iexact H

theorem bk_ne {n : ℕ} [NeZero n] {a b : ℕ} (ha : a < n) (hb : b < n) (h : a ≠ b) : Ring.bk n a ≠ Ring.bk n b := fun e => h (by
  have := congrArg Fin.val e; rwa [Ring.bk_val ha, Ring.bk_val hb] at this)
theorem ne_bk {n : ℕ} [NeZero n] {t : Fin n} {a : ℕ} (ha : a < n) (h : t ≠ Ring.bk n a) : t.val ≠ a := fun e => h (Fin.ext (by rw [Ring.bk_val ha, e]))
end Common

section TileA
variable (d : Dev nD) (L : grid1.Coords)
variable (XX : Buf (Elt F) (xMA.view.loc (VT d L))) (XL : Buf (Elt F) (lMA.view.loc (VT d L))) (XO : Buf (Elt F) ((oAllA).view.loc (VT d L)))

/-- Block and list `t` before trip `k`: with the copies that fetch them, or home. -/
abbrev rowStA (k : ℕ) (t : Fin 8) : sProp 𝕄 := if t.val = k then iprop(emp) else rowPA d L XX XL t
/-- The target's rows that list `t` names before trip `k`: done, or to do. -/
abbrev blkStA (k : ℕ) (t : Fin 8) : sProp 𝕄 := if t.val < k then doneA d L XX XL XO t else todoA d L XL XO t
/-- The slots before trip `k`. -/
abbrev inStA (k : ℕ) : sProp 𝕄 :=
  if k < 8 then iprop(busyA d L XX XL (Ring.sl 2 k) (Ring.bk 8 k) ∗ freeA d L (Ring.sl 2 (k + 1))) else iprop(freeA d L (Ring.sl 2 k) ∗ freeA d L (Ring.sl 2 (k + 1)))

/-- The loop's invariant. -/
def InvA (O : CellTallies nD τ sig (HIx 1)) (W : Waits sig (HIx 1)) (k : ℕ) (r : BitVec 32 × BitVec 32 × BitVec 32 × BitVec 32 × BitVec 32 × BitVec 32) : sProp 𝕄 :=
  iprop(Transfers.MayWaits (VT d L) (default : HIx 1) O ∗ ⌜r = wordsAtA k⌝ ∗ bigSep Finset.univ (rowStA d L XX XL k) ∗ inStA d L XX XL k
    ∗ bigSep Finset.univ (blkStA d L XX XL XO k) ∗ gCellA d L ∗ owesMore d L O W)

set_option maxHeartbeats 1000000 in
theorem trip_invA (v12 v50 v53 : BitVec 32) (v64 : BitVec 1) (v65 c0 : BitVec 32) (k : Fin k1_t1_loop.trips) (O : CellTallies nD τ sig (HIx 1)) (W : Waits sig (HIx 1))
    (hr : ∀ j, (XL j).toNat < 36864) (hj : ∀ j j', (XL j).toNat = (XL j').toNat → j = j') (r) :
    (InvA d L XX XL XO O W k.val r : sProp 𝕄)
      ⊢ wp frame (wpE (defs₀ (F := F)) 𝒱₀ (VT d L) none) Set.univ (progA L (BitVec.ofNat 32 (4 * tile L)) v12 v50 v53 v64 v65 c0 k r)
        (fun r => InvA d L XX XL XO O W (k.val + 1) r) := by
  have hk : k.val < 8 := Nat.lt_of_lt_of_eq k.isLt tripsA
  have sl2 : Ring.sl 2 (k.val + 1 + 1) = Ring.sl 2 k.val := Ring.sl_add 2 k.val
  unfold InvA
  iintro ⟨#Hmw, %hr', HR, HI, HB, HG, %W', %hW', HW⟩
  subst hr'
  by_cases h7 : k.val < 7
  · have hab : Ring.bk 8 k.val ≠ Ring.bk 8 (k.val + 1) := bk_ne hk (by omega) (by omega)
    have hRs : bigSep Finset.univ (rowStA d L XX XL k.val) = iprop(iprop(emp) ∗ rowPA d L XX XL (Ring.bk 8 (k.val + 1)) ∗ bigSep ((Finset.univ.erase (Ring.bk 8 k.val)).erase (Ring.bk 8 (k.val + 1))) (rowStA d L XX XL k.val)) := by
      rw [two_pt _ hab]
      congr 1
      · exact if_pos (Ring.bk_val hk)
      · congr 1; exact if_neg (by rw [Ring.bk_val (by omega)]; omega)
    have hRs' : bigSep Finset.univ (rowStA d L XX XL (k.val + 1)) = iprop(rowPA d L XX XL (Ring.bk 8 k.val) ∗ iprop(emp) ∗ bigSep ((Finset.univ.erase (Ring.bk 8 k.val)).erase (Ring.bk 8 (k.val + 1))) (rowStA d L XX XL k.val)) := by
      rw [two_pt _ hab]
      congr 1
      · exact if_neg (by rw [Ring.bk_val hk]; omega)
      · congr 1
        · exact if_pos (Ring.bk_val (by omega))
        · refine two_pt_congr fun t h1 h2 => ?_
          rw [rowStA, rowStA, if_neg (ne_bk (by omega) h2), if_neg (ne_bk hk h1)]
    have hIn : inStA d L XX XL k.val = iprop(busyA d L XX XL (Ring.sl 2 k.val) (Ring.bk 8 k.val) ∗ freeA d L (Ring.sl 2 (k.val + 1))) := if_pos hk
    have hIn' : inStA d L XX XL (k.val + 1) = iprop(busyA d L XX XL (Ring.sl 2 (k.val + 1)) (Ring.bk 8 (k.val + 1)) ∗ freeA d L (Ring.sl 2 (k.val + 1 + 1))) := if_pos (by omega)
    rw [sl2] at hIn'
    have hB : bigSep Finset.univ (blkStA d L XX XL XO k.val) = iprop(todoA d L XL XO (Ring.bk 8 k.val) ∗ bigSep (Finset.univ.erase (Ring.bk 8 k.val)) (blkStA d L XX XL XO k.val)) := by
      refine (SparseCore.bigSep_erase' (Finset.mem_univ (Ring.bk 8 k.val))).trans ?_
      congr 1
      rw [blkStA, Ring.bk_val hk, if_neg (by omega)]
    have hB' : bigSep Finset.univ (blkStA d L XX XL XO (k.val + 1)) = iprop(doneA d L XX XL XO (Ring.bk 8 k.val) ∗ bigSep (Finset.univ.erase (Ring.bk 8 k.val)) (blkStA d L XX XL XO k.val)) := by
      refine (SparseCore.bigSep_erase' (Finset.mem_univ (Ring.bk 8 k.val))).trans ?_
      congr 1
      · rw [blkStA, Ring.bk_val hk, if_pos (by omega)]
      · refine bigSep_congr fun t ht => ?_
        have h1 := ne_bk hk (Finset.ne_of_mem_erase ht)
        by_cases h3 : t.val < k.val
        · rw [blkStA, blkStA, if_pos (by omega), if_pos h3]
        · rw [blkStA, blkStA, if_neg (by omega), if_neg h3]
    ihave HR := (of_eq hRs) $$ HR
    ihave HI := (of_eq hIn) $$ HI
    ihave HB := (of_eq hB) $$ HB
    icases HR with ⟨-, HR, HRs⟩
    icases HI with ⟨HI0, HI1⟩
    icases HB with ⟨HB, HBs⟩
    iapply (wp_wand_r Idealize.ShloMosaic.frame (wpE (defs₀ (F := F)) 𝒱₀ (VT d L) none) Set.univ)
    isplitl [HR HI0 HI1 HB HG HW]
    · iapply (trip_midA d L XX XL XO v12 v50 v53 v64 v65 c0 k h7 O W' hr hj)
      isplitr; · iexact Hmw
      isplitl [HR]; · iexact HR
      isplitl [HI1]; · iexact HI1
      isplitl [HI0]; · iexact HI0
      isplitl [HB]; · iexact HB
      isplitl [HG]; · iexact HG
      iexact HW
    · iintro %r ⟨%hr', HR, HI0, HI1, HD, HG, HW⟩
      isplitr; · iexact Hmw
      isplitr; · ipureintro; exact hr'
      isplitl [HR HRs]
      · iapply (of_eq hRs'.symm)
        isplitl [HR]; · iexact HR
        isplitr; · iempintro
        iexact HRs
      isplitl [HI0 HI1]
      · iapply (of_eq hIn'.symm)
        isplitl [HI0]; · iexact HI0
        iexact HI1
      isplitl [HD HBs]
      · iapply (of_eq hB'.symm)
        isplitl [HD]; · iexact HD
        iexact HBs
      isplitl [HG]; · iexact HG
      iapply (owesMore_trans d L O hW'); iexact HW
  · have h7 : k.val = 7 := by omega
    have hRs : bigSep Finset.univ (rowStA d L XX XL k.val) = iprop(iprop(emp) ∗ bigSep (Finset.univ.erase (Ring.bk 8 k.val)) (rowStA d L XX XL k.val)) := by
      refine (SparseCore.bigSep_erase' (Finset.mem_univ (Ring.bk 8 k.val))).trans ?_
      congr 1
      exact if_pos (Ring.bk_val hk)
    have hRs' : bigSep Finset.univ (rowStA d L XX XL (k.val + 1)) = iprop(rowPA d L XX XL (Ring.bk 8 k.val) ∗ bigSep (Finset.univ.erase (Ring.bk 8 k.val)) (rowStA d L XX XL k.val)) := by
      refine (SparseCore.bigSep_erase' (Finset.mem_univ (Ring.bk 8 k.val))).trans ?_
      congr 1
      · exact if_neg (by rw [Ring.bk_val hk]; omega)
      · refine bigSep_congr fun t ht => ?_
        have h1 := Finset.ne_of_mem_erase ht
        have := t.isLt
        rw [rowStA, rowStA, if_neg (by omega), if_neg (ne_bk hk h1)]
    have hIn : inStA d L XX XL k.val = iprop(busyA d L XX XL (Ring.sl 2 k.val) (Ring.bk 8 k.val) ∗ freeA d L (Ring.sl 2 (k.val + 1))) := if_pos hk
    have hIn' : inStA d L XX XL (k.val + 1) = iprop(freeA d L (Ring.sl 2 (k.val + 1)) ∗ freeA d L (Ring.sl 2 (k.val + 1 + 1))) := if_neg (by omega)
    rw [sl2] at hIn'
    have hB : bigSep Finset.univ (blkStA d L XX XL XO k.val) = iprop(todoA d L XL XO (Ring.bk 8 k.val) ∗ bigSep (Finset.univ.erase (Ring.bk 8 k.val)) (blkStA d L XX XL XO k.val)) := by
      refine (SparseCore.bigSep_erase' (Finset.mem_univ (Ring.bk 8 k.val))).trans ?_
      congr 1
      rw [blkStA, Ring.bk_val hk, if_neg (by omega)]
    have hB' : bigSep Finset.univ (blkStA d L XX XL XO (k.val + 1)) = iprop(doneA d L XX XL XO (Ring.bk 8 k.val) ∗ bigSep (Finset.univ.erase (Ring.bk 8 k.val)) (blkStA d L XX XL XO k.val)) := by
      refine (SparseCore.bigSep_erase' (Finset.mem_univ (Ring.bk 8 k.val))).trans ?_
      congr 1
      · rw [blkStA, Ring.bk_val hk, if_pos (by omega)]
      · refine bigSep_congr fun t ht => ?_
        have h1 := ne_bk hk (Finset.ne_of_mem_erase ht)
        by_cases h3 : t.val < k.val
        · rw [blkStA, blkStA, if_pos (by omega), if_pos h3]
        · rw [blkStA, blkStA, if_neg (by omega), if_neg h3]
    ihave HR := (of_eq hRs) $$ HR
    ihave HI := (of_eq hIn) $$ HI
    ihave HB := (of_eq hB) $$ HB
    icases HR with ⟨-, HRs⟩
    icases HI with ⟨HI0, HI1⟩
    icases HB with ⟨HB, HBs⟩
    iapply (wp_wand_r Idealize.ShloMosaic.frame (wpE (defs₀ (F := F)) 𝒱₀ (VT d L) none) Set.univ)
    isplitl [HI0 HB HG HW]
    · iapply (trip_lastA d L XX XL XO v12 v50 v53 v64 v65 c0 k h7 O W' hr hj)
      isplitr; · iexact Hmw
      isplitl [HI0]; · iexact HI0
      isplitl [HB]; · iexact HB
      isplitl [HG]; · iexact HG
      iexact HW
    · iintro %r ⟨%hr', HR, HI0, HD, HG, HW⟩
      isplitr; · iexact Hmw
      isplitr; · ipureintro; exact hr'
      isplitl [HR HRs]
      · iapply (of_eq hRs'.symm)
        isplitl [HR]; · iexact HR
        iexact HRs
      isplitl [HI0 HI1]
      · iapply (of_eq hIn'.symm)
        isplitl [HI1]; · iexact HI1
        iexact HI0
      isplitl [HD HBs]
      · iapply (of_eq hB'.symm)
        isplitl [HD]; · iexact HD
        iexact HBs
      isplitl [HG]; · iexact HG
      iapply (owesMore_trans d L O hW'); iexact HW

theorem row_firstA : bigSep Finset.univ (rowPA d L XX XL) = iprop(rowPA d L XX XL 0 ∗ bigSep Finset.univ (rowStA d L XX XL 0)) := by
  have e : bigSep Finset.univ (rowStA d L XX XL 0) = iprop(rowStA d L XX XL 0 0 ∗ bigSep (Finset.univ.erase 0) (rowStA d L XX XL 0)) := SparseCore.bigSep_erase' (Finset.mem_univ _)
  have e2 : bigSep (Finset.univ.erase 0) (rowStA d L XX XL 0) = bigSep (Finset.univ.erase 0) (rowPA d L XX XL) :=
    bigSep_congr fun t ht => if_neg (fun e => Finset.ne_of_mem_erase ht (Fin.ext e))
  rw [e, e2]
  refine (SparseCore.bigSep_erase' (Finset.mem_univ 0)).trans ?_
  exact congrArg (fun R => iprop(rowPA d L XX XL 0 ∗ R)) (equiv_iff.mp BI.emp_sep).symm
theorem row_endA : bigSep Finset.univ (rowStA d L XX XL 8) = bigSep Finset.univ (rowPA d L XX XL) :=
  bigSep_congr fun t _ => if_neg (by have := t.isLt; omega)
theorem in_firstA : inStA d L XX XL 0 = iprop(busyA d L XX XL (Ring.sl 2 0) (Ring.bk 8 0) ∗ freeA d L (Ring.sl 2 (0 + 1))) := if_pos (by omega)
theorem in_endA : inStA d L XX XL 8 = iprop(freeA d L 0 ∗ freeA d L 1) := if_neg (by omega)
theorem blk_firstA : bigSep Finset.univ (blkStA d L XX XL XO 0) = bigSep Finset.univ (todoA d L XL XO) :=
  bigSep_congr fun t _ => if_neg (by omega)
theorem blk_endA : bigSep Finset.univ (blkStA d L XX XL XO 8) = bigSep Finset.univ (doneA d L XX XL XO) :=
  bigSep_congr fun t _ => if_pos t.isLt

end TileA

section TileB
variable (d : Dev nD) (L : grid1.Coords)
variable (XX : Buf (Elt F) (xMB.view.loc (VT d L))) (XL : Buf (Elt F) (lMB.view.loc (VT d L))) (XO : Buf (Elt F) ((oAllB).view.loc (VT d L)))

/-- Block and list `t` before trip `k`: with the copies that fetch them, or home. -/
abbrev rowStB (k : ℕ) (t : Fin 2) : sProp 𝕄 := if t.val = k then iprop(emp) else rowPB d L XX XL t
/-- The target's rows that list `t` names before trip `k`: done, or to do. -/
abbrev blkStB (k : ℕ) (t : Fin 2) : sProp 𝕄 := if t.val < k then doneB d L XX XL XO t else todoB d L XL XO t
/-- The slots before trip `k`. -/
abbrev inStB (k : ℕ) : sProp 𝕄 :=
  if k < 2 then iprop(busyB d L XX XL (Ring.sl 2 k) (Ring.bk 2 k) ∗ freeB d L (Ring.sl 2 (k + 1))) else iprop(freeB d L (Ring.sl 2 k) ∗ freeB d L (Ring.sl 2 (k + 1)))

/-- The loop's invariant. -/
def InvB (O : CellTallies nD τ sig (HIx 1)) (W : Waits sig (HIx 1)) (k : ℕ) (r : BitVec 32 × BitVec 32 × BitVec 32 × BitVec 32 × BitVec 32 × BitVec 32) : sProp 𝕄 :=
  iprop(Transfers.MayWaits (VT d L) (default : HIx 1) O ∗ ⌜r = wordsAtB k⌝ ∗ bigSep Finset.univ (rowStB d L XX XL k) ∗ inStB d L XX XL k
    ∗ bigSep Finset.univ (blkStB d L XX XL XO k) ∗ gCellB d L ∗ owesMore d L O W)

set_option maxHeartbeats 1000000 in
theorem trip_invB (v49 : BitVec 32) (k : Fin k1_t2_loop.trips) (O : CellTallies nD τ sig (HIx 1)) (W : Waits sig (HIx 1))
    (hr : ∀ j, (XL j).toNat < 9216) (hj : ∀ j j', (XL j).toNat = (XL j').toNat → j = j') (r) :
    (InvB d L XX XL XO O W k.val r : sProp 𝕄)
      ⊢ wp frame (wpE (defs₀ (F := F)) 𝒱₀ (VT d L) none) Set.univ (progB L (BitVec.ofNat 32 (tile L)) v49 k r)
        (fun r => InvB d L XX XL XO O W (k.val + 1) r) := by
  have hk : k.val < 2 := Nat.lt_of_lt_of_eq k.isLt tripsB
  have sl2 : Ring.sl 2 (k.val + 1 + 1) = Ring.sl 2 k.val := Ring.sl_add 2 k.val
  unfold InvB
  iintro ⟨#Hmw, %hr', HR, HI, HB, HG, %W', %hW', HW⟩
  subst hr'
  by_cases h7 : k.val < 1
  · have hab : Ring.bk 2 k.val ≠ Ring.bk 2 (k.val + 1) := bk_ne hk (by omega) (by omega)
    have hRs : bigSep Finset.univ (rowStB d L XX XL k.val) = iprop(iprop(emp) ∗ rowPB d L XX XL (Ring.bk 2 (k.val + 1)) ∗ bigSep ((Finset.univ.erase (Ring.bk 2 k.val)).erase (Ring.bk 2 (k.val + 1))) (rowStB d L XX XL k.val)) := by
      rw [two_pt _ hab]
      congr 1
      · exact if_pos (Ring.bk_val hk)
      · congr 1; exact if_neg (by rw [Ring.bk_val (by omega)]; omega)
    have hRs' : bigSep Finset.univ (rowStB d L XX XL (k.val + 1)) = iprop(rowPB d L XX XL (Ring.bk 2 k.val) ∗ iprop(emp) ∗ bigSep ((Finset.univ.erase (Ring.bk 2 k.val)).erase (Ring.bk 2 (k.val + 1))) (rowStB d L XX XL k.val)) := by
      rw [two_pt _ hab]
      congr 1
      · exact if_neg (by rw [Ring.bk_val hk]; omega)
      · congr 1
        · exact if_pos (Ring.bk_val (by omega))
        · refine two_pt_congr fun t h1 h2 => ?_
          rw [rowStB, rowStB, if_neg (ne_bk (by omega) h2), if_neg (ne_bk hk h1)]
    have hIn : inStB d L XX XL k.val = iprop(busyB d L XX XL (Ring.sl 2 k.val) (Ring.bk 2 k.val) ∗ freeB d L (Ring.sl 2 (k.val + 1))) := if_pos hk
    have hIn' : inStB d L XX XL (k.val + 1) = iprop(busyB d L XX XL (Ring.sl 2 (k.val + 1)) (Ring.bk 2 (k.val + 1)) ∗ freeB d L (Ring.sl 2 (k.val + 1 + 1))) := if_pos (by omega)
    rw [sl2] at hIn'
    have hB : bigSep Finset.univ (blkStB d L XX XL XO k.val) = iprop(todoB d L XL XO (Ring.bk 2 k.val) ∗ bigSep (Finset.univ.erase (Ring.bk 2 k.val)) (blkStB d L XX XL XO k.val)) := by
      refine (SparseCore.bigSep_erase' (Finset.mem_univ (Ring.bk 2 k.val))).trans ?_
      congr 1
      rw [blkStB, Ring.bk_val hk, if_neg (by omega)]
    have hB' : bigSep Finset.univ (blkStB d L XX XL XO (k.val + 1)) = iprop(doneB d L XX XL XO (Ring.bk 2 k.val) ∗ bigSep (Finset.univ.erase (Ring.bk 2 k.val)) (blkStB d L XX XL XO k.val)) := by
      refine (SparseCore.bigSep_erase' (Finset.mem_univ (Ring.bk 2 k.val))).trans ?_
      congr 1
      · rw [blkStB, Ring.bk_val hk, if_pos (by omega)]
      · refine bigSep_congr fun t ht => ?_
        have h1 := ne_bk hk (Finset.ne_of_mem_erase ht)
        by_cases h3 : t.val < k.val
        · rw [blkStB, blkStB, if_pos (by omega), if_pos h3]
        · rw [blkStB, blkStB, if_neg (by omega), if_neg h3]
    ihave HR := (of_eq hRs) $$ HR
    ihave HI := (of_eq hIn) $$ HI
    ihave HB := (of_eq hB) $$ HB
    icases HR with ⟨-, HR, HRs⟩
    icases HI with ⟨HI0, HI1⟩
    icases HB with ⟨HB, HBs⟩
    iapply (wp_wand_r Idealize.ShloMosaic.frame (wpE (defs₀ (F := F)) 𝒱₀ (VT d L) none) Set.univ)
    isplitl [HR HI0 HI1 HB HG HW]
    · iapply (trip_midB d L XX XL XO v49 k h7 O W' hr hj)
      isplitr; · iexact Hmw
      isplitl [HR]; · iexact HR
      isplitl [HI1]; · iexact HI1
      isplitl [HI0]; · iexact HI0
      isplitl [HB]; · iexact HB
      isplitl [HG]; · iexact HG
      iexact HW
    · iintro %r ⟨%hr', HR, HI0, HI1, HD, HG, HW⟩
      isplitr; · iexact Hmw
      isplitr; · ipureintro; exact hr'
      isplitl [HR HRs]
      · iapply (of_eq hRs'.symm)
        isplitl [HR]; · iexact HR
        isplitr; · iempintro
        iexact HRs
      isplitl [HI0 HI1]
      · iapply (of_eq hIn'.symm)
        isplitl [HI0]; · iexact HI0
        iexact HI1
      isplitl [HD HBs]
      · iapply (of_eq hB'.symm)
        isplitl [HD]; · iexact HD
        iexact HBs
      isplitl [HG]; · iexact HG
      iapply (owesMore_trans d L O hW'); iexact HW
  · have h7 : k.val = 1 := by omega
    have hRs : bigSep Finset.univ (rowStB d L XX XL k.val) = iprop(iprop(emp) ∗ bigSep (Finset.univ.erase (Ring.bk 2 k.val)) (rowStB d L XX XL k.val)) := by
      refine (SparseCore.bigSep_erase' (Finset.mem_univ (Ring.bk 2 k.val))).trans ?_
      congr 1
      exact if_pos (Ring.bk_val hk)
    have hRs' : bigSep Finset.univ (rowStB d L XX XL (k.val + 1)) = iprop(rowPB d L XX XL (Ring.bk 2 k.val) ∗ bigSep (Finset.univ.erase (Ring.bk 2 k.val)) (rowStB d L XX XL k.val)) := by
      refine (SparseCore.bigSep_erase' (Finset.mem_univ (Ring.bk 2 k.val))).trans ?_
      congr 1
      · exact if_neg (by rw [Ring.bk_val hk]; omega)
      · refine bigSep_congr fun t ht => ?_
        have h1 := Finset.ne_of_mem_erase ht
        have := t.isLt
        rw [rowStB, rowStB, if_neg (by omega), if_neg (ne_bk hk h1)]
    have hIn : inStB d L XX XL k.val = iprop(busyB d L XX XL (Ring.sl 2 k.val) (Ring.bk 2 k.val) ∗ freeB d L (Ring.sl 2 (k.val + 1))) := if_pos hk
    have hIn' : inStB d L XX XL (k.val + 1) = iprop(freeB d L (Ring.sl 2 (k.val + 1)) ∗ freeB d L (Ring.sl 2 (k.val + 1 + 1))) := if_neg (by omega)
    rw [sl2] at hIn'
    have hB : bigSep Finset.univ (blkStB d L XX XL XO k.val) = iprop(todoB d L XL XO (Ring.bk 2 k.val) ∗ bigSep (Finset.univ.erase (Ring.bk 2 k.val)) (blkStB d L XX XL XO k.val)) := by
      refine (SparseCore.bigSep_erase' (Finset.mem_univ (Ring.bk 2 k.val))).trans ?_
      congr 1
      rw [blkStB, Ring.bk_val hk, if_neg (by omega)]
    have hB' : bigSep Finset.univ (blkStB d L XX XL XO (k.val + 1)) = iprop(doneB d L XX XL XO (Ring.bk 2 k.val) ∗ bigSep (Finset.univ.erase (Ring.bk 2 k.val)) (blkStB d L XX XL XO k.val)) := by
      refine (SparseCore.bigSep_erase' (Finset.mem_univ (Ring.bk 2 k.val))).trans ?_
      congr 1
      · rw [blkStB, Ring.bk_val hk, if_pos (by omega)]
      · refine bigSep_congr fun t ht => ?_
        have h1 := ne_bk hk (Finset.ne_of_mem_erase ht)
        by_cases h3 : t.val < k.val
        · rw [blkStB, blkStB, if_pos (by omega), if_pos h3]
        · rw [blkStB, blkStB, if_neg (by omega), if_neg h3]
    ihave HR := (of_eq hRs) $$ HR
    ihave HI := (of_eq hIn) $$ HI
    ihave HB := (of_eq hB) $$ HB
    icases HR with ⟨-, HRs⟩
    icases HI with ⟨HI0, HI1⟩
    icases HB with ⟨HB, HBs⟩
    iapply (wp_wand_r Idealize.ShloMosaic.frame (wpE (defs₀ (F := F)) 𝒱₀ (VT d L) none) Set.univ)
    isplitl [HI0 HB HG HW]
    · iapply (trip_lastB d L XX XL XO v49 k h7 O W' hr hj)
      isplitr; · iexact Hmw
      isplitl [HI0]; · iexact HI0
      isplitl [HB]; · iexact HB
      isplitl [HG]; · iexact HG
      iexact HW
    · iintro %r ⟨%hr', HR, HI0, HD, HG, HW⟩
      isplitr; · iexact Hmw
      isplitr; · ipureintro; exact hr'
      isplitl [HR HRs]
      · iapply (of_eq hRs'.symm)
        isplitl [HR]; · iexact HR
        iexact HRs
      isplitl [HI0 HI1]
      · iapply (of_eq hIn'.symm)
        isplitl [HI1]; · iexact HI1
        iexact HI0
      isplitl [HD HBs]
      · iapply (of_eq hB'.symm)
        isplitl [HD]; · iexact HD
        iexact HBs
      isplitl [HG]; · iexact HG
      iapply (owesMore_trans d L O hW'); iexact HW

theorem row_firstB : bigSep Finset.univ (rowPB d L XX XL) = iprop(rowPB d L XX XL 0 ∗ bigSep Finset.univ (rowStB d L XX XL 0)) := by
  have e : bigSep Finset.univ (rowStB d L XX XL 0) = iprop(rowStB d L XX XL 0 0 ∗ bigSep (Finset.univ.erase 0) (rowStB d L XX XL 0)) := SparseCore.bigSep_erase' (Finset.mem_univ _)
  have e2 : bigSep (Finset.univ.erase 0) (rowStB d L XX XL 0) = bigSep (Finset.univ.erase 0) (rowPB d L XX XL) :=
    bigSep_congr fun t ht => if_neg (fun e => Finset.ne_of_mem_erase ht (Fin.ext e))
  rw [e, e2]
  refine (SparseCore.bigSep_erase' (Finset.mem_univ 0)).trans ?_
  exact congrArg (fun P => iprop(rowPB d L XX XL 0 ∗ P)) (equiv_iff.mp BI.emp_sep).symm
theorem row_endB : bigSep Finset.univ (rowStB d L XX XL 2) = bigSep Finset.univ (rowPB d L XX XL) :=
  bigSep_congr fun t _ => if_neg (by have := t.isLt; omega)
theorem in_firstB : inStB d L XX XL 0 = iprop(busyB d L XX XL (Ring.sl 2 0) (Ring.bk 2 0) ∗ freeB d L (Ring.sl 2 (0 + 1))) := if_pos (by omega)
theorem in_endB : inStB d L XX XL 2 = iprop(freeB d L 0 ∗ freeB d L 1) := if_neg (by omega)
theorem blk_firstB : bigSep Finset.univ (blkStB d L XX XL XO 0) = bigSep Finset.univ (todoB d L XL XO) :=
  bigSep_congr fun t _ => if_neg (by omega)
theorem blk_endB : bigSep Finset.univ (blkStB d L XX XL XO 2) = bigSep Finset.univ (doneB d L XX XL XO) :=
  bigSep_congr fun t _ => if_pos t.isLt

end TileB

section Run
variable (d : Dev nD) (L : grid1.Coords)
variable (XA : Buf (Elt F) (xMA.view.loc (VT d L))) (IA : Buf (Elt F) (lMA.view.loc (VT d L))) (OA : Buf (Elt F) ((oAllA).view.loc (VT d L)))
variable (XB : Buf (Elt F) (xMB.view.loc (VT d L))) (IB : Buf (Elt F) (lMB.view.loc (VT d L))) (OB : Buf (Elt F) ((oAllB).view.loc (VT d L)))

abbrev kernelProg := cc1_k (F := F) L xMA (Memref.isWhole_whole _) xMB (Memref.isWhole_whole _) lMA (Memref.isWhole_whole _) lMB (Memref.isWhole_whole _) oMA (Memref.isWhole_whole _) oMB (Memref.isWhole_whole _) xbA (Memref.isWhole_whole _) cc1_scoped1 lbA (Memref.isWhole_whole _) cc1_scoped3 cc1_scoped4 xbB (Memref.isWhole_whole _) cc1_scoped6 lbB (Memref.isWhole_whole _) cc1_scoped8 cc1_scoped9

abbrev frees : sProp 𝕄 := iprop((freeA (F := F) d L 0 ∗ freeA (F := F) d L 1 ∗ gCellA d L) ∗ freeB (F := F) d L 0 ∗ freeB (F := F) d L 1 ∗ gCellB d L)

set_option maxHeartbeats 4000000 in
theorem tile_run (O : CellTallies nD τ sig (HIx 1)) (W : Waits sig (HIx 1))
    (hrA : ∀ j, (IA j).toNat < 36864) (hjA : ∀ j j', (IA j).toNat = (IA j').toNat → j = j')
    (hrB : ∀ j, (IB j).toNat < 9216) (hjB : ∀ j j', (IB j).toNat = (IB j').toNat → j = j') :
    (iprop(Transfers.MayWaits (VT d L) (default : HIx 1) O
        ∗ (bigSep Finset.univ (rowPA d L XA IA) ∗ bigSep Finset.univ (todoA d L IA OA))
        ∗ (bigSep Finset.univ (rowPB d L XB IB) ∗ bigSep Finset.univ (todoB d L IB OB))
        ∗ frees (F := F) d L ∗ owes (VT d L) O W) : sProp 𝕄)
      ⊢ wp frame (wpE (defs₀ (F := F)) 𝒱₀ (VT d L) none) Set.univ (kernelProg L)
        (fun r => iprop((bigSep Finset.univ (rowPA d L XA IA) ∗ bigSep Finset.univ (doneA d L XA IA OA))
        ∗ (bigSep Finset.univ (rowPB d L XB IB) ∗ bigSep Finset.univ (doneB d L XB IB OB))
        ∗ frees (F := F) d L ∗ owesMore d L O W)) := by
  rw [row_firstA, row_firstB]
  iintro ⟨#Hmw, ⟨⟨⟨HAx, HAl⟩, HAs⟩, HAo⟩, ⟨⟨⟨HBx, HBl⟩, HBs⟩, HBo⟩, ⟨⟨⟨⟨⟨%fax, FAx⟩, FAxc⟩, ⟨%fal, FAl⟩, FAlc⟩, FA1, GA⟩, ⟨⟨⟨%fbx, FBx⟩, FBxc⟩, ⟨%fbl, FBl⟩, FBlc⟩, FB1, GB⟩, HW⟩
  unfold kernelProg
  simp only [cc1_k_eq_skeleton]; unfold cc1_k_skel
  simp only [k1_part12_eq_skeleton, k1_part13_eq_skeleton, k1_part14_eq_skeleton, k1_part15_eq_skeleton, k1_part16_eq_skeleton, k1_part17_eq_skeleton, k1_part18_eq_skeleton]
  sl_exec
  have hv4 : tile_run.sl.v4 L = BitVec.ofNat 32 (4 * tile L) := by
    clear * -
    clear tile_run XA XB IA IB OA OB
    revert L; decide +kernel
  rw [hv4]
  sl_for (InvA d L XA IA OA O W) $$ [HAs HAo FAxc FAlc FA1 GA HW]
  case region =>
    intro k r
    iintro H
    iapply (trip_invA d L XA IA OA _ _ _ _ _ _ k O W hrA hjA r)
    iexact H
  · unfold InvA
    isplitr; · iexact Hmw
    isplitr; · ipureintro; decide
    isplitl [HAs]; · iexact HAs
    isplitl [FAxc FAlc FA1]
    · iapply (of_eq (in_firstA d L XA IA).symm)
      isplitl [FAxc FAlc]
      · isplitl [FAxc]; · iexists fax; iexact FAxc
        iexists fal; iexact FAlc
      iexact FA1
    isplitl [HAo]; · iapply (of_eq (blk_firstA d L XA IA OA).symm); iexact HAo
    isplitl [GA]; · iexact GA
    iexists W; isplitr
    · ipureintro; exact fun p hp => .inl hp
    · iexact HW
  iintro %r HI
  unfold InvA
  icases HI with ⟨-, %hr, HAr, HAi, HAb, GA, %W', %hW', HW⟩
  subst hr
  have htA : Scf.trips k1_t1_loop.lb k1_t1_loop.ub k1_t1_loop.st = 8 := tripsA
  ihave HAr := (of_eq ((congrArg (fun n => bigSep Finset.univ (rowStA d L XA IA n)) htA).trans (row_endA d L XA IA))) $$ HAr
  ihave HAi := (of_eq ((congrArg (fun n => inStA d L XA IA n) htA).trans (in_endA d L XA IA))) $$ HAi
  ihave HAb := (of_eq ((congrArg (fun n => bigSep Finset.univ (blkStA d L XA IA OA n)) htA).trans (blk_endA d L XA IA OA))) $$ HAb
  rw [htA]
  sl_exec
  have hv9 : tile_run.sl.v9 L = BitVec.ofNat 32 (tile L) := by
    clear * -
    clear tile_run XA XB IA IB OA OB
    revert L; decide +kernel
  rw [hv9]
  sl_for (InvB d L XB IB OB O W) $$ [HBs HBo FBxc FBlc FB1 GB HW]
  case region =>
    intro k r
    iintro H
    iapply (trip_invB d L XB IB OB _ k O W hrB hjB r)
    iexact H
  · unfold InvB
    isplitr; · iexact Hmw
    isplitr; · ipureintro; decide
    isplitl [HBs]; · iexact HBs
    isplitl [FBxc FBlc FB1]
    · iapply (of_eq (in_firstB d L XB IB).symm)
      isplitl [FBxc FBlc]
      · isplitl [FBxc]; · iexists fbx; iexact FBxc
        iexists fbl; iexact FBlc
      iexact FB1
    isplitl [HBo]; · iapply (of_eq (blk_firstB d L XB IB OB).symm); iexact HBo
    isplitl [GB]; · iexact GB
    iexists W'; isplitr
    · ipureintro; exact hW'
    · iexact HW
  iintro %r HI
  unfold InvB
  icases HI with ⟨-, %hr, HBr, HBi, HBb, GB, %W2, %hW2, HW⟩
  subst hr
  have htB : Scf.trips k1_t2_loop.lb k1_t2_loop.ub k1_t2_loop.st = 2 := tripsB
  ihave HBr := (of_eq ((congrArg (fun n => bigSep Finset.univ (rowStB d L XB IB n)) htB).trans (row_endB d L XB IB))) $$ HBr
  ihave HBi := (of_eq ((congrArg (fun n => inStB d L XB IB n) htB).trans (in_endB d L XB IB))) $$ HBi
  ihave HBb := (of_eq ((congrArg (fun n => bigSep Finset.univ (blkStB d L XB IB OB n)) htB).trans (blk_endB d L XB IB OB))) $$ HBb
  rw [htB]
  sl_exec
  sl_step
  icases HAi with ⟨HA0, HA1⟩
  icases HBi with ⟨HB0, HB1⟩
  isplitl [HAr HAb]
  · isplitl [HAr]; · iapply (of_eq (row_firstA d L XA IA)); iexact HAr
    iexact HAb
  isplitl [HBr HBb]
  · isplitl [HBr]; · iapply (of_eq (row_firstB d L XB IB)); iexact HBr
    iexact HBb
  isplitl [HA0 HA1 GA HB0 HB1 GB]
  · isplitl [HA0 HA1 GA]
    · isplitl [HA0]; · iexact HA0
      isplitl [HA1]; · iexact HA1
      iexact GA
    isplitl [HB0]; · iexact HB0
    isplitl [HB1]; · iexact HB1
    iexact GB
  iexists W2; isplitr
  · ipureintro; exact hW2
  · iexact HW

end Run

end Cert.Proof.Sent

end
-- ==== Proof.Sent.Body.lean ====
/-
  The dispatch's tile, launched: its four scoped buffers cut into their two slots and joined again, and the tile's run
  from what the launch deals it to what it hands back.
-/
module

public import proofs.«01_k».proof.Proof.Sent.Tile

@[expose] public section

noncomputable section

namespace Cert.Proof.Sent

open Cert.SentIdeal Cert.SentIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A buffer in parts that a function of the index names -/

section Parts
variable {ℓ : Loc nD τ sig} {ι : Type} [Fintype ι] [DecidableEq ι] (A : ι → Finset (Idx ℓ)) (κ : Idx ℓ → ι) (h : ∀ i x, x ∈ A i ↔ κ x = i)

include h in
theorem parts_disjoint : ∀ i ∈ (Finset.univ : Finset ι), ∀ j ∈ (Finset.univ : Finset ι), i ≠ j → Disjoint (A i) (A j) :=
  fun i _ j _ hij => Finset.disjoint_left.mpr fun x hi hj => hij (((h i x).mp hi).symm.trans ((h j x).mp hj))
include h in
theorem parts_cover : (Finset.univ : Finset ι).biUnion A = Finset.univ :=
  Finset.eq_univ_of_forall fun x => Finset.mem_biUnion.mpr ⟨κ x, Finset.mem_univ _, (h _ x).mpr rfl⟩
include h in
theorem parts_split (q : PosShare TreeShare) (f : Buf (Elt F) ℓ) :
    (ℓ ↦{q} f : sProp 𝕄) = bigSep Finset.univ fun i => ℓ ↦[A i]{q} f := by
  rw [← pointsTo_biUnion Finset.univ (ℓ := ℓ) A (parts_disjoint A κ h), parts_cover A κ h]
include h in
theorem parts_join (i₀ : ι) : (bigSep Finset.univ fun i => iprop(∃ f, ℓ ↦[A i]{fullShare} f)) ⊢ (iprop(∃ f, ℓ ↦{fullShare} f) : sProp 𝕄) := by
  refine (bigSep_exists_pi Finset.univ (fun i (f : Buf (Elt F) ℓ) => (ℓ ↦[A i]{fullShare} f : sProp 𝕄))).trans ?_
  iintro ⟨%fs, H⟩
  have : Nonempty (Buf (Elt F) ℓ) := ⟨fs i₀⟩
  ihave H' := (pointsTo_biUnion_join (ℓ := ℓ) (q := fullShare) (Val := Elt F) Finset.univ A fs (fs i₀) (parts_disjoint A κ h)) $$ H
  icases H' with ⟨%g, -, Hg⟩
  rw [parts_cover A κ h]
  iexists g; iexact Hg
end Parts

section Tile
variable (d : Dev nD) (L : grid1.Coords)

/-! ## The slots of the scoped buffers -/

theorem xSlotA_set (p : Fin 2) : (xSlotA p).view.set = (Rect.unit (s := S2x128x2x128) (xSOA p) S1x128x2x128.size (xSOA_inb p)).set := by
  show (((View.whole (cc1_scoped0 : Ref sig .scVector)).slice (Rect.unit (s := S2x128x2x128) (xSOA p) S1x128x2x128.size (xSOA_inb p))).reshape S128x2x128 squeezes_S1x128x2x128_S128x2x128.numel_eq).set = _
  rw [View.set_reshape, View.set_slice]; exact Finset.map_refl
theorem xSlotA_mem (p : Fin 2) (x : S2x128x2x128.Idx) : x ∈ (Rect.unit (s := S2x128x2x128) (xSOA p) S1x128x2x128.size (xSOA_inb p)).set ↔ x 0 = p := by
  rw [Rect.mem_set_unit]
  have h1 : (x 1).val < 128 := (x 1).isLt
  have h2 : (x 2).val < 2 := (x 2).isLt
  have h3 : (x 3).val < 128 := (x 3).isLt
  constructor
  · intro h; have h0 := h 0; change p.val ≤ (x 0).val ∧ (x 0).val < p.val + 1 at h0; exact Fin.ext (by omega)
  · rintro rfl a
    fin_cases a
    · show (x 0).val ≤ (x 0).val ∧ (x 0).val < (x 0).val + 1; omega
    · show 0 ≤ (x 1).val ∧ (x 1).val < 0 + 128; omega
    · show 0 ≤ (x 2).val ∧ (x 2).val < 0 + 2; omega
    · show 0 ≤ (x 3).val ∧ (x 3).val < 0 + 128; omega
abbrev xSlotALoc : Loc nD τ sig := (VT d L).loc cc1_scoped0
theorem xSlotA_mem' (p : Fin 2) (x : Idx (xSlotALoc d L)) : x ∈ (xSlotA p).view.set ↔ (show S2x128x2x128.Idx from x) 0 = p := by
  rw [xSlotA_set]; exact xSlotA_mem p x
theorem xSlotA_split (f : Buf (Elt F) (xSlotALoc d L)) : (xSlotALoc d L ↦{fullShare} f : sProp 𝕄) ⊢ iprop(xSlotPA d L 0 f ∗ xSlotPA d L 1 f) := by
  rw [parts_split (ℓ := xSlotALoc d L) (fun p : Fin 2 => (xSlotA p).view.set) (fun x => (show S2x128x2x128.Idx from x) 0) (xSlotA_mem' d L), bigSep_fin_two]; exact .rfl
theorem xSlotA_join : iprop((∃ f, xSlotPA (F := F) d L 0 f) ∗ (∃ f, xSlotPA d L 1 f)) ⊢ (iprop(∃ f, xSlotALoc d L ↦{fullShare} f) : sProp 𝕄) := by
  refine .trans ?_ (parts_join (ℓ := xSlotALoc d L) (fun p : Fin 2 => (xSlotA p).view.set) (fun x => (show S2x128x2x128.Idx from x) 0) (xSlotA_mem' d L) 0)
  rw [bigSep_fin_two]; exact .rfl

theorem lSlotA_set (p : Fin 2) : (lSlotA p).view.set = (Rect.unit (s := S2x1x1x128) (lSOA p) S1x1x1x128.size (lSOA_inb p)).set := by
  show (((View.whole (cc1_scoped2 : Ref sig .scVector)).slice (Rect.unit (s := S2x1x1x128) (lSOA p) S1x1x1x128.size (lSOA_inb p))).reshape S1x1x128 squeezes_S1x1x1x128_S1x1x128.numel_eq).set = _
  rw [View.set_reshape, View.set_slice]; exact Finset.map_refl
theorem lSlotA_mem (p : Fin 2) (x : S2x1x1x128.Idx) : x ∈ (Rect.unit (s := S2x1x1x128) (lSOA p) S1x1x1x128.size (lSOA_inb p)).set ↔ x 0 = p := by
  rw [Rect.mem_set_unit]
  have h1 : (x 1).val < 1 := (x 1).isLt
  have h2 : (x 2).val < 1 := (x 2).isLt
  have h3 : (x 3).val < 128 := (x 3).isLt
  constructor
  · intro h; have h0 := h 0; change p.val ≤ (x 0).val ∧ (x 0).val < p.val + 1 at h0; exact Fin.ext (by omega)
  · rintro rfl a
    fin_cases a
    · show (x 0).val ≤ (x 0).val ∧ (x 0).val < (x 0).val + 1; omega
    · show 0 ≤ (x 1).val ∧ (x 1).val < 0 + 1; omega
    · show 0 ≤ (x 2).val ∧ (x 2).val < 0 + 1; omega
    · show 0 ≤ (x 3).val ∧ (x 3).val < 0 + 128; omega
abbrev lSlotALoc : Loc nD τ sig := (VT d L).loc cc1_scoped2
theorem lSlotA_mem' (p : Fin 2) (x : Idx (lSlotALoc d L)) : x ∈ (lSlotA p).view.set ↔ (show S2x1x1x128.Idx from x) 0 = p := by
  rw [lSlotA_set]; exact lSlotA_mem p x
theorem lSlotA_split (f : Buf (Elt F) (lSlotALoc d L)) : (lSlotALoc d L ↦{fullShare} f : sProp 𝕄) ⊢ iprop(lSlotPA d L 0 f ∗ lSlotPA d L 1 f) := by
  rw [parts_split (ℓ := lSlotALoc d L) (fun p : Fin 2 => (lSlotA p).view.set) (fun x => (show S2x1x1x128.Idx from x) 0) (lSlotA_mem' d L), bigSep_fin_two]; exact .rfl
theorem lSlotA_join : iprop((∃ f, lSlotPA (F := F) d L 0 f) ∗ (∃ f, lSlotPA d L 1 f)) ⊢ (iprop(∃ f, lSlotALoc d L ↦{fullShare} f) : sProp 𝕄) := by
  refine .trans ?_ (parts_join (ℓ := lSlotALoc d L) (fun p : Fin 2 => (lSlotA p).view.set) (fun x => (show S2x1x1x128.Idx from x) 0) (lSlotA_mem' d L) 0)
  rw [bigSep_fin_two]; exact .rfl

theorem xSlotB_set (p : Fin 2) : (xSlotB p).view.set = (Rect.unit (s := S2x128x128) (xSOB p) S1x128x128.size (xSOB_inb p)).set := by
  show (((View.whole (cc1_scoped5 : Ref sig .scVector)).slice (Rect.unit (s := S2x128x128) (xSOB p) S1x128x128.size (xSOB_inb p))).reshape S128x128 squeezes_S1x128x128_S128x128.numel_eq).set = _
  rw [View.set_reshape, View.set_slice]; exact Finset.map_refl
theorem xSlotB_mem (p : Fin 2) (x : S2x128x128.Idx) : x ∈ (Rect.unit (s := S2x128x128) (xSOB p) S1x128x128.size (xSOB_inb p)).set ↔ x 0 = p := by
  rw [Rect.mem_set_unit]
  have h1 : (x 1).val < 128 := (x 1).isLt
  have h2 : (x 2).val < 128 := (x 2).isLt
  constructor
  · intro h; have h0 := h 0; change p.val ≤ (x 0).val ∧ (x 0).val < p.val + 1 at h0; exact Fin.ext (by omega)
  · rintro rfl a
    fin_cases a
    · show (x 0).val ≤ (x 0).val ∧ (x 0).val < (x 0).val + 1; omega
    · show 0 ≤ (x 1).val ∧ (x 1).val < 0 + 128; omega
    · show 0 ≤ (x 2).val ∧ (x 2).val < 0 + 128; omega
abbrev xSlotBLoc : Loc nD τ sig := (VT d L).loc cc1_scoped5
theorem xSlotB_mem' (p : Fin 2) (x : Idx (xSlotBLoc d L)) : x ∈ (xSlotB p).view.set ↔ (show S2x128x128.Idx from x) 0 = p := by
  rw [xSlotB_set]; exact xSlotB_mem p x
theorem xSlotB_split (f : Buf (Elt F) (xSlotBLoc d L)) : (xSlotBLoc d L ↦{fullShare} f : sProp 𝕄) ⊢ iprop(xSlotPB d L 0 f ∗ xSlotPB d L 1 f) := by
  rw [parts_split (ℓ := xSlotBLoc d L) (fun p : Fin 2 => (xSlotB p).view.set) (fun x => (show S2x128x128.Idx from x) 0) (xSlotB_mem' d L), bigSep_fin_two]; exact .rfl
theorem xSlotB_join : iprop((∃ f, xSlotPB (F := F) d L 0 f) ∗ (∃ f, xSlotPB d L 1 f)) ⊢ (iprop(∃ f, xSlotBLoc d L ↦{fullShare} f) : sProp 𝕄) := by
  refine .trans ?_ (parts_join (ℓ := xSlotBLoc d L) (fun p : Fin 2 => (xSlotB p).view.set) (fun x => (show S2x128x128.Idx from x) 0) (xSlotB_mem' d L) 0)
  rw [bigSep_fin_two]; exact .rfl

theorem lSlotB_set (p : Fin 2) : (lSlotB p).view.set = (Rect.unit (s := S2x1x128) (lSOB p) S1x1x128.size (lSOB_inb p)).set := by
  show (((View.whole (cc1_scoped7 : Ref sig .scVector)).slice (Rect.unit (s := S2x1x128) (lSOB p) S1x1x128.size (lSOB_inb p))).reshape S1x128 squeezes_S1x1x128_S1x128.numel_eq).set = _
  rw [View.set_reshape, View.set_slice]; exact Finset.map_refl
theorem lSlotB_mem (p : Fin 2) (x : S2x1x128.Idx) : x ∈ (Rect.unit (s := S2x1x128) (lSOB p) S1x1x128.size (lSOB_inb p)).set ↔ x 0 = p := by
  rw [Rect.mem_set_unit]
  have h1 : (x 1).val < 1 := (x 1).isLt
  have h2 : (x 2).val < 128 := (x 2).isLt
  constructor
  · intro h; have h0 := h 0; change p.val ≤ (x 0).val ∧ (x 0).val < p.val + 1 at h0; exact Fin.ext (by omega)
  · rintro rfl a
    fin_cases a
    · show (x 0).val ≤ (x 0).val ∧ (x 0).val < (x 0).val + 1; omega
    · show 0 ≤ (x 1).val ∧ (x 1).val < 0 + 1; omega
    · show 0 ≤ (x 2).val ∧ (x 2).val < 0 + 128; omega
abbrev lSlotBLoc : Loc nD τ sig := (VT d L).loc cc1_scoped7
theorem lSlotB_mem' (p : Fin 2) (x : Idx (lSlotBLoc d L)) : x ∈ (lSlotB p).view.set ↔ (show S2x1x128.Idx from x) 0 = p := by
  rw [lSlotB_set]; exact lSlotB_mem p x
theorem lSlotB_split (f : Buf (Elt F) (lSlotBLoc d L)) : (lSlotBLoc d L ↦{fullShare} f : sProp 𝕄) ⊢ iprop(lSlotPB d L 0 f ∗ lSlotPB d L 1 f) := by
  rw [parts_split (ℓ := lSlotBLoc d L) (fun p : Fin 2 => (lSlotB p).view.set) (fun x => (show S2x1x128.Idx from x) 0) (lSlotB_mem' d L), bigSep_fin_two]; exact .rfl
theorem lSlotB_join : iprop((∃ f, lSlotPB (F := F) d L 0 f) ∗ (∃ f, lSlotPB d L 1 f)) ⊢ (iprop(∃ f, lSlotBLoc d L ↦{fullShare} f) : sProp 𝕄) := by
  refine .trans ?_ (parts_join (ℓ := lSlotBLoc d L) (fun p : Fin 2 => (lSlotB p).view.set) (fun x => (show S2x1x128.Idx from x) 0) (lSlotB_mem' d L) 0)
  rw [bigSep_fin_two]; exact .rfl

/-! ## The scoped cells and buffers, one by one -/

abbrev csem (k : Nat) (hk : k < 10 := by decide) : DmaSem sig := ⟨4 + k, by show 4 + k < 14; omega⟩
abbrev dcell (d : Dev nD) (c : Fin τ.nSC) (i : Fin τ.nSub) (k : Fin 10) : GSem nD τ sig := (V d c i, .dma (csem k.val k.isLt))

theorem dcell_mem (c : Fin τ.nSC) (i : Fin τ.nSub) (k : Fin 10) : dcell d c i k ∈ ownCells (V d c i) :=
  mem_ownCells.mpr ⟨rfl, (show ∀ s : DmaSem sig, (SemLoc.dma s : SemLoc sig).isScoped .scVector = true by decide) _⟩

abbrev cells : sProp 𝕄 := iprop(xCellA d L 0 ∗ xCellA d L 1 ∗ lCellA d L 0 ∗ lCellA d L 1 ∗ gCellA d L ∗ xCellB d L 0 ∗ xCellB d L 1 ∗ lCellB d L 0 ∗ lCellB d L 1 ∗ gCellB d L)

theorem ownSems0_V :
    (ownSems0 (VT d L) : sProp 𝕄)
      = iprop(cells d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 10)) = {0, 1, 2, 3, 4, 5, 6, 7, 8, 9} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

abbrev vref (b : Ref sig .scVector) : DevRef τ sig := (Proc.scVector (cV L) (jV L)).devRef b
abbrev otherRefs : Finset (DevRef τ sig) :=
  ((((ownRefs (τ := τ) (.scVector (cV L) (jV L))).erase (vref L cc1_scoped0)).erase (vref L cc1_scoped2)).erase (vref L cc1_scoped5)).erase (vref L cc1_scoped7)
theorem vref_ne {a b : Ref sig .scVector} (h : a ≠ b) : vref L a ≠ vref L b := fun e => h (Proc.devRef_injective _ e)

theorem ownBufs_V :
    (ownBufs (VT d L) : sProp 𝕄)
      = iprop((∃ f, xSlotALoc d L ↦{fullShare} f) ∗ (∃ f, lSlotALoc d L ↦{fullShare} f) ∗ (∃ f, xSlotBLoc d L ↦{fullShare} f) ∗ (∃ f, lSlotBLoc d L ↦{fullShare} f)
          ∗ bigSep (otherRefs L) fun b => iprop(∃ f, ((d, b) : Loc nD τ sig) ↦{fullShare} f)) := by
  unfold SparseCore.Cfg.ownBufs
  have o0 := SparseCore.Cfg.mem_ownRefs_of_owner (p := Proc.scVector (cV L) (jV L)) (b := vref L cc1_scoped0) rfl
  have o2 := SparseCore.Cfg.mem_ownRefs_of_owner (p := Proc.scVector (cV L) (jV L)) (b := vref L cc1_scoped2) rfl
  have o5 := SparseCore.Cfg.mem_ownRefs_of_owner (p := Proc.scVector (cV L) (jV L)) (b := vref L cc1_scoped5) rfl
  have o7 := SparseCore.Cfg.mem_ownRefs_of_owner (p := Proc.scVector (cV L) (jV L)) (b := vref L cc1_scoped7) rfl
  refine (SparseCore.bigSep_erase' o0).trans ?_
  rw [SparseCore.bigSep_erase' (Finset.mem_erase.mpr ⟨vref_ne L (by decide), o2⟩),
    SparseCore.bigSep_erase' (Finset.mem_erase.mpr ⟨vref_ne L (by decide), Finset.mem_erase.mpr ⟨vref_ne L (by decide), o5⟩⟩),
    SparseCore.bigSep_erase' (Finset.mem_erase.mpr ⟨vref_ne L (by decide), Finset.mem_erase.mpr ⟨vref_ne L (by decide), Finset.mem_erase.mpr ⟨vref_ne L (by decide), o7⟩⟩⟩)]

/-! ## The tile, from what the launch deals it -/

variable (XA : Buf (Elt F) (xMA.view.loc (VT d L))) (IA : Buf (Elt F) (lMA.view.loc (VT d L))) (OA : Buf (Elt F) ((oAllA).view.loc (VT d L)))
variable (XB : Buf (Elt F) (xMB.view.loc (VT d L))) (IB : Buf (Elt F) (lMB.view.loc (VT d L))) (OB : Buf (Elt F) ((oAllB).view.loc (VT d L)))

/-- What a tile takes: its blocks and lists, the rows of the two targets that its lists name. What it brings back: the
    same, the rows at the blocks' rows. -/
abbrev goP : sProp 𝕄 := iprop((bigSep Finset.univ (rowPA d L XA IA) ∗ bigSep Finset.univ (todoA d L IA OA)) ∗ (bigSep Finset.univ (rowPB d L XB IB) ∗ bigSep Finset.univ (todoB d L IB OB)))
abbrev tdP : sProp 𝕄 := iprop((bigSep Finset.univ (rowPA d L XA IA) ∗ bigSep Finset.univ (doneA d L XA IA OA)) ∗ (bigSep Finset.univ (rowPB d L XB IB) ∗ bigSep Finset.univ (doneB d L XB IB OB)))

theorem tile_body (hF : (K (F := F)).Facts) (O : CellTallies nD τ sig (HIx 1)) (W : Waits sig (HIx 1)) (hO : ∀ g, O g none = 0)
    (hrA : ∀ j, (IA j).toNat < 36864) (hjA : ∀ j j', (IA j).toNat = (IA j').toNat → j = j')
    (hrB : ∀ j, (IB j).toNat < 9216) (hjB : ∀ j j', (IB j).toNat = (IB j').toNat → j = j') :
    iprop(levAts (K (F := F)).L (K (F := F)).lev ∗ emp ∗ goP d L XA IA OA XB IB OB
        ∗ scopedBufs (VT d L) ∗ scopedSems0 (VT d L) ∗ owes (VT d L) O W)
      ⊢ wp frame (wpE (defs₀ (F := F)) 𝒱₀ (VT d L) none) Set.univ (kernelProg L)
          fun _ => iprop(tdP d L XA IA OA XB IB OB ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨HA, HB⟩, ⟨⟨%g0, B0⟩, ⟨%g1, B1⟩, ⟨%g2, B2⟩, ⟨%g3, B3⟩, Hbufs⟩, ⟨⟨C0, C1, C2, C3, C4, C5, C6, C7, C8, C9⟩, Hsems⟩, HO⟩
  ihave Hmw := (show levAts (K (F := F)).L (K (F := F)).lev ⊢ Transfers.MayWaits (VT d L) (default : HIx 1) O from
    (K (F := F)).mayWaits_none (thr := VT d L) hO) $$ Hlv
  ihave B0' := (xSlotA_split d L g0) $$ B0
  ihave B1' := (lSlotA_split d L g1) $$ B1
  ihave B2' := (xSlotB_split d L g2) $$ B2
  ihave B3' := (lSlotB_split d L g3) $$ B3
  icases B0' with ⟨B00, B01⟩
  icases B1' with ⟨B10, B11⟩
  icases B2' with ⟨B20, B21⟩
  icases B3' with ⟨B30, B31⟩
  iapply (wp_wand_r Idealize.ShloMosaic.frame (wpE (defs₀ (F := F)) 𝒱₀ (VT d L) none) Set.univ)
  isplitl [HA HB B00 B01 B10 B11 B20 B21 B30 B31 C0 C1 C2 C3 C4 C5 C6 C7 C8 C9 HO]
  · iapply (tile_run d L XA IA OA XB IB OB O W hrA hjA hrB hjB)
    isplitr; · iexact Hmw
    isplitl [HA]; · iexact HA
    isplitl [HB]; · iexact HB
    isplitr [HO]
    · isplitl [B00 B01 B10 B11 C0 C1 C2 C3 C4]
      · isplitl [B00 B10 C0 C2]
        · isplitl [B00 C0]
          · isplitl [B00]; · iexists _; iexact B00
            iexact C0
          isplitl [B10]; · iexists _; iexact B10
          iexact C2
        isplitl [B01 B11 C1 C3]
        · isplitl [B01 C1]
          · isplitl [B01]; · iexists _; iexact B01
            iexact C1
          isplitl [B11]; · iexists _; iexact B11
          iexact C3
        iexact C4
      isplitl [B20 B30 C5 C7]
      · isplitl [B20 C5]
        · isplitl [B20]; · iexists _; iexact B20
          iexact C5
        isplitl [B30]; · iexists _; iexact B30
        iexact C7
      isplitl [B21 B31 C6 C8]
      · isplitl [B21 C6]
        · isplitl [B21]; · iexists _; iexact B21
          iexact C6
        isplitl [B31]; · iexists _; iexact B31
        iexact C8
      iexact C9
    iexact HO
  iintro %_ ⟨HA, HB, ⟨⟨⟨⟨B00, C0⟩, B10, C2⟩, ⟨⟨B01, C1⟩, B11, C3⟩, C4⟩, ⟨⟨B20, C5⟩, B30, C7⟩, ⟨⟨B21, C6⟩, B31, C8⟩, C9⟩, ⟨%W', %hW, HO⟩⟩
  isplitl [HA HB]
  · isplitl [HA]; · iexact HA
    iexact HB
  isplitl [B00 B01 B10 B11 B20 B21 B30 B31 Hbufs]
  · isplitl [B00 B01]
    · iapply (xSlotA_join d L)
      isplitl [B00]; · iexact B00
      iexact B01
    isplitl [B10 B11]
    · iapply (lSlotA_join d L)
      isplitl [B10]; · iexact B10
      iexact B11
    isplitl [B20 B21]
    · iapply (xSlotB_join d L)
      isplitl [B20]; · iexact B20
      iexact B21
    isplitl [B30 B31]
    · iapply (lSlotB_join d L)
      isplitl [B30]; · iexact B30
      iexact B31
    iexact Hbufs
  isplitl [C0 C1 C2 C3 C4 C5 C6 C7 C8 C9 Hsems]
  · isplitr [Hsems]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      iexact C9
    iexact Hsems
  iexists W'; isplitr
  · ipureintro; intro p hp
    rcases hW p hp with h | h
    · exact .inl h
    · exact .inr (.inl h)
  · iexact HO

end Tile

end Cert.Proof.Sent

end
-- ==== Proof.Sent.Arrays.lean ====
/-
  Every tile's blocks, lists and named rows of the targets out of the whole arrays and back; the rows that no list names
  stay with the host.
-/
module

public import proofs.«01_k».proof.Proof.Sent.Body

@[expose] public section

noncomputable section

namespace Cert.Proof.Sent

open Cert.SentIdeal Cert.SentIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays in the tiles' parts -/

def coordsV (c : Fin (grid1.bound 0)) (s : Fin (grid1.bound 1)) : grid1.Coords :=
  fun | 0 => c | 1 => s | ⟨_ + 2, h⟩ => absurd h (Nat.not_lt.2 (Nat.le_add_left _ _))

/-- A sum of the parts that an optional name gives is the unnamed part and the named ones. -/
theorem bigSep_option {ι : Type} [Fintype ι] [DecidableEq ι] (Φ : Option ι → sProp 𝕄) :
    bigSep Finset.univ Φ = iprop(Φ none ∗ bigSep Finset.univ fun i => Φ (some i)) := by
  rw [SparseCore.bigSep_erase' (Finset.mem_univ none),
    show (Finset.univ : Finset (Option ι)).erase none = Finset.univ.image some from by
      ext o; cases o <;> simp,
    SparseCore.bigSep_image_of_injOn (fun a _ b _ h => Option.some.inj h)]

/-! ## Loop A -/

/-- A trip of a tile: the SparseCore, the subcore, the trip. -/
abbrev TrA : Type := Fin 2 × Fin 16 × Fin 8
abbrev trLA (p : TrA) : grid1.Coords := coordsV p.1 p.2.1

/-- The trip that moves block `b`. -/
def trOfA (b : ℕ) (hb : b < 256) : TrA := (⟨(b % 128) / 4 / 16, by omega⟩, ⟨(b % 128) / 4 % 16, by omega⟩, ⟨b / 128 * 4 + b % 4, by omega⟩)

theorem trOf_eqA (b : ℕ) (hb : b < 256) (p : TrA) : b = blk (trLA p) p.2.2.val ↔ trOfA b hb = p := by
  obtain ⟨c, s, t⟩ := p
  have hc := c.isLt; have hs := s.isLt; have ht := t.isLt
  show b = t.val / 4 * 128 + (4 * (c.val * 16 + s.val) + t.val % 4) ↔ _
  unfold trOfA
  rw [Prod.mk.injEq, Prod.mk.injEq, Fin.ext_iff, Fin.ext_iff, Fin.ext_iff]
  show b = t.val / 4 * 128 + (4 * (c.val * 16 + s.val) + t.val % 4) ↔ b % 128 / 4 / 16 = c.val ∧ b % 128 / 4 % 16 = s.val ∧ b / 128 * 4 + b % 4 = t.val
  omega

theorem xBlkA_set (L : grid1.Coords) (t : Fin 8) : (xBlkA L t).view.set = (Rect.unit (s := S32768x2x128) (xBOA L t) S128x2x128.size (xBOA_inb L t)).set := by
  show ((View.whole (main_v1_scv : Ref sig .scVector)).slice (Rect.unit (s := S32768x2x128) (xBOA L t) S128x2x128.size (xBOA_inb L t))).set = _
  rw [View.set_slice]; exact Finset.map_refl
theorem lRowA_set (L : grid1.Coords) (t : Fin 8) : (lRowA L t).view.set = (Rect.unit (s := S4x64x128) (lBOA L t) S1x1x128.size (lBOA_inb L t)).set := by
  show ((View.whole (main_v0_1_scv : Ref sig .scVector)).slice (Rect.unit (s := S4x64x128) (lBOA L t) S1x1x128.size (lBOA_inb L t))).set = _
  rw [View.set_slice]; exact Finset.map_refl

theorem xNoA_lt (x : S32768x2x128.Idx) : (x 0).val / 128 < 256 := by
  have h0 : (x 0).val < 32768 := (x 0).isLt
  omega
theorem lNoA_lt (x : S4x64x128.Idx) : (x 0).val * 64 + (x 1).val < 256 := by
  have h0 : (x 0).val < 4 := (x 0).isLt
  have h1 : (x 1).val < 64 := (x 1).isLt
  omega

theorem xBlkA_mem (L : grid1.Coords) (t : Fin 8) (x : S32768x2x128.Idx) :
    x ∈ (Rect.unit (s := S32768x2x128) (xBOA L t) S128x2x128.size (xBOA_inb L t)).set ↔ (x 0).val / 128 = blk L t.val := by
  rw [Rect.mem_set_unit]
  have h0 : (x 0).val < 32768 := (x 0).isLt
  have h1 : (x 1).val < 2 := (x 1).isLt
  have h2 : (x 2).val < 128 := (x 2).isLt
  constructor
  · intro h
    have a0 := h 0
    change 128 * blk L t.val ≤ (x 0).val ∧ (x 0).val < 128 * blk L t.val + 128 at a0
    omega
  · intro h a; fin_cases a
    · show 128 * blk L t.val ≤ (x 0).val ∧ (x 0).val < 128 * blk L t.val + 128; omega
    · show 0 ≤ (x 1).val ∧ (x 1).val < 0 + 2; omega
    · show 0 ≤ (x 2).val ∧ (x 2).val < 0 + 128; omega
theorem lRowA_mem (L : grid1.Coords) (t : Fin 8) (x : S4x64x128.Idx) :
    x ∈ (Rect.unit (s := S4x64x128) (lBOA L t) S1x1x128.size (lBOA_inb L t)).set ↔ (x 0).val * 64 + (x 1).val = blk L t.val := by
  rw [Rect.mem_set_unit]
  have h0 : (x 0).val < 4 := (x 0).isLt
  have h1 : (x 1).val < 64 := (x 1).isLt
  have h2 : (x 2).val < 128 := (x 2).isLt
  constructor
  · intro h
    have a0 := h 0; have a1 := h 1
    change blk L t.val / 64 ≤ (x 0).val ∧ (x 0).val < blk L t.val / 64 + 1 at a0
    change blk L t.val % 64 ≤ (x 1).val ∧ (x 1).val < blk L t.val % 64 + 1 at a1
    omega
  · intro h a; fin_cases a
    · show blk L t.val / 64 ≤ (x 0).val ∧ (x 0).val < blk L t.val / 64 + 1; omega
    · show blk L t.val % 64 ≤ (x 1).val ∧ (x 1).val < blk L t.val % 64 + 1; omega
    · show 0 ≤ (x 2).val ∧ (x 2).val < 0 + 128; omega

/-- An element is on the rows that block `b`'s list names exactly when its row's entry stands in block `b`. -/
theorem rows_memA (I : S4x64x128.Idx → BitVec 32) (b : ℕ) (z : S36864x2x128.Idx) : z ∈ rowsA I b ↔ ownA I (z 0).val = some b := by
  constructor
  · intro hz
    rw [SparseCore.mem_rowsWhere] at hz
    obtain ⟨n, hn, hz'⟩ := hz
    obtain ⟨y, -, hy⟩ := Finset.mem_map.mp hz'
    have hz0 : (S36864x2x128.rowRect gathers_S36864x2x128_S128x2x128.axis n).emb y = z := (oAll_embA _).symm.trans hy
    have e0 := (row_embA n y).1
    rw [hz0] at e0
    rw [e0]; exact hn
  · intro h
    rw [SparseCore.mem_rowsWhere]
    refine ⟨⟨(z 0).val, (z 0).isLt⟩, h, ?_⟩
    rw [View.set_slice]
    refine Finset.mem_map.mpr ⟨z, ?_, oAll_embA z⟩
    refine Rect.mem_set_unit.mpr ?_
    intro a; fin_cases a
    · show (z 0).val ≤ (z 0).val ∧ (z 0).val < (z 0).val + 1; omega
    · show 0 ≤ (z 1).val ∧ (z 1).val < 0 + 2; have : (z 1).val < 2 := (z 1).isLt; omega
    · show 0 ≤ (z 2).val ∧ (z 2).val < 0 + 128; have : (z 2).val < 128 := (z 2).isLt; omega

theorem ownA_lt {I : S4x64x128.Idx → BitVec 32} {n b : ℕ} (h : ownA I n = some b) : b < 256 := by
  obtain ⟨x, -, e⟩ := Option.map_eq_some_iff.mp h
  rw [← e]; exact lNoA_lt x

/-- The trip that an element's row belongs to, if a list names it. -/
def rowTrA (I : S4x64x128.Idx → BitVec 32) (z : S36864x2x128.Idx) : Option TrA := (ownA I (z 0).val).map fun b => trOfA (b % 256) (Nat.mod_lt _ (by decide))

abbrev unnamedA (I : S4x64x128.Idx → BitVec 32) : Finset S36864x2x128.Idx := Finset.univ.filter fun z => ownA I (z 0).val = none
abbrev partsA (I : S4x64x128.Idx → BitVec 32) : Option TrA → Finset S36864x2x128.Idx
  | none => unnamedA I
  | some p => rowsA I (blk (trLA p) p.2.2.val)

theorem parts_memA (I : S4x64x128.Idx → BitVec 32) (o : Option TrA) (z : S36864x2x128.Idx) : z ∈ partsA I o ↔ rowTrA I z = o := by
  unfold rowTrA
  cases o with
  | none =>
    show z ∈ unnamedA I ↔ _
    rw [Finset.mem_filter, Option.map_eq_none_iff]; simp
  | some p =>
    show z ∈ rowsA I _ ↔ _
    rw [rows_memA]
    cases h : ownA I (z 0).val with
    | none => simp
    | some b =>
      have hb := ownA_lt h
      rw [Option.map_some, Option.some.injEq, Option.some.injEq]
      refine (trOf_eqA b hb p).trans ?_
      have e : b % 256 = b := Nat.mod_eq_of_lt hb
      constructor
      · intro h; rw [← h]; congr 1
      · intro h; rw [← h]; congr 1; exact e.symm

section ArraysA
variable (d : Dev nD)
abbrev xLocA (d : Dev nD) : Loc nD τ sig := mLoc d main_v1
abbrev lLocA (d : Dev nD) : Loc nD τ sig := mLoc d main_v0_1
abbrev oLocA (d : Dev nD) : Loc nD τ sig := mLoc d main_v2_0

theorem xBlk_partA (p : TrA) (x : Idx (xLocA d)) : x ∈ (xBlkA (trLA p) p.2.2).view.set ↔ trOfA _ (xNoA_lt x) = p := by
  rw [xBlkA_set]; exact (xBlkA_mem (trLA p) p.2.2 x).trans (trOf_eqA _ (xNoA_lt x) p)
theorem lRow_partA (p : TrA) (x : Idx (lLocA d)) : x ∈ (lRowA (trLA p) p.2.2).view.set ↔ trOfA _ (lNoA_lt x) = p := by
  rw [lRowA_set]; exact (lRowA_mem (trLA p) p.2.2 x).trans (trOf_eqA _ (lNoA_lt x) p)

theorem x_splitA (X : Buf (Elt F) (xLocA d)) :
    (xLocA d ↦{fullShare} X : sProp 𝕄)
      = bigSep Finset.univ fun c : Fin 2 => bigSep Finset.univ fun s : Fin 16 => bigSep Finset.univ fun t : Fin 8 => xPA d (coordsV c s) X t := by
  rw [parts_split (ℓ := xLocA d) (fun p : TrA => (xBlkA (trLA p) p.2.2).view.set) (fun x => trOfA _ (xNoA_lt x)) (xBlk_partA d), BI.bigSep_univ_prod]
  exact bigSep_congr fun c _ => BI.bigSep_univ_prod _
theorem l_splitA (X : Buf (Elt F) (lLocA d)) :
    (lLocA d ↦{fullShare} X : sProp 𝕄)
      = bigSep Finset.univ fun c : Fin 2 => bigSep Finset.univ fun s : Fin 16 => bigSep Finset.univ fun t : Fin 8 => lPA d (coordsV c s) X t := by
  rw [parts_split (ℓ := lLocA d) (fun p : TrA => (lRowA (trLA p) p.2.2).view.set) (fun x => trOfA _ (lNoA_lt x)) (lRow_partA d), BI.bigSep_univ_prod]
  exact bigSep_congr fun c _ => BI.bigSep_univ_prod _
/-- The blocks and lists whole are the tiles' blocks and lists. -/
theorem rows_splitA (X : Buf (Elt F) (xLocA d)) (I : Buf (Elt F) (lLocA d)) :
    (iprop((xLocA d ↦{fullShare} X) ∗ lLocA d ↦{fullShare} I) : sProp 𝕄)
      = bigSep Finset.univ fun c : Fin 2 => bigSep Finset.univ fun s : Fin 16 => bigSep Finset.univ (rowPA d (coordsV c s) X I) := by
  rw [x_splitA, l_splitA, ← bigSep_sep']
  refine bigSep_congr fun c _ => ?_
  rw [← bigSep_sep']
  refine bigSep_congr fun s _ => ?_
  rw [← bigSep_sep']

/-- The rows of the target that no list names. -/
abbrev keepA (I : Buf (Elt F) (lLocA d)) (O : Buf (Elt F) (oLocA d)) : sProp 𝕄 := oLocA d ↦[unnamedA I]{fullShare} O

theorem o_splitA (I : Buf (Elt F) (lLocA d)) (O : Buf (Elt F) (oLocA d)) :
    (oLocA d ↦{fullShare} O : sProp 𝕄)
      = iprop(keepA d I O ∗ bigSep Finset.univ fun c : Fin 2 => bigSep Finset.univ fun s : Fin 16 => bigSep Finset.univ (todoA d (coordsV c s) I O)) := by
  rw [parts_split (ℓ := oLocA d) (partsA I) (rowTrA I) (parts_memA I), bigSep_option, BI.bigSep_univ_prod]
  refine congrArg (fun Q : sProp 𝕄 => iprop(keepA d I O ∗ Q)) ?_
  exact bigSep_congr fun c _ => BI.bigSep_univ_prod _

/-- The targets' rows back: those named at the blocks' rows, the others as they were. -/
theorem o_joinA (X : Buf (Elt F) (xLocA d)) (I : Buf (Elt F) (lLocA d)) (O : Buf (Elt F) (oLocA d)) :
    (iprop(keepA d I O ∗ bigSep Finset.univ fun c : Fin 2 => bigSep Finset.univ fun s : Fin 16 => bigSep Finset.univ (doneA d (coordsV c s) X I O)) : sProp 𝕄)
      = oLocA d ↦{fullShare} (show Buf (Elt F) (oLocA d) from GA (F := F) X I O) := by
  rw [o_splitA d I (show Buf (Elt F) (oLocA d) from GA (F := F) X I O)]
  have e : (keepA d I O : sProp 𝕄) = keepA d I (show Buf (Elt F) (oLocA d) from GA (F := F) X I O) := by
    refine pointsTo_congr fun z hz => ?_
    have hz' := (Finset.mem_filter.mp hz).2
    have hn : entry I ((show S36864x2x128.Idx from z) 0).val = none := Option.map_eq_none_iff.mp hz'
    show O z = GA (F := F) X I O z
    unfold GA; rw [hn]
  rw [e]

end ArraysA

/-! ## Loop B -/

/-- A trip of a tile: the SparseCore, the subcore, the trip. -/
abbrev TrB : Type := Fin 2 × Fin 16 × Fin 2
abbrev trLB (p : TrB) : grid1.Coords := coordsV p.1 p.2.1

/-- The trip that moves block `b`. -/
def trOfB (b : ℕ) (hb : b < 64) : TrB := (⟨b % 32 / 16, by omega⟩, ⟨b % 32 % 16, by omega⟩, ⟨b / 32, by omega⟩)

theorem trOf_eqB (b : ℕ) (hb : b < 64) (p : TrB) : b = bkk (trLB p) p.2.2.val ↔ trOfB b hb = p := by
  obtain ⟨c, s, t⟩ := p
  have hc := c.isLt; have hs := s.isLt; have ht := t.isLt
  show b = t.val * 32 + (c.val * 16 + s.val) ↔ _
  unfold trOfB
  rw [Prod.mk.injEq, Prod.mk.injEq, Fin.ext_iff, Fin.ext_iff, Fin.ext_iff]
  show b = t.val * 32 + (c.val * 16 + s.val) ↔ b % 32 / 16 = c.val ∧ b % 32 % 16 = s.val ∧ b / 32 = t.val
  omega

theorem xBlkB_set (L : grid1.Coords) (t : Fin 2) : (xBlkB L t).view.set = (Rect.unit (s := S8192x128) (xBOB L t) S128x128.size (xBOB_inb L t)).set := by
  show ((View.whole (main_arg2_scv : Ref sig .scVector)).slice (Rect.unit (s := S8192x128) (xBOB L t) S128x128.size (xBOB_inb L t))).set = _
  rw [View.set_slice]; exact Finset.map_refl
theorem lRowB_set (L : grid1.Coords) (t : Fin 2) : (lRowB L t).view.set = (Rect.unit (s := S64x128) (lBOB L t) S1x128.size (lBOB_inb L t)).set := by
  show ((View.whole (main_v0_0_scv : Ref sig .scVector)).slice (Rect.unit (s := S64x128) (lBOB L t) S1x128.size (lBOB_inb L t))).set = _
  rw [View.set_slice]; exact Finset.map_refl

theorem xNoB_lt (x : S8192x128.Idx) : (x 0).val / 128 < 64 := by
  have h0 : (x 0).val < 8192 := (x 0).isLt
  omega
theorem lNoB_lt (x : S64x128.Idx) : (x 0).val < 64 := by
  have h0 : (x 0).val < 64 := (x 0).isLt
  have h1 : (x 1).val < 128 := (x 1).isLt
  omega

theorem xBlkB_mem (L : grid1.Coords) (t : Fin 2) (x : S8192x128.Idx) :
    x ∈ (Rect.unit (s := S8192x128) (xBOB L t) S128x128.size (xBOB_inb L t)).set ↔ (x 0).val / 128 = bkk L t.val := by
  rw [Rect.mem_set_unit]
  have h0 : (x 0).val < 8192 := (x 0).isLt
  have h1 : (x 1).val < 128 := (x 1).isLt
  constructor
  · intro h
    have a0 := h 0
    change 128 * bkk L t.val ≤ (x 0).val ∧ (x 0).val < 128 * bkk L t.val + 128 at a0
    omega
  · intro h a; fin_cases a
    · show 128 * bkk L t.val ≤ (x 0).val ∧ (x 0).val < 128 * bkk L t.val + 128; omega
    · show 0 ≤ (x 1).val ∧ (x 1).val < 0 + 128; omega
theorem lRowB_mem (L : grid1.Coords) (t : Fin 2) (x : S64x128.Idx) :
    x ∈ (Rect.unit (s := S64x128) (lBOB L t) S1x128.size (lBOB_inb L t)).set ↔ (x 0).val = bkk L t.val := by
  rw [Rect.mem_set_unit]
  have h0 : (x 0).val < 64 := (x 0).isLt
  have h1 : (x 1).val < 128 := (x 1).isLt
  constructor
  · intro h
    have a0 := h 0
    change bkk L t.val ≤ (x 0).val ∧ (x 0).val < bkk L t.val + 1 at a0
    omega
  · intro h a; fin_cases a
    · show bkk L t.val ≤ (x 0).val ∧ (x 0).val < bkk L t.val + 1; omega
    · show 0 ≤ (x 1).val ∧ (x 1).val < 0 + 128; omega

/-- An element is on the rows that block `b`'s list names exactly when its row's entry stands in block `b`. -/
theorem rows_memB (I : S64x128.Idx → BitVec 32) (b : ℕ) (z : S9216x128.Idx) : z ∈ rowsB I b ↔ ownB I (z 0).val = some b := by
  constructor
  · intro hz
    rw [SparseCore.mem_rowsWhere] at hz
    obtain ⟨n, hn, hz'⟩ := hz
    obtain ⟨y, -, hy⟩ := Finset.mem_map.mp hz'
    have hz0 : (S9216x128.rowRect gathers_S9216x128_S128x128.axis n).emb y = z := (oAll_embB _).symm.trans hy
    have e0 := (row_embB n y).1
    rw [hz0] at e0
    rw [e0]; exact hn
  · intro h
    rw [SparseCore.mem_rowsWhere]
    refine ⟨⟨(z 0).val, (z 0).isLt⟩, h, ?_⟩
    rw [View.set_slice]
    refine Finset.mem_map.mpr ⟨z, ?_, oAll_embB z⟩
    refine Rect.mem_set_unit.mpr ?_
    intro a; fin_cases a
    · show (z 0).val ≤ (z 0).val ∧ (z 0).val < (z 0).val + 1; omega
    · show 0 ≤ (z 1).val ∧ (z 1).val < 0 + 128; have : (z 1).val < 128 := (z 1).isLt; omega

theorem ownB_lt {I : S64x128.Idx → BitVec 32} {n b : ℕ} (h : ownB I n = some b) : b < 64 := by
  obtain ⟨x, -, e⟩ := Option.map_eq_some_iff.mp h
  rw [← e]; exact lNoB_lt x

/-- The trip that an element's row belongs to, if a list names it. -/
def rowTrB (I : S64x128.Idx → BitVec 32) (z : S9216x128.Idx) : Option TrB := (ownB I (z 0).val).map fun b => trOfB (b % 64) (Nat.mod_lt _ (by decide))

abbrev unnamedB (I : S64x128.Idx → BitVec 32) : Finset S9216x128.Idx := Finset.univ.filter fun z => ownB I (z 0).val = none
abbrev partsB (I : S64x128.Idx → BitVec 32) : Option TrB → Finset S9216x128.Idx
  | none => unnamedB I
  | some p => rowsB I (bkk (trLB p) p.2.2.val)

theorem parts_memB (I : S64x128.Idx → BitVec 32) (o : Option TrB) (z : S9216x128.Idx) : z ∈ partsB I o ↔ rowTrB I z = o := by
  unfold rowTrB
  cases o with
  | none =>
    show z ∈ unnamedB I ↔ _
    rw [Finset.mem_filter, Option.map_eq_none_iff]; simp
  | some p =>
    show z ∈ rowsB I _ ↔ _
    rw [rows_memB]
    cases h : ownB I (z 0).val with
    | none => simp
    | some b =>
      have hb := ownB_lt h
      rw [Option.map_some, Option.some.injEq, Option.some.injEq]
      refine (trOf_eqB b hb p).trans ?_
      have e : b % 64 = b := Nat.mod_eq_of_lt hb
      constructor
      · intro h; rw [← h]; congr 1
      · intro h; rw [← h]; congr 1; exact e.symm

section ArraysB
variable (d : Dev nD)
abbrev xLocB (d : Dev nD) : Loc nD τ sig := mLoc d main_arg2
abbrev lLocB (d : Dev nD) : Loc nD τ sig := mLoc d main_v0_0
abbrev oLocB (d : Dev nD) : Loc nD τ sig := mLoc d main_v2_1

theorem xBlk_partB (p : TrB) (x : Idx (xLocB d)) : x ∈ (xBlkB (trLB p) p.2.2).view.set ↔ trOfB _ (xNoB_lt x) = p := by
  rw [xBlkB_set]; exact (xBlkB_mem (trLB p) p.2.2 x).trans (trOf_eqB _ (xNoB_lt x) p)
theorem lRow_partB (p : TrB) (x : Idx (lLocB d)) : x ∈ (lRowB (trLB p) p.2.2).view.set ↔ trOfB _ (lNoB_lt x) = p := by
  rw [lRowB_set]; exact (lRowB_mem (trLB p) p.2.2 x).trans (trOf_eqB _ (lNoB_lt x) p)

theorem x_splitB (X : Buf (Elt F) (xLocB d)) :
    (xLocB d ↦{fullShare} X : sProp 𝕄)
      = bigSep Finset.univ fun c : Fin 2 => bigSep Finset.univ fun s : Fin 16 => bigSep Finset.univ fun t : Fin 2 => xPB d (coordsV c s) X t := by
  rw [parts_split (ℓ := xLocB d) (fun p : TrB => (xBlkB (trLB p) p.2.2).view.set) (fun x => trOfB _ (xNoB_lt x)) (xBlk_partB d), BI.bigSep_univ_prod]
  exact bigSep_congr fun c _ => BI.bigSep_univ_prod _
theorem l_splitB (X : Buf (Elt F) (lLocB d)) :
    (lLocB d ↦{fullShare} X : sProp 𝕄)
      = bigSep Finset.univ fun c : Fin 2 => bigSep Finset.univ fun s : Fin 16 => bigSep Finset.univ fun t : Fin 2 => lPB d (coordsV c s) X t := by
  rw [parts_split (ℓ := lLocB d) (fun p : TrB => (lRowB (trLB p) p.2.2).view.set) (fun x => trOfB _ (lNoB_lt x)) (lRow_partB d), BI.bigSep_univ_prod]
  exact bigSep_congr fun c _ => BI.bigSep_univ_prod _
/-- The blocks and lists whole are the tiles' blocks and lists. -/
theorem rows_splitB (X : Buf (Elt F) (xLocB d)) (I : Buf (Elt F) (lLocB d)) :
    (iprop((xLocB d ↦{fullShare} X) ∗ lLocB d ↦{fullShare} I) : sProp 𝕄)
      = bigSep Finset.univ fun c : Fin 2 => bigSep Finset.univ fun s : Fin 16 => bigSep Finset.univ (rowPB d (coordsV c s) X I) := by
  rw [x_splitB, l_splitB, ← bigSep_sep']
  refine bigSep_congr fun c _ => ?_
  rw [← bigSep_sep']
  refine bigSep_congr fun s _ => ?_
  rw [← bigSep_sep']

/-- The rows of the target that no list names. -/
abbrev keepB (I : Buf (Elt F) (lLocB d)) (O : Buf (Elt F) (oLocB d)) : sProp 𝕄 := oLocB d ↦[unnamedB I]{fullShare} O

theorem o_splitB (I : Buf (Elt F) (lLocB d)) (O : Buf (Elt F) (oLocB d)) :
    (oLocB d ↦{fullShare} O : sProp 𝕄)
      = iprop(keepB d I O ∗ bigSep Finset.univ fun c : Fin 2 => bigSep Finset.univ fun s : Fin 16 => bigSep Finset.univ (todoB d (coordsV c s) I O)) := by
  rw [parts_split (ℓ := oLocB d) (partsB I) (rowTrB I) (parts_memB I), bigSep_option, BI.bigSep_univ_prod]
  refine congrArg (fun Q : sProp 𝕄 => iprop(keepB d I O ∗ Q)) ?_
  exact bigSep_congr fun c _ => BI.bigSep_univ_prod _

/-- The targets' rows back: those named at the blocks' rows, the others as they were. -/
theorem o_joinB (X : Buf (Elt F) (xLocB d)) (I : Buf (Elt F) (lLocB d)) (O : Buf (Elt F) (oLocB d)) :
    (iprop(keepB d I O ∗ bigSep Finset.univ fun c : Fin 2 => bigSep Finset.univ fun s : Fin 16 => bigSep Finset.univ (doneB d (coordsV c s) X I O)) : sProp 𝕄)
      = oLocB d ↦{fullShare} (show Buf (Elt F) (oLocB d) from GB (F := F) X I O) := by
  rw [o_splitB d I (show Buf (Elt F) (oLocB d) from GB (F := F) X I O)]
  have e : (keepB d I O : sProp 𝕄) = keepB d I (show Buf (Elt F) (oLocB d) from GB (F := F) X I O) := by
    refine pointsTo_congr fun z hz => ?_
    have hz' := (Finset.mem_filter.mp hz).2
    have hn : entry I ((show S9216x128.Idx from z) 0).val = none := Option.map_eq_none_iff.mp hz'
    show O z = GB (F := F) X I O z
    unfold GB; rw [hn]
  rw [e]

end ArraysB

end Cert.Proof.Sent

end
-- ==== Proof.Sent.Region.lean ====
/-
  The slot assignment's call in the dispatch's program: its body's triple, its windows' contents, and the call as one
  step of the host's program, entered with every array of the host at `V` and left with the three output arrays at what
  the write-backs make of them.
-/
module

public import proofs.«01_k».proof.Proof.Sent.Names
public import proofs.«01_k».proof.Proof.Gen.SentIdeal.Launch
public import proofs.«01_k».proof.Proof.Gen.RoutedIdeal.Frame
public import Idealize.ShloMosaic.Lib.Pipeline.RegionArraysT
public import Idealize.ShloMosaic.Lib.Pipeline.RegionArraysS
public import Idealize.ShloMosaic.Lib.SparseCore.Threads

@[expose] public section

set_option maxRecDepth 16384

noncomputable section

namespace Cert.Proof.Sent

open Cert.SentIdeal Cert.SentIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation BodyObligationLoose RegionSeg cellOf arrRef arrRefs tblRefs ucRefs prefHeld afterRegion)

variable {F : FTy → Type} [FloatOps F]

local notation "𝕄" => MT nD τ sig (HIx 1) (Elt F) ℕ UU ℕ

/-! ## The body -/

/-- What the body leaves in its three output buffers: the slots, the quarters' slots, the tiles' experts. -/
abbrev slots1 (x0 : Vec F S64x128 .i32) : Vec F S64x128 .i32 := Cert.RoutedIdeal.Gen.out0_1 x0
abbrev slots2 (x0 : Vec F S64x128 .i32) : Vec F S4x64x128 .i32 := Cert.RoutedIdeal.Gen.out0_2 x0
abbrev slots3 (x0 : Vec F S64x128 .i32) : Vec F S8x128 .i32 := Cert.RoutedIdeal.Gen.out0_3 x0

set_option maxHeartbeats 1000000 in
theorem route_triple (c : Dev nD) (E : Set ℕ) (arg0 : Memref sig .tc .vmem S64x128 .i32) (harg0 : arg0.IsWhole) (arg1 : Memref sig .tc .vmem S64x128 .i32) (harg1 : arg1.IsWhole) (arg2 : Memref sig .tc .vmem S4x64x128 .i32) (harg2 : arg2.IsWhole) (arg3 : Memref sig .tc .vmem S8x128 .i32) (harg3 : arg3.IsWhole)
    (x0 : Vec F S64x128 .i32) (K : PUnit → sProp 𝕄) :
    iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare (slots1 x0) ∗ owns (c : Thread nD τ) arg2 fullShare (slots2 x0) ∗ owns (c : Thread nD τ) arg3 fullShare (slots3 x0)) -∗ K ⟨⟩))
      ⊢ wp frame (wpE (defs₀ (F := F)) Variants.none c none) E (cc0__route_body arg0 harg0 arg1 harg1 arg2 harg2 arg3 harg3) K := by
  simp only [cc0__route_body_eq_skeleton]; unfold cc0__route_body_skel
  simp only [k0_part1_eq_skeleton, k0_part2_eq_skeleton, k0_part3_eq_skeleton]
  unfold owns
  iintro ⟨⟨%f0, %hf0, H0⟩, ⟨%d1, %f1, -, H1⟩, ⟨%d2, %f2, -, H2⟩, ⟨%d3, %f3, -, H3⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (Cert.RoutedIdeal.Gen.cover0_1 _)).trans ?_
    rfl
  isplitl [H2]
  · iexists _; isplitr
    swap; · iexact H2
    ipureintro
    refine (View.read_writes_eq_canon _ _ _ (Cert.RoutedIdeal.Gen.cover0_2 _ _ _ _)).trans ?_
    rfl
  iexists _; isplitr
  swap; · iexact H3
  ipureintro
  refine (View.read_writes_eq_canon _ _ _ (Cert.RoutedIdeal.Gen.cover0_3 _)).trans ?_
  rfl

variable (V : Dev nD → Valuation τ sig (Elt F))

/-- Window `w`'s block at point `t`, read off the array the call finds. -/
def blkOf (c : Dev nD) (w : Fin cfg0.W) (t : Fin cfg0.N) : ((cfg0.win w).xblock (cfg0.grid.coords t)).Idx → Elt F (cfg0.win w).elt :=
  ((cfg0.win w).blk t).view.read (Elt F) (V c (Proc.devRef .tc (arrRef spec0 w)))

/-- The pairs the host's waits may have recorded before the call. -/
def recd (c : Dev nD) : Set (SemLoc sig × HIx 1) := {p | (K (F := F)).lev ((SparseCore.T c : Thread nD τ), p.1) p.2 ≤ 0}

abbrev admN : (p : Fin 1) → (pcfgs (F := F) p).Adm := fun p => (cfgs p).toPCfg_adm
abbrev cfgV : Cfg sig Λ₀ := Pipeline.pin pcfgs (admN (F := F)) 0

def dats (_ : Fin 1) (c : Dev nD) : Dat τ (Elt F) (HIx 1) ℕ UU ℕ cfg0 c where
  A w := V c (Proc.devRef .tc (arrRef spec0 w))
  after w t := match w with
    | ⟨0, _⟩ => blkOf V c 0 t
    | ⟨1, _⟩ => slots1 (blkOf V c 0 t)
    | ⟨2, _⟩ => slots2 (blkOf V c 0 t)
    | ⟨3, _⟩ => slots3 (blkOf V c 0 t)
  Φ _ := iprop(emp)
  q _ := fullShare
  owed _ := (K (F := F)).Otc c 0
  recorded _ := recd (F := F) c

theorem A_eq (c : Dev nD) (w : Fin cfg0.W) : (dats V 0 c).A w = V c (Proc.devRef .tc (arrRef spec0 w)) := by
  dsimp only [dats]
theorem phi_eq (c : Dev nD) (t) : (dats V 0 c).Φ t = iprop(emp) := by dsimp only [dats]
theorem after_0 (c : Dev nD) (t : Fin cfg0.N) : (dats V 0 c).after 0 t = blkOf V c 0 t := by dsimp only [dats]
theorem after_1 (c : Dev nD) (t : Fin cfg0.N) : (dats V 0 c).after 1 t = slots1 (blkOf V c 0 t) := by dsimp only [dats]
theorem after_2 (c : Dev nD) (t : Fin cfg0.N) : (dats V 0 c).after 2 t = slots2 (blkOf V c 0 t) := by dsimp only [dats]
theorem after_3 (c : Dev nD) (t : Fin cfg0.N) : (dats V 0 c).after 3 t = slots3 (blkOf V c 0 t) := by dsimp only [dats]
theorem before_0 (c : Dev nD) (t : Fin cfg0.N) (d) : (dats V 0 c).before 0 t d = blkOf V c 0 t :=
  ((dats V 0 c).before_in_eq_fetched 0 rfl (fun _ => rfl) (fun _ _ _ => rfl) (fun t => by rw [after_0]; unfold Dat.blockOf blkOf; rw [A_eq]; try rfl) t d).trans
    (by unfold Dat.fetched Dat.blockOf blkOf; rw [A_eq]; try rfl)

/-! ## The body at a point -/

abbrev stg0 (t : Fin cfg0.N) := (cfg0.win 0).stage (cfg0.slots t 0)
abbrev stg1 (t : Fin cfg0.N) := (cfg0.win 1).stage (cfg0.slots t 1)
abbrev stg2 (t : Fin cfg0.N) := (cfg0.win 2).stage (cfg0.slots t 2)
abbrev stg3 (t : Fin cfg0.N) := (cfg0.win 3).stage (cfg0.slots t 3)

/-- The body on the staging buffers of point `t`. -/
abbrev bodyV (t : Fin cfg0.N) : Prog (TpuEff nD τ sig (Elt F) Λ₀ .tc) PUnit :=
  cc0__route_body (win0_0.stage (cfg0.slots t 0)) (hstage0_0 0) (win0_1.stage (cfg0.slots t 1)) (hstage0_1 0) (win0_2.stage (cfg0.slots t 2)) (hstage0_2 0) (win0_3.stage (cfg0.slots t 3)) (hstage0_3 0)

def bodyPre (c : Dev nD) (t : Fin cfg0.N) : sProp 𝕄 :=
  iprop((dats V 0 c).Φ t.castSucc ∗ (dats V 0 c).owesAt none t.castSucc
    ∗ (∃ d, owns (c : Thread nD τ) (stg0 t) fullShare ((dats V 0 c).before 0 t d))
    ∗ (∃ d, owns (c : Thread nD τ) (stg1 t) fullShare ((dats V 0 c).before 1 t d))
    ∗ (∃ d, owns (c : Thread nD τ) (stg2 t) fullShare ((dats V 0 c).before 2 t d))
    ∗ (∃ d, owns (c : Thread nD τ) (stg3 t) fullShare ((dats V 0 c).before 3 t d)))

def bodyPost (c : Dev nD) (t : Fin cfg0.N) : sProp 𝕄 :=
  iprop((dats V 0 c).Φ t.succ ∗ (dats V 0 c).owesAt none t.succ
    ∗ owns (c : Thread nD τ) (stg0 t) fullShare ((dats V 0 c).after 0 t)
    ∗ owns (c : Thread nD τ) (stg1 t) fullShare ((dats V 0 c).after 1 t)
    ∗ owns (c : Thread nD τ) (stg2 t) fullShare ((dats V 0 c).after 2 t)
    ∗ owns (c : Thread nD τ) (stg3 t) fullShare ((dats V 0 c).after 3 t))

theorem sound_body (c : Dev nD) (t : Fin cfg0.N) :
    bodyPre V c t ⊢ wp frame (wpE (defs₀ (F := F)) Variants.none c none) Set.univ (bodyV t) (fun _ => bodyPost V c t) := by
  unfold bodyPre bodyPost bodyV
  simp only [before_0]
  rw [show (dats V 0 c).Φ t.succ = (dats V 0 c).Φ t.castSucc from rfl,
    show (dats V 0 c).owesAt none t.succ = (dats V 0 c).owesAt none t.castSucc from rfl,
    after_0, after_1, after_2, after_3]
  iintro ⟨HΦ, Ho, ⟨%d0, H0⟩, ⟨%d1, H1⟩, ⟨%d2, H2⟩, ⟨%d3, H3⟩⟩
  iapply (route_triple c Set.univ _ _ _ _ _ _ _ _ (blkOf V c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyV t := by
  unfold defs₀; rfl

theorem body_obligation (c : Dev nD) : BodyObligation (dats (F := F) V 0 c) (defs₀ (F := F)) Variants.none none Set.univ := fun t => by
  rw [bigSep_W0, bigSep_W0, defs₀_row]
  exact triple_restated (sound_body V c t) rfl .rfl fun _ => .rfl

/-! ## The call as one step of the host's program -/

/-- The host's arrays after the call. -/
def Vout (c : Dev nD) : Valuation τ sig (Elt F) := afterRegion (dats V 0 c) (V c)

/-- What the host owes, its recorded waits low. -/
def owesLow (c : Dev nD) : sProp 𝕄 :=
  iprop(∃ W, ⌜(K (F := F)).WBelow (SparseCore.T c : Thread nD τ) W 0⌝ ∗ owes (SparseCore.T c : Thread nD τ) ((K (F := F)).Otc c 0) W)

/-- The host's arrays that are not a window's array. -/
abbrev restRefs : Finset (DevRef τ sig) := ucRefs τ sig \ arrRefs spec0
theorem arr_sub : arrRefs (τ := τ) spec0 ⊆ ucRefs τ sig := Pipeline.arrRefs_sub_ucRefs spec0 winFacts0.arr_unscoped

theorem held_parts (c : Dev nD) (W : Valuation τ sig (Elt F)) :
    (StableHlo.held (SparseCore.T c : Thread nD τ) (ucRefs τ sig) W : sProp 𝕄)
      = iprop(StableHlo.held (SparseCore.T c : Thread nD τ) (arrRefs spec0) W ∗ StableHlo.held (SparseCore.T c : Thread nD τ) restRefs W) := by
  rw [StableHlo.held_sub_split _ arr_sub W]

theorem share_eq (c : Dev nD) : ∀ w, (dats V 0 c).share w = fullShare := (dats V 0 c).share_full fun _ => rfl

theorem arrays_in (c : Dev nD) :
    ((dats V 0 c).arrays ((dats V 0 c).arrAt · 0) : sProp 𝕄) = StableHlo.held (SparseCore.T c : Thread nD τ) (arrRefs spec0) (V c) :=
  Pipeline.arrays_held pcfgs (admN (F := F)) (dats V) 0 launch0.toP c (share_eq V c) _ (V c) fun w => (show (dats V 0 c).arrAt w 0 = _ from A_eq V c w)
theorem arrays_out (c : Dev nD) :
    ((dats V 0 c).arrays ((dats V 0 c).arrAt · cfg0.N) : sProp 𝕄) = StableHlo.held (SparseCore.T c : Thread nD τ) (arrRefs spec0) (Vout V c) :=
  Pipeline.arrays_held pcfgs (admN (F := F)) (dats V) 0 launch0.toP c (share_eq V c) _ (Vout V c) fun w =>
    (Pipeline.afterRegion_arr (dats V 0 c) (V c) winFacts0.arr_inj w).symm
theorem rest_out (c : Dev nD) : (StableHlo.held (SparseCore.T c : Thread nD τ) restRefs (Vout V c) : sProp 𝕄)
    = StableHlo.held (SparseCore.T c : Thread nD τ) restRefs (V c) :=
  StableHlo.held_congr _ fun b hb => Pipeline.afterRegion_off (dats V 0 c) (V c) (ucRefs τ sig) b hb

theorem below_of_bound (c : Dev nD) (W : Waits sig (HIx 1)) (t) (h : ∀ p ∈ W, p ∈ (dats V 0 c).bound none t) :
    (K (F := F)).WBelow (SparseCore.T c : Thread nD τ) W 0 := fun p hp => by
  rcases h p hp with h | ⟨w, s, rfl⟩
  · exact h
  · exact le_of_eq rfl

def seg : RegionSeg pcfgs (admN (F := F)) (dats V) none (defs₀ (F := F)) 𝒱₀ (K (F := F)).L (K (F := F)).lev 0 where
  win := launch0.toP.win.to₀
  block_pos := block_pos0
  stage_whole := stage_whole0
  K := PEmpty
  osem k := k.elim
  ho := Pipeline.OwnSemFacts.none _
  hbody c := (body_obligation V c).loose
  hwaits c := Pipeline.cellsWaits_of_cut (Pipeline.pin pcfgs (admN (F := F))) (dats V) none 0 c 0 ((K (F := F)).Otc c 0) (fun _ => rfl)
    (fun _ _ => Finset.mem_univ _) (fun _ _ => le_of_eq rfl) (fun g i h => ⟨Finset.mem_univ _, Nat.lt_of_lt_of_le (Nat.succ_pos _) ((K (F := F)).lev_of_Otc_pos h)⟩)
  pre c := iprop(StableHlo.held (SparseCore.T c : Thread nD τ) (ucRefs τ sig) (V c) ∗ owesLow (F := F) c)
  post c := iprop(StableHlo.held (SparseCore.T c : Thread nD τ) (ucRefs τ sig) (Vout V c) ∗ owesLow (F := F) c)
  X _ := iprop(emp)
  Y _ := iprop(emp)
  Z c := StableHlo.held (SparseCore.T c : Thread nD τ) restRefs (V c)
  hentry c := by
    rw [Pipeline.ownSems0_none, held_parts]
    iintro ⟨⟨⟨Ha, Hr⟩, HO⟩, -, -⟩
    imodintro
    isplitl [Ha]; · iapply (Entails.of_eq (arrays_in V c).symm); iexact Ha
    isplitr; · first | iempintro | (unfold Pipeline.prefHeld; iapply (Entails.of_eq (bigSep_empty _).symm); iempintro)
    isplitl [HO]
    · unfold owesLow Dat.owesAt Pipeline.owesWithin
      icases HO with ⟨%W, %hW, HO⟩
      iexists W
      isplitr; · ipureintro; exact fun p hp => Or.inl (hW p hp)
      iexact HO
    isplitr; · iempintro
    iexact Hr
  hin c := by
    iintro -
    iapply (Entails.of_eq (phi_eq V c 0).symm)
    iempintro
  hout c := by
    rw [Pipeline.ownSems0_none]
    iintro -
    isplitr; · iempintro
    isplitr; · iempintro
    iapply (Entails.of_eq (scopedRest0_eq c).symm)
    iempintro
  hexit c := by
    rw [held_parts]
    iintro ⟨Ha, HO, -, Hr⟩
    imodintro
    isplitr [HO]
    · isplitl [Ha]; · iapply (Entails.of_eq (arrays_out V c)); iexact Ha
      iapply (Entails.of_eq (rest_out V c).symm); iexact Hr
    unfold owesLow Dat.owesAt Pipeline.owesWithin
    icases HO with ⟨%W, %hW, HO⟩
    iexists W
    isplitr; · ipureintro; exact below_of_bound V c W _ hW
    iexact HO

end Cert.Proof.Sent

end
-- ==== Proof.Sent.Launch.lean ====
/-
  The slot assignment's call and the dispatch, launched: what the dispatch's call takes and hands back, the host's
  reshapes around the two calls, the run of the whole program.
-/
module

public import proofs.«01_k».proof.Proof.Sent.Arrays
public import proofs.«01_k».proof.Proof.Sent.Region
public import proofs.«01_k».proof.Defs

@[expose] public section

noncomputable section

namespace Cert.Proof.Sent

open Cert.SentIdeal Cert.SentIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.ShloMosaic.Pipeline (ucRefs arrRef arrRefs pin)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host's memory, step by step -/

variable (m : (ℓ : Loc nD τ sig) → Buf (Elt F) ℓ) (ρ : Dev nD → PrngReg)

abbrev dr (b : Ref sig .tc) : DevRef τ sig := Proc.devRef .tc b
abbrev opIn : HloOp τ sig (Elt F) := StableHlo.reshape main_arg1 main_v1 (rfl : (.f32 : EltTy) = .f32) shapeCasts_S4x8192x256_S32768x2x128
abbrev opOut : HloOp τ sig (Elt F) := StableHlo.reshape main_v2_0 main_v3 (rfl : (.f32 : EltTy) = .f32) shapeCasts_S36864x2x128_S4x9216x256

/-- The launch memory, the memory after the slots' call, and at the dispatch. -/
def V0 (d : Dev nD) : Valuation τ sig (Elt F) := fun b => m (d, b)
def V1 (d : Dev nD) : Valuation τ sig (Elt F) := Vout (V0 m) d
def V2 (d : Dev nD) : Valuation τ sig (Elt F) := (opIn (F := F)).result (V1 m d)

/-- The dispatch's arrays: the rows sent, the lists, the targets before. -/
def XA (d : Dev nD) : Buf (Elt F) (xLocA d) := V2 m d (dr main_v1)
def IA (d : Dev nD) : Buf (Elt F) (lLocA d) := V2 m d (dr main_v0_1)
def OA (d : Dev nD) : Buf (Elt F) (oLocA d) := V2 m d (dr main_v2_0)
def XB (d : Dev nD) : Buf (Elt F) (xLocB d) := V2 m d (dr main_arg2)
def IB (d : Dev nD) : Buf (Elt F) (lLocB d) := V2 m d (dr main_v0_0)
def OB (d : Dev nD) : Buf (Elt F) (oLocB d) := V2 m d (dr main_v2_1)

/-- Every word of the lists names a row of its target, and no two words name the same. -/
structure PreOK : Prop where
  rA : ∀ (d : Dev nD) (j : S4x64x128.Idx), (IA m d j : BitVec 32).toNat < 36864
  jA : ∀ (d : Dev nD) (j j' : S4x64x128.Idx), (IA m d j : BitVec 32).toNat = (IA m d j' : BitVec 32).toNat → j = j'
  rB : ∀ (d : Dev nD) (j : S64x128.Idx), (IB m d j : BitVec 32).toNat < 9216
  jB : ∀ (d : Dev nD) (j j' : S64x128.Idx), (IB m d j : BitVec 32).toNat = (IB m d j' : BitVec 32).toNat → j = j'

/-- What the dispatch leaves in its targets; the memory after it, and at the end. -/
def TA (d : Dev nD) : Buf (Elt F) (oLocA d) := GA (F := F) (XA m d) (IA m d) (OA m d)
def TB (d : Dev nD) : Buf (Elt F) (oLocB d) := GB (F := F) (XB m d) (IB m d) (OB m d)
def V3 (d : Dev nD) : Valuation τ sig (Elt F) := Function.update (Function.update (V2 m d) (dr main_v2_0) (TA m d)) (dr main_v2_1) (TB m d)
def V4 (d : Dev nD) : Valuation τ sig (Elt F) := (opOut (F := F)).result (V3 m d)

theorem V1_in (d : Dev nD) (b : Ref sig .tc) (h1 : b ≠ main_v0_0) (h2 : b ≠ main_v0_1) (h3 : b ≠ main_v0_2) : V1 m d (dr b) = V0 m d (dr b) :=
  Pipeline.afterRegion_keeps (dats (V0 m) 0 d) (V0 m d) winFacts0.arr_inj (A_eq (V0 m) d) b
    fun
      | 0, _ => rfl
      | 1, e => absurd e.symm h1
      | 2, e => absurd e.symm h2
      | 3, e => absurd e.symm h3
      | ⟨_ + 4, h⟩, _ => absurd h (Nat.not_lt.2 (Nat.le_add_left _ _))
theorem V2_ne (d : Dev nD) (b : DevRef τ sig) (h : b ∉ ({dr main_v1} : Finset (DevRef τ sig))) : V2 m d b = V1 m d b := (opIn (F := F)).result_of_not_mem (V1 m d) h
theorem V3_a (d : Dev nD) : V3 m d (dr main_v2_0) = TA m d := (Function.update_of_ne (by decide) _ _).trans (Function.update_self _ _ _)
theorem V3_b (d : Dev nD) : V3 m d (dr main_v2_1) = TB m d := Function.update_self _ _ _
theorem V3_ne (d : Dev nD) (b : DevRef τ sig) (h : b ≠ dr main_v2_0) (h' : b ≠ dr main_v2_1) : V3 m d b = V2 m d b :=
  (Function.update_of_ne h' _ _).trans (Function.update_of_ne h _ _)
theorem V4_ne (d : Dev nD) (b : DevRef τ sig) (h : b ∉ ({dr main_v3} : Finset (DevRef τ sig))) : V4 m d b = V3 m d b := (opOut (F := F)).result_of_not_mem (V3 m d) h

/-- An array that no step writes is at the end what it was at the launch. -/
theorem V4_arg (d : Dev nD) (b : Ref sig .tc) (h : b ∉ ({main_v0_0, main_v0_1, main_v0_2, main_v1, main_v2_0, main_v2_1, main_v3} : Finset (Ref sig .tc))) :
    V4 m d (dr b) = m (mLoc d b) := by
  have hm : ∀ c : Ref sig .tc, c ∈ ({main_v0_0, main_v0_1, main_v0_2, main_v1, main_v2_0, main_v2_1, main_v3} : Finset (Ref sig .tc)) → b ≠ c :=
    fun c hc e => h (e ▸ hc)
  have hn : ∀ c : Ref sig .tc, c ∈ ({main_v0_0, main_v0_1, main_v0_2, main_v1, main_v2_0, main_v2_1, main_v3} : Finset (Ref sig .tc)) → dr b ≠ dr c :=
    fun c hc e => h (Proc.devRef_injective _ e ▸ hc)
  rw [V4_ne m d _ (fun e => hn main_v3 (by decide) (Finset.mem_singleton.1 e)), V3_ne m d _ (hn main_v2_0 (by decide)) (hn main_v2_1 (by decide)),
    V2_ne m d _ (fun e => hn main_v1 (by decide) (Finset.mem_singleton.1 e)), V1_in m d b (hm main_v0_0 (by decide)) (hm main_v0_1 (by decide)) (hm main_v0_2 (by decide))]
  rfl

/-! ## What the handshakes carry -/

def goM (d : Dev nD) (c : Fin 2) (s : Fin 16) : sProp 𝕄 := goP d (coordsV c s) (XA m d) (IA m d) (OA m d) (XB m d) (IB m d) (OB m d)
def tdM (d : Dev nD) (c : Fin 2) (s : Fin 16) : sProp 𝕄 := tdP d (coordsV c s) (XA m d) (IA m d) (OA m d) (XB m d) (IB m d) (OB m d)

/-- The tiles' parts of SparseCore `c`, at the call and after it. -/
def goAll (d : Dev nD) (c : Fin 2) : sProp 𝕄 := bigSep Finset.univ fun s : Fin ((K (F := F)).nSub 0) => goM m d c (Fin.cast nSub_zero s)
def tdAll (d : Dev nD) (c : Fin 2) : sProp 𝕄 := bigSep Finset.univ fun s : Fin ((K (F := F)).nSub 0) => tdM m d c (Fin.cast nSub_zero s)

def P : (K (F := F)).Pay (nD := nD) (Val := Elt F) (Name := ℕ) (U := UU) where
  st := fun q d c => match q with | 0 => goAll m d (Fin.cast nCore_zero c)
  dn := fun q d c => match q with | 0 => tdAll m d (Fin.cast nCore_zero c)
  go := fun q d c i => match q with | 0 => goM m d (Fin.cast nCore_zero c) (Fin.cast nSub_zero i)
  td := fun q d c i => match q with | 0 => tdM m d (Fin.cast nCore_zero c) (Fin.cast nSub_zero i)
  x := fun _ _ => iprop(emp)

instance rowPA_storable (d : Dev nD) (L : grid1.Coords) (X : Buf (Elt F) (xLocA d)) (I : Buf (Elt F) (lLocA d)) (t : Fin 8) : BI.Storable (upEmb : UEmb _ 𝕄) (rowPA d L X I t) := by
  have h1 : ∀ f : Buf (Elt F) ((xBlkA L t).view.loc (VT d L)), BI.Storable (upEmb : UEmb _ 𝕄) ((xBlkA L t).view.loc (VT d L) ↦[(xBlkA L t).view.set]{fullShare} f) := fun f => inferInstance
  have h2 : ∀ f : Buf (Elt F) ((lRowA L t).view.loc (VT d L)), BI.Storable (upEmb : UEmb _ 𝕄) ((lRowA L t).view.loc (VT d L) ↦[(lRowA L t).view.set]{fullShare} f) := fun f => inferInstance
  have := h1 X; have := h2 I
  unfold rowPA xPA lPA; infer_instance
instance rowPB_storable (d : Dev nD) (L : grid1.Coords) (X : Buf (Elt F) (xLocB d)) (I : Buf (Elt F) (lLocB d)) (t : Fin 2) : BI.Storable (upEmb : UEmb _ 𝕄) (rowPB d L X I t) := by
  have h1 : ∀ f : Buf (Elt F) ((xBlkB L t).view.loc (VT d L)), BI.Storable (upEmb : UEmb _ 𝕄) ((xBlkB L t).view.loc (VT d L) ↦[(xBlkB L t).view.set]{fullShare} f) := fun f => inferInstance
  have h2 : ∀ f : Buf (Elt F) ((lRowB L t).view.loc (VT d L)), BI.Storable (upEmb : UEmb _ 𝕄) ((lRowB L t).view.loc (VT d L) ↦[(lRowB L t).view.set]{fullShare} f) := fun f => inferInstance
  have := h1 X; have := h2 I
  unfold rowPB xPB lPB; infer_instance
theorem rowsA_storable (d : Dev nD) (S : Finset (Idx (oLocA d))) (f : Buf (Elt F) (oLocA d)) : BI.Storable (upEmb : UEmb _ 𝕄) (oLocA d ↦[S]{fullShare} f : sProp 𝕄) := inferInstance
theorem rowsB_storable (d : Dev nD) (S : Finset (Idx (oLocB d))) (f : Buf (Elt F) (oLocB d)) : BI.Storable (upEmb : UEmb _ 𝕄) (oLocB d ↦[S]{fullShare} f : sProp 𝕄) := inferInstance
instance goM_storable (d : Dev nD) (c : Fin 2) (s : Fin 16) : BI.Storable (upEmb : UEmb _ 𝕄) (goM m d c s) := by
  unfold goM goP
  have h1 : ∀ t, BI.Storable (upEmb : UEmb _ 𝕄) (rowPA d (coordsV c s) (XA m d) (IA m d) t) := rowPA_storable d _ _ _
  have h2 : ∀ t, BI.Storable (upEmb : UEmb _ 𝕄) (rowPB d (coordsV c s) (XB m d) (IB m d) t) := rowPB_storable d _ _ _
  have h3 : ∀ t, BI.Storable (upEmb : UEmb _ 𝕄) (todoA d (coordsV c s) (IA m d) (OA m d) t) := fun t => rowsA_storable d _ _
  have h4 : ∀ t, BI.Storable (upEmb : UEmb _ 𝕄) (todoB d (coordsV c s) (IB m d) (OB m d) t) := fun t => rowsB_storable d _ _
  infer_instance
instance tdM_storable (d : Dev nD) (c : Fin 2) (s : Fin 16) : BI.Storable (upEmb : UEmb _ 𝕄) (tdM m d c s) := by
  unfold tdM tdP
  have h1 : ∀ t, BI.Storable (upEmb : UEmb _ 𝕄) (rowPA d (coordsV c s) (XA m d) (IA m d) t) := rowPA_storable d _ _ _
  have h2 : ∀ t, BI.Storable (upEmb : UEmb _ 𝕄) (rowPB d (coordsV c s) (XB m d) (IB m d) t) := rowPB_storable d _ _ _
  have h3 : ∀ t, BI.Storable (upEmb : UEmb _ 𝕄) (doneA d (coordsV c s) (XA m d) (IA m d) (OA m d) t) := fun t => rowsA_storable d _ _
  have h4 : ∀ t, BI.Storable (upEmb : UEmb _ 𝕄) (doneB d (coordsV c s) (XB m d) (IB m d) (OB m d) t) := fun t => rowsB_storable d _ _
  infer_instance

instance goAll_storable (d : Dev nD) (c : Fin 2) : BI.Storable (upEmb : UEmb _ 𝕄) (goAll m d c) := by unfold goAll; infer_instance
instance tdAll_storable (d : Dev nD) (c : Fin 2) : BI.Storable (upEmb : UEmb _ 𝕄) (tdAll m d c) := by unfold tdAll; infer_instance

instance P_storable : (P (F := F) m).IsStorable where
  st q d c := match q with | 0 => goAll_storable m d _
  dn q d c := match q with | 0 => tdAll_storable m d _
  go q d c i := match q with | 0 => goM_storable m d _ _
  td q d c i := match q with | 0 => tdM_storable m d _ _

/-! ## The obligations of the launch -/

theorem defs₀_vector (c : Fin τ.nSC) (s : Fin τ.nSub) :
    defs₀ (F := F) (.scVector c s) 1 ()
      = SparseCore.onTile hcore1 hsub1 (fun c s => kernelProg (coordsV c s)) ⟨⟩ c s := rfl

theorem tileObl (hF : (K (F := F)).Facts) (hpre : PreOK m) : (K (F := F)).TileObl (D (F := F)) 𝒱 (P m) v₀ 0 := by
  intro d c i O W hOw _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact tile_body d (coordsV ⟨_, hci.1⟩ ⟨_, hci.2⟩) (XA m d) (IA m d) (OA m d) (XB m d) (IB m d) (OB m d) hF O W hOw (hpre.rA d) (hpre.jA d) (hpre.rB d) (hpre.jB d)

theorem split_id (A B : sProp 𝕄) : A ⊢ |={Set.univ}=> iprop(A ∗ (B -∗ B)) := by
  iintro H; imodintro
  isplitl [H]; · iexact H
  iintro H; iexact H

theorem P_st (d : Dev nD) (c : Fin ((K (F := F)).nCore 0)) : (P m).st 0 d c = goAll m d (Fin.cast nCore_zero c) := by unfold P; dsimp only
theorem P_dn (d : Dev nD) (c : Fin ((K (F := F)).nCore 0)) : (P m).dn 0 d c = tdAll m d (Fin.cast nCore_zero c) := by unfold P; dsimp only
theorem P_go (d : Dev nD) (c : Fin ((K (F := F)).nCore 0)) : (bigSep Finset.univ fun i : Fin ((K (F := F)).nSub 0) => (P m).go 0 d c i) = goAll m d (Fin.cast nCore_zero c) := by unfold P goAll; dsimp only
theorem P_td (d : Dev nD) (c : Fin ((K (F := F)).nCore 0)) : (bigSep Finset.univ fun i : Fin ((K (F := F)).nSub 0) => (P m).td 0 d c i) = tdAll m d (Fin.cast nCore_zero c) := by unfold P tdAll; dsimp only

theorem vecSplit : (K (F := F)).VecSplit' (P m) 0 := by
  intro d c
  rw [P_st, P_dn, P_go, P_td]
  exact split_id _ _

theorem bigSep_emp' {I : Type} (s : Finset I) : (bigSep s fun _ => iprop(emp)) = (iprop(emp) : sProp 𝕄) := bigSep_emp_const s

/-! ## The launch's ghost state: the handshakes', the slots' pipeline's -/

def EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

def pElem : UP := initOf (Pipeline.cells (nD := nD) (τ := τ) (pin (pcfgs (F := F)) admN) cellOf_inj) (Pipeline.launchToks (nD := nD) (τ := τ) (pin (pcfgs (F := F)) admN) cellOf_inj)
def u₀ : UU := (initOf (K (F := F)).hsCells (K (F := F)).hsToks, ((pElem (F := F)), 1))

/-- A device's part of the pipeline's ghost state. -/
def G (d : Dev nD) : sProp 𝕄 :=
  iprop(Pipeline.cellsGhost (pin (pcfgs (F := F)) admN) EP 0 d ∗ Pipeline.toksInit (pin (pcfgs (F := F)) admN) EP 0 d)

theorem ghost_split (d : Dev nD) :
    iprop((bigSep Finset.univ fun p : Fin 1 => Pipeline.cellsGhost (pin (pcfgs (F := F)) admN) EP p d)
      ∗ bigSep Finset.univ fun p : Fin 1 => Pipeline.toksInit (pin (pcfgs (F := F)) admN) EP p d) = (G (F := F) d : sProp 𝕄) := by
  unfold G
  rw [bigSep_univ_of_subsingleton (0 : Fin 1), bigSep_univ_of_subsingleton (0 : Fin 1)]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) (((pElem (F := F)), 1) : UP × Counters)) $$ Hu
  icases H with ⟨HH, HP⟩
  ihave H := (own_pair_emb embR ((pElem (F := F))) (1 : Counters)) $$ HP
  icases H with ⟨HP, -⟩
  imod (Pipeline.fund_ghost (pin (pcfgs (F := F)) admN) EP cellOf_inj) $$ [HP] with ⟨Hc, Ht⟩
  · iexact HP
  imodintro
  isplitl [HH]; · iexact HH
  isplitl [Hc Ht]
  · iapply (Entails.of_eq (bigSep_congr fun d _ => ghost_split d))
    iapply (Entails.of_eq (bigSep_sep' _ _ _).symm)
    isplitl [Hc]; · iexact Hc
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The slots' call as a step of the host -/

/-- The slots' call, in the program the host's is lifted from. -/
def slotCall : Prog (TpuEff nD τ sig (Elt F) (ΛP (F := F)) .tc) PUnit := .op (.customCall (Pipeline.entry 0) ()) .ret
theorem slotCall_lift : (SparseCore.liftProg (Q := 1) (slotCall (F := F)) : Prog (TpuEff nD τ sig (Elt F) (SparseCore.Sig (ΛP (F := F)) 1) .tc) PUnit)
    = Prog.lift (.customCall (SparseCore.inner (Pipeline.entry 0)) ()) := rfl

theorem wp_slots (d : Dev nD) (Φ : PUnit → sProp 𝕄) :
    iprop((iprop(boundary (SparseCore.T d : Thread nD τ) ∗ held (T d) (ucRefs τ sig) (V1 m d) ∗ owesLow (F := F) d) -∗ Φ ⟨⟩)
        ∗ boundary (SparseCore.T d : Thread nD τ) ∗ (held (T d) (ucRefs τ sig) (V0 m d) ∗ owesLow (F := F) d) ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Φ := by
  rw [← slotCall_lift]
  have hl := (K (F := F)).wp_liftProg (D (F := F)) 𝒱 (SparseCore.T d) Set.univ none (slotCall (F := F)) Φ
  have h := Pipeline.RegionSeg.wp (pcfgs (F := F)) admN (dats (V0 m)) none cellOf_inj EP (defs₀ (F := F)) 𝒱₀
    (K (F := F)).L (K (F := F)).lev (seg (V0 m)) d none (fun _ h => nomatch h) Prog.ret Φ
  unfold slotCall at hl
  refine BIBase.Entails.trans ?_ (h.trans hl)
  unfold G
  refine sep_mono (wand_mono .rfl ?_) .rfl
  rw [wp_ret]
  exact fupd_intro

/-- The host's handshake state before the dispatch's call, without what it owes. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))
theorem tcSt_zero (d : Dev nD) : ((K (F := F)).tcSt EH d 0 : sProp 𝕄) = iprop(owesLow (F := F) d ∗ tcRest (F := F) d) := rfl

/-! ## The host's program -/

/-- The dispatch's arrays. -/
abbrev SG : Finset (DevRef τ sig) := {dr main_v1, dr main_v0_1, dr main_v2_0, dr main_arg2, dr main_v0_0, dr main_v2_1}
theorem uc (b : Ref sig .tc) (h : b.isScoped = false := by rfl) : dr b ∈ ucRefs τ sig := Pipeline.devRef_mem_ucRefs h
theorem SG_sub : SG ⊆ ucRefs τ sig := by
  intro b hb
  simp only [Finset.mem_insert, Finset.mem_singleton] at hb
  rcases hb with rfl | rfl | rfl | rfl | rfl | rfl
  · exact uc main_v1
  · exact uc main_v0_1
  · exact uc main_v2_0
  · exact uc main_arg2
  · exact uc main_v0_0
  · exact uc main_v2_1

theorem op_sub (a b : Ref sig .tc) (ha : a.isScoped = false) (hb : b.isScoped = false) : ({dr a, dr b} : Finset (DevRef τ sig)) ⊆ ucRefs τ sig := by
  intro x hx
  simp only [Finset.mem_insert, Finset.mem_singleton] at hx
  rcases hx with rfl | rfl
  · exact uc _ ha
  · exact uc _ hb
theorem opIn_sub : (opIn (F := F)).bufs ⊆ ucRefs τ sig := op_sub main_arg1 main_v1 rfl rfl
theorem opOut_sub : (opOut (F := F)).bufs ⊆ ucRefs τ sig := op_sub main_v2_0 main_v3 rfl rfl

theorem unscoped_held (d : Dev nD) : (unscopedBufs d (fun b => m ((SparseCore.T d).loc b)) : sProp 𝕄) = held (T d) (ucRefs τ sig) (V0 m d) :=
  Pipeline.unscopedBufs_held d (V0 m d)

theorem held_SG (d : Dev nD) (W : Valuation τ sig (Elt F)) :
    (held (T d) SG W : sProp 𝕄) = iprop((xLocA d ↦{fullShare} W (dr main_v1)) ∗ (lLocA d ↦{fullShare} W (dr main_v0_1)) ∗ (oLocA d ↦{fullShare} W (dr main_v2_0))
      ∗ (xLocB d ↦{fullShare} W (dr main_arg2)) ∗ (lLocB d ↦{fullShare} W (dr main_v0_0)) ∗ oLocB d ↦{fullShare} W (dr main_v2_1)) := by
  unfold held SG
  rw [SparseCore.bigSep_insert' (by decide), SparseCore.bigSep_insert' (by decide), SparseCore.bigSep_insert' (by decide), SparseCore.bigSep_insert' (by decide),
    SparseCore.bigSep_insert' (by decide), bigSep_singleton]

/-- The host's other arrays. -/
abbrev restV (d : Dev nD) : sProp 𝕄 := held (T d) (ucRefs τ sig \ SG) (V2 m d)

theorem held_V2 (d : Dev nD) :
    (held (T d) (ucRefs τ sig) (V2 m d) : sProp 𝕄)
      = iprop(((xLocA d ↦{fullShare} XA m d) ∗ (lLocA d ↦{fullShare} IA m d) ∗ (oLocA d ↦{fullShare} OA m d) ∗ (xLocB d ↦{fullShare} XB m d) ∗ (lLocB d ↦{fullShare} IB m d) ∗ oLocB d ↦{fullShare} OB m d) ∗ restV m d) := by
  rw [StableHlo.held_sub_split _ SG_sub, held_SG]; rfl
theorem held_V3 (d : Dev nD) :
    (held (T d) (ucRefs τ sig) (V3 m d) : sProp 𝕄)
      = iprop(((xLocA d ↦{fullShare} XA m d) ∗ (lLocA d ↦{fullShare} IA m d) ∗ (oLocA d ↦{fullShare} TA m d) ∗ (xLocB d ↦{fullShare} XB m d) ∗ (lLocB d ↦{fullShare} IB m d) ∗ oLocB d ↦{fullShare} TB m d) ∗ restV m d) := by
  rw [StableHlo.held_sub_split _ SG_sub, held_SG, V3_a, V3_b, V3_ne m d (dr main_v1) (by decide) (by decide), V3_ne m d (dr main_v0_1) (by decide) (by decide),
    V3_ne m d (dr main_arg2) (by decide) (by decide), V3_ne m d (dr main_v0_0) (by decide) (by decide),
    StableHlo.held_congr (T d) (S := ucRefs τ sig \ SG) (V := V3 m d) (V' := V2 m d) fun b hb => V3_ne m d b
      (fun e => (Finset.mem_sdiff.mp hb).2 (by rw [e]; simp)) (fun e => (Finset.mem_sdiff.mp hb).2 (by rw [e]; simp))]; rfl

theorem bigSep_tiles (Φ : Fin 2 → Fin 16 → sProp 𝕄) :
    (bigSep Finset.univ fun c : Fin ((K (F := F)).nCore 0) => bigSep Finset.univ fun s : Fin ((K (F := F)).nSub 0) => Φ (Fin.cast nCore_zero c) (Fin.cast nSub_zero s))
      = bigSep Finset.univ fun c : Fin 2 => bigSep Finset.univ fun s : Fin 16 => Φ c s := rfl

/-- What the call takes for the two SparseCores, and what it hands back, array by array. -/
theorem st0_eq (d : Dev nD) : (bigSep Finset.univ fun c : Fin ((K (F := F)).nCore 0) => (P m).st 0 d c)
    = iprop(((bigSep Finset.univ fun c : Fin 2 => bigSep Finset.univ fun s : Fin 16 => bigSep Finset.univ (rowPA d (coordsV c s) (XA m d) (IA m d)))
        ∗ bigSep Finset.univ fun c : Fin 2 => bigSep Finset.univ fun s : Fin 16 => bigSep Finset.univ (todoA d (coordsV c s) (IA m d) (OA m d)))
      ∗ ((bigSep Finset.univ fun c : Fin 2 => bigSep Finset.univ fun s : Fin 16 => bigSep Finset.univ (rowPB d (coordsV c s) (XB m d) (IB m d)))
        ∗ bigSep Finset.univ fun c : Fin 2 => bigSep Finset.univ fun s : Fin 16 => bigSep Finset.univ (todoB d (coordsV c s) (IB m d) (OB m d)))) := by
  simp only [P_st]
  unfold goAll
  rw [bigSep_tiles (F := F) (goM m d)]
  unfold goM goP
  rw [← bigSep_sep', ← bigSep_sep', ← bigSep_sep']
  refine bigSep_congr fun c _ => ?_
  rw [← bigSep_sep', ← bigSep_sep', ← bigSep_sep']
theorem dn0_eq (d : Dev nD) : (bigSep Finset.univ fun c : Fin ((K (F := F)).nCore 0) => (P m).dn 0 d c)
    = iprop(((bigSep Finset.univ fun c : Fin 2 => bigSep Finset.univ fun s : Fin 16 => bigSep Finset.univ (rowPA d (coordsV c s) (XA m d) (IA m d)))
        ∗ bigSep Finset.univ fun c : Fin 2 => bigSep Finset.univ fun s : Fin 16 => bigSep Finset.univ (doneA d (coordsV c s) (XA m d) (IA m d) (OA m d)))
      ∗ ((bigSep Finset.univ fun c : Fin 2 => bigSep Finset.univ fun s : Fin 16 => bigSep Finset.univ (rowPB d (coordsV c s) (XB m d) (IB m d)))
        ∗ bigSep Finset.univ fun c : Fin 2 => bigSep Finset.univ fun s : Fin 16 => bigSep Finset.univ (doneB d (coordsV c s) (XB m d) (IB m d) (OB m d)))) := by
  simp only [P_dn]
  unfold tdAll
  rw [bigSep_tiles (F := F) (tdM m d)]
  unfold tdM tdP
  rw [← bigSep_sep', ← bigSep_sep', ← bigSep_sep']
  refine bigSep_congr fun c _ => ?_
  rw [← bigSep_sep', ← bigSep_sep', ← bigSep_sep']

/-- What the host leaves: all its arrays, at the last memory. -/
abbrev FIN (d : Dev nD) : sProp 𝕄 := held (T d) (ucRefs τ sig) (V4 m d)

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, tcSt_zero]
  simp only [main, wp_bind, wp_pure]
  iintro ⟨#Hctx, ⟨HO, Hrest⟩, ⟨Hb, Hheld, Hts, -⟩, HG⟩
  iapply (wp_slots m d) $$ [HO Hrest Hb Hheld Hts HG]
  isplitr [HO Hb Hheld HG]
  swap
  · isplitl [Hb]; · iexact Hb
    isplitl [Hheld HO]
    · isplitl [Hheld]; · iexact Hheld
      iexact HO
    isplitr; · iapply (SparseCore.Cfg.ctx_levAts κ); iexact Hctx
    iexact HG
  iintro ⟨Hb, Hheld, HO⟩
  ihave Hst := (Entails.of_eq (tcSt_zero (F := F) d).symm) $$ [HO Hrest]
  · isplitl [HO]; · iexact HO
    iexact Hrest
  iapply (wp_hlo_within 𝒱 (SparseCore.T d) none Set.univ (op := opIn) (S := ucRefs τ sig) opIn_sub (V := V1 m d)) $$ [Hb Hheld]
  · isplitl [Hb]; · iexact Hb
    iexact Hheld
  iintro ⟨Hb, Hheld⟩
  rw [wp_ret]; imodintro
  ihave Hh := (Entails.of_eq (show (held (T d) (ucRefs τ sig) ((opIn (F := F)).result (V1 m d)) : sProp 𝕄) = _ from held_V2 (F := F) m d)) $$ Hheld
  icases Hh with ⟨⟨HxA, HlA, HoA, HxB, HlB, HoB⟩, Hr⟩
  ihave HrA := (Entails.of_eq (rows_splitA d (XA m d) (IA m d))) $$ [HxA HlA]
  · isplitl [HxA] <;> iassumption
  ihave HrB := (Entails.of_eq (rows_splitB d (XB m d) (IB m d))) $$ [HxB HlB]
  · isplitl [HxB] <;> iassumption
  ihave HoA' := (Entails.of_eq (o_splitA d (IA m d) (OA m d))) $$ HoA
  ihave HoB' := (Entails.of_eq (o_splitB d (IB m d) (OB m d))) $$ HoB
  icases HoA' with ⟨HkA, HtA⟩
  icases HoB' with ⟨HkB, HtB⟩
  iapply ((K (F := F)).wp_run (D (F := F)) 𝒱 (EH := EH) (P := P m) κ d 0) $$ [Hst HrA HrB HtA HtB HkA HkB Hr Hb Hts]
  isplitr; · iexact Hctx
  isplitl [Hst]; · iexact Hst
  isplitl [HrA HrB HtA HtB]
  · iapply (Entails.of_eq (st0_eq m d).symm)
    isplitl [HrA HtA]
    · isplitl [HrA]; · iexact HrA
      iexact HtA
    isplitl [HrB]; · iexact HrB
    iexact HtB
  iintro ⟨Hst, Hdn⟩
  ihave Hdn' := (Entails.of_eq (dn0_eq m d)) $$ Hdn
  icases Hdn' with ⟨⟨HrA, HdA⟩, HrB, HdB⟩
  ihave HoA := (Entails.of_eq (o_joinA d (XA m d) (IA m d) (OA m d))) $$ [HkA HdA]
  · isplitl [HkA]; · iexact HkA
    iexact HdA
  ihave HoB := (Entails.of_eq (o_joinB d (XB m d) (IB m d) (OB m d))) $$ [HkB HdB]
  · isplitl [HkB]; · iexact HkB
    iexact HdB
  ihave HrA' := (Entails.of_eq (rows_splitA d (XA m d) (IA m d)).symm) $$ HrA
  ihave HrB' := (Entails.of_eq (rows_splitB d (XB m d) (IB m d)).symm) $$ HrB
  icases HrA' with ⟨HxA, HlA⟩
  icases HrB' with ⟨HxB, HlB⟩
  ihave Hheld := (Entails.of_eq (held_V3 (F := F) m d).symm) $$ [HxA HlA HoA HxB HlB HoB Hr]
  · isplitr [Hr]
    · isplitl [HxA]; · iexact HxA
      isplitl [HlA]; · iexact HlA
      isplitl [HoA]; · iexact HoA
      isplitl [HxB]; · iexact HxB
      isplitl [HlB]; · iexact HlB
      iexact HoB
    iexact Hr
  iapply (wp_hlo_within 𝒱 (SparseCore.T d) none Set.univ (op := opOut) (S := ucRefs τ sig) opOut_sub (V := V3 m d)) $$ [Hb Hheld]
  · isplitl [Hb]; · iexact Hb
    iexact Hheld
  iintro ⟨Hb, Hheld⟩
  rw [wp_ret]; imodintro; imodintro
  isplitl [Hst]; · iexact Hst
  isplitl [Hheld]; · iexact Hheld
  isplitl [Hb] <;> iassumption

def fq (d : Dev nD) (s' : Phys nD τ sig (Elt F)) : Prop := ∀ b ∈ ucRefs τ sig, s'.mem.mem (d, b) = V4 m d b

theorem hfin (d : Dev nD) (s' : Phys nD τ sig (Elt F)) : iprop(FIN m d ∗ SI s') ⊢ (⌜fq m d s'⌝ : sProp 𝕄) :=
  (pointsTo_read_all (ucRefs τ sig) (fun b => (d, b)) (V4 m d) s').trans sep_elim_left

/-! ## The program's run -/

def QC : PUnit × MemSt nD τ sig (Elt F) → Prop := fun r =>
  (∀ c : Dev nD, r.2.mem (mLoc c main_v3) = V4 m c (dr main_v3) ∧ r.2.mem (mLoc c main_v2_1) = TB m c ∧ ∀ b : Ref sig .tc, b.isScoped = false →
    b ∉ ({main_v0_0, main_v0_1, main_v0_2, main_v1, main_v2_0, main_v2_1, main_v3} : Finset (Ref sig .tc)) → r.2.mem (mLoc c b) = m (mLoc c b)) ∧ r.2.sem = fun _ => 0

theorem run_main [∀ e, Nonempty (Elt F e)] (hpre : PreOK m) :
    θ_run (Cert.SentIdeal.defs (F := F)) (Cert.SentIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G) (FIN m) (u₀ (F := F)) (sep_elim_left.trans (hu₀ m)) (hmain m ρ)
    (fq m) (hfin m) (QC m)
    (fun _ h hz => ⟨fun c => ⟨h c _ (uc main_v3), (h c _ (uc main_v2_1)).trans ((V4_ne m c _ (by decide)).trans (V3_b m c)),
      fun b hb hn => (h c _ (uc b hb)).trans (V4_arg m c b hn)⟩, hz⟩)

end Cert.Proof.Sent

end
-- ==== Proof.Sent.Distinct.lean ====
/-
  The slots are rows of the target and pairwise distinct: a token's slot is its expert's first row plus its place among
  the expert's tokens, both whole numbers; a place is below the expert's count, the count is at most the expert's room,
  and the rooms stand one after another.
-/
module

public import proofs.«01_k».proof.Proof.Routed.Count

@[expose] public section

noncomputable section

namespace Cert.Proof.Routed

open Idealize.ShloMosaic

/-- A whole number as an extended real. -/
abbrev whole (n : ℕ) : EReal := ((n : ℝ) : EReal)

theorem whole_add (a b : ℕ) : whole a + whole b = whole (a + b) := by
  unfold whole; rw [← EReal.coe_add]; push_cast; rfl
theorem whole_zero : whole 0 = 0 := by unfold whole; simp
theorem whole_one : whole 1 = 1 := by unfold whole; simp

theorem whole_sum {ι : Type} (s : Finset ι) (f : ι → ℕ) : ∑ i ∈ s, whole (f i) = whole (∑ i ∈ s, f i) := by
  classical
  induction s using Finset.induction_on with
  | empty => rw [Finset.sum_empty, Finset.sum_empty, whole_zero]
  | insert a s h ih => rw [Finset.sum_insert h, Finset.sum_insert h, ih, whole_add]

theorem whole_count {ι : Type} [Fintype ι] (p : ι → Prop) [DecidablePred p] (f : ι → EReal) (h1 : ∀ i, p i → f i = 1) (h0 : ∀ i, ¬ p i → f i = 0) :
    ∑ i, f i = whole (Finset.univ.filter p).card := by
  rw [Finset.card_filter, ← whole_sum]
  refine Finset.sum_congr rfl fun i _ => ?_
  by_cases h : p i
  · rw [if_pos h, h1 i h, whole_one]
  · rw [if_neg h, h0 i h, whole_zero]

variable (E : Fin 64 → Fin 128 → BitVec 32)

/-- The tokens of expert `k`, and those before token `t`. -/
def theirs (k : BitVec 32) : Finset (Fin 8192) := Finset.univ.filter fun t => inRow E t = k
def prior (k : BitVec 32) (t : Fin 8192) : Finset (Fin 8192) := Finset.univ.filter fun u => u.val < t.val ∧ inRow E u = k

theorem count_whole (k : BitVec 32) : count E k = whole (theirs E k).card := by
  rw [← count_tokens]
  refine whole_count (fun t => inRow E t = k) _ (fun t h => ?_) fun t h => hit_other _ _ h
  rw [h]; exact hit_same k

theorem rank_whole (k : BitVec 32) (r : Fin 64) (c : Fin 128) : rank E k r c = whole (prior E k (tok r c)).card := by
  rw [← rank_tokens]
  refine whole_count (fun u : Fin 8192 => u.val < (tok r c).val ∧ inRow E u = k) _ (fun u h => ?_) fun u h => ?_
  · rw [h.2, hit_same, mul_one]; unfold before; rw [if_pos h.1]
  · by_cases h' : u.val < (tok r c).val
    · rw [hit_other _ _ fun e => h ⟨h', e⟩, mul_zero]
    · unfold before; rw [if_neg h', zero_mul]

/-- The rows expert `k` gets. -/
def rows (k : BitVec 32) : ℕ := ((theirs E k).card + 255) / 256 * 256

theorem word_256 : Ideal.ofBits .f32 0x43800000#32 = ((256 : ℝ) : EReal) := by
  simp [Ideal.ofBits, Ideal.ieee, -EReal.coe_mul]; norm_num

theorem room_whole (k : BitVec 32) : room E k = whole (rows E k) := by
  unfold room rows
  rw [count_whole, word_256, Ideal.div_coe (by norm_num), ← EReal.coe_mul, Ideal.liftRound_coe, ← EReal.coe_mul]
  generalize (theirs E k).card = n
  have hc : ⌈(n : ℝ) * (1 / 256)⌉ = (((n + 255) / 256 : ℕ) : ℤ) := by
    rw [Int.ceil_eq_iff]
    have h1 : (n + 255) / 256 * 256 < n + 256 := by omega
    have h2 : n ≤ (n + 255) / 256 * 256 := by omega
    have h1' : (((n + 255) / 256 : ℕ) : ℝ) * 256 < n + 256 := by exact_mod_cast h1
    have h2' : (n : ℝ) ≤ (((n + 255) / 256 : ℕ) : ℝ) * 256 := by exact_mod_cast h2
    constructor
    · rw [Int.cast_natCast]; linarith
    · rw [Int.cast_natCast]; linarith
  rw [hc]
  unfold whole
  rw [Int.cast_natCast]; push_cast; rfl

/-- The first row of each expert. -/
def firstRow : Fin 4 → ℕ := ![0, rows E 0#32, rows E 0#32 + rows E 1#32, rows E 0#32 + rows E 1#32 + rows E 2#32]

theorem start1_whole : start1 E = whole (rows E 0#32) := by unfold start1; rw [zero_word, zero_add, room_whole]
theorem start2_whole : start2 E = whole (rows E 0#32 + rows E 1#32) := by unfold start2; rw [start1_whole, room_whole, whole_add]
theorem start3_whole : start3 E = whole (rows E 0#32 + rows E 1#32 + rows E 2#32) := by unfold start3; rw [start2_whole, room_whole, whole_add]

theorem fptosi_whole (n : ℕ) (h : n < 2 ^ 31) : Ideal.fptosi 32 (whole n) = BitVec.ofNat 32 n := by
  have hf : ⌊(n : ℝ)⌋ = (n : ℤ) := Int.floor_natCast n
  rw [Ideal.fptosi, Ideal.toIntClamped_coe, if_pos (Nat.cast_nonneg n), hf]
  have e : max (-((2 ^ (32 - 1) : ℕ) : ℤ)) (min (((2 ^ (32 - 1) : ℕ) : ℤ) - 1) (n : ℤ)) = (n : ℤ) := by
    have h' : n < 2147483648 := h
    norm_num
    omega
  rw [e]
  exact BitVec.ofInt_natCast 32 n

theorem card_le (k : BitVec 32) : (theirs E k).card ≤ rows E k := by unfold rows; omega
theorem rows_le (k : BitVec 32) : rows E k ≤ (theirs E k).card + 255 := by unfold rows; omega

theorem card_sum : (theirs E 0#32).card + (theirs E 1#32).card + (theirs E 2#32).card + (theirs E 3#32).card ≤ 8192 := by
  unfold theirs
  rw [Finset.card_filter, Finset.card_filter, Finset.card_filter, Finset.card_filter, ← Finset.sum_add_distrib, ← Finset.sum_add_distrib, ← Finset.sum_add_distrib]
  refine (Finset.sum_le_card_nsmul Finset.univ _ 1 fun t _ => ?_).trans (by simp)
  generalize inRow E t = w
  by_cases h0 : w = 0#32
  · subst h0; decide
  by_cases h1 : w = 1#32
  · subst h1; decide
  by_cases h2 : w = 2#32
  · subst h2; decide
  rw [if_neg h0, if_neg h1, if_neg h2]
  split <;> omega

/-- A token's place is below its expert's count, and later tokens of the expert have later places. -/
theorem prior_lt {k : BitVec 32} {t : Fin 8192} (h : inRow E t = k) : (prior E k t).card < (theirs E k).card := by
  refine Finset.card_lt_card (Finset.ssubset_iff_subset_ne.2 ⟨fun u hu => ?_, fun e => ?_⟩)
  · exact Finset.mem_filter.2 ⟨Finset.mem_univ _, (Finset.mem_filter.1 hu).2.2⟩
  · have ht : t ∈ theirs E k := Finset.mem_filter.2 ⟨Finset.mem_univ _, h⟩
    rw [← e] at ht
    exact lt_irrefl _ (Finset.mem_filter.1 ht).2.1
theorem prior_mono {k : BitVec 32} {t u : Fin 8192} (h : inRow E t = k) (htu : t.val < u.val) : (prior E k t).card < (prior E k u).card := by
  refine Finset.card_lt_card (Finset.ssubset_iff_subset_ne.2 ⟨fun v hv => ?_, fun e => ?_⟩)
  · have := (Finset.mem_filter.1 hv).2
    exact Finset.mem_filter.2 ⟨Finset.mem_univ _, this.1.trans htu, this.2⟩
  · have ht : t ∈ prior E k u := Finset.mem_filter.2 ⟨Finset.mem_univ _, htu, h⟩
    rw [← e] at ht
    exact lt_irrefl _ (Finset.mem_filter.1 ht).2.1

/-- The slot as a whole number. -/
def place (e : Fin 4) (t : Fin 8192) : ℕ := (prior E (BitVec.ofNat 32 e.val) t).card + firstRow E e

theorem first_next : ∀ e : Fin 4, ∀ f : Fin 4, e < f → firstRow E e + rows E (BitVec.ofNat 32 e.val) ≤ firstRow E f := by
  intro e f h
  fin_cases e <;> fin_cases f <;> first | exact absurd h (by decide) | skip
  · show 0 + rows E 0#32 ≤ rows E 0#32; omega
  · show 0 + rows E 0#32 ≤ rows E 0#32 + rows E 1#32; omega
  · show 0 + rows E 0#32 ≤ rows E 0#32 + rows E 1#32 + rows E 2#32; omega
  · show rows E 0#32 + rows E 1#32 ≤ rows E 0#32 + rows E 1#32; omega
  · show rows E 0#32 + rows E 1#32 ≤ rows E 0#32 + rows E 1#32 + rows E 2#32; omega
  · show rows E 0#32 + rows E 1#32 + rows E 2#32 ≤ rows E 0#32 + rows E 1#32 + rows E 2#32; omega

theorem first_end (e : Fin 4) : firstRow E e + (theirs E (BitVec.ofNat 32 e.val)).card < 9216 := by
  have h := card_sum E
  have r0 := rows_le E 0#32; have r1 := rows_le E 1#32; have r2 := rows_le E 2#32
  fin_cases e
  · show 0 + (theirs E 0#32).card < 9216; omega
  · show rows E 0#32 + (theirs E 1#32).card < 9216; omega
  · show rows E 0#32 + rows E 1#32 + (theirs E 2#32).card < 9216; omega
  · show rows E 0#32 + rows E 1#32 + rows E 2#32 + (theirs E 3#32).card < 9216; omega

theorem place_lt {e : Fin 4} {t : Fin 8192} (h : inRow E t = BitVec.ofNat 32 e.val) : place E e t < 9216 := by
  have := prior_lt E h
  have := first_end E e
  unfold place; omega

theorem place_inj {e f : Fin 4} {t u : Fin 8192} (ht : inRow E t = BitVec.ofNat 32 e.val) (hu : inRow E u = BitVec.ofNat 32 f.val) (h : place E e t = place E f u) : t = u := by
  have h1 := prior_lt E ht; have h2 := prior_lt E hu
  have c1 := card_le E (BitVec.ofNat 32 e.val); have c2 := card_le E (BitVec.ofNat 32 f.val)
  unfold place at h
  rcases lt_trichotomy e f with hef | hef | hef
  · have := first_next E e f hef; omega
  · subst hef
    rcases lt_trichotomy t.val u.val with h' | h' | h'
    · have := prior_mono E ht h'; omega
    · exact Fin.ext h'
    · have := prior_mono E hu h'; omega
  · have := first_next E f e hef; omega

/-- A token's slot is its place. -/
theorem slot_place (r : Fin 64) (c : Fin 128) (e : Fin 4) (h : E r c = BitVec.ofNat 32 e.val) : slot E r c = BitVec.ofNat 32 (place E e (tok r c)) := by
  have hl : place E e (tok r c) < 9216 := place_lt E ((inRow_tok E r c).trans h)
  unfold place at hl ⊢
  unfold slot
  have sel : ∀ (k : BitVec 32) (x y : BitVec 32), Scalar.select (IntOp.cmpi .eq (E r c) k) x y = if E r c = k then x else y := by
    intro k x y
    by_cases hk : E r c = k
    · rw [if_pos hk, hk]; unfold Scalar.select IntOp.cmpi; simp
    · rw [if_neg hk]; unfold Scalar.select IntOp.cmpi; simp [beq_eq_false_iff_ne.2 hk]
  rw [sel, sel, sel, sel, rank_whole, rank_whole, rank_whole, rank_whole, start1_whole, start2_whole, start3_whole, zero_word, ← whole_zero, whole_add, whole_add, whole_add, whole_add]
  rw [h]
  fin_cases e
  · exact fptosi_whole _ (lt_trans hl (by norm_num))
  · exact fptosi_whole _ (lt_trans hl (by norm_num))
  · exact fptosi_whole _ (lt_trans hl (by norm_num))
  · exact fptosi_whole _ (lt_trans hl (by norm_num))

/-- The words all name one of the four experts. -/
def Four : Prop := ∀ r c, (E r c).toNat < 4

theorem expert_of {E : Fin 64 → Fin 128 → BitVec 32} (hE : Four E) (r : Fin 64) (c : Fin 128) : ∃ e : Fin 4, E r c = BitVec.ofNat 32 e.val :=
  ⟨⟨(E r c).toNat, hE r c⟩, BitVec.eq_of_toNat_eq (by rw [BitVec.toNat_ofNat]; have := (E r c).isLt; show _ = (E r c).toNat % 2 ^ 32; omega)⟩

theorem tok_inj {r r' : Fin 64} {c c' : Fin 128} (h : tok r c = tok r' c') : r = r' ∧ c = c' := by
  have e : r.val * 128 + c.val = r'.val * 128 + c'.val := congrArg Fin.val h
  have := c.isLt; have := c'.isLt
  exact ⟨Fin.ext (by omega), Fin.ext (by omega)⟩

theorem slot_lt {E : Fin 64 → Fin 128 → BitVec 32} (hE : Four E) (r : Fin 64) (c : Fin 128) : (slot E r c).toNat < 9216 := by
  obtain ⟨e, he⟩ := expert_of hE r c
  have hl := place_lt E ((inRow_tok E r c).trans he)
  rw [slot_place E r c e he, BitVec.toNat_ofNat]
  omega

theorem slot_inj {E : Fin 64 → Fin 128 → BitVec 32} (hE : Four E) {r r' : Fin 64} {c c' : Fin 128} (h : (slot E r c).toNat = (slot E r' c').toNat) : r = r' ∧ c = c' := by
  obtain ⟨e, he⟩ := expert_of hE r c
  obtain ⟨f, hf⟩ := expert_of hE r' c'
  have hl := place_lt E ((inRow_tok E r c).trans he)
  have hl' := place_lt E ((inRow_tok E r' c').trans hf)
  rw [slot_place E r c e he, slot_place E r' c' f hf, BitVec.toNat_ofNat, BitVec.toNat_ofNat, Nat.mod_eq_of_lt (by omega), Nat.mod_eq_of_lt (by omega)] at h
  exact tok_inj (place_inj E ((inRow_tok E r c).trans he) ((inRow_tok E r' c').trans hf) h)

/-- The quarter's row of a slot. -/
theorem quarter_nat (s : BitVec 32) (hs : s.toNat < 9216) (q : Fin 4) : (IntOp.addi s (IntOp.muli 9216#32 (BitVec.ofNat 32 q.val))).toNat = s.toNat + 9216 * q.val := by
  have hq := q.isLt
  unfold IntOp.addi IntOp.muli
  rw [BitVec.toNat_add, BitVec.toNat_mul, BitVec.toNat_ofNat, BitVec.toNat_ofNat]
  omega

end Cert.Proof.Routed

end
-- ==== Proof.Sent.Ready.lean ====
/-
  The lists that the dispatch finds: the slots of the tokens and of the quarters' tokens; in range and pairwise distinct
  when every word of the argument names an expert.
-/
module

public import proofs.«01_k».proof.Proof.Sent.Launch
public import proofs.«01_k».proof.Proof.Sent.Distinct
public import proofs.«01_k».proof.Proof.Routed.Cell
public import proofs.«01_k».proof.Proof.Gen.RoutedIdeal.Points
public import proofs.«01_k».proof.Pre_experts_named
public import Idealize.ShloMosaic.Lib.Pipeline.ValueKit.Geometry

@[expose] public section

noncomputable section

namespace Cert.Proof.Sent

open Cert.SentIdeal Cert.SentIdeal.Gen
open Idealize.ShloMosaic hiding ix0 ix1 ix2 ix3 ix4
open Idealize.ShloMosaic.TcCoe Idealize.ShloMosaic.ValueIdx Idealize.SL.Sem
open Idealize.ShloMosaic.Pipeline (Dat Cfg Window arrRef)

variable (m : (ℓ : Loc nD τ sig) → Buf (Elt Ideal) ℓ)

/-- The experts, row by row. -/
abbrev expertsOf (d : Dev nD) : Fin 64 → Fin 128 → BitVec 32 := fun r c => m (mLoc d main_arg0) (ix2 r c : S64x128.Idx)

theorem blk_read (d : Dev nD) (t : Fin cfg0.N) (r : Fin 64) (c : Fin 128) : blkOf (V0 m) d 0 t (ix2 r c : S64x128.Idx) = expertsOf m d r c := by
  unfold blkOf
  refine congrArg (V0 m d (dr main_arg0)) (funext fun a => Fin.ext ?_)
  match a with
  | ⟨0, _⟩ => show 0 + 1 * r.val = r.val; omega
  | ⟨1, _⟩ => show 0 + 1 * c.val = c.val; omega
theorem blk_words (d : Dev nD) (t : Fin cfg0.N) : Routed.words (blkOf (V0 m) d 0 t) = expertsOf m d := funext fun r => funext fun c => blk_read m d t r c

theorem flush1 : ∀ t : Fin cfg0.N, (cfg0.win 1).flush t = true := by decide +kernel
theorem flush2 : ∀ t : Fin cfg0.N, (cfg0.win 2).flush t = true := by decide +kernel

/-- The slots, and the quarters' slots. -/
def slotList (d : Dev nD) : Buf (Elt Ideal) (lLocB d) := fun j : S64x128.Idx => Routed.slot (expertsOf m d) (j 0) (j 1)
def quarterList (d : Dev nD) : Buf (Elt Ideal) (lLocA d) := fun j : S4x64x128.Idx =>
  IntOp.addi (Routed.slot (expertsOf m d) (j 1) (j 2)) (IntOp.muli 9216#32 (BitVec.ofNat 32 (j 0).val))

theorem slots_out (d : Dev nD) : (dats (V0 m) 0 d).arrAt 1 cfg0.N = slotList m d := by
  refine Dat.arrAt_eq_of_emb (dats (V0 m) 0 d) 1 _ ?_ ?_
  · intro t _ y
    obtain ⟨r, c, rfl⟩ : ∃ (r : Fin 64) (c : Fin 128), y = (ix2 r c : S64x128.Idx) := ⟨y 0, y 1, ValueIdx.eq_ix2 (y : S64x128.Idx)⟩
    have e1 : ((cfg0.win 1).blk t).view.emb (ix2 r c : S64x128.Idx) = (ix2 r c : S64x128.Idx) := by
      funext a
      refine Fin.ext ?_
      match a with
      | ⟨0, _⟩ => show 0 + 1 * r.val = r.val; omega
      | ⟨1, _⟩ => show 0 + 1 * c.val = c.val; omega
    rw [e1, after_1]
    refine (Routed.out1_read _ r c).trans ?_
    rw [blk_words]
    rfl
  · intro i'
    let i : S64x128.Idx := i'
    show ∃ t, _ ∧ i ∈ _
    refine ⟨t0_0, flush1 _, ?_⟩
    have e1 : i = ((cfg0.win 1).blk t0_0).view.emb (ix2 (i 0) (i 1) : S64x128.Idx) := by
      funext a
      refine Fin.ext ?_
      match a with
      | ⟨0, _⟩ => show (i 0).val = 0 + 1 * (i 0).val; omega
      | ⟨1, _⟩ => show (i 1).val = 0 + 1 * (i 1).val; omega
    exact Finset.mem_map.2 ⟨(ix2 (i 0) (i 1) : S64x128.Idx), Finset.mem_univ _, e1.symm⟩

theorem quarters_out (d : Dev nD) : (dats (V0 m) 0 d).arrAt 2 cfg0.N = quarterList m d := by
  refine Dat.arrAt_eq_of_emb (dats (V0 m) 0 d) 2 _ ?_ ?_
  · intro t _ y
    obtain ⟨q, r, c, rfl⟩ : ∃ (q : Fin 4) (r : Fin 64) (c : Fin 128), y = (ix3 q r c : S4x64x128.Idx) :=
      ⟨y 0, y 1, y 2, ValueIdx.eq_ix3 (y : S4x64x128.Idx)⟩
    have e1 : ((cfg0.win 2).blk t).view.emb (ix3 q r c : S4x64x128.Idx) = (ix3 q r c : S4x64x128.Idx) := by
      funext a
      refine Fin.ext ?_
      match a with
      | ⟨0, _⟩ => show 0 + 1 * q.val = q.val; omega
      | ⟨1, _⟩ => show 0 + 1 * r.val = r.val; omega
      | ⟨2, _⟩ => show 0 + 1 * c.val = c.val; omega
    rw [e1, after_2]
    refine (Routed.out2_read _ q r c).trans ?_
    rw [blk_words]
    rfl
  · intro i'
    let i : S4x64x128.Idx := i'
    show ∃ t, _ ∧ i ∈ _
    refine ⟨t0_0, flush2 _, ?_⟩
    have e1 : i = ((cfg0.win 2).blk t0_0).view.emb (ix3 (i 0) (i 1) (i 2) : S4x64x128.Idx) := by
      funext a
      refine Fin.ext ?_
      match a with
      | ⟨0, _⟩ => show (i 0).val = 0 + 1 * (i 0).val; omega
      | ⟨1, _⟩ => show (i 1).val = 0 + 1 * (i 1).val; omega
      | ⟨2, _⟩ => show (i 2).val = 0 + 1 * (i 2).val; omega
    exact Finset.mem_map.2 ⟨(ix3 (i 0) (i 1) (i 2) : S4x64x128.Idx), Finset.mem_univ _, e1.symm⟩

theorem IB_eq (d : Dev nD) : IB m d = slotList m d :=
  (V2_ne m d (dr main_v0_0) (by decide)).trans ((Pipeline.afterRegion_arr (dats (V0 m) 0 d) (V0 m d) winFacts0.arr_inj 1).trans (slots_out m d))
theorem IA_eq (d : Dev nD) : IA m d = quarterList m d :=
  (V2_ne m d (dr main_v0_1) (by decide)).trans ((Pipeline.afterRegion_arr (dats (V0 m) 0 d) (V0 m d) winFacts0.arr_inj 2).trans (quarters_out m d))

theorem ready (h : ∀ d, Routed.Four (expertsOf m d)) : PreOK m where
  rA d j := by
    rw [IA_eq]
    show (IntOp.addi (Routed.slot (expertsOf m d) (j 1) (j 2)) (IntOp.muli 9216#32 (BitVec.ofNat 32 (j 0).val))).toNat < 36864
    have hs := Routed.slot_lt (h d) (j 1) (j 2)
    have hq : (j 0).val < 4 := (j 0).isLt
    rw [Routed.quarter_nat _ hs (j 0)]
    omega
  jA d j j' e := by
    rw [IA_eq] at e
    change (IntOp.addi (Routed.slot (expertsOf m d) (j 1) (j 2)) (IntOp.muli 9216#32 (BitVec.ofNat 32 (j 0).val))).toNat
      = (IntOp.addi (Routed.slot (expertsOf m d) (j' 1) (j' 2)) (IntOp.muli 9216#32 (BitVec.ofNat 32 (j' 0).val))).toNat at e
    have hs := Routed.slot_lt (h d) (j 1) (j 2)
    have hs' := Routed.slot_lt (h d) (j' 1) (j' 2)
    rw [Routed.quarter_nat _ hs (j 0), Routed.quarter_nat _ hs' (j' 0)] at e
    have k := Routed.slot_inj (h d) (show (Routed.slot (expertsOf m d) (j 1) (j 2)).toNat = (Routed.slot (expertsOf m d) (j' 1) (j' 2)).toNat by omega)
    have k0 : (j 0).val = (j' 0).val := by omega
    funext a
    match a with
    | ⟨0, _⟩ => exact Fin.ext k0
    | ⟨1, _⟩ => exact k.1
    | ⟨2, _⟩ => exact k.2
  rB d j := by
    rw [IB_eq]
    exact Routed.slot_lt (h d) (j 0) (j 1)
  jB d j j' e := by
    rw [IB_eq] at e
    have k := Routed.slot_inj (h d) e
    funext a
    match a with
    | ⟨0, _⟩ => exact k.1
    | ⟨1, _⟩ => exact k.2

theorem four_of (w : BitVec 32) (h : IntOp.andi (IntOp.cmpi .sge w 0#32) (IntOp.cmpi .slt w 4#32) = 1#1) : w.toNat < 4 := by
  have e := IntOp.andi_eq_one.1 h
  unfold IntOp.cmpi at e
  have h1 : (0#32).sle w = true := by
    have := e.1; revert this; cases hh : (0#32).sle w <;> simp [hh]
  have h2 : w.slt 4#32 = true := by
    have := e.2; revert this; cases hh : w.slt 4#32 <;> simp [hh]
  rw [BitVec.sle, decide_eq_true_eq] at h1
  rw [BitVec.slt, decide_eq_true_eq] at h2
  have k0 : (0#32).toInt = 0 := by decide
  have k4 : (4#32).toInt = 4 := by decide
  rw [k0] at h1; rw [k4] at h2
  rw [BitVec.toInt_eq_toNat_cond] at h1 h2
  split at h1 <;> omega

instance expertsFacts : Cert.Pre_experts_named.Facts := ⟨by decide⟩

theorem experts_four (x : IVec Pre_experts_named.S64x128 32) (a1 : FVec Ideal Pre_experts_named.S4x8192x256 .f32) (a2 : FVec Ideal Pre_experts_named.S8192x128 .f32)
    (h : Cert.Pre_experts_named.fn (F := Ideal) x a1 a2 = fun _ => 1#1) (r : Fin 64) (c : Fin 128) : (x (ix2 r c : S64x128.Idx)).toNat < 4 :=
  four_of _ (congrFun h (ix2 r c : S64x128.Idx))

end Cert.Proof.Sent

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Pre_rows_named
public import proofs.«01_k».proof.Proof.Gen.Served
public import proofs.«01_k».proof.Proof.Gen.Served.Skeleton
public import proofs.«01_k».proof.Proof.Gen.ServedIdeal
public import proofs.«01_k».proof.Proof.Gen.ServedIdeal.Skeleton
public import proofs.«01_k».proof.Proof.Gen.ServedIdeal.Launch
public import proofs.«01_k».proof.Proof.Gen.TilesIdeal
public import proofs.«01_k».proof.Proof.Gen.TilesIdeal.Run
public import proofs.«01_k».proof.Proof.Gen.Pre_slots_named
public import proofs.«01_k».proof.Proof.Gen.Gated
public import proofs.«01_k».proof.Proof.Gen.GatedIdeal
public import proofs.«01_k».proof.Proof.Gen.GatedIdeal.Frame
public import proofs.«01_k».proof.Proof.Gen.GatesIdeal
public import proofs.«01_k».proof.Proof.Gen.GatesIdeal.Run
public import proofs.«01_k».proof.Proof.Gen.Routed
public import proofs.«01_k».proof.Proof.Gen.RoutedIdeal
public import proofs.«01_k».proof.Proof.Gen.RoutedIdeal.Frame
public import proofs.«01_k».proof.Proof.Gen.SlotsIdeal
public import proofs.«01_k».proof.Proof.Gen.SlotsIdeal.Run
public import proofs.«01_k».proof.Proof.Value
public import proofs.«01_k».proof.Proof.Served.Value
public import proofs.«01_k».proof.Proof.Served.Same
public import proofs.«01_k».proof.Proof.Gated.Value
public import proofs.«01_k».proof.Proof.Gated.Same
public import proofs.«01_k».proof.Proof.Routed.Value
public import proofs.«01_k».proof.Proof.Routed.Same
public import proofs.«01_k».proof.Proof.Gen.SentIdeal.Skeleton
public import proofs.«01_k».proof.Proof.Gen.SentIdeal.Launch
public import proofs.«01_k».proof.Proof.Gen.SentIdeal
public import proofs.«01_k».proof.Proof.Sent.Ready
public import Idealize.ShloMosaic.Adequacy
public import Idealize.ShloMosaic.Init

@[expose] public section

noncomputable section

namespace Cert.Proof

open Idealize.ShloMosaic Idealize.SL.Sem Cert.Kernel

/-! ## The precondition gives the range of the lists' words -/

theorem ok_bits (m : (ℓ : Loc Cert.KernelIdeal.nD Cert.KernelIdeal.τ Cert.KernelIdeal.sig) → Buf (Elt Bits) ℓ) (h : Cert.Pre_Kernel m) :
    Gather.PreOK (F := Bits) m := fun d j => Gather.lists_lt (F := Bits) _ _ (h d) j
theorem ok_ideal (m : (ℓ : Loc Cert.KernelIdeal.nD Cert.KernelIdeal.τ Cert.KernelIdeal.sig) → Buf (Elt Ideal) ℓ) (h : Cert.Pre_KernelIdeal m) :
    Gather.PreOK (F := Ideal) m := fun d j => Gather.lists_lt (F := Ideal) _ _ (h d) j

/-! ## The frames -/

theorem frame_kernel : Cert.quiescent_Kernel := fun m ρ h =>
  (θ_run Cert.KernelIdeal.defs _ _).mono (fun _ r => ⟨fun c => ⟨(r.1 c).1, (r.1 c).2.1⟩, r.2⟩) (Gather.run_main (F := Bits) m ρ (ok_bits m h))

theorem frame_kernel_ideal : Cert.quiescent_KernelIdeal := fun m ρ h =>
  (θ_run Cert.KernelIdeal.defs _ _).mono (fun _ r => ⟨fun c => ⟨(r.1 c).1, (r.1 c).2.1⟩, r.2⟩) (Gather.run_main (F := Ideal) m ρ (ok_ideal m h))

theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_Reference := fun m ρ _ =>
  (θ_run Cert.ReferenceIdeal.defs _ _).mono (fun r h => ⟨fun c => (h c).2, sem_eq_zero_of_no_sems (by decide) r.2⟩)
    (Cert.ReferenceIdeal.Value.run (F := Bits) m ρ)

/-! ## The values -/

theorem bitexact : Cert.bitexact_Kernel_Reference := by
  intro m ρ m' ρ' h hagree
  refine ⟨fun c => Gather.RV (F := Bits) m c,
    (θ_run Cert.KernelIdeal.defs _ _).mono (fun _ r c => ⟨(r.1 c).2.2, (r.1 c).1, (r.1 c).2.1⟩) (Gather.run_main (F := Bits) m ρ (ok_bits m h)),
    (θ_run Cert.ReferenceIdeal.defs _ _).mono (fun _ r c => ⟨(r c).1.trans ?_, (r c).2⟩) (Cert.ReferenceIdeal.Value.run (F := Bits) m' ρ')⟩
  refine Eq.trans ?_ (Gather.RV_ref (F := Bits) m c (ok_bits m h)).symm
  exact congrArg₂ (Gather.refOf (F := Bits)) (hagree c).1 (hagree c).2

theorem algebraic : Cert.algebraic_KernelIdeal_ReferenceIdeal := by
  intro m ρ m' ρ' h hagree
  refine ⟨fun c => Gather.RV (F := Ideal) m c,
    (θ_run Cert.KernelIdeal.defs _ _).mono (fun _ r c => ⟨(r.1 c).2.2, (r.1 c).1, (r.1 c).2.1⟩) (Gather.run_main (F := Ideal) m ρ (ok_ideal m h)),
    (θ_run Cert.ReferenceIdeal.defs _ _).mono (fun _ r c => ⟨(r c).1.trans ?_, (r c).2⟩) (Cert.ReferenceIdeal.Value.run (F := Ideal) m' ρ')⟩
  refine Eq.trans ?_ (Gather.RV_ref (F := Ideal) m c (ok_ideal m h)).symm
  exact congrArg₂ (Gather.refOf (F := Ideal)) (hagree c).1 (hagree c).2

/-! ## The experts' call with the gather after it -/

theorem ok_served_bits (m : (ℓ : Loc Cert.ServedIdeal.nD Cert.ServedIdeal.τ Cert.ServedIdeal.sig) → Buf (Elt Bits) ℓ) (h : Cert.Pre_Served m) :
    Served.PreOK (F := Bits) m := ⟨fun d => (Served.words_lt (F := Bits) _ _ _ _ _ _ _ _ (h d)).1, fun d => (Served.words_lt (F := Bits) _ _ _ _ _ _ _ _ (h d)).2⟩
theorem ok_served_ideal (m : (ℓ : Loc Cert.ServedIdeal.nD Cert.ServedIdeal.τ Cert.ServedIdeal.sig) → Buf (Elt Ideal) ℓ) (h : Cert.Pre_ServedIdeal m) :
    Served.PreOK (F := Ideal) m := ⟨fun d => (Served.words_lt (F := Ideal) _ _ _ _ _ _ _ _ (h d)).1, fun d => (Served.words_lt (F := Ideal) _ _ _ _ _ _ _ _ (h d)).2⟩

/-- The argument arrays after a run that leaves every array the program does not write. -/
theorem served_args {F : FTy → Type} [FloatOps F] (m : (ℓ : Loc Cert.ServedIdeal.nD Cert.ServedIdeal.τ Cert.ServedIdeal.sig) → Buf (Elt F) ℓ)
    (hO : Served.TabOk (Served.V2 m)) (r : PUnit × MemSt Cert.ServedIdeal.nD Cert.ServedIdeal.τ Cert.ServedIdeal.sig (Elt F)) (h : Served.QC m hO r) (c : Dev Cert.ServedIdeal.nD) :
    r.2.mem (Served.mLoc c Cert.ServedIdeal.main_arg0) = m (Served.mLoc c Cert.ServedIdeal.main_arg0)
    ∧ r.2.mem (Served.mLoc c Cert.ServedIdeal.main_arg1) = m (Served.mLoc c Cert.ServedIdeal.main_arg1)
    ∧ r.2.mem (Served.mLoc c Cert.ServedIdeal.main_arg2) = m (Served.mLoc c Cert.ServedIdeal.main_arg2)
    ∧ r.2.mem (Served.mLoc c Cert.ServedIdeal.main_arg3) = m (Served.mLoc c Cert.ServedIdeal.main_arg3)
    ∧ r.2.mem (Served.mLoc c Cert.ServedIdeal.main_arg4) = m (Served.mLoc c Cert.ServedIdeal.main_arg4)
    ∧ r.2.mem (Served.mLoc c Cert.ServedIdeal.main_arg5) = m (Served.mLoc c Cert.ServedIdeal.main_arg5)
    ∧ r.2.mem (Served.mLoc c Cert.ServedIdeal.main_arg6) = m (Served.mLoc c Cert.ServedIdeal.main_arg6)
    ∧ r.2.mem (Served.mLoc c Cert.ServedIdeal.main_arg7) = m (Served.mLoc c Cert.ServedIdeal.main_arg7) :=
  have k := (h.1 c).2
  ⟨k _ rfl (by decide), k _ rfl (by decide), k _ rfl (by decide), k _ rfl (by decide), k _ rfl (by decide), k _ rfl (by decide), k _ rfl (by decide), k _ rfl (by decide)⟩

set_option maxHeartbeats 4000000 in
theorem frame_served : Cert.quiescent_Served := fun m ρ h =>
  Served.same_run _ _ ((θ_run Cert.ServedIdeal.defs _ _).mono (fun r hr => ⟨fun c => served_args m _ r hr c, hr.2⟩) (Served.run_main (F := Bits) m ρ (ok_served_bits m h)))

theorem frame_served_ideal : Cert.quiescent_ServedIdeal := fun m ρ h =>
  (θ_run Cert.ServedIdeal.defs _ _).mono (fun r hr => ⟨fun c => served_args m _ r hr c, hr.2⟩) (Served.run_main (F := Ideal) m ρ (ok_served_ideal m h))

theorem frame_tiles_ideal : Cert.quiescent_TilesIdeal := fun m ρ _ =>
  (θ_run Cert.TilesIdeal.defs _ _).mono (fun r h => ⟨fun c => (h c).2, sem_eq_zero_of_no_sems (by decide) r.2⟩)
    (Cert.TilesIdeal.Value.run (F := Ideal) m ρ)

theorem algebraic_served : Cert.algebraic_ServedIdeal_TilesIdeal := by
  intro m ρ m' ρ' h hagree
  refine ⟨fun c => Served.RV (F := Ideal) m (Served.tabOk m (ok_served_ideal m h)) c,
    (θ_run Cert.ServedIdeal.defs _ _).mono (fun r hr c => ⟨(hr.1 c).1, served_args m _ r hr c⟩) (Served.run_main (F := Ideal) m ρ (ok_served_ideal m h)),
    (θ_run Cert.TilesIdeal.defs _ _).mono (fun _ r c => ⟨(r c).1.trans ?_, (r c).2⟩) (Cert.TilesIdeal.Value.run (F := Ideal) m' ρ')⟩
  obtain ⟨h0, h1, h2, h3, h4, h5, h6, h7⟩ := hagree c
  obtain rfl : c = 0 := Subsingleton.elim _ _
  exact (Served.res_eq m' 0 _ _ _ _ _ _ _ _ h0 h1 h2 h3 h4 h5 h6 h7).trans (Served.RV_ref m (ok_served_ideal m h)).symm

/-! ## The gate's call -/

set_option maxHeartbeats 4000000 in
theorem frame_gated : Cert.quiescent_Gated := fun m ρ _ =>
  Gated.same_run _ _ (Cert.GatedIdeal.Gen.frame (F := Bits) m ρ)

theorem frame_gated_ideal : Cert.quiescent_GatedIdeal := fun m ρ _ => Cert.GatedIdeal.Gen.frame (F := Ideal) m ρ

theorem frame_gates_ideal : Cert.quiescent_GatesIdeal := fun m ρ _ =>
  (θ_run Cert.GatesIdeal.defs _ _).mono (fun r h => ⟨fun c => (h c).2.2.2, sem_eq_zero_of_no_sems (by decide) r.2⟩)
    (Cert.GatesIdeal.Value.run (F := Ideal) m ρ)

theorem algebraic_gated : Cert.algebraic_GatedIdeal_GatesIdeal := by
  intro m ρ m' ρ' _ hagree
  refine ⟨fun c => Cert.GatesIdeal.Value.res_main_v42 m' c, fun c => Cert.GatesIdeal.Value.res_main_v44 m' c, fun c => Cert.GatesIdeal.Value.res_main_v45 m' c,
    ?_, Cert.GatesIdeal.Value.run (F := Ideal) m' ρ'⟩
  refine (θ_run Cert.GatedIdeal.defs _ _).mono (fun r hr c => ?_) (θ_run_and (Gated.run_gated m ρ) (Cert.GatedIdeal.Gen.unchanged (F := Ideal) m ρ))
  obtain rfl : c = 0 := Subsingleton.elim _ _
  obtain ⟨h0, h1, h2, h3, h4, h5, h6, h7, h8, h9⟩ := hagree 0
  obtain ⟨e0, e1, e2⟩ := Gated.results_eq m m' h0 h1 h2 h3 h4 h5 h6 h7 h8 h9
  exact ⟨hr.1.1.trans e0.symm, hr.1.2.1.trans e1.symm, hr.1.2.2.trans e2.symm, hr.2 0⟩

set_option maxHeartbeats 4000000 in
theorem frame_routed : Cert.quiescent_Routed := fun m ρ _ =>
  Routed.same_run _ _ (Cert.RoutedIdeal.Gen.frame (F := Bits) m ρ)

theorem frame_routed_ideal : Cert.quiescent_RoutedIdeal := fun m ρ _ => Cert.RoutedIdeal.Gen.frame (F := Ideal) m ρ

theorem frame_slots_ideal : Cert.quiescent_SlotsIdeal := fun m ρ _ =>
  (θ_run Cert.SlotsIdeal.defs _ _).mono (fun r h => ⟨fun c => (h c).2.2.2, sem_eq_zero_of_no_sems (by decide) r.2⟩)
    (Cert.SlotsIdeal.Value.run (F := Ideal) m ρ)

theorem algebraic_routed : Cert.algebraic_RoutedIdeal_SlotsIdeal := by
  intro m ρ m' ρ' _ hagree
  refine ⟨fun _ => Routed.slotArr m, fun _ => Routed.quarterArr m, fun _ => Routed.tileArr m, ?_, ?_⟩
  · refine (θ_run Cert.RoutedIdeal.defs _ _).mono (fun r hr c => ?_) (θ_run_and (Routed.run_routed m ρ) (Cert.RoutedIdeal.Gen.unchanged (F := Ideal) m ρ))
    obtain rfl : c = 0 := Subsingleton.elim _ _
    exact ⟨hr.1.1, hr.1.2.1, hr.1.2.2, hr.2 0⟩
  · refine (θ_run Cert.SlotsIdeal.defs _ _).mono (fun r hr c => ?_) (Routed.run_slots m m' ρ' (hagree 0))
    obtain rfl : c = 0 := Subsingleton.elim _ _
    exact hr

/-! ## The slot assignment with the dispatch after it -/

theorem sent_args (m : (ℓ : Loc Cert.SentIdeal.nD Cert.SentIdeal.τ Cert.SentIdeal.sig) → Buf (Elt Ideal) ℓ)
    (r : PUnit × MemSt Cert.SentIdeal.nD Cert.SentIdeal.τ Cert.SentIdeal.sig (Elt Ideal)) (h : Sent.QC m r) (c : Dev Cert.SentIdeal.nD) :
    r.2.mem (Sent.mLoc c Cert.SentIdeal.main_arg0) = m (Sent.mLoc c Cert.SentIdeal.main_arg0)
    ∧ r.2.mem (Sent.mLoc c Cert.SentIdeal.main_arg1) = m (Sent.mLoc c Cert.SentIdeal.main_arg1)
    ∧ r.2.mem (Sent.mLoc c Cert.SentIdeal.main_arg2) = m (Sent.mLoc c Cert.SentIdeal.main_arg2) :=
  have k := (h.1 c).2.2
  ⟨k Cert.SentIdeal.main_arg0 rfl (by decide), k Cert.SentIdeal.main_arg1 rfl (by decide), k Cert.SentIdeal.main_arg2 rfl (by decide)⟩

theorem ok_sent (m : (ℓ : Loc Cert.SentIdeal.nD Cert.SentIdeal.τ Cert.SentIdeal.sig) → Buf (Elt Ideal) ℓ) (h : Cert.Pre_SentIdeal m) :
    Sent.PreOK (F := Ideal) m := Sent.ready m fun d r c => Sent.experts_four _ _ _ (h d) r c

theorem frame_sent_ideal : Cert.quiescent_SentIdeal := fun m ρ h =>
  (θ_run Cert.SentIdeal.defs _ _).mono (fun r hr => ⟨fun c => sent_args m r hr c, hr.2⟩) (Sent.run_main (F := Ideal) m ρ (ok_sent m h))

theorem claim : Cert.Claim := ⟨Cert.Kernel.Gen.facts, Cert.KernelIdeal.Gen.facts, Cert.ReferenceIdeal.Gen.facts, Cert.Reference.Gen.facts,
  Cert.Served.Gen.facts, Cert.ServedIdeal.Gen.facts, Cert.TilesIdeal.Gen.facts, Cert.Gated.Gen.facts, Cert.GatedIdeal.Gen.facts, Cert.GatesIdeal.Gen.facts,
  Cert.Routed.Gen.facts, Cert.RoutedIdeal.Gen.facts, Cert.SlotsIdeal.Gen.facts, Cert.SentIdeal.Gen.facts,
  Cert.Pre_rows_named.Gen.facts, Cert.Pre_slots_named.Gen.facts, Sent.expertsFacts,
  frame_kernel, frame_kernel_ideal, frame_reference_ideal, frame_reference, frame_served, frame_served_ideal, frame_tiles_ideal,
  frame_gated, frame_gated_ideal, frame_gates_ideal, frame_routed, frame_routed_ideal, frame_slots_ideal, frame_sent_ideal, trivial, bitexact, algebraic,
  trivial, algebraic_served, trivial, algebraic_gated, trivial, algebraic_routed⟩

end Cert.Proof

end
